-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_gate_finite [hPre_gate_finite : Cert.Pre_gate_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_gate_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_gate_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_gate_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_gate_finite [hPre_gate_finite : Cert.Pre_gate_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_gate_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_gate_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_gate_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_gate_finite [hKernel2Ideal : Cert.Kernel2Ideal.Facts] [hPre_gate_finite : Cert.Pre_gate_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_gate_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_gate_finite [hReference2Ideal : Cert.Reference2Ideal.Facts] [hPre_gate_finite : Cert.Pre_gate_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_gate_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_gate_finite [hKernel2Ideal : Cert.Kernel2Ideal.Facts] [hReference2Ideal : Cert.Reference2Ideal.Facts] [hPre_gate_finite : Cert.Pre_gate_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_gate_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v94_0)) (v1 : (c : Dev Cert.Kernel2Ideal.nD) → Buf (Elt Ideal) ((c.tc : Thread Cert.Kernel2Ideal.nD Cert.Kernel2Ideal.τ).loc Cert.Kernel2Ideal.main_v94_1)) (v2 : (c : Dev Cert.Kernel2Ideal.nD) → Buf (Elt Ideal) ((c.tc : Thread Cert.Kernel2Ideal.nD Cert.Kernel2Ideal.τ).loc Cert.Kernel2Ideal.main_v94_2)) (v3 : (c : Dev Cert.Kernel2Ideal.nD) → Buf (Elt Ideal) ((c.tc : Thread Cert.Kernel2Ideal.nD Cert.Kernel2Ideal.τ).loc Cert.Kernel2Ideal.main_v94_3)) (v4 : (c : Dev Cert.Kernel2Ideal.nD) → Buf (Elt Ideal) ((c.tc : Thread Cert.Kernel2Ideal.nD Cert.Kernel2Ideal.τ).loc Cert.Kernel2Ideal.main_v94_4)) (v5 : (c : Dev Cert.Kernel2Ideal.nD) → Buf (Elt Ideal) ((c.tc : Thread Cert.Kernel2Ideal.nD Cert.Kernel2Ideal.τ).loc Cert.Kernel2Ideal.main_v94_5)) (v6 : (c : Dev Cert.Kernel2Ideal.nD) → Buf (Elt Ideal) ((c.tc : Thread Cert.Kernel2Ideal.nD Cert.Kernel2Ideal.τ).loc Cert.Kernel2Ideal.main_v94_6)) (v7 : (c : Dev Cert.Kernel2Ideal.nD) → Buf (Elt Ideal) ((c.tc : Thread Cert.Kernel2Ideal.nD Cert.Kernel2Ideal.τ).loc Cert.Kernel2Ideal.main_v94_7)) (v8 : (c : Dev Cert.Kernel2Ideal.nD) → Buf (Elt Ideal) ((c.tc : Thread Cert.Kernel2Ideal.nD Cert.Kernel2Ideal.τ).loc Cert.Kernel2Ideal.main_v94_8)) (v9 : (c : Dev Cert.Kernel2Ideal.nD) → Buf (Elt Ideal) ((c.tc : Thread Cert.Kernel2Ideal.nD Cert.Kernel2Ideal.τ).loc Cert.Kernel2Ideal.main_v94_9)) (v10 : (c : Dev Cert.Kernel2Ideal.nD) → Buf (Elt Ideal) ((c.tc : Thread Cert.Kernel2Ideal.nD Cert.Kernel2Ideal.τ).loc Cert.Kernel2Ideal.main_v94_10)) (v11 : (c : Dev Cert.Kernel2Ideal.nD) → Buf (Elt Ideal) ((c.tc : Thread Cert.Kernel2Ideal.nD Cert.Kernel2Ideal.τ).loc Cert.Kernel2Ideal.main_v94_11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v94_0) = v0 c
          ∧ r.2.mem ((c.tc : Thread Cert.Kernel2Ideal.nD Cert.Kernel2Ideal.τ).loc Cert.Kernel2Ideal.main_v94_1) = v1 c
          ∧ r.2.mem ((c.tc : Thread Cert.Kernel2Ideal.nD Cert.Kernel2Ideal.τ).loc Cert.Kernel2Ideal.main_v94_2) = v2 c
          ∧ r.2.mem ((c.tc : Thread Cert.Kernel2Ideal.nD Cert.Kernel2Ideal.τ).loc Cert.Kernel2Ideal.main_v94_3) = v3 c
          ∧ r.2.mem ((c.tc : Thread Cert.Kernel2Ideal.nD Cert.Kernel2Ideal.τ).loc Cert.Kernel2Ideal.main_v94_4) = v4 c
          ∧ r.2.mem ((c.tc : Thread Cert.Kernel2Ideal.nD Cert.Kernel2Ideal.τ).loc Cert.Kernel2Ideal.main_v94_5) = v5 c
          ∧ r.2.mem ((c.tc : Thread Cert.Kernel2Ideal.nD Cert.Kernel2Ideal.τ).loc Cert.Kernel2Ideal.main_v94_6) = v6 c
          ∧ r.2.mem ((c.tc : Thread Cert.Kernel2Ideal.nD Cert.Kernel2Ideal.τ).loc Cert.Kernel2Ideal.main_v94_7) = v7 c
          ∧ r.2.mem ((c.tc : Thread Cert.Kernel2Ideal.nD Cert.Kernel2Ideal.τ).loc Cert.Kernel2Ideal.main_v94_8) = v8 c
          ∧ r.2.mem ((c.tc : Thread Cert.Kernel2Ideal.nD Cert.Kernel2Ideal.τ).loc Cert.Kernel2Ideal.main_v94_9) = v9 c
          ∧ r.2.mem ((c.tc : Thread Cert.Kernel2Ideal.nD Cert.Kernel2Ideal.τ).loc Cert.Kernel2Ideal.main_v94_10) = v10 c
          ∧ r.2.mem ((c.tc : Thread Cert.Kernel2Ideal.nD Cert.Kernel2Ideal.τ).loc Cert.Kernel2Ideal.main_v94_11) = v11 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v139) = v0 c
          ∧ r.2.mem ((c.tc : Thread Cert.Reference2Ideal.nD Cert.Reference2Ideal.τ).loc Cert.Reference2Ideal.main_v140) = v1 c
          ∧ r.2.mem ((c.tc : Thread Cert.Reference2Ideal.nD Cert.Reference2Ideal.τ).loc Cert.Reference2Ideal.main_v142) = v2 c
          ∧ r.2.mem ((c.tc : Thread Cert.Reference2Ideal.nD Cert.Reference2Ideal.τ).loc Cert.Reference2Ideal.main_v143) = v3 c
          ∧ r.2.mem ((c.tc : Thread Cert.Reference2Ideal.nD Cert.Reference2Ideal.τ).loc Cert.Reference2Ideal.main_v144) = v4 c
          ∧ r.2.mem ((c.tc : Thread Cert.Reference2Ideal.nD Cert.Reference2Ideal.τ).loc Cert.Reference2Ideal.main_v148) = v5 c
          ∧ r.2.mem ((c.tc : Thread Cert.Reference2Ideal.nD Cert.Reference2Ideal.τ).loc Cert.Reference2Ideal.main_v150) = v6 c
          ∧ r.2.mem ((c.tc : Thread Cert.Reference2Ideal.nD Cert.Reference2Ideal.τ).loc Cert.Reference2Ideal.main_v153) = v7 c
          ∧ r.2.mem ((c.tc : Thread Cert.Reference2Ideal.nD Cert.Reference2Ideal.τ).loc Cert.Reference2Ideal.main_v155) = v8 c
          ∧ r.2.mem ((c.tc : Thread Cert.Reference2Ideal.nD Cert.Reference2Ideal.τ).loc Cert.Reference2Ideal.main_v158) = v9 c
          ∧ r.2.mem ((c.tc : Thread Cert.Reference2Ideal.nD Cert.Reference2Ideal.τ).loc Cert.Reference2Ideal.main_v160) = v10 c
          ∧ r.2.mem ((c.tc : Thread Cert.Reference2Ideal.nD Cert.Reference2Ideal.τ).loc Cert.Reference2Ideal.main_v161) = v11 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hKernel6 : Cert.Kernel6.Facts) (hPre_gate_finite : Cert.Pre_gate_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_gate_finite (hKernel2Ideal := hKernel2Ideal) (hPre_gate_finite := hPre_gate_finite)
    ∧ quiescent_Reference2Ideal (hReference2Ideal := hReference2Ideal)
    ∧ quiescent_Reference2Ideal_pre_gate_finite (hReference2Ideal := hReference2Ideal) (hPre_gate_finite := hPre_gate_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel6 (hKernel6 := hKernel6)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_gate_finite (hKernel2Ideal := hKernel2Ideal) (hReference2Ideal := hReference2Ideal) (hPre_gate_finite := hPre_gate_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
-- ==== Pre_gate_finite.lean ====
abbrev S8x2176x1024 : Shape := ⟨3, ![8, 2176, 1024]⟩
abbrev S1024x3416 : Shape := ⟨2, ![1024, 3416]⟩
abbrev S16x256 : Shape := ⟨2, ![16, 256]⟩
abbrev S256 : Shape := ⟨1, ![256]⟩
abbrev S64 : Shape := ⟨1, ![64]⟩
abbrev S_ : Shape := ⟨0, ![]⟩
abbrev S1024x16 : Shape := ⟨2, ![1024, 16]⟩

class Facts : Prop where
  bcast_S_S8x2176x1024 : S_.BroadcastsInDim S8x2176x1024 (![] : Fin 0 → Fin S8x2176x1024.rank)
  slices_S1024x3416_S1024x16_0_1024 : S1024x3416.Slices ![0, 1024] S1024x16
  bcast_S_S1024x16 : S_.BroadcastsInDim S1024x16 (![] : Fin 0 → Fin S1024x16.rank)
  bcast_S_S16x256 : S_.BroadcastsInDim S16x256 (![] : Fin 0 → Fin S16x256.rank)

variable [Facts]

def fn {F : FTy → Type} [FloatOps F] (main_arg0 : FVec F S8x2176x1024 .f32) (main_arg1 : FVec F S1024x3416 .f32) (main_arg2 : FVec F S16x256 .f32) (main_arg3 : FVec F S256 .f32) (main_arg4 : FVec F S64 .f32) (main_arg5 : FVec F S64 .f32) : IVec S8x2176x1024 1 × IVec S1024x16 1 × IVec S16x256 1 :=
  let main_v0 : FVec F S8x2176x1024 .f32 := Host.absf main_arg0
  let main_cst : FVec F S_ .f32 := constant S_ .f32 0x7F800000#32
  let main_v1 : FVec F S8x2176x1024 .f32 := broadcastInDim S8x2176x1024 ![] bcast_S_S8x2176x1024 main_cst
  let main_v2 : IVec S8x2176x1024 1 := cmpf .olt main_v0 main_v1
  let main_v3 : FVec F S1024x16 .f32 := (extractStridedSlice S1024x16 ![0, 1024] · slices_S1024x3416_S1024x16_0_1024) main_arg1
  let main_v4 : FVec F S1024x16 .f32 := Host.absf main_v3
  let main_cst_0 : FVec F S_ .f32 := constant S_ .f32 0x7F800000#32
  let main_v5 : FVec F S1024x16 .f32 := broadcastInDim S1024x16 ![] bcast_S_S1024x16 main_cst_0
  let main_v6 : IVec S1024x16 1 := cmpf .olt main_v4 main_v5
  let main_v7 : FVec F S16x256 .f32 := Host.absf main_arg2
  let main_cst_1 : FVec F S_ .f32 := constant S_ .f32 0x7F800000#32
  let main_v8 : FVec F S16x256 .f32 := broadcastInDim S16x256 ![] bcast_S_S16x256 main_cst_1
  let main_v9 : IVec S16x256 1 := cmpf .olt main_v7 main_v8
  (main_v2, main_v6, main_v9)
-- ==== Kernel.lean ====
abbrev S8x2176x512 : Shape := ⟨3, ![8, 2176, 512]⟩
abbrev S8x2176x1024 : Shape := ⟨3, ![8, 2176, 1024]⟩
abbrev S1024x1024 : Shape := ⟨2, ![1024, 1024]⟩
abbrev S1024 : Shape := ⟨1, ![1024]⟩
abbrev S1x1024 : Shape := ⟨2, ![1, 1024]⟩
abbrev S8x2048x1024 : Shape := ⟨3, ![8, 2048, 1024]⟩
abbrev S1x1024x512 : Shape := ⟨3, ![1, 1024, 512]⟩
abbrev S1x1024x1024 : Shape := ⟨3, ![1, 1024, 1024]⟩
abbrev S1x256x512 : Shape := ⟨3, ![1, 256, 512]⟩
abbrev S256x512 : Shape := ⟨2, ![256, 512]⟩
abbrev S512x1024 : Shape := ⟨2, ![512, 1024]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩

abbrev nBuf : Space → Nat
  | .hbm => 10
  | .vmem => 11
  | .smem => 0
  | _ => 0

abbrev bufTy : (tb : Table) → Fin (tcTables nBuf tb) → BufTy
  | .hbm, ⟨0, _⟩ => ⟨S8x2176x512, .bf16⟩
  | .hbm, ⟨1, _⟩ => ⟨S8x2176x512, .bf16⟩
  | .hbm, ⟨2, _⟩ => ⟨S8x2176x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S8x2048x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024x1024, .f32⟩
  | .local _ .vmem, ⟨10, _⟩ => ⟨S1x1024x1024, .f32⟩
  | _, _ => ⟨S8x2176x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let c128_i32 : BitVec 32 := 128#32
  let arg1 : BitVec 32 := BitVec.ofNat 32 (i 1).val
  let c1024_i32 : BitVec 32 := 1024#32
  let v0 : BitVec 32 := Scalar.muli arg1 c1024_i32
  let v1 : BitVec 32 := Scalar.addi c128_i32 v0
  v1
def k0_mult2 (i : grid0.Coords) : BitVec 32 :=
  let c128_i32 : BitVec 32 := 128#32
  let arg1 : BitVec 32 := BitVec.ofNat 32 (i 1).val
  let c1024_i32 : BitVec 32 := 1024#32
  let v0 : BitVec 32 := Scalar.muli arg1 c1024_i32
  let v1 : BitVec 32 := Scalar.addi c128_i32 v0
  v1
def k0_mult3 (i : grid0.Coords) : BitVec 32 :=
  let c128_i32 : BitVec 32 := 128#32
  let arg1 : BitVec 32 := BitVec.ofNat 32 (i 1).val
  let c1024_i32 : BitVec 32 := 1024#32
  let v0 : BitVec 32 := Scalar.muli arg1 c1024_i32
  let v1 : BitVec 32 := Scalar.addi c128_i32 v0
  v1
def cc0_transform_0 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c128_i32 : BitVec 32 := 128#32
  let v1 : BitVec 32 := Scalar.addi c128_i32 v0
  let v2 : BitVec 32 := v1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c128_i32 : BitVec 32 := 128#32
  let v1 : BitVec 32 := Scalar.addi c128_i32 v0
  let v2 : BitVec 32 := v1
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c128_i32 : BitVec 32 := 128#32
  let v1 : BitVec 32 := Scalar.addi c128_i32 v0
  let v2 : BitVec 32 := v1
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x2176x512 : Shape := ⟨3, ![8, 2176, 512]⟩
abbrev S8x2176x1024 : Shape := ⟨3, ![8, 2176, 1024]⟩
abbrev S1024x1024 : Shape := ⟨2, ![1024, 1024]⟩
abbrev S1024 : Shape := ⟨1, ![1024]⟩
abbrev S8x2064x512 : Shape := ⟨3, ![8, 2064, 512]⟩
abbrev S8x2064x1024 : Shape := ⟨3, ![8, 2064, 1024]⟩
abbrev S_ : Shape := ⟨0, ![]⟩
abbrev S8x2064 : Shape := ⟨2, ![8, 2064]⟩
abbrev S8x2064x1 : Shape := ⟨3, ![8, 2064, 1]⟩
abbrev S1x1x1024 : Shape := ⟨3, ![1, 1, 1024]⟩
abbrev S8x2048x1024 : Shape := ⟨3, ![8, 2048, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x2176x512, .bf16⟩
  | .hbm, ⟨1, _⟩ => ⟨S8x2176x512, .bf16⟩
  | .hbm, ⟨2, _⟩ => ⟨S8x2176x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S8x2064x512, .bf16⟩
  | .hbm, ⟨7, _⟩ => ⟨S8x2064x512, .bf16⟩
  | .hbm, ⟨8, _⟩ => ⟨S8x2064x1024, .f32⟩
  | .hbm, ⟨9, _⟩ => ⟨S8x2064x1024, .bf16⟩
  | .hbm, ⟨10, _⟩ => ⟨S8x2064x1024, .f32⟩
  | .hbm, ⟨11, _⟩ => ⟨S8x2064x1024, .f32⟩
  | .hbm, ⟨12, _⟩ => ⟨S_, .f32⟩
  | .hbm, ⟨13, _⟩ => ⟨S8x2064x1024, .f32⟩
  | .hbm, ⟨14, _⟩ => ⟨S8x2064x1024, .f32⟩
  | .hbm, ⟨15, _⟩ => ⟨S8x2064x1024, .f32⟩
  | .hbm, ⟨16, _⟩ => ⟨S_, .f32⟩
  | .hbm, ⟨17, _⟩ => ⟨S8x2064, .f32⟩
  | .hbm, ⟨18, _⟩ => ⟨S8x2064x1, .f32⟩
  | .hbm, ⟨19, _⟩ => ⟨S_, .f32⟩
  | .hbm, ⟨20, _⟩ => ⟨S8x2064x1, .f32⟩
  | .hbm, ⟨21, _⟩ => ⟨S8x2064x1, .f32⟩
  | .hbm, ⟨22, _⟩ => ⟨S8x2064x1024, .f32⟩
  | .hbm, ⟨23, _⟩ => ⟨S8x2064x1024, .f32⟩
  | .hbm, ⟨24, _⟩ => ⟨S8x2064x1024, .f32⟩
  | .hbm, ⟨25, _⟩ => ⟨S_, .f32⟩
  | .hbm, ⟨26, _⟩ => ⟨S8x2064, .f32⟩
  | .hbm, ⟨27, _⟩ => ⟨S8x2064x1, .f32⟩
  | .hbm, ⟨28, _⟩ => ⟨S_, .f32⟩
  | .hbm, ⟨29, _⟩ => ⟨S8x2064x1, .f32⟩
  | .hbm, ⟨30, _⟩ => ⟨S8x2064x1, .f32⟩
  | .hbm, ⟨31, _⟩ => ⟨S8x2064x1024, .f32⟩
  | .hbm, ⟨32, _⟩ => ⟨S8x2064x1024, .f32⟩
  | .hbm, ⟨33, _⟩ => ⟨S_, .f32⟩
  | .hbm, ⟨34, _⟩ => ⟨S8x2064x1, .f32⟩
  | .hbm, ⟨35, _⟩ => ⟨S8x2064x1, .f32⟩
  | .hbm, ⟨36, _⟩ => ⟨S8x2064x1, .f32⟩
  | .hbm, ⟨37, _⟩ => ⟨S8x2064x1024, .f32⟩
  | .hbm, ⟨38, _⟩ => ⟨S8x2064x1024, .f32⟩
  | .hbm, ⟨39, _⟩ => ⟨S1x1x1024, .f32⟩
  | .hbm, ⟨40, _⟩ => ⟨S8x2064x1024, .f32⟩
  | .hbm, ⟨41, _⟩ => ⟨S8x2064x1024, .f32⟩
  | .hbm, ⟨42, _⟩ => ⟨S1x1x1024, .f32⟩
  | .hbm, ⟨43, _⟩ => ⟨S8x2064x1024, .f32⟩
  | .hbm, ⟨44, _⟩ => ⟨S8x2064x1024, .f32⟩
  | .hbm, ⟨45, _⟩ => ⟨S8x2048x1024, .f32⟩
  | _, _ => ⟨S8x2176x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Kernel2.lean ====
abbrev S8x2176x1024 : Shape := ⟨3, ![8, 2176, 1024]⟩
abbrev S1024x3416 : Shape := ⟨2, ![1024, 3416]⟩
abbrev S16x256 : Shape := ⟨2, ![16, 256]⟩
abbrev S256 : Shape := ⟨1, ![256]⟩
abbrev S64 : Shape := ⟨1, ![64]⟩
abbrev S8 : Shape := ⟨1, ![8]⟩
abbrev S_ : Shape := ⟨0, ![]⟩
abbrev S2176 : Shape := ⟨1, ![2176]⟩
abbrev S2176x1 : Shape := ⟨2, ![2176, 1]⟩
abbrev S1x8 : Shape := ⟨2, ![1, 8]⟩
abbrev S2176x8 : Shape := ⟨2, ![2176, 8]⟩
abbrev S2176x48 : Shape := ⟨2, ![2176, 48]⟩
abbrev S2176x64 : Shape := ⟨2, ![2176, 64]⟩
abbrev S2176x128 : Shape := ⟨2, ![2176, 128]⟩
abbrev S1x2176x1x128 : Shape := ⟨4, ![1, 2176, 1, 128]⟩
abbrev S4x2176x1x128 : Shape := ⟨4, ![4, 2176, 1, 128]⟩
abbrev S8704x128 : Shape := ⟨2, ![8704, 128]⟩
abbrev S1024x256 : Shape := ⟨2, ![1024, 256]⟩
abbrev S1024x512 : Shape := ⟨2, ![1024, 512]⟩
abbrev S1024x16 : Shape := ⟨2, ![1024, 16]⟩
abbrev S1024x128 : Shape := ⟨2, ![1024, 128]⟩
abbrev S1024x64 : Shape := ⟨2, ![1024, 64]⟩
abbrev S1024x8 : Shape := ⟨2, ![1024, 8]⟩
abbrev S1024x40 : Shape := ⟨2, ![1024, 40]⟩
abbrev S1024x2x4x64 : Shape := ⟨4, ![1024, 2, 4, 64]⟩
abbrev S1024x4x2x64 : Shape := ⟨4, ![1024, 4, 2, 64]⟩
abbrev S1024x3456 : Shape := ⟨2, ![1024, 3456]⟩
abbrev S128x256 : Shape := ⟨2, ![128, 256]⟩
abbrev S1 : Shape := ⟨1, ![1]⟩
abbrev S1x128 : Shape := ⟨2, ![1, 128]⟩
abbrev S2 : Shape := ⟨1, ![2]⟩
abbrev S17408x1024 : Shape := ⟨2, ![17408, 1024]⟩
abbrev S1x256 : Shape := ⟨2, ![1, 256]⟩
abbrev S17408x256 : Shape := ⟨2, ![17408, 256]⟩
abbrev S17408x512 : Shape := ⟨2, ![17408, 512]⟩
abbrev S17408x128 : Shape := ⟨2, ![17408, 128]⟩
abbrev S136x128x128 : Shape := ⟨3, ![136, 128, 128]⟩
abbrev S136x8x128 : Shape := ⟨3, ![136, 8, 128]⟩
abbrev S512x1024 : Shape := ⟨2, ![512, 1024]⟩
abbrev S512x128 : Shape := ⟨2, ![512, 128]⟩
abbrev S512x256 : Shape := ⟨2, ![512, 256]⟩
abbrev S512x512 : Shape := ⟨2, ![512, 512]⟩
abbrev S4x128x128 : Shape := ⟨3, ![4, 128, 128]⟩
abbrev S4x8x128 : Shape := ⟨3, ![4, 8, 128]⟩
abbrev S128x128 : Shape := ⟨2, ![128, 128]⟩
abbrev S1x128x128 : Shape := ⟨3, ![1, 128, 128]⟩
abbrev S8x128 : Shape := ⟨2, ![8, 128]⟩
abbrev S1x8x128 : Shape := ⟨3, ![1, 8, 128]⟩
abbrev S512 : Shape := ⟨1, ![512]⟩
abbrev S512x1 : Shape := ⟨2, ![512, 1]⟩

abbrev nBuf : Space → Nat
  | .hbm => 132
  | .vmem => 38
  | .smem => 0
  | _ => 0

abbrev hbmTy0_0 (i : Nat) : BufTy := match i % 128 with
  | 0 => ⟨S8x2176x1024, .f32⟩
  | 1 => ⟨S1024x3416, .f32⟩
  | 2 => ⟨S16x256, .f32⟩
  | 3 => ⟨S256, .f32⟩
  | 4 => ⟨S64, .f32⟩
  | 5 => ⟨S64, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S2176, .f32⟩
  | 21 => ⟨S_, .f32⟩
  | 22 => ⟨S2176, .f32⟩
  | 23 => ⟨S2176, .f32⟩
  | 24 => ⟨S2176x1, .f32⟩
  | 25 => ⟨S1x8, .f32⟩
  | 26 => ⟨S2176x8, .f32⟩
  | 27 => ⟨S2176x8, .f32⟩
  | 28 => ⟨S2176x8, .f32⟩
  | 29 => ⟨S2176x8, .f32⟩
  | 30 => ⟨S2176x8, .f32⟩
  | 31 => ⟨S_, .f32⟩
  | 32 => ⟨S2176x48, .f32⟩
  | 33 => ⟨S_, .f32⟩
  | 34 => ⟨S2176x48, .f32⟩
  | 35 => ⟨S_, .f32⟩
  | 36 => ⟨S2176x8, .f32⟩
  | 37 => ⟨S2176x64, .f32⟩
  | 38 => ⟨S2176x64, .f32⟩
  | 39 => ⟨S2176x8, .f32⟩
  | 40 => ⟨S2176x64, .f32⟩
  | 41 => ⟨S2176x128, .f32⟩
  | 42 => ⟨S1x2176x1x128, .f32⟩
  | 43 => ⟨S4x2176x1x128, .f32⟩
  | 44 => ⟨S8704x128, .f32⟩
  | 45 => ⟨S2176x128, .f32⟩
  | 46 => ⟨S1x2176x1x128, .f32⟩
  | 47 => ⟨S4x2176x1x128, .f32⟩
  | 48 => ⟨S8704x128, .f32⟩
  | 49 => ⟨S2176x128, .f32⟩
  | 50 => ⟨S1x2176x1x128, .f32⟩
  | 51 => ⟨S4x2176x1x128, .f32⟩
  | 52 => ⟨S8704x128, .f32⟩
  | 53 => ⟨S1024x256, .f32⟩
  | 54 => ⟨S1024x256, .f32⟩
  | 55 => ⟨S1024x512, .f32⟩
  | 56 => ⟨S1024x16, .f32⟩
  | 57 => ⟨S1024x512, .f32⟩
  | 58 => ⟨S1024x512, .f32⟩
  | 59 => ⟨S1024x128, .f32⟩
  | 60 => ⟨S1024x128, .f32⟩
  | 61 => ⟨S1024x512, .f32⟩
  | 62 => ⟨S1024x64, .f32⟩
  | 63 => ⟨S1024x8, .f32⟩
  | 64 => ⟨S1024x512, .f32⟩
  | 65 => ⟨S_, .f32⟩
  | 66 => ⟨S1024x40, .f32⟩
  | 67 => ⟨S_, .f32⟩
  | 68 => ⟨S1024x256, .f32⟩
  | 69 => ⟨S1024x256, .f32⟩
  | 70 => ⟨S1024x2x4x64, .f32⟩
  | 71 => ⟨S1024x4x2x64, .f32⟩
  | 72 => ⟨S1024x512, .f32⟩
  | 73 => ⟨S_, .f32⟩
  | 74 => ⟨S1024x512, .f32⟩
  | 75 => ⟨S1024x512, .f32⟩
  | 76 => ⟨S_, .f32⟩
  | 77 => ⟨S1024x512, .f32⟩
  | 78 => ⟨S1024x512, .f32⟩
  | 79 => ⟨S1024x256, .bf16⟩
  | 80 => ⟨S1024x256, .bf16⟩
  | 81 => ⟨S1024x512, .bf16⟩
  | 82 => ⟨S1024x512, .bf16⟩
  | 83 => ⟨S1024x512, .bf16⟩
  | 84 => ⟨S1024x128, .bf16⟩
  | 85 => ⟨S1024x128, .bf16⟩
  | 86 => ⟨S1024x512, .bf16⟩
  | 87 => ⟨S1024x512, .bf16⟩
  | 88 => ⟨S1024x64, .bf16⟩
  | 89 => ⟨S1024x16, .bf16⟩
  | 90 => ⟨S1024x8, .bf16⟩
  | 91 => ⟨S1024x40, .bf16⟩
  | 92 => ⟨S1024x3456, .bf16⟩
  | 93 => ⟨S_, .f32⟩
  | 94 => ⟨S128x256, .f32⟩
  | 95 => ⟨S_, .i32⟩
  | 96 => ⟨S1, .i32⟩
  | 97 => ⟨S128x256, .f32⟩
  | 98 => ⟨S128x256, .bf16⟩
  | 99 => ⟨S128x256, .f32⟩
  | 100 => ⟨S128x256, .f32⟩
  | 101 => ⟨S128x256, .bf16⟩
  | 102 => ⟨S_, .f32⟩
  | 103 => ⟨S1x128, .f32⟩
  | 104 => ⟨S_, .i32⟩
  | 105 => ⟨S1, .i32⟩
  | 106 => ⟨S_, .i32⟩
  | 107 => ⟨S1, .i32⟩
  | 108 => ⟨S2, .i32⟩
  | 109 => ⟨S1x128, .f32⟩
  | 110 => ⟨S_, .f32⟩
  | 111 => ⟨S1x128, .f32⟩
  | 112 => ⟨S_, .i32⟩
  | 113 => ⟨S1, .i32⟩
  | 114 => ⟨S_, .i32⟩
  | 115 => ⟨S1, .i32⟩
  | 116 => ⟨S2, .i32⟩
  | 117 => ⟨S1x128, .f32⟩
  | 118 => ⟨S17408x1024, .f32⟩
  | 119 => ⟨S1x256, .f32⟩
  | 120 => ⟨S17408x256, .f32⟩
  | 121 => ⟨S17408x256, .f32⟩
  | 122 => ⟨S17408x512, .bf16⟩
  | 123 => ⟨S17408x256, .f32⟩
  | 124 => ⟨S17408x512, .f32⟩
  | 125 => ⟨S17408x512, .bf16⟩
  | 126 => ⟨S17408x128, .bf16⟩
  | 127 => ⟨S136x128x128, .bf16⟩
  | _ => ⟨S8x2176x1024, .f32⟩

abbrev hbmTy0_1 (i : Nat) : BufTy := match i % 128 with
  | 0 => ⟨S17408x512, .bf16⟩
  | 1 => ⟨S17408x128, .bf16⟩
  | 2 => ⟨S136x8x128, .f32⟩
  | 3 => ⟨S17408x512, .f32⟩
  | _ => ⟨S8x2176x1024, .f32⟩

abbrev hbmTy (i : Nat) : BufTy := match i / 128 with
  | 0 => hbmTy0_0 i
  | 1 => hbmTy0_1 i
  | _ => ⟨S8x2176x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1024x3456, .bf16⟩
  | .local _ .vmem, ⟨3, _⟩ => ⟨S128x256, .bf16⟩
  | .local _ .vmem, ⟨4, _⟩ => ⟨S128x256, .bf16⟩
  | .local _ .vmem, ⟨5, _⟩ => ⟨S1x256, .f32⟩
  | .local _ .vmem, ⟨6, _⟩ => ⟨S1x128, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x512, .bf16⟩
  | .local _ .vmem, ⟨19, _⟩ => ⟨S512x512, .bf16⟩
  | .local _ .vmem, ⟨20, _⟩ => ⟨S512x256, .f32⟩
  | .local _ .vmem, ⟨21, _⟩ => ⟨S512x256, .f32⟩
  | .local _ .vmem, ⟨22, _⟩ => ⟨S512x512, .f32⟩
  | .local _ .vmem, ⟨23, _⟩ => ⟨S512x512, .f32⟩
  | .local _ .vmem, ⟨24, _⟩ => ⟨S512x512, .bf16⟩
  | .local _ .vmem, ⟨25, _⟩ => ⟨S512x512, .bf16⟩
  | .local _ .vmem, ⟨26, _⟩ => ⟨S512x128, .bf16⟩
  | .local _ .vmem, ⟨27, _⟩ => ⟨S512x128, .bf16⟩
  | .local _ .vmem, ⟨28, _⟩ => ⟨S4x128x128, .bf16⟩
  | .local _ .vmem, ⟨29, _⟩ => ⟨S4x128x128, .bf16⟩
  | .local _ .vmem, ⟨30, _⟩ => ⟨S512x512, .bf16⟩
  | .local _ .vmem, ⟨31, _⟩ => ⟨S512x512, .bf16⟩
  | .local _ .vmem, ⟨32, _⟩ => ⟨S512x128, .bf16⟩
  | .local _ .vmem, ⟨33, _⟩ => ⟨S512x128, .bf16⟩
  | .local _ .vmem, ⟨34, _⟩ => ⟨S4x8x128, .f32⟩
  | .local _ .vmem, ⟨35, _⟩ => ⟨S4x8x128, .f32⟩
  | .local _ .vmem, ⟨36, _⟩ => ⟨S512x512, .f32⟩
  | .local _ .vmem, ⟨37, _⟩ => ⟨S512x512, .f32⟩
  | _, _ => ⟨S8x2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_7 : Ref sig .tc := ⟨.hbm, 65, rfl⟩
abbrev main_v51 : Ref sig .tc := ⟨.hbm, 66, rfl⟩
abbrev main_cst_8 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_9 : Ref sig .tc := ⟨.hbm, 73, rfl⟩
abbrev main_v57 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_11 : Ref sig .tc := ⟨.hbm, 93, rfl⟩
abbrev main_v75 : Ref sig .tc := ⟨.hbm, 94, rfl⟩
abbrev main_c : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_12 : Ref sig .tc := ⟨.hbm, 102, rfl⟩
abbrev main_v82 : Ref sig .tc := ⟨.hbm, 103, rfl⟩
abbrev main_c_13 : Ref sig .tc := ⟨.hbm, 104, rfl⟩
abbrev main_v83 : Ref sig .tc := ⟨.hbm, 105, rfl⟩
abbrev main_c_14 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_15 : Ref sig .tc := ⟨.hbm, 110, rfl⟩
abbrev main_v87 : Ref sig .tc := ⟨.hbm, 111, rfl⟩
abbrev main_c_16 : Ref sig .tc := ⟨.hbm, 112, rfl⟩
abbrev main_v88 : Ref sig .tc := ⟨.hbm, 113, rfl⟩
abbrev main_c_17 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94_0 : Ref sig .tc := ⟨.hbm, 120, rfl⟩
abbrev main_v94_1 : Ref sig .tc := ⟨.hbm, 121, rfl⟩
abbrev main_v94_2 : Ref sig .tc := ⟨.hbm, 122, rfl⟩
abbrev main_v94_3 : Ref sig .tc := ⟨.hbm, 123, rfl⟩
abbrev main_v94_4 : Ref sig .tc := ⟨.hbm, 124, rfl⟩
abbrev main_v94_5 : Ref sig .tc := ⟨.hbm, 125, rfl⟩
abbrev main_v94_6 : Ref sig .tc := ⟨.hbm, 126, rfl⟩
abbrev main_v94_7 : Ref sig .tc := ⟨.hbm, 127, rfl⟩
abbrev main_v94_8 : Ref sig .tc := ⟨.hbm, 128, rfl⟩
abbrev main_v94_9 : Ref sig .tc := ⟨.hbm, 129, rfl⟩
abbrev main_v94_10 : Ref sig .tc := ⟨.hbm, 130, rfl⟩
abbrev main_v94_11 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3456 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x128x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S4x8x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference2Ideal.lean ====
abbrev S8x2176x1024 : Shape := ⟨3, ![8, 2176, 1024]⟩
abbrev S1024x3416 : Shape := ⟨2, ![1024, 3416]⟩
abbrev S16x256 : Shape := ⟨2, ![16, 256]⟩
abbrev S256 : Shape := ⟨1, ![256]⟩
abbrev S64 : Shape := ⟨1, ![64]⟩
abbrev S8 : Shape := ⟨1, ![8]⟩
abbrev S_ : Shape := ⟨0, ![]⟩
abbrev S2176 : Shape := ⟨1, ![2176]⟩
abbrev S2176x1 : Shape := ⟨2, ![2176, 1]⟩
abbrev S1x8 : Shape := ⟨2, ![1, 8]⟩
abbrev S2176x8 : Shape := ⟨2, ![2176, 8]⟩
abbrev S8x2176x3416 : Shape := ⟨3, ![8, 2176, 3416]⟩
abbrev S8x2176x256 : Shape := ⟨3, ![8, 2176, 256]⟩
abbrev S8x2176x512 : Shape := ⟨3, ![8, 2176, 512]⟩
abbrev S8x2176x16 : Shape := ⟨3, ![8, 2176, 16]⟩
abbrev S8x2176x128 : Shape := ⟨3, ![8, 2176, 128]⟩
abbrev S8x2176x64 : Shape := ⟨3, ![8, 2176, 64]⟩
abbrev S8x2176x8 : Shape := ⟨3, ![8, 2176, 8]⟩
abbrev S1x1x256 : Shape := ⟨3, ![1, 1, 256]⟩
abbrev S8x2176x8x64 : Shape := ⟨4, ![8, 2176, 8, 64]⟩
abbrev S1x2176x1x8 : Shape := ⟨4, ![1, 2176, 1, 8]⟩
abbrev S8x2176x8x8 : Shape := ⟨4, ![8, 2176, 8, 8]⟩
abbrev S8x2176x8x48 : Shape := ⟨4, ![8, 2176, 8, 48]⟩
abbrev S8x2176x2x64 : Shape := ⟨4, ![8, 2176, 2, 64]⟩
abbrev S8x2176x2x8 : Shape := ⟨4, ![8, 2176, 2, 8]⟩
abbrev S8x2176x2x48 : Shape := ⟨4, ![8, 2176, 2, 48]⟩
abbrev S8x2176 : Shape := ⟨2, ![8, 2176]⟩
abbrev S8x2176x1 : Shape := ⟨3, ![8, 2176, 1]⟩
abbrev S1x1x64 : Shape := ⟨3, ![1, 1, 64]⟩
abbrev S1x2176x8 : Shape := ⟨3, ![1, 2176, 8]⟩
abbrev S8x2176x48 : Shape := ⟨3, ![8, 2176, 48]⟩
abbrev S17408x256 : Shape := ⟨2, ![17408, 256]⟩
abbrev S17408x512 : Shape := ⟨2, ![17408, 512]⟩
abbrev S8x2176x2x4x64 : Shape := ⟨5, ![8, 2176, 2, 4, 64]⟩
abbrev S8x2176x4x2x64 : Shape := ⟨5, ![8, 2176, 4, 2, 64]⟩
abbrev S17408x128 : Shape := ⟨2, ![17408, 128]⟩
abbrev S136x128x128 : Shape := ⟨3, ![136, 128, 128]⟩
abbrev S136x128x8 : Shape := ⟨3, ![136, 128, 8]⟩
abbrev S136x8x128 : Shape := ⟨3, ![136, 8, 128]⟩

abbrev nBuf : Space → Nat
  | .hbm => 198
  | .vmem => 0
  | .smem => 0
  | _ => 0

abbrev hbmTy0_0 (i : Nat) : BufTy := match i % 128 with
  | 0 => ⟨S8x2176x1024, .f32⟩
  | 1 => ⟨S1024x3416, .f32⟩
  | 2 => ⟨S16x256, .f32⟩
  | 3 => ⟨S256, .f32⟩
  | 4 => ⟨S64, .f32⟩
  | 5 => ⟨S64, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S2176, .f32⟩
  | 21 => ⟨S_, .f32⟩
  | 22 => ⟨S2176, .f32⟩
  | 23 => ⟨S2176, .f32⟩
  | 24 => ⟨S2176x1, .f32⟩
  | 25 => ⟨S1x8, .f32⟩
  | 26 => ⟨S2176x8, .f32⟩
  | 27 => ⟨S2176x8, .f32⟩
  | 28 => ⟨S2176x8, .f32⟩
  | 29 => ⟨S2176x8, .f32⟩
  | 30 => ⟨S2176x8, .f32⟩
  | 31 => ⟨S8x2176x3416, .f32⟩
  | 32 => ⟨S8x2176x256, .f32⟩
  | 33 => ⟨S8x2176x256, .f32⟩
  | 34 => ⟨S8x2176x512, .f32⟩
  | 35 => ⟨S8x2176x16, .f32⟩
  | 36 => ⟨S8x2176x512, .f32⟩
  | 37 => ⟨S8x2176x512, .f32⟩
  | 38 => ⟨S8x2176x128, .f32⟩
  | 39 => ⟨S8x2176x128, .f32⟩
  | 40 => ⟨S8x2176x512, .f32⟩
  | 41 => ⟨S8x2176x64, .f32⟩
  | 42 => ⟨S8x2176x8, .f32⟩
  | 43 => ⟨S8x2176x512, .f32⟩
  | 44 => ⟨S8x2176x256, .f32⟩
  | 45 => ⟨S1x1x256, .f32⟩
  | 46 => ⟨S8x2176x256, .f32⟩
  | 47 => ⟨S8x2176x256, .f32⟩
  | 48 => ⟨S8x2176x256, .f32⟩
  | 49 => ⟨S_, .f32⟩
  | 50 => ⟨S8x2176x256, .f32⟩
  | 51 => ⟨S8x2176x256, .f32⟩
  | 52 => ⟨S8x2176x256, .f32⟩
  | 53 => ⟨S8x2176x256, .f32⟩
  | 54 => ⟨S8x2176x256, .i1⟩
  | 55 => ⟨S8x2176x256, .f32⟩
  | 56 => ⟨S8x2176x256, .f32⟩
  | 57 => ⟨S8x2176x256, .f32⟩
  | 58 => ⟨S8x2176x256, .f32⟩
  | 59 => ⟨S8x2176x256, .f32⟩
  | 60 => ⟨S8x2176x256, .f32⟩
  | 61 => ⟨S8x2176x256, .f32⟩
  | 62 => ⟨S8x2176x256, .f32⟩
  | 63 => ⟨S8x2176x256, .f32⟩
  | 64 => ⟨S_, .f32⟩
  | 65 => ⟨S8x2176x256, .f32⟩
  | 66 => ⟨S8x2176x256, .f32⟩
  | 67 => ⟨S8x2176x8x64, .f32⟩
  | 68 => ⟨S1x2176x1x8, .f32⟩
  | 69 => ⟨S1x2176x1x8, .f32⟩
  | 70 => ⟨S8x2176x8x8, .f32⟩
  | 71 => ⟨S8x2176x8x8, .f32⟩
  | 72 => ⟨S8x2176x8x48, .f32⟩
  | 73 => ⟨S8x2176x8x8, .f32⟩
  | 74 => ⟨S8x2176x8x8, .f32⟩
  | 75 => ⟨S8x2176x8x8, .f32⟩
  | 76 => ⟨S8x2176x8x8, .f32⟩
  | 77 => ⟨S8x2176x8x8, .f32⟩
  | 78 => ⟨S8x2176x8x8, .f32⟩
  | 79 => ⟨S8x2176x8x8, .f32⟩
  | 80 => ⟨S8x2176x8x8, .f32⟩
  | 81 => ⟨S8x2176x8x8, .f32⟩
  | 82 => ⟨S8x2176x8x8, .f32⟩
  | 83 => ⟨S8x2176x8x64, .f32⟩
  | 84 => ⟨S_, .f32⟩
  | 85 => ⟨S8x2176x8x64, .f32⟩
  | 86 => ⟨S8x2176x8x64, .f32⟩
  | 87 => ⟨S8x2176x2x64, .f32⟩
  | 88 => ⟨S1x2176x1x8, .f32⟩
  | 89 => ⟨S1x2176x1x8, .f32⟩
  | 90 => ⟨S8x2176x2x8, .f32⟩
  | 91 => ⟨S8x2176x2x8, .f32⟩
  | 92 => ⟨S8x2176x2x48, .f32⟩
  | 93 => ⟨S8x2176x2x8, .f32⟩
  | 94 => ⟨S8x2176x2x8, .f32⟩
  | 95 => ⟨S8x2176x2x8, .f32⟩
  | 96 => ⟨S8x2176x2x8, .f32⟩
  | 97 => ⟨S8x2176x2x8, .f32⟩
  | 98 => ⟨S8x2176x2x8, .f32⟩
  | 99 => ⟨S8x2176x2x8, .f32⟩
  | 100 => ⟨S8x2176x2x8, .f32⟩
  | 101 => ⟨S8x2176x2x8, .f32⟩
  | 102 => ⟨S8x2176x2x8, .f32⟩
  | 103 => ⟨S8x2176x2x64, .f32⟩
  | 104 => ⟨S8x2176x8x64, .f32⟩
  | 105 => ⟨S1x2176x1x8, .f32⟩
  | 106 => ⟨S1x2176x1x8, .f32⟩
  | 107 => ⟨S8x2176x8x8, .f32⟩
  | 108 => ⟨S8x2176x8x8, .f32⟩
  | 109 => ⟨S8x2176x8x48, .f32⟩
  | 110 => ⟨S8x2176x8x8, .f32⟩
  | 111 => ⟨S8x2176x8x8, .f32⟩
  | 112 => ⟨S8x2176x8x8, .f32⟩
  | 113 => ⟨S8x2176x8x8, .f32⟩
  | 114 => ⟨S8x2176x8x8, .f32⟩
  | 115 => ⟨S8x2176x8x8, .f32⟩
  | 116 => ⟨S8x2176x8x8, .f32⟩
  | 117 => ⟨S8x2176x8x8, .f32⟩
  | 118 => ⟨S8x2176x8x8, .f32⟩
  | 119 => ⟨S8x2176x8x8, .f32⟩
  | 120 => ⟨S8x2176x8x64, .f32⟩
  | 121 => ⟨S_, .f32⟩
  | 122 => ⟨S8x2176x8x64, .f32⟩
  | 123 => ⟨S8x2176x8x64, .f32⟩
  | 124 => ⟨S_, .f32⟩
  | 125 => ⟨S8x2176, .f32⟩
  | 126 => ⟨S8x2176x1, .f32⟩
  | 127 => ⟨S_, .f32⟩
  | _ => ⟨S8x2176x1024, .f32⟩

abbrev hbmTy0_1 (i : Nat) : BufTy := match i % 128 with
  | 0 => ⟨S8x2176x1, .f32⟩
  | 1 => ⟨S8x2176x1, .f32⟩
  | 2 => ⟨S8x2176x64, .f32⟩
  | 3 => ⟨S8x2176x64, .f32⟩
  | 4 => ⟨S8x2176x64, .f32⟩
  | 5 => ⟨S_, .f32⟩
  | 6 => ⟨S8x2176, .f32⟩
  | 7 => ⟨S8x2176x1, .f32⟩
  | 8 => ⟨S_, .f32⟩
  | 9 => ⟨S8x2176x1, .f32⟩
  | 10 => ⟨S8x2176x1, .f32⟩
  | 11 => ⟨S8x2176x64, .f32⟩
  | 12 => ⟨S8x2176x64, .f32⟩
  | 13 => ⟨S_, .f32⟩
  | 14 => ⟨S8x2176x1, .f32⟩
  | 15 => ⟨S8x2176x1, .f32⟩
  | 16 => ⟨S8x2176x1, .f32⟩
  | 17 => ⟨S8x2176x64, .f32⟩
  | 18 => ⟨S8x2176x64, .f32⟩
  | 19 => ⟨S1x1x64, .f32⟩
  | 20 => ⟨S8x2176x64, .f32⟩
  | 21 => ⟨S8x2176x64, .f32⟩
  | 22 => ⟨S1x1x64, .f32⟩
  | 23 => ⟨S8x2176x64, .f32⟩
  | 24 => ⟨S8x2176x64, .f32⟩
  | 25 => ⟨S1x2176x8, .f32⟩
  | 26 => ⟨S1x2176x8, .f32⟩
  | 27 => ⟨S8x2176x8, .f32⟩
  | 28 => ⟨S8x2176x8, .f32⟩
  | 29 => ⟨S8x2176x48, .f32⟩
  | 30 => ⟨S8x2176x8, .f32⟩
  | 31 => ⟨S8x2176x8, .f32⟩
  | 32 => ⟨S8x2176x8, .f32⟩
  | 33 => ⟨S8x2176x8, .f32⟩
  | 34 => ⟨S8x2176x8, .f32⟩
  | 35 => ⟨S8x2176x8, .f32⟩
  | 36 => ⟨S8x2176x8, .f32⟩
  | 37 => ⟨S8x2176x8, .f32⟩
  | 38 => ⟨S8x2176x8, .f32⟩
  | 39 => ⟨S8x2176x8, .f32⟩
  | 40 => ⟨S8x2176x64, .f32⟩
  | 41 => ⟨S_, .f32⟩
  | 42 => ⟨S8x2176x8, .f32⟩
  | 43 => ⟨S8x2176x8, .f32⟩
  | 44 => ⟨S_, .f32⟩
  | 45 => ⟨S8x2176x256, .f32⟩
  | 46 => ⟨S8x2176x256, .f32⟩
  | 47 => ⟨S17408x256, .f32⟩
  | 48 => ⟨S17408x256, .f32⟩
  | 49 => ⟨S17408x512, .f32⟩
  | 50 => ⟨S17408x512, .bf16⟩
  | 51 => ⟨S17408x256, .f32⟩
  | 52 => ⟨S17408x512, .f32⟩
  | 53 => ⟨S8x2176x2x4x64, .f32⟩
  | 54 => ⟨S8x2176x4x2x64, .f32⟩
  | 55 => ⟨S17408x512, .f32⟩
  | 56 => ⟨S17408x512, .bf16⟩
  | 57 => ⟨S17408x128, .f32⟩
  | 58 => ⟨S17408x128, .bf16⟩
  | 59 => ⟨S136x128x128, .f32⟩
  | 60 => ⟨S136x128x128, .f32⟩
  | 61 => ⟨S136x128x128, .bf16⟩
  | 62 => ⟨S17408x512, .f32⟩
  | 63 => ⟨S17408x512, .bf16⟩
  | 64 => ⟨S8x2176x128, .f32⟩
  | 65 => ⟨S17408x128, .f32⟩
  | 66 => ⟨S17408x128, .bf16⟩
  | 67 => ⟨S136x128x8, .f32⟩
  | 68 => ⟨S136x8x128, .f32⟩
  | 69 => ⟨S17408x512, .f32⟩
  | _ => ⟨S8x2176x1024, .f32⟩

abbrev hbmTy (i : Nat) : BufTy := match i / 128 with
  | 0 => hbmTy0_0 i
  | 1 => hbmTy0_1 i
  | _ => ⟨S8x2176x1024, .f32⟩

abbrev bufTy : (tb : Table) → Fin (tcTables nBuf tb) → BufTy
  | .hbm, ⟨i, _⟩ => hbmTy i
  | _, _ => ⟨S8x2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call0_v0 : Ref sig .tc := ⟨.hbm, 48, rfl⟩
abbrev main_call0_call0_cst : Ref sig .tc := ⟨.hbm, 49, rfl⟩
abbrev main_call0_call0_v0 : Ref sig .tc := ⟨.hbm, 50, rfl⟩
abbrev main_call0_call0_v1 : Ref sig .tc := ⟨.hbm, 51, rfl⟩
abbrev main_call0_call0_v2 : Ref sig .tc := ⟨.hbm, 52, rfl⟩
abbrev main_call0_call0_v3 : Ref sig .tc := ⟨.hbm, 53, rfl⟩
abbrev main_call0_call0_v4 : Ref sig .tc := ⟨.hbm, 54, rfl⟩
abbrev main_call0_call0_v5 : Ref sig .tc := ⟨.hbm, 55, rfl⟩
abbrev main_call0_call0_v6 : Ref sig .tc := ⟨.hbm, 56, rfl⟩
abbrev main_call0_call0_v7 : Ref sig .tc := ⟨.hbm, 57, rfl⟩
abbrev main_call0_call0_v8 : Ref sig .tc := ⟨.hbm, 58, rfl⟩
abbrev main_call0_call0_v9 : Ref sig .tc := ⟨.hbm, 59, rfl⟩
abbrev main_call0_call0_v10 : Ref sig .tc := ⟨.hbm, 60, rfl⟩
abbrev main_call0_call0_v11 : Ref sig .tc := ⟨.hbm, 61, rfl⟩
abbrev main_call0_v1 : Ref sig .tc := ⟨.hbm, 62, rfl⟩
abbrev main_v37 : Ref sig .tc := ⟨.hbm, 63, rfl⟩
abbrev main_cst_4 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_5 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_6 : Ref sig .tc := ⟨.hbm, 121, rfl⟩
abbrev main_v93 : Ref sig .tc := ⟨.hbm, 122, rfl⟩
abbrev main_v94 : Ref sig .tc := ⟨.hbm, 123, rfl⟩
abbrev main_cst_7 : Ref sig .tc := ⟨.hbm, 124, rfl⟩
abbrev main_v95 : Ref sig .tc := ⟨.hbm, 125, rfl⟩
abbrev main_v96 : Ref sig .tc := ⟨.hbm, 126, rfl⟩
abbrev main_cst_8 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_9 : Ref sig .tc := ⟨.hbm, 133, rfl⟩
abbrev main_v102 : Ref sig .tc := ⟨.hbm, 134, rfl⟩
abbrev main_v103 : Ref sig .tc := ⟨.hbm, 135, rfl⟩
abbrev main_cst_10 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_11 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_cst_12 : Ref sig .tc := ⟨.hbm, 169, rfl⟩
abbrev main_v135 : Ref sig .tc := ⟨.hbm, 170, rfl⟩
abbrev main_v136 : Ref sig .tc := ⟨.hbm, 171, rfl⟩
abbrev main_cst_13 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩

abbrev nD : Nat := 1
abbrev τ : Topo := Topo.v7x

variable {F : FTy → Type} [FloatOps F]
-- ==== Kernel3.lean ====
abbrev S8x2176x512 : Shape := ⟨3, ![8, 2176, 512]⟩
abbrev S8x2176x1024 : Shape := ⟨3, ![8, 2176, 1024]⟩
abbrev S1024x1024 : Shape := ⟨2, ![1024, 1024]⟩
abbrev S1024 : Shape := ⟨1, ![1024]⟩
abbrev S1x1024 : Shape := ⟨2, ![1, 1024]⟩
abbrev S1x17408x512 : Shape := ⟨3, ![1, 17408, 512]⟩
abbrev S1x17408x1024 : Shape := ⟨3, ![1, 17408, 1024]⟩
abbrev S1x1024x512 : Shape := ⟨3, ![1, 1024, 512]⟩
abbrev S1x1024x1024 : Shape := ⟨3, ![1, 1024, 1024]⟩
abbrev S1x256x512 : Shape := ⟨3, ![1, 256, 512]⟩
abbrev S256x512 : Shape := ⟨2, ![256, 512]⟩
abbrev S512x1024 : Shape := ⟨2, ![512, 1024]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩

abbrev nBuf : Space → Nat
  | .hbm => 13
  | .vmem => 11
  | .smem => 0
  | _ => 0

abbrev bufTy : (tb : Table) → Fin (tcTables nBuf tb) → BufTy
  | .hbm, ⟨0, _⟩ => ⟨S8x2176x512, .bf16⟩
  | .hbm, ⟨1, _⟩ => ⟨S8x2176x512, .bf16⟩
  | .hbm, ⟨2, _⟩ => ⟨S8x2176x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S1x17408x512, .bf16⟩
  | .hbm, ⟨10, _⟩ => ⟨S1x17408x512, .bf16⟩
  | .hbm, ⟨11, _⟩ => ⟨S1x17408x1024, .f32⟩
  | .hbm, ⟨12, _⟩ => ⟨S1x17408x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024x1024, .f32⟩
  | .local _ .vmem, ⟨10, _⟩ => ⟨S1x1024x1024, .f32⟩
  | _, _ => ⟨S8x2176x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![17], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8x2176x512 : Shape := ⟨3, ![8, 2176, 512]⟩
abbrev S8x2176x1024 : Shape := ⟨3, ![8, 2176, 1024]⟩
abbrev S1024x1024 : Shape := ⟨2, ![1024, 1024]⟩
abbrev S1024 : Shape := ⟨1, ![1024]⟩
abbrev S_ : Shape := ⟨0, ![]⟩
abbrev S8x2176 : Shape := ⟨2, ![8, 2176]⟩
abbrev S8x2176x1 : Shape := ⟨3, ![8, 2176, 1]⟩
abbrev S1x1x1024 : Shape := ⟨3, ![1, 1, 1024]⟩
abbrev S1x17408x1024 : Shape := ⟨3, ![1, 17408, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8x2176x512, .bf16⟩
  | .hbm, ⟨1, _⟩ => ⟨S8x2176x512, .bf16⟩
  | .hbm, ⟨2, _⟩ => ⟨S8x2176x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S8x2176x1024, .bf16⟩
  | .hbm, ⟨7, _⟩ => ⟨S8x2176x1024, .f32⟩
  | .hbm, ⟨8, _⟩ => ⟨S8x2176x1024, .f32⟩
  | .hbm, ⟨9, _⟩ => ⟨S_, .f32⟩
  | .hbm, ⟨10, _⟩ => ⟨S8x2176x1024, .f32⟩
  | .hbm, ⟨11, _⟩ => ⟨S8x2176x1024, .f32⟩
  | .hbm, ⟨12, _⟩ => ⟨S8x2176x1024, .f32⟩
  | .hbm, ⟨13, _⟩ => ⟨S_, .f32⟩
  | .hbm, ⟨14, _⟩ => ⟨S8x2176, .f32⟩
  | .hbm, ⟨15, _⟩ => ⟨S8x2176x1, .f32⟩
  | .hbm, ⟨16, _⟩ => ⟨S_, .f32⟩
  | .hbm, ⟨17, _⟩ => ⟨S8x2176x1, .f32⟩
  | .hbm, ⟨18, _⟩ => ⟨S8x2176x1, .f32⟩
  | .hbm, ⟨19, _⟩ => ⟨S8x2176x1024, .f32⟩
  | .hbm, ⟨20, _⟩ => ⟨S8x2176x1024, .f32⟩
  | .hbm, ⟨21, _⟩ => ⟨S8x2176x1024, .f32⟩
  | .hbm, ⟨22, _⟩ => ⟨S_, .f32⟩
  | .hbm, ⟨23, _⟩ => ⟨S8x2176, .f32⟩
  | .hbm, ⟨24, _⟩ => ⟨S8x2176x1, .f32⟩
  | .hbm, ⟨25, _⟩ => ⟨S_, .f32⟩
  | .hbm, ⟨26, _⟩ => ⟨S8x2176x1, .f32⟩
  | .hbm, ⟨27, _⟩ => ⟨S8x2176x1, .f32⟩
  | .hbm, ⟨28, _⟩ => ⟨S8x2176x1024, .f32⟩
  | .hbm, ⟨29, _⟩ => ⟨S8x2176x1024, .f32⟩
  | .hbm, ⟨30, _⟩ => ⟨S_, .f32⟩
  | .hbm, ⟨31, _⟩ => ⟨S8x2176x1, .f32⟩
  | .hbm, ⟨32, _⟩ => ⟨S8x2176x1, .f32⟩
  | .hbm, ⟨33, _⟩ => ⟨S8x2176x1, .f32⟩
  | .hbm, ⟨34, _⟩ => ⟨S8x2176x1024, .f32⟩
  | .hbm, ⟨35, _⟩ => ⟨S8x2176x1024, .f32⟩
  | .hbm, ⟨36, _⟩ => ⟨S1x1x1024, .f32⟩
  | .hbm, ⟨37, _⟩ => ⟨S8x2176x1024, .f32⟩
  | .hbm, ⟨38, _⟩ => ⟨S8x2176x1024, .f32⟩
  | .hbm, ⟨39, _⟩ => ⟨S1x1x1024, .f32⟩
  | .hbm, ⟨40, _⟩ => ⟨S8x2176x1024, .f32⟩
  | .hbm, ⟨41, _⟩ => ⟨S8x2176x1024, .f32⟩
  | .hbm, ⟨42, _⟩ => ⟨S1x17408x1024, .f32⟩
  | _, _ => ⟨S8x2176x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel4.lean ====
abbrev S8x2048x1024 : Shape := ⟨3, ![8, 2048, 1024]⟩
abbrev S16x1024 : Shape := ⟨2, ![16, 1024]⟩
abbrev S1024 : Shape := ⟨1, ![1024]⟩
abbrev S_ : Shape := ⟨0, ![]⟩
abbrev S112x1024 : Shape := ⟨2, ![112, 1024]⟩
abbrev S128x1024 : Shape := ⟨2, ![128, 1024]⟩
abbrev S1x1024 : Shape := ⟨2, ![1, 1024]⟩
abbrev S8x16x128x1024 : Shape := ⟨4, ![8, 16, 128, 1024]⟩
abbrev S136x128x1024 : Shape := ⟨3, ![136, 128, 1024]⟩
abbrev S1x16x128x1024 : Shape := ⟨4, ![1, 16, 128, 1024]⟩
abbrev S17x128x1024 : Shape := ⟨3, ![17, 128, 1024]⟩
abbrev S128 : Shape := ⟨1, ![128]⟩
abbrev S128x1 : Shape := ⟨2, ![128, 1]⟩
abbrev S1x128x1024 : Shape := ⟨3, ![1, 128, 1024]⟩
abbrev S1x1x128x1024 : Shape := ⟨4, ![1, 1, 128, 1024]⟩

abbrev nBuf : Space → Nat
  | .hbm => 11
  | .vmem => 7
  | .smem => 0
  | _ => 0

abbrev bufTy : (tb : Table) → Fin (tcTables nBuf tb) → BufTy
  | .hbm, ⟨0, _⟩ => ⟨S8x2048x1024, .f32⟩
  | .hbm, ⟨1, _⟩ => ⟨S16x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S112x1024, .f32⟩
  | .hbm, ⟨6, _⟩ => ⟨S128x1024, .f32⟩
  | .hbm, ⟨7, _⟩ => ⟨S1x1024, .f32⟩
  | .hbm, ⟨8, _⟩ => ⟨S1x1024, .f32⟩
  | .hbm, ⟨9, _⟩ => ⟨S8x16x128x1024, .f32⟩
  | .hbm, ⟨10, _⟩ => ⟨S136x128x1024, .f32⟩
  | .local _ .vmem, ⟨0, _⟩ => ⟨S1x16x128x1024, .f32⟩
  | .local _ .vmem, ⟨1, _⟩ => ⟨S1x16x128x1024, .f32⟩
  | .local _ .vmem, ⟨2, _⟩ => ⟨S128x1024, .f32⟩
  | .local _ .vmem, ⟨3, _⟩ => ⟨S1x1024, .f32⟩
  | .local _ .vmem, ⟨4, _⟩ => ⟨S1x1024, .f32⟩
  | .local _ .vmem, ⟨5, _⟩ => ⟨S17x128x1024, .f32⟩
  | .local _ .vmem, ⟨6, _⟩ => ⟨S17x128x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S17x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S8x2048x1024 : Shape := ⟨3, ![8, 2048, 1024]⟩
abbrev S16x1024 : Shape := ⟨2, ![16, 1024]⟩
abbrev S1024 : Shape := ⟨1, ![1024]⟩
abbrev S1x16x1024 : Shape := ⟨3, ![1, 16, 1024]⟩
abbrev S8x16x1024 : Shape := ⟨3, ![8, 16, 1024]⟩
abbrev S_ : Shape := ⟨0, ![]⟩
abbrev S8x112x1024 : Shape := ⟨3, ![8, 112, 1024]⟩
abbrev S8x2176x1024 : Shape := ⟨3, ![8, 2176, 1024]⟩
abbrev S8x2176 : Shape := ⟨2, ![8, 2176]⟩
abbrev S8x2176x1 : Shape := ⟨3, ![8, 2176, 1]⟩
abbrev S1x1x1024 : Shape := ⟨3, ![1, 1, 1024]⟩
abbrev S136x128x1024 : Shape := ⟨3, ![136, 128, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16x1024, .f32⟩
  | .hbm, ⟨2, _⟩ => ⟨S1024, .f32⟩
  | .hbm, ⟨3, _⟩ => ⟨S1024, .f32⟩
  | .hbm, ⟨4, _⟩ => ⟨S1x16x1024, .f32⟩
  | .hbm, ⟨5, _⟩ => ⟨S8x16x1024, .f32⟩
  | .hbm, ⟨6, _⟩ => ⟨S_, .f32⟩
  | .hbm, ⟨7, _⟩ => ⟨S8x112x1024, .f32⟩
  | .hbm, ⟨8, _⟩ => ⟨S8x2176x1024, .f32⟩
  | .hbm, ⟨9, _⟩ => ⟨S_, .f32⟩
  | .hbm, ⟨10, _⟩ => ⟨S8x2176, .f32⟩
  | .hbm, ⟨11, _⟩ => ⟨S8x2176x1, .f32⟩
  | .hbm, ⟨12, _⟩ => ⟨S_, .f32⟩
  | .hbm, ⟨13, _⟩ => ⟨S8x2176x1, .f32⟩
  | .hbm, ⟨14, _⟩ => ⟨S8x2176x1, .f32⟩
  | .hbm, ⟨15, _⟩ => ⟨S8x2176x1024, .f32⟩
  | .hbm, ⟨16, _⟩ => ⟨S8x2176x1024, .f32⟩
  | .hbm, ⟨17, _⟩ => ⟨S8x2176x1024, .f32⟩
  | .hbm, ⟨18, _⟩ => ⟨S_, .f32⟩
  | .hbm, ⟨19, _⟩ => ⟨S8x2176, .f32⟩
  | .hbm, ⟨20, _⟩ => ⟨S8x2176x1, .f32⟩
  | .hbm, ⟨21, _⟩ => ⟨S_, .f32⟩
  | .hbm, ⟨22, _⟩ => ⟨S8x2176x1, .f32⟩
  | .hbm, ⟨23, _⟩ => ⟨S8x2176x1, .f32⟩
  | .hbm, ⟨24, _⟩ => ⟨S8x2176x1024, .f32⟩
  | .hbm, ⟨25, _⟩ => ⟨S8x2176x1024, .f32⟩
  | .hbm, ⟨26, _⟩ => ⟨S_, .f32⟩
  | .hbm, ⟨27, _⟩ => ⟨S8x2176x1, .f32⟩
  | .hbm, ⟨28, _⟩ => ⟨S8x2176x1, .f32⟩
  | .hbm, ⟨29, _⟩ => ⟨S8x2176x1, .f32⟩
  | .hbm, ⟨30, _⟩ => ⟨S8x2176x1024, .f32⟩
  | .hbm, ⟨31, _⟩ => ⟨S8x2176x1024, .f32⟩
  | .hbm, ⟨32, _⟩ => ⟨S1x1x1024, .f32⟩
  | .hbm, ⟨33, _⟩ => ⟨S8x2176x1024, .f32⟩
  | .hbm, ⟨34, _⟩ => ⟨S8x2176x1024, .f32⟩
  | .hbm, ⟨35, _⟩ => ⟨S1x1x1024, .f32⟩
  | .hbm, ⟨36, _⟩ => ⟨S8x2176x1024, .f32⟩
  | .hbm, ⟨37, _⟩ => ⟨S8x2176x1024, .f32⟩
  | .hbm, ⟨38, _⟩ => ⟨S136x128x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel5.lean ====
abbrev S17408x256 : Shape := ⟨2, ![17408, 256]⟩
abbrev S17408x512 : Shape := ⟨2, ![17408, 512]⟩
abbrev S128 : Shape := ⟨1, ![128]⟩
abbrev S1x128 : Shape := ⟨2, ![1, 128]⟩
abbrev S8x2176x256 : Shape := ⟨3, ![8, 2176, 256]⟩
abbrev S8x2176x512 : Shape := ⟨3, ![8, 2176, 512]⟩
abbrev S8x128x256 : Shape := ⟨3, ![8, 128, 256]⟩
abbrev S8x128x512 : Shape := ⟨3, ![8, 128, 512]⟩
abbrev S8x4x128x128 : Shape := ⟨4, ![8, 4, 128, 128]⟩
abbrev S32x64x64 : Shape := ⟨3, ![32, 64, 64]⟩
abbrev S2x64x128 : Shape := ⟨3, ![2, 64, 128]⟩
abbrev S64x64 : Shape := ⟨2, ![64, 64]⟩
abbrev S64x1 : Shape := ⟨2, ![64, 1]⟩
abbrev S1x64x128 : Shape := ⟨3, ![1, 64, 128]⟩
abbrev S64x128 : Shape := ⟨2, ![64, 128]⟩
abbrev S1x1x128x128 : Shape := ⟨4, ![1, 1, 128, 128]⟩
abbrev S128x128 : Shape := ⟨2, ![128, 128]⟩
abbrev S1x64x64 : Shape := ⟨3, ![1, 64, 64]⟩
abbrev S1 : Shape := ⟨1, ![1]⟩
abbrev S1x1x1 : Shape := ⟨3, ![1, 1, 1]⟩
abbrev S1x64 : Shape := ⟨2, ![1, 64]⟩
abbrev S1x1x128 : Shape := ⟨3, ![1, 1, 128]⟩
abbrev S64 : Shape := ⟨1, ![64]⟩

abbrev nBuf : Space → Nat
  | .hbm => 13
  | .vmem => 16
  | .smem => 0
  | _ => 0

abbrev bufTy : (tb : Table) → Fin (tcTables nBuf tb) → BufTy
  | .hbm, ⟨0, _⟩ => ⟨S17408x256, .f32⟩
  | .hbm, ⟨1, _⟩ => ⟨S17408x256, .f32⟩
  | .hbm, ⟨2, _⟩ => ⟨S17408x256, .f32⟩
  | .hbm, ⟨3, _⟩ => ⟨S17408x512, .bf16⟩
  | .hbm, ⟨4, _⟩ => ⟨S17408x512, .f32⟩
  | .hbm, ⟨5, _⟩ => ⟨S128, .f32⟩
  | .hbm, ⟨6, _⟩ => ⟨S1x128, .f32⟩
  | .hbm, ⟨7, _⟩ => ⟨S8x2176x256, .f32⟩
  | .hbm, ⟨8, _⟩ => ⟨S8x2176x256, .f32⟩
  | .hbm, ⟨9, _⟩ => ⟨S8x2176x256, .f32⟩
  | .hbm, ⟨10, _⟩ => ⟨S8x2176x512, .bf16⟩
  | .hbm, ⟨11, _⟩ => ⟨S8x2176x512, .f32⟩
  | .hbm, ⟨12, _⟩ => ⟨S8x2176x512, .bf16⟩
  | .local _ .vmem, ⟨0, _⟩ => ⟨S8x128x256, .f32⟩
  | .local _ .vmem, ⟨1, _⟩ => ⟨S8x128x256, .f32⟩
  | .local _ .vmem, ⟨2, _⟩ => ⟨S8x128x256, .f32⟩
  | .local _ .vmem, ⟨3, _⟩ => ⟨S8x128x256, .f32⟩
  | .local _ .vmem, ⟨4, _⟩ => ⟨S8x128x256, .f32⟩
  | .local _ .vmem, ⟨5, _⟩ => ⟨S8x128x256, .f32⟩
  | .local _ .vmem, ⟨6, _⟩ => ⟨S8x128x512, .bf16⟩
  | .local _ .vmem, ⟨7, _⟩ => ⟨S8x128x512, .bf16⟩
  | .local _ .vmem, ⟨8, _⟩ => ⟨S8x128x512, .f32⟩
  | .local _ .vmem, ⟨9, _⟩ => ⟨S8x128x512, .f32⟩
  | .local _ .vmem, ⟨10, _⟩ => ⟨S1x128, .f32⟩
  | .local _ .vmem, ⟨11, _⟩ => ⟨S8x128x512, .bf16⟩
  | .local _ .vmem, ⟨12, _⟩ => ⟨S8x128x512, .bf16⟩
  | .local _ .vmem, ⟨13, _⟩ => ⟨S8x4x128x128, .f32⟩
  | .local _ .vmem, ⟨14, _⟩ => ⟨S32x64x64, .f32⟩
  | .local _ .vmem, ⟨15, _⟩ => ⟨S2x64x128, .f32⟩
  | _, _ => ⟨S17408x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![1, 17], ![false, false]⟩

@[reducible] def k0_t1_loop : Scf.Loop 32 :=
  let c0_i32_3 : BitVec 32 := 0#32
  let c2_i32 : BitVec 32 := 2#32
  let v18 : BitVec 32 := Scalar.addi c0_i32_3 c2_i32
  let c1_i32 : BitVec 32 := 1#32
  ⟨c0_i32_3, v18, c1_i32⟩
def k0_mult1 (k0_t1 : Fin k0_t1_loop.trips) : BitVec 32 :=
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  v19
def k0_off1 (k0_t1 : Fin k0_t1_loop.trips) : Fin 3 → Nat :=
  let c0_6 : Index := 0#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v26 : Index := Scalar.indexCast v20
  let c0_7 : Index := 0#32
  ![0, v26.toNat, 0]
def k0_off2 (k0_t1 : Fin k0_t1_loop.trips) : Fin 3 → Nat :=
  let c0_9 : Index := 0#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v36 : Index := Scalar.indexCast v20
  let c128 : Index := 128#32
  ![0, v36.toNat, 128]
def k0_off3 (k0_t1 : Fin k0_t1_loop.trips) : Fin 3 → Nat :=
  let c1 : Index := 1#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v46 : Index := Scalar.indexCast v20
  let c0_12 : Index := 0#32
  ![1, v46.toNat, 0]
def k0_off4 (k0_t1 : Fin k0_t1_loop.trips) : Fin 3 → Nat :=
  let c1_15 : Index := 1#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v56 : Index := Scalar.indexCast v20
  let c128_16 : Index := 128#32
  ![1, v56.toNat, 128]
def k0_off5 (k0_t1 : Fin k0_t1_loop.trips) : Fin 3 → Nat :=
  let c2 : Index := 2#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v66 : Index := Scalar.indexCast v20
  let c0_19 : Index := 0#32
  ![2, v66.toNat, 0]
def k0_off6 (k0_t1 : Fin k0_t1_loop.trips) : Fin 3 → Nat :=
  let c2_22 : Index := 2#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v76 : Index := Scalar.indexCast v20
  let c128_23 : Index := 128#32
  ![2, v76.toNat, 128]
def k0_off7 (k0_t1 : Fin k0_t1_loop.trips) : Fin 3 → Nat :=
  let c3 : Index := 3#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v86 : Index := Scalar.indexCast v20
  let c0_26 : Index := 0#32
  ![3, v86.toNat, 0]
def k0_off8 (k0_t1 : Fin k0_t1_loop.trips) : Fin 3 → Nat :=
  let c3_29 : Index := 3#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v96 : Index := Scalar.indexCast v20
  let c128_30 : Index := 128#32
  ![3, v96.toNat, 128]
def k0_off9 (k0_t1 : Fin k0_t1_loop.trips) : Fin 3 → Nat :=
  let c4 : Index := 4#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v106 : Index := Scalar.indexCast v20
  let c0_33 : Index := 0#32
  ![4, v106.toNat, 0]
def k0_off10 (k0_t1 : Fin k0_t1_loop.trips) : Fin 3 → Nat :=
  let c4_36 : Index := 4#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v116 : Index := Scalar.indexCast v20
  let c128_37 : Index := 128#32
  ![4, v116.toNat, 128]
def k0_off11 (k0_t1 : Fin k0_t1_loop.trips) : Fin 3 → Nat :=
  let c5 : Index := 5#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v126 : Index := Scalar.indexCast v20
  let c0_40 : Index := 0#32
  ![5, v126.toNat, 0]
def k0_off12 (k0_t1 : Fin k0_t1_loop.trips) : Fin 3 → Nat :=
  let c5_43 : Index := 5#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v136 : Index := Scalar.indexCast v20
  let c128_44 : Index := 128#32
  ![5, v136.toNat, 128]
def k0_off13 (k0_t1 : Fin k0_t1_loop.trips) : Fin 3 → Nat :=
  let c6 : Index := 6#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v146 : Index := Scalar.indexCast v20
  let c0_47 : Index := 0#32
  ![6, v146.toNat, 0]
def k0_off14 (k0_t1 : Fin k0_t1_loop.trips) : Fin 3 → Nat :=
  let c6_50 : Index := 6#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v156 : Index := Scalar.indexCast v20
  let c128_51 : Index := 128#32
  ![6, v156.toNat, 128]
def k0_off15 (k0_t1 : Fin k0_t1_loop.trips) : Fin 3 → Nat :=
  let c7 : Index := 7#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v166 : Index := Scalar.indexCast v20
  let c0_54 : Index := 0#32
  ![7, v166.toNat, 0]
def k0_off16 (k0_t1 : Fin k0_t1_loop.trips) : Fin 3 → Nat :=
  let c7_57 : Index := 7#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v176 : Index := Scalar.indexCast v20
  let c128_58 : Index := 128#32
  ![7, v176.toNat, 128]
def k0_off17 (k0_t1 : Fin k0_t1_loop.trips) : Fin 3 → Nat :=
  let c0_159 : Index := 0#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v716 : Index := Scalar.indexCast v20
  let c0_160 : Index := 0#32
  ![0, v716.toNat, 0]
def k0_off18 (k0_t1 : Fin k0_t1_loop.trips) : Fin 3 → Nat :=
  let c0_177 : Index := 0#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v749 : Index := Scalar.indexCast v20
  let c128_178 : Index := 128#32
  ![0, v749.toNat, 128]
def k0_off19 (k0_t1 : Fin k0_t1_loop.trips) : Fin 3 → Nat :=
  let c0_195 : Index := 0#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v782 : Index := Scalar.indexCast v20
  let c256 : Index := 256#32
  ![0, v782.toNat, 256]
def k0_off20 (k0_t1 : Fin k0_t1_loop.trips) : Fin 3 → Nat :=
  let c0_212 : Index := 0#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v815 : Index := Scalar.indexCast v20
  let c384 : Index := 384#32
  ![0, v815.toNat, 384]
def k0_off21 (k0_t1 : Fin k0_t1_loop.trips) : Fin 3 → Nat :=
  let c1_229 : Index := 1#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v848 : Index := Scalar.indexCast v20
  let c0_230 : Index := 0#32
  ![1, v848.toNat, 0]
def k0_off22 (k0_t1 : Fin k0_t1_loop.trips) : Fin 3 → Nat :=
  let c1_247 : Index := 1#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v881 : Index := Scalar.indexCast v20
  let c128_248 : Index := 128#32
  ![1, v881.toNat, 128]
def k0_off23 (k0_t1 : Fin k0_t1_loop.trips) : Fin 3 → Nat :=
  let c1_265 : Index := 1#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v914 : Index := Scalar.indexCast v20
  let c256_266 : Index := 256#32
  ![1, v914.toNat, 256]
def k0_off24 (k0_t1 : Fin k0_t1_loop.trips) : Fin 3 → Nat :=
  let c1_283 : Index := 1#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v947 : Index := Scalar.indexCast v20
  let c384_284 : Index := 384#32
  ![1, v947.toNat, 384]
def k0_off25 (k0_t1 : Fin k0_t1_loop.trips) : Fin 3 → Nat :=
  let c2_301 : Index := 2#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v980 : Index := Scalar.indexCast v20
  let c0_302 : Index := 0#32
  ![2, v980.toNat, 0]
def k0_off26 (k0_t1 : Fin k0_t1_loop.trips) : Fin 3 → Nat :=
  let c2_318 : Index := 2#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v1013 : Index := Scalar.indexCast v20
  let c128_319 : Index := 128#32
  ![2, v1013.toNat, 128]
def k0_off27 (k0_t1 : Fin k0_t1_loop.trips) : Fin 3 → Nat :=
  let c2_335 : Index := 2#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v1046 : Index := Scalar.indexCast v20
  let c256_336 : Index := 256#32
  ![2, v1046.toNat, 256]
def k0_off28 (k0_t1 : Fin k0_t1_loop.trips) : Fin 3 → Nat :=
  let c2_352 : Index := 2#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v1079 : Index := Scalar.indexCast v20
  let c384_353 : Index := 384#32
  ![2, v1079.toNat, 384]
def k0_off29 (k0_t1 : Fin k0_t1_loop.trips) : Fin 3 → Nat :=
  let c3_369 : Index := 3#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v1112 : Index := Scalar.indexCast v20
  let c0_370 : Index := 0#32
  ![3, v1112.toNat, 0]
def k0_off30 (k0_t1 : Fin k0_t1_loop.trips) : Fin 3 → Nat :=
  let c3_386 : Index := 3#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v1145 : Index := Scalar.indexCast v20
  let c128_387 : Index := 128#32
  ![3, v1145.toNat, 128]
def k0_off31 (k0_t1 : Fin k0_t1_loop.trips) : Fin 3 → Nat :=
  let c3_403 : Index := 3#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v1178 : Index := Scalar.indexCast v20
  let c256_404 : Index := 256#32
  ![3, v1178.toNat, 256]
def k0_off32 (k0_t1 : Fin k0_t1_loop.trips) : Fin 3 → Nat :=
  let c3_420 : Index := 3#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v1211 : Index := Scalar.indexCast v20
  let c384_421 : Index := 384#32
  ![3, v1211.toNat, 384]
def k0_off33 (k0_t1 : Fin k0_t1_loop.trips) : Fin 3 → Nat :=
  let c4_437 : Index := 4#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v1244 : Index := Scalar.indexCast v20
  let c0_438 : Index := 0#32
  ![4, v1244.toNat, 0]
def k0_off34 (k0_t1 : Fin k0_t1_loop.trips) : Fin 3 → Nat :=
  let c4_454 : Index := 4#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v1277 : Index := Scalar.indexCast v20
  let c128_455 : Index := 128#32
  ![4, v1277.toNat, 128]
def k0_off35 (k0_t1 : Fin k0_t1_loop.trips) : Fin 3 → Nat :=
  let c4_471 : Index := 4#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v1310 : Index := Scalar.indexCast v20
  let c256_472 : Index := 256#32
  ![4, v1310.toNat, 256]
def k0_off36 (k0_t1 : Fin k0_t1_loop.trips) : Fin 3 → Nat :=
  let c4_488 : Index := 4#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v1343 : Index := Scalar.indexCast v20
  let c384_489 : Index := 384#32
  ![4, v1343.toNat, 384]
def k0_off37 (k0_t1 : Fin k0_t1_loop.trips) : Fin 3 → Nat :=
  let c5_505 : Index := 5#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v1376 : Index := Scalar.indexCast v20
  let c0_506 : Index := 0#32
  ![5, v1376.toNat, 0]
def k0_off38 (k0_t1 : Fin k0_t1_loop.trips) : Fin 3 → Nat :=
  let c5_522 : Index := 5#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v1409 : Index := Scalar.indexCast v20
  let c128_523 : Index := 128#32
  ![5, v1409.toNat, 128]
def k0_off39 (k0_t1 : Fin k0_t1_loop.trips) : Fin 3 → Nat :=
  let c5_539 : Index := 5#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v1442 : Index := Scalar.indexCast v20
  let c256_540 : Index := 256#32
  ![5, v1442.toNat, 256]
def k0_off40 (k0_t1 : Fin k0_t1_loop.trips) : Fin 3 → Nat :=
  let c5_556 : Index := 5#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v1475 : Index := Scalar.indexCast v20
  let c384_557 : Index := 384#32
  ![5, v1475.toNat, 384]
def k0_off41 (k0_t1 : Fin k0_t1_loop.trips) : Fin 3 → Nat :=
  let c6_573 : Index := 6#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v1508 : Index := Scalar.indexCast v20
  let c0_574 : Index := 0#32
  ![6, v1508.toNat, 0]
def k0_off42 (k0_t1 : Fin k0_t1_loop.trips) : Fin 3 → Nat :=
  let c6_590 : Index := 6#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v1541 : Index := Scalar.indexCast v20
  let c128_591 : Index := 128#32
  ![6, v1541.toNat, 128]
def k0_off43 (k0_t1 : Fin k0_t1_loop.trips) : Fin 3 → Nat :=
  let c6_607 : Index := 6#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v1574 : Index := Scalar.indexCast v20
  let c256_608 : Index := 256#32
  ![6, v1574.toNat, 256]
def k0_off44 (k0_t1 : Fin k0_t1_loop.trips) : Fin 3 → Nat :=
  let c6_624 : Index := 6#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v1607 : Index := Scalar.indexCast v20
  let c384_625 : Index := 384#32
  ![6, v1607.toNat, 384]
def k0_off45 (k0_t1 : Fin k0_t1_loop.trips) : Fin 3 → Nat :=
  let c7_641 : Index := 7#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v1640 : Index := Scalar.indexCast v20
  let c0_642 : Index := 0#32
  ![7, v1640.toNat, 0]
def k0_off46 (k0_t1 : Fin k0_t1_loop.trips) : Fin 3 → Nat :=
  let c7_658 : Index := 7#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v1673 : Index := Scalar.indexCast v20
  let c128_659 : Index := 128#32
  ![7, v1673.toNat, 128]
def k0_off47 (k0_t1 : Fin k0_t1_loop.trips) : Fin 3 → Nat :=
  let c7_675 : Index := 7#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v1706 : Index := Scalar.indexCast v20
  let c256_676 : Index := 256#32
  ![7, v1706.toNat, 256]
def k0_off48 (k0_t1 : Fin k0_t1_loop.trips) : Fin 3 → Nat :=
  let c7_692 : Index := 7#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v1739 : Index := Scalar.indexCast v20
  let c384_693 : Index := 384#32
  ![7, v1739.toNat, 384]
def k0_off49 (k0_t1 : Fin k0_t1_loop.trips) : Fin 3 → Nat :=
  let c0_1064 : Index := 0#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2676 : Index := Scalar.indexCast v20
  let c0_1065 : Index := 0#32
  ![0, v2676.toNat, 0]
@[reducible] def k0_t2_loop : Scf.Loop 32 :=
  let c0_i32_1080 : BitVec 32 := 0#32
  let c64_i32_1081 : BitVec 32 := 64#32
  let v2703 : BitVec 32 := Scalar.addi c0_i32_1080 c64_i32_1081
  let c1_i32_1082 : BitVec 32 := 1#32
  ⟨c0_i32_1080, v2703, c1_i32_1082⟩
def k0_off50 (k0_t2 : Fin k0_t2_loop.trips) : Fin 3 → Nat :=
  let c0_1480 : Index := 0#32
  let c0_i32_1080 : BitVec 32 := 0#32
  let c1_i32_1082 : BitVec 32 := 1#32
  let arg13 : BitVec 32 := Scf.iv c0_i32_1080 c1_i32_1082 k0_t2
  let v3236 : Index := Scalar.indexCast arg13
  let c0_1481 : Index := 0#32
  ![0, v3236.toNat, 0]
def k0_off51 (k0_t2 : Fin k0_t2_loop.trips) : Fin 3 → Nat :=
  let c1_1482 : Index := 1#32
  let c0_i32_1080 : BitVec 32 := 0#32
  let c1_i32_1082 : BitVec 32 := 1#32
  let arg13 : BitVec 32 := Scf.iv c0_i32_1080 c1_i32_1082 k0_t2
  let v3239 : Index := Scalar.indexCast arg13
  let c0_1483 : Index := 0#32
  ![1, v3239.toNat, 0]
def k0_off52 (k0_t1 : Fin k0_t1_loop.trips) : Fin 3 → Nat :=
  let c0_1090 : Index := 0#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2711 : Index := Scalar.indexCast v20
  let c128_1091 : Index := 128#32
  ![0, v2711.toNat, 128]
@[reducible] def k0_t3_loop : Scf.Loop 32 :=
  let c0_i32_1106 : BitVec 32 := 0#32
  let c64_i32_1107 : BitVec 32 := 64#32
  let v2738 : BitVec 32 := Scalar.addi c0_i32_1106 c64_i32_1107
  let c1_i32_1108 : BitVec 32 := 1#32
  ⟨c0_i32_1106, v2738, c1_i32_1108⟩
def k0_off53 (k0_t3 : Fin k0_t3_loop.trips) : Fin 3 → Nat :=
  let c0_1480 : Index := 0#32
  let c0_i32_1106 : BitVec 32 := 0#32
  let c1_i32_1108 : BitVec 32 := 1#32
  let arg13 : BitVec 32 := Scf.iv c0_i32_1106 c1_i32_1108 k0_t3
  let v3236 : Index := Scalar.indexCast arg13
  let c0_1481 : Index := 0#32
  ![0, v3236.toNat, 0]
def k0_off54 (k0_t3 : Fin k0_t3_loop.trips) : Fin 3 → Nat :=
  let c1_1482 : Index := 1#32
  let c0_i32_1106 : BitVec 32 := 0#32
  let c1_i32_1108 : BitVec 32 := 1#32
  let arg13 : BitVec 32 := Scf.iv c0_i32_1106 c1_i32_1108 k0_t3
  let v3239 : Index := Scalar.indexCast arg13
  let c0_1483 : Index := 0#32
  ![1, v3239.toNat, 0]
def k0_off55 (k0_t1 : Fin k0_t1_loop.trips) : Fin 3 → Nat :=
  let c1_1116 : Index := 1#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2746 : Index := Scalar.indexCast v20
  let c0_1117 : Index := 0#32
  ![1, v2746.toNat, 0]
@[reducible] def k0_t4_loop : Scf.Loop 32 :=
  let c0_i32_1132 : BitVec 32 := 0#32
  let c64_i32_1133 : BitVec 32 := 64#32
  let v2773 : BitVec 32 := Scalar.addi c0_i32_1132 c64_i32_1133
  let c1_i32_1134 : BitVec 32 := 1#32
  ⟨c0_i32_1132, v2773, c1_i32_1134⟩
def k0_off56 (k0_t4 : Fin k0_t4_loop.trips) : Fin 3 → Nat :=
  let c0_1480 : Index := 0#32
  let c0_i32_1132 : BitVec 32 := 0#32
  let c1_i32_1134 : BitVec 32 := 1#32
  let arg13 : BitVec 32 := Scf.iv c0_i32_1132 c1_i32_1134 k0_t4
  let v3236 : Index := Scalar.indexCast arg13
  let c0_1481 : Index := 0#32
  ![0, v3236.toNat, 0]
def k0_off57 (k0_t4 : Fin k0_t4_loop.trips) : Fin 3 → Nat :=
  let c1_1482 : Index := 1#32
  let c0_i32_1132 : BitVec 32 := 0#32
  let c1_i32_1134 : BitVec 32 := 1#32
  let arg13 : BitVec 32 := Scf.iv c0_i32_1132 c1_i32_1134 k0_t4
  let v3239 : Index := Scalar.indexCast arg13
  let c0_1483 : Index := 0#32
  ![1, v3239.toNat, 0]
def k0_off58 (k0_t1 : Fin k0_t1_loop.trips) : Fin 3 → Nat :=
  let c1_1142 : Index := 1#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2781 : Index := Scalar.indexCast v20
  let c128_1143 : Index := 128#32
  ![1, v2781.toNat, 128]
@[reducible] def k0_t5_loop : Scf.Loop 32 :=
  let c0_i32_1158 : BitVec 32 := 0#32
  let c64_i32_1159 : BitVec 32 := 64#32
  let v2808 : BitVec 32 := Scalar.addi c0_i32_1158 c64_i32_1159
  let c1_i32_1160 : BitVec 32 := 1#32
  ⟨c0_i32_1158, v2808, c1_i32_1160⟩
def k0_off59 (k0_t5 : Fin k0_t5_loop.trips) : Fin 3 → Nat :=
  let c0_1480 : Index := 0#32
  let c0_i32_1158 : BitVec 32 := 0#32
  let c1_i32_1160 : BitVec 32 := 1#32
  let arg13 : BitVec 32 := Scf.iv c0_i32_1158 c1_i32_1160 k0_t5
  let v3236 : Index := Scalar.indexCast arg13
  let c0_1481 : Index := 0#32
  ![0, v3236.toNat, 0]
def k0_off60 (k0_t5 : Fin k0_t5_loop.trips) : Fin 3 → Nat :=
  let c1_1482 : Index := 1#32
  let c0_i32_1158 : BitVec 32 := 0#32
  let c1_i32_1160 : BitVec 32 := 1#32
  let arg13 : BitVec 32 := Scf.iv c0_i32_1158 c1_i32_1160 k0_t5
  let v3239 : Index := Scalar.indexCast arg13
  let c0_1483 : Index := 0#32
  ![1, v3239.toNat, 0]
def k0_off61 (k0_t1 : Fin k0_t1_loop.trips) : Fin 3 → Nat :=
  let c2_1168 : Index := 2#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2816 : Index := Scalar.indexCast v20
  let c0_1169 : Index := 0#32
  ![2, v2816.toNat, 0]
@[reducible] def k0_t6_loop : Scf.Loop 32 :=
  let c0_i32_1184 : BitVec 32 := 0#32
  let c64_i32_1185 : BitVec 32 := 64#32
  let v2843 : BitVec 32 := Scalar.addi c0_i32_1184 c64_i32_1185
  let c1_i32_1186 : BitVec 32 := 1#32
  ⟨c0_i32_1184, v2843, c1_i32_1186⟩
def k0_off62 (k0_t6 : Fin k0_t6_loop.trips) : Fin 3 → Nat :=
  let c0_1480 : Index := 0#32
  let c0_i32_1184 : BitVec 32 := 0#32
  let c1_i32_1186 : BitVec 32 := 1#32
  let arg13 : BitVec 32 := Scf.iv c0_i32_1184 c1_i32_1186 k0_t6
  let v3236 : Index := Scalar.indexCast arg13
  let c0_1481 : Index := 0#32
  ![0, v3236.toNat, 0]
def k0_off63 (k0_t6 : Fin k0_t6_loop.trips) : Fin 3 → Nat :=
  let c1_1482 : Index := 1#32
  let c0_i32_1184 : BitVec 32 := 0#32
  let c1_i32_1186 : BitVec 32 := 1#32
  let arg13 : BitVec 32 := Scf.iv c0_i32_1184 c1_i32_1186 k0_t6
  let v3239 : Index := Scalar.indexCast arg13
  let c0_1483 : Index := 0#32
  ![1, v3239.toNat, 0]
def k0_off64 (k0_t1 : Fin k0_t1_loop.trips) : Fin 3 → Nat :=
  let c2_1194 : Index := 2#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2851 : Index := Scalar.indexCast v20
  let c128_1195 : Index := 128#32
  ![2, v2851.toNat, 128]
@[reducible] def k0_t7_loop : Scf.Loop 32 :=
  let c0_i32_1210 : BitVec 32 := 0#32
  let c64_i32_1211 : BitVec 32 := 64#32
  let v2878 : BitVec 32 := Scalar.addi c0_i32_1210 c64_i32_1211
  let c1_i32_1212 : BitVec 32 := 1#32
  ⟨c0_i32_1210, v2878, c1_i32_1212⟩
def k0_off65 (k0_t7 : Fin k0_t7_loop.trips) : Fin 3 → Nat :=
  let c0_1480 : Index := 0#32
  let c0_i32_1210 : BitVec 32 := 0#32
  let c1_i32_1212 : BitVec 32 := 1#32
  let arg13 : BitVec 32 := Scf.iv c0_i32_1210 c1_i32_1212 k0_t7
  let v3236 : Index := Scalar.indexCast arg13
  let c0_1481 : Index := 0#32
  ![0, v3236.toNat, 0]
def k0_off66 (k0_t7 : Fin k0_t7_loop.trips) : Fin 3 → Nat :=
  let c1_1482 : Index := 1#32
  let c0_i32_1210 : BitVec 32 := 0#32
  let c1_i32_1212 : BitVec 32 := 1#32
  let arg13 : BitVec 32 := Scf.iv c0_i32_1210 c1_i32_1212 k0_t7
  let v3239 : Index := Scalar.indexCast arg13
  let c0_1483 : Index := 0#32
  ![1, v3239.toNat, 0]
def k0_off67 (k0_t1 : Fin k0_t1_loop.trips) : Fin 3 → Nat :=
  let c3_1220 : Index := 3#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2886 : Index := Scalar.indexCast v20
  let c0_1221 : Index := 0#32
  ![3, v2886.toNat, 0]
@[reducible] def k0_t8_loop : Scf.Loop 32 :=
  let c0_i32_1236 : BitVec 32 := 0#32
  let c64_i32_1237 : BitVec 32 := 64#32
  let v2913 : BitVec 32 := Scalar.addi c0_i32_1236 c64_i32_1237
  let c1_i32_1238 : BitVec 32 := 1#32
  ⟨c0_i32_1236, v2913, c1_i32_1238⟩
def k0_off68 (k0_t8 : Fin k0_t8_loop.trips) : Fin 3 → Nat :=
  let c0_1480 : Index := 0#32
  let c0_i32_1236 : BitVec 32 := 0#32
  let c1_i32_1238 : BitVec 32 := 1#32
  let arg13 : BitVec 32 := Scf.iv c0_i32_1236 c1_i32_1238 k0_t8
  let v3236 : Index := Scalar.indexCast arg13
  let c0_1481 : Index := 0#32
  ![0, v3236.toNat, 0]
def k0_off69 (k0_t8 : Fin k0_t8_loop.trips) : Fin 3 → Nat :=
  let c1_1482 : Index := 1#32
  let c0_i32_1236 : BitVec 32 := 0#32
  let c1_i32_1238 : BitVec 32 := 1#32
  let arg13 : BitVec 32 := Scf.iv c0_i32_1236 c1_i32_1238 k0_t8
  let v3239 : Index := Scalar.indexCast arg13
  let c0_1483 : Index := 0#32
  ![1, v3239.toNat, 0]
def k0_off70 (k0_t1 : Fin k0_t1_loop.trips) : Fin 3 → Nat :=
  let c3_1246 : Index := 3#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2921 : Index := Scalar.indexCast v20
  let c128_1247 : Index := 128#32
  ![3, v2921.toNat, 128]
@[reducible] def k0_t9_loop : Scf.Loop 32 :=
  let c0_i32_1262 : BitVec 32 := 0#32
  let c64_i32_1263 : BitVec 32 := 64#32
  let v2948 : BitVec 32 := Scalar.addi c0_i32_1262 c64_i32_1263
  let c1_i32_1264 : BitVec 32 := 1#32
  ⟨c0_i32_1262, v2948, c1_i32_1264⟩
def k0_off71 (k0_t9 : Fin k0_t9_loop.trips) : Fin 3 → Nat :=
  let c0_1480 : Index := 0#32
  let c0_i32_1262 : BitVec 32 := 0#32
  let c1_i32_1264 : BitVec 32 := 1#32
  let arg13 : BitVec 32 := Scf.iv c0_i32_1262 c1_i32_1264 k0_t9
  let v3236 : Index := Scalar.indexCast arg13
  let c0_1481 : Index := 0#32
  ![0, v3236.toNat, 0]
def k0_off72 (k0_t9 : Fin k0_t9_loop.trips) : Fin 3 → Nat :=
  let c1_1482 : Index := 1#32
  let c0_i32_1262 : BitVec 32 := 0#32
  let c1_i32_1264 : BitVec 32 := 1#32
  let arg13 : BitVec 32 := Scf.iv c0_i32_1262 c1_i32_1264 k0_t9
  let v3239 : Index := Scalar.indexCast arg13
  let c0_1483 : Index := 0#32
  ![1, v3239.toNat, 0]
def k0_off73 (k0_t1 : Fin k0_t1_loop.trips) : Fin 3 → Nat :=
  let c4_1272 : Index := 4#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2956 : Index := Scalar.indexCast v20
  let c0_1273 : Index := 0#32
  ![4, v2956.toNat, 0]
@[reducible] def k0_t10_loop : Scf.Loop 32 :=
  let c0_i32_1288 : BitVec 32 := 0#32
  let c64_i32_1289 : BitVec 32 := 64#32
  let v2983 : BitVec 32 := Scalar.addi c0_i32_1288 c64_i32_1289
  let c1_i32_1290 : BitVec 32 := 1#32
  ⟨c0_i32_1288, v2983, c1_i32_1290⟩
def k0_off74 (k0_t10 : Fin k0_t10_loop.trips) : Fin 3 → Nat :=
  let c0_1480 : Index := 0#32
  let c0_i32_1288 : BitVec 32 := 0#32
  let c1_i32_1290 : BitVec 32 := 1#32
  let arg13 : BitVec 32 := Scf.iv c0_i32_1288 c1_i32_1290 k0_t10
  let v3236 : Index := Scalar.indexCast arg13
  let c0_1481 : Index := 0#32
  ![0, v3236.toNat, 0]
def k0_off75 (k0_t10 : Fin k0_t10_loop.trips) : Fin 3 → Nat :=
  let c1_1482 : Index := 1#32
  let c0_i32_1288 : BitVec 32 := 0#32
  let c1_i32_1290 : BitVec 32 := 1#32
  let arg13 : BitVec 32 := Scf.iv c0_i32_1288 c1_i32_1290 k0_t10
  let v3239 : Index := Scalar.indexCast arg13
  let c0_1483 : Index := 0#32
  ![1, v3239.toNat, 0]
def k0_off76 (k0_t1 : Fin k0_t1_loop.trips) : Fin 3 → Nat :=
  let c4_1298 : Index := 4#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2991 : Index := Scalar.indexCast v20
  let c128_1299 : Index := 128#32
  ![4, v2991.toNat, 128]
@[reducible] def k0_t11_loop : Scf.Loop 32 :=
  let c0_i32_1314 : BitVec 32 := 0#32
  let c64_i32_1315 : BitVec 32 := 64#32
  let v3018 : BitVec 32 := Scalar.addi c0_i32_1314 c64_i32_1315
  let c1_i32_1316 : BitVec 32 := 1#32
  ⟨c0_i32_1314, v3018, c1_i32_1316⟩
def k0_off77 (k0_t11 : Fin k0_t11_loop.trips) : Fin 3 → Nat :=
  let c0_1480 : Index := 0#32
  let c0_i32_1314 : BitVec 32 := 0#32
  let c1_i32_1316 : BitVec 32 := 1#32
  let arg13 : BitVec 32 := Scf.iv c0_i32_1314 c1_i32_1316 k0_t11
  let v3236 : Index := Scalar.indexCast arg13
  let c0_1481 : Index := 0#32
  ![0, v3236.toNat, 0]
def k0_off78 (k0_t11 : Fin k0_t11_loop.trips) : Fin 3 → Nat :=
  let c1_1482 : Index := 1#32
  let c0_i32_1314 : BitVec 32 := 0#32
  let c1_i32_1316 : BitVec 32 := 1#32
  let arg13 : BitVec 32 := Scf.iv c0_i32_1314 c1_i32_1316 k0_t11
  let v3239 : Index := Scalar.indexCast arg13
  let c0_1483 : Index := 0#32
  ![1, v3239.toNat, 0]
def k0_off79 (k0_t1 : Fin k0_t1_loop.trips) : Fin 3 → Nat :=
  let c5_1324 : Index := 5#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v3026 : Index := Scalar.indexCast v20
  let c0_1325 : Index := 0#32
  ![5, v3026.toNat, 0]
@[reducible] def k0_t12_loop : Scf.Loop 32 :=
  let c0_i32_1340 : BitVec 32 := 0#32
  let c64_i32_1341 : BitVec 32 := 64#32
  let v3053 : BitVec 32 := Scalar.addi c0_i32_1340 c64_i32_1341
  let c1_i32_1342 : BitVec 32 := 1#32
  ⟨c0_i32_1340, v3053, c1_i32_1342⟩
def k0_off80 (k0_t12 : Fin k0_t12_loop.trips) : Fin 3 → Nat :=
  let c0_1480 : Index := 0#32
  let c0_i32_1340 : BitVec 32 := 0#32
  let c1_i32_1342 : BitVec 32 := 1#32
  let arg13 : BitVec 32 := Scf.iv c0_i32_1340 c1_i32_1342 k0_t12
  let v3236 : Index := Scalar.indexCast arg13
  let c0_1481 : Index := 0#32
  ![0, v3236.toNat, 0]
def k0_off81 (k0_t12 : Fin k0_t12_loop.trips) : Fin 3 → Nat :=
  let c1_1482 : Index := 1#32
  let c0_i32_1340 : BitVec 32 := 0#32
  let c1_i32_1342 : BitVec 32 := 1#32
  let arg13 : BitVec 32 := Scf.iv c0_i32_1340 c1_i32_1342 k0_t12
  let v3239 : Index := Scalar.indexCast arg13
  let c0_1483 : Index := 0#32
  ![1, v3239.toNat, 0]
def k0_off82 (k0_t1 : Fin k0_t1_loop.trips) : Fin 3 → Nat :=
  let c5_1350 : Index := 5#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v3061 : Index := Scalar.indexCast v20
  let c128_1351 : Index := 128#32
  ![5, v3061.toNat, 128]
@[reducible] def k0_t13_loop : Scf.Loop 32 :=
  let c0_i32_1366 : BitVec 32 := 0#32
  let c64_i32_1367 : BitVec 32 := 64#32
  let v3088 : BitVec 32 := Scalar.addi c0_i32_1366 c64_i32_1367
  let c1_i32_1368 : BitVec 32 := 1#32
  ⟨c0_i32_1366, v3088, c1_i32_1368⟩
def k0_off83 (k0_t13 : Fin k0_t13_loop.trips) : Fin 3 → Nat :=
  let c0_1480 : Index := 0#32
  let c0_i32_1366 : BitVec 32 := 0#32
  let c1_i32_1368 : BitVec 32 := 1#32
  let arg13 : BitVec 32 := Scf.iv c0_i32_1366 c1_i32_1368 k0_t13
  let v3236 : Index := Scalar.indexCast arg13
  let c0_1481 : Index := 0#32
  ![0, v3236.toNat, 0]
def k0_off84 (k0_t13 : Fin k0_t13_loop.trips) : Fin 3 → Nat :=
  let c1_1482 : Index := 1#32
  let c0_i32_1366 : BitVec 32 := 0#32
  let c1_i32_1368 : BitVec 32 := 1#32
  let arg13 : BitVec 32 := Scf.iv c0_i32_1366 c1_i32_1368 k0_t13
  let v3239 : Index := Scalar.indexCast arg13
  let c0_1483 : Index := 0#32
  ![1, v3239.toNat, 0]
def k0_off85 (k0_t1 : Fin k0_t1_loop.trips) : Fin 3 → Nat :=
  let c6_1376 : Index := 6#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v3096 : Index := Scalar.indexCast v20
  let c0_1377 : Index := 0#32
  ![6, v3096.toNat, 0]
@[reducible] def k0_t14_loop : Scf.Loop 32 :=
  let c0_i32_1392 : BitVec 32 := 0#32
  let c64_i32_1393 : BitVec 32 := 64#32
  let v3123 : BitVec 32 := Scalar.addi c0_i32_1392 c64_i32_1393
  let c1_i32_1394 : BitVec 32 := 1#32
  ⟨c0_i32_1392, v3123, c1_i32_1394⟩
def k0_off86 (k0_t14 : Fin k0_t14_loop.trips) : Fin 3 → Nat :=
  let c0_1480 : Index := 0#32
  let c0_i32_1392 : BitVec 32 := 0#32
  let c1_i32_1394 : BitVec 32 := 1#32
  let arg13 : BitVec 32 := Scf.iv c0_i32_1392 c1_i32_1394 k0_t14
  let v3236 : Index := Scalar.indexCast arg13
  let c0_1481 : Index := 0#32
  ![0, v3236.toNat, 0]
def k0_off87 (k0_t14 : Fin k0_t14_loop.trips) : Fin 3 → Nat :=
  let c1_1482 : Index := 1#32
  let c0_i32_1392 : BitVec 32 := 0#32
  let c1_i32_1394 : BitVec 32 := 1#32
  let arg13 : BitVec 32 := Scf.iv c0_i32_1392 c1_i32_1394 k0_t14
  let v3239 : Index := Scalar.indexCast arg13
  let c0_1483 : Index := 0#32
  ![1, v3239.toNat, 0]
def k0_off88 (k0_t1 : Fin k0_t1_loop.trips) : Fin 3 → Nat :=
  let c6_1402 : Index := 6#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v3131 : Index := Scalar.indexCast v20
  let c128_1403 : Index := 128#32
  ![6, v3131.toNat, 128]
@[reducible] def k0_t15_loop : Scf.Loop 32 :=
  let c0_i32_1418 : BitVec 32 := 0#32
  let c64_i32_1419 : BitVec 32 := 64#32
  let v3158 : BitVec 32 := Scalar.addi c0_i32_1418 c64_i32_1419
  let c1_i32_1420 : BitVec 32 := 1#32
  ⟨c0_i32_1418, v3158, c1_i32_1420⟩
def k0_off89 (k0_t15 : Fin k0_t15_loop.trips) : Fin 3 → Nat :=
  let c0_1480 : Index := 0#32
  let c0_i32_1418 : BitVec 32 := 0#32
  let c1_i32_1420 : BitVec 32 := 1#32
  let arg13 : BitVec 32 := Scf.iv c0_i32_1418 c1_i32_1420 k0_t15
  let v3236 : Index := Scalar.indexCast arg13
  let c0_1481 : Index := 0#32
  ![0, v3236.toNat, 0]
def k0_off90 (k0_t15 : Fin k0_t15_loop.trips) : Fin 3 → Nat :=
  let c1_1482 : Index := 1#32
  let c0_i32_1418 : BitVec 32 := 0#32
  let c1_i32_1420 : BitVec 32 := 1#32
  let arg13 : BitVec 32 := Scf.iv c0_i32_1418 c1_i32_1420 k0_t15
  let v3239 : Index := Scalar.indexCast arg13
  let c0_1483 : Index := 0#32
  ![1, v3239.toNat, 0]
def k0_off91 (k0_t1 : Fin k0_t1_loop.trips) : Fin 3 → Nat :=
  let c7_1428 : Index := 7#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v3166 : Index := Scalar.indexCast v20
  let c0_1429 : Index := 0#32
  ![7, v3166.toNat, 0]
@[reducible] def k0_t16_loop : Scf.Loop 32 :=
  let c0_i32_1444 : BitVec 32 := 0#32
  let c64_i32_1445 : BitVec 32 := 64#32
  let v3193 : BitVec 32 := Scalar.addi c0_i32_1444 c64_i32_1445
  let c1_i32_1446 : BitVec 32 := 1#32
  ⟨c0_i32_1444, v3193, c1_i32_1446⟩
def k0_off92 (k0_t16 : Fin k0_t16_loop.trips) : Fin 3 → Nat :=
  let c0_1480 : Index := 0#32
  let c0_i32_1444 : BitVec 32 := 0#32
  let c1_i32_1446 : BitVec 32 := 1#32
  let arg13 : BitVec 32 := Scf.iv c0_i32_1444 c1_i32_1446 k0_t16
  let v3236 : Index := Scalar.indexCast arg13
  let c0_1481 : Index := 0#32
  ![0, v3236.toNat, 0]
def k0_off93 (k0_t16 : Fin k0_t16_loop.trips) : Fin 3 → Nat :=
  let c1_1482 : Index := 1#32
  let c0_i32_1444 : BitVec 32 := 0#32
  let c1_i32_1446 : BitVec 32 := 1#32
  let arg13 : BitVec 32 := Scf.iv c0_i32_1444 c1_i32_1446 k0_t16
  let v3239 : Index := Scalar.indexCast arg13
  let c0_1483 : Index := 0#32
  ![1, v3239.toNat, 0]
def k0_off94 (k0_t1 : Fin k0_t1_loop.trips) : Fin 3 → Nat :=
  let c7_1454 : Index := 7#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v3201 : Index := Scalar.indexCast v20
  let c128_1455 : Index := 128#32
  ![7, v3201.toNat, 128]
@[reducible] def k0_t17_loop : Scf.Loop 32 :=
  let c0_i32_1470 : BitVec 32 := 0#32
  let c64_i32_1471 : BitVec 32 := 64#32
  let v3228 : BitVec 32 := Scalar.addi c0_i32_1470 c64_i32_1471
  let c1_i32_1472 : BitVec 32 := 1#32
  ⟨c0_i32_1470, v3228, c1_i32_1472⟩
def k0_off95 (k0_t17 : Fin k0_t17_loop.trips) : Fin 3 → Nat :=
  let c0_1480 : Index := 0#32
  let c0_i32_1470 : BitVec 32 := 0#32
  let c1_i32_1472 : BitVec 32 := 1#32
  let arg13 : BitVec 32 := Scf.iv c0_i32_1470 c1_i32_1472 k0_t17
  let v3236 : Index := Scalar.indexCast arg13
  let c0_1481 : Index := 0#32
  ![0, v3236.toNat, 0]
def k0_off96 (k0_t17 : Fin k0_t17_loop.trips) : Fin 3 → Nat :=
  let c1_1482 : Index := 1#32
  let c0_i32_1470 : BitVec 32 := 0#32
  let c1_i32_1472 : BitVec 32 := 1#32
  let arg13 : BitVec 32 := Scf.iv c0_i32_1470 c1_i32_1472 k0_t17
  let v3239 : Index := Scalar.indexCast arg13
  let c0_1483 : Index := 0#32
  ![1, v3239.toNat, 0]
def k0_off97 (k0_t1 : Fin k0_t1_loop.trips) : Fin 3 → Nat :=
  let c0_719 : Index := 0#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v1796 : Index := Scalar.indexCast v20
  let c0_720 : Index := 0#32
  ![0, v1796.toNat, 0]
def k0_off98 (k0_t1 : Fin k0_t1_loop.trips) : Fin 3 → Nat :=
  let c0_730 : Index := 0#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v1824 : Index := Scalar.indexCast v20
  let c128_731 : Index := 128#32
  ![0, v1824.toNat, 128]
def k0_off99 (k0_t1 : Fin k0_t1_loop.trips) : Fin 3 → Nat :=
  let c0_741 : Index := 0#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v1852 : Index := Scalar.indexCast v20
  let c256_742 : Index := 256#32
  ![0, v1852.toNat, 256]
def k0_off100 (k0_t1 : Fin k0_t1_loop.trips) : Fin 3 → Nat :=
  let c0_752 : Index := 0#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v1880 : Index := Scalar.indexCast v20
  let c384_753 : Index := 384#32
  ![0, v1880.toNat, 384]
def k0_off101 (k0_t1 : Fin k0_t1_loop.trips) : Fin 3 → Nat :=
  let c1_763 : Index := 1#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v1908 : Index := Scalar.indexCast v20
  let c0_764 : Index := 0#32
  ![1, v1908.toNat, 0]
def k0_off102 (k0_t1 : Fin k0_t1_loop.trips) : Fin 3 → Nat :=
  let c1_774 : Index := 1#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v1936 : Index := Scalar.indexCast v20
  let c128_775 : Index := 128#32
  ![1, v1936.toNat, 128]
def k0_off103 (k0_t1 : Fin k0_t1_loop.trips) : Fin 3 → Nat :=
  let c1_785 : Index := 1#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v1964 : Index := Scalar.indexCast v20
  let c256_786 : Index := 256#32
  ![1, v1964.toNat, 256]
def k0_off104 (k0_t1 : Fin k0_t1_loop.trips) : Fin 3 → Nat :=
  let c1_796 : Index := 1#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v1992 : Index := Scalar.indexCast v20
  let c384_797 : Index := 384#32
  ![1, v1992.toNat, 384]
def k0_off105 (k0_t1 : Fin k0_t1_loop.trips) : Fin 3 → Nat :=
  let c2_807 : Index := 2#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2020 : Index := Scalar.indexCast v20
  let c0_808 : Index := 0#32
  ![2, v2020.toNat, 0]
def k0_off106 (k0_t1 : Fin k0_t1_loop.trips) : Fin 3 → Nat :=
  let c2_818 : Index := 2#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2048 : Index := Scalar.indexCast v20
  let c128_819 : Index := 128#32
  ![2, v2048.toNat, 128]
def k0_off107 (k0_t1 : Fin k0_t1_loop.trips) : Fin 3 → Nat :=
  let c2_829 : Index := 2#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2076 : Index := Scalar.indexCast v20
  let c256_830 : Index := 256#32
  ![2, v2076.toNat, 256]
def k0_off108 (k0_t1 : Fin k0_t1_loop.trips) : Fin 3 → Nat :=
  let c2_840 : Index := 2#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2104 : Index := Scalar.indexCast v20
  let c384_841 : Index := 384#32
  ![2, v2104.toNat, 384]
def k0_off109 (k0_t1 : Fin k0_t1_loop.trips) : Fin 3 → Nat :=
  let c3_851 : Index := 3#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2132 : Index := Scalar.indexCast v20
  let c0_852 : Index := 0#32
  ![3, v2132.toNat, 0]
def k0_off110 (k0_t1 : Fin k0_t1_loop.trips) : Fin 3 → Nat :=
  let c3_862 : Index := 3#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2160 : Index := Scalar.indexCast v20
  let c128_863 : Index := 128#32
  ![3, v2160.toNat, 128]
def k0_off111 (k0_t1 : Fin k0_t1_loop.trips) : Fin 3 → Nat :=
  let c3_873 : Index := 3#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2188 : Index := Scalar.indexCast v20
  let c256_874 : Index := 256#32
  ![3, v2188.toNat, 256]
def k0_off112 (k0_t1 : Fin k0_t1_loop.trips) : Fin 3 → Nat :=
  let c3_884 : Index := 3#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2216 : Index := Scalar.indexCast v20
  let c384_885 : Index := 384#32
  ![3, v2216.toNat, 384]
def k0_off113 (k0_t1 : Fin k0_t1_loop.trips) : Fin 3 → Nat :=
  let c4_895 : Index := 4#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2244 : Index := Scalar.indexCast v20
  let c0_896 : Index := 0#32
  ![4, v2244.toNat, 0]
def k0_off114 (k0_t1 : Fin k0_t1_loop.trips) : Fin 3 → Nat :=
  let c4_906 : Index := 4#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2272 : Index := Scalar.indexCast v20
  let c128_907 : Index := 128#32
  ![4, v2272.toNat, 128]
def k0_off115 (k0_t1 : Fin k0_t1_loop.trips) : Fin 3 → Nat :=
  let c4_917 : Index := 4#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2300 : Index := Scalar.indexCast v20
  let c256_918 : Index := 256#32
  ![4, v2300.toNat, 256]
def k0_off116 (k0_t1 : Fin k0_t1_loop.trips) : Fin 3 → Nat :=
  let c4_928 : Index := 4#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2328 : Index := Scalar.indexCast v20
  let c384_929 : Index := 384#32
  ![4, v2328.toNat, 384]
def k0_off117 (k0_t1 : Fin k0_t1_loop.trips) : Fin 3 → Nat :=
  let c5_939 : Index := 5#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2356 : Index := Scalar.indexCast v20
  let c0_940 : Index := 0#32
  ![5, v2356.toNat, 0]
def k0_off118 (k0_t1 : Fin k0_t1_loop.trips) : Fin 3 → Nat :=
  let c5_950 : Index := 5#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2384 : Index := Scalar.indexCast v20
  let c128_951 : Index := 128#32
  ![5, v2384.toNat, 128]
def k0_off119 (k0_t1 : Fin k0_t1_loop.trips) : Fin 3 → Nat :=
  let c5_961 : Index := 5#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2412 : Index := Scalar.indexCast v20
  let c256_962 : Index := 256#32
  ![5, v2412.toNat, 256]
def k0_off120 (k0_t1 : Fin k0_t1_loop.trips) : Fin 3 → Nat :=
  let c5_972 : Index := 5#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2440 : Index := Scalar.indexCast v20
  let c384_973 : Index := 384#32
  ![5, v2440.toNat, 384]
def k0_off121 (k0_t1 : Fin k0_t1_loop.trips) : Fin 3 → Nat :=
  let c6_983 : Index := 6#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2468 : Index := Scalar.indexCast v20
  let c0_984 : Index := 0#32
  ![6, v2468.toNat, 0]
def k0_off122 (k0_t1 : Fin k0_t1_loop.trips) : Fin 3 → Nat :=
  let c6_994 : Index := 6#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2496 : Index := Scalar.indexCast v20
  let c128_995 : Index := 128#32
  ![6, v2496.toNat, 128]
def k0_off123 (k0_t1 : Fin k0_t1_loop.trips) : Fin 3 → Nat :=
  let c6_1005 : Index := 6#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2524 : Index := Scalar.indexCast v20
  let c256_1006 : Index := 256#32
  ![6, v2524.toNat, 256]
def k0_off124 (k0_t1 : Fin k0_t1_loop.trips) : Fin 3 → Nat :=
  let c6_1016 : Index := 6#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2552 : Index := Scalar.indexCast v20
  let c384_1017 : Index := 384#32
  ![6, v2552.toNat, 384]
def k0_off125 (k0_t1 : Fin k0_t1_loop.trips) : Fin 3 → Nat :=
  let c7_1027 : Index := 7#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2580 : Index := Scalar.indexCast v20
  let c0_1028 : Index := 0#32
  ![7, v2580.toNat, 0]
def k0_off126 (k0_t1 : Fin k0_t1_loop.trips) : Fin 3 → Nat :=
  let c7_1038 : Index := 7#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2608 : Index := Scalar.indexCast v20
  let c128_1039 : Index := 128#32
  ![7, v2608.toNat, 128]
def k0_off127 (k0_t1 : Fin k0_t1_loop.trips) : Fin 3 → Nat :=
  let c7_1049 : Index := 7#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2636 : Index := Scalar.indexCast v20
  let c256_1050 : Index := 256#32
  ![7, v2636.toNat, 256]
def k0_off128 (k0_t1 : Fin k0_t1_loop.trips) : Fin 3 → Nat :=
  let c7_1060 : Index := 7#32
  let c0_i32_3 : BitVec 32 := 0#32
  let c1_i32 : BitVec 32 := 1#32
  let arg12 : BitVec 32 := Scf.iv c0_i32_3 c1_i32 k0_t1
  let c64_i32_5 : BitVec 32 := 64#32
  let v19 : BitVec 32 := Scalar.muli arg12 c64_i32_5
  let v20 : BitVec 32 := v19
  let v2664 : Index := Scalar.indexCast v20
  let c384_1061 : Index := 384#32
  ![7, v2664.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel6.lean ====
abbrev S17408x128 : Shape := ⟨2, ![17408, 128]⟩
abbrev S136x128x128 : Shape := ⟨3, ![136, 128, 128]⟩
abbrev S17408x512 : Shape := ⟨2, ![17408, 512]⟩
abbrev S136x8x128 : Shape := ⟨3, ![136, 8, 128]⟩
abbrev S8x17x128x128 : Shape := ⟨4, ![8, 17, 128, 128]⟩
abbrev S8x17x128x512 : Shape := ⟨4, ![8, 17, 128, 512]⟩
abbrev S8x17x8x128 : Shape := ⟨4, ![8, 17, 8, 128]⟩
abbrev S4x17x128x128 : Shape := ⟨4, ![4, 17, 128, 128]⟩
abbrev S4x1x128x512 : Shape := ⟨4, ![4, 1, 128, 512]⟩
abbrev S4x1x8x128 : Shape := ⟨4, ![4, 1, 8, 128]⟩
abbrev S4x2304x128 : Shape := ⟨3, ![4, 2304, 128]⟩
abbrev S4x1024x128 : Shape := ⟨3, ![4, 1024, 128]⟩
abbrev S4x1x1024 : Shape := ⟨3, ![4, 1, 1024]⟩
abbrev S4x2x80x512 : Shape := ⟨4, ![4, 2, 80, 512]⟩
abbrev S4x9x32x8x128 : Shape := ⟨5, ![4, 9, 32, 8, 128]⟩
abbrev S4x1x128 : Shape := ⟨3, ![4, 1, 128]⟩
abbrev S1x128 : Shape := ⟨2, ![1, 128]⟩
abbrev S128x128 : Shape := ⟨2, ![128, 128]⟩
abbrev S1x1x128x128 : Shape := ⟨4, ![1, 1, 128, 128]⟩
abbrev S1x128x128 : Shape := ⟨3, ![1, 128, 128]⟩
abbrev S1x1x1x128 : Shape := ⟨4, ![1, 1, 1, 128]⟩
abbrev S1x1x128 : Shape := ⟨3, ![1, 1, 128]⟩
abbrev S256x1 : Shape := ⟨2, ![256, 1]⟩
abbrev S256x128 : Shape := ⟨2, ![256, 128]⟩
abbrev S1x1024x128 : Shape := ⟨3, ![1, 1024, 128]⟩
abbrev S1024x128 : Shape := ⟨2, ![1024, 128]⟩
abbrev S256x1024 : Shape := ⟨2, ![256, 1024]⟩
abbrev S1x1x1024 : Shape := ⟨3, ![1, 1, 1024]⟩
abbrev S1x1024 : Shape := ⟨2, ![1, 1024]⟩
abbrev S1x256x128 : Shape := ⟨3, ![1, 256, 128]⟩
abbrev S8x128 : Shape := ⟨2, ![8, 128]⟩
abbrev S1x1x1x8x128 : Shape := ⟨5, ![1, 1, 1, 8, 128]⟩
abbrev S128 : Shape := ⟨1, ![128]⟩
abbrev S1 : Shape := ⟨1, ![1]⟩
abbrev S1x1x1 : Shape := ⟨3, ![1, 1, 1]⟩
abbrev S256x256 : Shape := ⟨2, ![256, 256]⟩
abbrev S16x256 : Shape := ⟨2, ![16, 256]⟩
abbrev S1024 : Shape := ⟨1, ![1024]⟩
abbrev S128x256 : Shape := ⟨2, ![128, 256]⟩
abbrev S64x256 : Shape := ⟨2, ![64, 256]⟩
abbrev S80x256 : Shape := ⟨2, ![80, 256]⟩
abbrev S1x512 : Shape := ⟨2, ![1, 512]⟩
abbrev S1x1x80x512 : Shape := ⟨4, ![1, 1, 80, 512]⟩
abbrev S80x512 : Shape := ⟨2, ![80, 512]⟩
abbrev S256x512 : Shape := ⟨2, ![256, 512]⟩
abbrev S80x128 : Shape := ⟨2, ![80, 128]⟩
abbrev S64x128 : Shape := ⟨2, ![64, 128]⟩
abbrev S512x128 : Shape := ⟨2, ![512, 128]⟩
abbrev S1x1x128x512 : Shape := ⟨4, ![1, 1, 128, 512]⟩
abbrev S128x512 : Shape := ⟨2, ![128, 512]⟩
abbrev S136x128x512 : Shape := ⟨3, ![136, 128, 512]⟩

abbrev nBuf : Space → Nat
  | .hbm => 16
  | .vmem => 25
  | .smem => 0
  | _ => 0

abbrev bufTy : (tb : Table) → Fin (tcTables nBuf tb) → BufTy
  | .hbm, ⟨0, _⟩ => ⟨S17408x128, .bf16⟩
  | .hbm, ⟨1, _⟩ => ⟨S17408x128, .bf16⟩
  | .hbm, ⟨2, _⟩ => ⟨S136x128x128, .bf16⟩
  | .hbm, ⟨3, _⟩ => ⟨S17408x512, .bf16⟩
  | .hbm, ⟨4, _⟩ => ⟨S17408x512, .bf16⟩
  | .hbm, ⟨5, _⟩ => ⟨S136x8x128, .f32⟩
  | .hbm, ⟨6, _⟩ => ⟨S17408x512, .f32⟩
  | .hbm, ⟨7, _⟩ => ⟨S8x17x128x128, .bf16⟩
  | .hbm, ⟨8, _⟩ => ⟨S8x17x128x128, .bf16⟩
  | .hbm, ⟨9, _⟩ => ⟨S8x17x128x128, .bf16⟩
  | .hbm, ⟨10, _⟩ => ⟨S8x17x128x512, .bf16⟩
  | .hbm, ⟨11, _⟩ => ⟨S8x17x128x512, .bf16⟩
  | .hbm, ⟨12, _⟩ => ⟨S8x17x8x128, .f32⟩
  | .hbm, ⟨13, _⟩ => ⟨S8x17x128x512, .f32⟩
  | .hbm, ⟨14, _⟩ => ⟨S8x17x128x512, .bf16⟩
  | .hbm, ⟨15, _⟩ => ⟨S136x128x512, .bf16⟩
  | .local _ .vmem, ⟨0, _⟩ => ⟨S4x17x128x128, .bf16⟩
  | .local _ .vmem, ⟨1, _⟩ => ⟨S4x17x128x128, .bf16⟩
  | .local _ .vmem, ⟨2, _⟩ => ⟨S4x17x128x128, .bf16⟩
  | .local _ .vmem, ⟨3, _⟩ => ⟨S4x17x128x128, .bf16⟩
  | .local _ .vmem, ⟨4, _⟩ => ⟨S4x17x128x128, .bf16⟩
  | .local _ .vmem, ⟨5, _⟩ => ⟨S4x17x128x128, .bf16⟩
  | .local _ .vmem, ⟨6, _⟩ => ⟨S4x1x128x512, .bf16⟩
  | .local _ .vmem, ⟨7, _⟩ => ⟨S4x1x128x512, .bf16⟩
  | .local _ .vmem, ⟨8, _⟩ => ⟨S4x1x128x512, .bf16⟩
  | .local _ .vmem, ⟨9, _⟩ => ⟨S4x1x128x512, .bf16⟩
  | .local _ .vmem, ⟨10, _⟩ => ⟨S4x1x8x128, .f32⟩
  | .local _ .vmem, ⟨11, _⟩ => ⟨S4x1x8x128, .f32⟩
  | .local _ .vmem, ⟨12, _⟩ => ⟨S4x1x128x512, .f32⟩
  | .local _ .vmem, ⟨13, _⟩ => ⟨S4x1x128x512, .f32⟩
  | .local _ .vmem, ⟨14, _⟩ => ⟨S4x1x128x512, .bf16⟩
  | .local _ .vmem, ⟨15, _⟩ => ⟨S4x1x128x512, .bf16⟩
  | .local _ .vmem, ⟨16, _⟩ => ⟨S4x2304x128, .f32⟩
  | .local _ .vmem, ⟨17, _⟩ => ⟨S4x1024x128, .bf16⟩
  | .local _ .vmem, ⟨18, _⟩ => ⟨S4x1024x128, .bf16⟩
  | .local _ .vmem, ⟨19, _⟩ => ⟨S4x1x1024, .f32⟩
  | .local _ .vmem, ⟨20, _⟩ => ⟨S4x1x1024, .f32⟩
  | .local _ .vmem, ⟨21, _⟩ => ⟨S4x2x80x512, .f32⟩
  | .local _ .vmem, ⟨22, _⟩ => ⟨S4x9x32x8x128, .i32⟩
  | .local _ .vmem, ⟨23, _⟩ => ⟨S4x1x128, .f32⟩
  | .local _ .vmem, ⟨24, _⟩ => ⟨S4x1x128, .i32⟩
  | _, _ => ⟨S17408x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨2, ![2, 17], ![false, false]⟩

def k0_cond2 (i : grid0.Coords) : BitVec 1 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_544 : BitVec 32 := 1#32
  let v650 : BitVec 1 := Scalar.cmpi .eq v17 c1_i32_544
  let v651 : BitVec 1 := Scalar.andi v649 v650
  let v652 : BitVec 32 := Scalar.extui v651
  let c0_i32_545 : BitVec 32 := 0#32
  let v653 : BitVec 1 := Scalar.cmpi .ne v652 c0_i32_545
  v653

def k0_off1 : Fin 4 → Nat :=
  let c0_866 : Index := 0#32
  let c1_i32_861 : BitVec 32 := 1#32
  let c16_i32 : BitVec 32 := 16#32
  let v1159 : BitVec 32 := Scalar.minsi c1_i32_861 c16_i32
  let v1162 : Index := Scalar.indexCast v1159
  let c0_867 : Index := 0#32
  let c0_868 : Index := 0#32
  ![0, v1162.toNat, 0, 0]
def k0_off2 : Fin 4 → Nat :=
  let c1_879 : Index := 1#32
  let c1_i32_873 : BitVec 32 := 1#32
  let c16_i32_874 : BitVec 32 := 16#32
  let v1169 : BitVec 32 := Scalar.minsi c1_i32_873 c16_i32_874
  let v1172 : Index := Scalar.indexCast v1169
  let c0_880 : Index := 0#32
  let c0_881 : Index := 0#32
  ![1, v1172.toNat, 0, 0]
def k0_off3 : Fin 4 → Nat :=
  let c2_892 : Index := 2#32
  let c1_i32_886 : BitVec 32 := 1#32
  let c16_i32_887 : BitVec 32 := 16#32
  let v1179 : BitVec 32 := Scalar.minsi c1_i32_886 c16_i32_887
  let v1182 : Index := Scalar.indexCast v1179
  let c0_893 : Index := 0#32
  let c0_894 : Index := 0#32
  ![2, v1182.toNat, 0, 0]
def k0_off4 : Fin 4 → Nat :=
  let c3_905 : Index := 3#32
  let c1_i32_899 : BitVec 32 := 1#32
  let c16_i32_900 : BitVec 32 := 16#32
  let v1189 : BitVec 32 := Scalar.minsi c1_i32_899 c16_i32_900
  let v1192 : Index := Scalar.indexCast v1189
  let c0_906 : Index := 0#32
  let c0_907 : Index := 0#32
  ![3, v1192.toNat, 0, 0]
def k0_mult1 : BitVec 32 :=
  let c0_i32_919 : BitVec 32 := 0#32
  c0_i32_919
def k0_mult2 : BitVec 32 :=
  let c0_i32_1299 : BitVec 32 := 0#32
  c0_i32_1299
def k0_mult3 : BitVec 32 :=
  let c0_i32_1712 : BitVec 32 := 0#32
  c0_i32_1712
def k0_mult4 : BitVec 32 :=
  let c0_i32_2125 : BitVec 32 := 0#32
  c0_i32_2125
def k0_cond3 (i : grid0.Coords) : BitVec 1 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_546 : BitVec 32 := 1#32
  let v654 : BitVec 1 := Scalar.cmpi .sgt v17 c1_i32_546
  let v655 : BitVec 1 := Scalar.andi v649 v654
  let v656 : BitVec 32 := Scalar.extui v655
  let c0_i32_547 : BitVec 32 := 0#32
  let v657 : BitVec 1 := Scalar.cmpi .ne v656 c0_i32_547
  v657

def k0_off5 (c1_i32_861 : BitVec 32) : Fin 4 → Nat :=
  let c0_866 : Index := 0#32
  let c16_i32 : BitVec 32 := 16#32
  let v1159 : BitVec 32 := Scalar.minsi c1_i32_861 c16_i32
  let v1162 : Index := Scalar.indexCast v1159
  let c0_867 : Index := 0#32
  let c0_868 : Index := 0#32
  ![0, v1162.toNat, 0, 0]
def k0_off6 (c1_i32_873 : BitVec 32) : Fin 4 → Nat :=
  let c1_879 : Index := 1#32
  let c16_i32_874 : BitVec 32 := 16#32
  let v1169 : BitVec 32 := Scalar.minsi c1_i32_873 c16_i32_874
  let v1172 : Index := Scalar.indexCast v1169
  let c0_880 : Index := 0#32
  let c0_881 : Index := 0#32
  ![1, v1172.toNat, 0, 0]
def k0_off7 (c1_i32_886 : BitVec 32) : Fin 4 → Nat :=
  let c2_892 : Index := 2#32
  let c16_i32_887 : BitVec 32 := 16#32
  let v1179 : BitVec 32 := Scalar.minsi c1_i32_886 c16_i32_887
  let v1182 : Index := Scalar.indexCast v1179
  let c0_893 : Index := 0#32
  let c0_894 : Index := 0#32
  ![2, v1182.toNat, 0, 0]
def k0_off8 (c1_i32_899 : BitVec 32) : Fin 4 → Nat :=
  let c3_905 : Index := 3#32
  let c16_i32_900 : BitVec 32 := 16#32
  let v1189 : BitVec 32 := Scalar.minsi c1_i32_899 c16_i32_900
  let v1192 : Index := Scalar.indexCast v1189
  let c0_906 : Index := 0#32
  let c0_907 : Index := 0#32
  ![3, v1192.toNat, 0, 0]
def k0_mult5 : BitVec 32 :=
  let c0_i32_1023 : BitVec 32 := 0#32
  c0_i32_1023
def k0_mult6 : BitVec 32 :=
  let c0_i32_1403 : BitVec 32 := 0#32
  c0_i32_1403
def k0_mult7 : BitVec 32 :=
  let c0_i32_1816 : BitVec 32 := 0#32
  c0_i32_1816
def k0_mult8 : BitVec 32 :=
  let c0_i32_2229 : BitVec 32 := 0#32
  c0_i32_2229
def k0_mult9 : BitVec 32 :=
  let c256_i32_2642 : BitVec 32 := 256#32
  c256_i32_2642
def k0_mult10 : BitVec 32 :=
  let c256_i32_3055 : BitVec 32 := 256#32
  c256_i32_3055
def k0_mult11 : BitVec 32 :=
  let c256_i32_3468 : BitVec 32 := 256#32
  c256_i32_3468
def k0_mult12 : BitVec 32 :=
  let c256_i32_3881 : BitVec 32 := 256#32
  c256_i32_3881
def k0_mult13 : BitVec 32 :=
  let c512_i32_4293 : BitVec 32 := 512#32
  c512_i32_4293
def k0_mult14 : BitVec 32 :=
  let c512_i32_4706 : BitVec 32 := 512#32
  c512_i32_4706
def k0_mult15 : BitVec 32 :=
  let c512_i32_5119 : BitVec 32 := 512#32
  c512_i32_5119
def k0_mult16 : BitVec 32 :=
  let c512_i32_5532 : BitVec 32 := 512#32
  c512_i32_5532
@[reducible] def k0_t1_loop (i : grid0.Coords) : Scf.Loop 32 :=
  let c0_i32_559 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_561 : BitVec 32 := 1#32
  ⟨c0_i32_559, v683, c1_i32_561⟩
def k0_off9 (i : grid0.Coords) (k0_t1 : Fin (k0_t1_loop i).trips) : Fin 4 → Nat :=
  let c0_867 : Index := 0#32
  let c2_i32_866 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v1167 : BitVec 32 := Scalar.muli c2_i32_866 v1160
  let v1168 : Index := Scalar.indexCast v1167
  let c0_868 : Index := 0#32
  let c0_869 : Index := 0#32
  ![0, v1168.toNat, 0, 0]
def k0_off10 (i : grid0.Coords) (k0_t1 : Fin (k0_t1_loop i).trips) : Fin 4 → Nat :=
  let c0_870 : Index := 0#32
  let c2_i32_864 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v1164 : BitVec 32 := Scalar.muli c2_i32_864 v1160
  let c1_i32_865 : BitVec 32 := 1#32
  let v1165 : BitVec 32 := Scalar.addi v1164 c1_i32_865
  let c16_i32 : BitVec 32 := 16#32
  let v1166 : BitVec 32 := Scalar.minsi v1165 c16_i32
  let v1171 : Index := Scalar.indexCast v1166
  let c0_871 : Index := 0#32
  let c0_872 : Index := 0#32
  ![0, v1171.toNat, 0, 0]
def k0_off11 (i : grid0.Coords) (k0_t1 : Fin (k0_t1_loop i).trips) : Fin 4 → Nat :=
  let c1_881 : Index := 1#32
  let c2_i32_880 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v1181 : BitVec 32 := Scalar.muli c2_i32_880 v1160
  let v1182 : Index := Scalar.indexCast v1181
  let c0_882 : Index := 0#32
  let c0_883 : Index := 0#32
  ![1, v1182.toNat, 0, 0]
def k0_off12 (i : grid0.Coords) (k0_t1 : Fin (k0_t1_loop i).trips) : Fin 4 → Nat :=
  let c1_884 : Index := 1#32
  let c2_i32_877 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v1178 : BitVec 32 := Scalar.muli c2_i32_877 v1160
  let c1_i32_878 : BitVec 32 := 1#32
  let v1179 : BitVec 32 := Scalar.addi v1178 c1_i32_878
  let c16_i32_879 : BitVec 32 := 16#32
  let v1180 : BitVec 32 := Scalar.minsi v1179 c16_i32_879
  let v1185 : Index := Scalar.indexCast v1180
  let c0_885 : Index := 0#32
  let c0_886 : Index := 0#32
  ![1, v1185.toNat, 0, 0]
def k0_off13 (i : grid0.Coords) (k0_t1 : Fin (k0_t1_loop i).trips) : Fin 4 → Nat :=
  let c2_895 : Index := 2#32
  let c2_i32_894 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v1195 : BitVec 32 := Scalar.muli c2_i32_894 v1160
  let v1196 : Index := Scalar.indexCast v1195
  let c0_896 : Index := 0#32
  let c0_897 : Index := 0#32
  ![2, v1196.toNat, 0, 0]
def k0_off14 (i : grid0.Coords) (k0_t1 : Fin (k0_t1_loop i).trips) : Fin 4 → Nat :=
  let c2_898 : Index := 2#32
  let c2_i32_891 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v1192 : BitVec 32 := Scalar.muli c2_i32_891 v1160
  let c1_i32_892 : BitVec 32 := 1#32
  let v1193 : BitVec 32 := Scalar.addi v1192 c1_i32_892
  let c16_i32_893 : BitVec 32 := 16#32
  let v1194 : BitVec 32 := Scalar.minsi v1193 c16_i32_893
  let v1199 : Index := Scalar.indexCast v1194
  let c0_899 : Index := 0#32
  let c0_900 : Index := 0#32
  ![2, v1199.toNat, 0, 0]
def k0_off15 (i : grid0.Coords) (k0_t1 : Fin (k0_t1_loop i).trips) : Fin 4 → Nat :=
  let c3_909 : Index := 3#32
  let c2_i32_908 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v1209 : BitVec 32 := Scalar.muli c2_i32_908 v1160
  let v1210 : Index := Scalar.indexCast v1209
  let c0_910 : Index := 0#32
  let c0_911 : Index := 0#32
  ![3, v1210.toNat, 0, 0]
def k0_off16 (i : grid0.Coords) (k0_t1 : Fin (k0_t1_loop i).trips) : Fin 4 → Nat :=
  let c3_912 : Index := 3#32
  let c2_i32_905 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v1206 : BitVec 32 := Scalar.muli c2_i32_905 v1160
  let c1_i32_906 : BitVec 32 := 1#32
  let v1207 : BitVec 32 := Scalar.addi v1206 c1_i32_906
  let c16_i32_907 : BitVec 32 := 16#32
  let v1208 : BitVec 32 := Scalar.minsi v1207 c16_i32_907
  let v1213 : Index := Scalar.indexCast v1208
  let c0_913 : Index := 0#32
  let c0_914 : Index := 0#32
  ![3, v1213.toNat, 0, 0]
def k0_off17 (i : grid0.Coords) (k0_t1 : Fin (k0_t1_loop i).trips) : Fin 4 → Nat :=
  let c0_923 : Index := 0#32
  let c2_i32_922 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v1223 : BitVec 32 := Scalar.muli c2_i32_922 v1163
  let v1224 : Index := Scalar.indexCast v1223
  let c0_924 : Index := 0#32
  let c0_925 : Index := 0#32
  ![0, v1224.toNat, 0, 0]
def k0_off18 (i : grid0.Coords) (k0_t1 : Fin (k0_t1_loop i).trips) : Fin 4 → Nat :=
  let c0_926 : Index := 0#32
  let c2_i32_919 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v1220 : BitVec 32 := Scalar.muli c2_i32_919 v1163
  let c1_i32_920 : BitVec 32 := 1#32
  let v1221 : BitVec 32 := Scalar.addi v1220 c1_i32_920
  let c16_i32_921 : BitVec 32 := 16#32
  let v1222 : BitVec 32 := Scalar.minsi v1221 c16_i32_921
  let v1227 : Index := Scalar.indexCast v1222
  let c0_927 : Index := 0#32
  let c0_928 : Index := 0#32
  ![0, v1227.toNat, 0, 0]
def k0_off19 (i : grid0.Coords) (k0_t1 : Fin (k0_t1_loop i).trips) : Fin 4 → Nat :=
  let c1_937 : Index := 1#32
  let c2_i32_936 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v1237 : BitVec 32 := Scalar.muli c2_i32_936 v1163
  let v1238 : Index := Scalar.indexCast v1237
  let c0_938 : Index := 0#32
  let c0_939 : Index := 0#32
  ![1, v1238.toNat, 0, 0]
def k0_off20 (i : grid0.Coords) (k0_t1 : Fin (k0_t1_loop i).trips) : Fin 4 → Nat :=
  let c1_940 : Index := 1#32
  let c2_i32_933 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v1234 : BitVec 32 := Scalar.muli c2_i32_933 v1163
  let c1_i32_934 : BitVec 32 := 1#32
  let v1235 : BitVec 32 := Scalar.addi v1234 c1_i32_934
  let c16_i32_935 : BitVec 32 := 16#32
  let v1236 : BitVec 32 := Scalar.minsi v1235 c16_i32_935
  let v1241 : Index := Scalar.indexCast v1236
  let c0_941 : Index := 0#32
  let c0_942 : Index := 0#32
  ![1, v1241.toNat, 0, 0]
def k0_off21 (i : grid0.Coords) (k0_t1 : Fin (k0_t1_loop i).trips) : Fin 4 → Nat :=
  let c2_951 : Index := 2#32
  let c2_i32_950 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v1251 : BitVec 32 := Scalar.muli c2_i32_950 v1163
  let v1252 : Index := Scalar.indexCast v1251
  let c0_952 : Index := 0#32
  let c0_953 : Index := 0#32
  ![2, v1252.toNat, 0, 0]
def k0_off22 (i : grid0.Coords) (k0_t1 : Fin (k0_t1_loop i).trips) : Fin 4 → Nat :=
  let c2_954 : Index := 2#32
  let c2_i32_947 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v1248 : BitVec 32 := Scalar.muli c2_i32_947 v1163
  let c1_i32_948 : BitVec 32 := 1#32
  let v1249 : BitVec 32 := Scalar.addi v1248 c1_i32_948
  let c16_i32_949 : BitVec 32 := 16#32
  let v1250 : BitVec 32 := Scalar.minsi v1249 c16_i32_949
  let v1255 : Index := Scalar.indexCast v1250
  let c0_955 : Index := 0#32
  let c0_956 : Index := 0#32
  ![2, v1255.toNat, 0, 0]
def k0_off23 (i : grid0.Coords) (k0_t1 : Fin (k0_t1_loop i).trips) : Fin 4 → Nat :=
  let c3_965 : Index := 3#32
  let c2_i32_964 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v1265 : BitVec 32 := Scalar.muli c2_i32_964 v1163
  let v1266 : Index := Scalar.indexCast v1265
  let c0_966 : Index := 0#32
  let c0_967 : Index := 0#32
  ![3, v1266.toNat, 0, 0]
def k0_off24 (i : grid0.Coords) (k0_t1 : Fin (k0_t1_loop i).trips) : Fin 4 → Nat :=
  let c3_968 : Index := 3#32
  let c2_i32_961 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v1262 : BitVec 32 := Scalar.muli c2_i32_961 v1163
  let c1_i32_962 : BitVec 32 := 1#32
  let v1263 : BitVec 32 := Scalar.addi v1262 c1_i32_962
  let c16_i32_963 : BitVec 32 := 16#32
  let v1264 : BitVec 32 := Scalar.minsi v1263 c16_i32_963
  let v1269 : Index := Scalar.indexCast v1264
  let c0_969 : Index := 0#32
  let c0_970 : Index := 0#32
  ![3, v1269.toNat, 0, 0]
def k0_mult17 (i : grid0.Coords) (k0_t1 : Fin (k0_t1_loop i).trips) : BitVec 32 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let c256_i32_982 : BitVec 32 := 256#32
  let v1313 : BitVec 32 := Scalar.muli v1160 c256_i32_982
  v1313
def k0_off25 (i : grid0.Coords) (k0_t1 : Fin (k0_t1_loop i).trips) : Fin 3 → Nat :=
  let c0_983 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let c256_i32_982 : BitVec 32 := 256#32
  let v1313 : BitVec 32 := Scalar.muli v1160 c256_i32_982
  let v1314 : BitVec 32 := v1313
  let v1315 : Index := Scalar.indexCast v1314
  let c0_984 : Index := 0#32
  ![0, v1315.toNat, 0]
def k0_off26 (i : grid0.Coords) (k0_t1 : Fin (k0_t1_loop i).trips) : Fin 5 → Nat :=
  let c0_1218 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v2077 : Index := Scalar.indexCast v1160
  let c0_1219 : Index := 0#32
  let c0_1220 : Index := 0#32
  let c0_1221 : Index := 0#32
  ![0, v2077.toNat, 0, 0, 0]
def k0_off27 (i : grid0.Coords) (k0_t1 : Fin (k0_t1_loop i).trips) : Fin 5 → Nat :=
  let c0_1222 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v2081 : Index := Scalar.indexCast v1160
  let c1_1223 : Index := 1#32
  let c0_1224 : Index := 0#32
  let c0_1225 : Index := 0#32
  ![0, v2081.toNat, 1, 0, 0]
def k0_off28 (i : grid0.Coords) (k0_t1 : Fin (k0_t1_loop i).trips) : Fin 5 → Nat :=
  let c0_1226 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v2085 : Index := Scalar.indexCast v1160
  let c2_1227 : Index := 2#32
  let c0_1228 : Index := 0#32
  let c0_1229 : Index := 0#32
  ![0, v2085.toNat, 2, 0, 0]
def k0_off29 (i : grid0.Coords) (k0_t1 : Fin (k0_t1_loop i).trips) : Fin 5 → Nat :=
  let c0_1230 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v2089 : Index := Scalar.indexCast v1160
  let c3_1231 : Index := 3#32
  let c0_1232 : Index := 0#32
  let c0_1233 : Index := 0#32
  ![0, v2089.toNat, 3, 0, 0]
def k0_off30 (i : grid0.Coords) (k0_t1 : Fin (k0_t1_loop i).trips) : Fin 5 → Nat :=
  let c0_1234 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v2093 : Index := Scalar.indexCast v1160
  let c4_1235 : Index := 4#32
  let c0_1236 : Index := 0#32
  let c0_1237 : Index := 0#32
  ![0, v2093.toNat, 4, 0, 0]
def k0_off31 (i : grid0.Coords) (k0_t1 : Fin (k0_t1_loop i).trips) : Fin 5 → Nat :=
  let c0_1238 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v2097 : Index := Scalar.indexCast v1160
  let c5_1239 : Index := 5#32
  let c0_1240 : Index := 0#32
  let c0_1241 : Index := 0#32
  ![0, v2097.toNat, 5, 0, 0]
def k0_off32 (i : grid0.Coords) (k0_t1 : Fin (k0_t1_loop i).trips) : Fin 5 → Nat :=
  let c0_1242 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v2101 : Index := Scalar.indexCast v1160
  let c6_1243 : Index := 6#32
  let c0_1244 : Index := 0#32
  let c0_1245 : Index := 0#32
  ![0, v2101.toNat, 6, 0, 0]
def k0_off33 (i : grid0.Coords) (k0_t1 : Fin (k0_t1_loop i).trips) : Fin 5 → Nat :=
  let c0_1246 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v2105 : Index := Scalar.indexCast v1160
  let c7_1247 : Index := 7#32
  let c0_1248 : Index := 0#32
  let c0_1249 : Index := 0#32
  ![0, v2105.toNat, 7, 0, 0]
def k0_off34 (i : grid0.Coords) (k0_t1 : Fin (k0_t1_loop i).trips) : Fin 5 → Nat :=
  let c0_1250 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v2109 : Index := Scalar.indexCast v1160
  let c8 : Index := 8#32
  let c0_1251 : Index := 0#32
  let c0_1252 : Index := 0#32
  ![0, v2109.toNat, 8, 0, 0]
def k0_off35 (i : grid0.Coords) (k0_t1 : Fin (k0_t1_loop i).trips) : Fin 5 → Nat :=
  let c0_1253 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v2113 : Index := Scalar.indexCast v1160
  let c9 : Index := 9#32
  let c0_1254 : Index := 0#32
  let c0_1255 : Index := 0#32
  ![0, v2113.toNat, 9, 0, 0]
def k0_off36 (i : grid0.Coords) (k0_t1 : Fin (k0_t1_loop i).trips) : Fin 5 → Nat :=
  let c0_1256 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v2117 : Index := Scalar.indexCast v1160
  let c10 : Index := 10#32
  let c0_1257 : Index := 0#32
  let c0_1258 : Index := 0#32
  ![0, v2117.toNat, 10, 0, 0]
def k0_off37 (i : grid0.Coords) (k0_t1 : Fin (k0_t1_loop i).trips) : Fin 5 → Nat :=
  let c0_1259 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v2121 : Index := Scalar.indexCast v1160
  let c11 : Index := 11#32
  let c0_1260 : Index := 0#32
  let c0_1261 : Index := 0#32
  ![0, v2121.toNat, 11, 0, 0]
def k0_off38 (i : grid0.Coords) (k0_t1 : Fin (k0_t1_loop i).trips) : Fin 5 → Nat :=
  let c0_1262 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v2125 : Index := Scalar.indexCast v1160
  let c12 : Index := 12#32
  let c0_1263 : Index := 0#32
  let c0_1264 : Index := 0#32
  ![0, v2125.toNat, 12, 0, 0]
def k0_off39 (i : grid0.Coords) (k0_t1 : Fin (k0_t1_loop i).trips) : Fin 5 → Nat :=
  let c0_1265 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v2129 : Index := Scalar.indexCast v1160
  let c13 : Index := 13#32
  let c0_1266 : Index := 0#32
  let c0_1267 : Index := 0#32
  ![0, v2129.toNat, 13, 0, 0]
def k0_off40 (i : grid0.Coords) (k0_t1 : Fin (k0_t1_loop i).trips) : Fin 5 → Nat :=
  let c0_1268 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v2133 : Index := Scalar.indexCast v1160
  let c14 : Index := 14#32
  let c0_1269 : Index := 0#32
  let c0_1270 : Index := 0#32
  ![0, v2133.toNat, 14, 0, 0]
def k0_off41 (i : grid0.Coords) (k0_t1 : Fin (k0_t1_loop i).trips) : Fin 5 → Nat :=
  let c0_1271 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v2137 : Index := Scalar.indexCast v1160
  let c15 : Index := 15#32
  let c0_1272 : Index := 0#32
  let c0_1273 : Index := 0#32
  ![0, v2137.toNat, 15, 0, 0]
def k0_off42 (i : grid0.Coords) (k0_t1 : Fin (k0_t1_loop i).trips) : Fin 5 → Nat :=
  let c0_1274 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v2141 : Index := Scalar.indexCast v1160
  let c16 : Index := 16#32
  let c0_1275 : Index := 0#32
  let c0_1276 : Index := 0#32
  ![0, v2141.toNat, 16, 0, 0]
def k0_off43 (i : grid0.Coords) (k0_t1 : Fin (k0_t1_loop i).trips) : Fin 5 → Nat :=
  let c0_1277 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v2145 : Index := Scalar.indexCast v1160
  let c17 : Index := 17#32
  let c0_1278 : Index := 0#32
  let c0_1279 : Index := 0#32
  ![0, v2145.toNat, 17, 0, 0]
def k0_off44 (i : grid0.Coords) (k0_t1 : Fin (k0_t1_loop i).trips) : Fin 5 → Nat :=
  let c0_1280 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v2149 : Index := Scalar.indexCast v1160
  let c18 : Index := 18#32
  let c0_1281 : Index := 0#32
  let c0_1282 : Index := 0#32
  ![0, v2149.toNat, 18, 0, 0]
def k0_off45 (i : grid0.Coords) (k0_t1 : Fin (k0_t1_loop i).trips) : Fin 5 → Nat :=
  let c0_1283 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v2153 : Index := Scalar.indexCast v1160
  let c19 : Index := 19#32
  let c0_1284 : Index := 0#32
  let c0_1285 : Index := 0#32
  ![0, v2153.toNat, 19, 0, 0]
def k0_off46 (i : grid0.Coords) (k0_t1 : Fin (k0_t1_loop i).trips) : Fin 5 → Nat :=
  let c0_1286 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v2157 : Index := Scalar.indexCast v1160
  let c20 : Index := 20#32
  let c0_1287 : Index := 0#32
  let c0_1288 : Index := 0#32
  ![0, v2157.toNat, 20, 0, 0]
def k0_off47 (i : grid0.Coords) (k0_t1 : Fin (k0_t1_loop i).trips) : Fin 5 → Nat :=
  let c0_1289 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v2161 : Index := Scalar.indexCast v1160
  let c21 : Index := 21#32
  let c0_1290 : Index := 0#32
  let c0_1291 : Index := 0#32
  ![0, v2161.toNat, 21, 0, 0]
def k0_off48 (i : grid0.Coords) (k0_t1 : Fin (k0_t1_loop i).trips) : Fin 5 → Nat :=
  let c0_1292 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v2165 : Index := Scalar.indexCast v1160
  let c22 : Index := 22#32
  let c0_1293 : Index := 0#32
  let c0_1294 : Index := 0#32
  ![0, v2165.toNat, 22, 0, 0]
def k0_off49 (i : grid0.Coords) (k0_t1 : Fin (k0_t1_loop i).trips) : Fin 5 → Nat :=
  let c0_1295 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v2169 : Index := Scalar.indexCast v1160
  let c23 : Index := 23#32
  let c0_1296 : Index := 0#32
  let c0_1297 : Index := 0#32
  ![0, v2169.toNat, 23, 0, 0]
def k0_off50 (i : grid0.Coords) (k0_t1 : Fin (k0_t1_loop i).trips) : Fin 5 → Nat :=
  let c0_1298 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v2173 : Index := Scalar.indexCast v1160
  let c24 : Index := 24#32
  let c0_1299 : Index := 0#32
  let c0_1300 : Index := 0#32
  ![0, v2173.toNat, 24, 0, 0]
def k0_off51 (i : grid0.Coords) (k0_t1 : Fin (k0_t1_loop i).trips) : Fin 5 → Nat :=
  let c0_1301 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v2177 : Index := Scalar.indexCast v1160
  let c25 : Index := 25#32
  let c0_1302 : Index := 0#32
  let c0_1303 : Index := 0#32
  ![0, v2177.toNat, 25, 0, 0]
def k0_off52 (i : grid0.Coords) (k0_t1 : Fin (k0_t1_loop i).trips) : Fin 5 → Nat :=
  let c0_1304 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v2181 : Index := Scalar.indexCast v1160
  let c26 : Index := 26#32
  let c0_1305 : Index := 0#32
  let c0_1306 : Index := 0#32
  ![0, v2181.toNat, 26, 0, 0]
def k0_off53 (i : grid0.Coords) (k0_t1 : Fin (k0_t1_loop i).trips) : Fin 5 → Nat :=
  let c0_1307 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v2185 : Index := Scalar.indexCast v1160
  let c27 : Index := 27#32
  let c0_1308 : Index := 0#32
  let c0_1309 : Index := 0#32
  ![0, v2185.toNat, 27, 0, 0]
def k0_off54 (i : grid0.Coords) (k0_t1 : Fin (k0_t1_loop i).trips) : Fin 5 → Nat :=
  let c0_1310 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v2189 : Index := Scalar.indexCast v1160
  let c28 : Index := 28#32
  let c0_1311 : Index := 0#32
  let c0_1312 : Index := 0#32
  ![0, v2189.toNat, 28, 0, 0]
def k0_off55 (i : grid0.Coords) (k0_t1 : Fin (k0_t1_loop i).trips) : Fin 5 → Nat :=
  let c0_1313 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v2193 : Index := Scalar.indexCast v1160
  let c29 : Index := 29#32
  let c0_1314 : Index := 0#32
  let c0_1315 : Index := 0#32
  ![0, v2193.toNat, 29, 0, 0]
def k0_off56 (i : grid0.Coords) (k0_t1 : Fin (k0_t1_loop i).trips) : Fin 5 → Nat :=
  let c0_1316 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v2197 : Index := Scalar.indexCast v1160
  let c30 : Index := 30#32
  let c0_1317 : Index := 0#32
  let c0_1318 : Index := 0#32
  ![0, v2197.toNat, 30, 0, 0]
def k0_off57 (i : grid0.Coords) (k0_t1 : Fin (k0_t1_loop i).trips) : Fin 5 → Nat :=
  let c0_1319 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v2201 : Index := Scalar.indexCast v1160
  let c31 : Index := 31#32
  let c0_1320 : Index := 0#32
  let c0_1321 : Index := 0#32
  ![0, v2201.toNat, 31, 0, 0]
def k0_mult18 (i : grid0.Coords) (k0_t1 : Fin (k0_t1_loop i).trips) : BitVec 32 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let c256_i32_1330 : BitVec 32 := 256#32
  let v2242 : BitVec 32 := Scalar.muli v1160 c256_i32_1330
  v2242
def k0_off58 (i : grid0.Coords) (k0_t1 : Fin (k0_t1_loop i).trips) : Fin 3 → Nat :=
  let c1_1331 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let c256_i32_1330 : BitVec 32 := 256#32
  let v2242 : BitVec 32 := Scalar.muli v1160 c256_i32_1330
  let v2243 : BitVec 32 := v2242
  let v2244 : Index := Scalar.indexCast v2243
  let c0_1332 : Index := 0#32
  ![1, v2244.toNat, 0]
def k0_off59 (i : grid0.Coords) (k0_t1 : Fin (k0_t1_loop i).trips) : Fin 5 → Nat :=
  let c1_1575 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3006 : Index := Scalar.indexCast v1160
  let c0_1576 : Index := 0#32
  let c0_1577 : Index := 0#32
  let c0_1578 : Index := 0#32
  ![1, v3006.toNat, 0, 0, 0]
def k0_off60 (i : grid0.Coords) (k0_t1 : Fin (k0_t1_loop i).trips) : Fin 5 → Nat :=
  let c1_1579 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3010 : Index := Scalar.indexCast v1160
  let c1_1580 : Index := 1#32
  let c0_1581 : Index := 0#32
  let c0_1582 : Index := 0#32
  ![1, v3010.toNat, 1, 0, 0]
def k0_off61 (i : grid0.Coords) (k0_t1 : Fin (k0_t1_loop i).trips) : Fin 5 → Nat :=
  let c1_1583 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3014 : Index := Scalar.indexCast v1160
  let c2_1584 : Index := 2#32
  let c0_1585 : Index := 0#32
  let c0_1586 : Index := 0#32
  ![1, v3014.toNat, 2, 0, 0]
def k0_off62 (i : grid0.Coords) (k0_t1 : Fin (k0_t1_loop i).trips) : Fin 5 → Nat :=
  let c1_1587 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3018 : Index := Scalar.indexCast v1160
  let c3_1588 : Index := 3#32
  let c0_1589 : Index := 0#32
  let c0_1590 : Index := 0#32
  ![1, v3018.toNat, 3, 0, 0]
def k0_off63 (i : grid0.Coords) (k0_t1 : Fin (k0_t1_loop i).trips) : Fin 5 → Nat :=
  let c1_1591 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3022 : Index := Scalar.indexCast v1160
  let c4_1592 : Index := 4#32
  let c0_1593 : Index := 0#32
  let c0_1594 : Index := 0#32
  ![1, v3022.toNat, 4, 0, 0]
def k0_off64 (i : grid0.Coords) (k0_t1 : Fin (k0_t1_loop i).trips) : Fin 5 → Nat :=
  let c1_1595 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3026 : Index := Scalar.indexCast v1160
  let c5_1596 : Index := 5#32
  let c0_1597 : Index := 0#32
  let c0_1598 : Index := 0#32
  ![1, v3026.toNat, 5, 0, 0]
def k0_off65 (i : grid0.Coords) (k0_t1 : Fin (k0_t1_loop i).trips) : Fin 5 → Nat :=
  let c1_1599 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3030 : Index := Scalar.indexCast v1160
  let c6_1600 : Index := 6#32
  let c0_1601 : Index := 0#32
  let c0_1602 : Index := 0#32
  ![1, v3030.toNat, 6, 0, 0]
def k0_off66 (i : grid0.Coords) (k0_t1 : Fin (k0_t1_loop i).trips) : Fin 5 → Nat :=
  let c1_1603 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3034 : Index := Scalar.indexCast v1160
  let c7_1604 : Index := 7#32
  let c0_1605 : Index := 0#32
  let c0_1606 : Index := 0#32
  ![1, v3034.toNat, 7, 0, 0]
def k0_off67 (i : grid0.Coords) (k0_t1 : Fin (k0_t1_loop i).trips) : Fin 5 → Nat :=
  let c1_1607 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3038 : Index := Scalar.indexCast v1160
  let c8_1608 : Index := 8#32
  let c0_1609 : Index := 0#32
  let c0_1610 : Index := 0#32
  ![1, v3038.toNat, 8, 0, 0]
def k0_off68 (i : grid0.Coords) (k0_t1 : Fin (k0_t1_loop i).trips) : Fin 5 → Nat :=
  let c1_1611 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3042 : Index := Scalar.indexCast v1160
  let c9_1612 : Index := 9#32
  let c0_1613 : Index := 0#32
  let c0_1614 : Index := 0#32
  ![1, v3042.toNat, 9, 0, 0]
def k0_off69 (i : grid0.Coords) (k0_t1 : Fin (k0_t1_loop i).trips) : Fin 5 → Nat :=
  let c1_1615 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3046 : Index := Scalar.indexCast v1160
  let c10_1616 : Index := 10#32
  let c0_1617 : Index := 0#32
  let c0_1618 : Index := 0#32
  ![1, v3046.toNat, 10, 0, 0]
def k0_off70 (i : grid0.Coords) (k0_t1 : Fin (k0_t1_loop i).trips) : Fin 5 → Nat :=
  let c1_1619 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3050 : Index := Scalar.indexCast v1160
  let c11_1620 : Index := 11#32
  let c0_1621 : Index := 0#32
  let c0_1622 : Index := 0#32
  ![1, v3050.toNat, 11, 0, 0]
def k0_off71 (i : grid0.Coords) (k0_t1 : Fin (k0_t1_loop i).trips) : Fin 5 → Nat :=
  let c1_1623 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3054 : Index := Scalar.indexCast v1160
  let c12_1624 : Index := 12#32
  let c0_1625 : Index := 0#32
  let c0_1626 : Index := 0#32
  ![1, v3054.toNat, 12, 0, 0]
def k0_off72 (i : grid0.Coords) (k0_t1 : Fin (k0_t1_loop i).trips) : Fin 5 → Nat :=
  let c1_1627 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3058 : Index := Scalar.indexCast v1160
  let c13_1628 : Index := 13#32
  let c0_1629 : Index := 0#32
  let c0_1630 : Index := 0#32
  ![1, v3058.toNat, 13, 0, 0]
def k0_off73 (i : grid0.Coords) (k0_t1 : Fin (k0_t1_loop i).trips) : Fin 5 → Nat :=
  let c1_1631 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3062 : Index := Scalar.indexCast v1160
  let c14_1632 : Index := 14#32
  let c0_1633 : Index := 0#32
  let c0_1634 : Index := 0#32
  ![1, v3062.toNat, 14, 0, 0]
def k0_off74 (i : grid0.Coords) (k0_t1 : Fin (k0_t1_loop i).trips) : Fin 5 → Nat :=
  let c1_1635 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3066 : Index := Scalar.indexCast v1160
  let c15_1636 : Index := 15#32
  let c0_1637 : Index := 0#32
  let c0_1638 : Index := 0#32
  ![1, v3066.toNat, 15, 0, 0]
def k0_off75 (i : grid0.Coords) (k0_t1 : Fin (k0_t1_loop i).trips) : Fin 5 → Nat :=
  let c1_1639 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3070 : Index := Scalar.indexCast v1160
  let c16_1640 : Index := 16#32
  let c0_1641 : Index := 0#32
  let c0_1642 : Index := 0#32
  ![1, v3070.toNat, 16, 0, 0]
def k0_off76 (i : grid0.Coords) (k0_t1 : Fin (k0_t1_loop i).trips) : Fin 5 → Nat :=
  let c1_1643 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3074 : Index := Scalar.indexCast v1160
  let c17_1644 : Index := 17#32
  let c0_1645 : Index := 0#32
  let c0_1646 : Index := 0#32
  ![1, v3074.toNat, 17, 0, 0]
def k0_off77 (i : grid0.Coords) (k0_t1 : Fin (k0_t1_loop i).trips) : Fin 5 → Nat :=
  let c1_1647 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3078 : Index := Scalar.indexCast v1160
  let c18_1648 : Index := 18#32
  let c0_1649 : Index := 0#32
  let c0_1650 : Index := 0#32
  ![1, v3078.toNat, 18, 0, 0]
def k0_off78 (i : grid0.Coords) (k0_t1 : Fin (k0_t1_loop i).trips) : Fin 5 → Nat :=
  let c1_1651 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3082 : Index := Scalar.indexCast v1160
  let c19_1652 : Index := 19#32
  let c0_1653 : Index := 0#32
  let c0_1654 : Index := 0#32
  ![1, v3082.toNat, 19, 0, 0]
def k0_off79 (i : grid0.Coords) (k0_t1 : Fin (k0_t1_loop i).trips) : Fin 5 → Nat :=
  let c1_1655 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3086 : Index := Scalar.indexCast v1160
  let c20_1656 : Index := 20#32
  let c0_1657 : Index := 0#32
  let c0_1658 : Index := 0#32
  ![1, v3086.toNat, 20, 0, 0]
def k0_off80 (i : grid0.Coords) (k0_t1 : Fin (k0_t1_loop i).trips) : Fin 5 → Nat :=
  let c1_1659 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3090 : Index := Scalar.indexCast v1160
  let c21_1660 : Index := 21#32
  let c0_1661 : Index := 0#32
  let c0_1662 : Index := 0#32
  ![1, v3090.toNat, 21, 0, 0]
def k0_off81 (i : grid0.Coords) (k0_t1 : Fin (k0_t1_loop i).trips) : Fin 5 → Nat :=
  let c1_1663 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3094 : Index := Scalar.indexCast v1160
  let c22_1664 : Index := 22#32
  let c0_1665 : Index := 0#32
  let c0_1666 : Index := 0#32
  ![1, v3094.toNat, 22, 0, 0]
def k0_off82 (i : grid0.Coords) (k0_t1 : Fin (k0_t1_loop i).trips) : Fin 5 → Nat :=
  let c1_1667 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3098 : Index := Scalar.indexCast v1160
  let c23_1668 : Index := 23#32
  let c0_1669 : Index := 0#32
  let c0_1670 : Index := 0#32
  ![1, v3098.toNat, 23, 0, 0]
def k0_off83 (i : grid0.Coords) (k0_t1 : Fin (k0_t1_loop i).trips) : Fin 5 → Nat :=
  let c1_1671 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3102 : Index := Scalar.indexCast v1160
  let c24_1672 : Index := 24#32
  let c0_1673 : Index := 0#32
  let c0_1674 : Index := 0#32
  ![1, v3102.toNat, 24, 0, 0]
def k0_off84 (i : grid0.Coords) (k0_t1 : Fin (k0_t1_loop i).trips) : Fin 5 → Nat :=
  let c1_1675 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3106 : Index := Scalar.indexCast v1160
  let c25_1676 : Index := 25#32
  let c0_1677 : Index := 0#32
  let c0_1678 : Index := 0#32
  ![1, v3106.toNat, 25, 0, 0]
def k0_off85 (i : grid0.Coords) (k0_t1 : Fin (k0_t1_loop i).trips) : Fin 5 → Nat :=
  let c1_1679 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3110 : Index := Scalar.indexCast v1160
  let c26_1680 : Index := 26#32
  let c0_1681 : Index := 0#32
  let c0_1682 : Index := 0#32
  ![1, v3110.toNat, 26, 0, 0]
def k0_off86 (i : grid0.Coords) (k0_t1 : Fin (k0_t1_loop i).trips) : Fin 5 → Nat :=
  let c1_1683 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3114 : Index := Scalar.indexCast v1160
  let c27_1684 : Index := 27#32
  let c0_1685 : Index := 0#32
  let c0_1686 : Index := 0#32
  ![1, v3114.toNat, 27, 0, 0]
def k0_off87 (i : grid0.Coords) (k0_t1 : Fin (k0_t1_loop i).trips) : Fin 5 → Nat :=
  let c1_1687 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3118 : Index := Scalar.indexCast v1160
  let c28_1688 : Index := 28#32
  let c0_1689 : Index := 0#32
  let c0_1690 : Index := 0#32
  ![1, v3118.toNat, 28, 0, 0]
def k0_off88 (i : grid0.Coords) (k0_t1 : Fin (k0_t1_loop i).trips) : Fin 5 → Nat :=
  let c1_1691 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3122 : Index := Scalar.indexCast v1160
  let c29_1692 : Index := 29#32
  let c0_1693 : Index := 0#32
  let c0_1694 : Index := 0#32
  ![1, v3122.toNat, 29, 0, 0]
def k0_off89 (i : grid0.Coords) (k0_t1 : Fin (k0_t1_loop i).trips) : Fin 5 → Nat :=
  let c1_1695 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3126 : Index := Scalar.indexCast v1160
  let c30_1696 : Index := 30#32
  let c0_1697 : Index := 0#32
  let c0_1698 : Index := 0#32
  ![1, v3126.toNat, 30, 0, 0]
def k0_off90 (i : grid0.Coords) (k0_t1 : Fin (k0_t1_loop i).trips) : Fin 5 → Nat :=
  let c1_1699 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3130 : Index := Scalar.indexCast v1160
  let c31_1700 : Index := 31#32
  let c0_1701 : Index := 0#32
  let c0_1702 : Index := 0#32
  ![1, v3130.toNat, 31, 0, 0]
def k0_mult19 (i : grid0.Coords) (k0_t1 : Fin (k0_t1_loop i).trips) : BitVec 32 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let c256_i32_1711 : BitVec 32 := 256#32
  let v3171 : BitVec 32 := Scalar.muli v1160 c256_i32_1711
  v3171
def k0_off91 (i : grid0.Coords) (k0_t1 : Fin (k0_t1_loop i).trips) : Fin 3 → Nat :=
  let c2_1712 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let c256_i32_1711 : BitVec 32 := 256#32
  let v3171 : BitVec 32 := Scalar.muli v1160 c256_i32_1711
  let v3172 : BitVec 32 := v3171
  let v3173 : Index := Scalar.indexCast v3172
  let c0_1713 : Index := 0#32
  ![2, v3173.toNat, 0]
def k0_off92 (i : grid0.Coords) (k0_t1 : Fin (k0_t1_loop i).trips) : Fin 5 → Nat :=
  let c2_1956 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3935 : Index := Scalar.indexCast v1160
  let c0_1957 : Index := 0#32
  let c0_1958 : Index := 0#32
  let c0_1959 : Index := 0#32
  ![2, v3935.toNat, 0, 0, 0]
def k0_off93 (i : grid0.Coords) (k0_t1 : Fin (k0_t1_loop i).trips) : Fin 5 → Nat :=
  let c2_1960 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3939 : Index := Scalar.indexCast v1160
  let c1_1961 : Index := 1#32
  let c0_1962 : Index := 0#32
  let c0_1963 : Index := 0#32
  ![2, v3939.toNat, 1, 0, 0]
def k0_off94 (i : grid0.Coords) (k0_t1 : Fin (k0_t1_loop i).trips) : Fin 5 → Nat :=
  let c2_1964 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3943 : Index := Scalar.indexCast v1160
  let c2_1965 : Index := 2#32
  let c0_1966 : Index := 0#32
  let c0_1967 : Index := 0#32
  ![2, v3943.toNat, 2, 0, 0]
def k0_off95 (i : grid0.Coords) (k0_t1 : Fin (k0_t1_loop i).trips) : Fin 5 → Nat :=
  let c2_1968 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3947 : Index := Scalar.indexCast v1160
  let c3_1969 : Index := 3#32
  let c0_1970 : Index := 0#32
  let c0_1971 : Index := 0#32
  ![2, v3947.toNat, 3, 0, 0]
def k0_off96 (i : grid0.Coords) (k0_t1 : Fin (k0_t1_loop i).trips) : Fin 5 → Nat :=
  let c2_1972 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3951 : Index := Scalar.indexCast v1160
  let c4_1973 : Index := 4#32
  let c0_1974 : Index := 0#32
  let c0_1975 : Index := 0#32
  ![2, v3951.toNat, 4, 0, 0]
def k0_off97 (i : grid0.Coords) (k0_t1 : Fin (k0_t1_loop i).trips) : Fin 5 → Nat :=
  let c2_1976 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3955 : Index := Scalar.indexCast v1160
  let c5_1977 : Index := 5#32
  let c0_1978 : Index := 0#32
  let c0_1979 : Index := 0#32
  ![2, v3955.toNat, 5, 0, 0]
def k0_off98 (i : grid0.Coords) (k0_t1 : Fin (k0_t1_loop i).trips) : Fin 5 → Nat :=
  let c2_1980 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3959 : Index := Scalar.indexCast v1160
  let c6_1981 : Index := 6#32
  let c0_1982 : Index := 0#32
  let c0_1983 : Index := 0#32
  ![2, v3959.toNat, 6, 0, 0]
def k0_off99 (i : grid0.Coords) (k0_t1 : Fin (k0_t1_loop i).trips) : Fin 5 → Nat :=
  let c2_1984 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3963 : Index := Scalar.indexCast v1160
  let c7_1985 : Index := 7#32
  let c0_1986 : Index := 0#32
  let c0_1987 : Index := 0#32
  ![2, v3963.toNat, 7, 0, 0]
def k0_off100 (i : grid0.Coords) (k0_t1 : Fin (k0_t1_loop i).trips) : Fin 5 → Nat :=
  let c2_1988 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3967 : Index := Scalar.indexCast v1160
  let c8_1989 : Index := 8#32
  let c0_1990 : Index := 0#32
  let c0_1991 : Index := 0#32
  ![2, v3967.toNat, 8, 0, 0]
def k0_off101 (i : grid0.Coords) (k0_t1 : Fin (k0_t1_loop i).trips) : Fin 5 → Nat :=
  let c2_1992 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3971 : Index := Scalar.indexCast v1160
  let c9_1993 : Index := 9#32
  let c0_1994 : Index := 0#32
  let c0_1995 : Index := 0#32
  ![2, v3971.toNat, 9, 0, 0]
def k0_off102 (i : grid0.Coords) (k0_t1 : Fin (k0_t1_loop i).trips) : Fin 5 → Nat :=
  let c2_1996 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3975 : Index := Scalar.indexCast v1160
  let c10_1997 : Index := 10#32
  let c0_1998 : Index := 0#32
  let c0_1999 : Index := 0#32
  ![2, v3975.toNat, 10, 0, 0]
def k0_off103 (i : grid0.Coords) (k0_t1 : Fin (k0_t1_loop i).trips) : Fin 5 → Nat :=
  let c2_2000 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3979 : Index := Scalar.indexCast v1160
  let c11_2001 : Index := 11#32
  let c0_2002 : Index := 0#32
  let c0_2003 : Index := 0#32
  ![2, v3979.toNat, 11, 0, 0]
def k0_off104 (i : grid0.Coords) (k0_t1 : Fin (k0_t1_loop i).trips) : Fin 5 → Nat :=
  let c2_2004 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3983 : Index := Scalar.indexCast v1160
  let c12_2005 : Index := 12#32
  let c0_2006 : Index := 0#32
  let c0_2007 : Index := 0#32
  ![2, v3983.toNat, 12, 0, 0]
def k0_off105 (i : grid0.Coords) (k0_t1 : Fin (k0_t1_loop i).trips) : Fin 5 → Nat :=
  let c2_2008 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3987 : Index := Scalar.indexCast v1160
  let c13_2009 : Index := 13#32
  let c0_2010 : Index := 0#32
  let c0_2011 : Index := 0#32
  ![2, v3987.toNat, 13, 0, 0]
def k0_off106 (i : grid0.Coords) (k0_t1 : Fin (k0_t1_loop i).trips) : Fin 5 → Nat :=
  let c2_2012 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3991 : Index := Scalar.indexCast v1160
  let c14_2013 : Index := 14#32
  let c0_2014 : Index := 0#32
  let c0_2015 : Index := 0#32
  ![2, v3991.toNat, 14, 0, 0]
def k0_off107 (i : grid0.Coords) (k0_t1 : Fin (k0_t1_loop i).trips) : Fin 5 → Nat :=
  let c2_2016 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3995 : Index := Scalar.indexCast v1160
  let c15_2017 : Index := 15#32
  let c0_2018 : Index := 0#32
  let c0_2019 : Index := 0#32
  ![2, v3995.toNat, 15, 0, 0]
def k0_off108 (i : grid0.Coords) (k0_t1 : Fin (k0_t1_loop i).trips) : Fin 5 → Nat :=
  let c2_2020 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v3999 : Index := Scalar.indexCast v1160
  let c16_2021 : Index := 16#32
  let c0_2022 : Index := 0#32
  let c0_2023 : Index := 0#32
  ![2, v3999.toNat, 16, 0, 0]
def k0_off109 (i : grid0.Coords) (k0_t1 : Fin (k0_t1_loop i).trips) : Fin 5 → Nat :=
  let c2_2024 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4003 : Index := Scalar.indexCast v1160
  let c17_2025 : Index := 17#32
  let c0_2026 : Index := 0#32
  let c0_2027 : Index := 0#32
  ![2, v4003.toNat, 17, 0, 0]
def k0_off110 (i : grid0.Coords) (k0_t1 : Fin (k0_t1_loop i).trips) : Fin 5 → Nat :=
  let c2_2028 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4007 : Index := Scalar.indexCast v1160
  let c18_2029 : Index := 18#32
  let c0_2030 : Index := 0#32
  let c0_2031 : Index := 0#32
  ![2, v4007.toNat, 18, 0, 0]
def k0_off111 (i : grid0.Coords) (k0_t1 : Fin (k0_t1_loop i).trips) : Fin 5 → Nat :=
  let c2_2032 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4011 : Index := Scalar.indexCast v1160
  let c19_2033 : Index := 19#32
  let c0_2034 : Index := 0#32
  let c0_2035 : Index := 0#32
  ![2, v4011.toNat, 19, 0, 0]
def k0_off112 (i : grid0.Coords) (k0_t1 : Fin (k0_t1_loop i).trips) : Fin 5 → Nat :=
  let c2_2036 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4015 : Index := Scalar.indexCast v1160
  let c20_2037 : Index := 20#32
  let c0_2038 : Index := 0#32
  let c0_2039 : Index := 0#32
  ![2, v4015.toNat, 20, 0, 0]
def k0_off113 (i : grid0.Coords) (k0_t1 : Fin (k0_t1_loop i).trips) : Fin 5 → Nat :=
  let c2_2040 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4019 : Index := Scalar.indexCast v1160
  let c21_2041 : Index := 21#32
  let c0_2042 : Index := 0#32
  let c0_2043 : Index := 0#32
  ![2, v4019.toNat, 21, 0, 0]
def k0_off114 (i : grid0.Coords) (k0_t1 : Fin (k0_t1_loop i).trips) : Fin 5 → Nat :=
  let c2_2044 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4023 : Index := Scalar.indexCast v1160
  let c22_2045 : Index := 22#32
  let c0_2046 : Index := 0#32
  let c0_2047 : Index := 0#32
  ![2, v4023.toNat, 22, 0, 0]
def k0_off115 (i : grid0.Coords) (k0_t1 : Fin (k0_t1_loop i).trips) : Fin 5 → Nat :=
  let c2_2048 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4027 : Index := Scalar.indexCast v1160
  let c23_2049 : Index := 23#32
  let c0_2050 : Index := 0#32
  let c0_2051 : Index := 0#32
  ![2, v4027.toNat, 23, 0, 0]
def k0_off116 (i : grid0.Coords) (k0_t1 : Fin (k0_t1_loop i).trips) : Fin 5 → Nat :=
  let c2_2052 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4031 : Index := Scalar.indexCast v1160
  let c24_2053 : Index := 24#32
  let c0_2054 : Index := 0#32
  let c0_2055 : Index := 0#32
  ![2, v4031.toNat, 24, 0, 0]
def k0_off117 (i : grid0.Coords) (k0_t1 : Fin (k0_t1_loop i).trips) : Fin 5 → Nat :=
  let c2_2056 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4035 : Index := Scalar.indexCast v1160
  let c25_2057 : Index := 25#32
  let c0_2058 : Index := 0#32
  let c0_2059 : Index := 0#32
  ![2, v4035.toNat, 25, 0, 0]
def k0_off118 (i : grid0.Coords) (k0_t1 : Fin (k0_t1_loop i).trips) : Fin 5 → Nat :=
  let c2_2060 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4039 : Index := Scalar.indexCast v1160
  let c26_2061 : Index := 26#32
  let c0_2062 : Index := 0#32
  let c0_2063 : Index := 0#32
  ![2, v4039.toNat, 26, 0, 0]
def k0_off119 (i : grid0.Coords) (k0_t1 : Fin (k0_t1_loop i).trips) : Fin 5 → Nat :=
  let c2_2064 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4043 : Index := Scalar.indexCast v1160
  let c27_2065 : Index := 27#32
  let c0_2066 : Index := 0#32
  let c0_2067 : Index := 0#32
  ![2, v4043.toNat, 27, 0, 0]
def k0_off120 (i : grid0.Coords) (k0_t1 : Fin (k0_t1_loop i).trips) : Fin 5 → Nat :=
  let c2_2068 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4047 : Index := Scalar.indexCast v1160
  let c28_2069 : Index := 28#32
  let c0_2070 : Index := 0#32
  let c0_2071 : Index := 0#32
  ![2, v4047.toNat, 28, 0, 0]
def k0_off121 (i : grid0.Coords) (k0_t1 : Fin (k0_t1_loop i).trips) : Fin 5 → Nat :=
  let c2_2072 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4051 : Index := Scalar.indexCast v1160
  let c29_2073 : Index := 29#32
  let c0_2074 : Index := 0#32
  let c0_2075 : Index := 0#32
  ![2, v4051.toNat, 29, 0, 0]
def k0_off122 (i : grid0.Coords) (k0_t1 : Fin (k0_t1_loop i).trips) : Fin 5 → Nat :=
  let c2_2076 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4055 : Index := Scalar.indexCast v1160
  let c30_2077 : Index := 30#32
  let c0_2078 : Index := 0#32
  let c0_2079 : Index := 0#32
  ![2, v4055.toNat, 30, 0, 0]
def k0_off123 (i : grid0.Coords) (k0_t1 : Fin (k0_t1_loop i).trips) : Fin 5 → Nat :=
  let c2_2080 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4059 : Index := Scalar.indexCast v1160
  let c31_2081 : Index := 31#32
  let c0_2082 : Index := 0#32
  let c0_2083 : Index := 0#32
  ![2, v4059.toNat, 31, 0, 0]
def k0_mult20 (i : grid0.Coords) (k0_t1 : Fin (k0_t1_loop i).trips) : BitVec 32 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let c256_i32_2092 : BitVec 32 := 256#32
  let v4100 : BitVec 32 := Scalar.muli v1160 c256_i32_2092
  v4100
def k0_off124 (i : grid0.Coords) (k0_t1 : Fin (k0_t1_loop i).trips) : Fin 3 → Nat :=
  let c3_2093 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let c256_i32_2092 : BitVec 32 := 256#32
  let v4100 : BitVec 32 := Scalar.muli v1160 c256_i32_2092
  let v4101 : BitVec 32 := v4100
  let v4102 : Index := Scalar.indexCast v4101
  let c0_2094 : Index := 0#32
  ![3, v4102.toNat, 0]
def k0_off125 (i : grid0.Coords) (k0_t1 : Fin (k0_t1_loop i).trips) : Fin 5 → Nat :=
  let c3_2337 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4864 : Index := Scalar.indexCast v1160
  let c0_2338 : Index := 0#32
  let c0_2339 : Index := 0#32
  let c0_2340 : Index := 0#32
  ![3, v4864.toNat, 0, 0, 0]
def k0_off126 (i : grid0.Coords) (k0_t1 : Fin (k0_t1_loop i).trips) : Fin 5 → Nat :=
  let c3_2341 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4868 : Index := Scalar.indexCast v1160
  let c1_2342 : Index := 1#32
  let c0_2343 : Index := 0#32
  let c0_2344 : Index := 0#32
  ![3, v4868.toNat, 1, 0, 0]
def k0_off127 (i : grid0.Coords) (k0_t1 : Fin (k0_t1_loop i).trips) : Fin 5 → Nat :=
  let c3_2345 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4872 : Index := Scalar.indexCast v1160
  let c2_2346 : Index := 2#32
  let c0_2347 : Index := 0#32
  let c0_2348 : Index := 0#32
  ![3, v4872.toNat, 2, 0, 0]
def k0_off128 (i : grid0.Coords) (k0_t1 : Fin (k0_t1_loop i).trips) : Fin 5 → Nat :=
  let c3_2349 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4876 : Index := Scalar.indexCast v1160
  let c3_2350 : Index := 3#32
  let c0_2351 : Index := 0#32
  let c0_2352 : Index := 0#32
  ![3, v4876.toNat, 3, 0, 0]
def k0_off129 (i : grid0.Coords) (k0_t1 : Fin (k0_t1_loop i).trips) : Fin 5 → Nat :=
  let c3_2353 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4880 : Index := Scalar.indexCast v1160
  let c4_2354 : Index := 4#32
  let c0_2355 : Index := 0#32
  let c0_2356 : Index := 0#32
  ![3, v4880.toNat, 4, 0, 0]
def k0_off130 (i : grid0.Coords) (k0_t1 : Fin (k0_t1_loop i).trips) : Fin 5 → Nat :=
  let c3_2357 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4884 : Index := Scalar.indexCast v1160
  let c5_2358 : Index := 5#32
  let c0_2359 : Index := 0#32
  let c0_2360 : Index := 0#32
  ![3, v4884.toNat, 5, 0, 0]
def k0_off131 (i : grid0.Coords) (k0_t1 : Fin (k0_t1_loop i).trips) : Fin 5 → Nat :=
  let c3_2361 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4888 : Index := Scalar.indexCast v1160
  let c6_2362 : Index := 6#32
  let c0_2363 : Index := 0#32
  let c0_2364 : Index := 0#32
  ![3, v4888.toNat, 6, 0, 0]
def k0_off132 (i : grid0.Coords) (k0_t1 : Fin (k0_t1_loop i).trips) : Fin 5 → Nat :=
  let c3_2365 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4892 : Index := Scalar.indexCast v1160
  let c7_2366 : Index := 7#32
  let c0_2367 : Index := 0#32
  let c0_2368 : Index := 0#32
  ![3, v4892.toNat, 7, 0, 0]
def k0_off133 (i : grid0.Coords) (k0_t1 : Fin (k0_t1_loop i).trips) : Fin 5 → Nat :=
  let c3_2369 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4896 : Index := Scalar.indexCast v1160
  let c8_2370 : Index := 8#32
  let c0_2371 : Index := 0#32
  let c0_2372 : Index := 0#32
  ![3, v4896.toNat, 8, 0, 0]
def k0_off134 (i : grid0.Coords) (k0_t1 : Fin (k0_t1_loop i).trips) : Fin 5 → Nat :=
  let c3_2373 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4900 : Index := Scalar.indexCast v1160
  let c9_2374 : Index := 9#32
  let c0_2375 : Index := 0#32
  let c0_2376 : Index := 0#32
  ![3, v4900.toNat, 9, 0, 0]
def k0_off135 (i : grid0.Coords) (k0_t1 : Fin (k0_t1_loop i).trips) : Fin 5 → Nat :=
  let c3_2377 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4904 : Index := Scalar.indexCast v1160
  let c10_2378 : Index := 10#32
  let c0_2379 : Index := 0#32
  let c0_2380 : Index := 0#32
  ![3, v4904.toNat, 10, 0, 0]
def k0_off136 (i : grid0.Coords) (k0_t1 : Fin (k0_t1_loop i).trips) : Fin 5 → Nat :=
  let c3_2381 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4908 : Index := Scalar.indexCast v1160
  let c11_2382 : Index := 11#32
  let c0_2383 : Index := 0#32
  let c0_2384 : Index := 0#32
  ![3, v4908.toNat, 11, 0, 0]
def k0_off137 (i : grid0.Coords) (k0_t1 : Fin (k0_t1_loop i).trips) : Fin 5 → Nat :=
  let c3_2385 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4912 : Index := Scalar.indexCast v1160
  let c12_2386 : Index := 12#32
  let c0_2387 : Index := 0#32
  let c0_2388 : Index := 0#32
  ![3, v4912.toNat, 12, 0, 0]
def k0_off138 (i : grid0.Coords) (k0_t1 : Fin (k0_t1_loop i).trips) : Fin 5 → Nat :=
  let c3_2389 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4916 : Index := Scalar.indexCast v1160
  let c13_2390 : Index := 13#32
  let c0_2391 : Index := 0#32
  let c0_2392 : Index := 0#32
  ![3, v4916.toNat, 13, 0, 0]
def k0_off139 (i : grid0.Coords) (k0_t1 : Fin (k0_t1_loop i).trips) : Fin 5 → Nat :=
  let c3_2393 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4920 : Index := Scalar.indexCast v1160
  let c14_2394 : Index := 14#32
  let c0_2395 : Index := 0#32
  let c0_2396 : Index := 0#32
  ![3, v4920.toNat, 14, 0, 0]
def k0_off140 (i : grid0.Coords) (k0_t1 : Fin (k0_t1_loop i).trips) : Fin 5 → Nat :=
  let c3_2397 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4924 : Index := Scalar.indexCast v1160
  let c15_2398 : Index := 15#32
  let c0_2399 : Index := 0#32
  let c0_2400 : Index := 0#32
  ![3, v4924.toNat, 15, 0, 0]
def k0_off141 (i : grid0.Coords) (k0_t1 : Fin (k0_t1_loop i).trips) : Fin 5 → Nat :=
  let c3_2401 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4928 : Index := Scalar.indexCast v1160
  let c16_2402 : Index := 16#32
  let c0_2403 : Index := 0#32
  let c0_2404 : Index := 0#32
  ![3, v4928.toNat, 16, 0, 0]
def k0_off142 (i : grid0.Coords) (k0_t1 : Fin (k0_t1_loop i).trips) : Fin 5 → Nat :=
  let c3_2405 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4932 : Index := Scalar.indexCast v1160
  let c17_2406 : Index := 17#32
  let c0_2407 : Index := 0#32
  let c0_2408 : Index := 0#32
  ![3, v4932.toNat, 17, 0, 0]
def k0_off143 (i : grid0.Coords) (k0_t1 : Fin (k0_t1_loop i).trips) : Fin 5 → Nat :=
  let c3_2409 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4936 : Index := Scalar.indexCast v1160
  let c18_2410 : Index := 18#32
  let c0_2411 : Index := 0#32
  let c0_2412 : Index := 0#32
  ![3, v4936.toNat, 18, 0, 0]
def k0_off144 (i : grid0.Coords) (k0_t1 : Fin (k0_t1_loop i).trips) : Fin 5 → Nat :=
  let c3_2413 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4940 : Index := Scalar.indexCast v1160
  let c19_2414 : Index := 19#32
  let c0_2415 : Index := 0#32
  let c0_2416 : Index := 0#32
  ![3, v4940.toNat, 19, 0, 0]
def k0_off145 (i : grid0.Coords) (k0_t1 : Fin (k0_t1_loop i).trips) : Fin 5 → Nat :=
  let c3_2417 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4944 : Index := Scalar.indexCast v1160
  let c20_2418 : Index := 20#32
  let c0_2419 : Index := 0#32
  let c0_2420 : Index := 0#32
  ![3, v4944.toNat, 20, 0, 0]
def k0_off146 (i : grid0.Coords) (k0_t1 : Fin (k0_t1_loop i).trips) : Fin 5 → Nat :=
  let c3_2421 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4948 : Index := Scalar.indexCast v1160
  let c21_2422 : Index := 21#32
  let c0_2423 : Index := 0#32
  let c0_2424 : Index := 0#32
  ![3, v4948.toNat, 21, 0, 0]
def k0_off147 (i : grid0.Coords) (k0_t1 : Fin (k0_t1_loop i).trips) : Fin 5 → Nat :=
  let c3_2425 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4952 : Index := Scalar.indexCast v1160
  let c22_2426 : Index := 22#32
  let c0_2427 : Index := 0#32
  let c0_2428 : Index := 0#32
  ![3, v4952.toNat, 22, 0, 0]
def k0_off148 (i : grid0.Coords) (k0_t1 : Fin (k0_t1_loop i).trips) : Fin 5 → Nat :=
  let c3_2429 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4956 : Index := Scalar.indexCast v1160
  let c23_2430 : Index := 23#32
  let c0_2431 : Index := 0#32
  let c0_2432 : Index := 0#32
  ![3, v4956.toNat, 23, 0, 0]
def k0_off149 (i : grid0.Coords) (k0_t1 : Fin (k0_t1_loop i).trips) : Fin 5 → Nat :=
  let c3_2433 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4960 : Index := Scalar.indexCast v1160
  let c24_2434 : Index := 24#32
  let c0_2435 : Index := 0#32
  let c0_2436 : Index := 0#32
  ![3, v4960.toNat, 24, 0, 0]
def k0_off150 (i : grid0.Coords) (k0_t1 : Fin (k0_t1_loop i).trips) : Fin 5 → Nat :=
  let c3_2437 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4964 : Index := Scalar.indexCast v1160
  let c25_2438 : Index := 25#32
  let c0_2439 : Index := 0#32
  let c0_2440 : Index := 0#32
  ![3, v4964.toNat, 25, 0, 0]
def k0_off151 (i : grid0.Coords) (k0_t1 : Fin (k0_t1_loop i).trips) : Fin 5 → Nat :=
  let c3_2441 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4968 : Index := Scalar.indexCast v1160
  let c26_2442 : Index := 26#32
  let c0_2443 : Index := 0#32
  let c0_2444 : Index := 0#32
  ![3, v4968.toNat, 26, 0, 0]
def k0_off152 (i : grid0.Coords) (k0_t1 : Fin (k0_t1_loop i).trips) : Fin 5 → Nat :=
  let c3_2445 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4972 : Index := Scalar.indexCast v1160
  let c27_2446 : Index := 27#32
  let c0_2447 : Index := 0#32
  let c0_2448 : Index := 0#32
  ![3, v4972.toNat, 27, 0, 0]
def k0_off153 (i : grid0.Coords) (k0_t1 : Fin (k0_t1_loop i).trips) : Fin 5 → Nat :=
  let c3_2449 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4976 : Index := Scalar.indexCast v1160
  let c28_2450 : Index := 28#32
  let c0_2451 : Index := 0#32
  let c0_2452 : Index := 0#32
  ![3, v4976.toNat, 28, 0, 0]
def k0_off154 (i : grid0.Coords) (k0_t1 : Fin (k0_t1_loop i).trips) : Fin 5 → Nat :=
  let c3_2453 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4980 : Index := Scalar.indexCast v1160
  let c29_2454 : Index := 29#32
  let c0_2455 : Index := 0#32
  let c0_2456 : Index := 0#32
  ![3, v4980.toNat, 29, 0, 0]
def k0_off155 (i : grid0.Coords) (k0_t1 : Fin (k0_t1_loop i).trips) : Fin 5 → Nat :=
  let c3_2457 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4984 : Index := Scalar.indexCast v1160
  let c30_2458 : Index := 30#32
  let c0_2459 : Index := 0#32
  let c0_2460 : Index := 0#32
  ![3, v4984.toNat, 30, 0, 0]
def k0_off156 (i : grid0.Coords) (k0_t1 : Fin (k0_t1_loop i).trips) : Fin 5 → Nat :=
  let c3_2461 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let c1_i32_561 : BitVec 32 := 1#32
  let arg19 : BitVec 32 := Scf.iv c0_i32_559 c1_i32_561 k0_t1
  let v1159 : BitVec 32 := Scalar.muli c2_i32_861 arg19
  let v1160 : BitVec 32 := Scalar.addi v660 v1159
  let v4988 : Index := Scalar.indexCast v1160
  let c31_2462 : Index := 31#32
  let c0_2463 : Index := 0#32
  let c0_2464 : Index := 0#32
  ![3, v4988.toNat, 31, 0, 0]
def k0_mult21 (i : grid0.Coords) (k0_t1 : Fin (k0_t1_loop i).trips) : BitVec 32 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let c256_i32_2473 : BitVec 32 := 256#32
  let v5029 : BitVec 32 := Scalar.muli v1163 c256_i32_2473
  v5029
def k0_off157 (i : grid0.Coords) (k0_t1 : Fin (k0_t1_loop i).trips) : Fin 3 → Nat :=
  let c0_2474 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let c256_i32_2473 : BitVec 32 := 256#32
  let v5029 : BitVec 32 := Scalar.muli v1163 c256_i32_2473
  let v5030 : BitVec 32 := v5029
  let v5031 : Index := Scalar.indexCast v5030
  let c0_2475 : Index := 0#32
  ![0, v5031.toNat, 0]
def k0_off158 (i : grid0.Coords) (k0_t1 : Fin (k0_t1_loop i).trips) : Fin 5 → Nat :=
  let c0_2718 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5793 : Index := Scalar.indexCast v1163
  let c0_2719 : Index := 0#32
  let c0_2720 : Index := 0#32
  let c0_2721 : Index := 0#32
  ![0, v5793.toNat, 0, 0, 0]
def k0_off159 (i : grid0.Coords) (k0_t1 : Fin (k0_t1_loop i).trips) : Fin 5 → Nat :=
  let c0_2722 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5797 : Index := Scalar.indexCast v1163
  let c1_2723 : Index := 1#32
  let c0_2724 : Index := 0#32
  let c0_2725 : Index := 0#32
  ![0, v5797.toNat, 1, 0, 0]
def k0_off160 (i : grid0.Coords) (k0_t1 : Fin (k0_t1_loop i).trips) : Fin 5 → Nat :=
  let c0_2726 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5801 : Index := Scalar.indexCast v1163
  let c2_2727 : Index := 2#32
  let c0_2728 : Index := 0#32
  let c0_2729 : Index := 0#32
  ![0, v5801.toNat, 2, 0, 0]
def k0_off161 (i : grid0.Coords) (k0_t1 : Fin (k0_t1_loop i).trips) : Fin 5 → Nat :=
  let c0_2730 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5805 : Index := Scalar.indexCast v1163
  let c3_2731 : Index := 3#32
  let c0_2732 : Index := 0#32
  let c0_2733 : Index := 0#32
  ![0, v5805.toNat, 3, 0, 0]
def k0_off162 (i : grid0.Coords) (k0_t1 : Fin (k0_t1_loop i).trips) : Fin 5 → Nat :=
  let c0_2734 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5809 : Index := Scalar.indexCast v1163
  let c4_2735 : Index := 4#32
  let c0_2736 : Index := 0#32
  let c0_2737 : Index := 0#32
  ![0, v5809.toNat, 4, 0, 0]
def k0_off163 (i : grid0.Coords) (k0_t1 : Fin (k0_t1_loop i).trips) : Fin 5 → Nat :=
  let c0_2738 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5813 : Index := Scalar.indexCast v1163
  let c5_2739 : Index := 5#32
  let c0_2740 : Index := 0#32
  let c0_2741 : Index := 0#32
  ![0, v5813.toNat, 5, 0, 0]
def k0_off164 (i : grid0.Coords) (k0_t1 : Fin (k0_t1_loop i).trips) : Fin 5 → Nat :=
  let c0_2742 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5817 : Index := Scalar.indexCast v1163
  let c6_2743 : Index := 6#32
  let c0_2744 : Index := 0#32
  let c0_2745 : Index := 0#32
  ![0, v5817.toNat, 6, 0, 0]
def k0_off165 (i : grid0.Coords) (k0_t1 : Fin (k0_t1_loop i).trips) : Fin 5 → Nat :=
  let c0_2746 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5821 : Index := Scalar.indexCast v1163
  let c7_2747 : Index := 7#32
  let c0_2748 : Index := 0#32
  let c0_2749 : Index := 0#32
  ![0, v5821.toNat, 7, 0, 0]
def k0_off166 (i : grid0.Coords) (k0_t1 : Fin (k0_t1_loop i).trips) : Fin 5 → Nat :=
  let c0_2750 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5825 : Index := Scalar.indexCast v1163
  let c8_2751 : Index := 8#32
  let c0_2752 : Index := 0#32
  let c0_2753 : Index := 0#32
  ![0, v5825.toNat, 8, 0, 0]
def k0_off167 (i : grid0.Coords) (k0_t1 : Fin (k0_t1_loop i).trips) : Fin 5 → Nat :=
  let c0_2754 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5829 : Index := Scalar.indexCast v1163
  let c9_2755 : Index := 9#32
  let c0_2756 : Index := 0#32
  let c0_2757 : Index := 0#32
  ![0, v5829.toNat, 9, 0, 0]
def k0_off168 (i : grid0.Coords) (k0_t1 : Fin (k0_t1_loop i).trips) : Fin 5 → Nat :=
  let c0_2758 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5833 : Index := Scalar.indexCast v1163
  let c10_2759 : Index := 10#32
  let c0_2760 : Index := 0#32
  let c0_2761 : Index := 0#32
  ![0, v5833.toNat, 10, 0, 0]
def k0_off169 (i : grid0.Coords) (k0_t1 : Fin (k0_t1_loop i).trips) : Fin 5 → Nat :=
  let c0_2762 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5837 : Index := Scalar.indexCast v1163
  let c11_2763 : Index := 11#32
  let c0_2764 : Index := 0#32
  let c0_2765 : Index := 0#32
  ![0, v5837.toNat, 11, 0, 0]
def k0_off170 (i : grid0.Coords) (k0_t1 : Fin (k0_t1_loop i).trips) : Fin 5 → Nat :=
  let c0_2766 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5841 : Index := Scalar.indexCast v1163
  let c12_2767 : Index := 12#32
  let c0_2768 : Index := 0#32
  let c0_2769 : Index := 0#32
  ![0, v5841.toNat, 12, 0, 0]
def k0_off171 (i : grid0.Coords) (k0_t1 : Fin (k0_t1_loop i).trips) : Fin 5 → Nat :=
  let c0_2770 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5845 : Index := Scalar.indexCast v1163
  let c13_2771 : Index := 13#32
  let c0_2772 : Index := 0#32
  let c0_2773 : Index := 0#32
  ![0, v5845.toNat, 13, 0, 0]
def k0_off172 (i : grid0.Coords) (k0_t1 : Fin (k0_t1_loop i).trips) : Fin 5 → Nat :=
  let c0_2774 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5849 : Index := Scalar.indexCast v1163
  let c14_2775 : Index := 14#32
  let c0_2776 : Index := 0#32
  let c0_2777 : Index := 0#32
  ![0, v5849.toNat, 14, 0, 0]
def k0_off173 (i : grid0.Coords) (k0_t1 : Fin (k0_t1_loop i).trips) : Fin 5 → Nat :=
  let c0_2778 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5853 : Index := Scalar.indexCast v1163
  let c15_2779 : Index := 15#32
  let c0_2780 : Index := 0#32
  let c0_2781 : Index := 0#32
  ![0, v5853.toNat, 15, 0, 0]
def k0_off174 (i : grid0.Coords) (k0_t1 : Fin (k0_t1_loop i).trips) : Fin 5 → Nat :=
  let c0_2782 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5857 : Index := Scalar.indexCast v1163
  let c16_2783 : Index := 16#32
  let c0_2784 : Index := 0#32
  let c0_2785 : Index := 0#32
  ![0, v5857.toNat, 16, 0, 0]
def k0_off175 (i : grid0.Coords) (k0_t1 : Fin (k0_t1_loop i).trips) : Fin 5 → Nat :=
  let c0_2786 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5861 : Index := Scalar.indexCast v1163
  let c17_2787 : Index := 17#32
  let c0_2788 : Index := 0#32
  let c0_2789 : Index := 0#32
  ![0, v5861.toNat, 17, 0, 0]
def k0_off176 (i : grid0.Coords) (k0_t1 : Fin (k0_t1_loop i).trips) : Fin 5 → Nat :=
  let c0_2790 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5865 : Index := Scalar.indexCast v1163
  let c18_2791 : Index := 18#32
  let c0_2792 : Index := 0#32
  let c0_2793 : Index := 0#32
  ![0, v5865.toNat, 18, 0, 0]
def k0_off177 (i : grid0.Coords) (k0_t1 : Fin (k0_t1_loop i).trips) : Fin 5 → Nat :=
  let c0_2794 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5869 : Index := Scalar.indexCast v1163
  let c19_2795 : Index := 19#32
  let c0_2796 : Index := 0#32
  let c0_2797 : Index := 0#32
  ![0, v5869.toNat, 19, 0, 0]
def k0_off178 (i : grid0.Coords) (k0_t1 : Fin (k0_t1_loop i).trips) : Fin 5 → Nat :=
  let c0_2798 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5873 : Index := Scalar.indexCast v1163
  let c20_2799 : Index := 20#32
  let c0_2800 : Index := 0#32
  let c0_2801 : Index := 0#32
  ![0, v5873.toNat, 20, 0, 0]
def k0_off179 (i : grid0.Coords) (k0_t1 : Fin (k0_t1_loop i).trips) : Fin 5 → Nat :=
  let c0_2802 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5877 : Index := Scalar.indexCast v1163
  let c21_2803 : Index := 21#32
  let c0_2804 : Index := 0#32
  let c0_2805 : Index := 0#32
  ![0, v5877.toNat, 21, 0, 0]
def k0_off180 (i : grid0.Coords) (k0_t1 : Fin (k0_t1_loop i).trips) : Fin 5 → Nat :=
  let c0_2806 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5881 : Index := Scalar.indexCast v1163
  let c22_2807 : Index := 22#32
  let c0_2808 : Index := 0#32
  let c0_2809 : Index := 0#32
  ![0, v5881.toNat, 22, 0, 0]
def k0_off181 (i : grid0.Coords) (k0_t1 : Fin (k0_t1_loop i).trips) : Fin 5 → Nat :=
  let c0_2810 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5885 : Index := Scalar.indexCast v1163
  let c23_2811 : Index := 23#32
  let c0_2812 : Index := 0#32
  let c0_2813 : Index := 0#32
  ![0, v5885.toNat, 23, 0, 0]
def k0_off182 (i : grid0.Coords) (k0_t1 : Fin (k0_t1_loop i).trips) : Fin 5 → Nat :=
  let c0_2814 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5889 : Index := Scalar.indexCast v1163
  let c24_2815 : Index := 24#32
  let c0_2816 : Index := 0#32
  let c0_2817 : Index := 0#32
  ![0, v5889.toNat, 24, 0, 0]
def k0_off183 (i : grid0.Coords) (k0_t1 : Fin (k0_t1_loop i).trips) : Fin 5 → Nat :=
  let c0_2818 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5893 : Index := Scalar.indexCast v1163
  let c25_2819 : Index := 25#32
  let c0_2820 : Index := 0#32
  let c0_2821 : Index := 0#32
  ![0, v5893.toNat, 25, 0, 0]
def k0_off184 (i : grid0.Coords) (k0_t1 : Fin (k0_t1_loop i).trips) : Fin 5 → Nat :=
  let c0_2822 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5897 : Index := Scalar.indexCast v1163
  let c26_2823 : Index := 26#32
  let c0_2824 : Index := 0#32
  let c0_2825 : Index := 0#32
  ![0, v5897.toNat, 26, 0, 0]
def k0_off185 (i : grid0.Coords) (k0_t1 : Fin (k0_t1_loop i).trips) : Fin 5 → Nat :=
  let c0_2826 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5901 : Index := Scalar.indexCast v1163
  let c27_2827 : Index := 27#32
  let c0_2828 : Index := 0#32
  let c0_2829 : Index := 0#32
  ![0, v5901.toNat, 27, 0, 0]
def k0_off186 (i : grid0.Coords) (k0_t1 : Fin (k0_t1_loop i).trips) : Fin 5 → Nat :=
  let c0_2830 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5905 : Index := Scalar.indexCast v1163
  let c28_2831 : Index := 28#32
  let c0_2832 : Index := 0#32
  let c0_2833 : Index := 0#32
  ![0, v5905.toNat, 28, 0, 0]
def k0_off187 (i : grid0.Coords) (k0_t1 : Fin (k0_t1_loop i).trips) : Fin 5 → Nat :=
  let c0_2834 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5909 : Index := Scalar.indexCast v1163
  let c29_2835 : Index := 29#32
  let c0_2836 : Index := 0#32
  let c0_2837 : Index := 0#32
  ![0, v5909.toNat, 29, 0, 0]
def k0_off188 (i : grid0.Coords) (k0_t1 : Fin (k0_t1_loop i).trips) : Fin 5 → Nat :=
  let c0_2838 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5913 : Index := Scalar.indexCast v1163
  let c30_2839 : Index := 30#32
  let c0_2840 : Index := 0#32
  let c0_2841 : Index := 0#32
  ![0, v5913.toNat, 30, 0, 0]
def k0_off189 (i : grid0.Coords) (k0_t1 : Fin (k0_t1_loop i).trips) : Fin 5 → Nat :=
  let c0_2842 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5917 : Index := Scalar.indexCast v1163
  let c31_2843 : Index := 31#32
  let c0_2844 : Index := 0#32
  let c0_2845 : Index := 0#32
  ![0, v5917.toNat, 31, 0, 0]
def k0_mult22 (i : grid0.Coords) (k0_t1 : Fin (k0_t1_loop i).trips) : BitVec 32 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let c256_i32_2854 : BitVec 32 := 256#32
  let v5958 : BitVec 32 := Scalar.muli v1163 c256_i32_2854
  v5958
def k0_off190 (i : grid0.Coords) (k0_t1 : Fin (k0_t1_loop i).trips) : Fin 3 → Nat :=
  let c1_2855 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let c256_i32_2854 : BitVec 32 := 256#32
  let v5958 : BitVec 32 := Scalar.muli v1163 c256_i32_2854
  let v5959 : BitVec 32 := v5958
  let v5960 : Index := Scalar.indexCast v5959
  let c0_2856 : Index := 0#32
  ![1, v5960.toNat, 0]
def k0_off191 (i : grid0.Coords) (k0_t1 : Fin (k0_t1_loop i).trips) : Fin 5 → Nat :=
  let c1_3099 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6722 : Index := Scalar.indexCast v1163
  let c0_3100 : Index := 0#32
  let c0_3101 : Index := 0#32
  let c0_3102 : Index := 0#32
  ![1, v6722.toNat, 0, 0, 0]
def k0_off192 (i : grid0.Coords) (k0_t1 : Fin (k0_t1_loop i).trips) : Fin 5 → Nat :=
  let c1_3103 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6726 : Index := Scalar.indexCast v1163
  let c1_3104 : Index := 1#32
  let c0_3105 : Index := 0#32
  let c0_3106 : Index := 0#32
  ![1, v6726.toNat, 1, 0, 0]
def k0_off193 (i : grid0.Coords) (k0_t1 : Fin (k0_t1_loop i).trips) : Fin 5 → Nat :=
  let c1_3107 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6730 : Index := Scalar.indexCast v1163
  let c2_3108 : Index := 2#32
  let c0_3109 : Index := 0#32
  let c0_3110 : Index := 0#32
  ![1, v6730.toNat, 2, 0, 0]
def k0_off194 (i : grid0.Coords) (k0_t1 : Fin (k0_t1_loop i).trips) : Fin 5 → Nat :=
  let c1_3111 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6734 : Index := Scalar.indexCast v1163
  let c3_3112 : Index := 3#32
  let c0_3113 : Index := 0#32
  let c0_3114 : Index := 0#32
  ![1, v6734.toNat, 3, 0, 0]
def k0_off195 (i : grid0.Coords) (k0_t1 : Fin (k0_t1_loop i).trips) : Fin 5 → Nat :=
  let c1_3115 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6738 : Index := Scalar.indexCast v1163
  let c4_3116 : Index := 4#32
  let c0_3117 : Index := 0#32
  let c0_3118 : Index := 0#32
  ![1, v6738.toNat, 4, 0, 0]
def k0_off196 (i : grid0.Coords) (k0_t1 : Fin (k0_t1_loop i).trips) : Fin 5 → Nat :=
  let c1_3119 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6742 : Index := Scalar.indexCast v1163
  let c5_3120 : Index := 5#32
  let c0_3121 : Index := 0#32
  let c0_3122 : Index := 0#32
  ![1, v6742.toNat, 5, 0, 0]
def k0_off197 (i : grid0.Coords) (k0_t1 : Fin (k0_t1_loop i).trips) : Fin 5 → Nat :=
  let c1_3123 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6746 : Index := Scalar.indexCast v1163
  let c6_3124 : Index := 6#32
  let c0_3125 : Index := 0#32
  let c0_3126 : Index := 0#32
  ![1, v6746.toNat, 6, 0, 0]
def k0_off198 (i : grid0.Coords) (k0_t1 : Fin (k0_t1_loop i).trips) : Fin 5 → Nat :=
  let c1_3127 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6750 : Index := Scalar.indexCast v1163
  let c7_3128 : Index := 7#32
  let c0_3129 : Index := 0#32
  let c0_3130 : Index := 0#32
  ![1, v6750.toNat, 7, 0, 0]
def k0_off199 (i : grid0.Coords) (k0_t1 : Fin (k0_t1_loop i).trips) : Fin 5 → Nat :=
  let c1_3131 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6754 : Index := Scalar.indexCast v1163
  let c8_3132 : Index := 8#32
  let c0_3133 : Index := 0#32
  let c0_3134 : Index := 0#32
  ![1, v6754.toNat, 8, 0, 0]
def k0_off200 (i : grid0.Coords) (k0_t1 : Fin (k0_t1_loop i).trips) : Fin 5 → Nat :=
  let c1_3135 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6758 : Index := Scalar.indexCast v1163
  let c9_3136 : Index := 9#32
  let c0_3137 : Index := 0#32
  let c0_3138 : Index := 0#32
  ![1, v6758.toNat, 9, 0, 0]
def k0_off201 (i : grid0.Coords) (k0_t1 : Fin (k0_t1_loop i).trips) : Fin 5 → Nat :=
  let c1_3139 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6762 : Index := Scalar.indexCast v1163
  let c10_3140 : Index := 10#32
  let c0_3141 : Index := 0#32
  let c0_3142 : Index := 0#32
  ![1, v6762.toNat, 10, 0, 0]
def k0_off202 (i : grid0.Coords) (k0_t1 : Fin (k0_t1_loop i).trips) : Fin 5 → Nat :=
  let c1_3143 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6766 : Index := Scalar.indexCast v1163
  let c11_3144 : Index := 11#32
  let c0_3145 : Index := 0#32
  let c0_3146 : Index := 0#32
  ![1, v6766.toNat, 11, 0, 0]
def k0_off203 (i : grid0.Coords) (k0_t1 : Fin (k0_t1_loop i).trips) : Fin 5 → Nat :=
  let c1_3147 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6770 : Index := Scalar.indexCast v1163
  let c12_3148 : Index := 12#32
  let c0_3149 : Index := 0#32
  let c0_3150 : Index := 0#32
  ![1, v6770.toNat, 12, 0, 0]
def k0_off204 (i : grid0.Coords) (k0_t1 : Fin (k0_t1_loop i).trips) : Fin 5 → Nat :=
  let c1_3151 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6774 : Index := Scalar.indexCast v1163
  let c13_3152 : Index := 13#32
  let c0_3153 : Index := 0#32
  let c0_3154 : Index := 0#32
  ![1, v6774.toNat, 13, 0, 0]
def k0_off205 (i : grid0.Coords) (k0_t1 : Fin (k0_t1_loop i).trips) : Fin 5 → Nat :=
  let c1_3155 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6778 : Index := Scalar.indexCast v1163
  let c14_3156 : Index := 14#32
  let c0_3157 : Index := 0#32
  let c0_3158 : Index := 0#32
  ![1, v6778.toNat, 14, 0, 0]
def k0_off206 (i : grid0.Coords) (k0_t1 : Fin (k0_t1_loop i).trips) : Fin 5 → Nat :=
  let c1_3159 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6782 : Index := Scalar.indexCast v1163
  let c15_3160 : Index := 15#32
  let c0_3161 : Index := 0#32
  let c0_3162 : Index := 0#32
  ![1, v6782.toNat, 15, 0, 0]
def k0_off207 (i : grid0.Coords) (k0_t1 : Fin (k0_t1_loop i).trips) : Fin 5 → Nat :=
  let c1_3163 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6786 : Index := Scalar.indexCast v1163
  let c16_3164 : Index := 16#32
  let c0_3165 : Index := 0#32
  let c0_3166 : Index := 0#32
  ![1, v6786.toNat, 16, 0, 0]
def k0_off208 (i : grid0.Coords) (k0_t1 : Fin (k0_t1_loop i).trips) : Fin 5 → Nat :=
  let c1_3167 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6790 : Index := Scalar.indexCast v1163
  let c17_3168 : Index := 17#32
  let c0_3169 : Index := 0#32
  let c0_3170 : Index := 0#32
  ![1, v6790.toNat, 17, 0, 0]
def k0_off209 (i : grid0.Coords) (k0_t1 : Fin (k0_t1_loop i).trips) : Fin 5 → Nat :=
  let c1_3171 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6794 : Index := Scalar.indexCast v1163
  let c18_3172 : Index := 18#32
  let c0_3173 : Index := 0#32
  let c0_3174 : Index := 0#32
  ![1, v6794.toNat, 18, 0, 0]
def k0_off210 (i : grid0.Coords) (k0_t1 : Fin (k0_t1_loop i).trips) : Fin 5 → Nat :=
  let c1_3175 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6798 : Index := Scalar.indexCast v1163
  let c19_3176 : Index := 19#32
  let c0_3177 : Index := 0#32
  let c0_3178 : Index := 0#32
  ![1, v6798.toNat, 19, 0, 0]
def k0_off211 (i : grid0.Coords) (k0_t1 : Fin (k0_t1_loop i).trips) : Fin 5 → Nat :=
  let c1_3179 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6802 : Index := Scalar.indexCast v1163
  let c20_3180 : Index := 20#32
  let c0_3181 : Index := 0#32
  let c0_3182 : Index := 0#32
  ![1, v6802.toNat, 20, 0, 0]
def k0_off212 (i : grid0.Coords) (k0_t1 : Fin (k0_t1_loop i).trips) : Fin 5 → Nat :=
  let c1_3183 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6806 : Index := Scalar.indexCast v1163
  let c21_3184 : Index := 21#32
  let c0_3185 : Index := 0#32
  let c0_3186 : Index := 0#32
  ![1, v6806.toNat, 21, 0, 0]
def k0_off213 (i : grid0.Coords) (k0_t1 : Fin (k0_t1_loop i).trips) : Fin 5 → Nat :=
  let c1_3187 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6810 : Index := Scalar.indexCast v1163
  let c22_3188 : Index := 22#32
  let c0_3189 : Index := 0#32
  let c0_3190 : Index := 0#32
  ![1, v6810.toNat, 22, 0, 0]
def k0_off214 (i : grid0.Coords) (k0_t1 : Fin (k0_t1_loop i).trips) : Fin 5 → Nat :=
  let c1_3191 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6814 : Index := Scalar.indexCast v1163
  let c23_3192 : Index := 23#32
  let c0_3193 : Index := 0#32
  let c0_3194 : Index := 0#32
  ![1, v6814.toNat, 23, 0, 0]
def k0_off215 (i : grid0.Coords) (k0_t1 : Fin (k0_t1_loop i).trips) : Fin 5 → Nat :=
  let c1_3195 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6818 : Index := Scalar.indexCast v1163
  let c24_3196 : Index := 24#32
  let c0_3197 : Index := 0#32
  let c0_3198 : Index := 0#32
  ![1, v6818.toNat, 24, 0, 0]
def k0_off216 (i : grid0.Coords) (k0_t1 : Fin (k0_t1_loop i).trips) : Fin 5 → Nat :=
  let c1_3199 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6822 : Index := Scalar.indexCast v1163
  let c25_3200 : Index := 25#32
  let c0_3201 : Index := 0#32
  let c0_3202 : Index := 0#32
  ![1, v6822.toNat, 25, 0, 0]
def k0_off217 (i : grid0.Coords) (k0_t1 : Fin (k0_t1_loop i).trips) : Fin 5 → Nat :=
  let c1_3203 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6826 : Index := Scalar.indexCast v1163
  let c26_3204 : Index := 26#32
  let c0_3205 : Index := 0#32
  let c0_3206 : Index := 0#32
  ![1, v6826.toNat, 26, 0, 0]
def k0_off218 (i : grid0.Coords) (k0_t1 : Fin (k0_t1_loop i).trips) : Fin 5 → Nat :=
  let c1_3207 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6830 : Index := Scalar.indexCast v1163
  let c27_3208 : Index := 27#32
  let c0_3209 : Index := 0#32
  let c0_3210 : Index := 0#32
  ![1, v6830.toNat, 27, 0, 0]
def k0_off219 (i : grid0.Coords) (k0_t1 : Fin (k0_t1_loop i).trips) : Fin 5 → Nat :=
  let c1_3211 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6834 : Index := Scalar.indexCast v1163
  let c28_3212 : Index := 28#32
  let c0_3213 : Index := 0#32
  let c0_3214 : Index := 0#32
  ![1, v6834.toNat, 28, 0, 0]
def k0_off220 (i : grid0.Coords) (k0_t1 : Fin (k0_t1_loop i).trips) : Fin 5 → Nat :=
  let c1_3215 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6838 : Index := Scalar.indexCast v1163
  let c29_3216 : Index := 29#32
  let c0_3217 : Index := 0#32
  let c0_3218 : Index := 0#32
  ![1, v6838.toNat, 29, 0, 0]
def k0_off221 (i : grid0.Coords) (k0_t1 : Fin (k0_t1_loop i).trips) : Fin 5 → Nat :=
  let c1_3219 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6842 : Index := Scalar.indexCast v1163
  let c30_3220 : Index := 30#32
  let c0_3221 : Index := 0#32
  let c0_3222 : Index := 0#32
  ![1, v6842.toNat, 30, 0, 0]
def k0_off222 (i : grid0.Coords) (k0_t1 : Fin (k0_t1_loop i).trips) : Fin 5 → Nat :=
  let c1_3223 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6846 : Index := Scalar.indexCast v1163
  let c31_3224 : Index := 31#32
  let c0_3225 : Index := 0#32
  let c0_3226 : Index := 0#32
  ![1, v6846.toNat, 31, 0, 0]
def k0_mult23 (i : grid0.Coords) (k0_t1 : Fin (k0_t1_loop i).trips) : BitVec 32 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let c256_i32_3235 : BitVec 32 := 256#32
  let v6887 : BitVec 32 := Scalar.muli v1163 c256_i32_3235
  v6887
def k0_off223 (i : grid0.Coords) (k0_t1 : Fin (k0_t1_loop i).trips) : Fin 3 → Nat :=
  let c2_3236 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let c256_i32_3235 : BitVec 32 := 256#32
  let v6887 : BitVec 32 := Scalar.muli v1163 c256_i32_3235
  let v6888 : BitVec 32 := v6887
  let v6889 : Index := Scalar.indexCast v6888
  let c0_3237 : Index := 0#32
  ![2, v6889.toNat, 0]
def k0_off224 (i : grid0.Coords) (k0_t1 : Fin (k0_t1_loop i).trips) : Fin 5 → Nat :=
  let c2_3480 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7651 : Index := Scalar.indexCast v1163
  let c0_3481 : Index := 0#32
  let c0_3482 : Index := 0#32
  let c0_3483 : Index := 0#32
  ![2, v7651.toNat, 0, 0, 0]
def k0_off225 (i : grid0.Coords) (k0_t1 : Fin (k0_t1_loop i).trips) : Fin 5 → Nat :=
  let c2_3484 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7655 : Index := Scalar.indexCast v1163
  let c1_3485 : Index := 1#32
  let c0_3486 : Index := 0#32
  let c0_3487 : Index := 0#32
  ![2, v7655.toNat, 1, 0, 0]
def k0_off226 (i : grid0.Coords) (k0_t1 : Fin (k0_t1_loop i).trips) : Fin 5 → Nat :=
  let c2_3488 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7659 : Index := Scalar.indexCast v1163
  let c2_3489 : Index := 2#32
  let c0_3490 : Index := 0#32
  let c0_3491 : Index := 0#32
  ![2, v7659.toNat, 2, 0, 0]
def k0_off227 (i : grid0.Coords) (k0_t1 : Fin (k0_t1_loop i).trips) : Fin 5 → Nat :=
  let c2_3492 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7663 : Index := Scalar.indexCast v1163
  let c3_3493 : Index := 3#32
  let c0_3494 : Index := 0#32
  let c0_3495 : Index := 0#32
  ![2, v7663.toNat, 3, 0, 0]
def k0_off228 (i : grid0.Coords) (k0_t1 : Fin (k0_t1_loop i).trips) : Fin 5 → Nat :=
  let c2_3496 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7667 : Index := Scalar.indexCast v1163
  let c4_3497 : Index := 4#32
  let c0_3498 : Index := 0#32
  let c0_3499 : Index := 0#32
  ![2, v7667.toNat, 4, 0, 0]
def k0_off229 (i : grid0.Coords) (k0_t1 : Fin (k0_t1_loop i).trips) : Fin 5 → Nat :=
  let c2_3500 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7671 : Index := Scalar.indexCast v1163
  let c5_3501 : Index := 5#32
  let c0_3502 : Index := 0#32
  let c0_3503 : Index := 0#32
  ![2, v7671.toNat, 5, 0, 0]
def k0_off230 (i : grid0.Coords) (k0_t1 : Fin (k0_t1_loop i).trips) : Fin 5 → Nat :=
  let c2_3504 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7675 : Index := Scalar.indexCast v1163
  let c6_3505 : Index := 6#32
  let c0_3506 : Index := 0#32
  let c0_3507 : Index := 0#32
  ![2, v7675.toNat, 6, 0, 0]
def k0_off231 (i : grid0.Coords) (k0_t1 : Fin (k0_t1_loop i).trips) : Fin 5 → Nat :=
  let c2_3508 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7679 : Index := Scalar.indexCast v1163
  let c7_3509 : Index := 7#32
  let c0_3510 : Index := 0#32
  let c0_3511 : Index := 0#32
  ![2, v7679.toNat, 7, 0, 0]
def k0_off232 (i : grid0.Coords) (k0_t1 : Fin (k0_t1_loop i).trips) : Fin 5 → Nat :=
  let c2_3512 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7683 : Index := Scalar.indexCast v1163
  let c8_3513 : Index := 8#32
  let c0_3514 : Index := 0#32
  let c0_3515 : Index := 0#32
  ![2, v7683.toNat, 8, 0, 0]
def k0_off233 (i : grid0.Coords) (k0_t1 : Fin (k0_t1_loop i).trips) : Fin 5 → Nat :=
  let c2_3516 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7687 : Index := Scalar.indexCast v1163
  let c9_3517 : Index := 9#32
  let c0_3518 : Index := 0#32
  let c0_3519 : Index := 0#32
  ![2, v7687.toNat, 9, 0, 0]
def k0_off234 (i : grid0.Coords) (k0_t1 : Fin (k0_t1_loop i).trips) : Fin 5 → Nat :=
  let c2_3520 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7691 : Index := Scalar.indexCast v1163
  let c10_3521 : Index := 10#32
  let c0_3522 : Index := 0#32
  let c0_3523 : Index := 0#32
  ![2, v7691.toNat, 10, 0, 0]
def k0_off235 (i : grid0.Coords) (k0_t1 : Fin (k0_t1_loop i).trips) : Fin 5 → Nat :=
  let c2_3524 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7695 : Index := Scalar.indexCast v1163
  let c11_3525 : Index := 11#32
  let c0_3526 : Index := 0#32
  let c0_3527 : Index := 0#32
  ![2, v7695.toNat, 11, 0, 0]
def k0_off236 (i : grid0.Coords) (k0_t1 : Fin (k0_t1_loop i).trips) : Fin 5 → Nat :=
  let c2_3528 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7699 : Index := Scalar.indexCast v1163
  let c12_3529 : Index := 12#32
  let c0_3530 : Index := 0#32
  let c0_3531 : Index := 0#32
  ![2, v7699.toNat, 12, 0, 0]
def k0_off237 (i : grid0.Coords) (k0_t1 : Fin (k0_t1_loop i).trips) : Fin 5 → Nat :=
  let c2_3532 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7703 : Index := Scalar.indexCast v1163
  let c13_3533 : Index := 13#32
  let c0_3534 : Index := 0#32
  let c0_3535 : Index := 0#32
  ![2, v7703.toNat, 13, 0, 0]
def k0_off238 (i : grid0.Coords) (k0_t1 : Fin (k0_t1_loop i).trips) : Fin 5 → Nat :=
  let c2_3536 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7707 : Index := Scalar.indexCast v1163
  let c14_3537 : Index := 14#32
  let c0_3538 : Index := 0#32
  let c0_3539 : Index := 0#32
  ![2, v7707.toNat, 14, 0, 0]
def k0_off239 (i : grid0.Coords) (k0_t1 : Fin (k0_t1_loop i).trips) : Fin 5 → Nat :=
  let c2_3540 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7711 : Index := Scalar.indexCast v1163
  let c15_3541 : Index := 15#32
  let c0_3542 : Index := 0#32
  let c0_3543 : Index := 0#32
  ![2, v7711.toNat, 15, 0, 0]
def k0_off240 (i : grid0.Coords) (k0_t1 : Fin (k0_t1_loop i).trips) : Fin 5 → Nat :=
  let c2_3544 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7715 : Index := Scalar.indexCast v1163
  let c16_3545 : Index := 16#32
  let c0_3546 : Index := 0#32
  let c0_3547 : Index := 0#32
  ![2, v7715.toNat, 16, 0, 0]
def k0_off241 (i : grid0.Coords) (k0_t1 : Fin (k0_t1_loop i).trips) : Fin 5 → Nat :=
  let c2_3548 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7719 : Index := Scalar.indexCast v1163
  let c17_3549 : Index := 17#32
  let c0_3550 : Index := 0#32
  let c0_3551 : Index := 0#32
  ![2, v7719.toNat, 17, 0, 0]
def k0_off242 (i : grid0.Coords) (k0_t1 : Fin (k0_t1_loop i).trips) : Fin 5 → Nat :=
  let c2_3552 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7723 : Index := Scalar.indexCast v1163
  let c18_3553 : Index := 18#32
  let c0_3554 : Index := 0#32
  let c0_3555 : Index := 0#32
  ![2, v7723.toNat, 18, 0, 0]
def k0_off243 (i : grid0.Coords) (k0_t1 : Fin (k0_t1_loop i).trips) : Fin 5 → Nat :=
  let c2_3556 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7727 : Index := Scalar.indexCast v1163
  let c19_3557 : Index := 19#32
  let c0_3558 : Index := 0#32
  let c0_3559 : Index := 0#32
  ![2, v7727.toNat, 19, 0, 0]
def k0_off244 (i : grid0.Coords) (k0_t1 : Fin (k0_t1_loop i).trips) : Fin 5 → Nat :=
  let c2_3560 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7731 : Index := Scalar.indexCast v1163
  let c20_3561 : Index := 20#32
  let c0_3562 : Index := 0#32
  let c0_3563 : Index := 0#32
  ![2, v7731.toNat, 20, 0, 0]
def k0_off245 (i : grid0.Coords) (k0_t1 : Fin (k0_t1_loop i).trips) : Fin 5 → Nat :=
  let c2_3564 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7735 : Index := Scalar.indexCast v1163
  let c21_3565 : Index := 21#32
  let c0_3566 : Index := 0#32
  let c0_3567 : Index := 0#32
  ![2, v7735.toNat, 21, 0, 0]
def k0_off246 (i : grid0.Coords) (k0_t1 : Fin (k0_t1_loop i).trips) : Fin 5 → Nat :=
  let c2_3568 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7739 : Index := Scalar.indexCast v1163
  let c22_3569 : Index := 22#32
  let c0_3570 : Index := 0#32
  let c0_3571 : Index := 0#32
  ![2, v7739.toNat, 22, 0, 0]
def k0_off247 (i : grid0.Coords) (k0_t1 : Fin (k0_t1_loop i).trips) : Fin 5 → Nat :=
  let c2_3572 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7743 : Index := Scalar.indexCast v1163
  let c23_3573 : Index := 23#32
  let c0_3574 : Index := 0#32
  let c0_3575 : Index := 0#32
  ![2, v7743.toNat, 23, 0, 0]
def k0_off248 (i : grid0.Coords) (k0_t1 : Fin (k0_t1_loop i).trips) : Fin 5 → Nat :=
  let c2_3576 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7747 : Index := Scalar.indexCast v1163
  let c24_3577 : Index := 24#32
  let c0_3578 : Index := 0#32
  let c0_3579 : Index := 0#32
  ![2, v7747.toNat, 24, 0, 0]
def k0_off249 (i : grid0.Coords) (k0_t1 : Fin (k0_t1_loop i).trips) : Fin 5 → Nat :=
  let c2_3580 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7751 : Index := Scalar.indexCast v1163
  let c25_3581 : Index := 25#32
  let c0_3582 : Index := 0#32
  let c0_3583 : Index := 0#32
  ![2, v7751.toNat, 25, 0, 0]
def k0_off250 (i : grid0.Coords) (k0_t1 : Fin (k0_t1_loop i).trips) : Fin 5 → Nat :=
  let c2_3584 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7755 : Index := Scalar.indexCast v1163
  let c26_3585 : Index := 26#32
  let c0_3586 : Index := 0#32
  let c0_3587 : Index := 0#32
  ![2, v7755.toNat, 26, 0, 0]
def k0_off251 (i : grid0.Coords) (k0_t1 : Fin (k0_t1_loop i).trips) : Fin 5 → Nat :=
  let c2_3588 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7759 : Index := Scalar.indexCast v1163
  let c27_3589 : Index := 27#32
  let c0_3590 : Index := 0#32
  let c0_3591 : Index := 0#32
  ![2, v7759.toNat, 27, 0, 0]
def k0_off252 (i : grid0.Coords) (k0_t1 : Fin (k0_t1_loop i).trips) : Fin 5 → Nat :=
  let c2_3592 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7763 : Index := Scalar.indexCast v1163
  let c28_3593 : Index := 28#32
  let c0_3594 : Index := 0#32
  let c0_3595 : Index := 0#32
  ![2, v7763.toNat, 28, 0, 0]
def k0_off253 (i : grid0.Coords) (k0_t1 : Fin (k0_t1_loop i).trips) : Fin 5 → Nat :=
  let c2_3596 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7767 : Index := Scalar.indexCast v1163
  let c29_3597 : Index := 29#32
  let c0_3598 : Index := 0#32
  let c0_3599 : Index := 0#32
  ![2, v7767.toNat, 29, 0, 0]
def k0_off254 (i : grid0.Coords) (k0_t1 : Fin (k0_t1_loop i).trips) : Fin 5 → Nat :=
  let c2_3600 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7771 : Index := Scalar.indexCast v1163
  let c30_3601 : Index := 30#32
  let c0_3602 : Index := 0#32
  let c0_3603 : Index := 0#32
  ![2, v7771.toNat, 30, 0, 0]
def k0_off255 (i : grid0.Coords) (k0_t1 : Fin (k0_t1_loop i).trips) : Fin 5 → Nat :=
  let c2_3604 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7775 : Index := Scalar.indexCast v1163
  let c31_3605 : Index := 31#32
  let c0_3606 : Index := 0#32
  let c0_3607 : Index := 0#32
  ![2, v7775.toNat, 31, 0, 0]
def k0_mult24 (i : grid0.Coords) (k0_t1 : Fin (k0_t1_loop i).trips) : BitVec 32 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let c256_i32_3616 : BitVec 32 := 256#32
  let v7816 : BitVec 32 := Scalar.muli v1163 c256_i32_3616
  v7816
def k0_off256 (i : grid0.Coords) (k0_t1 : Fin (k0_t1_loop i).trips) : Fin 3 → Nat :=
  let c3_3617 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let c256_i32_3616 : BitVec 32 := 256#32
  let v7816 : BitVec 32 := Scalar.muli v1163 c256_i32_3616
  let v7817 : BitVec 32 := v7816
  let v7818 : Index := Scalar.indexCast v7817
  let c0_3618 : Index := 0#32
  ![3, v7818.toNat, 0]
def k0_off257 (i : grid0.Coords) (k0_t1 : Fin (k0_t1_loop i).trips) : Fin 5 → Nat :=
  let c3_3861 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8580 : Index := Scalar.indexCast v1163
  let c0_3862 : Index := 0#32
  let c0_3863 : Index := 0#32
  let c0_3864 : Index := 0#32
  ![3, v8580.toNat, 0, 0, 0]
def k0_off258 (i : grid0.Coords) (k0_t1 : Fin (k0_t1_loop i).trips) : Fin 5 → Nat :=
  let c3_3865 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8584 : Index := Scalar.indexCast v1163
  let c1_3866 : Index := 1#32
  let c0_3867 : Index := 0#32
  let c0_3868 : Index := 0#32
  ![3, v8584.toNat, 1, 0, 0]
def k0_off259 (i : grid0.Coords) (k0_t1 : Fin (k0_t1_loop i).trips) : Fin 5 → Nat :=
  let c3_3869 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8588 : Index := Scalar.indexCast v1163
  let c2_3870 : Index := 2#32
  let c0_3871 : Index := 0#32
  let c0_3872 : Index := 0#32
  ![3, v8588.toNat, 2, 0, 0]
def k0_off260 (i : grid0.Coords) (k0_t1 : Fin (k0_t1_loop i).trips) : Fin 5 → Nat :=
  let c3_3873 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8592 : Index := Scalar.indexCast v1163
  let c3_3874 : Index := 3#32
  let c0_3875 : Index := 0#32
  let c0_3876 : Index := 0#32
  ![3, v8592.toNat, 3, 0, 0]
def k0_off261 (i : grid0.Coords) (k0_t1 : Fin (k0_t1_loop i).trips) : Fin 5 → Nat :=
  let c3_3877 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8596 : Index := Scalar.indexCast v1163
  let c4_3878 : Index := 4#32
  let c0_3879 : Index := 0#32
  let c0_3880 : Index := 0#32
  ![3, v8596.toNat, 4, 0, 0]
def k0_off262 (i : grid0.Coords) (k0_t1 : Fin (k0_t1_loop i).trips) : Fin 5 → Nat :=
  let c3_3881 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8600 : Index := Scalar.indexCast v1163
  let c5_3882 : Index := 5#32
  let c0_3883 : Index := 0#32
  let c0_3884 : Index := 0#32
  ![3, v8600.toNat, 5, 0, 0]
def k0_off263 (i : grid0.Coords) (k0_t1 : Fin (k0_t1_loop i).trips) : Fin 5 → Nat :=
  let c3_3885 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8604 : Index := Scalar.indexCast v1163
  let c6_3886 : Index := 6#32
  let c0_3887 : Index := 0#32
  let c0_3888 : Index := 0#32
  ![3, v8604.toNat, 6, 0, 0]
def k0_off264 (i : grid0.Coords) (k0_t1 : Fin (k0_t1_loop i).trips) : Fin 5 → Nat :=
  let c3_3889 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8608 : Index := Scalar.indexCast v1163
  let c7_3890 : Index := 7#32
  let c0_3891 : Index := 0#32
  let c0_3892 : Index := 0#32
  ![3, v8608.toNat, 7, 0, 0]
def k0_off265 (i : grid0.Coords) (k0_t1 : Fin (k0_t1_loop i).trips) : Fin 5 → Nat :=
  let c3_3893 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8612 : Index := Scalar.indexCast v1163
  let c8_3894 : Index := 8#32
  let c0_3895 : Index := 0#32
  let c0_3896 : Index := 0#32
  ![3, v8612.toNat, 8, 0, 0]
def k0_off266 (i : grid0.Coords) (k0_t1 : Fin (k0_t1_loop i).trips) : Fin 5 → Nat :=
  let c3_3897 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8616 : Index := Scalar.indexCast v1163
  let c9_3898 : Index := 9#32
  let c0_3899 : Index := 0#32
  let c0_3900 : Index := 0#32
  ![3, v8616.toNat, 9, 0, 0]
def k0_off267 (i : grid0.Coords) (k0_t1 : Fin (k0_t1_loop i).trips) : Fin 5 → Nat :=
  let c3_3901 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8620 : Index := Scalar.indexCast v1163
  let c10_3902 : Index := 10#32
  let c0_3903 : Index := 0#32
  let c0_3904 : Index := 0#32
  ![3, v8620.toNat, 10, 0, 0]
def k0_off268 (i : grid0.Coords) (k0_t1 : Fin (k0_t1_loop i).trips) : Fin 5 → Nat :=
  let c3_3905 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8624 : Index := Scalar.indexCast v1163
  let c11_3906 : Index := 11#32
  let c0_3907 : Index := 0#32
  let c0_3908 : Index := 0#32
  ![3, v8624.toNat, 11, 0, 0]
def k0_off269 (i : grid0.Coords) (k0_t1 : Fin (k0_t1_loop i).trips) : Fin 5 → Nat :=
  let c3_3909 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8628 : Index := Scalar.indexCast v1163
  let c12_3910 : Index := 12#32
  let c0_3911 : Index := 0#32
  let c0_3912 : Index := 0#32
  ![3, v8628.toNat, 12, 0, 0]
def k0_off270 (i : grid0.Coords) (k0_t1 : Fin (k0_t1_loop i).trips) : Fin 5 → Nat :=
  let c3_3913 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8632 : Index := Scalar.indexCast v1163
  let c13_3914 : Index := 13#32
  let c0_3915 : Index := 0#32
  let c0_3916 : Index := 0#32
  ![3, v8632.toNat, 13, 0, 0]
def k0_off271 (i : grid0.Coords) (k0_t1 : Fin (k0_t1_loop i).trips) : Fin 5 → Nat :=
  let c3_3917 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8636 : Index := Scalar.indexCast v1163
  let c14_3918 : Index := 14#32
  let c0_3919 : Index := 0#32
  let c0_3920 : Index := 0#32
  ![3, v8636.toNat, 14, 0, 0]
def k0_off272 (i : grid0.Coords) (k0_t1 : Fin (k0_t1_loop i).trips) : Fin 5 → Nat :=
  let c3_3921 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8640 : Index := Scalar.indexCast v1163
  let c15_3922 : Index := 15#32
  let c0_3923 : Index := 0#32
  let c0_3924 : Index := 0#32
  ![3, v8640.toNat, 15, 0, 0]
def k0_off273 (i : grid0.Coords) (k0_t1 : Fin (k0_t1_loop i).trips) : Fin 5 → Nat :=
  let c3_3925 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8644 : Index := Scalar.indexCast v1163
  let c16_3926 : Index := 16#32
  let c0_3927 : Index := 0#32
  let c0_3928 : Index := 0#32
  ![3, v8644.toNat, 16, 0, 0]
def k0_off274 (i : grid0.Coords) (k0_t1 : Fin (k0_t1_loop i).trips) : Fin 5 → Nat :=
  let c3_3929 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8648 : Index := Scalar.indexCast v1163
  let c17_3930 : Index := 17#32
  let c0_3931 : Index := 0#32
  let c0_3932 : Index := 0#32
  ![3, v8648.toNat, 17, 0, 0]
def k0_off275 (i : grid0.Coords) (k0_t1 : Fin (k0_t1_loop i).trips) : Fin 5 → Nat :=
  let c3_3933 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8652 : Index := Scalar.indexCast v1163
  let c18_3934 : Index := 18#32
  let c0_3935 : Index := 0#32
  let c0_3936 : Index := 0#32
  ![3, v8652.toNat, 18, 0, 0]
def k0_off276 (i : grid0.Coords) (k0_t1 : Fin (k0_t1_loop i).trips) : Fin 5 → Nat :=
  let c3_3937 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8656 : Index := Scalar.indexCast v1163
  let c19_3938 : Index := 19#32
  let c0_3939 : Index := 0#32
  let c0_3940 : Index := 0#32
  ![3, v8656.toNat, 19, 0, 0]
def k0_off277 (i : grid0.Coords) (k0_t1 : Fin (k0_t1_loop i).trips) : Fin 5 → Nat :=
  let c3_3941 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8660 : Index := Scalar.indexCast v1163
  let c20_3942 : Index := 20#32
  let c0_3943 : Index := 0#32
  let c0_3944 : Index := 0#32
  ![3, v8660.toNat, 20, 0, 0]
def k0_off278 (i : grid0.Coords) (k0_t1 : Fin (k0_t1_loop i).trips) : Fin 5 → Nat :=
  let c3_3945 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8664 : Index := Scalar.indexCast v1163
  let c21_3946 : Index := 21#32
  let c0_3947 : Index := 0#32
  let c0_3948 : Index := 0#32
  ![3, v8664.toNat, 21, 0, 0]
def k0_off279 (i : grid0.Coords) (k0_t1 : Fin (k0_t1_loop i).trips) : Fin 5 → Nat :=
  let c3_3949 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8668 : Index := Scalar.indexCast v1163
  let c22_3950 : Index := 22#32
  let c0_3951 : Index := 0#32
  let c0_3952 : Index := 0#32
  ![3, v8668.toNat, 22, 0, 0]
def k0_off280 (i : grid0.Coords) (k0_t1 : Fin (k0_t1_loop i).trips) : Fin 5 → Nat :=
  let c3_3953 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8672 : Index := Scalar.indexCast v1163
  let c23_3954 : Index := 23#32
  let c0_3955 : Index := 0#32
  let c0_3956 : Index := 0#32
  ![3, v8672.toNat, 23, 0, 0]
def k0_off281 (i : grid0.Coords) (k0_t1 : Fin (k0_t1_loop i).trips) : Fin 5 → Nat :=
  let c3_3957 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8676 : Index := Scalar.indexCast v1163
  let c24_3958 : Index := 24#32
  let c0_3959 : Index := 0#32
  let c0_3960 : Index := 0#32
  ![3, v8676.toNat, 24, 0, 0]
def k0_off282 (i : grid0.Coords) (k0_t1 : Fin (k0_t1_loop i).trips) : Fin 5 → Nat :=
  let c3_3961 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8680 : Index := Scalar.indexCast v1163
  let c25_3962 : Index := 25#32
  let c0_3963 : Index := 0#32
  let c0_3964 : Index := 0#32
  ![3, v8680.toNat, 25, 0, 0]
def k0_off283 (i : grid0.Coords) (k0_t1 : Fin (k0_t1_loop i).trips) : Fin 5 → Nat :=
  let c3_3965 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8684 : Index := Scalar.indexCast v1163
  let c26_3966 : Index := 26#32
  let c0_3967 : Index := 0#32
  let c0_3968 : Index := 0#32
  ![3, v8684.toNat, 26, 0, 0]
def k0_off284 (i : grid0.Coords) (k0_t1 : Fin (k0_t1_loop i).trips) : Fin 5 → Nat :=
  let c3_3969 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8688 : Index := Scalar.indexCast v1163
  let c27_3970 : Index := 27#32
  let c0_3971 : Index := 0#32
  let c0_3972 : Index := 0#32
  ![3, v8688.toNat, 27, 0, 0]
def k0_off285 (i : grid0.Coords) (k0_t1 : Fin (k0_t1_loop i).trips) : Fin 5 → Nat :=
  let c3_3973 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8692 : Index := Scalar.indexCast v1163
  let c28_3974 : Index := 28#32
  let c0_3975 : Index := 0#32
  let c0_3976 : Index := 0#32
  ![3, v8692.toNat, 28, 0, 0]
def k0_off286 (i : grid0.Coords) (k0_t1 : Fin (k0_t1_loop i).trips) : Fin 5 → Nat :=
  let c3_3977 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8696 : Index := Scalar.indexCast v1163
  let c29_3978 : Index := 29#32
  let c0_3979 : Index := 0#32
  let c0_3980 : Index := 0#32
  ![3, v8696.toNat, 29, 0, 0]
def k0_off287 (i : grid0.Coords) (k0_t1 : Fin (k0_t1_loop i).trips) : Fin 5 → Nat :=
  let c3_3981 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8700 : Index := Scalar.indexCast v1163
  let c30_3982 : Index := 30#32
  let c0_3983 : Index := 0#32
  let c0_3984 : Index := 0#32
  ![3, v8700.toNat, 30, 0, 0]
def k0_off288 (i : grid0.Coords) (k0_t1 : Fin (k0_t1_loop i).trips) : Fin 5 → Nat :=
  let c3_3985 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let c1_i32_561 : BitVec 32 := 1#32
  let arg19 : BitVec 32 := Scf.iv c0_i32_559 c1_i32_561 k0_t1
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8704 : Index := Scalar.indexCast v1163
  let c31_3986 : Index := 31#32
  let c0_3987 : Index := 0#32
  let c0_3988 : Index := 0#32
  ![3, v8704.toNat, 31, 0, 0]
@[reducible] def k0_t2_loop (i : grid0.Coords) : Scf.Loop 32 :=
  let c0_i32_559 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let v680 : BitVec 32 := Scalar.addi c0_i32_559 v679
  let c1_i32_562 : BitVec 32 := 1#32
  ⟨v683, v680, c1_i32_562⟩
def k0_off289 (i : grid0.Coords) (k0_t2 : Fin (k0_t2_loop i).trips) : Fin 4 → Nat :=
  let c0_867 : Index := 0#32
  let c2_i32_866 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v1167 : BitVec 32 := Scalar.muli c2_i32_866 v1160
  let v1168 : Index := Scalar.indexCast v1167
  let c0_868 : Index := 0#32
  let c0_869 : Index := 0#32
  ![0, v1168.toNat, 0, 0]
def k0_off290 (i : grid0.Coords) (k0_t2 : Fin (k0_t2_loop i).trips) : Fin 4 → Nat :=
  let c0_870 : Index := 0#32
  let c2_i32_864 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v1164 : BitVec 32 := Scalar.muli c2_i32_864 v1160
  let c1_i32_865 : BitVec 32 := 1#32
  let v1165 : BitVec 32 := Scalar.addi v1164 c1_i32_865
  let c16_i32 : BitVec 32 := 16#32
  let v1166 : BitVec 32 := Scalar.minsi v1165 c16_i32
  let v1171 : Index := Scalar.indexCast v1166
  let c0_871 : Index := 0#32
  let c0_872 : Index := 0#32
  ![0, v1171.toNat, 0, 0]
def k0_off291 (i : grid0.Coords) (k0_t2 : Fin (k0_t2_loop i).trips) : Fin 4 → Nat :=
  let c1_881 : Index := 1#32
  let c2_i32_880 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v1181 : BitVec 32 := Scalar.muli c2_i32_880 v1160
  let v1182 : Index := Scalar.indexCast v1181
  let c0_882 : Index := 0#32
  let c0_883 : Index := 0#32
  ![1, v1182.toNat, 0, 0]
def k0_off292 (i : grid0.Coords) (k0_t2 : Fin (k0_t2_loop i).trips) : Fin 4 → Nat :=
  let c1_884 : Index := 1#32
  let c2_i32_877 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v1178 : BitVec 32 := Scalar.muli c2_i32_877 v1160
  let c1_i32_878 : BitVec 32 := 1#32
  let v1179 : BitVec 32 := Scalar.addi v1178 c1_i32_878
  let c16_i32_879 : BitVec 32 := 16#32
  let v1180 : BitVec 32 := Scalar.minsi v1179 c16_i32_879
  let v1185 : Index := Scalar.indexCast v1180
  let c0_885 : Index := 0#32
  let c0_886 : Index := 0#32
  ![1, v1185.toNat, 0, 0]
def k0_off293 (i : grid0.Coords) (k0_t2 : Fin (k0_t2_loop i).trips) : Fin 4 → Nat :=
  let c2_895 : Index := 2#32
  let c2_i32_894 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v1195 : BitVec 32 := Scalar.muli c2_i32_894 v1160
  let v1196 : Index := Scalar.indexCast v1195
  let c0_896 : Index := 0#32
  let c0_897 : Index := 0#32
  ![2, v1196.toNat, 0, 0]
def k0_off294 (i : grid0.Coords) (k0_t2 : Fin (k0_t2_loop i).trips) : Fin 4 → Nat :=
  let c2_898 : Index := 2#32
  let c2_i32_891 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v1192 : BitVec 32 := Scalar.muli c2_i32_891 v1160
  let c1_i32_892 : BitVec 32 := 1#32
  let v1193 : BitVec 32 := Scalar.addi v1192 c1_i32_892
  let c16_i32_893 : BitVec 32 := 16#32
  let v1194 : BitVec 32 := Scalar.minsi v1193 c16_i32_893
  let v1199 : Index := Scalar.indexCast v1194
  let c0_899 : Index := 0#32
  let c0_900 : Index := 0#32
  ![2, v1199.toNat, 0, 0]
def k0_off295 (i : grid0.Coords) (k0_t2 : Fin (k0_t2_loop i).trips) : Fin 4 → Nat :=
  let c3_909 : Index := 3#32
  let c2_i32_908 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v1209 : BitVec 32 := Scalar.muli c2_i32_908 v1160
  let v1210 : Index := Scalar.indexCast v1209
  let c0_910 : Index := 0#32
  let c0_911 : Index := 0#32
  ![3, v1210.toNat, 0, 0]
def k0_off296 (i : grid0.Coords) (k0_t2 : Fin (k0_t2_loop i).trips) : Fin 4 → Nat :=
  let c3_912 : Index := 3#32
  let c2_i32_905 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v1206 : BitVec 32 := Scalar.muli c2_i32_905 v1160
  let c1_i32_906 : BitVec 32 := 1#32
  let v1207 : BitVec 32 := Scalar.addi v1206 c1_i32_906
  let c16_i32_907 : BitVec 32 := 16#32
  let v1208 : BitVec 32 := Scalar.minsi v1207 c16_i32_907
  let v1213 : Index := Scalar.indexCast v1208
  let c0_913 : Index := 0#32
  let c0_914 : Index := 0#32
  ![3, v1213.toNat, 0, 0]
def k0_off297 (i : grid0.Coords) (k0_t2 : Fin (k0_t2_loop i).trips) : Fin 4 → Nat :=
  let c0_923 : Index := 0#32
  let c2_i32_922 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v1223 : BitVec 32 := Scalar.muli c2_i32_922 v1163
  let v1224 : Index := Scalar.indexCast v1223
  let c0_924 : Index := 0#32
  let c0_925 : Index := 0#32
  ![0, v1224.toNat, 0, 0]
def k0_off298 (i : grid0.Coords) (k0_t2 : Fin (k0_t2_loop i).trips) : Fin 4 → Nat :=
  let c0_926 : Index := 0#32
  let c2_i32_919 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v1220 : BitVec 32 := Scalar.muli c2_i32_919 v1163
  let c1_i32_920 : BitVec 32 := 1#32
  let v1221 : BitVec 32 := Scalar.addi v1220 c1_i32_920
  let c16_i32_921 : BitVec 32 := 16#32
  let v1222 : BitVec 32 := Scalar.minsi v1221 c16_i32_921
  let v1227 : Index := Scalar.indexCast v1222
  let c0_927 : Index := 0#32
  let c0_928 : Index := 0#32
  ![0, v1227.toNat, 0, 0]
def k0_off299 (i : grid0.Coords) (k0_t2 : Fin (k0_t2_loop i).trips) : Fin 4 → Nat :=
  let c1_937 : Index := 1#32
  let c2_i32_936 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v1237 : BitVec 32 := Scalar.muli c2_i32_936 v1163
  let v1238 : Index := Scalar.indexCast v1237
  let c0_938 : Index := 0#32
  let c0_939 : Index := 0#32
  ![1, v1238.toNat, 0, 0]
def k0_off300 (i : grid0.Coords) (k0_t2 : Fin (k0_t2_loop i).trips) : Fin 4 → Nat :=
  let c1_940 : Index := 1#32
  let c2_i32_933 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v1234 : BitVec 32 := Scalar.muli c2_i32_933 v1163
  let c1_i32_934 : BitVec 32 := 1#32
  let v1235 : BitVec 32 := Scalar.addi v1234 c1_i32_934
  let c16_i32_935 : BitVec 32 := 16#32
  let v1236 : BitVec 32 := Scalar.minsi v1235 c16_i32_935
  let v1241 : Index := Scalar.indexCast v1236
  let c0_941 : Index := 0#32
  let c0_942 : Index := 0#32
  ![1, v1241.toNat, 0, 0]
def k0_off301 (i : grid0.Coords) (k0_t2 : Fin (k0_t2_loop i).trips) : Fin 4 → Nat :=
  let c2_951 : Index := 2#32
  let c2_i32_950 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v1251 : BitVec 32 := Scalar.muli c2_i32_950 v1163
  let v1252 : Index := Scalar.indexCast v1251
  let c0_952 : Index := 0#32
  let c0_953 : Index := 0#32
  ![2, v1252.toNat, 0, 0]
def k0_off302 (i : grid0.Coords) (k0_t2 : Fin (k0_t2_loop i).trips) : Fin 4 → Nat :=
  let c2_954 : Index := 2#32
  let c2_i32_947 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v1248 : BitVec 32 := Scalar.muli c2_i32_947 v1163
  let c1_i32_948 : BitVec 32 := 1#32
  let v1249 : BitVec 32 := Scalar.addi v1248 c1_i32_948
  let c16_i32_949 : BitVec 32 := 16#32
  let v1250 : BitVec 32 := Scalar.minsi v1249 c16_i32_949
  let v1255 : Index := Scalar.indexCast v1250
  let c0_955 : Index := 0#32
  let c0_956 : Index := 0#32
  ![2, v1255.toNat, 0, 0]
def k0_off303 (i : grid0.Coords) (k0_t2 : Fin (k0_t2_loop i).trips) : Fin 4 → Nat :=
  let c3_965 : Index := 3#32
  let c2_i32_964 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v1265 : BitVec 32 := Scalar.muli c2_i32_964 v1163
  let v1266 : Index := Scalar.indexCast v1265
  let c0_966 : Index := 0#32
  let c0_967 : Index := 0#32
  ![3, v1266.toNat, 0, 0]
def k0_off304 (i : grid0.Coords) (k0_t2 : Fin (k0_t2_loop i).trips) : Fin 4 → Nat :=
  let c3_968 : Index := 3#32
  let c2_i32_961 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v1262 : BitVec 32 := Scalar.muli c2_i32_961 v1163
  let c1_i32_962 : BitVec 32 := 1#32
  let v1263 : BitVec 32 := Scalar.addi v1262 c1_i32_962
  let c16_i32_963 : BitVec 32 := 16#32
  let v1264 : BitVec 32 := Scalar.minsi v1263 c16_i32_963
  let v1269 : Index := Scalar.indexCast v1264
  let c0_969 : Index := 0#32
  let c0_970 : Index := 0#32
  ![3, v1269.toNat, 0, 0]
def k0_mult25 (i : grid0.Coords) (k0_t2 : Fin (k0_t2_loop i).trips) : BitVec 32 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let c256_i32_982 : BitVec 32 := 256#32
  let v1313 : BitVec 32 := Scalar.muli v1160 c256_i32_982
  v1313
def k0_off305 (i : grid0.Coords) (k0_t2 : Fin (k0_t2_loop i).trips) : Fin 3 → Nat :=
  let c0_983 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let c256_i32_982 : BitVec 32 := 256#32
  let v1313 : BitVec 32 := Scalar.muli v1160 c256_i32_982
  let v1314 : BitVec 32 := v1313
  let v1315 : Index := Scalar.indexCast v1314
  let c0_984 : Index := 0#32
  ![0, v1315.toNat, 0]
def k0_off306 (i : grid0.Coords) (k0_t2 : Fin (k0_t2_loop i).trips) : Fin 5 → Nat :=
  let c0_1218 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v2077 : Index := Scalar.indexCast v1160
  let c0_1219 : Index := 0#32
  let c0_1220 : Index := 0#32
  let c0_1221 : Index := 0#32
  ![0, v2077.toNat, 0, 0, 0]
def k0_off307 (i : grid0.Coords) (k0_t2 : Fin (k0_t2_loop i).trips) : Fin 5 → Nat :=
  let c0_1222 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v2081 : Index := Scalar.indexCast v1160
  let c1_1223 : Index := 1#32
  let c0_1224 : Index := 0#32
  let c0_1225 : Index := 0#32
  ![0, v2081.toNat, 1, 0, 0]
def k0_off308 (i : grid0.Coords) (k0_t2 : Fin (k0_t2_loop i).trips) : Fin 5 → Nat :=
  let c0_1226 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v2085 : Index := Scalar.indexCast v1160
  let c2_1227 : Index := 2#32
  let c0_1228 : Index := 0#32
  let c0_1229 : Index := 0#32
  ![0, v2085.toNat, 2, 0, 0]
def k0_off309 (i : grid0.Coords) (k0_t2 : Fin (k0_t2_loop i).trips) : Fin 5 → Nat :=
  let c0_1230 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v2089 : Index := Scalar.indexCast v1160
  let c3_1231 : Index := 3#32
  let c0_1232 : Index := 0#32
  let c0_1233 : Index := 0#32
  ![0, v2089.toNat, 3, 0, 0]
def k0_off310 (i : grid0.Coords) (k0_t2 : Fin (k0_t2_loop i).trips) : Fin 5 → Nat :=
  let c0_1234 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v2093 : Index := Scalar.indexCast v1160
  let c4_1235 : Index := 4#32
  let c0_1236 : Index := 0#32
  let c0_1237 : Index := 0#32
  ![0, v2093.toNat, 4, 0, 0]
def k0_off311 (i : grid0.Coords) (k0_t2 : Fin (k0_t2_loop i).trips) : Fin 5 → Nat :=
  let c0_1238 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v2097 : Index := Scalar.indexCast v1160
  let c5_1239 : Index := 5#32
  let c0_1240 : Index := 0#32
  let c0_1241 : Index := 0#32
  ![0, v2097.toNat, 5, 0, 0]
def k0_off312 (i : grid0.Coords) (k0_t2 : Fin (k0_t2_loop i).trips) : Fin 5 → Nat :=
  let c0_1242 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v2101 : Index := Scalar.indexCast v1160
  let c6_1243 : Index := 6#32
  let c0_1244 : Index := 0#32
  let c0_1245 : Index := 0#32
  ![0, v2101.toNat, 6, 0, 0]
def k0_off313 (i : grid0.Coords) (k0_t2 : Fin (k0_t2_loop i).trips) : Fin 5 → Nat :=
  let c0_1246 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v2105 : Index := Scalar.indexCast v1160
  let c7_1247 : Index := 7#32
  let c0_1248 : Index := 0#32
  let c0_1249 : Index := 0#32
  ![0, v2105.toNat, 7, 0, 0]
def k0_off314 (i : grid0.Coords) (k0_t2 : Fin (k0_t2_loop i).trips) : Fin 5 → Nat :=
  let c0_1250 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v2109 : Index := Scalar.indexCast v1160
  let c8 : Index := 8#32
  let c0_1251 : Index := 0#32
  let c0_1252 : Index := 0#32
  ![0, v2109.toNat, 8, 0, 0]
def k0_off315 (i : grid0.Coords) (k0_t2 : Fin (k0_t2_loop i).trips) : Fin 5 → Nat :=
  let c0_1253 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v2113 : Index := Scalar.indexCast v1160
  let c9 : Index := 9#32
  let c0_1254 : Index := 0#32
  let c0_1255 : Index := 0#32
  ![0, v2113.toNat, 9, 0, 0]
def k0_off316 (i : grid0.Coords) (k0_t2 : Fin (k0_t2_loop i).trips) : Fin 5 → Nat :=
  let c0_1256 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v2117 : Index := Scalar.indexCast v1160
  let c10 : Index := 10#32
  let c0_1257 : Index := 0#32
  let c0_1258 : Index := 0#32
  ![0, v2117.toNat, 10, 0, 0]
def k0_off317 (i : grid0.Coords) (k0_t2 : Fin (k0_t2_loop i).trips) : Fin 5 → Nat :=
  let c0_1259 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v2121 : Index := Scalar.indexCast v1160
  let c11 : Index := 11#32
  let c0_1260 : Index := 0#32
  let c0_1261 : Index := 0#32
  ![0, v2121.toNat, 11, 0, 0]
def k0_off318 (i : grid0.Coords) (k0_t2 : Fin (k0_t2_loop i).trips) : Fin 5 → Nat :=
  let c0_1262 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v2125 : Index := Scalar.indexCast v1160
  let c12 : Index := 12#32
  let c0_1263 : Index := 0#32
  let c0_1264 : Index := 0#32
  ![0, v2125.toNat, 12, 0, 0]
def k0_off319 (i : grid0.Coords) (k0_t2 : Fin (k0_t2_loop i).trips) : Fin 5 → Nat :=
  let c0_1265 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v2129 : Index := Scalar.indexCast v1160
  let c13 : Index := 13#32
  let c0_1266 : Index := 0#32
  let c0_1267 : Index := 0#32
  ![0, v2129.toNat, 13, 0, 0]
def k0_off320 (i : grid0.Coords) (k0_t2 : Fin (k0_t2_loop i).trips) : Fin 5 → Nat :=
  let c0_1268 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v2133 : Index := Scalar.indexCast v1160
  let c14 : Index := 14#32
  let c0_1269 : Index := 0#32
  let c0_1270 : Index := 0#32
  ![0, v2133.toNat, 14, 0, 0]
def k0_off321 (i : grid0.Coords) (k0_t2 : Fin (k0_t2_loop i).trips) : Fin 5 → Nat :=
  let c0_1271 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v2137 : Index := Scalar.indexCast v1160
  let c15 : Index := 15#32
  let c0_1272 : Index := 0#32
  let c0_1273 : Index := 0#32
  ![0, v2137.toNat, 15, 0, 0]
def k0_off322 (i : grid0.Coords) (k0_t2 : Fin (k0_t2_loop i).trips) : Fin 5 → Nat :=
  let c0_1274 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v2141 : Index := Scalar.indexCast v1160
  let c16 : Index := 16#32
  let c0_1275 : Index := 0#32
  let c0_1276 : Index := 0#32
  ![0, v2141.toNat, 16, 0, 0]
def k0_off323 (i : grid0.Coords) (k0_t2 : Fin (k0_t2_loop i).trips) : Fin 5 → Nat :=
  let c0_1277 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v2145 : Index := Scalar.indexCast v1160
  let c17 : Index := 17#32
  let c0_1278 : Index := 0#32
  let c0_1279 : Index := 0#32
  ![0, v2145.toNat, 17, 0, 0]
def k0_off324 (i : grid0.Coords) (k0_t2 : Fin (k0_t2_loop i).trips) : Fin 5 → Nat :=
  let c0_1280 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v2149 : Index := Scalar.indexCast v1160
  let c18 : Index := 18#32
  let c0_1281 : Index := 0#32
  let c0_1282 : Index := 0#32
  ![0, v2149.toNat, 18, 0, 0]
def k0_off325 (i : grid0.Coords) (k0_t2 : Fin (k0_t2_loop i).trips) : Fin 5 → Nat :=
  let c0_1283 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v2153 : Index := Scalar.indexCast v1160
  let c19 : Index := 19#32
  let c0_1284 : Index := 0#32
  let c0_1285 : Index := 0#32
  ![0, v2153.toNat, 19, 0, 0]
def k0_off326 (i : grid0.Coords) (k0_t2 : Fin (k0_t2_loop i).trips) : Fin 5 → Nat :=
  let c0_1286 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v2157 : Index := Scalar.indexCast v1160
  let c20 : Index := 20#32
  let c0_1287 : Index := 0#32
  let c0_1288 : Index := 0#32
  ![0, v2157.toNat, 20, 0, 0]
def k0_off327 (i : grid0.Coords) (k0_t2 : Fin (k0_t2_loop i).trips) : Fin 5 → Nat :=
  let c0_1289 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v2161 : Index := Scalar.indexCast v1160
  let c21 : Index := 21#32
  let c0_1290 : Index := 0#32
  let c0_1291 : Index := 0#32
  ![0, v2161.toNat, 21, 0, 0]
def k0_off328 (i : grid0.Coords) (k0_t2 : Fin (k0_t2_loop i).trips) : Fin 5 → Nat :=
  let c0_1292 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v2165 : Index := Scalar.indexCast v1160
  let c22 : Index := 22#32
  let c0_1293 : Index := 0#32
  let c0_1294 : Index := 0#32
  ![0, v2165.toNat, 22, 0, 0]
def k0_off329 (i : grid0.Coords) (k0_t2 : Fin (k0_t2_loop i).trips) : Fin 5 → Nat :=
  let c0_1295 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v2169 : Index := Scalar.indexCast v1160
  let c23 : Index := 23#32
  let c0_1296 : Index := 0#32
  let c0_1297 : Index := 0#32
  ![0, v2169.toNat, 23, 0, 0]
def k0_off330 (i : grid0.Coords) (k0_t2 : Fin (k0_t2_loop i).trips) : Fin 5 → Nat :=
  let c0_1298 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v2173 : Index := Scalar.indexCast v1160
  let c24 : Index := 24#32
  let c0_1299 : Index := 0#32
  let c0_1300 : Index := 0#32
  ![0, v2173.toNat, 24, 0, 0]
def k0_off331 (i : grid0.Coords) (k0_t2 : Fin (k0_t2_loop i).trips) : Fin 5 → Nat :=
  let c0_1301 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v2177 : Index := Scalar.indexCast v1160
  let c25 : Index := 25#32
  let c0_1302 : Index := 0#32
  let c0_1303 : Index := 0#32
  ![0, v2177.toNat, 25, 0, 0]
def k0_off332 (i : grid0.Coords) (k0_t2 : Fin (k0_t2_loop i).trips) : Fin 5 → Nat :=
  let c0_1304 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v2181 : Index := Scalar.indexCast v1160
  let c26 : Index := 26#32
  let c0_1305 : Index := 0#32
  let c0_1306 : Index := 0#32
  ![0, v2181.toNat, 26, 0, 0]
def k0_off333 (i : grid0.Coords) (k0_t2 : Fin (k0_t2_loop i).trips) : Fin 5 → Nat :=
  let c0_1307 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v2185 : Index := Scalar.indexCast v1160
  let c27 : Index := 27#32
  let c0_1308 : Index := 0#32
  let c0_1309 : Index := 0#32
  ![0, v2185.toNat, 27, 0, 0]
def k0_off334 (i : grid0.Coords) (k0_t2 : Fin (k0_t2_loop i).trips) : Fin 5 → Nat :=
  let c0_1310 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v2189 : Index := Scalar.indexCast v1160
  let c28 : Index := 28#32
  let c0_1311 : Index := 0#32
  let c0_1312 : Index := 0#32
  ![0, v2189.toNat, 28, 0, 0]
def k0_off335 (i : grid0.Coords) (k0_t2 : Fin (k0_t2_loop i).trips) : Fin 5 → Nat :=
  let c0_1313 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v2193 : Index := Scalar.indexCast v1160
  let c29 : Index := 29#32
  let c0_1314 : Index := 0#32
  let c0_1315 : Index := 0#32
  ![0, v2193.toNat, 29, 0, 0]
def k0_off336 (i : grid0.Coords) (k0_t2 : Fin (k0_t2_loop i).trips) : Fin 5 → Nat :=
  let c0_1316 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v2197 : Index := Scalar.indexCast v1160
  let c30 : Index := 30#32
  let c0_1317 : Index := 0#32
  let c0_1318 : Index := 0#32
  ![0, v2197.toNat, 30, 0, 0]
def k0_off337 (i : grid0.Coords) (k0_t2 : Fin (k0_t2_loop i).trips) : Fin 5 → Nat :=
  let c0_1319 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v2201 : Index := Scalar.indexCast v1160
  let c31 : Index := 31#32
  let c0_1320 : Index := 0#32
  let c0_1321 : Index := 0#32
  ![0, v2201.toNat, 31, 0, 0]
def k0_mult26 (i : grid0.Coords) (k0_t2 : Fin (k0_t2_loop i).trips) : BitVec 32 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let c256_i32_1330 : BitVec 32 := 256#32
  let v2242 : BitVec 32 := Scalar.muli v1160 c256_i32_1330
  v2242
def k0_off338 (i : grid0.Coords) (k0_t2 : Fin (k0_t2_loop i).trips) : Fin 3 → Nat :=
  let c1_1331 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let c256_i32_1330 : BitVec 32 := 256#32
  let v2242 : BitVec 32 := Scalar.muli v1160 c256_i32_1330
  let v2243 : BitVec 32 := v2242
  let v2244 : Index := Scalar.indexCast v2243
  let c0_1332 : Index := 0#32
  ![1, v2244.toNat, 0]
def k0_off339 (i : grid0.Coords) (k0_t2 : Fin (k0_t2_loop i).trips) : Fin 5 → Nat :=
  let c1_1575 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3006 : Index := Scalar.indexCast v1160
  let c0_1576 : Index := 0#32
  let c0_1577 : Index := 0#32
  let c0_1578 : Index := 0#32
  ![1, v3006.toNat, 0, 0, 0]
def k0_off340 (i : grid0.Coords) (k0_t2 : Fin (k0_t2_loop i).trips) : Fin 5 → Nat :=
  let c1_1579 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3010 : Index := Scalar.indexCast v1160
  let c1_1580 : Index := 1#32
  let c0_1581 : Index := 0#32
  let c0_1582 : Index := 0#32
  ![1, v3010.toNat, 1, 0, 0]
def k0_off341 (i : grid0.Coords) (k0_t2 : Fin (k0_t2_loop i).trips) : Fin 5 → Nat :=
  let c1_1583 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3014 : Index := Scalar.indexCast v1160
  let c2_1584 : Index := 2#32
  let c0_1585 : Index := 0#32
  let c0_1586 : Index := 0#32
  ![1, v3014.toNat, 2, 0, 0]
def k0_off342 (i : grid0.Coords) (k0_t2 : Fin (k0_t2_loop i).trips) : Fin 5 → Nat :=
  let c1_1587 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3018 : Index := Scalar.indexCast v1160
  let c3_1588 : Index := 3#32
  let c0_1589 : Index := 0#32
  let c0_1590 : Index := 0#32
  ![1, v3018.toNat, 3, 0, 0]
def k0_off343 (i : grid0.Coords) (k0_t2 : Fin (k0_t2_loop i).trips) : Fin 5 → Nat :=
  let c1_1591 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3022 : Index := Scalar.indexCast v1160
  let c4_1592 : Index := 4#32
  let c0_1593 : Index := 0#32
  let c0_1594 : Index := 0#32
  ![1, v3022.toNat, 4, 0, 0]
def k0_off344 (i : grid0.Coords) (k0_t2 : Fin (k0_t2_loop i).trips) : Fin 5 → Nat :=
  let c1_1595 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3026 : Index := Scalar.indexCast v1160
  let c5_1596 : Index := 5#32
  let c0_1597 : Index := 0#32
  let c0_1598 : Index := 0#32
  ![1, v3026.toNat, 5, 0, 0]
def k0_off345 (i : grid0.Coords) (k0_t2 : Fin (k0_t2_loop i).trips) : Fin 5 → Nat :=
  let c1_1599 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3030 : Index := Scalar.indexCast v1160
  let c6_1600 : Index := 6#32
  let c0_1601 : Index := 0#32
  let c0_1602 : Index := 0#32
  ![1, v3030.toNat, 6, 0, 0]
def k0_off346 (i : grid0.Coords) (k0_t2 : Fin (k0_t2_loop i).trips) : Fin 5 → Nat :=
  let c1_1603 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3034 : Index := Scalar.indexCast v1160
  let c7_1604 : Index := 7#32
  let c0_1605 : Index := 0#32
  let c0_1606 : Index := 0#32
  ![1, v3034.toNat, 7, 0, 0]
def k0_off347 (i : grid0.Coords) (k0_t2 : Fin (k0_t2_loop i).trips) : Fin 5 → Nat :=
  let c1_1607 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3038 : Index := Scalar.indexCast v1160
  let c8_1608 : Index := 8#32
  let c0_1609 : Index := 0#32
  let c0_1610 : Index := 0#32
  ![1, v3038.toNat, 8, 0, 0]
def k0_off348 (i : grid0.Coords) (k0_t2 : Fin (k0_t2_loop i).trips) : Fin 5 → Nat :=
  let c1_1611 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3042 : Index := Scalar.indexCast v1160
  let c9_1612 : Index := 9#32
  let c0_1613 : Index := 0#32
  let c0_1614 : Index := 0#32
  ![1, v3042.toNat, 9, 0, 0]
def k0_off349 (i : grid0.Coords) (k0_t2 : Fin (k0_t2_loop i).trips) : Fin 5 → Nat :=
  let c1_1615 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3046 : Index := Scalar.indexCast v1160
  let c10_1616 : Index := 10#32
  let c0_1617 : Index := 0#32
  let c0_1618 : Index := 0#32
  ![1, v3046.toNat, 10, 0, 0]
def k0_off350 (i : grid0.Coords) (k0_t2 : Fin (k0_t2_loop i).trips) : Fin 5 → Nat :=
  let c1_1619 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3050 : Index := Scalar.indexCast v1160
  let c11_1620 : Index := 11#32
  let c0_1621 : Index := 0#32
  let c0_1622 : Index := 0#32
  ![1, v3050.toNat, 11, 0, 0]
def k0_off351 (i : grid0.Coords) (k0_t2 : Fin (k0_t2_loop i).trips) : Fin 5 → Nat :=
  let c1_1623 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3054 : Index := Scalar.indexCast v1160
  let c12_1624 : Index := 12#32
  let c0_1625 : Index := 0#32
  let c0_1626 : Index := 0#32
  ![1, v3054.toNat, 12, 0, 0]
def k0_off352 (i : grid0.Coords) (k0_t2 : Fin (k0_t2_loop i).trips) : Fin 5 → Nat :=
  let c1_1627 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3058 : Index := Scalar.indexCast v1160
  let c13_1628 : Index := 13#32
  let c0_1629 : Index := 0#32
  let c0_1630 : Index := 0#32
  ![1, v3058.toNat, 13, 0, 0]
def k0_off353 (i : grid0.Coords) (k0_t2 : Fin (k0_t2_loop i).trips) : Fin 5 → Nat :=
  let c1_1631 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3062 : Index := Scalar.indexCast v1160
  let c14_1632 : Index := 14#32
  let c0_1633 : Index := 0#32
  let c0_1634 : Index := 0#32
  ![1, v3062.toNat, 14, 0, 0]
def k0_off354 (i : grid0.Coords) (k0_t2 : Fin (k0_t2_loop i).trips) : Fin 5 → Nat :=
  let c1_1635 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3066 : Index := Scalar.indexCast v1160
  let c15_1636 : Index := 15#32
  let c0_1637 : Index := 0#32
  let c0_1638 : Index := 0#32
  ![1, v3066.toNat, 15, 0, 0]
def k0_off355 (i : grid0.Coords) (k0_t2 : Fin (k0_t2_loop i).trips) : Fin 5 → Nat :=
  let c1_1639 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3070 : Index := Scalar.indexCast v1160
  let c16_1640 : Index := 16#32
  let c0_1641 : Index := 0#32
  let c0_1642 : Index := 0#32
  ![1, v3070.toNat, 16, 0, 0]
def k0_off356 (i : grid0.Coords) (k0_t2 : Fin (k0_t2_loop i).trips) : Fin 5 → Nat :=
  let c1_1643 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3074 : Index := Scalar.indexCast v1160
  let c17_1644 : Index := 17#32
  let c0_1645 : Index := 0#32
  let c0_1646 : Index := 0#32
  ![1, v3074.toNat, 17, 0, 0]
def k0_off357 (i : grid0.Coords) (k0_t2 : Fin (k0_t2_loop i).trips) : Fin 5 → Nat :=
  let c1_1647 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3078 : Index := Scalar.indexCast v1160
  let c18_1648 : Index := 18#32
  let c0_1649 : Index := 0#32
  let c0_1650 : Index := 0#32
  ![1, v3078.toNat, 18, 0, 0]
def k0_off358 (i : grid0.Coords) (k0_t2 : Fin (k0_t2_loop i).trips) : Fin 5 → Nat :=
  let c1_1651 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3082 : Index := Scalar.indexCast v1160
  let c19_1652 : Index := 19#32
  let c0_1653 : Index := 0#32
  let c0_1654 : Index := 0#32
  ![1, v3082.toNat, 19, 0, 0]
def k0_off359 (i : grid0.Coords) (k0_t2 : Fin (k0_t2_loop i).trips) : Fin 5 → Nat :=
  let c1_1655 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3086 : Index := Scalar.indexCast v1160
  let c20_1656 : Index := 20#32
  let c0_1657 : Index := 0#32
  let c0_1658 : Index := 0#32
  ![1, v3086.toNat, 20, 0, 0]
def k0_off360 (i : grid0.Coords) (k0_t2 : Fin (k0_t2_loop i).trips) : Fin 5 → Nat :=
  let c1_1659 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3090 : Index := Scalar.indexCast v1160
  let c21_1660 : Index := 21#32
  let c0_1661 : Index := 0#32
  let c0_1662 : Index := 0#32
  ![1, v3090.toNat, 21, 0, 0]
def k0_off361 (i : grid0.Coords) (k0_t2 : Fin (k0_t2_loop i).trips) : Fin 5 → Nat :=
  let c1_1663 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3094 : Index := Scalar.indexCast v1160
  let c22_1664 : Index := 22#32
  let c0_1665 : Index := 0#32
  let c0_1666 : Index := 0#32
  ![1, v3094.toNat, 22, 0, 0]
def k0_off362 (i : grid0.Coords) (k0_t2 : Fin (k0_t2_loop i).trips) : Fin 5 → Nat :=
  let c1_1667 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3098 : Index := Scalar.indexCast v1160
  let c23_1668 : Index := 23#32
  let c0_1669 : Index := 0#32
  let c0_1670 : Index := 0#32
  ![1, v3098.toNat, 23, 0, 0]
def k0_off363 (i : grid0.Coords) (k0_t2 : Fin (k0_t2_loop i).trips) : Fin 5 → Nat :=
  let c1_1671 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3102 : Index := Scalar.indexCast v1160
  let c24_1672 : Index := 24#32
  let c0_1673 : Index := 0#32
  let c0_1674 : Index := 0#32
  ![1, v3102.toNat, 24, 0, 0]
def k0_off364 (i : grid0.Coords) (k0_t2 : Fin (k0_t2_loop i).trips) : Fin 5 → Nat :=
  let c1_1675 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3106 : Index := Scalar.indexCast v1160
  let c25_1676 : Index := 25#32
  let c0_1677 : Index := 0#32
  let c0_1678 : Index := 0#32
  ![1, v3106.toNat, 25, 0, 0]
def k0_off365 (i : grid0.Coords) (k0_t2 : Fin (k0_t2_loop i).trips) : Fin 5 → Nat :=
  let c1_1679 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3110 : Index := Scalar.indexCast v1160
  let c26_1680 : Index := 26#32
  let c0_1681 : Index := 0#32
  let c0_1682 : Index := 0#32
  ![1, v3110.toNat, 26, 0, 0]
def k0_off366 (i : grid0.Coords) (k0_t2 : Fin (k0_t2_loop i).trips) : Fin 5 → Nat :=
  let c1_1683 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3114 : Index := Scalar.indexCast v1160
  let c27_1684 : Index := 27#32
  let c0_1685 : Index := 0#32
  let c0_1686 : Index := 0#32
  ![1, v3114.toNat, 27, 0, 0]
def k0_off367 (i : grid0.Coords) (k0_t2 : Fin (k0_t2_loop i).trips) : Fin 5 → Nat :=
  let c1_1687 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3118 : Index := Scalar.indexCast v1160
  let c28_1688 : Index := 28#32
  let c0_1689 : Index := 0#32
  let c0_1690 : Index := 0#32
  ![1, v3118.toNat, 28, 0, 0]
def k0_off368 (i : grid0.Coords) (k0_t2 : Fin (k0_t2_loop i).trips) : Fin 5 → Nat :=
  let c1_1691 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3122 : Index := Scalar.indexCast v1160
  let c29_1692 : Index := 29#32
  let c0_1693 : Index := 0#32
  let c0_1694 : Index := 0#32
  ![1, v3122.toNat, 29, 0, 0]
def k0_off369 (i : grid0.Coords) (k0_t2 : Fin (k0_t2_loop i).trips) : Fin 5 → Nat :=
  let c1_1695 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3126 : Index := Scalar.indexCast v1160
  let c30_1696 : Index := 30#32
  let c0_1697 : Index := 0#32
  let c0_1698 : Index := 0#32
  ![1, v3126.toNat, 30, 0, 0]
def k0_off370 (i : grid0.Coords) (k0_t2 : Fin (k0_t2_loop i).trips) : Fin 5 → Nat :=
  let c1_1699 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3130 : Index := Scalar.indexCast v1160
  let c31_1700 : Index := 31#32
  let c0_1701 : Index := 0#32
  let c0_1702 : Index := 0#32
  ![1, v3130.toNat, 31, 0, 0]
def k0_mult27 (i : grid0.Coords) (k0_t2 : Fin (k0_t2_loop i).trips) : BitVec 32 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let c256_i32_1711 : BitVec 32 := 256#32
  let v3171 : BitVec 32 := Scalar.muli v1160 c256_i32_1711
  v3171
def k0_off371 (i : grid0.Coords) (k0_t2 : Fin (k0_t2_loop i).trips) : Fin 3 → Nat :=
  let c2_1712 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let c256_i32_1711 : BitVec 32 := 256#32
  let v3171 : BitVec 32 := Scalar.muli v1160 c256_i32_1711
  let v3172 : BitVec 32 := v3171
  let v3173 : Index := Scalar.indexCast v3172
  let c0_1713 : Index := 0#32
  ![2, v3173.toNat, 0]
def k0_off372 (i : grid0.Coords) (k0_t2 : Fin (k0_t2_loop i).trips) : Fin 5 → Nat :=
  let c2_1956 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3935 : Index := Scalar.indexCast v1160
  let c0_1957 : Index := 0#32
  let c0_1958 : Index := 0#32
  let c0_1959 : Index := 0#32
  ![2, v3935.toNat, 0, 0, 0]
def k0_off373 (i : grid0.Coords) (k0_t2 : Fin (k0_t2_loop i).trips) : Fin 5 → Nat :=
  let c2_1960 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3939 : Index := Scalar.indexCast v1160
  let c1_1961 : Index := 1#32
  let c0_1962 : Index := 0#32
  let c0_1963 : Index := 0#32
  ![2, v3939.toNat, 1, 0, 0]
def k0_off374 (i : grid0.Coords) (k0_t2 : Fin (k0_t2_loop i).trips) : Fin 5 → Nat :=
  let c2_1964 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3943 : Index := Scalar.indexCast v1160
  let c2_1965 : Index := 2#32
  let c0_1966 : Index := 0#32
  let c0_1967 : Index := 0#32
  ![2, v3943.toNat, 2, 0, 0]
def k0_off375 (i : grid0.Coords) (k0_t2 : Fin (k0_t2_loop i).trips) : Fin 5 → Nat :=
  let c2_1968 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3947 : Index := Scalar.indexCast v1160
  let c3_1969 : Index := 3#32
  let c0_1970 : Index := 0#32
  let c0_1971 : Index := 0#32
  ![2, v3947.toNat, 3, 0, 0]
def k0_off376 (i : grid0.Coords) (k0_t2 : Fin (k0_t2_loop i).trips) : Fin 5 → Nat :=
  let c2_1972 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3951 : Index := Scalar.indexCast v1160
  let c4_1973 : Index := 4#32
  let c0_1974 : Index := 0#32
  let c0_1975 : Index := 0#32
  ![2, v3951.toNat, 4, 0, 0]
def k0_off377 (i : grid0.Coords) (k0_t2 : Fin (k0_t2_loop i).trips) : Fin 5 → Nat :=
  let c2_1976 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3955 : Index := Scalar.indexCast v1160
  let c5_1977 : Index := 5#32
  let c0_1978 : Index := 0#32
  let c0_1979 : Index := 0#32
  ![2, v3955.toNat, 5, 0, 0]
def k0_off378 (i : grid0.Coords) (k0_t2 : Fin (k0_t2_loop i).trips) : Fin 5 → Nat :=
  let c2_1980 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3959 : Index := Scalar.indexCast v1160
  let c6_1981 : Index := 6#32
  let c0_1982 : Index := 0#32
  let c0_1983 : Index := 0#32
  ![2, v3959.toNat, 6, 0, 0]
def k0_off379 (i : grid0.Coords) (k0_t2 : Fin (k0_t2_loop i).trips) : Fin 5 → Nat :=
  let c2_1984 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3963 : Index := Scalar.indexCast v1160
  let c7_1985 : Index := 7#32
  let c0_1986 : Index := 0#32
  let c0_1987 : Index := 0#32
  ![2, v3963.toNat, 7, 0, 0]
def k0_off380 (i : grid0.Coords) (k0_t2 : Fin (k0_t2_loop i).trips) : Fin 5 → Nat :=
  let c2_1988 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3967 : Index := Scalar.indexCast v1160
  let c8_1989 : Index := 8#32
  let c0_1990 : Index := 0#32
  let c0_1991 : Index := 0#32
  ![2, v3967.toNat, 8, 0, 0]
def k0_off381 (i : grid0.Coords) (k0_t2 : Fin (k0_t2_loop i).trips) : Fin 5 → Nat :=
  let c2_1992 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3971 : Index := Scalar.indexCast v1160
  let c9_1993 : Index := 9#32
  let c0_1994 : Index := 0#32
  let c0_1995 : Index := 0#32
  ![2, v3971.toNat, 9, 0, 0]
def k0_off382 (i : grid0.Coords) (k0_t2 : Fin (k0_t2_loop i).trips) : Fin 5 → Nat :=
  let c2_1996 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3975 : Index := Scalar.indexCast v1160
  let c10_1997 : Index := 10#32
  let c0_1998 : Index := 0#32
  let c0_1999 : Index := 0#32
  ![2, v3975.toNat, 10, 0, 0]
def k0_off383 (i : grid0.Coords) (k0_t2 : Fin (k0_t2_loop i).trips) : Fin 5 → Nat :=
  let c2_2000 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3979 : Index := Scalar.indexCast v1160
  let c11_2001 : Index := 11#32
  let c0_2002 : Index := 0#32
  let c0_2003 : Index := 0#32
  ![2, v3979.toNat, 11, 0, 0]
def k0_off384 (i : grid0.Coords) (k0_t2 : Fin (k0_t2_loop i).trips) : Fin 5 → Nat :=
  let c2_2004 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3983 : Index := Scalar.indexCast v1160
  let c12_2005 : Index := 12#32
  let c0_2006 : Index := 0#32
  let c0_2007 : Index := 0#32
  ![2, v3983.toNat, 12, 0, 0]
def k0_off385 (i : grid0.Coords) (k0_t2 : Fin (k0_t2_loop i).trips) : Fin 5 → Nat :=
  let c2_2008 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3987 : Index := Scalar.indexCast v1160
  let c13_2009 : Index := 13#32
  let c0_2010 : Index := 0#32
  let c0_2011 : Index := 0#32
  ![2, v3987.toNat, 13, 0, 0]
def k0_off386 (i : grid0.Coords) (k0_t2 : Fin (k0_t2_loop i).trips) : Fin 5 → Nat :=
  let c2_2012 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3991 : Index := Scalar.indexCast v1160
  let c14_2013 : Index := 14#32
  let c0_2014 : Index := 0#32
  let c0_2015 : Index := 0#32
  ![2, v3991.toNat, 14, 0, 0]
def k0_off387 (i : grid0.Coords) (k0_t2 : Fin (k0_t2_loop i).trips) : Fin 5 → Nat :=
  let c2_2016 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3995 : Index := Scalar.indexCast v1160
  let c15_2017 : Index := 15#32
  let c0_2018 : Index := 0#32
  let c0_2019 : Index := 0#32
  ![2, v3995.toNat, 15, 0, 0]
def k0_off388 (i : grid0.Coords) (k0_t2 : Fin (k0_t2_loop i).trips) : Fin 5 → Nat :=
  let c2_2020 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v3999 : Index := Scalar.indexCast v1160
  let c16_2021 : Index := 16#32
  let c0_2022 : Index := 0#32
  let c0_2023 : Index := 0#32
  ![2, v3999.toNat, 16, 0, 0]
def k0_off389 (i : grid0.Coords) (k0_t2 : Fin (k0_t2_loop i).trips) : Fin 5 → Nat :=
  let c2_2024 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4003 : Index := Scalar.indexCast v1160
  let c17_2025 : Index := 17#32
  let c0_2026 : Index := 0#32
  let c0_2027 : Index := 0#32
  ![2, v4003.toNat, 17, 0, 0]
def k0_off390 (i : grid0.Coords) (k0_t2 : Fin (k0_t2_loop i).trips) : Fin 5 → Nat :=
  let c2_2028 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4007 : Index := Scalar.indexCast v1160
  let c18_2029 : Index := 18#32
  let c0_2030 : Index := 0#32
  let c0_2031 : Index := 0#32
  ![2, v4007.toNat, 18, 0, 0]
def k0_off391 (i : grid0.Coords) (k0_t2 : Fin (k0_t2_loop i).trips) : Fin 5 → Nat :=
  let c2_2032 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4011 : Index := Scalar.indexCast v1160
  let c19_2033 : Index := 19#32
  let c0_2034 : Index := 0#32
  let c0_2035 : Index := 0#32
  ![2, v4011.toNat, 19, 0, 0]
def k0_off392 (i : grid0.Coords) (k0_t2 : Fin (k0_t2_loop i).trips) : Fin 5 → Nat :=
  let c2_2036 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4015 : Index := Scalar.indexCast v1160
  let c20_2037 : Index := 20#32
  let c0_2038 : Index := 0#32
  let c0_2039 : Index := 0#32
  ![2, v4015.toNat, 20, 0, 0]
def k0_off393 (i : grid0.Coords) (k0_t2 : Fin (k0_t2_loop i).trips) : Fin 5 → Nat :=
  let c2_2040 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4019 : Index := Scalar.indexCast v1160
  let c21_2041 : Index := 21#32
  let c0_2042 : Index := 0#32
  let c0_2043 : Index := 0#32
  ![2, v4019.toNat, 21, 0, 0]
def k0_off394 (i : grid0.Coords) (k0_t2 : Fin (k0_t2_loop i).trips) : Fin 5 → Nat :=
  let c2_2044 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4023 : Index := Scalar.indexCast v1160
  let c22_2045 : Index := 22#32
  let c0_2046 : Index := 0#32
  let c0_2047 : Index := 0#32
  ![2, v4023.toNat, 22, 0, 0]
def k0_off395 (i : grid0.Coords) (k0_t2 : Fin (k0_t2_loop i).trips) : Fin 5 → Nat :=
  let c2_2048 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4027 : Index := Scalar.indexCast v1160
  let c23_2049 : Index := 23#32
  let c0_2050 : Index := 0#32
  let c0_2051 : Index := 0#32
  ![2, v4027.toNat, 23, 0, 0]
def k0_off396 (i : grid0.Coords) (k0_t2 : Fin (k0_t2_loop i).trips) : Fin 5 → Nat :=
  let c2_2052 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4031 : Index := Scalar.indexCast v1160
  let c24_2053 : Index := 24#32
  let c0_2054 : Index := 0#32
  let c0_2055 : Index := 0#32
  ![2, v4031.toNat, 24, 0, 0]
def k0_off397 (i : grid0.Coords) (k0_t2 : Fin (k0_t2_loop i).trips) : Fin 5 → Nat :=
  let c2_2056 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4035 : Index := Scalar.indexCast v1160
  let c25_2057 : Index := 25#32
  let c0_2058 : Index := 0#32
  let c0_2059 : Index := 0#32
  ![2, v4035.toNat, 25, 0, 0]
def k0_off398 (i : grid0.Coords) (k0_t2 : Fin (k0_t2_loop i).trips) : Fin 5 → Nat :=
  let c2_2060 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4039 : Index := Scalar.indexCast v1160
  let c26_2061 : Index := 26#32
  let c0_2062 : Index := 0#32
  let c0_2063 : Index := 0#32
  ![2, v4039.toNat, 26, 0, 0]
def k0_off399 (i : grid0.Coords) (k0_t2 : Fin (k0_t2_loop i).trips) : Fin 5 → Nat :=
  let c2_2064 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4043 : Index := Scalar.indexCast v1160
  let c27_2065 : Index := 27#32
  let c0_2066 : Index := 0#32
  let c0_2067 : Index := 0#32
  ![2, v4043.toNat, 27, 0, 0]
def k0_off400 (i : grid0.Coords) (k0_t2 : Fin (k0_t2_loop i).trips) : Fin 5 → Nat :=
  let c2_2068 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4047 : Index := Scalar.indexCast v1160
  let c28_2069 : Index := 28#32
  let c0_2070 : Index := 0#32
  let c0_2071 : Index := 0#32
  ![2, v4047.toNat, 28, 0, 0]
def k0_off401 (i : grid0.Coords) (k0_t2 : Fin (k0_t2_loop i).trips) : Fin 5 → Nat :=
  let c2_2072 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4051 : Index := Scalar.indexCast v1160
  let c29_2073 : Index := 29#32
  let c0_2074 : Index := 0#32
  let c0_2075 : Index := 0#32
  ![2, v4051.toNat, 29, 0, 0]
def k0_off402 (i : grid0.Coords) (k0_t2 : Fin (k0_t2_loop i).trips) : Fin 5 → Nat :=
  let c2_2076 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4055 : Index := Scalar.indexCast v1160
  let c30_2077 : Index := 30#32
  let c0_2078 : Index := 0#32
  let c0_2079 : Index := 0#32
  ![2, v4055.toNat, 30, 0, 0]
def k0_off403 (i : grid0.Coords) (k0_t2 : Fin (k0_t2_loop i).trips) : Fin 5 → Nat :=
  let c2_2080 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4059 : Index := Scalar.indexCast v1160
  let c31_2081 : Index := 31#32
  let c0_2082 : Index := 0#32
  let c0_2083 : Index := 0#32
  ![2, v4059.toNat, 31, 0, 0]
def k0_mult28 (i : grid0.Coords) (k0_t2 : Fin (k0_t2_loop i).trips) : BitVec 32 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let c256_i32_2092 : BitVec 32 := 256#32
  let v4100 : BitVec 32 := Scalar.muli v1160 c256_i32_2092
  v4100
def k0_off404 (i : grid0.Coords) (k0_t2 : Fin (k0_t2_loop i).trips) : Fin 3 → Nat :=
  let c3_2093 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let c256_i32_2092 : BitVec 32 := 256#32
  let v4100 : BitVec 32 := Scalar.muli v1160 c256_i32_2092
  let v4101 : BitVec 32 := v4100
  let v4102 : Index := Scalar.indexCast v4101
  let c0_2094 : Index := 0#32
  ![3, v4102.toNat, 0]
def k0_off405 (i : grid0.Coords) (k0_t2 : Fin (k0_t2_loop i).trips) : Fin 5 → Nat :=
  let c3_2337 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4864 : Index := Scalar.indexCast v1160
  let c0_2338 : Index := 0#32
  let c0_2339 : Index := 0#32
  let c0_2340 : Index := 0#32
  ![3, v4864.toNat, 0, 0, 0]
def k0_off406 (i : grid0.Coords) (k0_t2 : Fin (k0_t2_loop i).trips) : Fin 5 → Nat :=
  let c3_2341 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4868 : Index := Scalar.indexCast v1160
  let c1_2342 : Index := 1#32
  let c0_2343 : Index := 0#32
  let c0_2344 : Index := 0#32
  ![3, v4868.toNat, 1, 0, 0]
def k0_off407 (i : grid0.Coords) (k0_t2 : Fin (k0_t2_loop i).trips) : Fin 5 → Nat :=
  let c3_2345 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4872 : Index := Scalar.indexCast v1160
  let c2_2346 : Index := 2#32
  let c0_2347 : Index := 0#32
  let c0_2348 : Index := 0#32
  ![3, v4872.toNat, 2, 0, 0]
def k0_off408 (i : grid0.Coords) (k0_t2 : Fin (k0_t2_loop i).trips) : Fin 5 → Nat :=
  let c3_2349 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4876 : Index := Scalar.indexCast v1160
  let c3_2350 : Index := 3#32
  let c0_2351 : Index := 0#32
  let c0_2352 : Index := 0#32
  ![3, v4876.toNat, 3, 0, 0]
def k0_off409 (i : grid0.Coords) (k0_t2 : Fin (k0_t2_loop i).trips) : Fin 5 → Nat :=
  let c3_2353 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4880 : Index := Scalar.indexCast v1160
  let c4_2354 : Index := 4#32
  let c0_2355 : Index := 0#32
  let c0_2356 : Index := 0#32
  ![3, v4880.toNat, 4, 0, 0]
def k0_off410 (i : grid0.Coords) (k0_t2 : Fin (k0_t2_loop i).trips) : Fin 5 → Nat :=
  let c3_2357 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4884 : Index := Scalar.indexCast v1160
  let c5_2358 : Index := 5#32
  let c0_2359 : Index := 0#32
  let c0_2360 : Index := 0#32
  ![3, v4884.toNat, 5, 0, 0]
def k0_off411 (i : grid0.Coords) (k0_t2 : Fin (k0_t2_loop i).trips) : Fin 5 → Nat :=
  let c3_2361 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4888 : Index := Scalar.indexCast v1160
  let c6_2362 : Index := 6#32
  let c0_2363 : Index := 0#32
  let c0_2364 : Index := 0#32
  ![3, v4888.toNat, 6, 0, 0]
def k0_off412 (i : grid0.Coords) (k0_t2 : Fin (k0_t2_loop i).trips) : Fin 5 → Nat :=
  let c3_2365 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4892 : Index := Scalar.indexCast v1160
  let c7_2366 : Index := 7#32
  let c0_2367 : Index := 0#32
  let c0_2368 : Index := 0#32
  ![3, v4892.toNat, 7, 0, 0]
def k0_off413 (i : grid0.Coords) (k0_t2 : Fin (k0_t2_loop i).trips) : Fin 5 → Nat :=
  let c3_2369 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4896 : Index := Scalar.indexCast v1160
  let c8_2370 : Index := 8#32
  let c0_2371 : Index := 0#32
  let c0_2372 : Index := 0#32
  ![3, v4896.toNat, 8, 0, 0]
def k0_off414 (i : grid0.Coords) (k0_t2 : Fin (k0_t2_loop i).trips) : Fin 5 → Nat :=
  let c3_2373 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4900 : Index := Scalar.indexCast v1160
  let c9_2374 : Index := 9#32
  let c0_2375 : Index := 0#32
  let c0_2376 : Index := 0#32
  ![3, v4900.toNat, 9, 0, 0]
def k0_off415 (i : grid0.Coords) (k0_t2 : Fin (k0_t2_loop i).trips) : Fin 5 → Nat :=
  let c3_2377 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4904 : Index := Scalar.indexCast v1160
  let c10_2378 : Index := 10#32
  let c0_2379 : Index := 0#32
  let c0_2380 : Index := 0#32
  ![3, v4904.toNat, 10, 0, 0]
def k0_off416 (i : grid0.Coords) (k0_t2 : Fin (k0_t2_loop i).trips) : Fin 5 → Nat :=
  let c3_2381 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4908 : Index := Scalar.indexCast v1160
  let c11_2382 : Index := 11#32
  let c0_2383 : Index := 0#32
  let c0_2384 : Index := 0#32
  ![3, v4908.toNat, 11, 0, 0]
def k0_off417 (i : grid0.Coords) (k0_t2 : Fin (k0_t2_loop i).trips) : Fin 5 → Nat :=
  let c3_2385 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4912 : Index := Scalar.indexCast v1160
  let c12_2386 : Index := 12#32
  let c0_2387 : Index := 0#32
  let c0_2388 : Index := 0#32
  ![3, v4912.toNat, 12, 0, 0]
def k0_off418 (i : grid0.Coords) (k0_t2 : Fin (k0_t2_loop i).trips) : Fin 5 → Nat :=
  let c3_2389 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4916 : Index := Scalar.indexCast v1160
  let c13_2390 : Index := 13#32
  let c0_2391 : Index := 0#32
  let c0_2392 : Index := 0#32
  ![3, v4916.toNat, 13, 0, 0]
def k0_off419 (i : grid0.Coords) (k0_t2 : Fin (k0_t2_loop i).trips) : Fin 5 → Nat :=
  let c3_2393 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4920 : Index := Scalar.indexCast v1160
  let c14_2394 : Index := 14#32
  let c0_2395 : Index := 0#32
  let c0_2396 : Index := 0#32
  ![3, v4920.toNat, 14, 0, 0]
def k0_off420 (i : grid0.Coords) (k0_t2 : Fin (k0_t2_loop i).trips) : Fin 5 → Nat :=
  let c3_2397 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4924 : Index := Scalar.indexCast v1160
  let c15_2398 : Index := 15#32
  let c0_2399 : Index := 0#32
  let c0_2400 : Index := 0#32
  ![3, v4924.toNat, 15, 0, 0]
def k0_off421 (i : grid0.Coords) (k0_t2 : Fin (k0_t2_loop i).trips) : Fin 5 → Nat :=
  let c3_2401 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4928 : Index := Scalar.indexCast v1160
  let c16_2402 : Index := 16#32
  let c0_2403 : Index := 0#32
  let c0_2404 : Index := 0#32
  ![3, v4928.toNat, 16, 0, 0]
def k0_off422 (i : grid0.Coords) (k0_t2 : Fin (k0_t2_loop i).trips) : Fin 5 → Nat :=
  let c3_2405 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4932 : Index := Scalar.indexCast v1160
  let c17_2406 : Index := 17#32
  let c0_2407 : Index := 0#32
  let c0_2408 : Index := 0#32
  ![3, v4932.toNat, 17, 0, 0]
def k0_off423 (i : grid0.Coords) (k0_t2 : Fin (k0_t2_loop i).trips) : Fin 5 → Nat :=
  let c3_2409 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4936 : Index := Scalar.indexCast v1160
  let c18_2410 : Index := 18#32
  let c0_2411 : Index := 0#32
  let c0_2412 : Index := 0#32
  ![3, v4936.toNat, 18, 0, 0]
def k0_off424 (i : grid0.Coords) (k0_t2 : Fin (k0_t2_loop i).trips) : Fin 5 → Nat :=
  let c3_2413 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4940 : Index := Scalar.indexCast v1160
  let c19_2414 : Index := 19#32
  let c0_2415 : Index := 0#32
  let c0_2416 : Index := 0#32
  ![3, v4940.toNat, 19, 0, 0]
def k0_off425 (i : grid0.Coords) (k0_t2 : Fin (k0_t2_loop i).trips) : Fin 5 → Nat :=
  let c3_2417 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4944 : Index := Scalar.indexCast v1160
  let c20_2418 : Index := 20#32
  let c0_2419 : Index := 0#32
  let c0_2420 : Index := 0#32
  ![3, v4944.toNat, 20, 0, 0]
def k0_off426 (i : grid0.Coords) (k0_t2 : Fin (k0_t2_loop i).trips) : Fin 5 → Nat :=
  let c3_2421 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4948 : Index := Scalar.indexCast v1160
  let c21_2422 : Index := 21#32
  let c0_2423 : Index := 0#32
  let c0_2424 : Index := 0#32
  ![3, v4948.toNat, 21, 0, 0]
def k0_off427 (i : grid0.Coords) (k0_t2 : Fin (k0_t2_loop i).trips) : Fin 5 → Nat :=
  let c3_2425 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4952 : Index := Scalar.indexCast v1160
  let c22_2426 : Index := 22#32
  let c0_2427 : Index := 0#32
  let c0_2428 : Index := 0#32
  ![3, v4952.toNat, 22, 0, 0]
def k0_off428 (i : grid0.Coords) (k0_t2 : Fin (k0_t2_loop i).trips) : Fin 5 → Nat :=
  let c3_2429 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4956 : Index := Scalar.indexCast v1160
  let c23_2430 : Index := 23#32
  let c0_2431 : Index := 0#32
  let c0_2432 : Index := 0#32
  ![3, v4956.toNat, 23, 0, 0]
def k0_off429 (i : grid0.Coords) (k0_t2 : Fin (k0_t2_loop i).trips) : Fin 5 → Nat :=
  let c3_2433 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4960 : Index := Scalar.indexCast v1160
  let c24_2434 : Index := 24#32
  let c0_2435 : Index := 0#32
  let c0_2436 : Index := 0#32
  ![3, v4960.toNat, 24, 0, 0]
def k0_off430 (i : grid0.Coords) (k0_t2 : Fin (k0_t2_loop i).trips) : Fin 5 → Nat :=
  let c3_2437 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4964 : Index := Scalar.indexCast v1160
  let c25_2438 : Index := 25#32
  let c0_2439 : Index := 0#32
  let c0_2440 : Index := 0#32
  ![3, v4964.toNat, 25, 0, 0]
def k0_off431 (i : grid0.Coords) (k0_t2 : Fin (k0_t2_loop i).trips) : Fin 5 → Nat :=
  let c3_2441 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4968 : Index := Scalar.indexCast v1160
  let c26_2442 : Index := 26#32
  let c0_2443 : Index := 0#32
  let c0_2444 : Index := 0#32
  ![3, v4968.toNat, 26, 0, 0]
def k0_off432 (i : grid0.Coords) (k0_t2 : Fin (k0_t2_loop i).trips) : Fin 5 → Nat :=
  let c3_2445 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4972 : Index := Scalar.indexCast v1160
  let c27_2446 : Index := 27#32
  let c0_2447 : Index := 0#32
  let c0_2448 : Index := 0#32
  ![3, v4972.toNat, 27, 0, 0]
def k0_off433 (i : grid0.Coords) (k0_t2 : Fin (k0_t2_loop i).trips) : Fin 5 → Nat :=
  let c3_2449 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4976 : Index := Scalar.indexCast v1160
  let c28_2450 : Index := 28#32
  let c0_2451 : Index := 0#32
  let c0_2452 : Index := 0#32
  ![3, v4976.toNat, 28, 0, 0]
def k0_off434 (i : grid0.Coords) (k0_t2 : Fin (k0_t2_loop i).trips) : Fin 5 → Nat :=
  let c3_2453 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4980 : Index := Scalar.indexCast v1160
  let c29_2454 : Index := 29#32
  let c0_2455 : Index := 0#32
  let c0_2456 : Index := 0#32
  ![3, v4980.toNat, 29, 0, 0]
def k0_off435 (i : grid0.Coords) (k0_t2 : Fin (k0_t2_loop i).trips) : Fin 5 → Nat :=
  let c3_2457 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4984 : Index := Scalar.indexCast v1160
  let c30_2458 : Index := 30#32
  let c0_2459 : Index := 0#32
  let c0_2460 : Index := 0#32
  ![3, v4984.toNat, 30, 0, 0]
def k0_off436 (i : grid0.Coords) (k0_t2 : Fin (k0_t2_loop i).trips) : Fin 5 → Nat :=
  let c3_2461 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_861 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1159 : BitVec 32 := Scalar.muli c2_i32_861 arg19
  let v1160 : BitVec 32 := Scalar.addi v660 v1159
  let v4988 : Index := Scalar.indexCast v1160
  let c31_2462 : Index := 31#32
  let c0_2463 : Index := 0#32
  let c0_2464 : Index := 0#32
  ![3, v4988.toNat, 31, 0, 0]
def k0_mult29 (i : grid0.Coords) (k0_t2 : Fin (k0_t2_loop i).trips) : BitVec 32 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let c256_i32_2473 : BitVec 32 := 256#32
  let v5029 : BitVec 32 := Scalar.muli v1163 c256_i32_2473
  v5029
def k0_off437 (i : grid0.Coords) (k0_t2 : Fin (k0_t2_loop i).trips) : Fin 3 → Nat :=
  let c0_2474 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let c256_i32_2473 : BitVec 32 := 256#32
  let v5029 : BitVec 32 := Scalar.muli v1163 c256_i32_2473
  let v5030 : BitVec 32 := v5029
  let v5031 : Index := Scalar.indexCast v5030
  let c0_2475 : Index := 0#32
  ![0, v5031.toNat, 0]
def k0_off438 (i : grid0.Coords) (k0_t2 : Fin (k0_t2_loop i).trips) : Fin 5 → Nat :=
  let c0_2718 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5793 : Index := Scalar.indexCast v1163
  let c0_2719 : Index := 0#32
  let c0_2720 : Index := 0#32
  let c0_2721 : Index := 0#32
  ![0, v5793.toNat, 0, 0, 0]
def k0_off439 (i : grid0.Coords) (k0_t2 : Fin (k0_t2_loop i).trips) : Fin 5 → Nat :=
  let c0_2722 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5797 : Index := Scalar.indexCast v1163
  let c1_2723 : Index := 1#32
  let c0_2724 : Index := 0#32
  let c0_2725 : Index := 0#32
  ![0, v5797.toNat, 1, 0, 0]
def k0_off440 (i : grid0.Coords) (k0_t2 : Fin (k0_t2_loop i).trips) : Fin 5 → Nat :=
  let c0_2726 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5801 : Index := Scalar.indexCast v1163
  let c2_2727 : Index := 2#32
  let c0_2728 : Index := 0#32
  let c0_2729 : Index := 0#32
  ![0, v5801.toNat, 2, 0, 0]
def k0_off441 (i : grid0.Coords) (k0_t2 : Fin (k0_t2_loop i).trips) : Fin 5 → Nat :=
  let c0_2730 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5805 : Index := Scalar.indexCast v1163
  let c3_2731 : Index := 3#32
  let c0_2732 : Index := 0#32
  let c0_2733 : Index := 0#32
  ![0, v5805.toNat, 3, 0, 0]
def k0_off442 (i : grid0.Coords) (k0_t2 : Fin (k0_t2_loop i).trips) : Fin 5 → Nat :=
  let c0_2734 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5809 : Index := Scalar.indexCast v1163
  let c4_2735 : Index := 4#32
  let c0_2736 : Index := 0#32
  let c0_2737 : Index := 0#32
  ![0, v5809.toNat, 4, 0, 0]
def k0_off443 (i : grid0.Coords) (k0_t2 : Fin (k0_t2_loop i).trips) : Fin 5 → Nat :=
  let c0_2738 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5813 : Index := Scalar.indexCast v1163
  let c5_2739 : Index := 5#32
  let c0_2740 : Index := 0#32
  let c0_2741 : Index := 0#32
  ![0, v5813.toNat, 5, 0, 0]
def k0_off444 (i : grid0.Coords) (k0_t2 : Fin (k0_t2_loop i).trips) : Fin 5 → Nat :=
  let c0_2742 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5817 : Index := Scalar.indexCast v1163
  let c6_2743 : Index := 6#32
  let c0_2744 : Index := 0#32
  let c0_2745 : Index := 0#32
  ![0, v5817.toNat, 6, 0, 0]
def k0_off445 (i : grid0.Coords) (k0_t2 : Fin (k0_t2_loop i).trips) : Fin 5 → Nat :=
  let c0_2746 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5821 : Index := Scalar.indexCast v1163
  let c7_2747 : Index := 7#32
  let c0_2748 : Index := 0#32
  let c0_2749 : Index := 0#32
  ![0, v5821.toNat, 7, 0, 0]
def k0_off446 (i : grid0.Coords) (k0_t2 : Fin (k0_t2_loop i).trips) : Fin 5 → Nat :=
  let c0_2750 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5825 : Index := Scalar.indexCast v1163
  let c8_2751 : Index := 8#32
  let c0_2752 : Index := 0#32
  let c0_2753 : Index := 0#32
  ![0, v5825.toNat, 8, 0, 0]
def k0_off447 (i : grid0.Coords) (k0_t2 : Fin (k0_t2_loop i).trips) : Fin 5 → Nat :=
  let c0_2754 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5829 : Index := Scalar.indexCast v1163
  let c9_2755 : Index := 9#32
  let c0_2756 : Index := 0#32
  let c0_2757 : Index := 0#32
  ![0, v5829.toNat, 9, 0, 0]
def k0_off448 (i : grid0.Coords) (k0_t2 : Fin (k0_t2_loop i).trips) : Fin 5 → Nat :=
  let c0_2758 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5833 : Index := Scalar.indexCast v1163
  let c10_2759 : Index := 10#32
  let c0_2760 : Index := 0#32
  let c0_2761 : Index := 0#32
  ![0, v5833.toNat, 10, 0, 0]
def k0_off449 (i : grid0.Coords) (k0_t2 : Fin (k0_t2_loop i).trips) : Fin 5 → Nat :=
  let c0_2762 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5837 : Index := Scalar.indexCast v1163
  let c11_2763 : Index := 11#32
  let c0_2764 : Index := 0#32
  let c0_2765 : Index := 0#32
  ![0, v5837.toNat, 11, 0, 0]
def k0_off450 (i : grid0.Coords) (k0_t2 : Fin (k0_t2_loop i).trips) : Fin 5 → Nat :=
  let c0_2766 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5841 : Index := Scalar.indexCast v1163
  let c12_2767 : Index := 12#32
  let c0_2768 : Index := 0#32
  let c0_2769 : Index := 0#32
  ![0, v5841.toNat, 12, 0, 0]
def k0_off451 (i : grid0.Coords) (k0_t2 : Fin (k0_t2_loop i).trips) : Fin 5 → Nat :=
  let c0_2770 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5845 : Index := Scalar.indexCast v1163
  let c13_2771 : Index := 13#32
  let c0_2772 : Index := 0#32
  let c0_2773 : Index := 0#32
  ![0, v5845.toNat, 13, 0, 0]
def k0_off452 (i : grid0.Coords) (k0_t2 : Fin (k0_t2_loop i).trips) : Fin 5 → Nat :=
  let c0_2774 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5849 : Index := Scalar.indexCast v1163
  let c14_2775 : Index := 14#32
  let c0_2776 : Index := 0#32
  let c0_2777 : Index := 0#32
  ![0, v5849.toNat, 14, 0, 0]
def k0_off453 (i : grid0.Coords) (k0_t2 : Fin (k0_t2_loop i).trips) : Fin 5 → Nat :=
  let c0_2778 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5853 : Index := Scalar.indexCast v1163
  let c15_2779 : Index := 15#32
  let c0_2780 : Index := 0#32
  let c0_2781 : Index := 0#32
  ![0, v5853.toNat, 15, 0, 0]
def k0_off454 (i : grid0.Coords) (k0_t2 : Fin (k0_t2_loop i).trips) : Fin 5 → Nat :=
  let c0_2782 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5857 : Index := Scalar.indexCast v1163
  let c16_2783 : Index := 16#32
  let c0_2784 : Index := 0#32
  let c0_2785 : Index := 0#32
  ![0, v5857.toNat, 16, 0, 0]
def k0_off455 (i : grid0.Coords) (k0_t2 : Fin (k0_t2_loop i).trips) : Fin 5 → Nat :=
  let c0_2786 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5861 : Index := Scalar.indexCast v1163
  let c17_2787 : Index := 17#32
  let c0_2788 : Index := 0#32
  let c0_2789 : Index := 0#32
  ![0, v5861.toNat, 17, 0, 0]
def k0_off456 (i : grid0.Coords) (k0_t2 : Fin (k0_t2_loop i).trips) : Fin 5 → Nat :=
  let c0_2790 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5865 : Index := Scalar.indexCast v1163
  let c18_2791 : Index := 18#32
  let c0_2792 : Index := 0#32
  let c0_2793 : Index := 0#32
  ![0, v5865.toNat, 18, 0, 0]
def k0_off457 (i : grid0.Coords) (k0_t2 : Fin (k0_t2_loop i).trips) : Fin 5 → Nat :=
  let c0_2794 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5869 : Index := Scalar.indexCast v1163
  let c19_2795 : Index := 19#32
  let c0_2796 : Index := 0#32
  let c0_2797 : Index := 0#32
  ![0, v5869.toNat, 19, 0, 0]
def k0_off458 (i : grid0.Coords) (k0_t2 : Fin (k0_t2_loop i).trips) : Fin 5 → Nat :=
  let c0_2798 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5873 : Index := Scalar.indexCast v1163
  let c20_2799 : Index := 20#32
  let c0_2800 : Index := 0#32
  let c0_2801 : Index := 0#32
  ![0, v5873.toNat, 20, 0, 0]
def k0_off459 (i : grid0.Coords) (k0_t2 : Fin (k0_t2_loop i).trips) : Fin 5 → Nat :=
  let c0_2802 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5877 : Index := Scalar.indexCast v1163
  let c21_2803 : Index := 21#32
  let c0_2804 : Index := 0#32
  let c0_2805 : Index := 0#32
  ![0, v5877.toNat, 21, 0, 0]
def k0_off460 (i : grid0.Coords) (k0_t2 : Fin (k0_t2_loop i).trips) : Fin 5 → Nat :=
  let c0_2806 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5881 : Index := Scalar.indexCast v1163
  let c22_2807 : Index := 22#32
  let c0_2808 : Index := 0#32
  let c0_2809 : Index := 0#32
  ![0, v5881.toNat, 22, 0, 0]
def k0_off461 (i : grid0.Coords) (k0_t2 : Fin (k0_t2_loop i).trips) : Fin 5 → Nat :=
  let c0_2810 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5885 : Index := Scalar.indexCast v1163
  let c23_2811 : Index := 23#32
  let c0_2812 : Index := 0#32
  let c0_2813 : Index := 0#32
  ![0, v5885.toNat, 23, 0, 0]
def k0_off462 (i : grid0.Coords) (k0_t2 : Fin (k0_t2_loop i).trips) : Fin 5 → Nat :=
  let c0_2814 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5889 : Index := Scalar.indexCast v1163
  let c24_2815 : Index := 24#32
  let c0_2816 : Index := 0#32
  let c0_2817 : Index := 0#32
  ![0, v5889.toNat, 24, 0, 0]
def k0_off463 (i : grid0.Coords) (k0_t2 : Fin (k0_t2_loop i).trips) : Fin 5 → Nat :=
  let c0_2818 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5893 : Index := Scalar.indexCast v1163
  let c25_2819 : Index := 25#32
  let c0_2820 : Index := 0#32
  let c0_2821 : Index := 0#32
  ![0, v5893.toNat, 25, 0, 0]
def k0_off464 (i : grid0.Coords) (k0_t2 : Fin (k0_t2_loop i).trips) : Fin 5 → Nat :=
  let c0_2822 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5897 : Index := Scalar.indexCast v1163
  let c26_2823 : Index := 26#32
  let c0_2824 : Index := 0#32
  let c0_2825 : Index := 0#32
  ![0, v5897.toNat, 26, 0, 0]
def k0_off465 (i : grid0.Coords) (k0_t2 : Fin (k0_t2_loop i).trips) : Fin 5 → Nat :=
  let c0_2826 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5901 : Index := Scalar.indexCast v1163
  let c27_2827 : Index := 27#32
  let c0_2828 : Index := 0#32
  let c0_2829 : Index := 0#32
  ![0, v5901.toNat, 27, 0, 0]
def k0_off466 (i : grid0.Coords) (k0_t2 : Fin (k0_t2_loop i).trips) : Fin 5 → Nat :=
  let c0_2830 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5905 : Index := Scalar.indexCast v1163
  let c28_2831 : Index := 28#32
  let c0_2832 : Index := 0#32
  let c0_2833 : Index := 0#32
  ![0, v5905.toNat, 28, 0, 0]
def k0_off467 (i : grid0.Coords) (k0_t2 : Fin (k0_t2_loop i).trips) : Fin 5 → Nat :=
  let c0_2834 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5909 : Index := Scalar.indexCast v1163
  let c29_2835 : Index := 29#32
  let c0_2836 : Index := 0#32
  let c0_2837 : Index := 0#32
  ![0, v5909.toNat, 29, 0, 0]
def k0_off468 (i : grid0.Coords) (k0_t2 : Fin (k0_t2_loop i).trips) : Fin 5 → Nat :=
  let c0_2838 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5913 : Index := Scalar.indexCast v1163
  let c30_2839 : Index := 30#32
  let c0_2840 : Index := 0#32
  let c0_2841 : Index := 0#32
  ![0, v5913.toNat, 30, 0, 0]
def k0_off469 (i : grid0.Coords) (k0_t2 : Fin (k0_t2_loop i).trips) : Fin 5 → Nat :=
  let c0_2842 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v5917 : Index := Scalar.indexCast v1163
  let c31_2843 : Index := 31#32
  let c0_2844 : Index := 0#32
  let c0_2845 : Index := 0#32
  ![0, v5917.toNat, 31, 0, 0]
def k0_mult30 (i : grid0.Coords) (k0_t2 : Fin (k0_t2_loop i).trips) : BitVec 32 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let c256_i32_2854 : BitVec 32 := 256#32
  let v5958 : BitVec 32 := Scalar.muli v1163 c256_i32_2854
  v5958
def k0_off470 (i : grid0.Coords) (k0_t2 : Fin (k0_t2_loop i).trips) : Fin 3 → Nat :=
  let c1_2855 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let c256_i32_2854 : BitVec 32 := 256#32
  let v5958 : BitVec 32 := Scalar.muli v1163 c256_i32_2854
  let v5959 : BitVec 32 := v5958
  let v5960 : Index := Scalar.indexCast v5959
  let c0_2856 : Index := 0#32
  ![1, v5960.toNat, 0]
def k0_off471 (i : grid0.Coords) (k0_t2 : Fin (k0_t2_loop i).trips) : Fin 5 → Nat :=
  let c1_3099 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6722 : Index := Scalar.indexCast v1163
  let c0_3100 : Index := 0#32
  let c0_3101 : Index := 0#32
  let c0_3102 : Index := 0#32
  ![1, v6722.toNat, 0, 0, 0]
def k0_off472 (i : grid0.Coords) (k0_t2 : Fin (k0_t2_loop i).trips) : Fin 5 → Nat :=
  let c1_3103 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6726 : Index := Scalar.indexCast v1163
  let c1_3104 : Index := 1#32
  let c0_3105 : Index := 0#32
  let c0_3106 : Index := 0#32
  ![1, v6726.toNat, 1, 0, 0]
def k0_off473 (i : grid0.Coords) (k0_t2 : Fin (k0_t2_loop i).trips) : Fin 5 → Nat :=
  let c1_3107 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6730 : Index := Scalar.indexCast v1163
  let c2_3108 : Index := 2#32
  let c0_3109 : Index := 0#32
  let c0_3110 : Index := 0#32
  ![1, v6730.toNat, 2, 0, 0]
def k0_off474 (i : grid0.Coords) (k0_t2 : Fin (k0_t2_loop i).trips) : Fin 5 → Nat :=
  let c1_3111 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6734 : Index := Scalar.indexCast v1163
  let c3_3112 : Index := 3#32
  let c0_3113 : Index := 0#32
  let c0_3114 : Index := 0#32
  ![1, v6734.toNat, 3, 0, 0]
def k0_off475 (i : grid0.Coords) (k0_t2 : Fin (k0_t2_loop i).trips) : Fin 5 → Nat :=
  let c1_3115 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6738 : Index := Scalar.indexCast v1163
  let c4_3116 : Index := 4#32
  let c0_3117 : Index := 0#32
  let c0_3118 : Index := 0#32
  ![1, v6738.toNat, 4, 0, 0]
def k0_off476 (i : grid0.Coords) (k0_t2 : Fin (k0_t2_loop i).trips) : Fin 5 → Nat :=
  let c1_3119 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6742 : Index := Scalar.indexCast v1163
  let c5_3120 : Index := 5#32
  let c0_3121 : Index := 0#32
  let c0_3122 : Index := 0#32
  ![1, v6742.toNat, 5, 0, 0]
def k0_off477 (i : grid0.Coords) (k0_t2 : Fin (k0_t2_loop i).trips) : Fin 5 → Nat :=
  let c1_3123 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6746 : Index := Scalar.indexCast v1163
  let c6_3124 : Index := 6#32
  let c0_3125 : Index := 0#32
  let c0_3126 : Index := 0#32
  ![1, v6746.toNat, 6, 0, 0]
def k0_off478 (i : grid0.Coords) (k0_t2 : Fin (k0_t2_loop i).trips) : Fin 5 → Nat :=
  let c1_3127 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6750 : Index := Scalar.indexCast v1163
  let c7_3128 : Index := 7#32
  let c0_3129 : Index := 0#32
  let c0_3130 : Index := 0#32
  ![1, v6750.toNat, 7, 0, 0]
def k0_off479 (i : grid0.Coords) (k0_t2 : Fin (k0_t2_loop i).trips) : Fin 5 → Nat :=
  let c1_3131 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6754 : Index := Scalar.indexCast v1163
  let c8_3132 : Index := 8#32
  let c0_3133 : Index := 0#32
  let c0_3134 : Index := 0#32
  ![1, v6754.toNat, 8, 0, 0]
def k0_off480 (i : grid0.Coords) (k0_t2 : Fin (k0_t2_loop i).trips) : Fin 5 → Nat :=
  let c1_3135 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6758 : Index := Scalar.indexCast v1163
  let c9_3136 : Index := 9#32
  let c0_3137 : Index := 0#32
  let c0_3138 : Index := 0#32
  ![1, v6758.toNat, 9, 0, 0]
def k0_off481 (i : grid0.Coords) (k0_t2 : Fin (k0_t2_loop i).trips) : Fin 5 → Nat :=
  let c1_3139 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6762 : Index := Scalar.indexCast v1163
  let c10_3140 : Index := 10#32
  let c0_3141 : Index := 0#32
  let c0_3142 : Index := 0#32
  ![1, v6762.toNat, 10, 0, 0]
def k0_off482 (i : grid0.Coords) (k0_t2 : Fin (k0_t2_loop i).trips) : Fin 5 → Nat :=
  let c1_3143 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6766 : Index := Scalar.indexCast v1163
  let c11_3144 : Index := 11#32
  let c0_3145 : Index := 0#32
  let c0_3146 : Index := 0#32
  ![1, v6766.toNat, 11, 0, 0]
def k0_off483 (i : grid0.Coords) (k0_t2 : Fin (k0_t2_loop i).trips) : Fin 5 → Nat :=
  let c1_3147 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6770 : Index := Scalar.indexCast v1163
  let c12_3148 : Index := 12#32
  let c0_3149 : Index := 0#32
  let c0_3150 : Index := 0#32
  ![1, v6770.toNat, 12, 0, 0]
def k0_off484 (i : grid0.Coords) (k0_t2 : Fin (k0_t2_loop i).trips) : Fin 5 → Nat :=
  let c1_3151 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6774 : Index := Scalar.indexCast v1163
  let c13_3152 : Index := 13#32
  let c0_3153 : Index := 0#32
  let c0_3154 : Index := 0#32
  ![1, v6774.toNat, 13, 0, 0]
def k0_off485 (i : grid0.Coords) (k0_t2 : Fin (k0_t2_loop i).trips) : Fin 5 → Nat :=
  let c1_3155 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6778 : Index := Scalar.indexCast v1163
  let c14_3156 : Index := 14#32
  let c0_3157 : Index := 0#32
  let c0_3158 : Index := 0#32
  ![1, v6778.toNat, 14, 0, 0]
def k0_off486 (i : grid0.Coords) (k0_t2 : Fin (k0_t2_loop i).trips) : Fin 5 → Nat :=
  let c1_3159 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6782 : Index := Scalar.indexCast v1163
  let c15_3160 : Index := 15#32
  let c0_3161 : Index := 0#32
  let c0_3162 : Index := 0#32
  ![1, v6782.toNat, 15, 0, 0]
def k0_off487 (i : grid0.Coords) (k0_t2 : Fin (k0_t2_loop i).trips) : Fin 5 → Nat :=
  let c1_3163 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6786 : Index := Scalar.indexCast v1163
  let c16_3164 : Index := 16#32
  let c0_3165 : Index := 0#32
  let c0_3166 : Index := 0#32
  ![1, v6786.toNat, 16, 0, 0]
def k0_off488 (i : grid0.Coords) (k0_t2 : Fin (k0_t2_loop i).trips) : Fin 5 → Nat :=
  let c1_3167 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6790 : Index := Scalar.indexCast v1163
  let c17_3168 : Index := 17#32
  let c0_3169 : Index := 0#32
  let c0_3170 : Index := 0#32
  ![1, v6790.toNat, 17, 0, 0]
def k0_off489 (i : grid0.Coords) (k0_t2 : Fin (k0_t2_loop i).trips) : Fin 5 → Nat :=
  let c1_3171 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6794 : Index := Scalar.indexCast v1163
  let c18_3172 : Index := 18#32
  let c0_3173 : Index := 0#32
  let c0_3174 : Index := 0#32
  ![1, v6794.toNat, 18, 0, 0]
def k0_off490 (i : grid0.Coords) (k0_t2 : Fin (k0_t2_loop i).trips) : Fin 5 → Nat :=
  let c1_3175 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6798 : Index := Scalar.indexCast v1163
  let c19_3176 : Index := 19#32
  let c0_3177 : Index := 0#32
  let c0_3178 : Index := 0#32
  ![1, v6798.toNat, 19, 0, 0]
def k0_off491 (i : grid0.Coords) (k0_t2 : Fin (k0_t2_loop i).trips) : Fin 5 → Nat :=
  let c1_3179 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6802 : Index := Scalar.indexCast v1163
  let c20_3180 : Index := 20#32
  let c0_3181 : Index := 0#32
  let c0_3182 : Index := 0#32
  ![1, v6802.toNat, 20, 0, 0]
def k0_off492 (i : grid0.Coords) (k0_t2 : Fin (k0_t2_loop i).trips) : Fin 5 → Nat :=
  let c1_3183 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6806 : Index := Scalar.indexCast v1163
  let c21_3184 : Index := 21#32
  let c0_3185 : Index := 0#32
  let c0_3186 : Index := 0#32
  ![1, v6806.toNat, 21, 0, 0]
def k0_off493 (i : grid0.Coords) (k0_t2 : Fin (k0_t2_loop i).trips) : Fin 5 → Nat :=
  let c1_3187 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6810 : Index := Scalar.indexCast v1163
  let c22_3188 : Index := 22#32
  let c0_3189 : Index := 0#32
  let c0_3190 : Index := 0#32
  ![1, v6810.toNat, 22, 0, 0]
def k0_off494 (i : grid0.Coords) (k0_t2 : Fin (k0_t2_loop i).trips) : Fin 5 → Nat :=
  let c1_3191 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6814 : Index := Scalar.indexCast v1163
  let c23_3192 : Index := 23#32
  let c0_3193 : Index := 0#32
  let c0_3194 : Index := 0#32
  ![1, v6814.toNat, 23, 0, 0]
def k0_off495 (i : grid0.Coords) (k0_t2 : Fin (k0_t2_loop i).trips) : Fin 5 → Nat :=
  let c1_3195 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6818 : Index := Scalar.indexCast v1163
  let c24_3196 : Index := 24#32
  let c0_3197 : Index := 0#32
  let c0_3198 : Index := 0#32
  ![1, v6818.toNat, 24, 0, 0]
def k0_off496 (i : grid0.Coords) (k0_t2 : Fin (k0_t2_loop i).trips) : Fin 5 → Nat :=
  let c1_3199 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6822 : Index := Scalar.indexCast v1163
  let c25_3200 : Index := 25#32
  let c0_3201 : Index := 0#32
  let c0_3202 : Index := 0#32
  ![1, v6822.toNat, 25, 0, 0]
def k0_off497 (i : grid0.Coords) (k0_t2 : Fin (k0_t2_loop i).trips) : Fin 5 → Nat :=
  let c1_3203 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6826 : Index := Scalar.indexCast v1163
  let c26_3204 : Index := 26#32
  let c0_3205 : Index := 0#32
  let c0_3206 : Index := 0#32
  ![1, v6826.toNat, 26, 0, 0]
def k0_off498 (i : grid0.Coords) (k0_t2 : Fin (k0_t2_loop i).trips) : Fin 5 → Nat :=
  let c1_3207 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6830 : Index := Scalar.indexCast v1163
  let c27_3208 : Index := 27#32
  let c0_3209 : Index := 0#32
  let c0_3210 : Index := 0#32
  ![1, v6830.toNat, 27, 0, 0]
def k0_off499 (i : grid0.Coords) (k0_t2 : Fin (k0_t2_loop i).trips) : Fin 5 → Nat :=
  let c1_3211 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6834 : Index := Scalar.indexCast v1163
  let c28_3212 : Index := 28#32
  let c0_3213 : Index := 0#32
  let c0_3214 : Index := 0#32
  ![1, v6834.toNat, 28, 0, 0]
def k0_off500 (i : grid0.Coords) (k0_t2 : Fin (k0_t2_loop i).trips) : Fin 5 → Nat :=
  let c1_3215 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6838 : Index := Scalar.indexCast v1163
  let c29_3216 : Index := 29#32
  let c0_3217 : Index := 0#32
  let c0_3218 : Index := 0#32
  ![1, v6838.toNat, 29, 0, 0]
def k0_off501 (i : grid0.Coords) (k0_t2 : Fin (k0_t2_loop i).trips) : Fin 5 → Nat :=
  let c1_3219 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6842 : Index := Scalar.indexCast v1163
  let c30_3220 : Index := 30#32
  let c0_3221 : Index := 0#32
  let c0_3222 : Index := 0#32
  ![1, v6842.toNat, 30, 0, 0]
def k0_off502 (i : grid0.Coords) (k0_t2 : Fin (k0_t2_loop i).trips) : Fin 5 → Nat :=
  let c1_3223 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v6846 : Index := Scalar.indexCast v1163
  let c31_3224 : Index := 31#32
  let c0_3225 : Index := 0#32
  let c0_3226 : Index := 0#32
  ![1, v6846.toNat, 31, 0, 0]
def k0_mult31 (i : grid0.Coords) (k0_t2 : Fin (k0_t2_loop i).trips) : BitVec 32 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let c256_i32_3235 : BitVec 32 := 256#32
  let v6887 : BitVec 32 := Scalar.muli v1163 c256_i32_3235
  v6887
def k0_off503 (i : grid0.Coords) (k0_t2 : Fin (k0_t2_loop i).trips) : Fin 3 → Nat :=
  let c2_3236 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let c256_i32_3235 : BitVec 32 := 256#32
  let v6887 : BitVec 32 := Scalar.muli v1163 c256_i32_3235
  let v6888 : BitVec 32 := v6887
  let v6889 : Index := Scalar.indexCast v6888
  let c0_3237 : Index := 0#32
  ![2, v6889.toNat, 0]
def k0_off504 (i : grid0.Coords) (k0_t2 : Fin (k0_t2_loop i).trips) : Fin 5 → Nat :=
  let c2_3480 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7651 : Index := Scalar.indexCast v1163
  let c0_3481 : Index := 0#32
  let c0_3482 : Index := 0#32
  let c0_3483 : Index := 0#32
  ![2, v7651.toNat, 0, 0, 0]
def k0_off505 (i : grid0.Coords) (k0_t2 : Fin (k0_t2_loop i).trips) : Fin 5 → Nat :=
  let c2_3484 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7655 : Index := Scalar.indexCast v1163
  let c1_3485 : Index := 1#32
  let c0_3486 : Index := 0#32
  let c0_3487 : Index := 0#32
  ![2, v7655.toNat, 1, 0, 0]
def k0_off506 (i : grid0.Coords) (k0_t2 : Fin (k0_t2_loop i).trips) : Fin 5 → Nat :=
  let c2_3488 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7659 : Index := Scalar.indexCast v1163
  let c2_3489 : Index := 2#32
  let c0_3490 : Index := 0#32
  let c0_3491 : Index := 0#32
  ![2, v7659.toNat, 2, 0, 0]
def k0_off507 (i : grid0.Coords) (k0_t2 : Fin (k0_t2_loop i).trips) : Fin 5 → Nat :=
  let c2_3492 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7663 : Index := Scalar.indexCast v1163
  let c3_3493 : Index := 3#32
  let c0_3494 : Index := 0#32
  let c0_3495 : Index := 0#32
  ![2, v7663.toNat, 3, 0, 0]
def k0_off508 (i : grid0.Coords) (k0_t2 : Fin (k0_t2_loop i).trips) : Fin 5 → Nat :=
  let c2_3496 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7667 : Index := Scalar.indexCast v1163
  let c4_3497 : Index := 4#32
  let c0_3498 : Index := 0#32
  let c0_3499 : Index := 0#32
  ![2, v7667.toNat, 4, 0, 0]
def k0_off509 (i : grid0.Coords) (k0_t2 : Fin (k0_t2_loop i).trips) : Fin 5 → Nat :=
  let c2_3500 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7671 : Index := Scalar.indexCast v1163
  let c5_3501 : Index := 5#32
  let c0_3502 : Index := 0#32
  let c0_3503 : Index := 0#32
  ![2, v7671.toNat, 5, 0, 0]
def k0_off510 (i : grid0.Coords) (k0_t2 : Fin (k0_t2_loop i).trips) : Fin 5 → Nat :=
  let c2_3504 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7675 : Index := Scalar.indexCast v1163
  let c6_3505 : Index := 6#32
  let c0_3506 : Index := 0#32
  let c0_3507 : Index := 0#32
  ![2, v7675.toNat, 6, 0, 0]
def k0_off511 (i : grid0.Coords) (k0_t2 : Fin (k0_t2_loop i).trips) : Fin 5 → Nat :=
  let c2_3508 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7679 : Index := Scalar.indexCast v1163
  let c7_3509 : Index := 7#32
  let c0_3510 : Index := 0#32
  let c0_3511 : Index := 0#32
  ![2, v7679.toNat, 7, 0, 0]
def k0_off512 (i : grid0.Coords) (k0_t2 : Fin (k0_t2_loop i).trips) : Fin 5 → Nat :=
  let c2_3512 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7683 : Index := Scalar.indexCast v1163
  let c8_3513 : Index := 8#32
  let c0_3514 : Index := 0#32
  let c0_3515 : Index := 0#32
  ![2, v7683.toNat, 8, 0, 0]
def k0_off513 (i : grid0.Coords) (k0_t2 : Fin (k0_t2_loop i).trips) : Fin 5 → Nat :=
  let c2_3516 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7687 : Index := Scalar.indexCast v1163
  let c9_3517 : Index := 9#32
  let c0_3518 : Index := 0#32
  let c0_3519 : Index := 0#32
  ![2, v7687.toNat, 9, 0, 0]

variable {F : FTy → Type} [BitOps F]

def k0_off514 (i : grid0.Coords) (k0_t2 : Fin (k0_t2_loop i).trips) : Fin 5 → Nat :=
  let c2_3520 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7691 : Index := Scalar.indexCast v1163
  let c10_3521 : Index := 10#32
  let c0_3522 : Index := 0#32
  let c0_3523 : Index := 0#32
  ![2, v7691.toNat, 10, 0, 0]
def k0_off515 (i : grid0.Coords) (k0_t2 : Fin (k0_t2_loop i).trips) : Fin 5 → Nat :=
  let c2_3524 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7695 : Index := Scalar.indexCast v1163
  let c11_3525 : Index := 11#32
  let c0_3526 : Index := 0#32
  let c0_3527 : Index := 0#32
  ![2, v7695.toNat, 11, 0, 0]
def k0_off516 (i : grid0.Coords) (k0_t2 : Fin (k0_t2_loop i).trips) : Fin 5 → Nat :=
  let c2_3528 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7699 : Index := Scalar.indexCast v1163
  let c12_3529 : Index := 12#32
  let c0_3530 : Index := 0#32
  let c0_3531 : Index := 0#32
  ![2, v7699.toNat, 12, 0, 0]
def k0_off517 (i : grid0.Coords) (k0_t2 : Fin (k0_t2_loop i).trips) : Fin 5 → Nat :=
  let c2_3532 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7703 : Index := Scalar.indexCast v1163
  let c13_3533 : Index := 13#32
  let c0_3534 : Index := 0#32
  let c0_3535 : Index := 0#32
  ![2, v7703.toNat, 13, 0, 0]
def k0_off518 (i : grid0.Coords) (k0_t2 : Fin (k0_t2_loop i).trips) : Fin 5 → Nat :=
  let c2_3536 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7707 : Index := Scalar.indexCast v1163
  let c14_3537 : Index := 14#32
  let c0_3538 : Index := 0#32
  let c0_3539 : Index := 0#32
  ![2, v7707.toNat, 14, 0, 0]
def k0_off519 (i : grid0.Coords) (k0_t2 : Fin (k0_t2_loop i).trips) : Fin 5 → Nat :=
  let c2_3540 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7711 : Index := Scalar.indexCast v1163
  let c15_3541 : Index := 15#32
  let c0_3542 : Index := 0#32
  let c0_3543 : Index := 0#32
  ![2, v7711.toNat, 15, 0, 0]
def k0_off520 (i : grid0.Coords) (k0_t2 : Fin (k0_t2_loop i).trips) : Fin 5 → Nat :=
  let c2_3544 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7715 : Index := Scalar.indexCast v1163
  let c16_3545 : Index := 16#32
  let c0_3546 : Index := 0#32
  let c0_3547 : Index := 0#32
  ![2, v7715.toNat, 16, 0, 0]
def k0_off521 (i : grid0.Coords) (k0_t2 : Fin (k0_t2_loop i).trips) : Fin 5 → Nat :=
  let c2_3548 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7719 : Index := Scalar.indexCast v1163
  let c17_3549 : Index := 17#32
  let c0_3550 : Index := 0#32
  let c0_3551 : Index := 0#32
  ![2, v7719.toNat, 17, 0, 0]
def k0_off522 (i : grid0.Coords) (k0_t2 : Fin (k0_t2_loop i).trips) : Fin 5 → Nat :=
  let c2_3552 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7723 : Index := Scalar.indexCast v1163
  let c18_3553 : Index := 18#32
  let c0_3554 : Index := 0#32
  let c0_3555 : Index := 0#32
  ![2, v7723.toNat, 18, 0, 0]
def k0_off523 (i : grid0.Coords) (k0_t2 : Fin (k0_t2_loop i).trips) : Fin 5 → Nat :=
  let c2_3556 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7727 : Index := Scalar.indexCast v1163
  let c19_3557 : Index := 19#32
  let c0_3558 : Index := 0#32
  let c0_3559 : Index := 0#32
  ![2, v7727.toNat, 19, 0, 0]
def k0_off524 (i : grid0.Coords) (k0_t2 : Fin (k0_t2_loop i).trips) : Fin 5 → Nat :=
  let c2_3560 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7731 : Index := Scalar.indexCast v1163
  let c20_3561 : Index := 20#32
  let c0_3562 : Index := 0#32
  let c0_3563 : Index := 0#32
  ![2, v7731.toNat, 20, 0, 0]
def k0_off525 (i : grid0.Coords) (k0_t2 : Fin (k0_t2_loop i).trips) : Fin 5 → Nat :=
  let c2_3564 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7735 : Index := Scalar.indexCast v1163
  let c21_3565 : Index := 21#32
  let c0_3566 : Index := 0#32
  let c0_3567 : Index := 0#32
  ![2, v7735.toNat, 21, 0, 0]
def k0_off526 (i : grid0.Coords) (k0_t2 : Fin (k0_t2_loop i).trips) : Fin 5 → Nat :=
  let c2_3568 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7739 : Index := Scalar.indexCast v1163
  let c22_3569 : Index := 22#32
  let c0_3570 : Index := 0#32
  let c0_3571 : Index := 0#32
  ![2, v7739.toNat, 22, 0, 0]
def k0_off527 (i : grid0.Coords) (k0_t2 : Fin (k0_t2_loop i).trips) : Fin 5 → Nat :=
  let c2_3572 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7743 : Index := Scalar.indexCast v1163
  let c23_3573 : Index := 23#32
  let c0_3574 : Index := 0#32
  let c0_3575 : Index := 0#32
  ![2, v7743.toNat, 23, 0, 0]
def k0_off528 (i : grid0.Coords) (k0_t2 : Fin (k0_t2_loop i).trips) : Fin 5 → Nat :=
  let c2_3576 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7747 : Index := Scalar.indexCast v1163
  let c24_3577 : Index := 24#32
  let c0_3578 : Index := 0#32
  let c0_3579 : Index := 0#32
  ![2, v7747.toNat, 24, 0, 0]
def k0_off529 (i : grid0.Coords) (k0_t2 : Fin (k0_t2_loop i).trips) : Fin 5 → Nat :=
  let c2_3580 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7751 : Index := Scalar.indexCast v1163
  let c25_3581 : Index := 25#32
  let c0_3582 : Index := 0#32
  let c0_3583 : Index := 0#32
  ![2, v7751.toNat, 25, 0, 0]
def k0_off530 (i : grid0.Coords) (k0_t2 : Fin (k0_t2_loop i).trips) : Fin 5 → Nat :=
  let c2_3584 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7755 : Index := Scalar.indexCast v1163
  let c26_3585 : Index := 26#32
  let c0_3586 : Index := 0#32
  let c0_3587 : Index := 0#32
  ![2, v7755.toNat, 26, 0, 0]
def k0_off531 (i : grid0.Coords) (k0_t2 : Fin (k0_t2_loop i).trips) : Fin 5 → Nat :=
  let c2_3588 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7759 : Index := Scalar.indexCast v1163
  let c27_3589 : Index := 27#32
  let c0_3590 : Index := 0#32
  let c0_3591 : Index := 0#32
  ![2, v7759.toNat, 27, 0, 0]
def k0_off532 (i : grid0.Coords) (k0_t2 : Fin (k0_t2_loop i).trips) : Fin 5 → Nat :=
  let c2_3592 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7763 : Index := Scalar.indexCast v1163
  let c28_3593 : Index := 28#32
  let c0_3594 : Index := 0#32
  let c0_3595 : Index := 0#32
  ![2, v7763.toNat, 28, 0, 0]
def k0_off533 (i : grid0.Coords) (k0_t2 : Fin (k0_t2_loop i).trips) : Fin 5 → Nat :=
  let c2_3596 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7767 : Index := Scalar.indexCast v1163
  let c29_3597 : Index := 29#32
  let c0_3598 : Index := 0#32
  let c0_3599 : Index := 0#32
  ![2, v7767.toNat, 29, 0, 0]
def k0_off534 (i : grid0.Coords) (k0_t2 : Fin (k0_t2_loop i).trips) : Fin 5 → Nat :=
  let c2_3600 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7771 : Index := Scalar.indexCast v1163
  let c30_3601 : Index := 30#32
  let c0_3602 : Index := 0#32
  let c0_3603 : Index := 0#32
  ![2, v7771.toNat, 30, 0, 0]
def k0_off535 (i : grid0.Coords) (k0_t2 : Fin (k0_t2_loop i).trips) : Fin 5 → Nat :=
  let c2_3604 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v7775 : Index := Scalar.indexCast v1163
  let c31_3605 : Index := 31#32
  let c0_3606 : Index := 0#32
  let c0_3607 : Index := 0#32
  ![2, v7775.toNat, 31, 0, 0]
def k0_mult32 (i : grid0.Coords) (k0_t2 : Fin (k0_t2_loop i).trips) : BitVec 32 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let c256_i32_3616 : BitVec 32 := 256#32
  let v7816 : BitVec 32 := Scalar.muli v1163 c256_i32_3616
  v7816
def k0_off536 (i : grid0.Coords) (k0_t2 : Fin (k0_t2_loop i).trips) : Fin 3 → Nat :=
  let c3_3617 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let c256_i32_3616 : BitVec 32 := 256#32
  let v7816 : BitVec 32 := Scalar.muli v1163 c256_i32_3616
  let v7817 : BitVec 32 := v7816
  let v7818 : Index := Scalar.indexCast v7817
  let c0_3618 : Index := 0#32
  ![3, v7818.toNat, 0]
def k0_off537 (i : grid0.Coords) (k0_t2 : Fin (k0_t2_loop i).trips) : Fin 5 → Nat :=
  let c3_3861 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8580 : Index := Scalar.indexCast v1163
  let c0_3862 : Index := 0#32
  let c0_3863 : Index := 0#32
  let c0_3864 : Index := 0#32
  ![3, v8580.toNat, 0, 0, 0]
def k0_off538 (i : grid0.Coords) (k0_t2 : Fin (k0_t2_loop i).trips) : Fin 5 → Nat :=
  let c3_3865 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8584 : Index := Scalar.indexCast v1163
  let c1_3866 : Index := 1#32
  let c0_3867 : Index := 0#32
  let c0_3868 : Index := 0#32
  ![3, v8584.toNat, 1, 0, 0]
def k0_off539 (i : grid0.Coords) (k0_t2 : Fin (k0_t2_loop i).trips) : Fin 5 → Nat :=
  let c3_3869 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8588 : Index := Scalar.indexCast v1163
  let c2_3870 : Index := 2#32
  let c0_3871 : Index := 0#32
  let c0_3872 : Index := 0#32
  ![3, v8588.toNat, 2, 0, 0]
def k0_off540 (i : grid0.Coords) (k0_t2 : Fin (k0_t2_loop i).trips) : Fin 5 → Nat :=
  let c3_3873 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8592 : Index := Scalar.indexCast v1163
  let c3_3874 : Index := 3#32
  let c0_3875 : Index := 0#32
  let c0_3876 : Index := 0#32
  ![3, v8592.toNat, 3, 0, 0]
def k0_off541 (i : grid0.Coords) (k0_t2 : Fin (k0_t2_loop i).trips) : Fin 5 → Nat :=
  let c3_3877 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8596 : Index := Scalar.indexCast v1163
  let c4_3878 : Index := 4#32
  let c0_3879 : Index := 0#32
  let c0_3880 : Index := 0#32
  ![3, v8596.toNat, 4, 0, 0]
def k0_off542 (i : grid0.Coords) (k0_t2 : Fin (k0_t2_loop i).trips) : Fin 5 → Nat :=
  let c3_3881 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8600 : Index := Scalar.indexCast v1163
  let c5_3882 : Index := 5#32
  let c0_3883 : Index := 0#32
  let c0_3884 : Index := 0#32
  ![3, v8600.toNat, 5, 0, 0]
def k0_off543 (i : grid0.Coords) (k0_t2 : Fin (k0_t2_loop i).trips) : Fin 5 → Nat :=
  let c3_3885 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8604 : Index := Scalar.indexCast v1163
  let c6_3886 : Index := 6#32
  let c0_3887 : Index := 0#32
  let c0_3888 : Index := 0#32
  ![3, v8604.toNat, 6, 0, 0]
def k0_off544 (i : grid0.Coords) (k0_t2 : Fin (k0_t2_loop i).trips) : Fin 5 → Nat :=
  let c3_3889 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8608 : Index := Scalar.indexCast v1163
  let c7_3890 : Index := 7#32
  let c0_3891 : Index := 0#32
  let c0_3892 : Index := 0#32
  ![3, v8608.toNat, 7, 0, 0]
def k0_off545 (i : grid0.Coords) (k0_t2 : Fin (k0_t2_loop i).trips) : Fin 5 → Nat :=
  let c3_3893 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8612 : Index := Scalar.indexCast v1163
  let c8_3894 : Index := 8#32
  let c0_3895 : Index := 0#32
  let c0_3896 : Index := 0#32
  ![3, v8612.toNat, 8, 0, 0]
def k0_off546 (i : grid0.Coords) (k0_t2 : Fin (k0_t2_loop i).trips) : Fin 5 → Nat :=
  let c3_3897 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8616 : Index := Scalar.indexCast v1163
  let c9_3898 : Index := 9#32
  let c0_3899 : Index := 0#32
  let c0_3900 : Index := 0#32
  ![3, v8616.toNat, 9, 0, 0]
def k0_off547 (i : grid0.Coords) (k0_t2 : Fin (k0_t2_loop i).trips) : Fin 5 → Nat :=
  let c3_3901 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8620 : Index := Scalar.indexCast v1163
  let c10_3902 : Index := 10#32
  let c0_3903 : Index := 0#32
  let c0_3904 : Index := 0#32
  ![3, v8620.toNat, 10, 0, 0]
def k0_off548 (i : grid0.Coords) (k0_t2 : Fin (k0_t2_loop i).trips) : Fin 5 → Nat :=
  let c3_3905 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8624 : Index := Scalar.indexCast v1163
  let c11_3906 : Index := 11#32
  let c0_3907 : Index := 0#32
  let c0_3908 : Index := 0#32
  ![3, v8624.toNat, 11, 0, 0]
def k0_off549 (i : grid0.Coords) (k0_t2 : Fin (k0_t2_loop i).trips) : Fin 5 → Nat :=
  let c3_3909 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8628 : Index := Scalar.indexCast v1163
  let c12_3910 : Index := 12#32
  let c0_3911 : Index := 0#32
  let c0_3912 : Index := 0#32
  ![3, v8628.toNat, 12, 0, 0]
def k0_off550 (i : grid0.Coords) (k0_t2 : Fin (k0_t2_loop i).trips) : Fin 5 → Nat :=
  let c3_3913 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8632 : Index := Scalar.indexCast v1163
  let c13_3914 : Index := 13#32
  let c0_3915 : Index := 0#32
  let c0_3916 : Index := 0#32
  ![3, v8632.toNat, 13, 0, 0]
def k0_off551 (i : grid0.Coords) (k0_t2 : Fin (k0_t2_loop i).trips) : Fin 5 → Nat :=
  let c3_3917 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8636 : Index := Scalar.indexCast v1163
  let c14_3918 : Index := 14#32
  let c0_3919 : Index := 0#32
  let c0_3920 : Index := 0#32
  ![3, v8636.toNat, 14, 0, 0]
def k0_off552 (i : grid0.Coords) (k0_t2 : Fin (k0_t2_loop i).trips) : Fin 5 → Nat :=
  let c3_3921 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8640 : Index := Scalar.indexCast v1163
  let c15_3922 : Index := 15#32
  let c0_3923 : Index := 0#32
  let c0_3924 : Index := 0#32
  ![3, v8640.toNat, 15, 0, 0]
def k0_off553 (i : grid0.Coords) (k0_t2 : Fin (k0_t2_loop i).trips) : Fin 5 → Nat :=
  let c3_3925 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8644 : Index := Scalar.indexCast v1163
  let c16_3926 : Index := 16#32
  let c0_3927 : Index := 0#32
  let c0_3928 : Index := 0#32
  ![3, v8644.toNat, 16, 0, 0]
def k0_off554 (i : grid0.Coords) (k0_t2 : Fin (k0_t2_loop i).trips) : Fin 5 → Nat :=
  let c3_3929 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8648 : Index := Scalar.indexCast v1163
  let c17_3930 : Index := 17#32
  let c0_3931 : Index := 0#32
  let c0_3932 : Index := 0#32
  ![3, v8648.toNat, 17, 0, 0]
def k0_off555 (i : grid0.Coords) (k0_t2 : Fin (k0_t2_loop i).trips) : Fin 5 → Nat :=
  let c3_3933 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8652 : Index := Scalar.indexCast v1163
  let c18_3934 : Index := 18#32
  let c0_3935 : Index := 0#32
  let c0_3936 : Index := 0#32
  ![3, v8652.toNat, 18, 0, 0]
def k0_off556 (i : grid0.Coords) (k0_t2 : Fin (k0_t2_loop i).trips) : Fin 5 → Nat :=
  let c3_3937 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8656 : Index := Scalar.indexCast v1163
  let c19_3938 : Index := 19#32
  let c0_3939 : Index := 0#32
  let c0_3940 : Index := 0#32
  ![3, v8656.toNat, 19, 0, 0]
def k0_off557 (i : grid0.Coords) (k0_t2 : Fin (k0_t2_loop i).trips) : Fin 5 → Nat :=
  let c3_3941 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8660 : Index := Scalar.indexCast v1163
  let c20_3942 : Index := 20#32
  let c0_3943 : Index := 0#32
  let c0_3944 : Index := 0#32
  ![3, v8660.toNat, 20, 0, 0]
def k0_off558 (i : grid0.Coords) (k0_t2 : Fin (k0_t2_loop i).trips) : Fin 5 → Nat :=
  let c3_3945 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8664 : Index := Scalar.indexCast v1163
  let c21_3946 : Index := 21#32
  let c0_3947 : Index := 0#32
  let c0_3948 : Index := 0#32
  ![3, v8664.toNat, 21, 0, 0]
def k0_off559 (i : grid0.Coords) (k0_t2 : Fin (k0_t2_loop i).trips) : Fin 5 → Nat :=
  let c3_3949 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8668 : Index := Scalar.indexCast v1163
  let c22_3950 : Index := 22#32
  let c0_3951 : Index := 0#32
  let c0_3952 : Index := 0#32
  ![3, v8668.toNat, 22, 0, 0]
def k0_off560 (i : grid0.Coords) (k0_t2 : Fin (k0_t2_loop i).trips) : Fin 5 → Nat :=
  let c3_3953 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8672 : Index := Scalar.indexCast v1163
  let c23_3954 : Index := 23#32
  let c0_3955 : Index := 0#32
  let c0_3956 : Index := 0#32
  ![3, v8672.toNat, 23, 0, 0]
def k0_off561 (i : grid0.Coords) (k0_t2 : Fin (k0_t2_loop i).trips) : Fin 5 → Nat :=
  let c3_3957 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8676 : Index := Scalar.indexCast v1163
  let c24_3958 : Index := 24#32
  let c0_3959 : Index := 0#32
  let c0_3960 : Index := 0#32
  ![3, v8676.toNat, 24, 0, 0]
def k0_off562 (i : grid0.Coords) (k0_t2 : Fin (k0_t2_loop i).trips) : Fin 5 → Nat :=
  let c3_3961 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8680 : Index := Scalar.indexCast v1163
  let c25_3962 : Index := 25#32
  let c0_3963 : Index := 0#32
  let c0_3964 : Index := 0#32
  ![3, v8680.toNat, 25, 0, 0]
def k0_off563 (i : grid0.Coords) (k0_t2 : Fin (k0_t2_loop i).trips) : Fin 5 → Nat :=
  let c3_3965 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8684 : Index := Scalar.indexCast v1163
  let c26_3966 : Index := 26#32
  let c0_3967 : Index := 0#32
  let c0_3968 : Index := 0#32
  ![3, v8684.toNat, 26, 0, 0]
def k0_off564 (i : grid0.Coords) (k0_t2 : Fin (k0_t2_loop i).trips) : Fin 5 → Nat :=
  let c3_3969 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8688 : Index := Scalar.indexCast v1163
  let c27_3970 : Index := 27#32
  let c0_3971 : Index := 0#32
  let c0_3972 : Index := 0#32
  ![3, v8688.toNat, 27, 0, 0]
def k0_off565 (i : grid0.Coords) (k0_t2 : Fin (k0_t2_loop i).trips) : Fin 5 → Nat :=
  let c3_3973 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8692 : Index := Scalar.indexCast v1163
  let c28_3974 : Index := 28#32
  let c0_3975 : Index := 0#32
  let c0_3976 : Index := 0#32
  ![3, v8692.toNat, 28, 0, 0]
def k0_off566 (i : grid0.Coords) (k0_t2 : Fin (k0_t2_loop i).trips) : Fin 5 → Nat :=
  let c3_3977 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8696 : Index := Scalar.indexCast v1163
  let c29_3978 : Index := 29#32
  let c0_3979 : Index := 0#32
  let c0_3980 : Index := 0#32
  ![3, v8696.toNat, 29, 0, 0]
def k0_off567 (i : grid0.Coords) (k0_t2 : Fin (k0_t2_loop i).trips) : Fin 5 → Nat :=
  let c3_3981 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8700 : Index := Scalar.indexCast v1163
  let c30_3982 : Index := 30#32
  let c0_3983 : Index := 0#32
  let c0_3984 : Index := 0#32
  ![3, v8700.toNat, 30, 0, 0]
def k0_off568 (i : grid0.Coords) (k0_t2 : Fin (k0_t2_loop i).trips) : Fin 5 → Nat :=
  let c3_3985 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_537 : BitVec 32 := 2#32
  let c0_i32_538 : BitVec 32 := 0#32
  let v639 : BitVec 1 := Scalar.cmpi .eq c2_i32_537 c0_i32_538
  let c1_i32_539 : BitVec 32 := 1#32
  let v640 : BitVec 32 := Scalar.select v639 c1_i32_539 c2_i32_537
  let v641 : BitVec 32 := Scalar.remsi v17 v640
  let c0_i32_541 : BitVec 32 := 0#32
  let v643 : BitVec 1 := Scalar.cmpi .slt v641 c0_i32_541
  let c0_i32_542 : BitVec 32 := 0#32
  let v644 : BitVec 1 := Scalar.cmpi .slt v640 c0_i32_542
  let v645 : BitVec 1 := Scalar.xori v643 v644
  let c0_i32_540 : BitVec 32 := 0#32
  let v642 : BitVec 1 := Scalar.cmpi .ne v641 c0_i32_540
  let v646 : BitVec 1 := Scalar.andi v645 v642
  let v647 : BitVec 32 := Scalar.addi v641 v640
  let v648 : BitVec 32 := Scalar.select v646 v647 v641
  let c1_i32_543 : BitVec 32 := 1#32
  let v649 : BitVec 1 := Scalar.cmpi .eq v648 c1_i32_543
  let c1_i32_548 : BitVec 32 := 1#32
  let v658 : BitVec 1 := Scalar.cmpi .sgt v17 c1_i32_548
  let c3_i32 : BitVec 32 := 3#32
  let c1_i32_549 : BitVec 32 := 1#32
  let v659 : BitVec 32 := Scalar.select v658 c3_i32 c1_i32_549
  let c0_i32_550 : BitVec 32 := 0#32
  let v660 : BitVec 32 := Scalar.select v649 v659 c0_i32_550
  let c2_i32_862 : BitVec 32 := 2#32
  let c0_i32_559 : BitVec 32 := 0#32
  let v661 : BitVec 32 := Scalar.subi v17 v660
  let c0_i32_552 : BitVec 32 := 0#32
  let v663 : BitVec 1 := Scalar.cmpi .sgt v661 c0_i32_552
  let v664 : BitVec 32 := Scalar.extui v663
  let c0_i32_553 : BitVec 32 := 0#32
  let v665 : BitVec 1 := Scalar.cmpi .slt v661 c0_i32_553
  let v666 : BitVec 32 := Scalar.extui v665
  let v667 : BitVec 32 := Scalar.subi v664 v666
  let c2_i32_551 : BitVec 32 := 2#32
  let c0_i32_554 : BitVec 32 := 0#32
  let v668 : BitVec 1 := Scalar.cmpi .sgt c2_i32_551 c0_i32_554
  let v669 : BitVec 32 := Scalar.extui v668
  let c0_i32_555 : BitVec 32 := 0#32
  let v670 : BitVec 1 := Scalar.cmpi .slt c2_i32_551 c0_i32_555
  let v671 : BitVec 32 := Scalar.extui v670
  let v672 : BitVec 32 := Scalar.subi v669 v671
  let v673 : BitVec 1 := Scalar.cmpi .ne v667 v672
  let v674 : BitVec 32 := Scalar.remsi v661 c2_i32_551
  let c0_i32_556 : BitVec 32 := 0#32
  let v675 : BitVec 1 := Scalar.cmpi .ne v674 c0_i32_556
  let v676 : BitVec 1 := Scalar.andi v673 v675
  let v662 : BitVec 32 := Scalar.divsi v661 c2_i32_551
  let c1_i32_557 : BitVec 32 := 1#32
  let v677 : BitVec 32 := Scalar.subi v662 c1_i32_557
  let v678 : BitVec 32 := Scalar.select v676 v677 v662
  let v679 : BitVec 32 := Scalar.subi v678 c0_i32_559
  let c1_i32_560 : BitVec 32 := 1#32
  let v681 : BitVec 32 := Scalar.divsi v679 c1_i32_560
  let v682 : BitVec 32 := Scalar.muli v681 c1_i32_560
  let v683 : BitVec 32 := Scalar.addi c0_i32_559 v682
  let c1_i32_562 : BitVec 32 := 1#32
  let arg19 : BitVec 32 := Scf.iv v683 c1_i32_562 k0_t2
  let v1161 : BitVec 32 := Scalar.muli c2_i32_862 arg19
  let v1162 : BitVec 32 := Scalar.addi v660 v1161
  let c1_i32_863 : BitVec 32 := 1#32
  let v1163 : BitVec 32 := Scalar.addi v1162 c1_i32_863
  let v8704 : Index := Scalar.indexCast v1163
  let c31_3986 : Index := 31#32
  let c0_3987 : Index := 0#32
  let c0_3988 : Index := 0#32
  ![3, v8704.toNat, 31, 0, 0]
def k0_cond4 (i : grid0.Coords) : BitVec 1 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c5_i32 : BitVec 32 := 5#32
  let v686 : BitVec 1 := Scalar.cmpi .sle v17 c5_i32
  let v687 : BitVec 32 := Scalar.extui v686
  let c0_i32_565 : BitVec 32 := 0#32
  let v688 : BitVec 1 := Scalar.cmpi .ne v687 c0_i32_565
  v688

@[reducible] def k0_t3_loop : Scf.Loop 32 :=
  let c0_i32_882 : BitVec 32 := 0#32
  let c16_i32 : BitVec 32 := 16#32
  let v1201 : BitVec 32 := Scalar.addi c0_i32_882 c16_i32
  let c1_i32_883 : BitVec 32 := 1#32
  ⟨c0_i32_882, v1201, c1_i32_883⟩
def k0_off569 (k0_t3 : Fin k0_t3_loop.trips) : Fin 5 → Nat :=
  let c0_913 : Index := 0#32
  let c0_914 : Index := 0#32
  let c2_i32_912 : BitVec 32 := 2#32
  let c0_i32_882 : BitVec 32 := 0#32
  let c1_i32_883 : BitVec 32 := 1#32
  let arg19 : BitVec 32 := Scf.iv c0_i32_882 c1_i32_883 k0_t3
  let v1259 : BitVec 32 := Scalar.muli c2_i32_912 arg19
  let v1260 : Index := Scalar.indexCast v1259
  let c0_915 : Index := 0#32
  let c0_916 : Index := 0#32
  ![0, 0, v1260.toNat, 0, 0]
def k0_off570 (k0_t3 : Fin k0_t3_loop.trips) : Fin 5 → Nat :=
  let c0_918 : Index := 0#32
  let c1_919 : Index := 1#32
  let c2_i32_917 : BitVec 32 := 2#32
  let c0_i32_882 : BitVec 32 := 0#32
  let c1_i32_883 : BitVec 32 := 1#32
  let arg19 : BitVec 32 := Scf.iv c0_i32_882 c1_i32_883 k0_t3
  let v1263 : BitVec 32 := Scalar.muli c2_i32_917 arg19
  let v1264 : Index := Scalar.indexCast v1263
  let c0_920 : Index := 0#32
  let c0_921 : Index := 0#32
  ![0, 1, v1264.toNat, 0, 0]
def k0_off571 (k0_t3 : Fin k0_t3_loop.trips) : Fin 5 → Nat :=
  let c0_923 : Index := 0#32
  let c2_924 : Index := 2#32
  let c2_i32_922 : BitVec 32 := 2#32
  let c0_i32_882 : BitVec 32 := 0#32
  let c1_i32_883 : BitVec 32 := 1#32
  let arg19 : BitVec 32 := Scf.iv c0_i32_882 c1_i32_883 k0_t3
  let v1267 : BitVec 32 := Scalar.muli c2_i32_922 arg19
  let v1268 : Index := Scalar.indexCast v1267
  let c0_925 : Index := 0#32
  let c0_926 : Index := 0#32
  ![0, 2, v1268.toNat, 0, 0]
def k0_off572 (k0_t3 : Fin k0_t3_loop.trips) : Fin 5 → Nat :=
  let c0_928 : Index := 0#32
  let c3_929 : Index := 3#32
  let c2_i32_927 : BitVec 32 := 2#32
  let c0_i32_882 : BitVec 32 := 0#32
  let c1_i32_883 : BitVec 32 := 1#32
  let arg19 : BitVec 32 := Scf.iv c0_i32_882 c1_i32_883 k0_t3
  let v1271 : BitVec 32 := Scalar.muli c2_i32_927 arg19
  let v1272 : Index := Scalar.indexCast v1271
  let c0_930 : Index := 0#32
  let c0_931 : Index := 0#32
  ![0, 3, v1272.toNat, 0, 0]
def k0_off573 (k0_t3 : Fin k0_t3_loop.trips) : Fin 5 → Nat :=
  let c0_933 : Index := 0#32
  let c4_934 : Index := 4#32
  let c2_i32_932 : BitVec 32 := 2#32
  let c0_i32_882 : BitVec 32 := 0#32
  let c1_i32_883 : BitVec 32 := 1#32
  let arg19 : BitVec 32 := Scf.iv c0_i32_882 c1_i32_883 k0_t3
  let v1275 : BitVec 32 := Scalar.muli c2_i32_932 arg19
  let v1276 : Index := Scalar.indexCast v1275
  let c0_935 : Index := 0#32
  let c0_936 : Index := 0#32
  ![0, 4, v1276.toNat, 0, 0]
def k0_off574 (k0_t3 : Fin k0_t3_loop.trips) : Fin 5 → Nat :=
  let c0_939 : Index := 0#32
  let c0_940 : Index := 0#32
  let c2_i32_937 : BitVec 32 := 2#32
  let c0_i32_882 : BitVec 32 := 0#32
  let c1_i32_883 : BitVec 32 := 1#32
  let arg19 : BitVec 32 := Scf.iv c0_i32_882 c1_i32_883 k0_t3
  let v1279 : BitVec 32 := Scalar.muli c2_i32_937 arg19
  let c1_i32_938 : BitVec 32 := 1#32
  let v1280 : BitVec 32 := Scalar.addi v1279 c1_i32_938
  let v1281 : Index := Scalar.indexCast v1280
  let c0_941 : Index := 0#32
  let c0_942 : Index := 0#32
  ![0, 0, v1281.toNat, 0, 0]
def k0_off575 (k0_t3 : Fin k0_t3_loop.trips) : Fin 5 → Nat :=
  let c0_945 : Index := 0#32
  let c1_946 : Index := 1#32
  let c2_i32_943 : BitVec 32 := 2#32
  let c0_i32_882 : BitVec 32 := 0#32
  let c1_i32_883 : BitVec 32 := 1#32
  let arg19 : BitVec 32 := Scf.iv c0_i32_882 c1_i32_883 k0_t3
  let v1284 : BitVec 32 := Scalar.muli c2_i32_943 arg19
  let c1_i32_944 : BitVec 32 := 1#32
  let v1285 : BitVec 32 := Scalar.addi v1284 c1_i32_944
  let v1286 : Index := Scalar.indexCast v1285
  let c0_947 : Index := 0#32
  let c0_948 : Index := 0#32
  ![0, 1, v1286.toNat, 0, 0]
def k0_off576 (k0_t3 : Fin k0_t3_loop.trips) : Fin 5 → Nat :=
  let c0_951 : Index := 0#32
  let c2_952 : Index := 2#32
  let c2_i32_949 : BitVec 32 := 2#32
  let c0_i32_882 : BitVec 32 := 0#32
  let c1_i32_883 : BitVec 32 := 1#32
  let arg19 : BitVec 32 := Scf.iv c0_i32_882 c1_i32_883 k0_t3
  let v1289 : BitVec 32 := Scalar.muli c2_i32_949 arg19
  let c1_i32_950 : BitVec 32 := 1#32
  let v1290 : BitVec 32 := Scalar.addi v1289 c1_i32_950
  let v1291 : Index := Scalar.indexCast v1290
  let c0_953 : Index := 0#32
  let c0_954 : Index := 0#32
  ![0, 2, v1291.toNat, 0, 0]
def k0_off577 (k0_t3 : Fin k0_t3_loop.trips) : Fin 5 → Nat :=
  let c0_957 : Index := 0#32
  let c3_958 : Index := 3#32
  let c2_i32_955 : BitVec 32 := 2#32
  let c0_i32_882 : BitVec 32 := 0#32
  let c1_i32_883 : BitVec 32 := 1#32
  let arg19 : BitVec 32 := Scf.iv c0_i32_882 c1_i32_883 k0_t3
  let v1294 : BitVec 32 := Scalar.muli c2_i32_955 arg19
  let c1_i32_956 : BitVec 32 := 1#32
  let v1295 : BitVec 32 := Scalar.addi v1294 c1_i32_956
  let v1296 : Index := Scalar.indexCast v1295
  let c0_959 : Index := 0#32
  let c0_960 : Index := 0#32
  ![0, 3, v1296.toNat, 0, 0]
def k0_off578 (k0_t3 : Fin k0_t3_loop.trips) : Fin 5 → Nat :=
  let c0_963 : Index := 0#32
  let c4_964 : Index := 4#32
  let c2_i32_961 : BitVec 32 := 2#32
  let c0_i32_882 : BitVec 32 := 0#32
  let c1_i32_883 : BitVec 32 := 1#32
  let arg19 : BitVec 32 := Scf.iv c0_i32_882 c1_i32_883 k0_t3
  let v1299 : BitVec 32 := Scalar.muli c2_i32_961 arg19
  let c1_i32_962 : BitVec 32 := 1#32
  let v1300 : BitVec 32 := Scalar.addi v1299 c1_i32_962
  let v1301 : Index := Scalar.indexCast v1300
  let c0_965 : Index := 0#32
  let c0_966 : Index := 0#32
  ![0, 4, v1301.toNat, 0, 0]
def k0_off579 (k0_t3 : Fin k0_t3_loop.trips) : Fin 5 → Nat :=
  let c1_968 : Index := 1#32
  let c0_969 : Index := 0#32
  let c2_i32_967 : BitVec 32 := 2#32
  let c0_i32_882 : BitVec 32 := 0#32
  let c1_i32_883 : BitVec 32 := 1#32
  let arg19 : BitVec 32 := Scf.iv c0_i32_882 c1_i32_883 k0_t3
  let v1354 : BitVec 32 := Scalar.muli c2_i32_967 arg19
  let v1355 : Index := Scalar.indexCast v1354
  let c0_970 : Index := 0#32
  let c0_971 : Index := 0#32
  ![1, 0, v1355.toNat, 0, 0]
def k0_off580 (k0_t3 : Fin k0_t3_loop.trips) : Fin 5 → Nat :=
  let c1_973 : Index := 1#32
  let c1_974 : Index := 1#32
  let c2_i32_972 : BitVec 32 := 2#32
  let c0_i32_882 : BitVec 32 := 0#32
  let c1_i32_883 : BitVec 32 := 1#32
  let arg19 : BitVec 32 := Scf.iv c0_i32_882 c1_i32_883 k0_t3
  let v1358 : BitVec 32 := Scalar.muli c2_i32_972 arg19
  let v1359 : Index := Scalar.indexCast v1358
  let c0_975 : Index := 0#32
  let c0_976 : Index := 0#32
  ![1, 1, v1359.toNat, 0, 0]
def k0_off581 (k0_t3 : Fin k0_t3_loop.trips) : Fin 5 → Nat :=
  let c1_978 : Index := 1#32
  let c2_979 : Index := 2#32
  let c2_i32_977 : BitVec 32 := 2#32
  let c0_i32_882 : BitVec 32 := 0#32
  let c1_i32_883 : BitVec 32 := 1#32
  let arg19 : BitVec 32 := Scf.iv c0_i32_882 c1_i32_883 k0_t3
  let v1362 : BitVec 32 := Scalar.muli c2_i32_977 arg19
  let v1363 : Index := Scalar.indexCast v1362
  let c0_980 : Index := 0#32
  let c0_981 : Index := 0#32
  ![1, 2, v1363.toNat, 0, 0]
def k0_off582 (k0_t3 : Fin k0_t3_loop.trips) : Fin 5 → Nat :=
  let c1_983 : Index := 1#32
  let c3_984 : Index := 3#32
  let c2_i32_982 : BitVec 32 := 2#32
  let c0_i32_882 : BitVec 32 := 0#32
  let c1_i32_883 : BitVec 32 := 1#32
  let arg19 : BitVec 32 := Scf.iv c0_i32_882 c1_i32_883 k0_t3
  let v1366 : BitVec 32 := Scalar.muli c2_i32_982 arg19
  let v1367 : Index := Scalar.indexCast v1366
  let c0_985 : Index := 0#32
  let c0_986 : Index := 0#32
  ![1, 3, v1367.toNat, 0, 0]
def k0_off583 (k0_t3 : Fin k0_t3_loop.trips) : Fin 5 → Nat :=
  let c1_988 : Index := 1#32
  let c4_989 : Index := 4#32
  let c2_i32_987 : BitVec 32 := 2#32
  let c0_i32_882 : BitVec 32 := 0#32
  let c1_i32_883 : BitVec 32 := 1#32
  let arg19 : BitVec 32 := Scf.iv c0_i32_882 c1_i32_883 k0_t3
  let v1370 : BitVec 32 := Scalar.muli c2_i32_987 arg19
  let v1371 : Index := Scalar.indexCast v1370
  let c0_990 : Index := 0#32
  let c0_991 : Index := 0#32
  ![1, 4, v1371.toNat, 0, 0]
def k0_off584 (k0_t3 : Fin k0_t3_loop.trips) : Fin 5 → Nat :=
  let c1_994 : Index := 1#32
  let c0_995 : Index := 0#32
  let c2_i32_992 : BitVec 32 := 2#32
  let c0_i32_882 : BitVec 32 := 0#32
  let c1_i32_883 : BitVec 32 := 1#32
  let arg19 : BitVec 32 := Scf.iv c0_i32_882 c1_i32_883 k0_t3
  let v1374 : BitVec 32 := Scalar.muli c2_i32_992 arg19
  let c1_i32_993 : BitVec 32 := 1#32
  let v1375 : BitVec 32 := Scalar.addi v1374 c1_i32_993
  let v1376 : Index := Scalar.indexCast v1375
  let c0_996 : Index := 0#32
  let c0_997 : Index := 0#32
  ![1, 0, v1376.toNat, 0, 0]
def k0_off585 (k0_t3 : Fin k0_t3_loop.trips) : Fin 5 → Nat :=
  let c1_1000 : Index := 1#32
  let c1_1001 : Index := 1#32
  let c2_i32_998 : BitVec 32 := 2#32
  let c0_i32_882 : BitVec 32 := 0#32
  let c1_i32_883 : BitVec 32 := 1#32
  let arg19 : BitVec 32 := Scf.iv c0_i32_882 c1_i32_883 k0_t3
  let v1379 : BitVec 32 := Scalar.muli c2_i32_998 arg19
  let c1_i32_999 : BitVec 32 := 1#32
  let v1380 : BitVec 32 := Scalar.addi v1379 c1_i32_999
  let v1381 : Index := Scalar.indexCast v1380
  let c0_1002 : Index := 0#32
  let c0_1003 : Index := 0#32
  ![1, 1, v1381.toNat, 0, 0]
def k0_off586 (k0_t3 : Fin k0_t3_loop.trips) : Fin 5 → Nat :=
  let c1_1006 : Index := 1#32
  let c2_1007 : Index := 2#32
  let c2_i32_1004 : BitVec 32 := 2#32
  let c0_i32_882 : BitVec 32 := 0#32
  let c1_i32_883 : BitVec 32 := 1#32
  let arg19 : BitVec 32 := Scf.iv c0_i32_882 c1_i32_883 k0_t3
  let v1384 : BitVec 32 := Scalar.muli c2_i32_1004 arg19
  let c1_i32_1005 : BitVec 32 := 1#32
  let v1385 : BitVec 32 := Scalar.addi v1384 c1_i32_1005
  let v1386 : Index := Scalar.indexCast v1385
  let c0_1008 : Index := 0#32
  let c0_1009 : Index := 0#32
  ![1, 2, v1386.toNat, 0, 0]
def k0_off587 (k0_t3 : Fin k0_t3_loop.trips) : Fin 5 → Nat :=
  let c1_1012 : Index := 1#32
  let c3_1013 : Index := 3#32
  let c2_i32_1010 : BitVec 32 := 2#32
  let c0_i32_882 : BitVec 32 := 0#32
  let c1_i32_883 : BitVec 32 := 1#32
  let arg19 : BitVec 32 := Scf.iv c0_i32_882 c1_i32_883 k0_t3
  let v1389 : BitVec 32 := Scalar.muli c2_i32_1010 arg19
  let c1_i32_1011 : BitVec 32 := 1#32
  let v1390 : BitVec 32 := Scalar.addi v1389 c1_i32_1011
  let v1391 : Index := Scalar.indexCast v1390
  let c0_1014 : Index := 0#32
  let c0_1015 : Index := 0#32
  ![1, 3, v1391.toNat, 0, 0]
def k0_off588 (k0_t3 : Fin k0_t3_loop.trips) : Fin 5 → Nat :=
  let c1_1018 : Index := 1#32
  let c4_1019 : Index := 4#32
  let c2_i32_1016 : BitVec 32 := 2#32
  let c0_i32_882 : BitVec 32 := 0#32
  let c1_i32_883 : BitVec 32 := 1#32
  let arg19 : BitVec 32 := Scf.iv c0_i32_882 c1_i32_883 k0_t3
  let v1394 : BitVec 32 := Scalar.muli c2_i32_1016 arg19
  let c1_i32_1017 : BitVec 32 := 1#32
  let v1395 : BitVec 32 := Scalar.addi v1394 c1_i32_1017
  let v1396 : Index := Scalar.indexCast v1395
  let c0_1020 : Index := 0#32
  let c0_1021 : Index := 0#32
  ![1, 4, v1396.toNat, 0, 0]
def k0_off589 (k0_t3 : Fin k0_t3_loop.trips) : Fin 5 → Nat :=
  let c2_1023 : Index := 2#32
  let c0_1024 : Index := 0#32
  let c2_i32_1022 : BitVec 32 := 2#32
  let c0_i32_882 : BitVec 32 := 0#32
  let c1_i32_883 : BitVec 32 := 1#32
  let arg19 : BitVec 32 := Scf.iv c0_i32_882 c1_i32_883 k0_t3
  let v1449 : BitVec 32 := Scalar.muli c2_i32_1022 arg19
  let v1450 : Index := Scalar.indexCast v1449
  let c0_1025 : Index := 0#32
  let c0_1026 : Index := 0#32
  ![2, 0, v1450.toNat, 0, 0]
def k0_off590 (k0_t3 : Fin k0_t3_loop.trips) : Fin 5 → Nat :=
  let c2_1028 : Index := 2#32
  let c1_1029 : Index := 1#32
  let c2_i32_1027 : BitVec 32 := 2#32
  let c0_i32_882 : BitVec 32 := 0#32
  let c1_i32_883 : BitVec 32 := 1#32
  let arg19 : BitVec 32 := Scf.iv c0_i32_882 c1_i32_883 k0_t3
  let v1453 : BitVec 32 := Scalar.muli c2_i32_1027 arg19
  let v1454 : Index := Scalar.indexCast v1453
  let c0_1030 : Index := 0#32
  let c0_1031 : Index := 0#32
  ![2, 1, v1454.toNat, 0, 0]
def k0_off591 (k0_t3 : Fin k0_t3_loop.trips) : Fin 5 → Nat :=
  let c2_1033 : Index := 2#32
  let c2_1034 : Index := 2#32
  let c2_i32_1032 : BitVec 32 := 2#32
  let c0_i32_882 : BitVec 32 := 0#32
  let c1_i32_883 : BitVec 32 := 1#32
  let arg19 : BitVec 32 := Scf.iv c0_i32_882 c1_i32_883 k0_t3
  let v1457 : BitVec 32 := Scalar.muli c2_i32_1032 arg19
  let v1458 : Index := Scalar.indexCast v1457
  let c0_1035 : Index := 0#32
  let c0_1036 : Index := 0#32
  ![2, 2, v1458.toNat, 0, 0]
def k0_off592 (k0_t3 : Fin k0_t3_loop.trips) : Fin 5 → Nat :=
  let c2_1038 : Index := 2#32
  let c3_1039 : Index := 3#32
  let c2_i32_1037 : BitVec 32 := 2#32
  let c0_i32_882 : BitVec 32 := 0#32
  let c1_i32_883 : BitVec 32 := 1#32
  let arg19 : BitVec 32 := Scf.iv c0_i32_882 c1_i32_883 k0_t3
  let v1461 : BitVec 32 := Scalar.muli c2_i32_1037 arg19
  let v1462 : Index := Scalar.indexCast v1461
  let c0_1040 : Index := 0#32
  let c0_1041 : Index := 0#32
  ![2, 3, v1462.toNat, 0, 0]
def k0_off593 (k0_t3 : Fin k0_t3_loop.trips) : Fin 5 → Nat :=
  let c2_1043 : Index := 2#32
  let c4_1044 : Index := 4#32
  let c2_i32_1042 : BitVec 32 := 2#32
  let c0_i32_882 : BitVec 32 := 0#32
  let c1_i32_883 : BitVec 32 := 1#32
  let arg19 : BitVec 32 := Scf.iv c0_i32_882 c1_i32_883 k0_t3
  let v1465 : BitVec 32 := Scalar.muli c2_i32_1042 arg19
  let v1466 : Index := Scalar.indexCast v1465
  let c0_1045 : Index := 0#32
  let c0_1046 : Index := 0#32
  ![2, 4, v1466.toNat, 0, 0]
def k0_off594 (k0_t3 : Fin k0_t3_loop.trips) : Fin 5 → Nat :=
  let c2_1049 : Index := 2#32
  let c0_1050 : Index := 0#32
  let c2_i32_1047 : BitVec 32 := 2#32
  let c0_i32_882 : BitVec 32 := 0#32
  let c1_i32_883 : BitVec 32 := 1#32
  let arg19 : BitVec 32 := Scf.iv c0_i32_882 c1_i32_883 k0_t3
  let v1469 : BitVec 32 := Scalar.muli c2_i32_1047 arg19
  let c1_i32_1048 : BitVec 32 := 1#32
  let v1470 : BitVec 32 := Scalar.addi v1469 c1_i32_1048
  let v1471 : Index := Scalar.indexCast v1470
  let c0_1051 : Index := 0#32
  let c0_1052 : Index := 0#32
  ![2, 0, v1471.toNat, 0, 0]
def k0_off595 (k0_t3 : Fin k0_t3_loop.trips) : Fin 5 → Nat :=
  let c2_1055 : Index := 2#32
  let c1_1056 : Index := 1#32
  let c2_i32_1053 : BitVec 32 := 2#32
  let c0_i32_882 : BitVec 32 := 0#32
  let c1_i32_883 : BitVec 32 := 1#32
  let arg19 : BitVec 32 := Scf.iv c0_i32_882 c1_i32_883 k0_t3
  let v1474 : BitVec 32 := Scalar.muli c2_i32_1053 arg19
  let c1_i32_1054 : BitVec 32 := 1#32
  let v1475 : BitVec 32 := Scalar.addi v1474 c1_i32_1054
  let v1476 : Index := Scalar.indexCast v1475
  let c0_1057 : Index := 0#32
  let c0_1058 : Index := 0#32
  ![2, 1, v1476.toNat, 0, 0]
def k0_off596 (k0_t3 : Fin k0_t3_loop.trips) : Fin 5 → Nat :=
  let c2_1061 : Index := 2#32
  let c2_1062 : Index := 2#32
  let c2_i32_1059 : BitVec 32 := 2#32
  let c0_i32_882 : BitVec 32 := 0#32
  let c1_i32_883 : BitVec 32 := 1#32
  let arg19 : BitVec 32 := Scf.iv c0_i32_882 c1_i32_883 k0_t3
  let v1479 : BitVec 32 := Scalar.muli c2_i32_1059 arg19
  let c1_i32_1060 : BitVec 32 := 1#32
  let v1480 : BitVec 32 := Scalar.addi v1479 c1_i32_1060
  let v1481 : Index := Scalar.indexCast v1480
  let c0_1063 : Index := 0#32
  let c0_1064 : Index := 0#32
  ![2, 2, v1481.toNat, 0, 0]
def k0_off597 (k0_t3 : Fin k0_t3_loop.trips) : Fin 5 → Nat :=
  let c2_1067 : Index := 2#32
  let c3_1068 : Index := 3#32
  let c2_i32_1065 : BitVec 32 := 2#32
  let c0_i32_882 : BitVec 32 := 0#32
  let c1_i32_883 : BitVec 32 := 1#32
  let arg19 : BitVec 32 := Scf.iv c0_i32_882 c1_i32_883 k0_t3
  let v1484 : BitVec 32 := Scalar.muli c2_i32_1065 arg19
  let c1_i32_1066 : BitVec 32 := 1#32
  let v1485 : BitVec 32 := Scalar.addi v1484 c1_i32_1066
  let v1486 : Index := Scalar.indexCast v1485
  let c0_1069 : Index := 0#32
  let c0_1070 : Index := 0#32
  ![2, 3, v1486.toNat, 0, 0]
def k0_off598 (k0_t3 : Fin k0_t3_loop.trips) : Fin 5 → Nat :=
  let c2_1073 : Index := 2#32
  let c4_1074 : Index := 4#32
  let c2_i32_1071 : BitVec 32 := 2#32
  let c0_i32_882 : BitVec 32 := 0#32
  let c1_i32_883 : BitVec 32 := 1#32
  let arg19 : BitVec 32 := Scf.iv c0_i32_882 c1_i32_883 k0_t3
  let v1489 : BitVec 32 := Scalar.muli c2_i32_1071 arg19
  let c1_i32_1072 : BitVec 32 := 1#32
  let v1490 : BitVec 32 := Scalar.addi v1489 c1_i32_1072
  let v1491 : Index := Scalar.indexCast v1490
  let c0_1075 : Index := 0#32
  let c0_1076 : Index := 0#32
  ![2, 4, v1491.toNat, 0, 0]
def k0_off599 (k0_t3 : Fin k0_t3_loop.trips) : Fin 5 → Nat :=
  let c3_1078 : Index := 3#32
  let c0_1079 : Index := 0#32
  let c2_i32_1077 : BitVec 32 := 2#32
  let c0_i32_882 : BitVec 32 := 0#32
  let c1_i32_883 : BitVec 32 := 1#32
  let arg19 : BitVec 32 := Scf.iv c0_i32_882 c1_i32_883 k0_t3
  let v1544 : BitVec 32 := Scalar.muli c2_i32_1077 arg19
  let v1545 : Index := Scalar.indexCast v1544
  let c0_1080 : Index := 0#32
  let c0_1081 : Index := 0#32
  ![3, 0, v1545.toNat, 0, 0]
def k0_off600 (k0_t3 : Fin k0_t3_loop.trips) : Fin 5 → Nat :=
  let c3_1083 : Index := 3#32
  let c1_1084 : Index := 1#32
  let c2_i32_1082 : BitVec 32 := 2#32
  let c0_i32_882 : BitVec 32 := 0#32
  let c1_i32_883 : BitVec 32 := 1#32
  let arg19 : BitVec 32 := Scf.iv c0_i32_882 c1_i32_883 k0_t3
  let v1548 : BitVec 32 := Scalar.muli c2_i32_1082 arg19
  let v1549 : Index := Scalar.indexCast v1548
  let c0_1085 : Index := 0#32
  let c0_1086 : Index := 0#32
  ![3, 1, v1549.toNat, 0, 0]
def k0_off601 (k0_t3 : Fin k0_t3_loop.trips) : Fin 5 → Nat :=
  let c3_1088 : Index := 3#32
  let c2_1089 : Index := 2#32
  let c2_i32_1087 : BitVec 32 := 2#32
  let c0_i32_882 : BitVec 32 := 0#32
  let c1_i32_883 : BitVec 32 := 1#32
  let arg19 : BitVec 32 := Scf.iv c0_i32_882 c1_i32_883 k0_t3
  let v1552 : BitVec 32 := Scalar.muli c2_i32_1087 arg19
  let v1553 : Index := Scalar.indexCast v1552
  let c0_1090 : Index := 0#32
  let c0_1091 : Index := 0#32
  ![3, 2, v1553.toNat, 0, 0]
def k0_off602 (k0_t3 : Fin k0_t3_loop.trips) : Fin 5 → Nat :=
  let c3_1093 : Index := 3#32
  let c3_1094 : Index := 3#32
  let c2_i32_1092 : BitVec 32 := 2#32
  let c0_i32_882 : BitVec 32 := 0#32
  let c1_i32_883 : BitVec 32 := 1#32
  let arg19 : BitVec 32 := Scf.iv c0_i32_882 c1_i32_883 k0_t3
  let v1556 : BitVec 32 := Scalar.muli c2_i32_1092 arg19
  let v1557 : Index := Scalar.indexCast v1556
  let c0_1095 : Index := 0#32
  let c0_1096 : Index := 0#32
  ![3, 3, v1557.toNat, 0, 0]
def k0_off603 (k0_t3 : Fin k0_t3_loop.trips) : Fin 5 → Nat :=
  let c3_1098 : Index := 3#32
  let c4_1099 : Index := 4#32
  let c2_i32_1097 : BitVec 32 := 2#32
  let c0_i32_882 : BitVec 32 := 0#32
  let c1_i32_883 : BitVec 32 := 1#32
  let arg19 : BitVec 32 := Scf.iv c0_i32_882 c1_i32_883 k0_t3
  let v1560 : BitVec 32 := Scalar.muli c2_i32_1097 arg19
  let v1561 : Index := Scalar.indexCast v1560
  let c0_1100 : Index := 0#32
  let c0_1101 : Index := 0#32
  ![3, 4, v1561.toNat, 0, 0]
def k0_off604 (k0_t3 : Fin k0_t3_loop.trips) : Fin 5 → Nat :=
  let c3_1104 : Index := 3#32
  let c0_1105 : Index := 0#32
  let c2_i32_1102 : BitVec 32 := 2#32
  let c0_i32_882 : BitVec 32 := 0#32
  let c1_i32_883 : BitVec 32 := 1#32
  let arg19 : BitVec 32 := Scf.iv c0_i32_882 c1_i32_883 k0_t3
  let v1564 : BitVec 32 := Scalar.muli c2_i32_1102 arg19
  let c1_i32_1103 : BitVec 32 := 1#32
  let v1565 : BitVec 32 := Scalar.addi v1564 c1_i32_1103
  let v1566 : Index := Scalar.indexCast v1565
  let c0_1106 : Index := 0#32
  let c0_1107 : Index := 0#32
  ![3, 0, v1566.toNat, 0, 0]
def k0_off605 (k0_t3 : Fin k0_t3_loop.trips) : Fin 5 → Nat :=
  let c3_1110 : Index := 3#32
  let c1_1111 : Index := 1#32
  let c2_i32_1108 : BitVec 32 := 2#32
  let c0_i32_882 : BitVec 32 := 0#32
  let c1_i32_883 : BitVec 32 := 1#32
  let arg19 : BitVec 32 := Scf.iv c0_i32_882 c1_i32_883 k0_t3
  let v1569 : BitVec 32 := Scalar.muli c2_i32_1108 arg19
  let c1_i32_1109 : BitVec 32 := 1#32
  let v1570 : BitVec 32 := Scalar.addi v1569 c1_i32_1109
  let v1571 : Index := Scalar.indexCast v1570
  let c0_1112 : Index := 0#32
  let c0_1113 : Index := 0#32
  ![3, 1, v1571.toNat, 0, 0]
def k0_off606 (k0_t3 : Fin k0_t3_loop.trips) : Fin 5 → Nat :=
  let c3_1116 : Index := 3#32
  let c2_1117 : Index := 2#32
  let c2_i32_1114 : BitVec 32 := 2#32
  let c0_i32_882 : BitVec 32 := 0#32
  let c1_i32_883 : BitVec 32 := 1#32
  let arg19 : BitVec 32 := Scf.iv c0_i32_882 c1_i32_883 k0_t3
  let v1574 : BitVec 32 := Scalar.muli c2_i32_1114 arg19
  let c1_i32_1115 : BitVec 32 := 1#32
  let v1575 : BitVec 32 := Scalar.addi v1574 c1_i32_1115
  let v1576 : Index := Scalar.indexCast v1575
  let c0_1118 : Index := 0#32
  let c0_1119 : Index := 0#32
  ![3, 2, v1576.toNat, 0, 0]
def k0_off607 (k0_t3 : Fin k0_t3_loop.trips) : Fin 5 → Nat :=
  let c3_1122 : Index := 3#32
  let c3_1123 : Index := 3#32
  let c2_i32_1120 : BitVec 32 := 2#32
  let c0_i32_882 : BitVec 32 := 0#32
  let c1_i32_883 : BitVec 32 := 1#32
  let arg19 : BitVec 32 := Scf.iv c0_i32_882 c1_i32_883 k0_t3
  let v1579 : BitVec 32 := Scalar.muli c2_i32_1120 arg19
  let c1_i32_1121 : BitVec 32 := 1#32
  let v1580 : BitVec 32 := Scalar.addi v1579 c1_i32_1121
  let v1581 : Index := Scalar.indexCast v1580
  let c0_1124 : Index := 0#32
  let c0_1125 : Index := 0#32
  ![3, 3, v1581.toNat, 0, 0]
def k0_off608 (k0_t3 : Fin k0_t3_loop.trips) : Fin 5 → Nat :=
  let c3_1128 : Index := 3#32
  let c4_1129 : Index := 4#32
  let c2_i32_1126 : BitVec 32 := 2#32
  let c0_i32_882 : BitVec 32 := 0#32
  let c1_i32_883 : BitVec 32 := 1#32
  let arg19 : BitVec 32 := Scf.iv c0_i32_882 c1_i32_883 k0_t3
  let v1584 : BitVec 32 := Scalar.muli c2_i32_1126 arg19
  let c1_i32_1127 : BitVec 32 := 1#32
  let v1585 : BitVec 32 := Scalar.addi v1584 c1_i32_1127
  let v1586 : Index := Scalar.indexCast v1585
  let c0_1130 : Index := 0#32
  let c0_1131 : Index := 0#32
  ![3, 4, v1586.toNat, 0, 0]
def k0_cond5 (i : grid0.Coords) : BitVec 1 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c5_i32_566 : BitVec 32 := 5#32
  let v689 : BitVec 1 := Scalar.cmpi .sgt v17 c5_i32_566
  let v690 : BitVec 32 := Scalar.extui v689
  let c0_i32_568 : BitVec 32 := 0#32
  let v691 : BitVec 1 := Scalar.cmpi .ne v690 c0_i32_568
  v691

@[reducible] def k0_t4_loop : Scf.Loop 32 :=
  let c0_i32_895 : BitVec 32 := 0#32
  let c16_i32 : BitVec 32 := 16#32
  let v1233 : BitVec 32 := Scalar.addi c0_i32_895 c16_i32
  let c1_i32_896 : BitVec 32 := 1#32
  ⟨c0_i32_895, v1233, c1_i32_896⟩
def k0_off609 (k0_t4 : Fin k0_t4_loop.trips) : Fin 5 → Nat :=
  let c0_926 : Index := 0#32
  let c0_927 : Index := 0#32
  let c2_i32_925 : BitVec 32 := 2#32
  let c0_i32_895 : BitVec 32 := 0#32
  let c1_i32_896 : BitVec 32 := 1#32
  let arg19 : BitVec 32 := Scf.iv c0_i32_895 c1_i32_896 k0_t4
  let v1291 : BitVec 32 := Scalar.muli c2_i32_925 arg19
  let v1292 : Index := Scalar.indexCast v1291
  let c0_928 : Index := 0#32
  let c0_929 : Index := 0#32
  ![0, 0, v1292.toNat, 0, 0]
def k0_off610 (k0_t4 : Fin k0_t4_loop.trips) : Fin 5 → Nat :=
  let c0_931 : Index := 0#32
  let c1_932 : Index := 1#32
  let c2_i32_930 : BitVec 32 := 2#32
  let c0_i32_895 : BitVec 32 := 0#32
  let c1_i32_896 : BitVec 32 := 1#32
  let arg19 : BitVec 32 := Scf.iv c0_i32_895 c1_i32_896 k0_t4
  let v1295 : BitVec 32 := Scalar.muli c2_i32_930 arg19
  let v1296 : Index := Scalar.indexCast v1295
  let c0_933 : Index := 0#32
  let c0_934 : Index := 0#32
  ![0, 1, v1296.toNat, 0, 0]
def k0_off611 (k0_t4 : Fin k0_t4_loop.trips) : Fin 5 → Nat :=
  let c0_936 : Index := 0#32
  let c2_937 : Index := 2#32
  let c2_i32_935 : BitVec 32 := 2#32
  let c0_i32_895 : BitVec 32 := 0#32
  let c1_i32_896 : BitVec 32 := 1#32
  let arg19 : BitVec 32 := Scf.iv c0_i32_895 c1_i32_896 k0_t4
  let v1299 : BitVec 32 := Scalar.muli c2_i32_935 arg19
  let v1300 : Index := Scalar.indexCast v1299
  let c0_938 : Index := 0#32
  let c0_939 : Index := 0#32
  ![0, 2, v1300.toNat, 0, 0]
def k0_off612 (k0_t4 : Fin k0_t4_loop.trips) : Fin 5 → Nat :=
  let c0_941 : Index := 0#32
  let c3_942 : Index := 3#32
  let c2_i32_940 : BitVec 32 := 2#32
  let c0_i32_895 : BitVec 32 := 0#32
  let c1_i32_896 : BitVec 32 := 1#32
  let arg19 : BitVec 32 := Scf.iv c0_i32_895 c1_i32_896 k0_t4
  let v1303 : BitVec 32 := Scalar.muli c2_i32_940 arg19
  let v1304 : Index := Scalar.indexCast v1303
  let c0_943 : Index := 0#32
  let c0_944 : Index := 0#32
  ![0, 3, v1304.toNat, 0, 0]
def k0_off613 (k0_t4 : Fin k0_t4_loop.trips) : Fin 5 → Nat :=
  let c0_946 : Index := 0#32
  let c4_947 : Index := 4#32
  let c2_i32_945 : BitVec 32 := 2#32
  let c0_i32_895 : BitVec 32 := 0#32
  let c1_i32_896 : BitVec 32 := 1#32
  let arg19 : BitVec 32 := Scf.iv c0_i32_895 c1_i32_896 k0_t4
  let v1307 : BitVec 32 := Scalar.muli c2_i32_945 arg19
  let v1308 : Index := Scalar.indexCast v1307
  let c0_948 : Index := 0#32
  let c0_949 : Index := 0#32
  ![0, 4, v1308.toNat, 0, 0]
def k0_off614 (k0_t4 : Fin k0_t4_loop.trips) : Fin 5 → Nat :=
  let c0_951 : Index := 0#32
  let c5_952 : Index := 5#32
  let c2_i32_950 : BitVec 32 := 2#32
  let c0_i32_895 : BitVec 32 := 0#32
  let c1_i32_896 : BitVec 32 := 1#32
  let arg19 : BitVec 32 := Scf.iv c0_i32_895 c1_i32_896 k0_t4
  let v1311 : BitVec 32 := Scalar.muli c2_i32_950 arg19
  let v1312 : Index := Scalar.indexCast v1311
  let c0_953 : Index := 0#32
  let c0_954 : Index := 0#32
  ![0, 5, v1312.toNat, 0, 0]
def k0_off615 (k0_t4 : Fin k0_t4_loop.trips) : Fin 5 → Nat :=
  let c0_956 : Index := 0#32
  let c6_957 : Index := 6#32
  let c2_i32_955 : BitVec 32 := 2#32
  let c0_i32_895 : BitVec 32 := 0#32
  let c1_i32_896 : BitVec 32 := 1#32
  let arg19 : BitVec 32 := Scf.iv c0_i32_895 c1_i32_896 k0_t4
  let v1315 : BitVec 32 := Scalar.muli c2_i32_955 arg19
  let v1316 : Index := Scalar.indexCast v1315
  let c0_958 : Index := 0#32
  let c0_959 : Index := 0#32
  ![0, 6, v1316.toNat, 0, 0]
def k0_off616 (k0_t4 : Fin k0_t4_loop.trips) : Fin 5 → Nat :=
  let c0_961 : Index := 0#32
  let c7_962 : Index := 7#32
  let c2_i32_960 : BitVec 32 := 2#32
  let c0_i32_895 : BitVec 32 := 0#32
  let c1_i32_896 : BitVec 32 := 1#32
  let arg19 : BitVec 32 := Scf.iv c0_i32_895 c1_i32_896 k0_t4
  let v1319 : BitVec 32 := Scalar.muli c2_i32_960 arg19
  let v1320 : Index := Scalar.indexCast v1319
  let c0_963 : Index := 0#32
  let c0_964 : Index := 0#32
  ![0, 7, v1320.toNat, 0, 0]
def k0_off617 (k0_t4 : Fin k0_t4_loop.trips) : Fin 5 → Nat :=
  let c0_966 : Index := 0#32
  let c8 : Index := 8#32
  let c2_i32_965 : BitVec 32 := 2#32
  let c0_i32_895 : BitVec 32 := 0#32
  let c1_i32_896 : BitVec 32 := 1#32
  let arg19 : BitVec 32 := Scf.iv c0_i32_895 c1_i32_896 k0_t4
  let v1323 : BitVec 32 := Scalar.muli c2_i32_965 arg19
  let v1324 : Index := Scalar.indexCast v1323
  let c0_967 : Index := 0#32
  let c0_968 : Index := 0#32
  ![0, 8, v1324.toNat, 0, 0]
def k0_off618 (k0_t4 : Fin k0_t4_loop.trips) : Fin 5 → Nat :=
  let c0_971 : Index := 0#32
  let c0_972 : Index := 0#32
  let c2_i32_969 : BitVec 32 := 2#32
  let c0_i32_895 : BitVec 32 := 0#32
  let c1_i32_896 : BitVec 32 := 1#32
  let arg19 : BitVec 32 := Scf.iv c0_i32_895 c1_i32_896 k0_t4
  let v1327 : BitVec 32 := Scalar.muli c2_i32_969 arg19
  let c1_i32_970 : BitVec 32 := 1#32
  let v1328 : BitVec 32 := Scalar.addi v1327 c1_i32_970
  let v1329 : Index := Scalar.indexCast v1328
  let c0_973 : Index := 0#32
  let c0_974 : Index := 0#32
  ![0, 0, v1329.toNat, 0, 0]
def k0_off619 (k0_t4 : Fin k0_t4_loop.trips) : Fin 5 → Nat :=
  let c0_977 : Index := 0#32
  let c1_978 : Index := 1#32
  let c2_i32_975 : BitVec 32 := 2#32
  let c0_i32_895 : BitVec 32 := 0#32
  let c1_i32_896 : BitVec 32 := 1#32
  let arg19 : BitVec 32 := Scf.iv c0_i32_895 c1_i32_896 k0_t4
  let v1332 : BitVec 32 := Scalar.muli c2_i32_975 arg19
  let c1_i32_976 : BitVec 32 := 1#32
  let v1333 : BitVec 32 := Scalar.addi v1332 c1_i32_976
  let v1334 : Index := Scalar.indexCast v1333
  let c0_979 : Index := 0#32
  let c0_980 : Index := 0#32
  ![0, 1, v1334.toNat, 0, 0]
def k0_off620 (k0_t4 : Fin k0_t4_loop.trips) : Fin 5 → Nat :=
  let c0_983 : Index := 0#32
  let c2_984 : Index := 2#32
  let c2_i32_981 : BitVec 32 := 2#32
  let c0_i32_895 : BitVec 32 := 0#32
  let c1_i32_896 : BitVec 32 := 1#32
  let arg19 : BitVec 32 := Scf.iv c0_i32_895 c1_i32_896 k0_t4
  let v1337 : BitVec 32 := Scalar.muli c2_i32_981 arg19
  let c1_i32_982 : BitVec 32 := 1#32
  let v1338 : BitVec 32 := Scalar.addi v1337 c1_i32_982
  let v1339 : Index := Scalar.indexCast v1338
  let c0_985 : Index := 0#32
  let c0_986 : Index := 0#32
  ![0, 2, v1339.toNat, 0, 0]
def k0_off621 (k0_t4 : Fin k0_t4_loop.trips) : Fin 5 → Nat :=
  let c0_989 : Index := 0#32
  let c3_990 : Index := 3#32
  let c2_i32_987 : BitVec 32 := 2#32
  let c0_i32_895 : BitVec 32 := 0#32
  let c1_i32_896 : BitVec 32 := 1#32
  let arg19 : BitVec 32 := Scf.iv c0_i32_895 c1_i32_896 k0_t4
  let v1342 : BitVec 32 := Scalar.muli c2_i32_987 arg19
  let c1_i32_988 : BitVec 32 := 1#32
  let v1343 : BitVec 32 := Scalar.addi v1342 c1_i32_988
  let v1344 : Index := Scalar.indexCast v1343
  let c0_991 : Index := 0#32
  let c0_992 : Index := 0#32
  ![0, 3, v1344.toNat, 0, 0]
def k0_off622 (k0_t4 : Fin k0_t4_loop.trips) : Fin 5 → Nat :=
  let c0_995 : Index := 0#32
  let c4_996 : Index := 4#32
  let c2_i32_993 : BitVec 32 := 2#32
  let c0_i32_895 : BitVec 32 := 0#32
  let c1_i32_896 : BitVec 32 := 1#32
  let arg19 : BitVec 32 := Scf.iv c0_i32_895 c1_i32_896 k0_t4
  let v1347 : BitVec 32 := Scalar.muli c2_i32_993 arg19
  let c1_i32_994 : BitVec 32 := 1#32
  let v1348 : BitVec 32 := Scalar.addi v1347 c1_i32_994
  let v1349 : Index := Scalar.indexCast v1348
  let c0_997 : Index := 0#32
  let c0_998 : Index := 0#32
  ![0, 4, v1349.toNat, 0, 0]
def k0_off623 (k0_t4 : Fin k0_t4_loop.trips) : Fin 5 → Nat :=
  let c0_1001 : Index := 0#32
  let c5_1002 : Index := 5#32
  let c2_i32_999 : BitVec 32 := 2#32
  let c0_i32_895 : BitVec 32 := 0#32
  let c1_i32_896 : BitVec 32 := 1#32
  let arg19 : BitVec 32 := Scf.iv c0_i32_895 c1_i32_896 k0_t4
  let v1352 : BitVec 32 := Scalar.muli c2_i32_999 arg19
  let c1_i32_1000 : BitVec 32 := 1#32
  let v1353 : BitVec 32 := Scalar.addi v1352 c1_i32_1000
  let v1354 : Index := Scalar.indexCast v1353
  let c0_1003 : Index := 0#32
  let c0_1004 : Index := 0#32
  ![0, 5, v1354.toNat, 0, 0]
def k0_off624 (k0_t4 : Fin k0_t4_loop.trips) : Fin 5 → Nat :=
  let c0_1007 : Index := 0#32
  let c6_1008 : Index := 6#32
  let c2_i32_1005 : BitVec 32 := 2#32
  let c0_i32_895 : BitVec 32 := 0#32
  let c1_i32_896 : BitVec 32 := 1#32
  let arg19 : BitVec 32 := Scf.iv c0_i32_895 c1_i32_896 k0_t4
  let v1357 : BitVec 32 := Scalar.muli c2_i32_1005 arg19
  let c1_i32_1006 : BitVec 32 := 1#32
  let v1358 : BitVec 32 := Scalar.addi v1357 c1_i32_1006
  let v1359 : Index := Scalar.indexCast v1358
  let c0_1009 : Index := 0#32
  let c0_1010 : Index := 0#32
  ![0, 6, v1359.toNat, 0, 0]
def k0_off625 (k0_t4 : Fin k0_t4_loop.trips) : Fin 5 → Nat :=
  let c0_1013 : Index := 0#32
  let c7_1014 : Index := 7#32
  let c2_i32_1011 : BitVec 32 := 2#32
  let c0_i32_895 : BitVec 32 := 0#32
  let c1_i32_896 : BitVec 32 := 1#32
  let arg19 : BitVec 32 := Scf.iv c0_i32_895 c1_i32_896 k0_t4
  let v1362 : BitVec 32 := Scalar.muli c2_i32_1011 arg19
  let c1_i32_1012 : BitVec 32 := 1#32
  let v1363 : BitVec 32 := Scalar.addi v1362 c1_i32_1012
  let v1364 : Index := Scalar.indexCast v1363
  let c0_1015 : Index := 0#32
  let c0_1016 : Index := 0#32
  ![0, 7, v1364.toNat, 0, 0]
def k0_off626 (k0_t4 : Fin k0_t4_loop.trips) : Fin 5 → Nat :=
  let c0_1019 : Index := 0#32
  let c8_1020 : Index := 8#32
  let c2_i32_1017 : BitVec 32 := 2#32
  let c0_i32_895 : BitVec 32 := 0#32
  let c1_i32_896 : BitVec 32 := 1#32
  let arg19 : BitVec 32 := Scf.iv c0_i32_895 c1_i32_896 k0_t4
  let v1367 : BitVec 32 := Scalar.muli c2_i32_1017 arg19
  let c1_i32_1018 : BitVec 32 := 1#32
  let v1368 : BitVec 32 := Scalar.addi v1367 c1_i32_1018
  let v1369 : Index := Scalar.indexCast v1368
  let c0_1021 : Index := 0#32
  let c0_1022 : Index := 0#32
  ![0, 8, v1369.toNat, 0, 0]
def k0_off627 (k0_t4 : Fin k0_t4_loop.trips) : Fin 5 → Nat :=
  let c1_1024 : Index := 1#32
  let c0_1025 : Index := 0#32
  let c2_i32_1023 : BitVec 32 := 2#32
  let c0_i32_895 : BitVec 32 := 0#32
  let c1_i32_896 : BitVec 32 := 1#32
  let arg19 : BitVec 32 := Scf.iv c0_i32_895 c1_i32_896 k0_t4
  let v1462 : BitVec 32 := Scalar.muli c2_i32_1023 arg19
  let v1463 : Index := Scalar.indexCast v1462
  let c0_1026 : Index := 0#32
  let c0_1027 : Index := 0#32
  ![1, 0, v1463.toNat, 0, 0]
def k0_off628 (k0_t4 : Fin k0_t4_loop.trips) : Fin 5 → Nat :=
  let c1_1029 : Index := 1#32
  let c1_1030 : Index := 1#32
  let c2_i32_1028 : BitVec 32 := 2#32
  let c0_i32_895 : BitVec 32 := 0#32
  let c1_i32_896 : BitVec 32 := 1#32
  let arg19 : BitVec 32 := Scf.iv c0_i32_895 c1_i32_896 k0_t4
  let v1466 : BitVec 32 := Scalar.muli c2_i32_1028 arg19
  let v1467 : Index := Scalar.indexCast v1466
  let c0_1031 : Index := 0#32
  let c0_1032 : Index := 0#32
  ![1, 1, v1467.toNat, 0, 0]
def k0_off629 (k0_t4 : Fin k0_t4_loop.trips) : Fin 5 → Nat :=
  let c1_1034 : Index := 1#32
  let c2_1035 : Index := 2#32
  let c2_i32_1033 : BitVec 32 := 2#32
  let c0_i32_895 : BitVec 32 := 0#32
  let c1_i32_896 : BitVec 32 := 1#32
  let arg19 : BitVec 32 := Scf.iv c0_i32_895 c1_i32_896 k0_t4
  let v1470 : BitVec 32 := Scalar.muli c2_i32_1033 arg19
  let v1471 : Index := Scalar.indexCast v1470
  let c0_1036 : Index := 0#32
  let c0_1037 : Index := 0#32
  ![1, 2, v1471.toNat, 0, 0]
def k0_off630 (k0_t4 : Fin k0_t4_loop.trips) : Fin 5 → Nat :=
  let c1_1039 : Index := 1#32
  let c3_1040 : Index := 3#32
  let c2_i32_1038 : BitVec 32 := 2#32
  let c0_i32_895 : BitVec 32 := 0#32
  let c1_i32_896 : BitVec 32 := 1#32
  let arg19 : BitVec 32 := Scf.iv c0_i32_895 c1_i32_896 k0_t4
  let v1474 : BitVec 32 := Scalar.muli c2_i32_1038 arg19
  let v1475 : Index := Scalar.indexCast v1474
  let c0_1041 : Index := 0#32
  let c0_1042 : Index := 0#32
  ![1, 3, v1475.toNat, 0, 0]
def k0_off631 (k0_t4 : Fin k0_t4_loop.trips) : Fin 5 → Nat :=
  let c1_1044 : Index := 1#32
  let c4_1045 : Index := 4#32
  let c2_i32_1043 : BitVec 32 := 2#32
  let c0_i32_895 : BitVec 32 := 0#32
  let c1_i32_896 : BitVec 32 := 1#32
  let arg19 : BitVec 32 := Scf.iv c0_i32_895 c1_i32_896 k0_t4
  let v1478 : BitVec 32 := Scalar.muli c2_i32_1043 arg19
  let v1479 : Index := Scalar.indexCast v1478
  let c0_1046 : Index := 0#32
  let c0_1047 : Index := 0#32
  ![1, 4, v1479.toNat, 0, 0]
def k0_off632 (k0_t4 : Fin k0_t4_loop.trips) : Fin 5 → Nat :=
  let c1_1049 : Index := 1#32
  let c5_1050 : Index := 5#32
  let c2_i32_1048 : BitVec 32 := 2#32
  let c0_i32_895 : BitVec 32 := 0#32
  let c1_i32_896 : BitVec 32 := 1#32
  let arg19 : BitVec 32 := Scf.iv c0_i32_895 c1_i32_896 k0_t4
  let v1482 : BitVec 32 := Scalar.muli c2_i32_1048 arg19
  let v1483 : Index := Scalar.indexCast v1482
  let c0_1051 : Index := 0#32
  let c0_1052 : Index := 0#32
  ![1, 5, v1483.toNat, 0, 0]
def k0_off633 (k0_t4 : Fin k0_t4_loop.trips) : Fin 5 → Nat :=
  let c1_1054 : Index := 1#32
  let c6_1055 : Index := 6#32
  let c2_i32_1053 : BitVec 32 := 2#32
  let c0_i32_895 : BitVec 32 := 0#32
  let c1_i32_896 : BitVec 32 := 1#32
  let arg19 : BitVec 32 := Scf.iv c0_i32_895 c1_i32_896 k0_t4
  let v1486 : BitVec 32 := Scalar.muli c2_i32_1053 arg19
  let v1487 : Index := Scalar.indexCast v1486
  let c0_1056 : Index := 0#32
  let c0_1057 : Index := 0#32
  ![1, 6, v1487.toNat, 0, 0]
def k0_off634 (k0_t4 : Fin k0_t4_loop.trips) : Fin 5 → Nat :=
  let c1_1059 : Index := 1#32
  let c7_1060 : Index := 7#32
  let c2_i32_1058 : BitVec 32 := 2#32
  let c0_i32_895 : BitVec 32 := 0#32
  let c1_i32_896 : BitVec 32 := 1#32
  let arg19 : BitVec 32 := Scf.iv c0_i32_895 c1_i32_896 k0_t4
  let v1490 : BitVec 32 := Scalar.muli c2_i32_1058 arg19
  let v1491 : Index := Scalar.indexCast v1490
  let c0_1061 : Index := 0#32
  let c0_1062 : Index := 0#32
  ![1, 7, v1491.toNat, 0, 0]
def k0_off635 (k0_t4 : Fin k0_t4_loop.trips) : Fin 5 → Nat :=
  let c1_1064 : Index := 1#32
  let c8_1065 : Index := 8#32
  let c2_i32_1063 : BitVec 32 := 2#32
  let c0_i32_895 : BitVec 32 := 0#32
  let c1_i32_896 : BitVec 32 := 1#32
  let arg19 : BitVec 32 := Scf.iv c0_i32_895 c1_i32_896 k0_t4
  let v1494 : BitVec 32 := Scalar.muli c2_i32_1063 arg19
  let v1495 : Index := Scalar.indexCast v1494
  let c0_1066 : Index := 0#32
  let c0_1067 : Index := 0#32
  ![1, 8, v1495.toNat, 0, 0]
def k0_off636 (k0_t4 : Fin k0_t4_loop.trips) : Fin 5 → Nat :=
  let c1_1070 : Index := 1#32
  let c0_1071 : Index := 0#32
  let c2_i32_1068 : BitVec 32 := 2#32
  let c0_i32_895 : BitVec 32 := 0#32
  let c1_i32_896 : BitVec 32 := 1#32
  let arg19 : BitVec 32 := Scf.iv c0_i32_895 c1_i32_896 k0_t4
  let v1498 : BitVec 32 := Scalar.muli c2_i32_1068 arg19
  let c1_i32_1069 : BitVec 32 := 1#32
  let v1499 : BitVec 32 := Scalar.addi v1498 c1_i32_1069
  let v1500 : Index := Scalar.indexCast v1499
  let c0_1072 : Index := 0#32
  let c0_1073 : Index := 0#32
  ![1, 0, v1500.toNat, 0, 0]
def k0_off637 (k0_t4 : Fin k0_t4_loop.trips) : Fin 5 → Nat :=
  let c1_1076 : Index := 1#32
  let c1_1077 : Index := 1#32
  let c2_i32_1074 : BitVec 32 := 2#32
  let c0_i32_895 : BitVec 32 := 0#32
  let c1_i32_896 : BitVec 32 := 1#32
  let arg19 : BitVec 32 := Scf.iv c0_i32_895 c1_i32_896 k0_t4
  let v1503 : BitVec 32 := Scalar.muli c2_i32_1074 arg19
  let c1_i32_1075 : BitVec 32 := 1#32
  let v1504 : BitVec 32 := Scalar.addi v1503 c1_i32_1075
  let v1505 : Index := Scalar.indexCast v1504
  let c0_1078 : Index := 0#32
  let c0_1079 : Index := 0#32
  ![1, 1, v1505.toNat, 0, 0]
def k0_off638 (k0_t4 : Fin k0_t4_loop.trips) : Fin 5 → Nat :=
  let c1_1082 : Index := 1#32
  let c2_1083 : Index := 2#32
  let c2_i32_1080 : BitVec 32 := 2#32
  let c0_i32_895 : BitVec 32 := 0#32
  let c1_i32_896 : BitVec 32 := 1#32
  let arg19 : BitVec 32 := Scf.iv c0_i32_895 c1_i32_896 k0_t4
  let v1508 : BitVec 32 := Scalar.muli c2_i32_1080 arg19
  let c1_i32_1081 : BitVec 32 := 1#32
  let v1509 : BitVec 32 := Scalar.addi v1508 c1_i32_1081
  let v1510 : Index := Scalar.indexCast v1509
  let c0_1084 : Index := 0#32
  let c0_1085 : Index := 0#32
  ![1, 2, v1510.toNat, 0, 0]
def k0_off639 (k0_t4 : Fin k0_t4_loop.trips) : Fin 5 → Nat :=
  let c1_1088 : Index := 1#32
  let c3_1089 : Index := 3#32
  let c2_i32_1086 : BitVec 32 := 2#32
  let c0_i32_895 : BitVec 32 := 0#32
  let c1_i32_896 : BitVec 32 := 1#32
  let arg19 : BitVec 32 := Scf.iv c0_i32_895 c1_i32_896 k0_t4
  let v1513 : BitVec 32 := Scalar.muli c2_i32_1086 arg19
  let c1_i32_1087 : BitVec 32 := 1#32
  let v1514 : BitVec 32 := Scalar.addi v1513 c1_i32_1087
  let v1515 : Index := Scalar.indexCast v1514
  let c0_1090 : Index := 0#32
  let c0_1091 : Index := 0#32
  ![1, 3, v1515.toNat, 0, 0]
def k0_off640 (k0_t4 : Fin k0_t4_loop.trips) : Fin 5 → Nat :=
  let c1_1094 : Index := 1#32
  let c4_1095 : Index := 4#32
  let c2_i32_1092 : BitVec 32 := 2#32
  let c0_i32_895 : BitVec 32 := 0#32
  let c1_i32_896 : BitVec 32 := 1#32
  let arg19 : BitVec 32 := Scf.iv c0_i32_895 c1_i32_896 k0_t4
  let v1518 : BitVec 32 := Scalar.muli c2_i32_1092 arg19
  let c1_i32_1093 : BitVec 32 := 1#32
  let v1519 : BitVec 32 := Scalar.addi v1518 c1_i32_1093
  let v1520 : Index := Scalar.indexCast v1519
  let c0_1096 : Index := 0#32
  let c0_1097 : Index := 0#32
  ![1, 4, v1520.toNat, 0, 0]
def k0_off641 (k0_t4 : Fin k0_t4_loop.trips) : Fin 5 → Nat :=
  let c1_1100 : Index := 1#32
  let c5_1101 : Index := 5#32
  let c2_i32_1098 : BitVec 32 := 2#32
  let c0_i32_895 : BitVec 32 := 0#32
  let c1_i32_896 : BitVec 32 := 1#32
  let arg19 : BitVec 32 := Scf.iv c0_i32_895 c1_i32_896 k0_t4
  let v1523 : BitVec 32 := Scalar.muli c2_i32_1098 arg19
  let c1_i32_1099 : BitVec 32 := 1#32
  let v1524 : BitVec 32 := Scalar.addi v1523 c1_i32_1099
  let v1525 : Index := Scalar.indexCast v1524
  let c0_1102 : Index := 0#32
  let c0_1103 : Index := 0#32
  ![1, 5, v1525.toNat, 0, 0]
def k0_off642 (k0_t4 : Fin k0_t4_loop.trips) : Fin 5 → Nat :=
  let c1_1106 : Index := 1#32
  let c6_1107 : Index := 6#32
  let c2_i32_1104 : BitVec 32 := 2#32
  let c0_i32_895 : BitVec 32 := 0#32
  let c1_i32_896 : BitVec 32 := 1#32
  let arg19 : BitVec 32 := Scf.iv c0_i32_895 c1_i32_896 k0_t4
  let v1528 : BitVec 32 := Scalar.muli c2_i32_1104 arg19
  let c1_i32_1105 : BitVec 32 := 1#32
  let v1529 : BitVec 32 := Scalar.addi v1528 c1_i32_1105
  let v1530 : Index := Scalar.indexCast v1529
  let c0_1108 : Index := 0#32
  let c0_1109 : Index := 0#32
  ![1, 6, v1530.toNat, 0, 0]
def k0_off643 (k0_t4 : Fin k0_t4_loop.trips) : Fin 5 → Nat :=
  let c1_1112 : Index := 1#32
  let c7_1113 : Index := 7#32
  let c2_i32_1110 : BitVec 32 := 2#32
  let c0_i32_895 : BitVec 32 := 0#32
  let c1_i32_896 : BitVec 32 := 1#32
  let arg19 : BitVec 32 := Scf.iv c0_i32_895 c1_i32_896 k0_t4
  let v1533 : BitVec 32 := Scalar.muli c2_i32_1110 arg19
  let c1_i32_1111 : BitVec 32 := 1#32
  let v1534 : BitVec 32 := Scalar.addi v1533 c1_i32_1111
  let v1535 : Index := Scalar.indexCast v1534
  let c0_1114 : Index := 0#32
  let c0_1115 : Index := 0#32
  ![1, 7, v1535.toNat, 0, 0]
def k0_off644 (k0_t4 : Fin k0_t4_loop.trips) : Fin 5 → Nat :=
  let c1_1118 : Index := 1#32
  let c8_1119 : Index := 8#32
  let c2_i32_1116 : BitVec 32 := 2#32
  let c0_i32_895 : BitVec 32 := 0#32
  let c1_i32_896 : BitVec 32 := 1#32
  let arg19 : BitVec 32 := Scf.iv c0_i32_895 c1_i32_896 k0_t4
  let v1538 : BitVec 32 := Scalar.muli c2_i32_1116 arg19
  let c1_i32_1117 : BitVec 32 := 1#32
  let v1539 : BitVec 32 := Scalar.addi v1538 c1_i32_1117
  let v1540 : Index := Scalar.indexCast v1539
  let c0_1120 : Index := 0#32
  let c0_1121 : Index := 0#32
  ![1, 8, v1540.toNat, 0, 0]
def k0_off645 (k0_t4 : Fin k0_t4_loop.trips) : Fin 5 → Nat :=
  let c2_1123 : Index := 2#32
  let c0_1124 : Index := 0#32
  let c2_i32_1122 : BitVec 32 := 2#32
  let c0_i32_895 : BitVec 32 := 0#32
  let c1_i32_896 : BitVec 32 := 1#32
  let arg19 : BitVec 32 := Scf.iv c0_i32_895 c1_i32_896 k0_t4
  let v1633 : BitVec 32 := Scalar.muli c2_i32_1122 arg19
  let v1634 : Index := Scalar.indexCast v1633
  let c0_1125 : Index := 0#32
  let c0_1126 : Index := 0#32
  ![2, 0, v1634.toNat, 0, 0]
def k0_off646 (k0_t4 : Fin k0_t4_loop.trips) : Fin 5 → Nat :=
  let c2_1128 : Index := 2#32
  let c1_1129 : Index := 1#32
  let c2_i32_1127 : BitVec 32 := 2#32
  let c0_i32_895 : BitVec 32 := 0#32
  let c1_i32_896 : BitVec 32 := 1#32
  let arg19 : BitVec 32 := Scf.iv c0_i32_895 c1_i32_896 k0_t4
  let v1637 : BitVec 32 := Scalar.muli c2_i32_1127 arg19
  let v1638 : Index := Scalar.indexCast v1637
  let c0_1130 : Index := 0#32
  let c0_1131 : Index := 0#32
  ![2, 1, v1638.toNat, 0, 0]
def k0_off647 (k0_t4 : Fin k0_t4_loop.trips) : Fin 5 → Nat :=
  let c2_1133 : Index := 2#32
  let c2_1134 : Index := 2#32
  let c2_i32_1132 : BitVec 32 := 2#32
  let c0_i32_895 : BitVec 32 := 0#32
  let c1_i32_896 : BitVec 32 := 1#32
  let arg19 : BitVec 32 := Scf.iv c0_i32_895 c1_i32_896 k0_t4
  let v1641 : BitVec 32 := Scalar.muli c2_i32_1132 arg19
  let v1642 : Index := Scalar.indexCast v1641
  let c0_1135 : Index := 0#32
  let c0_1136 : Index := 0#32
  ![2, 2, v1642.toNat, 0, 0]
def k0_off648 (k0_t4 : Fin k0_t4_loop.trips) : Fin 5 → Nat :=
  let c2_1138 : Index := 2#32
  let c3_1139 : Index := 3#32
  let c2_i32_1137 : BitVec 32 := 2#32
  let c0_i32_895 : BitVec 32 := 0#32
  let c1_i32_896 : BitVec 32 := 1#32
  let arg19 : BitVec 32 := Scf.iv c0_i32_895 c1_i32_896 k0_t4
  let v1645 : BitVec 32 := Scalar.muli c2_i32_1137 arg19
  let v1646 : Index := Scalar.indexCast v1645
  let c0_1140 : Index := 0#32
  let c0_1141 : Index := 0#32
  ![2, 3, v1646.toNat, 0, 0]
def k0_off649 (k0_t4 : Fin k0_t4_loop.trips) : Fin 5 → Nat :=
  let c2_1143 : Index := 2#32
  let c4_1144 : Index := 4#32
  let c2_i32_1142 : BitVec 32 := 2#32
  let c0_i32_895 : BitVec 32 := 0#32
  let c1_i32_896 : BitVec 32 := 1#32
  let arg19 : BitVec 32 := Scf.iv c0_i32_895 c1_i32_896 k0_t4
  let v1649 : BitVec 32 := Scalar.muli c2_i32_1142 arg19
  let v1650 : Index := Scalar.indexCast v1649
  let c0_1145 : Index := 0#32
  let c0_1146 : Index := 0#32
  ![2, 4, v1650.toNat, 0, 0]
def k0_off650 (k0_t4 : Fin k0_t4_loop.trips) : Fin 5 → Nat :=
  let c2_1148 : Index := 2#32
  let c5_1149 : Index := 5#32
  let c2_i32_1147 : BitVec 32 := 2#32
  let c0_i32_895 : BitVec 32 := 0#32
  let c1_i32_896 : BitVec 32 := 1#32
  let arg19 : BitVec 32 := Scf.iv c0_i32_895 c1_i32_896 k0_t4
  let v1653 : BitVec 32 := Scalar.muli c2_i32_1147 arg19
  let v1654 : Index := Scalar.indexCast v1653
  let c0_1150 : Index := 0#32
  let c0_1151 : Index := 0#32
  ![2, 5, v1654.toNat, 0, 0]
def k0_off651 (k0_t4 : Fin k0_t4_loop.trips) : Fin 5 → Nat :=
  let c2_1153 : Index := 2#32
  let c6_1154 : Index := 6#32
  let c2_i32_1152 : BitVec 32 := 2#32
  let c0_i32_895 : BitVec 32 := 0#32
  let c1_i32_896 : BitVec 32 := 1#32
  let arg19 : BitVec 32 := Scf.iv c0_i32_895 c1_i32_896 k0_t4
  let v1657 : BitVec 32 := Scalar.muli c2_i32_1152 arg19
  let v1658 : Index := Scalar.indexCast v1657
  let c0_1155 : Index := 0#32
  let c0_1156 : Index := 0#32
  ![2, 6, v1658.toNat, 0, 0]
def k0_off652 (k0_t4 : Fin k0_t4_loop.trips) : Fin 5 → Nat :=
  let c2_1158 : Index := 2#32
  let c7_1159 : Index := 7#32
  let c2_i32_1157 : BitVec 32 := 2#32
  let c0_i32_895 : BitVec 32 := 0#32
  let c1_i32_896 : BitVec 32 := 1#32
  let arg19 : BitVec 32 := Scf.iv c0_i32_895 c1_i32_896 k0_t4
  let v1661 : BitVec 32 := Scalar.muli c2_i32_1157 arg19
  let v1662 : Index := Scalar.indexCast v1661
  let c0_1160 : Index := 0#32
  let c0_1161 : Index := 0#32
  ![2, 7, v1662.toNat, 0, 0]
def k0_off653 (k0_t4 : Fin k0_t4_loop.trips) : Fin 5 → Nat :=
  let c2_1163 : Index := 2#32
  let c8_1164 : Index := 8#32
  let c2_i32_1162 : BitVec 32 := 2#32
  let c0_i32_895 : BitVec 32 := 0#32
  let c1_i32_896 : BitVec 32 := 1#32
  let arg19 : BitVec 32 := Scf.iv c0_i32_895 c1_i32_896 k0_t4
  let v1665 : BitVec 32 := Scalar.muli c2_i32_1162 arg19
  let v1666 : Index := Scalar.indexCast v1665
  let c0_1165 : Index := 0#32
  let c0_1166 : Index := 0#32
  ![2, 8, v1666.toNat, 0, 0]
def k0_off654 (k0_t4 : Fin k0_t4_loop.trips) : Fin 5 → Nat :=
  let c2_1169 : Index := 2#32
  let c0_1170 : Index := 0#32
  let c2_i32_1167 : BitVec 32 := 2#32
  let c0_i32_895 : BitVec 32 := 0#32
  let c1_i32_896 : BitVec 32 := 1#32
  let arg19 : BitVec 32 := Scf.iv c0_i32_895 c1_i32_896 k0_t4
  let v1669 : BitVec 32 := Scalar.muli c2_i32_1167 arg19
  let c1_i32_1168 : BitVec 32 := 1#32
  let v1670 : BitVec 32 := Scalar.addi v1669 c1_i32_1168
  let v1671 : Index := Scalar.indexCast v1670
  let c0_1171 : Index := 0#32
  let c0_1172 : Index := 0#32
  ![2, 0, v1671.toNat, 0, 0]
def k0_off655 (k0_t4 : Fin k0_t4_loop.trips) : Fin 5 → Nat :=
  let c2_1175 : Index := 2#32
  let c1_1176 : Index := 1#32
  let c2_i32_1173 : BitVec 32 := 2#32
  let c0_i32_895 : BitVec 32 := 0#32
  let c1_i32_896 : BitVec 32 := 1#32
  let arg19 : BitVec 32 := Scf.iv c0_i32_895 c1_i32_896 k0_t4
  let v1674 : BitVec 32 := Scalar.muli c2_i32_1173 arg19
  let c1_i32_1174 : BitVec 32 := 1#32
  let v1675 : BitVec 32 := Scalar.addi v1674 c1_i32_1174
  let v1676 : Index := Scalar.indexCast v1675
  let c0_1177 : Index := 0#32
  let c0_1178 : Index := 0#32
  ![2, 1, v1676.toNat, 0, 0]
def k0_off656 (k0_t4 : Fin k0_t4_loop.trips) : Fin 5 → Nat :=
  let c2_1181 : Index := 2#32
  let c2_1182 : Index := 2#32
  let c2_i32_1179 : BitVec 32 := 2#32
  let c0_i32_895 : BitVec 32 := 0#32
  let c1_i32_896 : BitVec 32 := 1#32
  let arg19 : BitVec 32 := Scf.iv c0_i32_895 c1_i32_896 k0_t4
  let v1679 : BitVec 32 := Scalar.muli c2_i32_1179 arg19
  let c1_i32_1180 : BitVec 32 := 1#32
  let v1680 : BitVec 32 := Scalar.addi v1679 c1_i32_1180
  let v1681 : Index := Scalar.indexCast v1680
  let c0_1183 : Index := 0#32
  let c0_1184 : Index := 0#32
  ![2, 2, v1681.toNat, 0, 0]
def k0_off657 (k0_t4 : Fin k0_t4_loop.trips) : Fin 5 → Nat :=
  let c2_1187 : Index := 2#32
  let c3_1188 : Index := 3#32
  let c2_i32_1185 : BitVec 32 := 2#32
  let c0_i32_895 : BitVec 32 := 0#32
  let c1_i32_896 : BitVec 32 := 1#32
  let arg19 : BitVec 32 := Scf.iv c0_i32_895 c1_i32_896 k0_t4
  let v1684 : BitVec 32 := Scalar.muli c2_i32_1185 arg19
  let c1_i32_1186 : BitVec 32 := 1#32
  let v1685 : BitVec 32 := Scalar.addi v1684 c1_i32_1186
  let v1686 : Index := Scalar.indexCast v1685
  let c0_1189 : Index := 0#32
  let c0_1190 : Index := 0#32
  ![2, 3, v1686.toNat, 0, 0]
def k0_off658 (k0_t4 : Fin k0_t4_loop.trips) : Fin 5 → Nat :=
  let c2_1193 : Index := 2#32
  let c4_1194 : Index := 4#32
  let c2_i32_1191 : BitVec 32 := 2#32
  let c0_i32_895 : BitVec 32 := 0#32
  let c1_i32_896 : BitVec 32 := 1#32
  let arg19 : BitVec 32 := Scf.iv c0_i32_895 c1_i32_896 k0_t4
  let v1689 : BitVec 32 := Scalar.muli c2_i32_1191 arg19
  let c1_i32_1192 : BitVec 32 := 1#32
  let v1690 : BitVec 32 := Scalar.addi v1689 c1_i32_1192
  let v1691 : Index := Scalar.indexCast v1690
  let c0_1195 : Index := 0#32
  let c0_1196 : Index := 0#32
  ![2, 4, v1691.toNat, 0, 0]
def k0_off659 (k0_t4 : Fin k0_t4_loop.trips) : Fin 5 → Nat :=
  let c2_1199 : Index := 2#32
  let c5_1200 : Index := 5#32
  let c2_i32_1197 : BitVec 32 := 2#32
  let c0_i32_895 : BitVec 32 := 0#32
  let c1_i32_896 : BitVec 32 := 1#32
  let arg19 : BitVec 32 := Scf.iv c0_i32_895 c1_i32_896 k0_t4
  let v1694 : BitVec 32 := Scalar.muli c2_i32_1197 arg19
  let c1_i32_1198 : BitVec 32 := 1#32
  let v1695 : BitVec 32 := Scalar.addi v1694 c1_i32_1198
  let v1696 : Index := Scalar.indexCast v1695
  let c0_1201 : Index := 0#32
  let c0_1202 : Index := 0#32
  ![2, 5, v1696.toNat, 0, 0]
def k0_off660 (k0_t4 : Fin k0_t4_loop.trips) : Fin 5 → Nat :=
  let c2_1205 : Index := 2#32
  let c6_1206 : Index := 6#32
  let c2_i32_1203 : BitVec 32 := 2#32
  let c0_i32_895 : BitVec 32 := 0#32
  let c1_i32_896 : BitVec 32 := 1#32
  let arg19 : BitVec 32 := Scf.iv c0_i32_895 c1_i32_896 k0_t4
  let v1699 : BitVec 32 := Scalar.muli c2_i32_1203 arg19
  let c1_i32_1204 : BitVec 32 := 1#32
  let v1700 : BitVec 32 := Scalar.addi v1699 c1_i32_1204
  let v1701 : Index := Scalar.indexCast v1700
  let c0_1207 : Index := 0#32
  let c0_1208 : Index := 0#32
  ![2, 6, v1701.toNat, 0, 0]
def k0_off661 (k0_t4 : Fin k0_t4_loop.trips) : Fin 5 → Nat :=
  let c2_1211 : Index := 2#32
  let c7_1212 : Index := 7#32
  let c2_i32_1209 : BitVec 32 := 2#32
  let c0_i32_895 : BitVec 32 := 0#32
  let c1_i32_896 : BitVec 32 := 1#32
  let arg19 : BitVec 32 := Scf.iv c0_i32_895 c1_i32_896 k0_t4
  let v1704 : BitVec 32 := Scalar.muli c2_i32_1209 arg19
  let c1_i32_1210 : BitVec 32 := 1#32
  let v1705 : BitVec 32 := Scalar.addi v1704 c1_i32_1210
  let v1706 : Index := Scalar.indexCast v1705
  let c0_1213 : Index := 0#32
  let c0_1214 : Index := 0#32
  ![2, 7, v1706.toNat, 0, 0]
def k0_off662 (k0_t4 : Fin k0_t4_loop.trips) : Fin 5 → Nat :=
  let c2_1217 : Index := 2#32
  let c8_1218 : Index := 8#32
  let c2_i32_1215 : BitVec 32 := 2#32
  let c0_i32_895 : BitVec 32 := 0#32
  let c1_i32_896 : BitVec 32 := 1#32
  let arg19 : BitVec 32 := Scf.iv c0_i32_895 c1_i32_896 k0_t4
  let v1709 : BitVec 32 := Scalar.muli c2_i32_1215 arg19
  let c1_i32_1216 : BitVec 32 := 1#32
  let v1710 : BitVec 32 := Scalar.addi v1709 c1_i32_1216
  let v1711 : Index := Scalar.indexCast v1710
  let c0_1219 : Index := 0#32
  let c0_1220 : Index := 0#32
  ![2, 8, v1711.toNat, 0, 0]
def k0_off663 (k0_t4 : Fin k0_t4_loop.trips) : Fin 5 → Nat :=
  let c3_1222 : Index := 3#32
  let c0_1223 : Index := 0#32
  let c2_i32_1221 : BitVec 32 := 2#32
  let c0_i32_895 : BitVec 32 := 0#32
  let c1_i32_896 : BitVec 32 := 1#32
  let arg19 : BitVec 32 := Scf.iv c0_i32_895 c1_i32_896 k0_t4
  let v1804 : BitVec 32 := Scalar.muli c2_i32_1221 arg19
  let v1805 : Index := Scalar.indexCast v1804
  let c0_1224 : Index := 0#32
  let c0_1225 : Index := 0#32
  ![3, 0, v1805.toNat, 0, 0]
def k0_off664 (k0_t4 : Fin k0_t4_loop.trips) : Fin 5 → Nat :=
  let c3_1227 : Index := 3#32
  let c1_1228 : Index := 1#32
  let c2_i32_1226 : BitVec 32 := 2#32
  let c0_i32_895 : BitVec 32 := 0#32
  let c1_i32_896 : BitVec 32 := 1#32
  let arg19 : BitVec 32 := Scf.iv c0_i32_895 c1_i32_896 k0_t4
  let v1808 : BitVec 32 := Scalar.muli c2_i32_1226 arg19
  let v1809 : Index := Scalar.indexCast v1808
  let c0_1229 : Index := 0#32
  let c0_1230 : Index := 0#32
  ![3, 1, v1809.toNat, 0, 0]
def k0_off665 (k0_t4 : Fin k0_t4_loop.trips) : Fin 5 → Nat :=
  let c3_1232 : Index := 3#32
  let c2_1233 : Index := 2#32
  let c2_i32_1231 : BitVec 32 := 2#32
  let c0_i32_895 : BitVec 32 := 0#32
  let c1_i32_896 : BitVec 32 := 1#32
  let arg19 : BitVec 32 := Scf.iv c0_i32_895 c1_i32_896 k0_t4
  let v1812 : BitVec 32 := Scalar.muli c2_i32_1231 arg19
  let v1813 : Index := Scalar.indexCast v1812
  let c0_1234 : Index := 0#32
  let c0_1235 : Index := 0#32
  ![3, 2, v1813.toNat, 0, 0]
def k0_off666 (k0_t4 : Fin k0_t4_loop.trips) : Fin 5 → Nat :=
  let c3_1237 : Index := 3#32
  let c3_1238 : Index := 3#32
  let c2_i32_1236 : BitVec 32 := 2#32
  let c0_i32_895 : BitVec 32 := 0#32
  let c1_i32_896 : BitVec 32 := 1#32
  let arg19 : BitVec 32 := Scf.iv c0_i32_895 c1_i32_896 k0_t4
  let v1816 : BitVec 32 := Scalar.muli c2_i32_1236 arg19
  let v1817 : Index := Scalar.indexCast v1816
  let c0_1239 : Index := 0#32
  let c0_1240 : Index := 0#32
  ![3, 3, v1817.toNat, 0, 0]
def k0_off667 (k0_t4 : Fin k0_t4_loop.trips) : Fin 5 → Nat :=
  let c3_1242 : Index := 3#32
  let c4_1243 : Index := 4#32
  let c2_i32_1241 : BitVec 32 := 2#32
  let c0_i32_895 : BitVec 32 := 0#32
  let c1_i32_896 : BitVec 32 := 1#32
  let arg19 : BitVec 32 := Scf.iv c0_i32_895 c1_i32_896 k0_t4
  let v1820 : BitVec 32 := Scalar.muli c2_i32_1241 arg19
  let v1821 : Index := Scalar.indexCast v1820
  let c0_1244 : Index := 0#32
  let c0_1245 : Index := 0#32
  ![3, 4, v1821.toNat, 0, 0]
def k0_off668 (k0_t4 : Fin k0_t4_loop.trips) : Fin 5 → Nat :=
  let c3_1247 : Index := 3#32
  let c5_1248 : Index := 5#32
  let c2_i32_1246 : BitVec 32 := 2#32
  let c0_i32_895 : BitVec 32 := 0#32
  let c1_i32_896 : BitVec 32 := 1#32
  let arg19 : BitVec 32 := Scf.iv c0_i32_895 c1_i32_896 k0_t4
  let v1824 : BitVec 32 := Scalar.muli c2_i32_1246 arg19
  let v1825 : Index := Scalar.indexCast v1824
  let c0_1249 : Index := 0#32
  let c0_1250 : Index := 0#32
  ![3, 5, v1825.toNat, 0, 0]
def k0_off669 (k0_t4 : Fin k0_t4_loop.trips) : Fin 5 → Nat :=
  let c3_1252 : Index := 3#32
  let c6_1253 : Index := 6#32
  let c2_i32_1251 : BitVec 32 := 2#32
  let c0_i32_895 : BitVec 32 := 0#32
  let c1_i32_896 : BitVec 32 := 1#32
  let arg19 : BitVec 32 := Scf.iv c0_i32_895 c1_i32_896 k0_t4
  let v1828 : BitVec 32 := Scalar.muli c2_i32_1251 arg19
  let v1829 : Index := Scalar.indexCast v1828
  let c0_1254 : Index := 0#32
  let c0_1255 : Index := 0#32
  ![3, 6, v1829.toNat, 0, 0]
def k0_off670 (k0_t4 : Fin k0_t4_loop.trips) : Fin 5 → Nat :=
  let c3_1257 : Index := 3#32
  let c7_1258 : Index := 7#32
  let c2_i32_1256 : BitVec 32 := 2#32
  let c0_i32_895 : BitVec 32 := 0#32
  let c1_i32_896 : BitVec 32 := 1#32
  let arg19 : BitVec 32 := Scf.iv c0_i32_895 c1_i32_896 k0_t4
  let v1832 : BitVec 32 := Scalar.muli c2_i32_1256 arg19
  let v1833 : Index := Scalar.indexCast v1832
  let c0_1259 : Index := 0#32
  let c0_1260 : Index := 0#32
  ![3, 7, v1833.toNat, 0, 0]
def k0_off671 (k0_t4 : Fin k0_t4_loop.trips) : Fin 5 → Nat :=
  let c3_1262 : Index := 3#32
  let c8_1263 : Index := 8#32
  let c2_i32_1261 : BitVec 32 := 2#32
  let c0_i32_895 : BitVec 32 := 0#32
  let c1_i32_896 : BitVec 32 := 1#32
  let arg19 : BitVec 32 := Scf.iv c0_i32_895 c1_i32_896 k0_t4
  let v1836 : BitVec 32 := Scalar.muli c2_i32_1261 arg19
  let v1837 : Index := Scalar.indexCast v1836
  let c0_1264 : Index := 0#32
  let c0_1265 : Index := 0#32
  ![3, 8, v1837.toNat, 0, 0]
def k0_off672 (k0_t4 : Fin k0_t4_loop.trips) : Fin 5 → Nat :=
  let c3_1268 : Index := 3#32
  let c0_1269 : Index := 0#32
  let c2_i32_1266 : BitVec 32 := 2#32
  let c0_i32_895 : BitVec 32 := 0#32
  let c1_i32_896 : BitVec 32 := 1#32
  let arg19 : BitVec 32 := Scf.iv c0_i32_895 c1_i32_896 k0_t4
  let v1840 : BitVec 32 := Scalar.muli c2_i32_1266 arg19
  let c1_i32_1267 : BitVec 32 := 1#32
  let v1841 : BitVec 32 := Scalar.addi v1840 c1_i32_1267
  let v1842 : Index := Scalar.indexCast v1841
  let c0_1270 : Index := 0#32
  let c0_1271 : Index := 0#32
  ![3, 0, v1842.toNat, 0, 0]
def k0_off673 (k0_t4 : Fin k0_t4_loop.trips) : Fin 5 → Nat :=
  let c3_1274 : Index := 3#32
  let c1_1275 : Index := 1#32
  let c2_i32_1272 : BitVec 32 := 2#32
  let c0_i32_895 : BitVec 32 := 0#32
  let c1_i32_896 : BitVec 32 := 1#32
  let arg19 : BitVec 32 := Scf.iv c0_i32_895 c1_i32_896 k0_t4
  let v1845 : BitVec 32 := Scalar.muli c2_i32_1272 arg19
  let c1_i32_1273 : BitVec 32 := 1#32
  let v1846 : BitVec 32 := Scalar.addi v1845 c1_i32_1273
  let v1847 : Index := Scalar.indexCast v1846
  let c0_1276 : Index := 0#32
  let c0_1277 : Index := 0#32
  ![3, 1, v1847.toNat, 0, 0]
def k0_off674 (k0_t4 : Fin k0_t4_loop.trips) : Fin 5 → Nat :=
  let c3_1280 : Index := 3#32
  let c2_1281 : Index := 2#32
  let c2_i32_1278 : BitVec 32 := 2#32
  let c0_i32_895 : BitVec 32 := 0#32
  let c1_i32_896 : BitVec 32 := 1#32
  let arg19 : BitVec 32 := Scf.iv c0_i32_895 c1_i32_896 k0_t4
  let v1850 : BitVec 32 := Scalar.muli c2_i32_1278 arg19
  let c1_i32_1279 : BitVec 32 := 1#32
  let v1851 : BitVec 32 := Scalar.addi v1850 c1_i32_1279
  let v1852 : Index := Scalar.indexCast v1851
  let c0_1282 : Index := 0#32
  let c0_1283 : Index := 0#32
  ![3, 2, v1852.toNat, 0, 0]
def k0_off675 (k0_t4 : Fin k0_t4_loop.trips) : Fin 5 → Nat :=
  let c3_1286 : Index := 3#32
  let c3_1287 : Index := 3#32
  let c2_i32_1284 : BitVec 32 := 2#32
  let c0_i32_895 : BitVec 32 := 0#32
  let c1_i32_896 : BitVec 32 := 1#32
  let arg19 : BitVec 32 := Scf.iv c0_i32_895 c1_i32_896 k0_t4
  let v1855 : BitVec 32 := Scalar.muli c2_i32_1284 arg19
  let c1_i32_1285 : BitVec 32 := 1#32
  let v1856 : BitVec 32 := Scalar.addi v1855 c1_i32_1285
  let v1857 : Index := Scalar.indexCast v1856
  let c0_1288 : Index := 0#32
  let c0_1289 : Index := 0#32
  ![3, 3, v1857.toNat, 0, 0]
def k0_off676 (k0_t4 : Fin k0_t4_loop.trips) : Fin 5 → Nat :=
  let c3_1292 : Index := 3#32
  let c4_1293 : Index := 4#32
  let c2_i32_1290 : BitVec 32 := 2#32
  let c0_i32_895 : BitVec 32 := 0#32
  let c1_i32_896 : BitVec 32 := 1#32
  let arg19 : BitVec 32 := Scf.iv c0_i32_895 c1_i32_896 k0_t4
  let v1860 : BitVec 32 := Scalar.muli c2_i32_1290 arg19
  let c1_i32_1291 : BitVec 32 := 1#32
  let v1861 : BitVec 32 := Scalar.addi v1860 c1_i32_1291
  let v1862 : Index := Scalar.indexCast v1861
  let c0_1294 : Index := 0#32
  let c0_1295 : Index := 0#32
  ![3, 4, v1862.toNat, 0, 0]
def k0_off677 (k0_t4 : Fin k0_t4_loop.trips) : Fin 5 → Nat :=
  let c3_1298 : Index := 3#32
  let c5_1299 : Index := 5#32
  let c2_i32_1296 : BitVec 32 := 2#32
  let c0_i32_895 : BitVec 32 := 0#32
  let c1_i32_896 : BitVec 32 := 1#32
  let arg19 : BitVec 32 := Scf.iv c0_i32_895 c1_i32_896 k0_t4
  let v1865 : BitVec 32 := Scalar.muli c2_i32_1296 arg19
  let c1_i32_1297 : BitVec 32 := 1#32
  let v1866 : BitVec 32 := Scalar.addi v1865 c1_i32_1297
  let v1867 : Index := Scalar.indexCast v1866
  let c0_1300 : Index := 0#32
  let c0_1301 : Index := 0#32
  ![3, 5, v1867.toNat, 0, 0]
def k0_off678 (k0_t4 : Fin k0_t4_loop.trips) : Fin 5 → Nat :=
  let c3_1304 : Index := 3#32
  let c6_1305 : Index := 6#32
  let c2_i32_1302 : BitVec 32 := 2#32
  let c0_i32_895 : BitVec 32 := 0#32
  let c1_i32_896 : BitVec 32 := 1#32
  let arg19 : BitVec 32 := Scf.iv c0_i32_895 c1_i32_896 k0_t4
  let v1870 : BitVec 32 := Scalar.muli c2_i32_1302 arg19
  let c1_i32_1303 : BitVec 32 := 1#32
  let v1871 : BitVec 32 := Scalar.addi v1870 c1_i32_1303
  let v1872 : Index := Scalar.indexCast v1871
  let c0_1306 : Index := 0#32
  let c0_1307 : Index := 0#32
  ![3, 6, v1872.toNat, 0, 0]
def k0_off679 (k0_t4 : Fin k0_t4_loop.trips) : Fin 5 → Nat :=
  let c3_1310 : Index := 3#32
  let c7_1311 : Index := 7#32
  let c2_i32_1308 : BitVec 32 := 2#32
  let c0_i32_895 : BitVec 32 := 0#32
  let c1_i32_896 : BitVec 32 := 1#32
  let arg19 : BitVec 32 := Scf.iv c0_i32_895 c1_i32_896 k0_t4
  let v1875 : BitVec 32 := Scalar.muli c2_i32_1308 arg19
  let c1_i32_1309 : BitVec 32 := 1#32
  let v1876 : BitVec 32 := Scalar.addi v1875 c1_i32_1309
  let v1877 : Index := Scalar.indexCast v1876
  let c0_1312 : Index := 0#32
  let c0_1313 : Index := 0#32
  ![3, 7, v1877.toNat, 0, 0]
def k0_off680 (k0_t4 : Fin k0_t4_loop.trips) : Fin 5 → Nat :=
  let c3_1316 : Index := 3#32
  let c8_1317 : Index := 8#32
  let c2_i32_1314 : BitVec 32 := 2#32
  let c0_i32_895 : BitVec 32 := 0#32
  let c1_i32_896 : BitVec 32 := 1#32
  let arg19 : BitVec 32 := Scf.iv c0_i32_895 c1_i32_896 k0_t4
  let v1880 : BitVec 32 := Scalar.muli c2_i32_1314 arg19
  let c1_i32_1315 : BitVec 32 := 1#32
  let v1881 : BitVec 32 := Scalar.addi v1880 c1_i32_1315
  let v1882 : Index := Scalar.indexCast v1881
  let c0_1318 : Index := 0#32
  let c0_1319 : Index := 0#32
  ![3, 8, v1882.toNat, 0, 0]
@[reducible] def k0_t5_loop (i : grid0.Coords) : Scf.Loop 32 :=
  let c0_i32_582 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v701 : BitVec 32 := Scalar.subi v17 c0_i32_582
  let c1_i32_583 : BitVec 32 := 1#32
  let v703 : BitVec 32 := Scalar.divsi v701 c1_i32_583
  let v704 : BitVec 32 := Scalar.muli v703 c1_i32_583
  let v705 : BitVec 32 := Scalar.addi c0_i32_582 v704
  let c1_i32_584 : BitVec 32 := 1#32
  ⟨c0_i32_582, v705, c1_i32_584⟩
def k0_mult33 (i : grid0.Coords) (k0_t5 : Fin (k0_t5_loop i).trips) : BitVec 32 :=
  let c0_i32_582 : BitVec 32 := 0#32
  let c1_i32_584 : BitVec 32 := 1#32
  let arg19 : BitVec 32 := Scf.iv c0_i32_582 c1_i32_584 k0_t5
  let c256_i32_861 : BitVec 32 := 256#32
  let v1159 : BitVec 32 := Scalar.muli arg19 c256_i32_861
  v1159
def k0_off681 (i : grid0.Coords) (k0_t5 : Fin (k0_t5_loop i).trips) : Fin 3 → Nat :=
  let c0_862 : Index := 0#32
  let c0_i32_582 : BitVec 32 := 0#32
  let c1_i32_584 : BitVec 32 := 1#32
  let arg19 : BitVec 32 := Scf.iv c0_i32_582 c1_i32_584 k0_t5
  let c256_i32_861 : BitVec 32 := 256#32
  let v1159 : BitVec 32 := Scalar.muli arg19 c256_i32_861
  let v1160 : BitVec 32 := v1159
  let v1161 : Index := Scalar.indexCast v1160
  let c0_863 : Index := 0#32
  ![0, v1161.toNat, 0]
def k0_mult34 (i : grid0.Coords) (k0_t5 : Fin (k0_t5_loop i).trips) : BitVec 32 :=
  let c0_i32_582 : BitVec 32 := 0#32
  let c1_i32_584 : BitVec 32 := 1#32
  let arg19 : BitVec 32 := Scf.iv c0_i32_582 c1_i32_584 k0_t5
  let c256_i32_864 : BitVec 32 := 256#32
  let v1164 : BitVec 32 := Scalar.muli arg19 c256_i32_864
  v1164
def k0_off682 (i : grid0.Coords) (k0_t5 : Fin (k0_t5_loop i).trips) : Fin 3 → Nat :=
  let c1_865 : Index := 1#32
  let c0_i32_582 : BitVec 32 := 0#32
  let c1_i32_584 : BitVec 32 := 1#32
  let arg19 : BitVec 32 := Scf.iv c0_i32_582 c1_i32_584 k0_t5
  let c256_i32_864 : BitVec 32 := 256#32
  let v1164 : BitVec 32 := Scalar.muli arg19 c256_i32_864
  let v1165 : BitVec 32 := v1164
  let v1166 : Index := Scalar.indexCast v1165
  let c0_866 : Index := 0#32
  ![1, v1166.toNat, 0]
def k0_mult35 (i : grid0.Coords) (k0_t5 : Fin (k0_t5_loop i).trips) : BitVec 32 :=
  let c0_i32_582 : BitVec 32 := 0#32
  let c1_i32_584 : BitVec 32 := 1#32
  let arg19 : BitVec 32 := Scf.iv c0_i32_582 c1_i32_584 k0_t5
  let c256_i32_867 : BitVec 32 := 256#32
  let v1169 : BitVec 32 := Scalar.muli arg19 c256_i32_867
  v1169
def k0_off683 (i : grid0.Coords) (k0_t5 : Fin (k0_t5_loop i).trips) : Fin 3 → Nat :=
  let c2_868 : Index := 2#32
  let c0_i32_582 : BitVec 32 := 0#32
  let c1_i32_584 : BitVec 32 := 1#32
  let arg19 : BitVec 32 := Scf.iv c0_i32_582 c1_i32_584 k0_t5
  let c256_i32_867 : BitVec 32 := 256#32
  let v1169 : BitVec 32 := Scalar.muli arg19 c256_i32_867
  let v1170 : BitVec 32 := v1169
  let v1171 : Index := Scalar.indexCast v1170
  let c0_869 : Index := 0#32
  ![2, v1171.toNat, 0]
def k0_mult36 (i : grid0.Coords) (k0_t5 : Fin (k0_t5_loop i).trips) : BitVec 32 :=
  let c0_i32_582 : BitVec 32 := 0#32
  let c1_i32_584 : BitVec 32 := 1#32
  let arg19 : BitVec 32 := Scf.iv c0_i32_582 c1_i32_584 k0_t5
  let c256_i32_870 : BitVec 32 := 256#32
  let v1174 : BitVec 32 := Scalar.muli arg19 c256_i32_870
  v1174
def k0_off684 (i : grid0.Coords) (k0_t5 : Fin (k0_t5_loop i).trips) : Fin 3 → Nat :=
  let c3_871 : Index := 3#32
  let c0_i32_582 : BitVec 32 := 0#32
  let c1_i32_584 : BitVec 32 := 1#32
  let arg19 : BitVec 32 := Scf.iv c0_i32_582 c1_i32_584 k0_t5
  let c256_i32_870 : BitVec 32 := 256#32
  let v1174 : BitVec 32 := Scalar.muli arg19 c256_i32_870
  let v1175 : BitVec 32 := v1174
  let v1176 : Index := Scalar.indexCast v1175
  let c0_872 : Index := 0#32
  ![3, v1176.toNat, 0]
@[reducible] def k0_t6_loop (i : grid0.Coords) : Scf.Loop 32 :=
  let c0_i32_582 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v701 : BitVec 32 := Scalar.subi v17 c0_i32_582
  let c1_i32_583 : BitVec 32 := 1#32
  let v703 : BitVec 32 := Scalar.divsi v701 c1_i32_583
  let v704 : BitVec 32 := Scalar.muli v703 c1_i32_583
  let v705 : BitVec 32 := Scalar.addi c0_i32_582 v704
  let v702 : BitVec 32 := Scalar.addi c0_i32_582 v701
  let c1_i32_585 : BitVec 32 := 1#32
  ⟨v705, v702, c1_i32_585⟩
def k0_mult37 (i : grid0.Coords) (k0_t6 : Fin (k0_t6_loop i).trips) : BitVec 32 :=
  let c0_i32_582 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v701 : BitVec 32 := Scalar.subi v17 c0_i32_582
  let c1_i32_583 : BitVec 32 := 1#32
  let v703 : BitVec 32 := Scalar.divsi v701 c1_i32_583
  let v704 : BitVec 32 := Scalar.muli v703 c1_i32_583
  let v705 : BitVec 32 := Scalar.addi c0_i32_582 v704
  let c1_i32_585 : BitVec 32 := 1#32
  let arg19 : BitVec 32 := Scf.iv v705 c1_i32_585 k0_t6
  let c256_i32_861 : BitVec 32 := 256#32
  let v1159 : BitVec 32 := Scalar.muli arg19 c256_i32_861
  v1159
def k0_off685 (i : grid0.Coords) (k0_t6 : Fin (k0_t6_loop i).trips) : Fin 3 → Nat :=
  let c0_862 : Index := 0#32
  let c0_i32_582 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v701 : BitVec 32 := Scalar.subi v17 c0_i32_582
  let c1_i32_583 : BitVec 32 := 1#32
  let v703 : BitVec 32 := Scalar.divsi v701 c1_i32_583
  let v704 : BitVec 32 := Scalar.muli v703 c1_i32_583
  let v705 : BitVec 32 := Scalar.addi c0_i32_582 v704
  let c1_i32_585 : BitVec 32 := 1#32
  let arg19 : BitVec 32 := Scf.iv v705 c1_i32_585 k0_t6
  let c256_i32_861 : BitVec 32 := 256#32
  let v1159 : BitVec 32 := Scalar.muli arg19 c256_i32_861
  let v1160 : BitVec 32 := v1159
  let v1161 : Index := Scalar.indexCast v1160
  let c0_863 : Index := 0#32
  ![0, v1161.toNat, 0]
def k0_mult38 (i : grid0.Coords) (k0_t6 : Fin (k0_t6_loop i).trips) : BitVec 32 :=
  let c0_i32_582 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v701 : BitVec 32 := Scalar.subi v17 c0_i32_582
  let c1_i32_583 : BitVec 32 := 1#32
  let v703 : BitVec 32 := Scalar.divsi v701 c1_i32_583
  let v704 : BitVec 32 := Scalar.muli v703 c1_i32_583
  let v705 : BitVec 32 := Scalar.addi c0_i32_582 v704
  let c1_i32_585 : BitVec 32 := 1#32
  let arg19 : BitVec 32 := Scf.iv v705 c1_i32_585 k0_t6
  let c256_i32_864 : BitVec 32 := 256#32
  let v1164 : BitVec 32 := Scalar.muli arg19 c256_i32_864
  v1164
def k0_off686 (i : grid0.Coords) (k0_t6 : Fin (k0_t6_loop i).trips) : Fin 3 → Nat :=
  let c1_865 : Index := 1#32
  let c0_i32_582 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v701 : BitVec 32 := Scalar.subi v17 c0_i32_582
  let c1_i32_583 : BitVec 32 := 1#32
  let v703 : BitVec 32 := Scalar.divsi v701 c1_i32_583
  let v704 : BitVec 32 := Scalar.muli v703 c1_i32_583
  let v705 : BitVec 32 := Scalar.addi c0_i32_582 v704
  let c1_i32_585 : BitVec 32 := 1#32
  let arg19 : BitVec 32 := Scf.iv v705 c1_i32_585 k0_t6
  let c256_i32_864 : BitVec 32 := 256#32
  let v1164 : BitVec 32 := Scalar.muli arg19 c256_i32_864
  let v1165 : BitVec 32 := v1164
  let v1166 : Index := Scalar.indexCast v1165
  let c0_866 : Index := 0#32
  ![1, v1166.toNat, 0]
def k0_mult39 (i : grid0.Coords) (k0_t6 : Fin (k0_t6_loop i).trips) : BitVec 32 :=
  let c0_i32_582 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v701 : BitVec 32 := Scalar.subi v17 c0_i32_582
  let c1_i32_583 : BitVec 32 := 1#32
  let v703 : BitVec 32 := Scalar.divsi v701 c1_i32_583
  let v704 : BitVec 32 := Scalar.muli v703 c1_i32_583
  let v705 : BitVec 32 := Scalar.addi c0_i32_582 v704
  let c1_i32_585 : BitVec 32 := 1#32
  let arg19 : BitVec 32 := Scf.iv v705 c1_i32_585 k0_t6
  let c256_i32_867 : BitVec 32 := 256#32
  let v1169 : BitVec 32 := Scalar.muli arg19 c256_i32_867
  v1169
def k0_off687 (i : grid0.Coords) (k0_t6 : Fin (k0_t6_loop i).trips) : Fin 3 → Nat :=
  let c2_868 : Index := 2#32
  let c0_i32_582 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v701 : BitVec 32 := Scalar.subi v17 c0_i32_582
  let c1_i32_583 : BitVec 32 := 1#32
  let v703 : BitVec 32 := Scalar.divsi v701 c1_i32_583
  let v704 : BitVec 32 := Scalar.muli v703 c1_i32_583
  let v705 : BitVec 32 := Scalar.addi c0_i32_582 v704
  let c1_i32_585 : BitVec 32 := 1#32
  let arg19 : BitVec 32 := Scf.iv v705 c1_i32_585 k0_t6
  let c256_i32_867 : BitVec 32 := 256#32
  let v1169 : BitVec 32 := Scalar.muli arg19 c256_i32_867
  let v1170 : BitVec 32 := v1169
  let v1171 : Index := Scalar.indexCast v1170
  let c0_869 : Index := 0#32
  ![2, v1171.toNat, 0]
def k0_mult40 (i : grid0.Coords) (k0_t6 : Fin (k0_t6_loop i).trips) : BitVec 32 :=
  let c0_i32_582 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v701 : BitVec 32 := Scalar.subi v17 c0_i32_582
  let c1_i32_583 : BitVec 32 := 1#32
  let v703 : BitVec 32 := Scalar.divsi v701 c1_i32_583
  let v704 : BitVec 32 := Scalar.muli v703 c1_i32_583
  let v705 : BitVec 32 := Scalar.addi c0_i32_582 v704
  let c1_i32_585 : BitVec 32 := 1#32
  let arg19 : BitVec 32 := Scf.iv v705 c1_i32_585 k0_t6
  let c256_i32_870 : BitVec 32 := 256#32
  let v1174 : BitVec 32 := Scalar.muli arg19 c256_i32_870
  v1174
def k0_off688 (i : grid0.Coords) (k0_t6 : Fin (k0_t6_loop i).trips) : Fin 3 → Nat :=
  let c3_871 : Index := 3#32
  let c0_i32_582 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v701 : BitVec 32 := Scalar.subi v17 c0_i32_582
  let c1_i32_583 : BitVec 32 := 1#32
  let v703 : BitVec 32 := Scalar.divsi v701 c1_i32_583
  let v704 : BitVec 32 := Scalar.muli v703 c1_i32_583
  let v705 : BitVec 32 := Scalar.addi c0_i32_582 v704
  let c1_i32_585 : BitVec 32 := 1#32
  let arg19 : BitVec 32 := Scf.iv v705 c1_i32_585 k0_t6
  let c256_i32_870 : BitVec 32 := 256#32
  let v1174 : BitVec 32 := Scalar.muli arg19 c256_i32_870
  let v1175 : BitVec 32 := v1174
  let v1176 : Index := Scalar.indexCast v1175
  let c0_872 : Index := 0#32
  ![3, v1176.toNat, 0]
@[reducible] def k0_t7_loop (i : grid0.Coords) : Scf.Loop 32 :=
  let c0_i32_870 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1185 : BitVec 32 := Scalar.subi v17 c0_i32_870
  let c1_i32_871 : BitVec 32 := 1#32
  let v1187 : BitVec 32 := Scalar.divsi v1185 c1_i32_871
  let v1188 : BitVec 32 := Scalar.muli v1187 c1_i32_871
  let v1189 : BitVec 32 := Scalar.addi c0_i32_870 v1188
  let c1_i32_872 : BitVec 32 := 1#32
  ⟨c0_i32_870, v1189, c1_i32_872⟩
def k0_mult41 (i : grid0.Coords) (k0_t7 : Fin (k0_t7_loop i).trips) : BitVec 32 :=
  let c0_i32_870 : BitVec 32 := 0#32
  let c1_i32_872 : BitVec 32 := 1#32
  let arg19 : BitVec 32 := Scf.iv c0_i32_870 c1_i32_872 k0_t7
  let c256_i32_936 : BitVec 32 := 256#32
  let v1302 : BitVec 32 := Scalar.muli arg19 c256_i32_936
  v1302
def k0_off689 (i : grid0.Coords) (k0_t7 : Fin (k0_t7_loop i).trips) : Fin 3 → Nat :=
  let c0_937 : Index := 0#32
  let c0_i32_870 : BitVec 32 := 0#32
  let c1_i32_872 : BitVec 32 := 1#32
  let arg19 : BitVec 32 := Scf.iv c0_i32_870 c1_i32_872 k0_t7
  let c256_i32_936 : BitVec 32 := 256#32
  let v1302 : BitVec 32 := Scalar.muli arg19 c256_i32_936
  let v1303 : BitVec 32 := v1302
  let v1304 : Index := Scalar.indexCast v1303
  let c0_938 : Index := 0#32
  ![0, v1304.toNat, 0]
def k0_mult42 (i : grid0.Coords) (k0_t7 : Fin (k0_t7_loop i).trips) : BitVec 32 :=
  let c0_i32_870 : BitVec 32 := 0#32
  let c1_i32_872 : BitVec 32 := 1#32
  let arg19 : BitVec 32 := Scf.iv c0_i32_870 c1_i32_872 k0_t7
  let c256_i32_939 : BitVec 32 := 256#32
  let v1307 : BitVec 32 := Scalar.muli arg19 c256_i32_939
  v1307
def k0_off690 (i : grid0.Coords) (k0_t7 : Fin (k0_t7_loop i).trips) : Fin 3 → Nat :=
  let c1_940 : Index := 1#32
  let c0_i32_870 : BitVec 32 := 0#32
  let c1_i32_872 : BitVec 32 := 1#32
  let arg19 : BitVec 32 := Scf.iv c0_i32_870 c1_i32_872 k0_t7
  let c256_i32_939 : BitVec 32 := 256#32
  let v1307 : BitVec 32 := Scalar.muli arg19 c256_i32_939
  let v1308 : BitVec 32 := v1307
  let v1309 : Index := Scalar.indexCast v1308
  let c0_941 : Index := 0#32
  ![1, v1309.toNat, 0]
def k0_mult43 (i : grid0.Coords) (k0_t7 : Fin (k0_t7_loop i).trips) : BitVec 32 :=
  let c0_i32_870 : BitVec 32 := 0#32
  let c1_i32_872 : BitVec 32 := 1#32
  let arg19 : BitVec 32 := Scf.iv c0_i32_870 c1_i32_872 k0_t7
  let c256_i32_942 : BitVec 32 := 256#32
  let v1312 : BitVec 32 := Scalar.muli arg19 c256_i32_942
  v1312
def k0_off691 (i : grid0.Coords) (k0_t7 : Fin (k0_t7_loop i).trips) : Fin 3 → Nat :=
  let c2_943 : Index := 2#32
  let c0_i32_870 : BitVec 32 := 0#32
  let c1_i32_872 : BitVec 32 := 1#32
  let arg19 : BitVec 32 := Scf.iv c0_i32_870 c1_i32_872 k0_t7
  let c256_i32_942 : BitVec 32 := 256#32
  let v1312 : BitVec 32 := Scalar.muli arg19 c256_i32_942
  let v1313 : BitVec 32 := v1312
  let v1314 : Index := Scalar.indexCast v1313
  let c0_944 : Index := 0#32
  ![2, v1314.toNat, 0]
def k0_mult44 (i : grid0.Coords) (k0_t7 : Fin (k0_t7_loop i).trips) : BitVec 32 :=
  let c0_i32_870 : BitVec 32 := 0#32
  let c1_i32_872 : BitVec 32 := 1#32
  let arg19 : BitVec 32 := Scf.iv c0_i32_870 c1_i32_872 k0_t7
  let c256_i32_945 : BitVec 32 := 256#32
  let v1317 : BitVec 32 := Scalar.muli arg19 c256_i32_945
  v1317
def k0_off692 (i : grid0.Coords) (k0_t7 : Fin (k0_t7_loop i).trips) : Fin 3 → Nat :=
  let c3_946 : Index := 3#32
  let c0_i32_870 : BitVec 32 := 0#32
  let c1_i32_872 : BitVec 32 := 1#32
  let arg19 : BitVec 32 := Scf.iv c0_i32_870 c1_i32_872 k0_t7
  let c256_i32_945 : BitVec 32 := 256#32
  let v1317 : BitVec 32 := Scalar.muli arg19 c256_i32_945
  let v1318 : BitVec 32 := v1317
  let v1319 : Index := Scalar.indexCast v1318
  let c0_947 : Index := 0#32
  ![3, v1319.toNat, 0]
@[reducible] def k0_t8_loop (i : grid0.Coords) : Scf.Loop 32 :=
  let c0_i32_870 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1185 : BitVec 32 := Scalar.subi v17 c0_i32_870
  let c1_i32_871 : BitVec 32 := 1#32
  let v1187 : BitVec 32 := Scalar.divsi v1185 c1_i32_871
  let v1188 : BitVec 32 := Scalar.muli v1187 c1_i32_871
  let v1189 : BitVec 32 := Scalar.addi c0_i32_870 v1188
  let v1186 : BitVec 32 := Scalar.addi c0_i32_870 v1185
  let c1_i32_873 : BitVec 32 := 1#32
  ⟨v1189, v1186, c1_i32_873⟩
def k0_mult45 (i : grid0.Coords) (k0_t8 : Fin (k0_t8_loop i).trips) : BitVec 32 :=
  let c0_i32_870 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1185 : BitVec 32 := Scalar.subi v17 c0_i32_870
  let c1_i32_871 : BitVec 32 := 1#32
  let v1187 : BitVec 32 := Scalar.divsi v1185 c1_i32_871
  let v1188 : BitVec 32 := Scalar.muli v1187 c1_i32_871
  let v1189 : BitVec 32 := Scalar.addi c0_i32_870 v1188
  let c1_i32_873 : BitVec 32 := 1#32
  let arg19 : BitVec 32 := Scf.iv v1189 c1_i32_873 k0_t8
  let c256_i32_936 : BitVec 32 := 256#32
  let v1302 : BitVec 32 := Scalar.muli arg19 c256_i32_936
  v1302
def k0_off693 (i : grid0.Coords) (k0_t8 : Fin (k0_t8_loop i).trips) : Fin 3 → Nat :=
  let c0_937 : Index := 0#32
  let c0_i32_870 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1185 : BitVec 32 := Scalar.subi v17 c0_i32_870
  let c1_i32_871 : BitVec 32 := 1#32
  let v1187 : BitVec 32 := Scalar.divsi v1185 c1_i32_871
  let v1188 : BitVec 32 := Scalar.muli v1187 c1_i32_871
  let v1189 : BitVec 32 := Scalar.addi c0_i32_870 v1188
  let c1_i32_873 : BitVec 32 := 1#32
  let arg19 : BitVec 32 := Scf.iv v1189 c1_i32_873 k0_t8
  let c256_i32_936 : BitVec 32 := 256#32
  let v1302 : BitVec 32 := Scalar.muli arg19 c256_i32_936
  let v1303 : BitVec 32 := v1302
  let v1304 : Index := Scalar.indexCast v1303
  let c0_938 : Index := 0#32
  ![0, v1304.toNat, 0]
def k0_mult46 (i : grid0.Coords) (k0_t8 : Fin (k0_t8_loop i).trips) : BitVec 32 :=
  let c0_i32_870 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1185 : BitVec 32 := Scalar.subi v17 c0_i32_870
  let c1_i32_871 : BitVec 32 := 1#32
  let v1187 : BitVec 32 := Scalar.divsi v1185 c1_i32_871
  let v1188 : BitVec 32 := Scalar.muli v1187 c1_i32_871
  let v1189 : BitVec 32 := Scalar.addi c0_i32_870 v1188
  let c1_i32_873 : BitVec 32 := 1#32
  let arg19 : BitVec 32 := Scf.iv v1189 c1_i32_873 k0_t8
  let c256_i32_939 : BitVec 32 := 256#32
  let v1307 : BitVec 32 := Scalar.muli arg19 c256_i32_939
  v1307
def k0_off694 (i : grid0.Coords) (k0_t8 : Fin (k0_t8_loop i).trips) : Fin 3 → Nat :=
  let c1_940 : Index := 1#32
  let c0_i32_870 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1185 : BitVec 32 := Scalar.subi v17 c0_i32_870
  let c1_i32_871 : BitVec 32 := 1#32
  let v1187 : BitVec 32 := Scalar.divsi v1185 c1_i32_871
  let v1188 : BitVec 32 := Scalar.muli v1187 c1_i32_871
  let v1189 : BitVec 32 := Scalar.addi c0_i32_870 v1188
  let c1_i32_873 : BitVec 32 := 1#32
  let arg19 : BitVec 32 := Scf.iv v1189 c1_i32_873 k0_t8
  let c256_i32_939 : BitVec 32 := 256#32
  let v1307 : BitVec 32 := Scalar.muli arg19 c256_i32_939
  let v1308 : BitVec 32 := v1307
  let v1309 : Index := Scalar.indexCast v1308
  let c0_941 : Index := 0#32
  ![1, v1309.toNat, 0]
def k0_mult47 (i : grid0.Coords) (k0_t8 : Fin (k0_t8_loop i).trips) : BitVec 32 :=
  let c0_i32_870 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1185 : BitVec 32 := Scalar.subi v17 c0_i32_870
  let c1_i32_871 : BitVec 32 := 1#32
  let v1187 : BitVec 32 := Scalar.divsi v1185 c1_i32_871
  let v1188 : BitVec 32 := Scalar.muli v1187 c1_i32_871
  let v1189 : BitVec 32 := Scalar.addi c0_i32_870 v1188
  let c1_i32_873 : BitVec 32 := 1#32
  let arg19 : BitVec 32 := Scf.iv v1189 c1_i32_873 k0_t8
  let c256_i32_942 : BitVec 32 := 256#32
  let v1312 : BitVec 32 := Scalar.muli arg19 c256_i32_942
  v1312
def k0_off695 (i : grid0.Coords) (k0_t8 : Fin (k0_t8_loop i).trips) : Fin 3 → Nat :=
  let c2_943 : Index := 2#32
  let c0_i32_870 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1185 : BitVec 32 := Scalar.subi v17 c0_i32_870
  let c1_i32_871 : BitVec 32 := 1#32
  let v1187 : BitVec 32 := Scalar.divsi v1185 c1_i32_871
  let v1188 : BitVec 32 := Scalar.muli v1187 c1_i32_871
  let v1189 : BitVec 32 := Scalar.addi c0_i32_870 v1188
  let c1_i32_873 : BitVec 32 := 1#32
  let arg19 : BitVec 32 := Scf.iv v1189 c1_i32_873 k0_t8
  let c256_i32_942 : BitVec 32 := 256#32
  let v1312 : BitVec 32 := Scalar.muli arg19 c256_i32_942
  let v1313 : BitVec 32 := v1312
  let v1314 : Index := Scalar.indexCast v1313
  let c0_944 : Index := 0#32
  ![2, v1314.toNat, 0]
def k0_mult48 (i : grid0.Coords) (k0_t8 : Fin (k0_t8_loop i).trips) : BitVec 32 :=
  let c0_i32_870 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1185 : BitVec 32 := Scalar.subi v17 c0_i32_870
  let c1_i32_871 : BitVec 32 := 1#32
  let v1187 : BitVec 32 := Scalar.divsi v1185 c1_i32_871
  let v1188 : BitVec 32 := Scalar.muli v1187 c1_i32_871
  let v1189 : BitVec 32 := Scalar.addi c0_i32_870 v1188
  let c1_i32_873 : BitVec 32 := 1#32
  let arg19 : BitVec 32 := Scf.iv v1189 c1_i32_873 k0_t8
  let c256_i32_945 : BitVec 32 := 256#32
  let v1317 : BitVec 32 := Scalar.muli arg19 c256_i32_945
  v1317
def k0_off696 (i : grid0.Coords) (k0_t8 : Fin (k0_t8_loop i).trips) : Fin 3 → Nat :=
  let c3_946 : Index := 3#32
  let c0_i32_870 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1185 : BitVec 32 := Scalar.subi v17 c0_i32_870
  let c1_i32_871 : BitVec 32 := 1#32
  let v1187 : BitVec 32 := Scalar.divsi v1185 c1_i32_871
  let v1188 : BitVec 32 := Scalar.muli v1187 c1_i32_871
  let v1189 : BitVec 32 := Scalar.addi c0_i32_870 v1188
  let c1_i32_873 : BitVec 32 := 1#32
  let arg19 : BitVec 32 := Scf.iv v1189 c1_i32_873 k0_t8
  let c256_i32_945 : BitVec 32 := 256#32
  let v1317 : BitVec 32 := Scalar.muli arg19 c256_i32_945
  let v1318 : BitVec 32 := v1317
  let v1319 : Index := Scalar.indexCast v1318
  let c0_947 : Index := 0#32
  ![3, v1319.toNat, 0]
@[reducible] def k0_t9_loop : Scf.Loop 32 :=
  let c0_i32_897 : BitVec 32 := 0#32
  let c31_i32 : BitVec 32 := 31#32
  let v1236 : BitVec 32 := Scalar.addi c0_i32_897 c31_i32
  let c1_i32_898 : BitVec 32 := 1#32
  ⟨c0_i32_897, v1236, c1_i32_898⟩
@[reducible] def k0_t10_loop (i : grid0.Coords) : Scf.Loop 32 :=
  let c0_i32_952 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1343 : BitVec 32 := Scalar.subi v17 c0_i32_952
  let c1_i32_953 : BitVec 32 := 1#32
  let v1345 : BitVec 32 := Scalar.divsi v1343 c1_i32_953
  let v1346 : BitVec 32 := Scalar.muli v1345 c1_i32_953
  let v1347 : BitVec 32 := Scalar.addi c0_i32_952 v1346
  let c1_i32_954 : BitVec 32 := 1#32
  ⟨c0_i32_952, v1347, c1_i32_954⟩
def k0_mult49 (i : grid0.Coords) (k0_t10 : Fin (k0_t10_loop i).trips) : BitVec 32 :=
  let c0_i32_952 : BitVec 32 := 0#32
  let c1_i32_954 : BitVec 32 := 1#32
  let arg28 : BitVec 32 := Scf.iv c0_i32_952 c1_i32_954 k0_t10
  let c256_i32_964 : BitVec 32 := 256#32
  let v1374 : BitVec 32 := Scalar.muli arg28 c256_i32_964
  v1374
def k0_off697 (i : grid0.Coords) (k0_t10 : Fin (k0_t10_loop i).trips) : Fin 3 → Nat :=
  let c0_965 : Index := 0#32
  let c0_i32_952 : BitVec 32 := 0#32
  let c1_i32_954 : BitVec 32 := 1#32
  let arg28 : BitVec 32 := Scf.iv c0_i32_952 c1_i32_954 k0_t10
  let c256_i32_964 : BitVec 32 := 256#32
  let v1374 : BitVec 32 := Scalar.muli arg28 c256_i32_964
  let v1375 : BitVec 32 := v1374
  let v1376 : Index := Scalar.indexCast v1375
  let c0_966 : Index := 0#32
  ![0, v1376.toNat, 0]
def k0_mult50 (i : grid0.Coords) (k0_t10 : Fin (k0_t10_loop i).trips) : BitVec 32 :=
  let c0_i32_952 : BitVec 32 := 0#32
  let c1_i32_954 : BitVec 32 := 1#32
  let arg28 : BitVec 32 := Scf.iv c0_i32_952 c1_i32_954 k0_t10
  let c256_i32_967 : BitVec 32 := 256#32
  let v1379 : BitVec 32 := Scalar.muli arg28 c256_i32_967
  v1379
def k0_off698 (i : grid0.Coords) (k0_t10 : Fin (k0_t10_loop i).trips) : Fin 3 → Nat :=
  let c1_968 : Index := 1#32
  let c0_i32_952 : BitVec 32 := 0#32
  let c1_i32_954 : BitVec 32 := 1#32
  let arg28 : BitVec 32 := Scf.iv c0_i32_952 c1_i32_954 k0_t10
  let c256_i32_967 : BitVec 32 := 256#32
  let v1379 : BitVec 32 := Scalar.muli arg28 c256_i32_967
  let v1380 : BitVec 32 := v1379
  let v1381 : Index := Scalar.indexCast v1380
  let c0_969 : Index := 0#32
  ![1, v1381.toNat, 0]
def k0_mult51 (i : grid0.Coords) (k0_t10 : Fin (k0_t10_loop i).trips) : BitVec 32 :=
  let c0_i32_952 : BitVec 32 := 0#32
  let c1_i32_954 : BitVec 32 := 1#32
  let arg28 : BitVec 32 := Scf.iv c0_i32_952 c1_i32_954 k0_t10
  let c256_i32_970 : BitVec 32 := 256#32
  let v1384 : BitVec 32 := Scalar.muli arg28 c256_i32_970
  v1384
def k0_off699 (i : grid0.Coords) (k0_t10 : Fin (k0_t10_loop i).trips) : Fin 3 → Nat :=
  let c2_971 : Index := 2#32
  let c0_i32_952 : BitVec 32 := 0#32
  let c1_i32_954 : BitVec 32 := 1#32
  let arg28 : BitVec 32 := Scf.iv c0_i32_952 c1_i32_954 k0_t10
  let c256_i32_970 : BitVec 32 := 256#32
  let v1384 : BitVec 32 := Scalar.muli arg28 c256_i32_970
  let v1385 : BitVec 32 := v1384
  let v1386 : Index := Scalar.indexCast v1385
  let c0_972 : Index := 0#32
  ![2, v1386.toNat, 0]
def k0_mult52 (i : grid0.Coords) (k0_t10 : Fin (k0_t10_loop i).trips) : BitVec 32 :=
  let c0_i32_952 : BitVec 32 := 0#32
  let c1_i32_954 : BitVec 32 := 1#32
  let arg28 : BitVec 32 := Scf.iv c0_i32_952 c1_i32_954 k0_t10
  let c256_i32_973 : BitVec 32 := 256#32
  let v1389 : BitVec 32 := Scalar.muli arg28 c256_i32_973
  v1389
def k0_off700 (i : grid0.Coords) (k0_t10 : Fin (k0_t10_loop i).trips) : Fin 3 → Nat :=
  let c3_974 : Index := 3#32
  let c0_i32_952 : BitVec 32 := 0#32
  let c1_i32_954 : BitVec 32 := 1#32
  let arg28 : BitVec 32 := Scf.iv c0_i32_952 c1_i32_954 k0_t10
  let c256_i32_973 : BitVec 32 := 256#32
  let v1389 : BitVec 32 := Scalar.muli arg28 c256_i32_973
  let v1390 : BitVec 32 := v1389
  let v1391 : Index := Scalar.indexCast v1390
  let c0_975 : Index := 0#32
  ![3, v1391.toNat, 0]
@[reducible] def k0_t11_loop (i : grid0.Coords) : Scf.Loop 32 :=
  let c0_i32_952 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1343 : BitVec 32 := Scalar.subi v17 c0_i32_952
  let c1_i32_953 : BitVec 32 := 1#32
  let v1345 : BitVec 32 := Scalar.divsi v1343 c1_i32_953
  let v1346 : BitVec 32 := Scalar.muli v1345 c1_i32_953
  let v1347 : BitVec 32 := Scalar.addi c0_i32_952 v1346
  let v1344 : BitVec 32 := Scalar.addi c0_i32_952 v1343
  let c1_i32_955 : BitVec 32 := 1#32
  ⟨v1347, v1344, c1_i32_955⟩
def k0_mult53 (i : grid0.Coords) (k0_t11 : Fin (k0_t11_loop i).trips) : BitVec 32 :=
  let c0_i32_952 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1343 : BitVec 32 := Scalar.subi v17 c0_i32_952
  let c1_i32_953 : BitVec 32 := 1#32
  let v1345 : BitVec 32 := Scalar.divsi v1343 c1_i32_953
  let v1346 : BitVec 32 := Scalar.muli v1345 c1_i32_953
  let v1347 : BitVec 32 := Scalar.addi c0_i32_952 v1346
  let c1_i32_955 : BitVec 32 := 1#32
  let arg28 : BitVec 32 := Scf.iv v1347 c1_i32_955 k0_t11
  let c256_i32_964 : BitVec 32 := 256#32
  let v1374 : BitVec 32 := Scalar.muli arg28 c256_i32_964
  v1374
def k0_off701 (i : grid0.Coords) (k0_t11 : Fin (k0_t11_loop i).trips) : Fin 3 → Nat :=
  let c0_965 : Index := 0#32
  let c0_i32_952 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1343 : BitVec 32 := Scalar.subi v17 c0_i32_952
  let c1_i32_953 : BitVec 32 := 1#32
  let v1345 : BitVec 32 := Scalar.divsi v1343 c1_i32_953
  let v1346 : BitVec 32 := Scalar.muli v1345 c1_i32_953
  let v1347 : BitVec 32 := Scalar.addi c0_i32_952 v1346
  let c1_i32_955 : BitVec 32 := 1#32
  let arg28 : BitVec 32 := Scf.iv v1347 c1_i32_955 k0_t11
  let c256_i32_964 : BitVec 32 := 256#32
  let v1374 : BitVec 32 := Scalar.muli arg28 c256_i32_964
  let v1375 : BitVec 32 := v1374
  let v1376 : Index := Scalar.indexCast v1375
  let c0_966 : Index := 0#32
  ![0, v1376.toNat, 0]
def k0_mult54 (i : grid0.Coords) (k0_t11 : Fin (k0_t11_loop i).trips) : BitVec 32 :=
  let c0_i32_952 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1343 : BitVec 32 := Scalar.subi v17 c0_i32_952
  let c1_i32_953 : BitVec 32 := 1#32
  let v1345 : BitVec 32 := Scalar.divsi v1343 c1_i32_953
  let v1346 : BitVec 32 := Scalar.muli v1345 c1_i32_953
  let v1347 : BitVec 32 := Scalar.addi c0_i32_952 v1346
  let c1_i32_955 : BitVec 32 := 1#32
  let arg28 : BitVec 32 := Scf.iv v1347 c1_i32_955 k0_t11
  let c256_i32_967 : BitVec 32 := 256#32
  let v1379 : BitVec 32 := Scalar.muli arg28 c256_i32_967
  v1379
def k0_off702 (i : grid0.Coords) (k0_t11 : Fin (k0_t11_loop i).trips) : Fin 3 → Nat :=
  let c1_968 : Index := 1#32
  let c0_i32_952 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1343 : BitVec 32 := Scalar.subi v17 c0_i32_952
  let c1_i32_953 : BitVec 32 := 1#32
  let v1345 : BitVec 32 := Scalar.divsi v1343 c1_i32_953
  let v1346 : BitVec 32 := Scalar.muli v1345 c1_i32_953
  let v1347 : BitVec 32 := Scalar.addi c0_i32_952 v1346
  let c1_i32_955 : BitVec 32 := 1#32
  let arg28 : BitVec 32 := Scf.iv v1347 c1_i32_955 k0_t11
  let c256_i32_967 : BitVec 32 := 256#32
  let v1379 : BitVec 32 := Scalar.muli arg28 c256_i32_967
  let v1380 : BitVec 32 := v1379
  let v1381 : Index := Scalar.indexCast v1380
  let c0_969 : Index := 0#32
  ![1, v1381.toNat, 0]
def k0_mult55 (i : grid0.Coords) (k0_t11 : Fin (k0_t11_loop i).trips) : BitVec 32 :=
  let c0_i32_952 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1343 : BitVec 32 := Scalar.subi v17 c0_i32_952
  let c1_i32_953 : BitVec 32 := 1#32
  let v1345 : BitVec 32 := Scalar.divsi v1343 c1_i32_953
  let v1346 : BitVec 32 := Scalar.muli v1345 c1_i32_953
  let v1347 : BitVec 32 := Scalar.addi c0_i32_952 v1346
  let c1_i32_955 : BitVec 32 := 1#32
  let arg28 : BitVec 32 := Scf.iv v1347 c1_i32_955 k0_t11
  let c256_i32_970 : BitVec 32 := 256#32
  let v1384 : BitVec 32 := Scalar.muli arg28 c256_i32_970
  v1384
def k0_off703 (i : grid0.Coords) (k0_t11 : Fin (k0_t11_loop i).trips) : Fin 3 → Nat :=
  let c2_971 : Index := 2#32
  let c0_i32_952 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1343 : BitVec 32 := Scalar.subi v17 c0_i32_952
  let c1_i32_953 : BitVec 32 := 1#32
  let v1345 : BitVec 32 := Scalar.divsi v1343 c1_i32_953
  let v1346 : BitVec 32 := Scalar.muli v1345 c1_i32_953
  let v1347 : BitVec 32 := Scalar.addi c0_i32_952 v1346
  let c1_i32_955 : BitVec 32 := 1#32
  let arg28 : BitVec 32 := Scf.iv v1347 c1_i32_955 k0_t11
  let c256_i32_970 : BitVec 32 := 256#32
  let v1384 : BitVec 32 := Scalar.muli arg28 c256_i32_970
  let v1385 : BitVec 32 := v1384
  let v1386 : Index := Scalar.indexCast v1385
  let c0_972 : Index := 0#32
  ![2, v1386.toNat, 0]
def k0_mult56 (i : grid0.Coords) (k0_t11 : Fin (k0_t11_loop i).trips) : BitVec 32 :=
  let c0_i32_952 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1343 : BitVec 32 := Scalar.subi v17 c0_i32_952
  let c1_i32_953 : BitVec 32 := 1#32
  let v1345 : BitVec 32 := Scalar.divsi v1343 c1_i32_953
  let v1346 : BitVec 32 := Scalar.muli v1345 c1_i32_953
  let v1347 : BitVec 32 := Scalar.addi c0_i32_952 v1346
  let c1_i32_955 : BitVec 32 := 1#32
  let arg28 : BitVec 32 := Scf.iv v1347 c1_i32_955 k0_t11
  let c256_i32_973 : BitVec 32 := 256#32
  let v1389 : BitVec 32 := Scalar.muli arg28 c256_i32_973
  v1389
def k0_off704 (i : grid0.Coords) (k0_t11 : Fin (k0_t11_loop i).trips) : Fin 3 → Nat :=
  let c3_974 : Index := 3#32
  let c0_i32_952 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1343 : BitVec 32 := Scalar.subi v17 c0_i32_952
  let c1_i32_953 : BitVec 32 := 1#32
  let v1345 : BitVec 32 := Scalar.divsi v1343 c1_i32_953
  let v1346 : BitVec 32 := Scalar.muli v1345 c1_i32_953
  let v1347 : BitVec 32 := Scalar.addi c0_i32_952 v1346
  let c1_i32_955 : BitVec 32 := 1#32
  let arg28 : BitVec 32 := Scf.iv v1347 c1_i32_955 k0_t11
  let c256_i32_973 : BitVec 32 := 256#32
  let v1389 : BitVec 32 := Scalar.muli arg28 c256_i32_973
  let v1390 : BitVec 32 := v1389
  let v1391 : Index := Scalar.indexCast v1390
  let c0_975 : Index := 0#32
  ![3, v1391.toNat, 0]
@[reducible] def k0_t12_loop (i : grid0.Coords) : Scf.Loop 32 :=
  let c0_i32_862 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1160 : BitVec 32 := Scalar.subi v17 c0_i32_862
  let c1_i32_863 : BitVec 32 := 1#32
  let v1162 : BitVec 32 := Scalar.divsi v1160 c1_i32_863
  let v1163 : BitVec 32 := Scalar.muli v1162 c1_i32_863
  let v1164 : BitVec 32 := Scalar.addi c0_i32_862 v1163
  let c1_i32_864 : BitVec 32 := 1#32
  ⟨c0_i32_862, v1164, c1_i32_864⟩
def k0_mult57 (i : grid0.Coords) (k0_t12 : Fin (k0_t12_loop i).trips) : BitVec 32 :=
  let c0_i32_862 : BitVec 32 := 0#32
  let c1_i32_864 : BitVec 32 := 1#32
  let arg19 : BitVec 32 := Scf.iv c0_i32_862 c1_i32_864 k0_t12
  let c256_i32_894 : BitVec 32 := 256#32
  let v1225 : BitVec 32 := Scalar.muli arg19 c256_i32_894
  v1225
def k0_off705 (i : grid0.Coords) (k0_t12 : Fin (k0_t12_loop i).trips) : Fin 3 → Nat :=
  let c0_895 : Index := 0#32
  let c0_i32_862 : BitVec 32 := 0#32
  let c1_i32_864 : BitVec 32 := 1#32
  let arg19 : BitVec 32 := Scf.iv c0_i32_862 c1_i32_864 k0_t12
  let c256_i32_894 : BitVec 32 := 256#32
  let v1225 : BitVec 32 := Scalar.muli arg19 c256_i32_894
  let v1226 : BitVec 32 := v1225
  let v1227 : Index := Scalar.indexCast v1226
  let c0_896 : Index := 0#32
  ![0, v1227.toNat, 0]
def k0_mult58 (i : grid0.Coords) (k0_t12 : Fin (k0_t12_loop i).trips) : BitVec 32 :=
  let c0_i32_862 : BitVec 32 := 0#32
  let c1_i32_864 : BitVec 32 := 1#32
  let arg19 : BitVec 32 := Scf.iv c0_i32_862 c1_i32_864 k0_t12
  let c256_i32_897 : BitVec 32 := 256#32
  let v1230 : BitVec 32 := Scalar.muli arg19 c256_i32_897
  v1230
def k0_off706 (i : grid0.Coords) (k0_t12 : Fin (k0_t12_loop i).trips) : Fin 3 → Nat :=
  let c1_898 : Index := 1#32
  let c0_i32_862 : BitVec 32 := 0#32
  let c1_i32_864 : BitVec 32 := 1#32
  let arg19 : BitVec 32 := Scf.iv c0_i32_862 c1_i32_864 k0_t12
  let c256_i32_897 : BitVec 32 := 256#32
  let v1230 : BitVec 32 := Scalar.muli arg19 c256_i32_897
  let v1231 : BitVec 32 := v1230
  let v1232 : Index := Scalar.indexCast v1231
  let c0_899 : Index := 0#32
  ![1, v1232.toNat, 0]
def k0_mult59 (i : grid0.Coords) (k0_t12 : Fin (k0_t12_loop i).trips) : BitVec 32 :=
  let c0_i32_862 : BitVec 32 := 0#32
  let c1_i32_864 : BitVec 32 := 1#32
  let arg19 : BitVec 32 := Scf.iv c0_i32_862 c1_i32_864 k0_t12
  let c256_i32_900 : BitVec 32 := 256#32
  let v1235 : BitVec 32 := Scalar.muli arg19 c256_i32_900
  v1235
def k0_off707 (i : grid0.Coords) (k0_t12 : Fin (k0_t12_loop i).trips) : Fin 3 → Nat :=
  let c2_901 : Index := 2#32
  let c0_i32_862 : BitVec 32 := 0#32
  let c1_i32_864 : BitVec 32 := 1#32
  let arg19 : BitVec 32 := Scf.iv c0_i32_862 c1_i32_864 k0_t12
  let c256_i32_900 : BitVec 32 := 256#32
  let v1235 : BitVec 32 := Scalar.muli arg19 c256_i32_900
  let v1236 : BitVec 32 := v1235
  let v1237 : Index := Scalar.indexCast v1236
  let c0_902 : Index := 0#32
  ![2, v1237.toNat, 0]
def k0_mult60 (i : grid0.Coords) (k0_t12 : Fin (k0_t12_loop i).trips) : BitVec 32 :=
  let c0_i32_862 : BitVec 32 := 0#32
  let c1_i32_864 : BitVec 32 := 1#32
  let arg19 : BitVec 32 := Scf.iv c0_i32_862 c1_i32_864 k0_t12
  let c256_i32_903 : BitVec 32 := 256#32
  let v1240 : BitVec 32 := Scalar.muli arg19 c256_i32_903
  v1240
def k0_off708 (i : grid0.Coords) (k0_t12 : Fin (k0_t12_loop i).trips) : Fin 3 → Nat :=
  let c3_904 : Index := 3#32
  let c0_i32_862 : BitVec 32 := 0#32
  let c1_i32_864 : BitVec 32 := 1#32
  let arg19 : BitVec 32 := Scf.iv c0_i32_862 c1_i32_864 k0_t12
  let c256_i32_903 : BitVec 32 := 256#32
  let v1240 : BitVec 32 := Scalar.muli arg19 c256_i32_903
  let v1241 : BitVec 32 := v1240
  let v1242 : Index := Scalar.indexCast v1241
  let c0_905 : Index := 0#32
  ![3, v1242.toNat, 0]
@[reducible] def k0_t13_loop (i : grid0.Coords) : Scf.Loop 32 :=
  let c0_i32_862 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1160 : BitVec 32 := Scalar.subi v17 c0_i32_862
  let c1_i32_863 : BitVec 32 := 1#32
  let v1162 : BitVec 32 := Scalar.divsi v1160 c1_i32_863
  let v1163 : BitVec 32 := Scalar.muli v1162 c1_i32_863
  let v1164 : BitVec 32 := Scalar.addi c0_i32_862 v1163
  let v1161 : BitVec 32 := Scalar.addi c0_i32_862 v1160
  let c1_i32_865 : BitVec 32 := 1#32
  ⟨v1164, v1161, c1_i32_865⟩
def k0_mult61 (i : grid0.Coords) (k0_t13 : Fin (k0_t13_loop i).trips) : BitVec 32 :=
  let c0_i32_862 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1160 : BitVec 32 := Scalar.subi v17 c0_i32_862
  let c1_i32_863 : BitVec 32 := 1#32
  let v1162 : BitVec 32 := Scalar.divsi v1160 c1_i32_863
  let v1163 : BitVec 32 := Scalar.muli v1162 c1_i32_863
  let v1164 : BitVec 32 := Scalar.addi c0_i32_862 v1163
  let c1_i32_865 : BitVec 32 := 1#32
  let arg19 : BitVec 32 := Scf.iv v1164 c1_i32_865 k0_t13
  let c256_i32_894 : BitVec 32 := 256#32
  let v1225 : BitVec 32 := Scalar.muli arg19 c256_i32_894
  v1225
def k0_off709 (i : grid0.Coords) (k0_t13 : Fin (k0_t13_loop i).trips) : Fin 3 → Nat :=
  let c0_895 : Index := 0#32
  let c0_i32_862 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1160 : BitVec 32 := Scalar.subi v17 c0_i32_862
  let c1_i32_863 : BitVec 32 := 1#32
  let v1162 : BitVec 32 := Scalar.divsi v1160 c1_i32_863
  let v1163 : BitVec 32 := Scalar.muli v1162 c1_i32_863
  let v1164 : BitVec 32 := Scalar.addi c0_i32_862 v1163
  let c1_i32_865 : BitVec 32 := 1#32
  let arg19 : BitVec 32 := Scf.iv v1164 c1_i32_865 k0_t13
  let c256_i32_894 : BitVec 32 := 256#32
  let v1225 : BitVec 32 := Scalar.muli arg19 c256_i32_894
  let v1226 : BitVec 32 := v1225
  let v1227 : Index := Scalar.indexCast v1226
  let c0_896 : Index := 0#32
  ![0, v1227.toNat, 0]
def k0_mult62 (i : grid0.Coords) (k0_t13 : Fin (k0_t13_loop i).trips) : BitVec 32 :=
  let c0_i32_862 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1160 : BitVec 32 := Scalar.subi v17 c0_i32_862
  let c1_i32_863 : BitVec 32 := 1#32
  let v1162 : BitVec 32 := Scalar.divsi v1160 c1_i32_863
  let v1163 : BitVec 32 := Scalar.muli v1162 c1_i32_863
  let v1164 : BitVec 32 := Scalar.addi c0_i32_862 v1163
  let c1_i32_865 : BitVec 32 := 1#32
  let arg19 : BitVec 32 := Scf.iv v1164 c1_i32_865 k0_t13
  let c256_i32_897 : BitVec 32 := 256#32
  let v1230 : BitVec 32 := Scalar.muli arg19 c256_i32_897
  v1230
def k0_off710 (i : grid0.Coords) (k0_t13 : Fin (k0_t13_loop i).trips) : Fin 3 → Nat :=
  let c1_898 : Index := 1#32
  let c0_i32_862 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1160 : BitVec 32 := Scalar.subi v17 c0_i32_862
  let c1_i32_863 : BitVec 32 := 1#32
  let v1162 : BitVec 32 := Scalar.divsi v1160 c1_i32_863
  let v1163 : BitVec 32 := Scalar.muli v1162 c1_i32_863
  let v1164 : BitVec 32 := Scalar.addi c0_i32_862 v1163
  let c1_i32_865 : BitVec 32 := 1#32
  let arg19 : BitVec 32 := Scf.iv v1164 c1_i32_865 k0_t13
  let c256_i32_897 : BitVec 32 := 256#32
  let v1230 : BitVec 32 := Scalar.muli arg19 c256_i32_897
  let v1231 : BitVec 32 := v1230
  let v1232 : Index := Scalar.indexCast v1231
  let c0_899 : Index := 0#32
  ![1, v1232.toNat, 0]
def k0_mult63 (i : grid0.Coords) (k0_t13 : Fin (k0_t13_loop i).trips) : BitVec 32 :=
  let c0_i32_862 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1160 : BitVec 32 := Scalar.subi v17 c0_i32_862
  let c1_i32_863 : BitVec 32 := 1#32
  let v1162 : BitVec 32 := Scalar.divsi v1160 c1_i32_863
  let v1163 : BitVec 32 := Scalar.muli v1162 c1_i32_863
  let v1164 : BitVec 32 := Scalar.addi c0_i32_862 v1163
  let c1_i32_865 : BitVec 32 := 1#32
  let arg19 : BitVec 32 := Scf.iv v1164 c1_i32_865 k0_t13
  let c256_i32_900 : BitVec 32 := 256#32
  let v1235 : BitVec 32 := Scalar.muli arg19 c256_i32_900
  v1235
def k0_off711 (i : grid0.Coords) (k0_t13 : Fin (k0_t13_loop i).trips) : Fin 3 → Nat :=
  let c2_901 : Index := 2#32
  let c0_i32_862 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1160 : BitVec 32 := Scalar.subi v17 c0_i32_862
  let c1_i32_863 : BitVec 32 := 1#32
  let v1162 : BitVec 32 := Scalar.divsi v1160 c1_i32_863
  let v1163 : BitVec 32 := Scalar.muli v1162 c1_i32_863
  let v1164 : BitVec 32 := Scalar.addi c0_i32_862 v1163
  let c1_i32_865 : BitVec 32 := 1#32
  let arg19 : BitVec 32 := Scf.iv v1164 c1_i32_865 k0_t13
  let c256_i32_900 : BitVec 32 := 256#32
  let v1235 : BitVec 32 := Scalar.muli arg19 c256_i32_900
  let v1236 : BitVec 32 := v1235
  let v1237 : Index := Scalar.indexCast v1236
  let c0_902 : Index := 0#32
  ![2, v1237.toNat, 0]
def k0_mult64 (i : grid0.Coords) (k0_t13 : Fin (k0_t13_loop i).trips) : BitVec 32 :=
  let c0_i32_862 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1160 : BitVec 32 := Scalar.subi v17 c0_i32_862
  let c1_i32_863 : BitVec 32 := 1#32
  let v1162 : BitVec 32 := Scalar.divsi v1160 c1_i32_863
  let v1163 : BitVec 32 := Scalar.muli v1162 c1_i32_863
  let v1164 : BitVec 32 := Scalar.addi c0_i32_862 v1163
  let c1_i32_865 : BitVec 32 := 1#32
  let arg19 : BitVec 32 := Scf.iv v1164 c1_i32_865 k0_t13
  let c256_i32_903 : BitVec 32 := 256#32
  let v1240 : BitVec 32 := Scalar.muli arg19 c256_i32_903
  v1240
def k0_off712 (i : grid0.Coords) (k0_t13 : Fin (k0_t13_loop i).trips) : Fin 3 → Nat :=
  let c3_904 : Index := 3#32
  let c0_i32_862 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1160 : BitVec 32 := Scalar.subi v17 c0_i32_862
  let c1_i32_863 : BitVec 32 := 1#32
  let v1162 : BitVec 32 := Scalar.divsi v1160 c1_i32_863
  let v1163 : BitVec 32 := Scalar.muli v1162 c1_i32_863
  let v1164 : BitVec 32 := Scalar.addi c0_i32_862 v1163
  let c1_i32_865 : BitVec 32 := 1#32
  let arg19 : BitVec 32 := Scf.iv v1164 c1_i32_865 k0_t13
  let c256_i32_903 : BitVec 32 := 256#32
  let v1240 : BitVec 32 := Scalar.muli arg19 c256_i32_903
  let v1241 : BitVec 32 := v1240
  let v1242 : Index := Scalar.indexCast v1241
  let c0_905 : Index := 0#32
  ![3, v1242.toNat, 0]
@[reducible] def k0_t14_loop (i : grid0.Coords) : Scf.Loop 32 :=
  let c0_i32_872 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1185 : BitVec 32 := Scalar.subi v17 c0_i32_872
  let c1_i32_873 : BitVec 32 := 1#32
  let v1187 : BitVec 32 := Scalar.divsi v1185 c1_i32_873
  let v1188 : BitVec 32 := Scalar.muli v1187 c1_i32_873
  let v1189 : BitVec 32 := Scalar.addi c0_i32_872 v1188
  let c1_i32_874 : BitVec 32 := 1#32
  ⟨c0_i32_872, v1189, c1_i32_874⟩
def k0_mult65 (i : grid0.Coords) (k0_t14 : Fin (k0_t14_loop i).trips) : BitVec 32 :=
  let c0_i32_872 : BitVec 32 := 0#32
  let c1_i32_874 : BitVec 32 := 1#32
  let arg19 : BitVec 32 := Scf.iv c0_i32_872 c1_i32_874 k0_t14
  let c256_i32_894 : BitVec 32 := 256#32
  let v1225 : BitVec 32 := Scalar.muli arg19 c256_i32_894
  v1225
def k0_off713 (i : grid0.Coords) (k0_t14 : Fin (k0_t14_loop i).trips) : Fin 3 → Nat :=
  let c0_895 : Index := 0#32
  let c0_i32_872 : BitVec 32 := 0#32
  let c1_i32_874 : BitVec 32 := 1#32
  let arg19 : BitVec 32 := Scf.iv c0_i32_872 c1_i32_874 k0_t14
  let c256_i32_894 : BitVec 32 := 256#32
  let v1225 : BitVec 32 := Scalar.muli arg19 c256_i32_894
  let v1226 : BitVec 32 := v1225
  let v1227 : Index := Scalar.indexCast v1226
  let c0_896 : Index := 0#32
  ![0, v1227.toNat, 0]
def k0_mult66 (i : grid0.Coords) (k0_t14 : Fin (k0_t14_loop i).trips) : BitVec 32 :=
  let c0_i32_872 : BitVec 32 := 0#32
  let c1_i32_874 : BitVec 32 := 1#32
  let arg19 : BitVec 32 := Scf.iv c0_i32_872 c1_i32_874 k0_t14
  let c256_i32_901 : BitVec 32 := 256#32
  let v1244 : BitVec 32 := Scalar.muli arg19 c256_i32_901
  v1244
@[reducible] def k0_t15_loop (i : grid0.Coords) : Scf.Loop 32 :=
  let c0_i32_872 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1185 : BitVec 32 := Scalar.subi v17 c0_i32_872
  let c1_i32_873 : BitVec 32 := 1#32
  let v1187 : BitVec 32 := Scalar.divsi v1185 c1_i32_873
  let v1188 : BitVec 32 := Scalar.muli v1187 c1_i32_873
  let v1189 : BitVec 32 := Scalar.addi c0_i32_872 v1188
  let v1186 : BitVec 32 := Scalar.addi c0_i32_872 v1185
  let c1_i32_875 : BitVec 32 := 1#32
  ⟨v1189, v1186, c1_i32_875⟩
def k0_mult67 (i : grid0.Coords) (k0_t15 : Fin (k0_t15_loop i).trips) : BitVec 32 :=
  let c0_i32_872 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1185 : BitVec 32 := Scalar.subi v17 c0_i32_872
  let c1_i32_873 : BitVec 32 := 1#32
  let v1187 : BitVec 32 := Scalar.divsi v1185 c1_i32_873
  let v1188 : BitVec 32 := Scalar.muli v1187 c1_i32_873
  let v1189 : BitVec 32 := Scalar.addi c0_i32_872 v1188
  let c1_i32_875 : BitVec 32 := 1#32
  let arg19 : BitVec 32 := Scf.iv v1189 c1_i32_875 k0_t15
  let c256_i32_894 : BitVec 32 := 256#32
  let v1225 : BitVec 32 := Scalar.muli arg19 c256_i32_894
  v1225
def k0_off714 (i : grid0.Coords) (k0_t15 : Fin (k0_t15_loop i).trips) : Fin 3 → Nat :=
  let c0_895 : Index := 0#32
  let c0_i32_872 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1185 : BitVec 32 := Scalar.subi v17 c0_i32_872
  let c1_i32_873 : BitVec 32 := 1#32
  let v1187 : BitVec 32 := Scalar.divsi v1185 c1_i32_873
  let v1188 : BitVec 32 := Scalar.muli v1187 c1_i32_873
  let v1189 : BitVec 32 := Scalar.addi c0_i32_872 v1188
  let c1_i32_875 : BitVec 32 := 1#32
  let arg19 : BitVec 32 := Scf.iv v1189 c1_i32_875 k0_t15
  let c256_i32_894 : BitVec 32 := 256#32
  let v1225 : BitVec 32 := Scalar.muli arg19 c256_i32_894
  let v1226 : BitVec 32 := v1225
  let v1227 : Index := Scalar.indexCast v1226
  let c0_896 : Index := 0#32
  ![0, v1227.toNat, 0]
def k0_mult68 (i : grid0.Coords) (k0_t15 : Fin (k0_t15_loop i).trips) : BitVec 32 :=
  let c0_i32_872 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1185 : BitVec 32 := Scalar.subi v17 c0_i32_872
  let c1_i32_873 : BitVec 32 := 1#32
  let v1187 : BitVec 32 := Scalar.divsi v1185 c1_i32_873
  let v1188 : BitVec 32 := Scalar.muli v1187 c1_i32_873
  let v1189 : BitVec 32 := Scalar.addi c0_i32_872 v1188
  let c1_i32_875 : BitVec 32 := 1#32
  let arg19 : BitVec 32 := Scf.iv v1189 c1_i32_875 k0_t15
  let c256_i32_901 : BitVec 32 := 256#32
  let v1244 : BitVec 32 := Scalar.muli arg19 c256_i32_901
  v1244
@[reducible] def k0_t16_loop (i : grid0.Coords) : Scf.Loop 32 :=
  let c0_i32_878 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1196 : BitVec 32 := Scalar.subi v17 c0_i32_878
  let c1_i32_879 : BitVec 32 := 1#32
  let v1198 : BitVec 32 := Scalar.divsi v1196 c1_i32_879
  let v1199 : BitVec 32 := Scalar.muli v1198 c1_i32_879
  let v1200 : BitVec 32 := Scalar.addi c0_i32_878 v1199
  let c1_i32_880 : BitVec 32 := 1#32
  ⟨c0_i32_878, v1200, c1_i32_880⟩
def k0_mult69 (i : grid0.Coords) (k0_t16 : Fin (k0_t16_loop i).trips) : BitVec 32 :=
  let c0_i32_878 : BitVec 32 := 0#32
  let c1_i32_880 : BitVec 32 := 1#32
  let arg19 : BitVec 32 := Scf.iv c0_i32_878 c1_i32_880 k0_t16
  let c256_i32_894 : BitVec 32 := 256#32
  let v1225 : BitVec 32 := Scalar.muli arg19 c256_i32_894
  v1225
def k0_off715 (i : grid0.Coords) (k0_t16 : Fin (k0_t16_loop i).trips) : Fin 3 → Nat :=
  let c1_895 : Index := 1#32
  let c0_i32_878 : BitVec 32 := 0#32
  let c1_i32_880 : BitVec 32 := 1#32
  let arg19 : BitVec 32 := Scf.iv c0_i32_878 c1_i32_880 k0_t16
  let c256_i32_894 : BitVec 32 := 256#32
  let v1225 : BitVec 32 := Scalar.muli arg19 c256_i32_894
  let v1226 : BitVec 32 := v1225
  let v1227 : Index := Scalar.indexCast v1226
  let c0_896 : Index := 0#32
  ![1, v1227.toNat, 0]
def k0_mult70 (i : grid0.Coords) (k0_t16 : Fin (k0_t16_loop i).trips) : BitVec 32 :=
  let c0_i32_878 : BitVec 32 := 0#32
  let c1_i32_880 : BitVec 32 := 1#32
  let arg19 : BitVec 32 := Scf.iv c0_i32_878 c1_i32_880 k0_t16
  let c256_i32_901 : BitVec 32 := 256#32
  let v1244 : BitVec 32 := Scalar.muli arg19 c256_i32_901
  v1244
@[reducible] def k0_t17_loop (i : grid0.Coords) : Scf.Loop 32 :=
  let c0_i32_878 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1196 : BitVec 32 := Scalar.subi v17 c0_i32_878
  let c1_i32_879 : BitVec 32 := 1#32
  let v1198 : BitVec 32 := Scalar.divsi v1196 c1_i32_879
  let v1199 : BitVec 32 := Scalar.muli v1198 c1_i32_879
  let v1200 : BitVec 32 := Scalar.addi c0_i32_878 v1199
  let v1197 : BitVec 32 := Scalar.addi c0_i32_878 v1196
  let c1_i32_881 : BitVec 32 := 1#32
  ⟨v1200, v1197, c1_i32_881⟩
def k0_mult71 (i : grid0.Coords) (k0_t17 : Fin (k0_t17_loop i).trips) : BitVec 32 :=
  let c0_i32_878 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1196 : BitVec 32 := Scalar.subi v17 c0_i32_878
  let c1_i32_879 : BitVec 32 := 1#32
  let v1198 : BitVec 32 := Scalar.divsi v1196 c1_i32_879
  let v1199 : BitVec 32 := Scalar.muli v1198 c1_i32_879
  let v1200 : BitVec 32 := Scalar.addi c0_i32_878 v1199
  let c1_i32_881 : BitVec 32 := 1#32
  let arg19 : BitVec 32 := Scf.iv v1200 c1_i32_881 k0_t17
  let c256_i32_894 : BitVec 32 := 256#32
  let v1225 : BitVec 32 := Scalar.muli arg19 c256_i32_894
  v1225
def k0_off716 (i : grid0.Coords) (k0_t17 : Fin (k0_t17_loop i).trips) : Fin 3 → Nat :=
  let c1_895 : Index := 1#32
  let c0_i32_878 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1196 : BitVec 32 := Scalar.subi v17 c0_i32_878
  let c1_i32_879 : BitVec 32 := 1#32
  let v1198 : BitVec 32 := Scalar.divsi v1196 c1_i32_879
  let v1199 : BitVec 32 := Scalar.muli v1198 c1_i32_879
  let v1200 : BitVec 32 := Scalar.addi c0_i32_878 v1199
  let c1_i32_881 : BitVec 32 := 1#32
  let arg19 : BitVec 32 := Scf.iv v1200 c1_i32_881 k0_t17
  let c256_i32_894 : BitVec 32 := 256#32
  let v1225 : BitVec 32 := Scalar.muli arg19 c256_i32_894
  let v1226 : BitVec 32 := v1225
  let v1227 : Index := Scalar.indexCast v1226
  let c0_896 : Index := 0#32
  ![1, v1227.toNat, 0]
def k0_mult72 (i : grid0.Coords) (k0_t17 : Fin (k0_t17_loop i).trips) : BitVec 32 :=
  let c0_i32_878 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1196 : BitVec 32 := Scalar.subi v17 c0_i32_878
  let c1_i32_879 : BitVec 32 := 1#32
  let v1198 : BitVec 32 := Scalar.divsi v1196 c1_i32_879
  let v1199 : BitVec 32 := Scalar.muli v1198 c1_i32_879
  let v1200 : BitVec 32 := Scalar.addi c0_i32_878 v1199
  let c1_i32_881 : BitVec 32 := 1#32
  let arg19 : BitVec 32 := Scf.iv v1200 c1_i32_881 k0_t17
  let c256_i32_901 : BitVec 32 := 256#32
  let v1244 : BitVec 32 := Scalar.muli arg19 c256_i32_901
  v1244
@[reducible] def k0_t18_loop (i : grid0.Coords) : Scf.Loop 32 :=
  let c0_i32_884 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1207 : BitVec 32 := Scalar.subi v17 c0_i32_884
  let c1_i32_885 : BitVec 32 := 1#32
  let v1209 : BitVec 32 := Scalar.divsi v1207 c1_i32_885
  let v1210 : BitVec 32 := Scalar.muli v1209 c1_i32_885
  let v1211 : BitVec 32 := Scalar.addi c0_i32_884 v1210
  let c1_i32_886 : BitVec 32 := 1#32
  ⟨c0_i32_884, v1211, c1_i32_886⟩
def k0_mult73 (i : grid0.Coords) (k0_t18 : Fin (k0_t18_loop i).trips) : BitVec 32 :=
  let c0_i32_884 : BitVec 32 := 0#32
  let c1_i32_886 : BitVec 32 := 1#32
  let arg19 : BitVec 32 := Scf.iv c0_i32_884 c1_i32_886 k0_t18
  let c256_i32_894 : BitVec 32 := 256#32
  let v1225 : BitVec 32 := Scalar.muli arg19 c256_i32_894
  v1225
def k0_off717 (i : grid0.Coords) (k0_t18 : Fin (k0_t18_loop i).trips) : Fin 3 → Nat :=
  let c2_895 : Index := 2#32
  let c0_i32_884 : BitVec 32 := 0#32
  let c1_i32_886 : BitVec 32 := 1#32
  let arg19 : BitVec 32 := Scf.iv c0_i32_884 c1_i32_886 k0_t18
  let c256_i32_894 : BitVec 32 := 256#32
  let v1225 : BitVec 32 := Scalar.muli arg19 c256_i32_894
  let v1226 : BitVec 32 := v1225
  let v1227 : Index := Scalar.indexCast v1226
  let c0_896 : Index := 0#32
  ![2, v1227.toNat, 0]
def k0_mult74 (i : grid0.Coords) (k0_t18 : Fin (k0_t18_loop i).trips) : BitVec 32 :=
  let c0_i32_884 : BitVec 32 := 0#32
  let c1_i32_886 : BitVec 32 := 1#32
  let arg19 : BitVec 32 := Scf.iv c0_i32_884 c1_i32_886 k0_t18
  let c256_i32_901 : BitVec 32 := 256#32
  let v1244 : BitVec 32 := Scalar.muli arg19 c256_i32_901
  v1244
@[reducible] def k0_t19_loop (i : grid0.Coords) : Scf.Loop 32 :=
  let c0_i32_884 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1207 : BitVec 32 := Scalar.subi v17 c0_i32_884
  let c1_i32_885 : BitVec 32 := 1#32
  let v1209 : BitVec 32 := Scalar.divsi v1207 c1_i32_885
  let v1210 : BitVec 32 := Scalar.muli v1209 c1_i32_885
  let v1211 : BitVec 32 := Scalar.addi c0_i32_884 v1210
  let v1208 : BitVec 32 := Scalar.addi c0_i32_884 v1207
  let c1_i32_887 : BitVec 32 := 1#32
  ⟨v1211, v1208, c1_i32_887⟩
def k0_mult75 (i : grid0.Coords) (k0_t19 : Fin (k0_t19_loop i).trips) : BitVec 32 :=
  let c0_i32_884 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1207 : BitVec 32 := Scalar.subi v17 c0_i32_884
  let c1_i32_885 : BitVec 32 := 1#32
  let v1209 : BitVec 32 := Scalar.divsi v1207 c1_i32_885
  let v1210 : BitVec 32 := Scalar.muli v1209 c1_i32_885
  let v1211 : BitVec 32 := Scalar.addi c0_i32_884 v1210
  let c1_i32_887 : BitVec 32 := 1#32
  let arg19 : BitVec 32 := Scf.iv v1211 c1_i32_887 k0_t19
  let c256_i32_894 : BitVec 32 := 256#32
  let v1225 : BitVec 32 := Scalar.muli arg19 c256_i32_894
  v1225
def k0_off718 (i : grid0.Coords) (k0_t19 : Fin (k0_t19_loop i).trips) : Fin 3 → Nat :=
  let c2_895 : Index := 2#32
  let c0_i32_884 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1207 : BitVec 32 := Scalar.subi v17 c0_i32_884
  let c1_i32_885 : BitVec 32 := 1#32
  let v1209 : BitVec 32 := Scalar.divsi v1207 c1_i32_885
  let v1210 : BitVec 32 := Scalar.muli v1209 c1_i32_885
  let v1211 : BitVec 32 := Scalar.addi c0_i32_884 v1210
  let c1_i32_887 : BitVec 32 := 1#32
  let arg19 : BitVec 32 := Scf.iv v1211 c1_i32_887 k0_t19
  let c256_i32_894 : BitVec 32 := 256#32
  let v1225 : BitVec 32 := Scalar.muli arg19 c256_i32_894
  let v1226 : BitVec 32 := v1225
  let v1227 : Index := Scalar.indexCast v1226
  let c0_896 : Index := 0#32
  ![2, v1227.toNat, 0]
def k0_mult76 (i : grid0.Coords) (k0_t19 : Fin (k0_t19_loop i).trips) : BitVec 32 :=
  let c0_i32_884 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1207 : BitVec 32 := Scalar.subi v17 c0_i32_884
  let c1_i32_885 : BitVec 32 := 1#32
  let v1209 : BitVec 32 := Scalar.divsi v1207 c1_i32_885
  let v1210 : BitVec 32 := Scalar.muli v1209 c1_i32_885
  let v1211 : BitVec 32 := Scalar.addi c0_i32_884 v1210
  let c1_i32_887 : BitVec 32 := 1#32
  let arg19 : BitVec 32 := Scf.iv v1211 c1_i32_887 k0_t19
  let c256_i32_901 : BitVec 32 := 256#32
  let v1244 : BitVec 32 := Scalar.muli arg19 c256_i32_901
  v1244
@[reducible] def k0_t20_loop (i : grid0.Coords) : Scf.Loop 32 :=
  let c0_i32_890 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1218 : BitVec 32 := Scalar.subi v17 c0_i32_890
  let c1_i32_891 : BitVec 32 := 1#32
  let v1220 : BitVec 32 := Scalar.divsi v1218 c1_i32_891
  let v1221 : BitVec 32 := Scalar.muli v1220 c1_i32_891
  let v1222 : BitVec 32 := Scalar.addi c0_i32_890 v1221
  let c1_i32_892 : BitVec 32 := 1#32
  ⟨c0_i32_890, v1222, c1_i32_892⟩
def k0_mult77 (i : grid0.Coords) (k0_t20 : Fin (k0_t20_loop i).trips) : BitVec 32 :=
  let c0_i32_890 : BitVec 32 := 0#32
  let c1_i32_892 : BitVec 32 := 1#32
  let arg19 : BitVec 32 := Scf.iv c0_i32_890 c1_i32_892 k0_t20
  let c256_i32_894 : BitVec 32 := 256#32
  let v1225 : BitVec 32 := Scalar.muli arg19 c256_i32_894
  v1225
def k0_off719 (i : grid0.Coords) (k0_t20 : Fin (k0_t20_loop i).trips) : Fin 3 → Nat :=
  let c3_895 : Index := 3#32
  let c0_i32_890 : BitVec 32 := 0#32
  let c1_i32_892 : BitVec 32 := 1#32
  let arg19 : BitVec 32 := Scf.iv c0_i32_890 c1_i32_892 k0_t20
  let c256_i32_894 : BitVec 32 := 256#32
  let v1225 : BitVec 32 := Scalar.muli arg19 c256_i32_894
  let v1226 : BitVec 32 := v1225
  let v1227 : Index := Scalar.indexCast v1226
  let c0_896 : Index := 0#32
  ![3, v1227.toNat, 0]
def k0_mult78 (i : grid0.Coords) (k0_t20 : Fin (k0_t20_loop i).trips) : BitVec 32 :=
  let c0_i32_890 : BitVec 32 := 0#32
  let c1_i32_892 : BitVec 32 := 1#32
  let arg19 : BitVec 32 := Scf.iv c0_i32_890 c1_i32_892 k0_t20
  let c256_i32_901 : BitVec 32 := 256#32
  let v1244 : BitVec 32 := Scalar.muli arg19 c256_i32_901
  v1244
@[reducible] def k0_t21_loop (i : grid0.Coords) : Scf.Loop 32 :=
  let c0_i32_890 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1218 : BitVec 32 := Scalar.subi v17 c0_i32_890
  let c1_i32_891 : BitVec 32 := 1#32
  let v1220 : BitVec 32 := Scalar.divsi v1218 c1_i32_891
  let v1221 : BitVec 32 := Scalar.muli v1220 c1_i32_891
  let v1222 : BitVec 32 := Scalar.addi c0_i32_890 v1221
  let v1219 : BitVec 32 := Scalar.addi c0_i32_890 v1218
  let c1_i32_893 : BitVec 32 := 1#32
  ⟨v1222, v1219, c1_i32_893⟩
def k0_mult79 (i : grid0.Coords) (k0_t21 : Fin (k0_t21_loop i).trips) : BitVec 32 :=
  let c0_i32_890 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1218 : BitVec 32 := Scalar.subi v17 c0_i32_890
  let c1_i32_891 : BitVec 32 := 1#32
  let v1220 : BitVec 32 := Scalar.divsi v1218 c1_i32_891
  let v1221 : BitVec 32 := Scalar.muli v1220 c1_i32_891
  let v1222 : BitVec 32 := Scalar.addi c0_i32_890 v1221
  let c1_i32_893 : BitVec 32 := 1#32
  let arg19 : BitVec 32 := Scf.iv v1222 c1_i32_893 k0_t21
  let c256_i32_894 : BitVec 32 := 256#32
  let v1225 : BitVec 32 := Scalar.muli arg19 c256_i32_894
  v1225
def k0_off720 (i : grid0.Coords) (k0_t21 : Fin (k0_t21_loop i).trips) : Fin 3 → Nat :=
  let c3_895 : Index := 3#32
  let c0_i32_890 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1218 : BitVec 32 := Scalar.subi v17 c0_i32_890
  let c1_i32_891 : BitVec 32 := 1#32
  let v1220 : BitVec 32 := Scalar.divsi v1218 c1_i32_891
  let v1221 : BitVec 32 := Scalar.muli v1220 c1_i32_891
  let v1222 : BitVec 32 := Scalar.addi c0_i32_890 v1221
  let c1_i32_893 : BitVec 32 := 1#32
  let arg19 : BitVec 32 := Scf.iv v1222 c1_i32_893 k0_t21
  let c256_i32_894 : BitVec 32 := 256#32
  let v1225 : BitVec 32 := Scalar.muli arg19 c256_i32_894
  let v1226 : BitVec 32 := v1225
  let v1227 : Index := Scalar.indexCast v1226
  let c0_896 : Index := 0#32
  ![3, v1227.toNat, 0]
def k0_mult80 (i : grid0.Coords) (k0_t21 : Fin (k0_t21_loop i).trips) : BitVec 32 :=
  let c0_i32_890 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v1218 : BitVec 32 := Scalar.subi v17 c0_i32_890
  let c1_i32_891 : BitVec 32 := 1#32
  let v1220 : BitVec 32 := Scalar.divsi v1218 c1_i32_891
  let v1221 : BitVec 32 := Scalar.muli v1220 c1_i32_891
  let v1222 : BitVec 32 := Scalar.addi c0_i32_890 v1221
  let c1_i32_893 : BitVec 32 := 1#32
  let arg19 : BitVec 32 := Scf.iv v1222 c1_i32_893 k0_t21
  let c256_i32_901 : BitVec 32 := 256#32
  let v1244 : BitVec 32 := Scalar.muli arg19 c256_i32_901
  v1244
def k0_cond8 (i : grid0.Coords) : BitVec 1 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_681 : BitVec 32 := 1#32
  let v857 : BitVec 1 := Scalar.cmpi .eq v17 c1_i32_681
  let v858 : BitVec 1 := Scalar.andi v856 v857
  let v859 : BitVec 32 := Scalar.extui v858
  let c0_i32_682 : BitVec 32 := 0#32
  let v860 : BitVec 1 := Scalar.cmpi .ne v859 c0_i32_682
  v860

def k0_off721 : Fin 4 → Nat :=
  let c0_866 : Index := 0#32
  let c1_i32_861 : BitVec 32 := 1#32
  let c16_i32 : BitVec 32 := 16#32
  let v1159 : BitVec 32 := Scalar.minsi c1_i32_861 c16_i32
  let v1162 : Index := Scalar.indexCast v1159
  let c0_867 : Index := 0#32
  let c0_868 : Index := 0#32
  ![0, v1162.toNat, 0, 0]
def k0_off722 : Fin 4 → Nat :=
  let c1_879 : Index := 1#32
  let c1_i32_873 : BitVec 32 := 1#32
  let c16_i32_874 : BitVec 32 := 16#32
  let v1170 : BitVec 32 := Scalar.minsi c1_i32_873 c16_i32_874
  let v1173 : Index := Scalar.indexCast v1170
  let c0_880 : Index := 0#32
  let c0_881 : Index := 0#32
  ![1, v1173.toNat, 0, 0]
def k0_off723 : Fin 4 → Nat :=
  let c2_892 : Index := 2#32
  let c1_i32_886 : BitVec 32 := 1#32
  let c16_i32_887 : BitVec 32 := 16#32
  let v1181 : BitVec 32 := Scalar.minsi c1_i32_886 c16_i32_887
  let v1184 : Index := Scalar.indexCast v1181
  let c0_893 : Index := 0#32
  let c0_894 : Index := 0#32
  ![2, v1184.toNat, 0, 0]
def k0_off724 : Fin 4 → Nat :=
  let c3_905 : Index := 3#32
  let c1_i32_899 : BitVec 32 := 1#32
  let c16_i32_900 : BitVec 32 := 16#32
  let v1192 : BitVec 32 := Scalar.minsi c1_i32_899 c16_i32_900
  let v1195 : Index := Scalar.indexCast v1192
  let c0_906 : Index := 0#32
  let c0_907 : Index := 0#32
  ![3, v1195.toNat, 0, 0]
def k0_mult81 : BitVec 32 :=
  let c0_i32_912 : BitVec 32 := 0#32
  c0_i32_912
def k0_mult82 : BitVec 32 :=
  let c0_i32_951 : BitVec 32 := 0#32
  c0_i32_951
def k0_mult83 : BitVec 32 :=
  let c0_i32_990 : BitVec 32 := 0#32
  c0_i32_990
def k0_mult84 : BitVec 32 :=
  let c0_i32_1029 : BitVec 32 := 0#32
  c0_i32_1029
def k0_cond9 (i : grid0.Coords) : BitVec 1 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_683 : BitVec 32 := 1#32
  let v861 : BitVec 1 := Scalar.cmpi .sgt v17 c1_i32_683
  let v862 : BitVec 1 := Scalar.andi v856 v861
  let v863 : BitVec 32 := Scalar.extui v862
  let c0_i32_684 : BitVec 32 := 0#32
  let v864 : BitVec 1 := Scalar.cmpi .ne v863 c0_i32_684
  v864

def k0_off725 (c1_i32_861 : BitVec 32) : Fin 4 → Nat :=
  let c0_866 : Index := 0#32
  let c16_i32 : BitVec 32 := 16#32
  let v1159 : BitVec 32 := Scalar.minsi c1_i32_861 c16_i32
  let v1162 : Index := Scalar.indexCast v1159
  let c0_867 : Index := 0#32
  let c0_868 : Index := 0#32
  ![0, v1162.toNat, 0, 0]
def k0_off726 (c1_i32_873 : BitVec 32) : Fin 4 → Nat :=
  let c1_879 : Index := 1#32
  let c16_i32_874 : BitVec 32 := 16#32
  let v1170 : BitVec 32 := Scalar.minsi c1_i32_873 c16_i32_874
  let v1173 : Index := Scalar.indexCast v1170
  let c0_880 : Index := 0#32
  let c0_881 : Index := 0#32
  ![1, v1173.toNat, 0, 0]
def k0_off727 (c1_i32_886 : BitVec 32) : Fin 4 → Nat :=
  let c2_892 : Index := 2#32
  let c16_i32_887 : BitVec 32 := 16#32
  let v1181 : BitVec 32 := Scalar.minsi c1_i32_886 c16_i32_887
  let v1184 : Index := Scalar.indexCast v1181
  let c0_893 : Index := 0#32
  let c0_894 : Index := 0#32
  ![2, v1184.toNat, 0, 0]
def k0_off728 (c1_i32_899 : BitVec 32) : Fin 4 → Nat :=
  let c3_905 : Index := 3#32
  let c16_i32_900 : BitVec 32 := 16#32
  let v1192 : BitVec 32 := Scalar.minsi c1_i32_899 c16_i32_900
  let v1195 : Index := Scalar.indexCast v1192
  let c0_906 : Index := 0#32
  let c0_907 : Index := 0#32
  ![3, v1195.toNat, 0, 0]
def k0_mult85 : BitVec 32 :=
  let c0_i32_1016 : BitVec 32 := 0#32
  c0_i32_1016
def k0_mult86 : BitVec 32 :=
  let c0_i32_1055 : BitVec 32 := 0#32
  c0_i32_1055
def k0_mult87 : BitVec 32 :=
  let c0_i32_1094 : BitVec 32 := 0#32
  c0_i32_1094
def k0_mult88 : BitVec 32 :=
  let c0_i32_1133 : BitVec 32 := 0#32
  c0_i32_1133
def k0_mult89 : BitVec 32 :=
  let c256_i32_1172 : BitVec 32 := 256#32
  c256_i32_1172
def k0_mult90 : BitVec 32 :=
  let c256_i32_1211 : BitVec 32 := 256#32
  c256_i32_1211
def k0_mult91 : BitVec 32 :=
  let c256_i32_1250 : BitVec 32 := 256#32
  c256_i32_1250
def k0_mult92 : BitVec 32 :=
  let c256_i32_1289 : BitVec 32 := 256#32
  c256_i32_1289
def k0_mult93 : BitVec 32 :=
  let c512_i32 : BitVec 32 := 512#32
  c512_i32
def k0_mult94 : BitVec 32 :=
  let c512_i32_1366 : BitVec 32 := 512#32
  c512_i32_1366
def k0_mult95 : BitVec 32 :=
  let c512_i32_1405 : BitVec 32 := 512#32
  c512_i32_1405
def k0_mult96 : BitVec 32 :=
  let c512_i32_1444 : BitVec 32 := 512#32
  c512_i32_1444
@[reducible] def k0_t22_loop (i : grid0.Coords) : Scf.Loop 32 :=
  let c0_i32_697 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_699 : BitVec 32 := 1#32
  ⟨c0_i32_697, v890, c1_i32_699⟩
def k0_off729 (i : grid0.Coords) (k0_t22 : Fin (k0_t22_loop i).trips) : Fin 4 → Nat :=
  let c0_867 : Index := 0#32
  let c2_i32_866 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_861 : BitVec 32 := 2#32
  let c0_i32_697 : BitVec 32 := 0#32
  let c1_i32_699 : BitVec 32 := 1#32
  let arg19 : BitVec 32 := Scf.iv c0_i32_697 c1_i32_699 k0_t22
  let v1159 : BitVec 32 := Scalar.muli c2_i32_861 arg19
  let v1160 : BitVec 32 := Scalar.addi v867 v1159
  let v1167 : BitVec 32 := Scalar.muli c2_i32_866 v1160
  let v1168 : Index := Scalar.indexCast v1167
  let c0_868 : Index := 0#32
  let c0_869 : Index := 0#32
  ![0, v1168.toNat, 0, 0]
def k0_off730 (i : grid0.Coords) (k0_t22 : Fin (k0_t22_loop i).trips) : Fin 4 → Nat :=
  let c0_870 : Index := 0#32
  let c2_i32_864 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_861 : BitVec 32 := 2#32
  let c0_i32_697 : BitVec 32 := 0#32
  let c1_i32_699 : BitVec 32 := 1#32
  let arg19 : BitVec 32 := Scf.iv c0_i32_697 c1_i32_699 k0_t22
  let v1159 : BitVec 32 := Scalar.muli c2_i32_861 arg19
  let v1160 : BitVec 32 := Scalar.addi v867 v1159
  let v1164 : BitVec 32 := Scalar.muli c2_i32_864 v1160
  let c1_i32_865 : BitVec 32 := 1#32
  let v1165 : BitVec 32 := Scalar.addi v1164 c1_i32_865
  let c16_i32 : BitVec 32 := 16#32
  let v1166 : BitVec 32 := Scalar.minsi v1165 c16_i32
  let v1171 : Index := Scalar.indexCast v1166
  let c0_871 : Index := 0#32
  let c0_872 : Index := 0#32
  ![0, v1171.toNat, 0, 0]
def k0_off731 (i : grid0.Coords) (k0_t22 : Fin (k0_t22_loop i).trips) : Fin 4 → Nat :=
  let c1_881 : Index := 1#32
  let c2_i32_880 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_861 : BitVec 32 := 2#32
  let c0_i32_697 : BitVec 32 := 0#32
  let c1_i32_699 : BitVec 32 := 1#32
  let arg19 : BitVec 32 := Scf.iv c0_i32_697 c1_i32_699 k0_t22
  let v1159 : BitVec 32 := Scalar.muli c2_i32_861 arg19
  let v1160 : BitVec 32 := Scalar.addi v867 v1159
  let v1182 : BitVec 32 := Scalar.muli c2_i32_880 v1160
  let v1183 : Index := Scalar.indexCast v1182
  let c0_882 : Index := 0#32
  let c0_883 : Index := 0#32
  ![1, v1183.toNat, 0, 0]
def k0_off732 (i : grid0.Coords) (k0_t22 : Fin (k0_t22_loop i).trips) : Fin 4 → Nat :=
  let c1_884 : Index := 1#32
  let c2_i32_877 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_861 : BitVec 32 := 2#32
  let c0_i32_697 : BitVec 32 := 0#32
  let c1_i32_699 : BitVec 32 := 1#32
  let arg19 : BitVec 32 := Scf.iv c0_i32_697 c1_i32_699 k0_t22
  let v1159 : BitVec 32 := Scalar.muli c2_i32_861 arg19
  let v1160 : BitVec 32 := Scalar.addi v867 v1159
  let v1179 : BitVec 32 := Scalar.muli c2_i32_877 v1160
  let c1_i32_878 : BitVec 32 := 1#32
  let v1180 : BitVec 32 := Scalar.addi v1179 c1_i32_878
  let c16_i32_879 : BitVec 32 := 16#32
  let v1181 : BitVec 32 := Scalar.minsi v1180 c16_i32_879
  let v1186 : Index := Scalar.indexCast v1181
  let c0_885 : Index := 0#32
  let c0_886 : Index := 0#32
  ![1, v1186.toNat, 0, 0]
def k0_off733 (i : grid0.Coords) (k0_t22 : Fin (k0_t22_loop i).trips) : Fin 4 → Nat :=
  let c2_895 : Index := 2#32
  let c2_i32_894 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_861 : BitVec 32 := 2#32
  let c0_i32_697 : BitVec 32 := 0#32
  let c1_i32_699 : BitVec 32 := 1#32
  let arg19 : BitVec 32 := Scf.iv c0_i32_697 c1_i32_699 k0_t22
  let v1159 : BitVec 32 := Scalar.muli c2_i32_861 arg19
  let v1160 : BitVec 32 := Scalar.addi v867 v1159
  let v1197 : BitVec 32 := Scalar.muli c2_i32_894 v1160
  let v1198 : Index := Scalar.indexCast v1197
  let c0_896 : Index := 0#32
  let c0_897 : Index := 0#32
  ![2, v1198.toNat, 0, 0]
def k0_off734 (i : grid0.Coords) (k0_t22 : Fin (k0_t22_loop i).trips) : Fin 4 → Nat :=
  let c2_898 : Index := 2#32
  let c2_i32_891 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_861 : BitVec 32 := 2#32
  let c0_i32_697 : BitVec 32 := 0#32
  let c1_i32_699 : BitVec 32 := 1#32
  let arg19 : BitVec 32 := Scf.iv c0_i32_697 c1_i32_699 k0_t22
  let v1159 : BitVec 32 := Scalar.muli c2_i32_861 arg19
  let v1160 : BitVec 32 := Scalar.addi v867 v1159
  let v1194 : BitVec 32 := Scalar.muli c2_i32_891 v1160
  let c1_i32_892 : BitVec 32 := 1#32
  let v1195 : BitVec 32 := Scalar.addi v1194 c1_i32_892
  let c16_i32_893 : BitVec 32 := 16#32
  let v1196 : BitVec 32 := Scalar.minsi v1195 c16_i32_893
  let v1201 : Index := Scalar.indexCast v1196
  let c0_899 : Index := 0#32
  let c0_900 : Index := 0#32
  ![2, v1201.toNat, 0, 0]
def k0_off735 (i : grid0.Coords) (k0_t22 : Fin (k0_t22_loop i).trips) : Fin 4 → Nat :=
  let c3_909 : Index := 3#32
  let c2_i32_908 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_861 : BitVec 32 := 2#32
  let c0_i32_697 : BitVec 32 := 0#32
  let c1_i32_699 : BitVec 32 := 1#32
  let arg19 : BitVec 32 := Scf.iv c0_i32_697 c1_i32_699 k0_t22
  let v1159 : BitVec 32 := Scalar.muli c2_i32_861 arg19
  let v1160 : BitVec 32 := Scalar.addi v867 v1159
  let v1212 : BitVec 32 := Scalar.muli c2_i32_908 v1160
  let v1213 : Index := Scalar.indexCast v1212
  let c0_910 : Index := 0#32
  let c0_911 : Index := 0#32
  ![3, v1213.toNat, 0, 0]
def k0_off736 (i : grid0.Coords) (k0_t22 : Fin (k0_t22_loop i).trips) : Fin 4 → Nat :=
  let c3_912 : Index := 3#32
  let c2_i32_905 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_861 : BitVec 32 := 2#32
  let c0_i32_697 : BitVec 32 := 0#32
  let c1_i32_699 : BitVec 32 := 1#32
  let arg19 : BitVec 32 := Scf.iv c0_i32_697 c1_i32_699 k0_t22
  let v1159 : BitVec 32 := Scalar.muli c2_i32_861 arg19
  let v1160 : BitVec 32 := Scalar.addi v867 v1159
  let v1209 : BitVec 32 := Scalar.muli c2_i32_905 v1160
  let c1_i32_906 : BitVec 32 := 1#32
  let v1210 : BitVec 32 := Scalar.addi v1209 c1_i32_906
  let c16_i32_907 : BitVec 32 := 16#32
  let v1211 : BitVec 32 := Scalar.minsi v1210 c16_i32_907
  let v1216 : Index := Scalar.indexCast v1211
  let c0_913 : Index := 0#32
  let c0_914 : Index := 0#32
  ![3, v1216.toNat, 0, 0]
def k0_off737 (i : grid0.Coords) (k0_t22 : Fin (k0_t22_loop i).trips) : Fin 4 → Nat :=
  let c0_923 : Index := 0#32
  let c2_i32_922 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_862 : BitVec 32 := 2#32
  let c0_i32_697 : BitVec 32 := 0#32
  let c1_i32_699 : BitVec 32 := 1#32
  let arg19 : BitVec 32 := Scf.iv c0_i32_697 c1_i32_699 k0_t22
  let v1161 : BitVec 32 := Scalar.muli c2_i32_862 arg19
  let v1162 : BitVec 32 := Scalar.addi v867 v1161
  let c1_i32_863 : BitVec 32 := 1#32
  let v1163 : BitVec 32 := Scalar.addi v1162 c1_i32_863
  let v1227 : BitVec 32 := Scalar.muli c2_i32_922 v1163
  let v1228 : Index := Scalar.indexCast v1227
  let c0_924 : Index := 0#32
  let c0_925 : Index := 0#32
  ![0, v1228.toNat, 0, 0]
def k0_off738 (i : grid0.Coords) (k0_t22 : Fin (k0_t22_loop i).trips) : Fin 4 → Nat :=
  let c0_926 : Index := 0#32
  let c2_i32_919 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_862 : BitVec 32 := 2#32
  let c0_i32_697 : BitVec 32 := 0#32
  let c1_i32_699 : BitVec 32 := 1#32
  let arg19 : BitVec 32 := Scf.iv c0_i32_697 c1_i32_699 k0_t22
  let v1161 : BitVec 32 := Scalar.muli c2_i32_862 arg19
  let v1162 : BitVec 32 := Scalar.addi v867 v1161
  let c1_i32_863 : BitVec 32 := 1#32
  let v1163 : BitVec 32 := Scalar.addi v1162 c1_i32_863
  let v1224 : BitVec 32 := Scalar.muli c2_i32_919 v1163
  let c1_i32_920 : BitVec 32 := 1#32
  let v1225 : BitVec 32 := Scalar.addi v1224 c1_i32_920
  let c16_i32_921 : BitVec 32 := 16#32
  let v1226 : BitVec 32 := Scalar.minsi v1225 c16_i32_921
  let v1231 : Index := Scalar.indexCast v1226
  let c0_927 : Index := 0#32
  let c0_928 : Index := 0#32
  ![0, v1231.toNat, 0, 0]
def k0_off739 (i : grid0.Coords) (k0_t22 : Fin (k0_t22_loop i).trips) : Fin 4 → Nat :=
  let c1_937 : Index := 1#32
  let c2_i32_936 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_862 : BitVec 32 := 2#32
  let c0_i32_697 : BitVec 32 := 0#32
  let c1_i32_699 : BitVec 32 := 1#32
  let arg19 : BitVec 32 := Scf.iv c0_i32_697 c1_i32_699 k0_t22
  let v1161 : BitVec 32 := Scalar.muli c2_i32_862 arg19
  let v1162 : BitVec 32 := Scalar.addi v867 v1161
  let c1_i32_863 : BitVec 32 := 1#32
  let v1163 : BitVec 32 := Scalar.addi v1162 c1_i32_863
  let v1242 : BitVec 32 := Scalar.muli c2_i32_936 v1163
  let v1243 : Index := Scalar.indexCast v1242
  let c0_938 : Index := 0#32
  let c0_939 : Index := 0#32
  ![1, v1243.toNat, 0, 0]
def k0_off740 (i : grid0.Coords) (k0_t22 : Fin (k0_t22_loop i).trips) : Fin 4 → Nat :=
  let c1_940 : Index := 1#32
  let c2_i32_933 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_862 : BitVec 32 := 2#32
  let c0_i32_697 : BitVec 32 := 0#32
  let c1_i32_699 : BitVec 32 := 1#32
  let arg19 : BitVec 32 := Scf.iv c0_i32_697 c1_i32_699 k0_t22
  let v1161 : BitVec 32 := Scalar.muli c2_i32_862 arg19
  let v1162 : BitVec 32 := Scalar.addi v867 v1161
  let c1_i32_863 : BitVec 32 := 1#32
  let v1163 : BitVec 32 := Scalar.addi v1162 c1_i32_863
  let v1239 : BitVec 32 := Scalar.muli c2_i32_933 v1163
  let c1_i32_934 : BitVec 32 := 1#32
  let v1240 : BitVec 32 := Scalar.addi v1239 c1_i32_934
  let c16_i32_935 : BitVec 32 := 16#32
  let v1241 : BitVec 32 := Scalar.minsi v1240 c16_i32_935
  let v1246 : Index := Scalar.indexCast v1241
  let c0_941 : Index := 0#32
  let c0_942 : Index := 0#32
  ![1, v1246.toNat, 0, 0]
def k0_off741 (i : grid0.Coords) (k0_t22 : Fin (k0_t22_loop i).trips) : Fin 4 → Nat :=
  let c2_951 : Index := 2#32
  let c2_i32_950 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_862 : BitVec 32 := 2#32
  let c0_i32_697 : BitVec 32 := 0#32
  let c1_i32_699 : BitVec 32 := 1#32
  let arg19 : BitVec 32 := Scf.iv c0_i32_697 c1_i32_699 k0_t22
  let v1161 : BitVec 32 := Scalar.muli c2_i32_862 arg19
  let v1162 : BitVec 32 := Scalar.addi v867 v1161
  let c1_i32_863 : BitVec 32 := 1#32
  let v1163 : BitVec 32 := Scalar.addi v1162 c1_i32_863
  let v1257 : BitVec 32 := Scalar.muli c2_i32_950 v1163
  let v1258 : Index := Scalar.indexCast v1257
  let c0_952 : Index := 0#32
  let c0_953 : Index := 0#32
  ![2, v1258.toNat, 0, 0]
def k0_off742 (i : grid0.Coords) (k0_t22 : Fin (k0_t22_loop i).trips) : Fin 4 → Nat :=
  let c2_954 : Index := 2#32
  let c2_i32_947 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_862 : BitVec 32 := 2#32
  let c0_i32_697 : BitVec 32 := 0#32
  let c1_i32_699 : BitVec 32 := 1#32
  let arg19 : BitVec 32 := Scf.iv c0_i32_697 c1_i32_699 k0_t22
  let v1161 : BitVec 32 := Scalar.muli c2_i32_862 arg19
  let v1162 : BitVec 32 := Scalar.addi v867 v1161
  let c1_i32_863 : BitVec 32 := 1#32
  let v1163 : BitVec 32 := Scalar.addi v1162 c1_i32_863
  let v1254 : BitVec 32 := Scalar.muli c2_i32_947 v1163
  let c1_i32_948 : BitVec 32 := 1#32
  let v1255 : BitVec 32 := Scalar.addi v1254 c1_i32_948
  let c16_i32_949 : BitVec 32 := 16#32
  let v1256 : BitVec 32 := Scalar.minsi v1255 c16_i32_949
  let v1261 : Index := Scalar.indexCast v1256
  let c0_955 : Index := 0#32
  let c0_956 : Index := 0#32
  ![2, v1261.toNat, 0, 0]
def k0_off743 (i : grid0.Coords) (k0_t22 : Fin (k0_t22_loop i).trips) : Fin 4 → Nat :=
  let c3_965 : Index := 3#32
  let c2_i32_964 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_862 : BitVec 32 := 2#32
  let c0_i32_697 : BitVec 32 := 0#32
  let c1_i32_699 : BitVec 32 := 1#32
  let arg19 : BitVec 32 := Scf.iv c0_i32_697 c1_i32_699 k0_t22
  let v1161 : BitVec 32 := Scalar.muli c2_i32_862 arg19
  let v1162 : BitVec 32 := Scalar.addi v867 v1161
  let c1_i32_863 : BitVec 32 := 1#32
  let v1163 : BitVec 32 := Scalar.addi v1162 c1_i32_863
  let v1272 : BitVec 32 := Scalar.muli c2_i32_964 v1163
  let v1273 : Index := Scalar.indexCast v1272
  let c0_966 : Index := 0#32
  let c0_967 : Index := 0#32
  ![3, v1273.toNat, 0, 0]
def k0_off744 (i : grid0.Coords) (k0_t22 : Fin (k0_t22_loop i).trips) : Fin 4 → Nat :=
  let c3_968 : Index := 3#32
  let c2_i32_961 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_862 : BitVec 32 := 2#32
  let c0_i32_697 : BitVec 32 := 0#32
  let c1_i32_699 : BitVec 32 := 1#32
  let arg19 : BitVec 32 := Scf.iv c0_i32_697 c1_i32_699 k0_t22
  let v1161 : BitVec 32 := Scalar.muli c2_i32_862 arg19
  let v1162 : BitVec 32 := Scalar.addi v867 v1161
  let c1_i32_863 : BitVec 32 := 1#32
  let v1163 : BitVec 32 := Scalar.addi v1162 c1_i32_863
  let v1269 : BitVec 32 := Scalar.muli c2_i32_961 v1163
  let c1_i32_962 : BitVec 32 := 1#32
  let v1270 : BitVec 32 := Scalar.addi v1269 c1_i32_962
  let c16_i32_963 : BitVec 32 := 16#32
  let v1271 : BitVec 32 := Scalar.minsi v1270 c16_i32_963
  let v1276 : Index := Scalar.indexCast v1271
  let c0_969 : Index := 0#32
  let c0_970 : Index := 0#32
  ![3, v1276.toNat, 0, 0]
def k0_mult97 (i : grid0.Coords) (k0_t22 : Fin (k0_t22_loop i).trips) : BitVec 32 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_861 : BitVec 32 := 2#32
  let c0_i32_697 : BitVec 32 := 0#32
  let c1_i32_699 : BitVec 32 := 1#32
  let arg19 : BitVec 32 := Scf.iv c0_i32_697 c1_i32_699 k0_t22
  let v1159 : BitVec 32 := Scalar.muli c2_i32_861 arg19
  let v1160 : BitVec 32 := Scalar.addi v867 v1159
  let c256_i32_975 : BitVec 32 := 256#32
  let v1284 : BitVec 32 := Scalar.muli v1160 c256_i32_975
  v1284
def k0_off745 (i : grid0.Coords) (k0_t22 : Fin (k0_t22_loop i).trips) : Fin 3 → Nat :=
  let c0_976 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_861 : BitVec 32 := 2#32
  let c0_i32_697 : BitVec 32 := 0#32
  let c1_i32_699 : BitVec 32 := 1#32
  let arg19 : BitVec 32 := Scf.iv c0_i32_697 c1_i32_699 k0_t22
  let v1159 : BitVec 32 := Scalar.muli c2_i32_861 arg19
  let v1160 : BitVec 32 := Scalar.addi v867 v1159
  let c256_i32_975 : BitVec 32 := 256#32
  let v1284 : BitVec 32 := Scalar.muli v1160 c256_i32_975
  let v1285 : BitVec 32 := v1284
  let v1286 : Index := Scalar.indexCast v1285
  let c0_977 : Index := 0#32
  ![0, v1286.toNat, 0]
def k0_mult98 (i : grid0.Coords) (k0_t22 : Fin (k0_t22_loop i).trips) : BitVec 32 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_861 : BitVec 32 := 2#32
  let c0_i32_697 : BitVec 32 := 0#32
  let c1_i32_699 : BitVec 32 := 1#32
  let arg19 : BitVec 32 := Scf.iv c0_i32_697 c1_i32_699 k0_t22
  let v1159 : BitVec 32 := Scalar.muli c2_i32_861 arg19
  let v1160 : BitVec 32 := Scalar.addi v867 v1159
  let c256_i32_1015 : BitVec 32 := 256#32
  let v1349 : BitVec 32 := Scalar.muli v1160 c256_i32_1015
  v1349
def k0_off746 (i : grid0.Coords) (k0_t22 : Fin (k0_t22_loop i).trips) : Fin 3 → Nat :=
  let c1_1016 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_861 : BitVec 32 := 2#32
  let c0_i32_697 : BitVec 32 := 0#32
  let c1_i32_699 : BitVec 32 := 1#32
  let arg19 : BitVec 32 := Scf.iv c0_i32_697 c1_i32_699 k0_t22
  let v1159 : BitVec 32 := Scalar.muli c2_i32_861 arg19
  let v1160 : BitVec 32 := Scalar.addi v867 v1159
  let c256_i32_1015 : BitVec 32 := 256#32
  let v1349 : BitVec 32 := Scalar.muli v1160 c256_i32_1015
  let v1350 : BitVec 32 := v1349
  let v1351 : Index := Scalar.indexCast v1350
  let c0_1017 : Index := 0#32
  ![1, v1351.toNat, 0]
def k0_mult99 (i : grid0.Coords) (k0_t22 : Fin (k0_t22_loop i).trips) : BitVec 32 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_861 : BitVec 32 := 2#32
  let c0_i32_697 : BitVec 32 := 0#32
  let c1_i32_699 : BitVec 32 := 1#32
  let arg19 : BitVec 32 := Scf.iv c0_i32_697 c1_i32_699 k0_t22
  let v1159 : BitVec 32 := Scalar.muli c2_i32_861 arg19
  let v1160 : BitVec 32 := Scalar.addi v867 v1159
  let c256_i32_1055 : BitVec 32 := 256#32
  let v1414 : BitVec 32 := Scalar.muli v1160 c256_i32_1055
  v1414
def k0_off747 (i : grid0.Coords) (k0_t22 : Fin (k0_t22_loop i).trips) : Fin 3 → Nat :=
  let c2_1056 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_861 : BitVec 32 := 2#32
  let c0_i32_697 : BitVec 32 := 0#32
  let c1_i32_699 : BitVec 32 := 1#32
  let arg19 : BitVec 32 := Scf.iv c0_i32_697 c1_i32_699 k0_t22
  let v1159 : BitVec 32 := Scalar.muli c2_i32_861 arg19
  let v1160 : BitVec 32 := Scalar.addi v867 v1159
  let c256_i32_1055 : BitVec 32 := 256#32
  let v1414 : BitVec 32 := Scalar.muli v1160 c256_i32_1055
  let v1415 : BitVec 32 := v1414
  let v1416 : Index := Scalar.indexCast v1415
  let c0_1057 : Index := 0#32
  ![2, v1416.toNat, 0]
def k0_mult100 (i : grid0.Coords) (k0_t22 : Fin (k0_t22_loop i).trips) : BitVec 32 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_861 : BitVec 32 := 2#32
  let c0_i32_697 : BitVec 32 := 0#32
  let c1_i32_699 : BitVec 32 := 1#32
  let arg19 : BitVec 32 := Scf.iv c0_i32_697 c1_i32_699 k0_t22
  let v1159 : BitVec 32 := Scalar.muli c2_i32_861 arg19
  let v1160 : BitVec 32 := Scalar.addi v867 v1159
  let c256_i32_1095 : BitVec 32 := 256#32
  let v1479 : BitVec 32 := Scalar.muli v1160 c256_i32_1095
  v1479
def k0_off748 (i : grid0.Coords) (k0_t22 : Fin (k0_t22_loop i).trips) : Fin 3 → Nat :=
  let c3_1096 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_861 : BitVec 32 := 2#32
  let c0_i32_697 : BitVec 32 := 0#32
  let c1_i32_699 : BitVec 32 := 1#32
  let arg19 : BitVec 32 := Scf.iv c0_i32_697 c1_i32_699 k0_t22
  let v1159 : BitVec 32 := Scalar.muli c2_i32_861 arg19
  let v1160 : BitVec 32 := Scalar.addi v867 v1159
  let c256_i32_1095 : BitVec 32 := 256#32
  let v1479 : BitVec 32 := Scalar.muli v1160 c256_i32_1095
  let v1480 : BitVec 32 := v1479
  let v1481 : Index := Scalar.indexCast v1480
  let c0_1097 : Index := 0#32
  ![3, v1481.toNat, 0]
def k0_mult101 (i : grid0.Coords) (k0_t22 : Fin (k0_t22_loop i).trips) : BitVec 32 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_862 : BitVec 32 := 2#32
  let c0_i32_697 : BitVec 32 := 0#32
  let c1_i32_699 : BitVec 32 := 1#32
  let arg19 : BitVec 32 := Scf.iv c0_i32_697 c1_i32_699 k0_t22
  let v1161 : BitVec 32 := Scalar.muli c2_i32_862 arg19
  let v1162 : BitVec 32 := Scalar.addi v867 v1161
  let c1_i32_863 : BitVec 32 := 1#32
  let v1163 : BitVec 32 := Scalar.addi v1162 c1_i32_863
  let c256_i32_1135 : BitVec 32 := 256#32
  let v1544 : BitVec 32 := Scalar.muli v1163 c256_i32_1135
  v1544
def k0_off749 (i : grid0.Coords) (k0_t22 : Fin (k0_t22_loop i).trips) : Fin 3 → Nat :=
  let c0_1136 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_862 : BitVec 32 := 2#32
  let c0_i32_697 : BitVec 32 := 0#32
  let c1_i32_699 : BitVec 32 := 1#32
  let arg19 : BitVec 32 := Scf.iv c0_i32_697 c1_i32_699 k0_t22
  let v1161 : BitVec 32 := Scalar.muli c2_i32_862 arg19
  let v1162 : BitVec 32 := Scalar.addi v867 v1161
  let c1_i32_863 : BitVec 32 := 1#32
  let v1163 : BitVec 32 := Scalar.addi v1162 c1_i32_863
  let c256_i32_1135 : BitVec 32 := 256#32
  let v1544 : BitVec 32 := Scalar.muli v1163 c256_i32_1135
  let v1545 : BitVec 32 := v1544
  let v1546 : Index := Scalar.indexCast v1545
  let c0_1137 : Index := 0#32
  ![0, v1546.toNat, 0]
def k0_mult102 (i : grid0.Coords) (k0_t22 : Fin (k0_t22_loop i).trips) : BitVec 32 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_862 : BitVec 32 := 2#32
  let c0_i32_697 : BitVec 32 := 0#32
  let c1_i32_699 : BitVec 32 := 1#32
  let arg19 : BitVec 32 := Scf.iv c0_i32_697 c1_i32_699 k0_t22
  let v1161 : BitVec 32 := Scalar.muli c2_i32_862 arg19
  let v1162 : BitVec 32 := Scalar.addi v867 v1161
  let c1_i32_863 : BitVec 32 := 1#32
  let v1163 : BitVec 32 := Scalar.addi v1162 c1_i32_863
  let c256_i32_1175 : BitVec 32 := 256#32
  let v1609 : BitVec 32 := Scalar.muli v1163 c256_i32_1175
  v1609
def k0_off750 (i : grid0.Coords) (k0_t22 : Fin (k0_t22_loop i).trips) : Fin 3 → Nat :=
  let c1_1176 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_862 : BitVec 32 := 2#32
  let c0_i32_697 : BitVec 32 := 0#32
  let c1_i32_699 : BitVec 32 := 1#32
  let arg19 : BitVec 32 := Scf.iv c0_i32_697 c1_i32_699 k0_t22
  let v1161 : BitVec 32 := Scalar.muli c2_i32_862 arg19
  let v1162 : BitVec 32 := Scalar.addi v867 v1161
  let c1_i32_863 : BitVec 32 := 1#32
  let v1163 : BitVec 32 := Scalar.addi v1162 c1_i32_863
  let c256_i32_1175 : BitVec 32 := 256#32
  let v1609 : BitVec 32 := Scalar.muli v1163 c256_i32_1175
  let v1610 : BitVec 32 := v1609
  let v1611 : Index := Scalar.indexCast v1610
  let c0_1177 : Index := 0#32
  ![1, v1611.toNat, 0]
def k0_mult103 (i : grid0.Coords) (k0_t22 : Fin (k0_t22_loop i).trips) : BitVec 32 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_862 : BitVec 32 := 2#32
  let c0_i32_697 : BitVec 32 := 0#32
  let c1_i32_699 : BitVec 32 := 1#32
  let arg19 : BitVec 32 := Scf.iv c0_i32_697 c1_i32_699 k0_t22
  let v1161 : BitVec 32 := Scalar.muli c2_i32_862 arg19
  let v1162 : BitVec 32 := Scalar.addi v867 v1161
  let c1_i32_863 : BitVec 32 := 1#32
  let v1163 : BitVec 32 := Scalar.addi v1162 c1_i32_863
  let c256_i32_1215 : BitVec 32 := 256#32
  let v1674 : BitVec 32 := Scalar.muli v1163 c256_i32_1215
  v1674
def k0_off751 (i : grid0.Coords) (k0_t22 : Fin (k0_t22_loop i).trips) : Fin 3 → Nat :=
  let c2_1216 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_862 : BitVec 32 := 2#32
  let c0_i32_697 : BitVec 32 := 0#32
  let c1_i32_699 : BitVec 32 := 1#32
  let arg19 : BitVec 32 := Scf.iv c0_i32_697 c1_i32_699 k0_t22
  let v1161 : BitVec 32 := Scalar.muli c2_i32_862 arg19
  let v1162 : BitVec 32 := Scalar.addi v867 v1161
  let c1_i32_863 : BitVec 32 := 1#32
  let v1163 : BitVec 32 := Scalar.addi v1162 c1_i32_863
  let c256_i32_1215 : BitVec 32 := 256#32
  let v1674 : BitVec 32 := Scalar.muli v1163 c256_i32_1215
  let v1675 : BitVec 32 := v1674
  let v1676 : Index := Scalar.indexCast v1675
  let c0_1217 : Index := 0#32
  ![2, v1676.toNat, 0]
def k0_mult104 (i : grid0.Coords) (k0_t22 : Fin (k0_t22_loop i).trips) : BitVec 32 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_862 : BitVec 32 := 2#32
  let c0_i32_697 : BitVec 32 := 0#32
  let c1_i32_699 : BitVec 32 := 1#32
  let arg19 : BitVec 32 := Scf.iv c0_i32_697 c1_i32_699 k0_t22
  let v1161 : BitVec 32 := Scalar.muli c2_i32_862 arg19
  let v1162 : BitVec 32 := Scalar.addi v867 v1161
  let c1_i32_863 : BitVec 32 := 1#32
  let v1163 : BitVec 32 := Scalar.addi v1162 c1_i32_863
  let c256_i32_1255 : BitVec 32 := 256#32
  let v1739 : BitVec 32 := Scalar.muli v1163 c256_i32_1255
  v1739
def k0_off752 (i : grid0.Coords) (k0_t22 : Fin (k0_t22_loop i).trips) : Fin 3 → Nat :=
  let c3_1256 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_862 : BitVec 32 := 2#32
  let c0_i32_697 : BitVec 32 := 0#32
  let c1_i32_699 : BitVec 32 := 1#32
  let arg19 : BitVec 32 := Scf.iv c0_i32_697 c1_i32_699 k0_t22
  let v1161 : BitVec 32 := Scalar.muli c2_i32_862 arg19
  let v1162 : BitVec 32 := Scalar.addi v867 v1161
  let c1_i32_863 : BitVec 32 := 1#32
  let v1163 : BitVec 32 := Scalar.addi v1162 c1_i32_863
  let c256_i32_1255 : BitVec 32 := 256#32
  let v1739 : BitVec 32 := Scalar.muli v1163 c256_i32_1255
  let v1740 : BitVec 32 := v1739
  let v1741 : Index := Scalar.indexCast v1740
  let c0_1257 : Index := 0#32
  ![3, v1741.toNat, 0]
@[reducible] def k0_t23_loop (i : grid0.Coords) : Scf.Loop 32 :=
  let c0_i32_697 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let v887 : BitVec 32 := Scalar.addi c0_i32_697 v886
  let c1_i32_700 : BitVec 32 := 1#32
  ⟨v890, v887, c1_i32_700⟩
def k0_off753 (i : grid0.Coords) (k0_t23 : Fin (k0_t23_loop i).trips) : Fin 4 → Nat :=
  let c0_867 : Index := 0#32
  let c2_i32_866 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_861 : BitVec 32 := 2#32
  let c0_i32_697 : BitVec 32 := 0#32
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_700 : BitVec 32 := 1#32
  let arg19 : BitVec 32 := Scf.iv v890 c1_i32_700 k0_t23
  let v1159 : BitVec 32 := Scalar.muli c2_i32_861 arg19
  let v1160 : BitVec 32 := Scalar.addi v867 v1159
  let v1167 : BitVec 32 := Scalar.muli c2_i32_866 v1160
  let v1168 : Index := Scalar.indexCast v1167
  let c0_868 : Index := 0#32
  let c0_869 : Index := 0#32
  ![0, v1168.toNat, 0, 0]
def k0_off754 (i : grid0.Coords) (k0_t23 : Fin (k0_t23_loop i).trips) : Fin 4 → Nat :=
  let c0_870 : Index := 0#32
  let c2_i32_864 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_861 : BitVec 32 := 2#32
  let c0_i32_697 : BitVec 32 := 0#32
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_700 : BitVec 32 := 1#32
  let arg19 : BitVec 32 := Scf.iv v890 c1_i32_700 k0_t23
  let v1159 : BitVec 32 := Scalar.muli c2_i32_861 arg19
  let v1160 : BitVec 32 := Scalar.addi v867 v1159
  let v1164 : BitVec 32 := Scalar.muli c2_i32_864 v1160
  let c1_i32_865 : BitVec 32 := 1#32
  let v1165 : BitVec 32 := Scalar.addi v1164 c1_i32_865
  let c16_i32 : BitVec 32 := 16#32
  let v1166 : BitVec 32 := Scalar.minsi v1165 c16_i32
  let v1171 : Index := Scalar.indexCast v1166
  let c0_871 : Index := 0#32
  let c0_872 : Index := 0#32
  ![0, v1171.toNat, 0, 0]
def k0_off755 (i : grid0.Coords) (k0_t23 : Fin (k0_t23_loop i).trips) : Fin 4 → Nat :=
  let c1_881 : Index := 1#32
  let c2_i32_880 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_861 : BitVec 32 := 2#32
  let c0_i32_697 : BitVec 32 := 0#32
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_700 : BitVec 32 := 1#32
  let arg19 : BitVec 32 := Scf.iv v890 c1_i32_700 k0_t23
  let v1159 : BitVec 32 := Scalar.muli c2_i32_861 arg19
  let v1160 : BitVec 32 := Scalar.addi v867 v1159
  let v1182 : BitVec 32 := Scalar.muli c2_i32_880 v1160
  let v1183 : Index := Scalar.indexCast v1182
  let c0_882 : Index := 0#32
  let c0_883 : Index := 0#32
  ![1, v1183.toNat, 0, 0]
def k0_off756 (i : grid0.Coords) (k0_t23 : Fin (k0_t23_loop i).trips) : Fin 4 → Nat :=
  let c1_884 : Index := 1#32
  let c2_i32_877 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_861 : BitVec 32 := 2#32
  let c0_i32_697 : BitVec 32 := 0#32
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_700 : BitVec 32 := 1#32
  let arg19 : BitVec 32 := Scf.iv v890 c1_i32_700 k0_t23
  let v1159 : BitVec 32 := Scalar.muli c2_i32_861 arg19
  let v1160 : BitVec 32 := Scalar.addi v867 v1159
  let v1179 : BitVec 32 := Scalar.muli c2_i32_877 v1160
  let c1_i32_878 : BitVec 32 := 1#32
  let v1180 : BitVec 32 := Scalar.addi v1179 c1_i32_878
  let c16_i32_879 : BitVec 32 := 16#32
  let v1181 : BitVec 32 := Scalar.minsi v1180 c16_i32_879
  let v1186 : Index := Scalar.indexCast v1181
  let c0_885 : Index := 0#32
  let c0_886 : Index := 0#32
  ![1, v1186.toNat, 0, 0]
def k0_off757 (i : grid0.Coords) (k0_t23 : Fin (k0_t23_loop i).trips) : Fin 4 → Nat :=
  let c2_895 : Index := 2#32
  let c2_i32_894 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_861 : BitVec 32 := 2#32
  let c0_i32_697 : BitVec 32 := 0#32
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_700 : BitVec 32 := 1#32
  let arg19 : BitVec 32 := Scf.iv v890 c1_i32_700 k0_t23
  let v1159 : BitVec 32 := Scalar.muli c2_i32_861 arg19
  let v1160 : BitVec 32 := Scalar.addi v867 v1159
  let v1197 : BitVec 32 := Scalar.muli c2_i32_894 v1160
  let v1198 : Index := Scalar.indexCast v1197
  let c0_896 : Index := 0#32
  let c0_897 : Index := 0#32
  ![2, v1198.toNat, 0, 0]
def k0_off758 (i : grid0.Coords) (k0_t23 : Fin (k0_t23_loop i).trips) : Fin 4 → Nat :=
  let c2_898 : Index := 2#32
  let c2_i32_891 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_861 : BitVec 32 := 2#32
  let c0_i32_697 : BitVec 32 := 0#32
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_700 : BitVec 32 := 1#32
  let arg19 : BitVec 32 := Scf.iv v890 c1_i32_700 k0_t23
  let v1159 : BitVec 32 := Scalar.muli c2_i32_861 arg19
  let v1160 : BitVec 32 := Scalar.addi v867 v1159
  let v1194 : BitVec 32 := Scalar.muli c2_i32_891 v1160
  let c1_i32_892 : BitVec 32 := 1#32
  let v1195 : BitVec 32 := Scalar.addi v1194 c1_i32_892
  let c16_i32_893 : BitVec 32 := 16#32
  let v1196 : BitVec 32 := Scalar.minsi v1195 c16_i32_893
  let v1201 : Index := Scalar.indexCast v1196
  let c0_899 : Index := 0#32
  let c0_900 : Index := 0#32
  ![2, v1201.toNat, 0, 0]
def k0_off759 (i : grid0.Coords) (k0_t23 : Fin (k0_t23_loop i).trips) : Fin 4 → Nat :=
  let c3_909 : Index := 3#32
  let c2_i32_908 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_861 : BitVec 32 := 2#32
  let c0_i32_697 : BitVec 32 := 0#32
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_700 : BitVec 32 := 1#32
  let arg19 : BitVec 32 := Scf.iv v890 c1_i32_700 k0_t23
  let v1159 : BitVec 32 := Scalar.muli c2_i32_861 arg19
  let v1160 : BitVec 32 := Scalar.addi v867 v1159
  let v1212 : BitVec 32 := Scalar.muli c2_i32_908 v1160
  let v1213 : Index := Scalar.indexCast v1212
  let c0_910 : Index := 0#32
  let c0_911 : Index := 0#32
  ![3, v1213.toNat, 0, 0]
def k0_off760 (i : grid0.Coords) (k0_t23 : Fin (k0_t23_loop i).trips) : Fin 4 → Nat :=
  let c3_912 : Index := 3#32
  let c2_i32_905 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_861 : BitVec 32 := 2#32
  let c0_i32_697 : BitVec 32 := 0#32
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_700 : BitVec 32 := 1#32
  let arg19 : BitVec 32 := Scf.iv v890 c1_i32_700 k0_t23
  let v1159 : BitVec 32 := Scalar.muli c2_i32_861 arg19
  let v1160 : BitVec 32 := Scalar.addi v867 v1159
  let v1209 : BitVec 32 := Scalar.muli c2_i32_905 v1160
  let c1_i32_906 : BitVec 32 := 1#32
  let v1210 : BitVec 32 := Scalar.addi v1209 c1_i32_906
  let c16_i32_907 : BitVec 32 := 16#32
  let v1211 : BitVec 32 := Scalar.minsi v1210 c16_i32_907
  let v1216 : Index := Scalar.indexCast v1211
  let c0_913 : Index := 0#32
  let c0_914 : Index := 0#32
  ![3, v1216.toNat, 0, 0]
def k0_off761 (i : grid0.Coords) (k0_t23 : Fin (k0_t23_loop i).trips) : Fin 4 → Nat :=
  let c0_923 : Index := 0#32
  let c2_i32_922 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_862 : BitVec 32 := 2#32
  let c0_i32_697 : BitVec 32 := 0#32
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_700 : BitVec 32 := 1#32
  let arg19 : BitVec 32 := Scf.iv v890 c1_i32_700 k0_t23
  let v1161 : BitVec 32 := Scalar.muli c2_i32_862 arg19
  let v1162 : BitVec 32 := Scalar.addi v867 v1161
  let c1_i32_863 : BitVec 32 := 1#32
  let v1163 : BitVec 32 := Scalar.addi v1162 c1_i32_863
  let v1227 : BitVec 32 := Scalar.muli c2_i32_922 v1163
  let v1228 : Index := Scalar.indexCast v1227
  let c0_924 : Index := 0#32
  let c0_925 : Index := 0#32
  ![0, v1228.toNat, 0, 0]
def k0_off762 (i : grid0.Coords) (k0_t23 : Fin (k0_t23_loop i).trips) : Fin 4 → Nat :=
  let c0_926 : Index := 0#32
  let c2_i32_919 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_862 : BitVec 32 := 2#32
  let c0_i32_697 : BitVec 32 := 0#32
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_700 : BitVec 32 := 1#32
  let arg19 : BitVec 32 := Scf.iv v890 c1_i32_700 k0_t23
  let v1161 : BitVec 32 := Scalar.muli c2_i32_862 arg19
  let v1162 : BitVec 32 := Scalar.addi v867 v1161
  let c1_i32_863 : BitVec 32 := 1#32
  let v1163 : BitVec 32 := Scalar.addi v1162 c1_i32_863
  let v1224 : BitVec 32 := Scalar.muli c2_i32_919 v1163
  let c1_i32_920 : BitVec 32 := 1#32
  let v1225 : BitVec 32 := Scalar.addi v1224 c1_i32_920
  let c16_i32_921 : BitVec 32 := 16#32
  let v1226 : BitVec 32 := Scalar.minsi v1225 c16_i32_921
  let v1231 : Index := Scalar.indexCast v1226
  let c0_927 : Index := 0#32
  let c0_928 : Index := 0#32
  ![0, v1231.toNat, 0, 0]
def k0_off763 (i : grid0.Coords) (k0_t23 : Fin (k0_t23_loop i).trips) : Fin 4 → Nat :=
  let c1_937 : Index := 1#32
  let c2_i32_936 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_862 : BitVec 32 := 2#32
  let c0_i32_697 : BitVec 32 := 0#32
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_700 : BitVec 32 := 1#32
  let arg19 : BitVec 32 := Scf.iv v890 c1_i32_700 k0_t23
  let v1161 : BitVec 32 := Scalar.muli c2_i32_862 arg19
  let v1162 : BitVec 32 := Scalar.addi v867 v1161
  let c1_i32_863 : BitVec 32 := 1#32
  let v1163 : BitVec 32 := Scalar.addi v1162 c1_i32_863
  let v1242 : BitVec 32 := Scalar.muli c2_i32_936 v1163
  let v1243 : Index := Scalar.indexCast v1242
  let c0_938 : Index := 0#32
  let c0_939 : Index := 0#32
  ![1, v1243.toNat, 0, 0]
def k0_off764 (i : grid0.Coords) (k0_t23 : Fin (k0_t23_loop i).trips) : Fin 4 → Nat :=
  let c1_940 : Index := 1#32
  let c2_i32_933 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_862 : BitVec 32 := 2#32
  let c0_i32_697 : BitVec 32 := 0#32
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_700 : BitVec 32 := 1#32
  let arg19 : BitVec 32 := Scf.iv v890 c1_i32_700 k0_t23
  let v1161 : BitVec 32 := Scalar.muli c2_i32_862 arg19
  let v1162 : BitVec 32 := Scalar.addi v867 v1161
  let c1_i32_863 : BitVec 32 := 1#32
  let v1163 : BitVec 32 := Scalar.addi v1162 c1_i32_863
  let v1239 : BitVec 32 := Scalar.muli c2_i32_933 v1163
  let c1_i32_934 : BitVec 32 := 1#32
  let v1240 : BitVec 32 := Scalar.addi v1239 c1_i32_934
  let c16_i32_935 : BitVec 32 := 16#32
  let v1241 : BitVec 32 := Scalar.minsi v1240 c16_i32_935
  let v1246 : Index := Scalar.indexCast v1241
  let c0_941 : Index := 0#32
  let c0_942 : Index := 0#32
  ![1, v1246.toNat, 0, 0]
def k0_off765 (i : grid0.Coords) (k0_t23 : Fin (k0_t23_loop i).trips) : Fin 4 → Nat :=
  let c2_951 : Index := 2#32
  let c2_i32_950 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_862 : BitVec 32 := 2#32
  let c0_i32_697 : BitVec 32 := 0#32
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_700 : BitVec 32 := 1#32
  let arg19 : BitVec 32 := Scf.iv v890 c1_i32_700 k0_t23
  let v1161 : BitVec 32 := Scalar.muli c2_i32_862 arg19
  let v1162 : BitVec 32 := Scalar.addi v867 v1161
  let c1_i32_863 : BitVec 32 := 1#32
  let v1163 : BitVec 32 := Scalar.addi v1162 c1_i32_863
  let v1257 : BitVec 32 := Scalar.muli c2_i32_950 v1163
  let v1258 : Index := Scalar.indexCast v1257
  let c0_952 : Index := 0#32
  let c0_953 : Index := 0#32
  ![2, v1258.toNat, 0, 0]
def k0_off766 (i : grid0.Coords) (k0_t23 : Fin (k0_t23_loop i).trips) : Fin 4 → Nat :=
  let c2_954 : Index := 2#32
  let c2_i32_947 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_862 : BitVec 32 := 2#32
  let c0_i32_697 : BitVec 32 := 0#32
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_700 : BitVec 32 := 1#32
  let arg19 : BitVec 32 := Scf.iv v890 c1_i32_700 k0_t23
  let v1161 : BitVec 32 := Scalar.muli c2_i32_862 arg19
  let v1162 : BitVec 32 := Scalar.addi v867 v1161
  let c1_i32_863 : BitVec 32 := 1#32
  let v1163 : BitVec 32 := Scalar.addi v1162 c1_i32_863
  let v1254 : BitVec 32 := Scalar.muli c2_i32_947 v1163
  let c1_i32_948 : BitVec 32 := 1#32
  let v1255 : BitVec 32 := Scalar.addi v1254 c1_i32_948
  let c16_i32_949 : BitVec 32 := 16#32
  let v1256 : BitVec 32 := Scalar.minsi v1255 c16_i32_949
  let v1261 : Index := Scalar.indexCast v1256
  let c0_955 : Index := 0#32
  let c0_956 : Index := 0#32
  ![2, v1261.toNat, 0, 0]
def k0_off767 (i : grid0.Coords) (k0_t23 : Fin (k0_t23_loop i).trips) : Fin 4 → Nat :=
  let c3_965 : Index := 3#32
  let c2_i32_964 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_862 : BitVec 32 := 2#32
  let c0_i32_697 : BitVec 32 := 0#32
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_700 : BitVec 32 := 1#32
  let arg19 : BitVec 32 := Scf.iv v890 c1_i32_700 k0_t23
  let v1161 : BitVec 32 := Scalar.muli c2_i32_862 arg19
  let v1162 : BitVec 32 := Scalar.addi v867 v1161
  let c1_i32_863 : BitVec 32 := 1#32
  let v1163 : BitVec 32 := Scalar.addi v1162 c1_i32_863
  let v1272 : BitVec 32 := Scalar.muli c2_i32_964 v1163
  let v1273 : Index := Scalar.indexCast v1272
  let c0_966 : Index := 0#32
  let c0_967 : Index := 0#32
  ![3, v1273.toNat, 0, 0]
def k0_off768 (i : grid0.Coords) (k0_t23 : Fin (k0_t23_loop i).trips) : Fin 4 → Nat :=
  let c3_968 : Index := 3#32
  let c2_i32_961 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_862 : BitVec 32 := 2#32
  let c0_i32_697 : BitVec 32 := 0#32
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_700 : BitVec 32 := 1#32
  let arg19 : BitVec 32 := Scf.iv v890 c1_i32_700 k0_t23
  let v1161 : BitVec 32 := Scalar.muli c2_i32_862 arg19
  let v1162 : BitVec 32 := Scalar.addi v867 v1161
  let c1_i32_863 : BitVec 32 := 1#32
  let v1163 : BitVec 32 := Scalar.addi v1162 c1_i32_863
  let v1269 : BitVec 32 := Scalar.muli c2_i32_961 v1163
  let c1_i32_962 : BitVec 32 := 1#32
  let v1270 : BitVec 32 := Scalar.addi v1269 c1_i32_962
  let c16_i32_963 : BitVec 32 := 16#32
  let v1271 : BitVec 32 := Scalar.minsi v1270 c16_i32_963
  let v1276 : Index := Scalar.indexCast v1271
  let c0_969 : Index := 0#32
  let c0_970 : Index := 0#32
  ![3, v1276.toNat, 0, 0]
def k0_mult105 (i : grid0.Coords) (k0_t23 : Fin (k0_t23_loop i).trips) : BitVec 32 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_861 : BitVec 32 := 2#32
  let c0_i32_697 : BitVec 32 := 0#32
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_700 : BitVec 32 := 1#32
  let arg19 : BitVec 32 := Scf.iv v890 c1_i32_700 k0_t23
  let v1159 : BitVec 32 := Scalar.muli c2_i32_861 arg19
  let v1160 : BitVec 32 := Scalar.addi v867 v1159
  let c256_i32_975 : BitVec 32 := 256#32
  let v1284 : BitVec 32 := Scalar.muli v1160 c256_i32_975
  v1284
def k0_off769 (i : grid0.Coords) (k0_t23 : Fin (k0_t23_loop i).trips) : Fin 3 → Nat :=
  let c0_976 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_861 : BitVec 32 := 2#32
  let c0_i32_697 : BitVec 32 := 0#32
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_700 : BitVec 32 := 1#32
  let arg19 : BitVec 32 := Scf.iv v890 c1_i32_700 k0_t23
  let v1159 : BitVec 32 := Scalar.muli c2_i32_861 arg19
  let v1160 : BitVec 32 := Scalar.addi v867 v1159
  let c256_i32_975 : BitVec 32 := 256#32
  let v1284 : BitVec 32 := Scalar.muli v1160 c256_i32_975
  let v1285 : BitVec 32 := v1284
  let v1286 : Index := Scalar.indexCast v1285
  let c0_977 : Index := 0#32
  ![0, v1286.toNat, 0]
def k0_mult106 (i : grid0.Coords) (k0_t23 : Fin (k0_t23_loop i).trips) : BitVec 32 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_861 : BitVec 32 := 2#32
  let c0_i32_697 : BitVec 32 := 0#32
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_700 : BitVec 32 := 1#32
  let arg19 : BitVec 32 := Scf.iv v890 c1_i32_700 k0_t23
  let v1159 : BitVec 32 := Scalar.muli c2_i32_861 arg19
  let v1160 : BitVec 32 := Scalar.addi v867 v1159
  let c256_i32_1015 : BitVec 32 := 256#32
  let v1349 : BitVec 32 := Scalar.muli v1160 c256_i32_1015
  v1349
def k0_off770 (i : grid0.Coords) (k0_t23 : Fin (k0_t23_loop i).trips) : Fin 3 → Nat :=
  let c1_1016 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_861 : BitVec 32 := 2#32
  let c0_i32_697 : BitVec 32 := 0#32
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_700 : BitVec 32 := 1#32
  let arg19 : BitVec 32 := Scf.iv v890 c1_i32_700 k0_t23
  let v1159 : BitVec 32 := Scalar.muli c2_i32_861 arg19
  let v1160 : BitVec 32 := Scalar.addi v867 v1159
  let c256_i32_1015 : BitVec 32 := 256#32
  let v1349 : BitVec 32 := Scalar.muli v1160 c256_i32_1015
  let v1350 : BitVec 32 := v1349
  let v1351 : Index := Scalar.indexCast v1350
  let c0_1017 : Index := 0#32
  ![1, v1351.toNat, 0]
def k0_mult107 (i : grid0.Coords) (k0_t23 : Fin (k0_t23_loop i).trips) : BitVec 32 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_861 : BitVec 32 := 2#32
  let c0_i32_697 : BitVec 32 := 0#32
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_700 : BitVec 32 := 1#32
  let arg19 : BitVec 32 := Scf.iv v890 c1_i32_700 k0_t23
  let v1159 : BitVec 32 := Scalar.muli c2_i32_861 arg19
  let v1160 : BitVec 32 := Scalar.addi v867 v1159
  let c256_i32_1055 : BitVec 32 := 256#32
  let v1414 : BitVec 32 := Scalar.muli v1160 c256_i32_1055
  v1414
def k0_off771 (i : grid0.Coords) (k0_t23 : Fin (k0_t23_loop i).trips) : Fin 3 → Nat :=
  let c2_1056 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_861 : BitVec 32 := 2#32
  let c0_i32_697 : BitVec 32 := 0#32
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_700 : BitVec 32 := 1#32
  let arg19 : BitVec 32 := Scf.iv v890 c1_i32_700 k0_t23
  let v1159 : BitVec 32 := Scalar.muli c2_i32_861 arg19
  let v1160 : BitVec 32 := Scalar.addi v867 v1159
  let c256_i32_1055 : BitVec 32 := 256#32
  let v1414 : BitVec 32 := Scalar.muli v1160 c256_i32_1055
  let v1415 : BitVec 32 := v1414
  let v1416 : Index := Scalar.indexCast v1415
  let c0_1057 : Index := 0#32
  ![2, v1416.toNat, 0]
def k0_mult108 (i : grid0.Coords) (k0_t23 : Fin (k0_t23_loop i).trips) : BitVec 32 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_861 : BitVec 32 := 2#32
  let c0_i32_697 : BitVec 32 := 0#32
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_700 : BitVec 32 := 1#32
  let arg19 : BitVec 32 := Scf.iv v890 c1_i32_700 k0_t23
  let v1159 : BitVec 32 := Scalar.muli c2_i32_861 arg19
  let v1160 : BitVec 32 := Scalar.addi v867 v1159
  let c256_i32_1095 : BitVec 32 := 256#32
  let v1479 : BitVec 32 := Scalar.muli v1160 c256_i32_1095
  v1479
def k0_off772 (i : grid0.Coords) (k0_t23 : Fin (k0_t23_loop i).trips) : Fin 3 → Nat :=
  let c3_1096 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_861 : BitVec 32 := 2#32
  let c0_i32_697 : BitVec 32 := 0#32
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_700 : BitVec 32 := 1#32
  let arg19 : BitVec 32 := Scf.iv v890 c1_i32_700 k0_t23
  let v1159 : BitVec 32 := Scalar.muli c2_i32_861 arg19
  let v1160 : BitVec 32 := Scalar.addi v867 v1159
  let c256_i32_1095 : BitVec 32 := 256#32
  let v1479 : BitVec 32 := Scalar.muli v1160 c256_i32_1095
  let v1480 : BitVec 32 := v1479
  let v1481 : Index := Scalar.indexCast v1480
  let c0_1097 : Index := 0#32
  ![3, v1481.toNat, 0]
def k0_mult109 (i : grid0.Coords) (k0_t23 : Fin (k0_t23_loop i).trips) : BitVec 32 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_862 : BitVec 32 := 2#32
  let c0_i32_697 : BitVec 32 := 0#32
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_700 : BitVec 32 := 1#32
  let arg19 : BitVec 32 := Scf.iv v890 c1_i32_700 k0_t23
  let v1161 : BitVec 32 := Scalar.muli c2_i32_862 arg19
  let v1162 : BitVec 32 := Scalar.addi v867 v1161
  let c1_i32_863 : BitVec 32 := 1#32
  let v1163 : BitVec 32 := Scalar.addi v1162 c1_i32_863
  let c256_i32_1135 : BitVec 32 := 256#32
  let v1544 : BitVec 32 := Scalar.muli v1163 c256_i32_1135
  v1544
def k0_off773 (i : grid0.Coords) (k0_t23 : Fin (k0_t23_loop i).trips) : Fin 3 → Nat :=
  let c0_1136 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_862 : BitVec 32 := 2#32
  let c0_i32_697 : BitVec 32 := 0#32
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_700 : BitVec 32 := 1#32
  let arg19 : BitVec 32 := Scf.iv v890 c1_i32_700 k0_t23
  let v1161 : BitVec 32 := Scalar.muli c2_i32_862 arg19
  let v1162 : BitVec 32 := Scalar.addi v867 v1161
  let c1_i32_863 : BitVec 32 := 1#32
  let v1163 : BitVec 32 := Scalar.addi v1162 c1_i32_863
  let c256_i32_1135 : BitVec 32 := 256#32
  let v1544 : BitVec 32 := Scalar.muli v1163 c256_i32_1135
  let v1545 : BitVec 32 := v1544
  let v1546 : Index := Scalar.indexCast v1545
  let c0_1137 : Index := 0#32
  ![0, v1546.toNat, 0]
def k0_mult110 (i : grid0.Coords) (k0_t23 : Fin (k0_t23_loop i).trips) : BitVec 32 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_862 : BitVec 32 := 2#32
  let c0_i32_697 : BitVec 32 := 0#32
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_700 : BitVec 32 := 1#32
  let arg19 : BitVec 32 := Scf.iv v890 c1_i32_700 k0_t23
  let v1161 : BitVec 32 := Scalar.muli c2_i32_862 arg19
  let v1162 : BitVec 32 := Scalar.addi v867 v1161
  let c1_i32_863 : BitVec 32 := 1#32
  let v1163 : BitVec 32 := Scalar.addi v1162 c1_i32_863
  let c256_i32_1175 : BitVec 32 := 256#32
  let v1609 : BitVec 32 := Scalar.muli v1163 c256_i32_1175
  v1609
def k0_off774 (i : grid0.Coords) (k0_t23 : Fin (k0_t23_loop i).trips) : Fin 3 → Nat :=
  let c1_1176 : Index := 1#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_862 : BitVec 32 := 2#32
  let c0_i32_697 : BitVec 32 := 0#32
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_700 : BitVec 32 := 1#32
  let arg19 : BitVec 32 := Scf.iv v890 c1_i32_700 k0_t23
  let v1161 : BitVec 32 := Scalar.muli c2_i32_862 arg19
  let v1162 : BitVec 32 := Scalar.addi v867 v1161
  let c1_i32_863 : BitVec 32 := 1#32
  let v1163 : BitVec 32 := Scalar.addi v1162 c1_i32_863
  let c256_i32_1175 : BitVec 32 := 256#32
  let v1609 : BitVec 32 := Scalar.muli v1163 c256_i32_1175
  let v1610 : BitVec 32 := v1609
  let v1611 : Index := Scalar.indexCast v1610
  let c0_1177 : Index := 0#32
  ![1, v1611.toNat, 0]
def k0_mult111 (i : grid0.Coords) (k0_t23 : Fin (k0_t23_loop i).trips) : BitVec 32 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_862 : BitVec 32 := 2#32
  let c0_i32_697 : BitVec 32 := 0#32
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_700 : BitVec 32 := 1#32
  let arg19 : BitVec 32 := Scf.iv v890 c1_i32_700 k0_t23
  let v1161 : BitVec 32 := Scalar.muli c2_i32_862 arg19
  let v1162 : BitVec 32 := Scalar.addi v867 v1161
  let c1_i32_863 : BitVec 32 := 1#32
  let v1163 : BitVec 32 := Scalar.addi v1162 c1_i32_863
  let c256_i32_1215 : BitVec 32 := 256#32
  let v1674 : BitVec 32 := Scalar.muli v1163 c256_i32_1215
  v1674
def k0_off775 (i : grid0.Coords) (k0_t23 : Fin (k0_t23_loop i).trips) : Fin 3 → Nat :=
  let c2_1216 : Index := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_862 : BitVec 32 := 2#32
  let c0_i32_697 : BitVec 32 := 0#32
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_700 : BitVec 32 := 1#32
  let arg19 : BitVec 32 := Scf.iv v890 c1_i32_700 k0_t23
  let v1161 : BitVec 32 := Scalar.muli c2_i32_862 arg19
  let v1162 : BitVec 32 := Scalar.addi v867 v1161
  let c1_i32_863 : BitVec 32 := 1#32
  let v1163 : BitVec 32 := Scalar.addi v1162 c1_i32_863
  let c256_i32_1215 : BitVec 32 := 256#32
  let v1674 : BitVec 32 := Scalar.muli v1163 c256_i32_1215
  let v1675 : BitVec 32 := v1674
  let v1676 : Index := Scalar.indexCast v1675
  let c0_1217 : Index := 0#32
  ![2, v1676.toNat, 0]
def k0_mult112 (i : grid0.Coords) (k0_t23 : Fin (k0_t23_loop i).trips) : BitVec 32 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_862 : BitVec 32 := 2#32
  let c0_i32_697 : BitVec 32 := 0#32
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_700 : BitVec 32 := 1#32
  let arg19 : BitVec 32 := Scf.iv v890 c1_i32_700 k0_t23
  let v1161 : BitVec 32 := Scalar.muli c2_i32_862 arg19
  let v1162 : BitVec 32 := Scalar.addi v867 v1161
  let c1_i32_863 : BitVec 32 := 1#32
  let v1163 : BitVec 32 := Scalar.addi v1162 c1_i32_863
  let c256_i32_1255 : BitVec 32 := 256#32
  let v1739 : BitVec 32 := Scalar.muli v1163 c256_i32_1255
  v1739
def k0_off776 (i : grid0.Coords) (k0_t23 : Fin (k0_t23_loop i).trips) : Fin 3 → Nat :=
  let c3_1256 : Index := 3#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_674 : BitVec 32 := 2#32
  let c0_i32_675 : BitVec 32 := 0#32
  let v846 : BitVec 1 := Scalar.cmpi .eq c2_i32_674 c0_i32_675
  let c1_i32_676 : BitVec 32 := 1#32
  let v847 : BitVec 32 := Scalar.select v846 c1_i32_676 c2_i32_674
  let v848 : BitVec 32 := Scalar.remsi v17 v847
  let c0_i32_678 : BitVec 32 := 0#32
  let v850 : BitVec 1 := Scalar.cmpi .slt v848 c0_i32_678
  let c0_i32_679 : BitVec 32 := 0#32
  let v851 : BitVec 1 := Scalar.cmpi .slt v847 c0_i32_679
  let v852 : BitVec 1 := Scalar.xori v850 v851
  let c0_i32_677 : BitVec 32 := 0#32
  let v849 : BitVec 1 := Scalar.cmpi .ne v848 c0_i32_677
  let v853 : BitVec 1 := Scalar.andi v852 v849
  let v854 : BitVec 32 := Scalar.addi v848 v847
  let v855 : BitVec 32 := Scalar.select v853 v854 v848
  let c1_i32_680 : BitVec 32 := 1#32
  let v856 : BitVec 1 := Scalar.cmpi .eq v855 c1_i32_680
  let c1_i32_685 : BitVec 32 := 1#32
  let v865 : BitVec 1 := Scalar.cmpi .sgt v17 c1_i32_685
  let c3_i32_686 : BitVec 32 := 3#32
  let c1_i32_687 : BitVec 32 := 1#32
  let v866 : BitVec 32 := Scalar.select v865 c3_i32_686 c1_i32_687
  let c0_i32_688 : BitVec 32 := 0#32
  let v867 : BitVec 32 := Scalar.select v856 v866 c0_i32_688
  let c2_i32_862 : BitVec 32 := 2#32
  let c0_i32_697 : BitVec 32 := 0#32
  let v868 : BitVec 32 := Scalar.subi v17 v867
  let c0_i32_690 : BitVec 32 := 0#32
  let v870 : BitVec 1 := Scalar.cmpi .sgt v868 c0_i32_690
  let v871 : BitVec 32 := Scalar.extui v870
  let c0_i32_691 : BitVec 32 := 0#32
  let v872 : BitVec 1 := Scalar.cmpi .slt v868 c0_i32_691
  let v873 : BitVec 32 := Scalar.extui v872
  let v874 : BitVec 32 := Scalar.subi v871 v873
  let c2_i32_689 : BitVec 32 := 2#32
  let c0_i32_692 : BitVec 32 := 0#32
  let v875 : BitVec 1 := Scalar.cmpi .sgt c2_i32_689 c0_i32_692
  let v876 : BitVec 32 := Scalar.extui v875
  let c0_i32_693 : BitVec 32 := 0#32
  let v877 : BitVec 1 := Scalar.cmpi .slt c2_i32_689 c0_i32_693
  let v878 : BitVec 32 := Scalar.extui v877
  let v879 : BitVec 32 := Scalar.subi v876 v878
  let v880 : BitVec 1 := Scalar.cmpi .ne v874 v879
  let v881 : BitVec 32 := Scalar.remsi v868 c2_i32_689
  let c0_i32_694 : BitVec 32 := 0#32
  let v882 : BitVec 1 := Scalar.cmpi .ne v881 c0_i32_694
  let v883 : BitVec 1 := Scalar.andi v880 v882
  let v869 : BitVec 32 := Scalar.divsi v868 c2_i32_689
  let c1_i32_695 : BitVec 32 := 1#32
  let v884 : BitVec 32 := Scalar.subi v869 c1_i32_695
  let v885 : BitVec 32 := Scalar.select v883 v884 v869
  let v886 : BitVec 32 := Scalar.subi v885 c0_i32_697
  let c1_i32_698 : BitVec 32 := 1#32
  let v888 : BitVec 32 := Scalar.divsi v886 c1_i32_698
  let v889 : BitVec 32 := Scalar.muli v888 c1_i32_698
  let v890 : BitVec 32 := Scalar.addi c0_i32_697 v889
  let c1_i32_700 : BitVec 32 := 1#32
  let arg19 : BitVec 32 := Scf.iv v890 c1_i32_700 k0_t23
  let v1161 : BitVec 32 := Scalar.muli c2_i32_862 arg19
  let v1162 : BitVec 32 := Scalar.addi v867 v1161
  let c1_i32_863 : BitVec 32 := 1#32
  let v1163 : BitVec 32 := Scalar.addi v1162 c1_i32_863
  let c256_i32_1255 : BitVec 32 := 256#32
  let v1739 : BitVec 32 := Scalar.muli v1163 c256_i32_1255
  let v1740 : BitVec 32 := v1739
  let v1741 : Index := Scalar.indexCast v1740
  let c0_1257 : Index := 0#32
  ![3, v1741.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4x17x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x17x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x17x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Proof.OutRow.lean ====
module

public import Idealize.ShloMosaic.Lib.Pipeline.ValueKit
public import Idealize.ShloMosaic.Lib.Pointwise

@[expose] public section

set_option maxRecDepth 16384
noncomputable section
open Idealize.ShloMosaic

/-! What one row of the last layer's output is, in real arithmetic: the two mixers' outputs side by side through the output projection,
    added to the scaled residual stream, then normalised over the row's 1024 channels. -/
namespace Cert.OutRow

/-- The constant on the residual stream, as both programs write it. -/
def alpha : EReal := Ideal.ofBits FTy.f32 0x3FB504F3#32
/-- The number of channels of a row, as both programs write it. -/
def width : EReal := Ideal.ofBits FTy.f32 0x44800000#32
/-- The small constant under the square root. -/
def eps : EReal := Ideal.ofBits FTy.f32 0x3727C5AC#32

/-- One channel of one row before the normalisation. `X` is the linear mixer's output, `Y` the sparse mixer's, `H` the residual
    stream, `W` the output projection; `r` counts the stored rows, filler rows included. -/
def pre (X Y : FVec Ideal ⟨3, ![8, 2176, 512]⟩ .bf16) (H : FVec Ideal ⟨3, ![8, 2176, 1024]⟩ .f32) (W : FVec Ideal ⟨2, ![1024, 1024]⟩ .f32)
    (b : Fin 8) (r : Fin 2176) (l : Fin 1024) : EReal :=
  alpha * (show EReal from H (ix3 b r l))
    + (∑ j : Fin 512, (show EReal from X (ix3 b r j)) * (show EReal from W (ix2 ⟨j.val, by omega⟩ l))
      + ∑ j : Fin 512, (show EReal from Y (ix3 b r j)) * (show EReal from W (ix2 ⟨512 + j.val, by omega⟩ l)))

/-- The mean of a row. -/
def mean (u : Fin 1024 → EReal) : EReal := Ideal.div (∑ l, u l) width

/-- A row normalised, scaled by `g` and moved by `s`, at channel `l`. -/
def norm (u g s : Fin 1024 → EReal) (l : Fin 1024) : EReal :=
  (u l - mean u) * Ideal.rsqrt (Ideal.div (∑ k, (u k - mean u) * (u k - mean u)) width + eps) * g l + s l

/-- The whole result: row `s` of the result is stored row `128 + s`. -/
def out (X Y : FVec Ideal ⟨3, ![8, 2176, 512]⟩ .bf16) (H : FVec Ideal ⟨3, ![8, 2176, 1024]⟩ .f32) (W : FVec Ideal ⟨2, ![1024, 1024]⟩ .f32)
    (g s : FVec Ideal ⟨1, ![1024]⟩ .f32) : FVec Ideal ⟨3, ![8, 2048, 1024]⟩ .f32 := fun i =>
  norm (pre X Y H W ⟨(i 0).val, (i 0).isLt⟩ ⟨128 + (i 1).val, by have : (i 1).val < 2048 := (i 1).isLt; omega⟩)
    (fun l => g (ix1 l)) (fun l => s (ix1 l)) ⟨(i 2).val, (i 2).isLt⟩

end Cert.OutRow
-- ==== Proof.OutRef.lean ====
module

public import proofs.«01_k».proof.Proof.Gen.ReferenceIdeal.Run
public import proofs.«01_k».proof.Proof.OutRow
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
namespace Cert.ReferenceIdeal.RefValue
open Cert.ReferenceIdeal Cert.ReferenceIdeal.Gen Cert.ReferenceIdeal.Value
variable (m : (ℓ : Loc nD τ sig) → Buf (Elt Ideal) ℓ)

/-- The reference's result is the specification's, over the reference's own arguments. -/
theorem res_eq (c : Dev nD) : res_main_v33 m c
    = OutRow.out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  funext i
  idx_vars i
  pointwise [res_main_v33, OutRow.out, OutRow.norm, OutRow.pre, OutRow.mean, OutRow.alpha, OutRow.width, OutRow.eps]
  blk_point []
end Cert.ReferenceIdeal.RefValue
-- ==== Proof.OutKer.lean ====
module

public import proofs.«01_k».proof.Proof.Gen.KernelIdeal.Frame
public import proofs.«01_k».proof.Proof.OutRow
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
namespace Cert.KernelIdeal.KerValue
open Cert.KernelIdeal Cert.KernelIdeal.Gen
variable (m : (ℓ : Loc nD τ sig) → Buf (Elt Ideal) ℓ)

theorem idx : ∀ t : Fin cfg0.N, win0_0.index t = ![t.val / 2, 128 + 1024 * (t.val % 2), 0]
   ∧ win0_1.index t = ![t.val / 2, 128 + 1024 * (t.val % 2), 0]
   ∧ win0_2.index t = ![t.val / 2, 128 + 1024 * (t.val % 2), 0]
   ∧ win0_3.index t = ![0, 0]
   ∧ win0_4.index t = ![0, 0]
   ∧ win0_5.index t = ![0, 0]
   ∧ win0_6.index t = ![t.val / 2, t.val % 2, 0] := (by decide +kernel : ∀ t : Fin grid0.N, _)

/-- Where an entry of the linear mixer's block sits in its array. -/
theorem emb0 (t : Fin cfg0.N) (z : S1x1024x512.Idx) :
    (((View.whole main_arg0).slice (win0_0.rect t)).emb z 0 : ℕ) = t.val / 2 + (z 0).val
    ∧ (((View.whole main_arg0).slice (win0_0.rect t)).emb z 1 : ℕ) = 128 + 1024 * (t.val % 2) + (z 1).val
    ∧ (((View.whole main_arg0).slice (win0_0.rect t)).emb z 2 : ℕ) = (z 2).val := by
  have h := fun a => Pipeline.Window.rect_emb_val_off win0_0 t z a
  rw [(idx t).1] at h
  exact ⟨h 0, h 1, (h 2).trans (Nat.zero_add _)⟩

/-- The same for the sparse mixer's block. -/
theorem emb1 (t : Fin cfg0.N) (z : S1x1024x512.Idx) :
    (((View.whole main_arg1).slice (win0_1.rect t)).emb z 0 : ℕ) = t.val / 2 + (z 0).val
    ∧ (((View.whole main_arg1).slice (win0_1.rect t)).emb z 1 : ℕ) = 128 + 1024 * (t.val % 2) + (z 1).val
    ∧ (((View.whole main_arg1).slice (win0_1.rect t)).emb z 2 : ℕ) = (z 2).val := by
  have h := fun a => Pipeline.Window.rect_emb_val_off win0_1 t z a
  rw [(idx t).2.1] at h
  exact ⟨h 0, h 1, (h 2).trans (Nat.zero_add _)⟩

/-- The same for the residual stream's block. -/
theorem emb2 (t : Fin cfg0.N) (z : S1x1024x1024.Idx) :
    (((View.whole main_arg2).slice (win0_2.rect t)).emb z 0 : ℕ) = t.val / 2 + (z 0).val
    ∧ (((View.whole main_arg2).slice (win0_2.rect t)).emb z 1 : ℕ) = 128 + 1024 * (t.val % 2) + (z 1).val
    ∧ (((View.whole main_arg2).slice (win0_2.rect t)).emb z 2 : ℕ) = (z 2).val := by
  have h := fun a => Pipeline.Window.rect_emb_val_off win0_2 t z a
  rw [(idx t).2.2.1] at h
  exact ⟨h 0, h 1, (h 2).trans (Nat.zero_add _)⟩

/-- The kernel's result array is the specification's, over the kernel's own arguments. -/
theorem final (c : Dev nD) : (dats m 0 c).arrAt 6 (cfgs 0).N
    = OutRow.out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  refine (dats m 0 c).arrAt_eq_of_covers 6 _ (by decide +kernel) fun t hf y => ?_
  blk_simp
  rw [after0_6]
  unfold_out out0_6
  canon_tiles x h
  all_goals
    pointwise [k0_pay1, k0_pay2, k0_pay3, k0_pay4, k0_pay5, k0_pay6, k0_pay7, k0_pay8, k0_pay9, k0_pay10, k0_pay11, k0_pay12, k0_pay13,
      k0_pay14, k0_pay15, k0_pay16, k0_pay17, OutRow.out, OutRow.norm, OutRow.pre, OutRow.mean, OutRow.alpha, OutRow.width, OutRow.eps]
    blk_point [iblk, V, idx t, emb0 t, emb1 t, emb2 t]
end Cert.KernelIdeal.KerValue
-- ==== Proof.Keeps.lean ====
/- A program that reads and writes only what a resource lends it leaves the resource in place. This file says so
   structurally: `Keeps R p` is the triple from `R` to `R` for `p`, and there is one lemma for each way a kernel body is
   built (sequence, load, store, branch, counted loop). -/
module

public import Idealize.ShloMosaic.Lib.Writes
public import Idealize.ShloMosaic.Lib.Scf
public import Idealize.ShloMosaic.Lib.Memref

@[expose] public section

noncomputable section

namespace Cert.Keep

open Idealize.ShloMosaic
open Idealize.SL
open Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] (defs : Defs nD τ sig Val Λ) (𝒱 : Variants) (c : Dev nD) (bd : Option 𝒱.V) (E : Set Name)
variable {s : Shape} {e : EltTy} {α β σ : Type}

/-- The program runs from `R` and ends with `R` again, whatever it returns. -/
def Keeps (R : sProp (MT nD τ sig Ix Val Name U Lvl)) (p : Prog (TpuEff nD τ sig Val Λ .tc) α) : Prop :=
  R ⊢ wp frame (wpE defs 𝒱 (c.tc : Thread nD τ) bd) E p (fun _ => R)

/-- `R` lends the memref's buffer for reading. -/
def Reads {cs : CoreSpace} (m : Memref sig .tc cs s e) (R : sProp (MT nD τ sig Ix Val Name U Lvl)) : Prop :=
  R ⊢ iprop(∃ f, (m.view.loc (c.tc : Thread nD τ) ↦[m.view.set]{fullShare} f) ∗ ((m.view.loc (c.tc : Thread nD τ) ↦[m.view.set]{fullShare} f) -∗ R))

/-- `R` lends the memref's buffer for writing: it may come back with any contents. -/
def Writes {cs : CoreSpace} (m : Memref sig .tc cs s e) (R : sProp (MT nD τ sig Ix Val Name U Lvl)) : Prop :=
  R ⊢ iprop(∃ f, (m.view.loc (c.tc : Thread nD τ) ↦[m.view.set]{fullShare} f) ∗ (∀ f', (m.view.loc (c.tc : Thread nD τ) ↦[m.view.set]{fullShare} f') -∗ R))

variable {defs 𝒱 c bd E} {R : sProp (MT nD τ sig Ix Val Name U Lvl)}

/-- A buffer lent for writing may be read. -/
theorem Writes.reads {cs : CoreSpace} {m : Memref sig .tc cs s e} (h : Writes c m R) : Reads c m R := by
  refine (show R ⊢ _ from h).trans ?_
  iintro ⟨%f, H, K⟩
  iexists f
  isplitl [H]
  · iexact H
  · iintro H
    iapply K
    iexact H

theorem Keeps.pure (a : α) : Keeps defs 𝒱 c bd E R (Pure.pure a) := by
  show R ⊢ wp frame (wpE defs 𝒱 (c.tc : Thread nD τ) bd) E (.ret a) (fun _ => R)
  rw [wp_ret]
  iintro H
  imodintro
  iexact H

theorem Keeps.bind {p : Prog (TpuEff nD τ sig Val Λ .tc) α} {k : α → Prog (TpuEff nD τ sig Val Λ .tc) β}
    (hp : Keeps defs 𝒱 c bd E R p) (hk : ∀ a, Keeps defs 𝒱 c bd E R (k a)) : Keeps defs 𝒱 c bd E R (p >>= k) := by
  show R ⊢ wp frame (wpE defs 𝒱 (c.tc : Thread nD τ) bd) E (p >>= k) (fun _ => R)
  rw [wp_bind]
  exact (show R ⊢ _ from hp).trans (wp_mono _ _ _ hk)

theorem Keeps.load {cs : CoreSpace} {m : Memref sig .tc cs s e} (h : Reads c m R) (r : LoadRect s) (hl : m.view.LoadsAt r) :
    Keeps defs 𝒱 c bd E R (Prog.lift (.load m r hl)) := by
  show R ⊢ wp frame (wpE defs 𝒱 (c.tc : Thread nD τ) bd) E (.op (.load m r hl) .ret) (fun _ => R)
  refine (show R ⊢ _ from h).trans ?_
  iintro ⟨%f, H, K⟩
  iapply (wp_load 𝒱 (c.tc : Thread nD τ) bd E (m.view.setOn_subset_set r.set)) $$ H
  iintro H
  rw [wp_ret]
  imodintro
  iapply K
  iexact H

theorem Keeps.store {cs : CoreSpace} {m : Memref sig .tc cs s e} (h : Writes c m R) (r : Rect s) (w : r.shape.Idx → Val e)
    (Mk : Finset r.shape.Idx) (hx : (m.access r).Stores Mk) (hm : Mk = Finset.univ ∨ ∀ a, r.stride a = 1) :
    Keeps defs 𝒱 c bd E R (Prog.lift (.store m r w Mk hx hm)) := by
  show R ⊢ wp frame (wpE defs 𝒱 (c.tc : Thread nD τ) bd) E (.op (.store m r w Mk hx hm) .ret) (fun _ => R)
  refine (show R ⊢ _ from h).trans ?_
  iintro ⟨%f, H, K⟩
  iapply (wp_store 𝒱 (c.tc : Thread nD τ) bd E (m.setOn_access_subset r Mk)) $$ H
  iintro H
  rw [wp_ret]
  imodintro
  iapply K
  iexact H

theorem Keeps.ite {P : Prop} [Decidable P] {p q : Prog (TpuEff nD τ sig Val Λ .tc) α}
    (hp : P → Keeps defs 𝒱 c bd E R p) (hq : ¬P → Keeps defs 𝒱 c bd E R q) : Keeps defs 𝒱 c bd E R (if P then p else q) := by
  split
  · exact hp ‹_›
  · exact hq ‹_›

theorem Keeps.dite {P : Prop} [Decidable P] {p : P → Prog (TpuEff nD τ sig Val Λ .tc) α} {q : ¬P → Prog (TpuEff nD τ sig Val Λ .tc) α}
    (hp : ∀ h, Keeps defs 𝒱 c bd E R (p h)) (hq : ∀ h, Keeps defs 𝒱 c bd E R (q h)) : Keeps defs 𝒱 c bd E R (if h : P then p h else q h) := by
  split
  · exact hp _
  · exact hq _

theorem Keeps.for {w : ℕ} {lb ub st : BitVec w} {hok : Scf.OK lb ub st} {init : σ}
    {body : Fin (Scf.trips lb ub st) → σ → Prog (TpuEff nD τ sig Val Λ .tc) σ}
    (h : ∀ k acc, Keeps defs 𝒱 c bd E R (body k acc)) : Keeps defs 𝒱 c bd E R (Scf.for lb ub st hok init body) := by
  refine Entails.trans ?_ (Scf.wp_for frame (wpE defs 𝒱 (c.tc : Thread nD τ) bd) E lb ub st hok init body (fun _ _ => R) h)
  iintro H
  isplitl [H]
  · iexact H
  · iintro %acc H
    iexact H

/-- A buffer owned at a value may be read. -/
theorem Reads.of_owns {cs : CoreSpace} (m : Memref sig .tc cs s e) (X : s.Idx → Val e) :
    Reads c m (owns (c.tc : Thread nD τ) m fullShare X : sProp (MT nD τ sig Ix Val Name U Lvl)) := by
  show owns (c.tc : Thread nD τ) m fullShare X ⊢ _
  unfold owns
  iintro ⟨%f, %hf, H⟩
  iexists f
  isplitl [H]
  · iexact H
  · iintro H
    iexists f
    isplitr
    · ipureintro; exact hf
    · iexact H

/-- A buffer owned at some value may be written. -/
theorem Writes.of_owns {cs : CoreSpace} (m : Memref sig .tc cs s e) :
    Writes c m (iprop(∃ X, owns (c.tc : Thread nD τ) m fullShare X) : sProp (MT nD τ sig Ix Val Name U Lvl)) := by
  show iprop(∃ X, owns (c.tc : Thread nD τ) m fullShare X) ⊢ _
  unfold owns
  iintro ⟨%X, %f, %hf, H⟩
  iexists f
  isplitl [H]
  · iexact H
  · iintro %f' H
    iexists (m.view.read Val f')
    iexists f'
    isplitr
    · ipureintro; rfl
    · iexact H

theorem Reads.left {cs : CoreSpace} {m : Memref sig .tc cs s e} (h : Reads c m R) (S : sProp (MT nD τ sig Ix Val Name U Lvl)) :
    Reads c m iprop(R ∗ S) := by
  show iprop(R ∗ S) ⊢ _
  iintro ⟨HR, HS⟩
  ihave HR := (show R ⊢ _ from h) $$ HR
  icases HR with ⟨%f, H, K⟩
  iexists f
  isplitl [H]
  · iexact H
  · iintro H
    isplitl [H K]
    · iapply K; iexact H
    · iexact HS

theorem Reads.right {cs : CoreSpace} {m : Memref sig .tc cs s e} (h : Reads c m R) (S : sProp (MT nD τ sig Ix Val Name U Lvl)) :
    Reads c m iprop(S ∗ R) := by
  show iprop(S ∗ R) ⊢ _
  iintro ⟨HS, HR⟩
  ihave HR := (show R ⊢ _ from h) $$ HR
  icases HR with ⟨%f, H, K⟩
  iexists f
  isplitl [H]
  · iexact H
  · iintro H
    isplitl [HS]
    · iexact HS
    · iapply K; iexact H

theorem Writes.left {cs : CoreSpace} {m : Memref sig .tc cs s e} (h : Writes c m R) (S : sProp (MT nD τ sig Ix Val Name U Lvl)) :
    Writes c m iprop(R ∗ S) := by
  show iprop(R ∗ S) ⊢ _
  iintro ⟨HR, HS⟩
  ihave HR := (show R ⊢ _ from h) $$ HR
  icases HR with ⟨%f, H, K⟩
  iexists f
  isplitl [H]
  · iexact H
  · iintro %f' H
    isplitl [H K]
    · iapply K; iexact H
    · iexact HS

theorem Writes.right {cs : CoreSpace} {m : Memref sig .tc cs s e} (h : Writes c m R) (S : sProp (MT nD τ sig Ix Val Name U Lvl)) :
    Writes c m iprop(S ∗ R) := by
  show iprop(S ∗ R) ⊢ _
  iintro ⟨HS, HR⟩
  ihave HR := (show R ⊢ _ from h) $$ HR
  icases HR with ⟨%f, H, K⟩
  iexists f
  isplitl [H]
  · iexact H
  · iintro %f' H
    isplitl [HS]
    · iexact HS
    · iapply K; iexact H

end Cert.Keep

end
-- ==== Proof.GlaKeepIdeal.lean ====
/- Every part and every loop body of the linear mixer's kernel with its steps read at the ideal instance leaves in place a resource that lends the
   input tiles for reading and the output tile and the three scratch buffers for writing. -/
module

public import proofs.«01_k».proof.Proof.Gen.Kernel5Ideal.Skeleton
public import proofs.«01_k».proof.Proof.Gen.Kernel5Ideal.Frame
public import proofs.«01_k».proof.Proof.Keeps

@[expose] public section

noncomputable section

namespace Cert.Kernel5Ideal.Hand

open Idealize.ShloMosaic Idealize.SL.Sem Cert.Kernel5Ideal.Gen Cert.Keep Idealize.SL Idealize.SL.RA
open Idealize.SL.BI (sProp)

variable {F : FTy → Type} [FloatOps F]
variable {c : Dev nD} {E : Set ℕ} {R : sProp (MT nD τ sig Unit (Elt F) ℕ (UR sig nD τ) ℕ)}
variable (i : grid0.Coords) (arg2 : Memref sig .tc .vmem S8x128x256 .f32) (harg2 : arg2.IsWhole) (arg3 : Memref sig .tc .vmem S8x128x256 .f32) (harg3 : arg3.IsWhole) (arg4 : Memref sig .tc .vmem S8x128x256 .f32) (harg4 : arg4.IsWhole) (arg5 : Memref sig .tc .vmem S8x128x512 .bf16) (harg5 : arg5.IsWhole) (arg6 : Memref sig .tc .vmem S8x128x512 .f32) (harg6 : arg6.IsWhole) (arg7 : Memref sig .tc .vmem S1x128 .f32) (harg7 : arg7.IsWhole) (arg8 : Memref sig .tc .vmem S8x128x512 .bf16) (harg8 : arg8.IsWhole) (arg9 : Memref sig .tc .vmem S8x4x128x128 .f32) (harg9 : arg9.IsWhole) (arg10 : Memref sig .tc .vmem S32x64x64 .f32) (harg10 : arg10.IsWhole) (arg11 : Memref sig .tc .vmem S2x64x128 .f32) (harg11 : arg11.IsWhole)
variable (h2 : Reads c arg2 R) (h3 : Reads c arg3 R) (h4 : Reads c arg4 R) (h5 : Reads c arg5 R) (h6 : Reads c arg6 R) (h7 : Reads c arg7 R) (h8 : Writes c arg8 R) (h9 : Writes c arg9 R) (h10 : Writes c arg10 R) (h11 : Writes c arg11 R)
include h2 h3 h4 h5 h6 h7 h8 h9 h10 h11

theorem keep_k0_part18 : ∀ x0 x1 x2 x3 x4 x5, Keeps (defs₀ (F := F)) Variants.none c none E R (k0_part18 (F := F) i arg2 harg2 arg3 harg3 arg4 harg4 arg5 harg5 arg6 harg6 arg7 harg7 arg8 harg8 arg9 harg9 arg10 harg10 arg11 harg11 x0 x1 x2 x3 x4 x5) := by
  intros; rw [k0_part18_eq_skeleton]; unfold k0_part18_skel
  repeat' first | with_reducible exact Keeps.pure _ | (with_reducible refine Keeps.bind ?_ ?_) | (with_reducible refine Keeps.load ?_ _ _; first | assumption | exact Writes.reads ‹_›) | intro _ | split | (fail_if_no_progress dsimp only)

theorem keep_k0_part19 : ∀ x0 x1 x2 x3 x4, Keeps (defs₀ (F := F)) Variants.none c none E R (k0_part19 (F := F) i arg2 harg2 arg3 harg3 arg4 harg4 arg5 harg5 arg6 harg6 arg7 harg7 arg8 harg8 arg9 harg9 arg10 harg10 arg11 harg11 x0 x1 x2 x3 x4) := by
  intros; rw [k0_part19_eq_skeleton]; unfold k0_part19_skel
  repeat' first | with_reducible exact Keeps.pure _ | (with_reducible refine Keeps.bind ?_ ?_) | (with_reducible refine Keeps.load ?_ _ _; first | assumption | exact Writes.reads ‹_›) | intro _ | split | (fail_if_no_progress dsimp only)

theorem keep_k0_part20 : ∀ x0 x1 x2 x3 x4 x5, Keeps (defs₀ (F := F)) Variants.none c none E R (k0_part20 (F := F) i arg2 harg2 arg3 harg3 arg4 harg4 arg5 harg5 arg6 harg6 arg7 harg7 arg8 harg8 arg9 harg9 arg10 harg10 arg11 harg11 x0 x1 x2 x3 x4 x5) := by
  intros; rw [k0_part20_eq_skeleton]; unfold k0_part20_skel
  repeat' first | with_reducible exact Keeps.pure _ | (with_reducible refine Keeps.bind ?_ ?_) | (with_reducible refine Keeps.load ?_ _ _; first | assumption | exact Writes.reads ‹_›) | intro _ | split | (fail_if_no_progress dsimp only)

theorem keep_k0_part21 : ∀ x0 x1 x2, Keeps (defs₀ (F := F)) Variants.none c none E R (k0_part21 (F := F) i arg2 harg2 arg3 harg3 arg4 harg4 arg5 harg5 arg6 harg6 arg7 harg7 arg8 harg8 arg9 harg9 arg10 harg10 arg11 harg11 x0 x1 x2) := by
  intros; rw [k0_part21_eq_skeleton]; unfold k0_part21_skel
  repeat' first | with_reducible exact Keeps.pure _ | (with_reducible refine Keeps.bind ?_ ?_) | (with_reducible refine Keeps.load ?_ _ _; first | assumption | exact Writes.reads ‹_›) | intro _ | split | (fail_if_no_progress dsimp only)

theorem keep_k0_part22 : ∀ x0 x1 x2 x3 x4 x5 x6, Keeps (defs₀ (F := F)) Variants.none c none E R (k0_part22 (F := F) i arg2 harg2 arg3 harg3 arg4 harg4 arg5 harg5 arg6 harg6 arg7 harg7 arg8 harg8 arg9 harg9 arg10 harg10 arg11 harg11 x0 x1 x2 x3 x4 x5 x6) := by
  intros; rw [k0_part22_eq_skeleton]; unfold k0_part22_skel
  repeat' first | with_reducible exact Keeps.pure _ | (with_reducible refine Keeps.bind ?_ ?_) | (with_reducible refine Keeps.load ?_ _ _; first | assumption | exact Writes.reads ‹_›) | intro _ | split | (fail_if_no_progress dsimp only)

theorem keep_k0_part23 : ∀ x0 x1 x2 x3 x4 x5 x6 x7 x8 x9 x10, Keeps (defs₀ (F := F)) Variants.none c none E R (k0_part23 (F := F) i arg2 harg2 arg3 harg3 arg4 harg4 arg5 harg5 arg6 harg6 arg7 harg7 arg8 harg8 arg9 harg9 arg10 harg10 arg11 harg11 x0 x1 x2 x3 x4 x5 x6 x7 x8 x9 x10) := by
  intros; rw [k0_part23_eq_skeleton]; unfold k0_part23_skel
  repeat' first | with_reducible exact Keeps.pure _ | (with_reducible refine Keeps.bind ?_ ?_) | (with_reducible refine Keeps.load ?_ _ _; first | assumption | exact Writes.reads ‹_›) | intro _ | split | (fail_if_no_progress dsimp only)

theorem keep_k0_part24 : ∀ x0 x1 x2 x3 x4 x5 x6, Keeps (defs₀ (F := F)) Variants.none c none E R (k0_part24 (F := F) i arg2 harg2 arg3 harg3 arg4 harg4 arg5 harg5 arg6 harg6 arg7 harg7 arg8 harg8 arg9 harg9 arg10 harg10 arg11 harg11 x0 x1 x2 x3 x4 x5 x6) := by
  intros; rw [k0_part24_eq_skeleton]; unfold k0_part24_skel
  repeat' first | with_reducible exact Keeps.pure _ | (with_reducible refine Keeps.bind ?_ ?_) | (with_reducible refine Keeps.load ?_ _ _; first | assumption | exact Writes.reads ‹_›) | intro _ | split | (fail_if_no_progress dsimp only)

theorem keep_k0_part25 : ∀ x0 x1 x2 x3 x4 x5 x6 x7 x8 x9, Keeps (defs₀ (F := F)) Variants.none c none E R (k0_part25 (F := F) i arg2 harg2 arg3 harg3 arg4 harg4 arg5 harg5 arg6 harg6 arg7 harg7 arg8 harg8 arg9 harg9 arg10 harg10 arg11 harg11 x0 x1 x2 x3 x4 x5 x6 x7 x8 x9) := by
  intros; rw [k0_part25_eq_skeleton]; unfold k0_part25_skel
  repeat' first | with_reducible exact Keeps.pure _ | (with_reducible refine Keeps.bind ?_ ?_) | (with_reducible refine Keeps.load ?_ _ _; first | assumption | exact Writes.reads ‹_›) | intro _ | split | (fail_if_no_progress dsimp only)

theorem keep_k0_part26 : ∀ x0 x1 x2 x3 x4 x5 x6 x7, Keeps (defs₀ (F := F)) Variants.none c none E R (k0_part26 (F := F) i arg2 harg2 arg3 harg3 arg4 harg4 arg5 harg5 arg6 harg6 arg7 harg7 arg8 harg8 arg9 harg9 arg10 harg10 arg11 harg11 x0 x1 x2 x3 x4 x5 x6 x7) := by
  intros; rw [k0_part26_eq_skeleton]; unfold k0_part26_skel
  repeat' first | with_reducible exact Keeps.pure _ | (with_reducible refine Keeps.bind ?_ ?_) | (with_reducible refine Keeps.load ?_ _ _; first | assumption | exact Writes.reads ‹_›) | intro _ | split | (fail_if_no_progress dsimp only)

theorem keep_k0_part27 : ∀ x0 x1 x2 x3 x4 x5 x6 x7 x8 x9, Keeps (defs₀ (F := F)) Variants.none c none E R (k0_part27 (F := F) i arg2 harg2 arg3 harg3 arg4 harg4 arg5 harg5 arg6 harg6 arg7 harg7 arg8 harg8 arg9 harg9 arg10 harg10 arg11 harg11 x0 x1 x2 x3 x4 x5 x6 x7 x8 x9) := by
  intros; rw [k0_part27_eq_skeleton]; unfold k0_part27_skel
  repeat' first | with_reducible exact Keeps.pure _ | (with_reducible refine Keeps.bind ?_ ?_) | (with_reducible refine Keeps.load ?_ _ _; first | assumption | exact Writes.reads ‹_›) | intro _ | split | (fail_if_no_progress dsimp only)

theorem keep_k0_part28 : ∀ x0 x1 x2 x3 x4 x5 x6 x7 x8 x9, Keeps (defs₀ (F := F)) Variants.none c none E R (k0_part28 (F := F) i arg2 harg2 arg3 harg3 arg4 harg4 arg5 harg5 arg6 harg6 arg7 harg7 arg8 harg8 arg9 harg9 arg10 harg10 arg11 harg11 x0 x1 x2 x3 x4 x5 x6 x7 x8 x9) := by
  intros; rw [k0_part28_eq_skeleton]; unfold k0_part28_skel
  repeat' first | with_reducible exact Keeps.pure _ | (with_reducible refine Keeps.bind ?_ ?_) | (with_reducible refine Keeps.load ?_ _ _; first | assumption | exact Writes.reads ‹_›) | intro _ | split | (fail_if_no_progress dsimp only)

theorem keep_k0_part29 : ∀ x0 x1 x2 x3 x4 x5 x6 x7 x8 x9, Keeps (defs₀ (F := F)) Variants.none c none E R (k0_part29 (F := F) i arg2 harg2 arg3 harg3 arg4 harg4 arg5 harg5 arg6 harg6 arg7 harg7 arg8 harg8 arg9 harg9 arg10 harg10 arg11 harg11 x0 x1 x2 x3 x4 x5 x6 x7 x8 x9) := by
  intros; rw [k0_part29_eq_skeleton]; unfold k0_part29_skel
  repeat' first | with_reducible exact Keeps.pure _ | (with_reducible refine Keeps.bind ?_ ?_) | (with_reducible refine Keeps.load ?_ _ _; first | assumption | exact Writes.reads ‹_›) | intro _ | split | (fail_if_no_progress dsimp only)

theorem keep_k0_part30 : ∀ x0 x1 x2 x3 x4 x5 x6 x7 x8, Keeps (defs₀ (F := F)) Variants.none c none E R (k0_part30 (F := F) i arg2 harg2 arg3 harg3 arg4 harg4 arg5 harg5 arg6 harg6 arg7 harg7 arg8 harg8 arg9 harg9 arg10 harg10 arg11 harg11 x0 x1 x2 x3 x4 x5 x6 x7 x8) := by
  intros; rw [k0_part30_eq_skeleton]; unfold k0_part30_skel
  repeat' first | with_reducible exact Keeps.pure _ | (with_reducible refine Keeps.bind ?_ ?_) | (with_reducible refine Keeps.load ?_ _ _; first | assumption | exact Writes.reads ‹_›) | intro _ | split | (fail_if_no_progress dsimp only)

theorem keep_k0_part31 : ∀ x0 x1 x2 x3 x4 x5 x6 x7, Keeps (defs₀ (F := F)) Variants.none c none E R (k0_part31 (F := F) i arg2 harg2 arg3 harg3 arg4 harg4 arg5 harg5 arg6 harg6 arg7 harg7 arg8 harg8 arg9 harg9 arg10 harg10 arg11 harg11 x0 x1 x2 x3 x4 x5 x6 x7) := by
  intros; rw [k0_part31_eq_skeleton]; unfold k0_part31_skel
  repeat' first | with_reducible exact Keeps.pure _ | (with_reducible refine Keeps.bind ?_ ?_) | (with_reducible refine Keeps.load ?_ _ _; first | assumption | exact Writes.reads ‹_›) | intro _ | split | (fail_if_no_progress dsimp only)

theorem keep_k0_part32 : ∀ x0 x1 x2 x3 x4 x5 x6 x7 x8 x9 x10 x11 x12 x13 x14, Keeps (defs₀ (F := F)) Variants.none c none E R (k0_part32 (F := F) i arg2 harg2 arg3 harg3 arg4 harg4 arg5 harg5 arg6 harg6 arg7 harg7 arg8 harg8 arg9 harg9 arg10 harg10 arg11 harg11 x0 x1 x2 x3 x4 x5 x6 x7 x8 x9 x10 x11 x12 x13 x14) := by
  intros; rw [k0_part32_eq_skeleton]; unfold k0_part32_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part33 : ∀ x0 x1 x2 x3 x4 x5 x6 x7 x8 x9 x10 x11 x12 x13 x14, Keeps (defs₀ (F := F)) Variants.none c none E R (k0_part33 (F := F) i arg2 harg2 arg3 harg3 arg4 harg4 arg5 harg5 arg6 harg6 arg7 harg7 arg8 harg8 arg9 harg9 arg10 harg10 arg11 harg11 x0 x1 x2 x3 x4 x5 x6 x7 x8 x9 x10 x11 x12 x13 x14) := by
  intros; rw [k0_part33_eq_skeleton]; unfold k0_part33_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part34 : ∀ x0 x1 x2 x3 x4 x5 x6 x7 x8 x9 x10 x11, Keeps (defs₀ (F := F)) Variants.none c none E R (k0_part34 (F := F) i arg2 harg2 arg3 harg3 arg4 harg4 arg5 harg5 arg6 harg6 arg7 harg7 arg8 harg8 arg9 harg9 arg10 harg10 arg11 harg11 x0 x1 x2 x3 x4 x5 x6 x7 x8 x9 x10 x11) := by
  intros; rw [k0_part34_eq_skeleton]; unfold k0_part34_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part35 : ∀ x0 x1 x2 x3 x4 x5 x6 x7 x8 x9 x10 x11, Keeps (defs₀ (F := F)) Variants.none c none E R (k0_part35 (F := F) i arg2 harg2 arg3 harg3 arg4 harg4 arg5 harg5 arg6 harg6 arg7 harg7 arg8 harg8 arg9 harg9 arg10 harg10 arg11 harg11 x0 x1 x2 x3 x4 x5 x6 x7 x8 x9 x10 x11) := by
  intros; rw [k0_part35_eq_skeleton]; unfold k0_part35_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part36 : ∀ x0 x1 x2 x3 x4 x5 x6 x7 x8 x9 x10 x11 x12, Keeps (defs₀ (F := F)) Variants.none c none E R (k0_part36 (F := F) i arg2 harg2 arg3 harg3 arg4 harg4 arg5 harg5 arg6 harg6 arg7 harg7 arg8 harg8 arg9 harg9 arg10 harg10 arg11 harg11 x0 x1 x2 x3 x4 x5 x6 x7 x8 x9 x10 x11 x12) := by
  intros; rw [k0_part36_eq_skeleton]; unfold k0_part36_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part37 : ∀ x0 x1 x2 x3 x4 x5 x6 x7 x8 x9 x10 x11 x12 x13, Keeps (defs₀ (F := F)) Variants.none c none E R (k0_part37 (F := F) i arg2 harg2 arg3 harg3 arg4 harg4 arg5 harg5 arg6 harg6 arg7 harg7 arg8 harg8 arg9 harg9 arg10 harg10 arg11 harg11 x0 x1 x2 x3 x4 x5 x6 x7 x8 x9 x10 x11 x12 x13) := by
  intros; rw [k0_part37_eq_skeleton]; unfold k0_part37_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part38 : ∀ x0 x1 x2 x3 x4 x5 x6 x7 x8 x9 x10 x11 x12 x13 x14 x15, Keeps (defs₀ (F := F)) Variants.none c none E R (k0_part38 (F := F) i arg2 harg2 arg3 harg3 arg4 harg4 arg5 harg5 arg6 harg6 arg7 harg7 arg8 harg8 arg9 harg9 arg10 harg10 arg11 harg11 x0 x1 x2 x3 x4 x5 x6 x7 x8 x9 x10 x11 x12 x13 x14 x15) := by
  intros; rw [k0_part38_eq_skeleton]; unfold k0_part38_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part39 : ∀ x0 x1 x2 x3 x4 x5 x6 x7 x8 x9 x10 x11 x12 x13 x14 x15, Keeps (defs₀ (F := F)) Variants.none c none E R (k0_part39 (F := F) i arg2 harg2 arg3 harg3 arg4 harg4 arg5 harg5 arg6 harg6 arg7 harg7 arg8 harg8 arg9 harg9 arg10 harg10 arg11 harg11 x0 x1 x2 x3 x4 x5 x6 x7 x8 x9 x10 x11 x12 x13 x14 x15) := by
  intros; rw [k0_part39_eq_skeleton]; unfold k0_part39_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part40 : ∀ x0 x1 x2 x3 x4 x5 x6 x7 x8 x9 x10 x11 x12 x13 x14, Keeps (defs₀ (F := F)) Variants.none c none E R (k0_part40 (F := F) i arg2 harg2 arg3 harg3 arg4 harg4 arg5 harg5 arg6 harg6 arg7 harg7 arg8 harg8 arg9 harg9 arg10 harg10 arg11 harg11 x0 x1 x2 x3 x4 x5 x6 x7 x8 x9 x10 x11 x12 x13 x14) := by
  intros; rw [k0_part40_eq_skeleton]; unfold k0_part40_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part41 : ∀ x0 x1 x2 x3 x4 x5 x6 x7 x8 x9 x10 x11 x12 x13 x14, Keeps (defs₀ (F := F)) Variants.none c none E R (k0_part41 (F := F) i arg2 harg2 arg3 harg3 arg4 harg4 arg5 harg5 arg6 harg6 arg7 harg7 arg8 harg8 arg9 harg9 arg10 harg10 arg11 harg11 x0 x1 x2 x3 x4 x5 x6 x7 x8 x9 x10 x11 x12 x13 x14) := by
  intros; rw [k0_part41_eq_skeleton]; unfold k0_part41_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part42 : ∀ x0 x1 x2 x3 x4 x5 x6 x7 x8 x9 x10 x11, Keeps (defs₀ (F := F)) Variants.none c none E R (k0_part42 (F := F) i arg2 harg2 arg3 harg3 arg4 harg4 arg5 harg5 arg6 harg6 arg7 harg7 arg8 harg8 arg9 harg9 arg10 harg10 arg11 harg11 x0 x1 x2 x3 x4 x5 x6 x7 x8 x9 x10 x11) := by
  intros; rw [k0_part42_eq_skeleton]; unfold k0_part42_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part43 : ∀ x0 x1 x2 x3 x4 x5 x6 x7 x8 x9 x10, Keeps (defs₀ (F := F)) Variants.none c none E R (k0_part43 (F := F) i arg2 harg2 arg3 harg3 arg4 harg4 arg5 harg5 arg6 harg6 arg7 harg7 arg8 harg8 arg9 harg9 arg10 harg10 arg11 harg11 x0 x1 x2 x3 x4 x5 x6 x7 x8 x9 x10) := by
  intros; rw [k0_part43_eq_skeleton]; unfold k0_part43_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part44 : ∀ x0 x1 x2 x3 x4 x5 x6 x7 x8 x9 x10 x11 x12 x13, Keeps (defs₀ (F := F)) Variants.none c none E R (k0_part44 (F := F) i arg2 harg2 arg3 harg3 arg4 harg4 arg5 harg5 arg6 harg6 arg7 harg7 arg8 harg8 arg9 harg9 arg10 harg10 arg11 harg11 x0 x1 x2 x3 x4 x5 x6 x7 x8 x9 x10 x11 x12 x13) := by
  intros; rw [k0_part44_eq_skeleton]; unfold k0_part44_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part45 : ∀ x0 x1 x2 x3 x4 x5 x6 x7 x8 x9 x10 x11 x12 x13, Keeps (defs₀ (F := F)) Variants.none c none E R (k0_part45 (F := F) i arg2 harg2 arg3 harg3 arg4 harg4 arg5 harg5 arg6 harg6 arg7 harg7 arg8 harg8 arg9 harg9 arg10 harg10 arg11 harg11 x0 x1 x2 x3 x4 x5 x6 x7 x8 x9 x10 x11 x12 x13) := by
  intros; rw [k0_part45_eq_skeleton]; unfold k0_part45_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part46 : ∀ x0 x1 x2 x3 x4 x5 x6 x7 x8 x9 x10 x11 x12 x13 x14 x15, Keeps (defs₀ (F := F)) Variants.none c none E R (k0_part46 (F := F) i arg2 harg2 arg3 harg3 arg4 harg4 arg5 harg5 arg6 harg6 arg7 harg7 arg8 harg8 arg9 harg9 arg10 harg10 arg11 harg11 x0 x1 x2 x3 x4 x5 x6 x7 x8 x9 x10 x11 x12 x13 x14 x15) := by
  intros; rw [k0_part46_eq_skeleton]; unfold k0_part46_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part47 : ∀ x0 x1 x2 x3 x4 x5 x6 x7 x8 x9 x10 x11 x12 x13 x14, Keeps (defs₀ (F := F)) Variants.none c none E R (k0_part47 (F := F) i arg2 harg2 arg3 harg3 arg4 harg4 arg5 harg5 arg6 harg6 arg7 harg7 arg8 harg8 arg9 harg9 arg10 harg10 arg11 harg11 x0 x1 x2 x3 x4 x5 x6 x7 x8 x9 x10 x11 x12 x13 x14) := by
  intros; rw [k0_part47_eq_skeleton]; unfold k0_part47_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part48 : ∀ x0 x1 x2 x3 x4 x5 x6 x7 x8 x9 x10 x11 x12 x13 x14 x15, Keeps (defs₀ (F := F)) Variants.none c none E R (k0_part48 (F := F) i arg2 harg2 arg3 harg3 arg4 harg4 arg5 harg5 arg6 harg6 arg7 harg7 arg8 harg8 arg9 harg9 arg10 harg10 arg11 harg11 x0 x1 x2 x3 x4 x5 x6 x7 x8 x9 x10 x11 x12 x13 x14 x15) := by
  intros; rw [k0_part48_eq_skeleton]; unfold k0_part48_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part49 : ∀ x0 x1 x2 x3 x4 x5 x6 x7 x8 x9 x10 x11 x12, Keeps (defs₀ (F := F)) Variants.none c none E R (k0_part49 (F := F) i arg2 harg2 arg3 harg3 arg4 harg4 arg5 harg5 arg6 harg6 arg7 harg7 arg8 harg8 arg9 harg9 arg10 harg10 arg11 harg11 x0 x1 x2 x3 x4 x5 x6 x7 x8 x9 x10 x11 x12) := by
  intros; rw [k0_part49_eq_skeleton]; unfold k0_part49_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part50 : ∀ x0 x1 x2 x3 x4 x5 x6 x7 x8 x9 x10 x11, Keeps (defs₀ (F := F)) Variants.none c none E R (k0_part50 (F := F) i arg2 harg2 arg3 harg3 arg4 harg4 arg5 harg5 arg6 harg6 arg7 harg7 arg8 harg8 arg9 harg9 arg10 harg10 arg11 harg11 x0 x1 x2 x3 x4 x5 x6 x7 x8 x9 x10 x11) := by
  intros; rw [k0_part50_eq_skeleton]; unfold k0_part50_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part51 : ∀ x0 x1 x2 x3 x4 x5 x6 x7 x8 x9 x10 x11, Keeps (defs₀ (F := F)) Variants.none c none E R (k0_part51 (F := F) i arg2 harg2 arg3 harg3 arg4 harg4 arg5 harg5 arg6 harg6 arg7 harg7 arg8 harg8 arg9 harg9 arg10 harg10 arg11 harg11 x0 x1 x2 x3 x4 x5 x6 x7 x8 x9 x10 x11) := by
  intros; rw [k0_part51_eq_skeleton]; unfold k0_part51_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part52 : ∀ x0 x1 x2 x3 x4 x5 x6 x7 x8 x9 x10 x11 x12, Keeps (defs₀ (F := F)) Variants.none c none E R (k0_part52 (F := F) i arg2 harg2 arg3 harg3 arg4 harg4 arg5 harg5 arg6 harg6 arg7 harg7 arg8 harg8 arg9 harg9 arg10 harg10 arg11 harg11 x0 x1 x2 x3 x4 x5 x6 x7 x8 x9 x10 x11 x12) := by
  intros; rw [k0_part52_eq_skeleton]; unfold k0_part52_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part53 : ∀ x0 x1 x2 x3 x4 x5 x6 x7 x8 x9 x10 x11 x12 x13 x14 x15, Keeps (defs₀ (F := F)) Variants.none c none E R (k0_part53 (F := F) i arg2 harg2 arg3 harg3 arg4 harg4 arg5 harg5 arg6 harg6 arg7 harg7 arg8 harg8 arg9 harg9 arg10 harg10 arg11 harg11 x0 x1 x2 x3 x4 x5 x6 x7 x8 x9 x10 x11 x12 x13 x14 x15) := by
  intros; rw [k0_part53_eq_skeleton]; unfold k0_part53_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part54 : ∀ x0 x1 x2 x3 x4 x5 x6 x7 x8 x9 x10 x11 x12 x13 x14, Keeps (defs₀ (F := F)) Variants.none c none E R (k0_part54 (F := F) i arg2 harg2 arg3 harg3 arg4 harg4 arg5 harg5 arg6 harg6 arg7 harg7 arg8 harg8 arg9 harg9 arg10 harg10 arg11 harg11 x0 x1 x2 x3 x4 x5 x6 x7 x8 x9 x10 x11 x12 x13 x14) := by
  intros; rw [k0_part54_eq_skeleton]; unfold k0_part54_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part55 : ∀ x0 x1 x2 x3 x4 x5 x6 x7 x8 x9 x10 x11 x12 x13 x14 x15 x16, Keeps (defs₀ (F := F)) Variants.none c none E R (k0_part55 (F := F) i arg2 harg2 arg3 harg3 arg4 harg4 arg5 harg5 arg6 harg6 arg7 harg7 arg8 harg8 arg9 harg9 arg10 harg10 arg11 harg11 x0 x1 x2 x3 x4 x5 x6 x7 x8 x9 x10 x11 x12 x13 x14 x15 x16) := by
  intros; rw [k0_part55_eq_skeleton]; unfold k0_part55_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part56 : ∀ x0 x1 x2 x3 x4 x5 x6 x7 x8 x9 x10 x11 x12 x13, Keeps (defs₀ (F := F)) Variants.none c none E R (k0_part56 (F := F) i arg2 harg2 arg3 harg3 arg4 harg4 arg5 harg5 arg6 harg6 arg7 harg7 arg8 harg8 arg9 harg9 arg10 harg10 arg11 harg11 x0 x1 x2 x3 x4 x5 x6 x7 x8 x9 x10 x11 x12 x13) := by
  intros; rw [k0_part56_eq_skeleton]; unfold k0_part56_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part57 : ∀ x0 x1 x2 x3 x4 x5 x6 x7 x8 x9 x10 x11, Keeps (defs₀ (F := F)) Variants.none c none E R (k0_part57 (F := F) i arg2 harg2 arg3 harg3 arg4 harg4 arg5 harg5 arg6 harg6 arg7 harg7 arg8 harg8 arg9 harg9 arg10 harg10 arg11 harg11 x0 x1 x2 x3 x4 x5 x6 x7 x8 x9 x10 x11) := by
  intros; rw [k0_part57_eq_skeleton]; unfold k0_part57_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part58 : ∀ x0 x1 x2 x3 x4 x5 x6 x7 x8 x9 x10, Keeps (defs₀ (F := F)) Variants.none c none E R (k0_part58 (F := F) i arg2 harg2 arg3 harg3 arg4 harg4 arg5 harg5 arg6 harg6 arg7 harg7 arg8 harg8 arg9 harg9 arg10 harg10 arg11 harg11 x0 x1 x2 x3 x4 x5 x6 x7 x8 x9 x10) := by
  intros; rw [k0_part58_eq_skeleton]; unfold k0_part58_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part59 : ∀ x0 x1 x2 x3 x4 x5 x6 x7 x8 x9 x10 x11 x12 x13, Keeps (defs₀ (F := F)) Variants.none c none E R (k0_part59 (F := F) i arg2 harg2 arg3 harg3 arg4 harg4 arg5 harg5 arg6 harg6 arg7 harg7 arg8 harg8 arg9 harg9 arg10 harg10 arg11 harg11 x0 x1 x2 x3 x4 x5 x6 x7 x8 x9 x10 x11 x12 x13) := by
  intros; rw [k0_part59_eq_skeleton]; unfold k0_part59_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_t2_body : ∀ x0 x1 x2 x3 x4 x5 x6 x7 x8 x9 x10, Keeps (defs₀ (F := F)) Variants.none c none E R (k0_t2_body (F := F) i arg2 harg2 arg3 harg3 arg4 harg4 arg5 harg5 arg6 harg6 arg7 harg7 arg8 harg8 arg9 harg9 arg10 harg10 arg11 harg11 x0 x1 x2 x3 x4 x5 x6 x7 x8 x9 x10) := by
  intros; unfold k0_t2_body
  repeat' first | with_reducible exact Keeps.pure _ | (with_reducible refine Keeps.bind ?_ ?_) | (with_reducible refine Keeps.load ?_ _ _; first | assumption | exact Writes.reads ‹_›) | intro _ | split | (fail_if_no_progress dsimp only)

theorem keep_k0_part1 : ∀ x0 x1 x2 x3 x4 x5 x6, Keeps (defs₀ (F := F)) Variants.none c none E R (k0_part1 (F := F) i arg2 harg2 arg3 harg3 arg4 harg4 arg5 harg5 arg6 harg6 arg7 harg7 arg8 harg8 arg9 harg9 arg10 harg10 arg11 harg11 x0 x1 x2 x3 x4 x5 x6) := by
  intros; rw [k0_part1_eq_skeleton]; unfold k0_part1_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible refine Keeps.for ?_) | (with_reducible apply keep_k0_t2_body <;> assumption) | intro _ | split | (fail_if_no_progress dsimp only)

theorem keep_k0_t3_body : ∀ x0 x1 x2 x3 x4 x5 x6 x7 x8 x9 x10 x11 x12, Keeps (defs₀ (F := F)) Variants.none c none E R (k0_t3_body (F := F) i arg2 harg2 arg3 harg3 arg4 harg4 arg5 harg5 arg6 harg6 arg7 harg7 arg8 harg8 arg9 harg9 arg10 harg10 arg11 harg11 x0 x1 x2 x3 x4 x5 x6 x7 x8 x9 x10 x11 x12) := by
  intros; unfold k0_t3_body
  repeat' first | with_reducible exact Keeps.pure _ | (with_reducible refine Keeps.bind ?_ ?_) | (with_reducible refine Keeps.load ?_ _ _; first | assumption | exact Writes.reads ‹_›) | intro _ | split | (fail_if_no_progress dsimp only)

theorem keep_k0_part2 : ∀ x0 x1 x2 x3 x4 x5 x6 x7 x8, Keeps (defs₀ (F := F)) Variants.none c none E R (k0_part2 (F := F) i arg2 harg2 arg3 harg3 arg4 harg4 arg5 harg5 arg6 harg6 arg7 harg7 arg8 harg8 arg9 harg9 arg10 harg10 arg11 harg11 x0 x1 x2 x3 x4 x5 x6 x7 x8) := by
  intros; rw [k0_part2_eq_skeleton]; unfold k0_part2_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible refine Keeps.for ?_) | (with_reducible apply keep_k0_t3_body <;> assumption) | intro _ | split | (fail_if_no_progress dsimp only)

theorem keep_k0_part3 : ∀ x0 x1 x2 x3 x4 x5, Keeps (defs₀ (F := F)) Variants.none c none E R (k0_part3 (F := F) i arg2 harg2 arg3 harg3 arg4 harg4 arg5 harg5 arg6 harg6 arg7 harg7 arg8 harg8 arg9 harg9 arg10 harg10 arg11 harg11 x0 x1 x2 x3 x4 x5) := by
  intros; rw [k0_part3_eq_skeleton]; unfold k0_part3_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_t4_body : ∀ x0 x1 x2 x3 x4 x5 x6 x7 x8 x9 x10 x11 x12 x13 x14, Keeps (defs₀ (F := F)) Variants.none c none E R (k0_t4_body (F := F) i arg2 harg2 arg3 harg3 arg4 harg4 arg5 harg5 arg6 harg6 arg7 harg7 arg8 harg8 arg9 harg9 arg10 harg10 arg11 harg11 x0 x1 x2 x3 x4 x5 x6 x7 x8 x9 x10 x11 x12 x13 x14) := by
  intros; unfold k0_t4_body
  repeat' first | with_reducible exact Keeps.pure _ | (with_reducible refine Keeps.bind ?_ ?_) | (with_reducible refine Keeps.load ?_ _ _; first | assumption | exact Writes.reads ‹_›) | intro _ | split | (fail_if_no_progress dsimp only)

theorem keep_k0_part4 : ∀ x0 x1 x2 x3 x4 x5 x6 x7 x8 x9 x10 x11 x12, Keeps (defs₀ (F := F)) Variants.none c none E R (k0_part4 (F := F) i arg2 harg2 arg3 harg3 arg4 harg4 arg5 harg5 arg6 harg6 arg7 harg7 arg8 harg8 arg9 harg9 arg10 harg10 arg11 harg11 x0 x1 x2 x3 x4 x5 x6 x7 x8 x9 x10 x11 x12) := by
  intros; rw [k0_part4_eq_skeleton]; unfold k0_part4_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible refine Keeps.for ?_) | (with_reducible apply keep_k0_t4_body <;> assumption) | intro _ | split | (fail_if_no_progress dsimp only)

theorem keep_k0_t5_body : ∀ x0 x1 x2 x3 x4 x5 x6 x7 x8 x9 x10 x11 x12, Keeps (defs₀ (F := F)) Variants.none c none E R (k0_t5_body (F := F) i arg2 harg2 arg3 harg3 arg4 harg4 arg5 harg5 arg6 harg6 arg7 harg7 arg8 harg8 arg9 harg9 arg10 harg10 arg11 harg11 x0 x1 x2 x3 x4 x5 x6 x7 x8 x9 x10 x11 x12) := by
  intros; unfold k0_t5_body
  repeat' first | with_reducible exact Keeps.pure _ | (with_reducible refine Keeps.bind ?_ ?_) | (with_reducible refine Keeps.load ?_ _ _; first | assumption | exact Writes.reads ‹_›) | intro _ | split | (fail_if_no_progress dsimp only)

theorem keep_k0_part5 : ∀ x0 x1 x2 x3 x4 x5 x6 x7 x8 x9 x10, Keeps (defs₀ (F := F)) Variants.none c none E R (k0_part5 (F := F) i arg2 harg2 arg3 harg3 arg4 harg4 arg5 harg5 arg6 harg6 arg7 harg7 arg8 harg8 arg9 harg9 arg10 harg10 arg11 harg11 x0 x1 x2 x3 x4 x5 x6 x7 x8 x9 x10) := by
  intros; rw [k0_part5_eq_skeleton]; unfold k0_part5_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible refine Keeps.for ?_) | (with_reducible apply keep_k0_t5_body <;> assumption) | intro _ | split | (fail_if_no_progress dsimp only)

theorem keep_k0_t6_body : ∀ x0 x1 x2 x3 x4 x5 x6 x7 x8 x9 x10 x11 x12, Keeps (defs₀ (F := F)) Variants.none c none E R (k0_t6_body (F := F) i arg2 harg2 arg3 harg3 arg4 harg4 arg5 harg5 arg6 harg6 arg7 harg7 arg8 harg8 arg9 harg9 arg10 harg10 arg11 harg11 x0 x1 x2 x3 x4 x5 x6 x7 x8 x9 x10 x11 x12) := by
  intros; unfold k0_t6_body
  repeat' first | with_reducible exact Keeps.pure _ | (with_reducible refine Keeps.bind ?_ ?_) | (with_reducible refine Keeps.load ?_ _ _; first | assumption | exact Writes.reads ‹_›) | intro _ | split | (fail_if_no_progress dsimp only)

theorem keep_k0_part6 : ∀ x0 x1 x2 x3 x4 x5 x6 x7 x8 x9 x10, Keeps (defs₀ (F := F)) Variants.none c none E R (k0_part6 (F := F) i arg2 harg2 arg3 harg3 arg4 harg4 arg5 harg5 arg6 harg6 arg7 harg7 arg8 harg8 arg9 harg9 arg10 harg10 arg11 harg11 x0 x1 x2 x3 x4 x5 x6 x7 x8 x9 x10) := by
  intros; rw [k0_part6_eq_skeleton]; unfold k0_part6_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible refine Keeps.for ?_) | (with_reducible apply keep_k0_t6_body <;> assumption) | intro _ | split | (fail_if_no_progress dsimp only)

theorem keep_k0_t7_body : ∀ x0 x1 x2 x3 x4 x5 x6 x7 x8 x9 x10 x11 x12, Keeps (defs₀ (F := F)) Variants.none c none E R (k0_t7_body (F := F) i arg2 harg2 arg3 harg3 arg4 harg4 arg5 harg5 arg6 harg6 arg7 harg7 arg8 harg8 arg9 harg9 arg10 harg10 arg11 harg11 x0 x1 x2 x3 x4 x5 x6 x7 x8 x9 x10 x11 x12) := by
  intros; unfold k0_t7_body
  repeat' first | with_reducible exact Keeps.pure _ | (with_reducible refine Keeps.bind ?_ ?_) | (with_reducible refine Keeps.load ?_ _ _; first | assumption | exact Writes.reads ‹_›) | intro _ | split | (fail_if_no_progress dsimp only)

theorem keep_k0_part7 : ∀ x0 x1 x2 x3 x4 x5 x6 x7 x8 x9 x10, Keeps (defs₀ (F := F)) Variants.none c none E R (k0_part7 (F := F) i arg2 harg2 arg3 harg3 arg4 harg4 arg5 harg5 arg6 harg6 arg7 harg7 arg8 harg8 arg9 harg9 arg10 harg10 arg11 harg11 x0 x1 x2 x3 x4 x5 x6 x7 x8 x9 x10) := by
  intros; rw [k0_part7_eq_skeleton]; unfold k0_part7_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible refine Keeps.for ?_) | (with_reducible apply keep_k0_t7_body <;> assumption) | intro _ | split | (fail_if_no_progress dsimp only)

theorem keep_k0_t8_body : ∀ x0 x1 x2 x3 x4 x5 x6 x7 x8 x9 x10 x11, Keeps (defs₀ (F := F)) Variants.none c none E R (k0_t8_body (F := F) i arg2 harg2 arg3 harg3 arg4 harg4 arg5 harg5 arg6 harg6 arg7 harg7 arg8 harg8 arg9 harg9 arg10 harg10 arg11 harg11 x0 x1 x2 x3 x4 x5 x6 x7 x8 x9 x10 x11) := by
  intros; unfold k0_t8_body
  repeat' first | with_reducible exact Keeps.pure _ | (with_reducible refine Keeps.bind ?_ ?_) | (with_reducible refine Keeps.load ?_ _ _; first | assumption | exact Writes.reads ‹_›) | intro _ | split | (fail_if_no_progress dsimp only)

theorem keep_k0_part8 : ∀ x0 x1 x2 x3 x4 x5 x6 x7 x8 x9, Keeps (defs₀ (F := F)) Variants.none c none E R (k0_part8 (F := F) i arg2 harg2 arg3 harg3 arg4 harg4 arg5 harg5 arg6 harg6 arg7 harg7 arg8 harg8 arg9 harg9 arg10 harg10 arg11 harg11 x0 x1 x2 x3 x4 x5 x6 x7 x8 x9) := by
  intros; rw [k0_part8_eq_skeleton]; unfold k0_part8_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible refine Keeps.for ?_) | (with_reducible apply keep_k0_t8_body <;> assumption) | intro _ | split | (fail_if_no_progress dsimp only)

theorem keep_k0_t9_body : ∀ x0 x1 x2 x3 x4 x5 x6 x7 x8 x9 x10 x11 x12 x13, Keeps (defs₀ (F := F)) Variants.none c none E R (k0_t9_body (F := F) i arg2 harg2 arg3 harg3 arg4 harg4 arg5 harg5 arg6 harg6 arg7 harg7 arg8 harg8 arg9 harg9 arg10 harg10 arg11 harg11 x0 x1 x2 x3 x4 x5 x6 x7 x8 x9 x10 x11 x12 x13) := by
  intros; unfold k0_t9_body
  repeat' first | with_reducible exact Keeps.pure _ | (with_reducible refine Keeps.bind ?_ ?_) | (with_reducible refine Keeps.load ?_ _ _; first | assumption | exact Writes.reads ‹_›) | intro _ | split | (fail_if_no_progress dsimp only)

theorem keep_k0_part9 : ∀ x0 x1 x2 x3 x4 x5 x6 x7 x8 x9 x10 x11, Keeps (defs₀ (F := F)) Variants.none c none E R (k0_part9 (F := F) i arg2 harg2 arg3 harg3 arg4 harg4 arg5 harg5 arg6 harg6 arg7 harg7 arg8 harg8 arg9 harg9 arg10 harg10 arg11 harg11 x0 x1 x2 x3 x4 x5 x6 x7 x8 x9 x10 x11) := by
  intros; rw [k0_part9_eq_skeleton]; unfold k0_part9_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible refine Keeps.for ?_) | (with_reducible apply keep_k0_t9_body <;> assumption) | intro _ | split | (fail_if_no_progress dsimp only)

theorem keep_k0_t10_body : ∀ x0 x1 x2 x3 x4 x5 x6 x7 x8 x9 x10 x11 x12, Keeps (defs₀ (F := F)) Variants.none c none E R (k0_t10_body (F := F) i arg2 harg2 arg3 harg3 arg4 harg4 arg5 harg5 arg6 harg6 arg7 harg7 arg8 harg8 arg9 harg9 arg10 harg10 arg11 harg11 x0 x1 x2 x3 x4 x5 x6 x7 x8 x9 x10 x11 x12) := by
  intros; unfold k0_t10_body
  repeat' first | with_reducible exact Keeps.pure _ | (with_reducible refine Keeps.bind ?_ ?_) | (with_reducible refine Keeps.load ?_ _ _; first | assumption | exact Writes.reads ‹_›) | intro _ | split | (fail_if_no_progress dsimp only)

theorem keep_k0_part10 : ∀ x0 x1 x2 x3 x4 x5 x6 x7 x8 x9 x10, Keeps (defs₀ (F := F)) Variants.none c none E R (k0_part10 (F := F) i arg2 harg2 arg3 harg3 arg4 harg4 arg5 harg5 arg6 harg6 arg7 harg7 arg8 harg8 arg9 harg9 arg10 harg10 arg11 harg11 x0 x1 x2 x3 x4 x5 x6 x7 x8 x9 x10) := by
  intros; rw [k0_part10_eq_skeleton]; unfold k0_part10_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible refine Keeps.for ?_) | (with_reducible apply keep_k0_t10_body <;> assumption) | intro _ | split | (fail_if_no_progress dsimp only)

theorem keep_k0_t11_body : ∀ x0 x1 x2 x3 x4 x5 x6 x7 x8 x9 x10 x11 x12 x13, Keeps (defs₀ (F := F)) Variants.none c none E R (k0_t11_body (F := F) i arg2 harg2 arg3 harg3 arg4 harg4 arg5 harg5 arg6 harg6 arg7 harg7 arg8 harg8 arg9 harg9 arg10 harg10 arg11 harg11 x0 x1 x2 x3 x4 x5 x6 x7 x8 x9 x10 x11 x12 x13) := by
  intros; unfold k0_t11_body
  repeat' first | with_reducible exact Keeps.pure _ | (with_reducible refine Keeps.bind ?_ ?_) | (with_reducible refine Keeps.load ?_ _ _; first | assumption | exact Writes.reads ‹_›) | intro _ | split | (fail_if_no_progress dsimp only)

theorem keep_k0_part11 : ∀ x0 x1 x2 x3 x4 x5 x6 x7 x8 x9 x10, Keeps (defs₀ (F := F)) Variants.none c none E R (k0_part11 (F := F) i arg2 harg2 arg3 harg3 arg4 harg4 arg5 harg5 arg6 harg6 arg7 harg7 arg8 harg8 arg9 harg9 arg10 harg10 arg11 harg11 x0 x1 x2 x3 x4 x5 x6 x7 x8 x9 x10) := by
  intros; rw [k0_part11_eq_skeleton]; unfold k0_part11_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible refine Keeps.for ?_) | (with_reducible apply keep_k0_t11_body <;> assumption) | intro _ | split | (fail_if_no_progress dsimp only)

theorem keep_k0_t12_body : ∀ x0 x1 x2 x3 x4 x5 x6 x7 x8 x9 x10 x11 x12, Keeps (defs₀ (F := F)) Variants.none c none E R (k0_t12_body (F := F) i arg2 harg2 arg3 harg3 arg4 harg4 arg5 harg5 arg6 harg6 arg7 harg7 arg8 harg8 arg9 harg9 arg10 harg10 arg11 harg11 x0 x1 x2 x3 x4 x5 x6 x7 x8 x9 x10 x11 x12) := by
  intros; unfold k0_t12_body
  repeat' first | with_reducible exact Keeps.pure _ | (with_reducible refine Keeps.bind ?_ ?_) | (with_reducible refine Keeps.load ?_ _ _; first | assumption | exact Writes.reads ‹_›) | intro _ | split | (fail_if_no_progress dsimp only)

theorem keep_k0_part12 : ∀ x0 x1 x2 x3 x4 x5 x6 x7 x8 x9, Keeps (defs₀ (F := F)) Variants.none c none E R (k0_part12 (F := F) i arg2 harg2 arg3 harg3 arg4 harg4 arg5 harg5 arg6 harg6 arg7 harg7 arg8 harg8 arg9 harg9 arg10 harg10 arg11 harg11 x0 x1 x2 x3 x4 x5 x6 x7 x8 x9) := by
  intros; rw [k0_part12_eq_skeleton]; unfold k0_part12_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible refine Keeps.for ?_) | (with_reducible apply keep_k0_t12_body <;> assumption) | intro _ | split | (fail_if_no_progress dsimp only)

theorem keep_k0_t13_body : ∀ x0 x1 x2 x3 x4 x5 x6 x7 x8 x9 x10 x11, Keeps (defs₀ (F := F)) Variants.none c none E R (k0_t13_body (F := F) i arg2 harg2 arg3 harg3 arg4 harg4 arg5 harg5 arg6 harg6 arg7 harg7 arg8 harg8 arg9 harg9 arg10 harg10 arg11 harg11 x0 x1 x2 x3 x4 x5 x6 x7 x8 x9 x10 x11) := by
  intros; unfold k0_t13_body
  repeat' first | with_reducible exact Keeps.pure _ | (with_reducible refine Keeps.bind ?_ ?_) | (with_reducible refine Keeps.load ?_ _ _; first | assumption | exact Writes.reads ‹_›) | intro _ | split | (fail_if_no_progress dsimp only)

theorem keep_k0_part13 : ∀ x0 x1 x2 x3 x4 x5 x6 x7 x8, Keeps (defs₀ (F := F)) Variants.none c none E R (k0_part13 (F := F) i arg2 harg2 arg3 harg3 arg4 harg4 arg5 harg5 arg6 harg6 arg7 harg7 arg8 harg8 arg9 harg9 arg10 harg10 arg11 harg11 x0 x1 x2 x3 x4 x5 x6 x7 x8) := by
  intros; rw [k0_part13_eq_skeleton]; unfold k0_part13_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible refine Keeps.for ?_) | (with_reducible apply keep_k0_t13_body <;> assumption) | intro _ | split | (fail_if_no_progress dsimp only)

theorem keep_k0_t14_body : ∀ x0 x1 x2 x3 x4 x5 x6 x7 x8 x9 x10 x11 x12, Keeps (defs₀ (F := F)) Variants.none c none E R (k0_t14_body (F := F) i arg2 harg2 arg3 harg3 arg4 harg4 arg5 harg5 arg6 harg6 arg7 harg7 arg8 harg8 arg9 harg9 arg10 harg10 arg11 harg11 x0 x1 x2 x3 x4 x5 x6 x7 x8 x9 x10 x11 x12) := by
  intros; unfold k0_t14_body
  repeat' first | with_reducible exact Keeps.pure _ | (with_reducible refine Keeps.bind ?_ ?_) | (with_reducible refine Keeps.load ?_ _ _; first | assumption | exact Writes.reads ‹_›) | intro _ | split | (fail_if_no_progress dsimp only)

theorem keep_k0_part14 : ∀ x0 x1 x2 x3 x4 x5 x6 x7 x8, Keeps (defs₀ (F := F)) Variants.none c none E R (k0_part14 (F := F) i arg2 harg2 arg3 harg3 arg4 harg4 arg5 harg5 arg6 harg6 arg7 harg7 arg8 harg8 arg9 harg9 arg10 harg10 arg11 harg11 x0 x1 x2 x3 x4 x5 x6 x7 x8) := by
  intros; rw [k0_part14_eq_skeleton]; unfold k0_part14_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible refine Keeps.for ?_) | (with_reducible apply keep_k0_t14_body <;> assumption) | intro _ | split | (fail_if_no_progress dsimp only)

theorem keep_k0_t15_body : ∀ x0 x1 x2 x3 x4 x5 x6 x7 x8 x9 x10 x11 x12, Keeps (defs₀ (F := F)) Variants.none c none E R (k0_t15_body (F := F) i arg2 harg2 arg3 harg3 arg4 harg4 arg5 harg5 arg6 harg6 arg7 harg7 arg8 harg8 arg9 harg9 arg10 harg10 arg11 harg11 x0 x1 x2 x3 x4 x5 x6 x7 x8 x9 x10 x11 x12) := by
  intros; unfold k0_t15_body
  repeat' first | with_reducible exact Keeps.pure _ | (with_reducible refine Keeps.bind ?_ ?_) | (with_reducible refine Keeps.load ?_ _ _; first | assumption | exact Writes.reads ‹_›) | intro _ | split | (fail_if_no_progress dsimp only)

theorem keep_k0_part15 : ∀ x0 x1 x2 x3 x4 x5 x6 x7 x8, Keeps (defs₀ (F := F)) Variants.none c none E R (k0_part15 (F := F) i arg2 harg2 arg3 harg3 arg4 harg4 arg5 harg5 arg6 harg6 arg7 harg7 arg8 harg8 arg9 harg9 arg10 harg10 arg11 harg11 x0 x1 x2 x3 x4 x5 x6 x7 x8) := by
  intros; rw [k0_part15_eq_skeleton]; unfold k0_part15_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible refine Keeps.for ?_) | (with_reducible apply keep_k0_t15_body <;> assumption) | intro _ | split | (fail_if_no_progress dsimp only)

theorem keep_k0_part16 : ∀ x0 x1 x2 x3 x4 x5, Keeps (defs₀ (F := F)) Variants.none c none E R (k0_part16 (F := F) i arg2 harg2 arg3 harg3 arg4 harg4 arg5 harg5 arg6 harg6 arg7 harg7 arg8 harg8 arg9 harg9 arg10 harg10 arg11 harg11 x0 x1 x2 x3 x4 x5) := by
  intros; rw [k0_part16_eq_skeleton]; unfold k0_part16_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_t16_body : ∀ x0 x1 x2 x3 x4 x5 x6 x7 x8 x9 x10 x11 x12 x13 x14, Keeps (defs₀ (F := F)) Variants.none c none E R (k0_t16_body (F := F) i arg2 harg2 arg3 harg3 arg4 harg4 arg5 harg5 arg6 harg6 arg7 harg7 arg8 harg8 arg9 harg9 arg10 harg10 arg11 harg11 x0 x1 x2 x3 x4 x5 x6 x7 x8 x9 x10 x11 x12 x13 x14) := by
  intros; unfold k0_t16_body
  repeat' first | with_reducible exact Keeps.pure _ | (with_reducible refine Keeps.bind ?_ ?_) | (with_reducible refine Keeps.load ?_ _ _; first | assumption | exact Writes.reads ‹_›) | intro _ | split | (fail_if_no_progress dsimp only)

theorem keep_k0_part17 : ∀ x0 x1 x2 x3 x4 x5 x6 x7 x8 x9 x10 x11 x12, Keeps (defs₀ (F := F)) Variants.none c none E R (k0_part17 (F := F) i arg2 harg2 arg3 harg3 arg4 harg4 arg5 harg5 arg6 harg6 arg7 harg7 arg8 harg8 arg9 harg9 arg10 harg10 arg11 harg11 x0 x1 x2 x3 x4 x5 x6 x7 x8 x9 x10 x11 x12) := by
  intros; rw [k0_part17_eq_skeleton]; unfold k0_part17_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible refine Keeps.for ?_) | (with_reducible apply keep_k0_t16_body <;> assumption) | intro _ | split | (fail_if_no_progress dsimp only)

theorem keep_k0_t17_body : ∀ x0 x1 x2 x3 x4 x5 x6 x7 x8 x9 x10 x11 x12 x13 x14 x15 x16 x17 x18 x19 x20 x21 x22 x23, Keeps (defs₀ (F := F)) Variants.none c none E R (k0_t17_body (F := F) i arg2 harg2 arg3 harg3 arg4 harg4 arg5 harg5 arg6 harg6 arg7 harg7 arg8 harg8 arg9 harg9 arg10 harg10 arg11 harg11 x0 x1 x2 x3 x4 x5 x6 x7 x8 x9 x10 x11 x12 x13 x14 x15 x16 x17 x18 x19 x20 x21 x22 x23) := by
  intros; unfold k0_t17_body
  repeat' first | with_reducible exact Keeps.pure _ | (with_reducible refine Keeps.bind ?_ ?_) | (with_reducible refine Keeps.load ?_ _ _; first | assumption | exact Writes.reads ‹_›) | intro _ | split | (fail_if_no_progress dsimp only)

theorem keep_k0_part60 : ∀ x0 x1 x2 x3 x4 x5 x6 x7 x8 x9 x10 x11 x12 x13 x14 x15 x16 x17 x18, Keeps (defs₀ (F := F)) Variants.none c none E R (k0_part60 (F := F) i arg2 harg2 arg3 harg3 arg4 harg4 arg5 harg5 arg6 harg6 arg7 harg7 arg8 harg8 arg9 harg9 arg10 harg10 arg11 harg11 x0 x1 x2 x3 x4 x5 x6 x7 x8 x9 x10 x11 x12 x13 x14 x15 x16 x17 x18) := by
  intros; rw [k0_part60_eq_skeleton]; unfold k0_part60_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible refine Keeps.ite ?_ ?_) | (with_reducible refine Keeps.dite ?_ ?_) | (with_reducible refine Keeps.for ?_) | (with_reducible apply keep_k0_part1 <;> assumption) | (with_reducible apply keep_k0_part2 <;> assumption) | (with_reducible apply keep_k0_part3 <;> assumption) | (with_reducible apply keep_k0_part4 <;> assumption) | (with_reducible apply keep_k0_part5 <;> assumption) | (with_reducible apply keep_k0_part6 <;> assumption) | (with_reducible apply keep_k0_part7 <;> assumption) | (with_reducible apply keep_k0_part8 <;> assumption) | (with_reducible apply keep_k0_part9 <;> assumption) | (with_reducible apply keep_k0_part10 <;> assumption) | (with_reducible apply keep_k0_part11 <;> assumption) | (with_reducible apply keep_k0_part12 <;> assumption) | (with_reducible apply keep_k0_part13 <;> assumption) | (with_reducible apply keep_k0_part14 <;> assumption) | (with_reducible apply keep_k0_part15 <;> assumption) | (with_reducible apply keep_k0_part16 <;> assumption) | (with_reducible apply keep_k0_part17 <;> assumption) | (with_reducible apply keep_k0_t17_body <;> assumption) | intro _ | split | (fail_if_no_progress dsimp only)

theorem keep_k0_part61 : ∀ x0 x1 x2 x3 x4 x5 x6, Keeps (defs₀ (F := F)) Variants.none c none E R (k0_part61 (F := F) i arg2 harg2 arg3 harg3 arg4 harg4 arg5 harg5 arg6 harg6 arg7 harg7 arg8 harg8 arg9 harg9 arg10 harg10 arg11 harg11 x0 x1 x2 x3 x4 x5 x6) := by
  intros; rw [k0_part61_eq_skeleton]; unfold k0_part61_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part62 : ∀ x0 x1 x2 x3 x4 x5 x6 x7 x8, Keeps (defs₀ (F := F)) Variants.none c none E R (k0_part62 (F := F) i arg2 harg2 arg3 harg3 arg4 harg4 arg5 harg5 arg6 harg6 arg7 harg7 arg8 harg8 arg9 harg9 arg10 harg10 arg11 harg11 x0 x1 x2 x3 x4 x5 x6 x7 x8) := by
  intros; rw [k0_part62_eq_skeleton]; unfold k0_part62_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part63 : ∀ x0 x1 x2 x3 x4 x5 x6, Keeps (defs₀ (F := F)) Variants.none c none E R (k0_part63 (F := F) i arg2 harg2 arg3 harg3 arg4 harg4 arg5 harg5 arg6 harg6 arg7 harg7 arg8 harg8 arg9 harg9 arg10 harg10 arg11 harg11 x0 x1 x2 x3 x4 x5 x6) := by
  intros; rw [k0_part63_eq_skeleton]; unfold k0_part63_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part64 : ∀ x0 x1 x2 x3 x4 x5 x6 x7 x8, Keeps (defs₀ (F := F)) Variants.none c none E R (k0_part64 (F := F) i arg2 harg2 arg3 harg3 arg4 harg4 arg5 harg5 arg6 harg6 arg7 harg7 arg8 harg8 arg9 harg9 arg10 harg10 arg11 harg11 x0 x1 x2 x3 x4 x5 x6 x7 x8) := by
  intros; rw [k0_part64_eq_skeleton]; unfold k0_part64_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part65 : ∀ x0 x1 x2 x3 x4 x5 x6, Keeps (defs₀ (F := F)) Variants.none c none E R (k0_part65 (F := F) i arg2 harg2 arg3 harg3 arg4 harg4 arg5 harg5 arg6 harg6 arg7 harg7 arg8 harg8 arg9 harg9 arg10 harg10 arg11 harg11 x0 x1 x2 x3 x4 x5 x6) := by
  intros; rw [k0_part65_eq_skeleton]; unfold k0_part65_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part66 : ∀ x0 x1 x2 x3 x4 x5 x6 x7 x8, Keeps (defs₀ (F := F)) Variants.none c none E R (k0_part66 (F := F) i arg2 harg2 arg3 harg3 arg4 harg4 arg5 harg5 arg6 harg6 arg7 harg7 arg8 harg8 arg9 harg9 arg10 harg10 arg11 harg11 x0 x1 x2 x3 x4 x5 x6 x7 x8) := by
  intros; rw [k0_part66_eq_skeleton]; unfold k0_part66_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part67 : ∀ x0 x1 x2 x3 x4 x5 x6, Keeps (defs₀ (F := F)) Variants.none c none E R (k0_part67 (F := F) i arg2 harg2 arg3 harg3 arg4 harg4 arg5 harg5 arg6 harg6 arg7 harg7 arg8 harg8 arg9 harg9 arg10 harg10 arg11 harg11 x0 x1 x2 x3 x4 x5 x6) := by
  intros; rw [k0_part67_eq_skeleton]; unfold k0_part67_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part68 : ∀ x0 x1 x2 x3 x4 x5 x6 x7 x8, Keeps (defs₀ (F := F)) Variants.none c none E R (k0_part68 (F := F) i arg2 harg2 arg3 harg3 arg4 harg4 arg5 harg5 arg6 harg6 arg7 harg7 arg8 harg8 arg9 harg9 arg10 harg10 arg11 harg11 x0 x1 x2 x3 x4 x5 x6 x7 x8) := by
  intros; rw [k0_part68_eq_skeleton]; unfold k0_part68_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part69 : ∀ x0 x1 x2 x3 x4 x5 x6, Keeps (defs₀ (F := F)) Variants.none c none E R (k0_part69 (F := F) i arg2 harg2 arg3 harg3 arg4 harg4 arg5 harg5 arg6 harg6 arg7 harg7 arg8 harg8 arg9 harg9 arg10 harg10 arg11 harg11 x0 x1 x2 x3 x4 x5 x6) := by
  intros; rw [k0_part69_eq_skeleton]; unfold k0_part69_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part70 : ∀ x0 x1 x2 x3 x4 x5 x6 x7 x8, Keeps (defs₀ (F := F)) Variants.none c none E R (k0_part70 (F := F) i arg2 harg2 arg3 harg3 arg4 harg4 arg5 harg5 arg6 harg6 arg7 harg7 arg8 harg8 arg9 harg9 arg10 harg10 arg11 harg11 x0 x1 x2 x3 x4 x5 x6 x7 x8) := by
  intros; rw [k0_part70_eq_skeleton]; unfold k0_part70_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part71 : ∀ x0 x1 x2 x3 x4 x5 x6, Keeps (defs₀ (F := F)) Variants.none c none E R (k0_part71 (F := F) i arg2 harg2 arg3 harg3 arg4 harg4 arg5 harg5 arg6 harg6 arg7 harg7 arg8 harg8 arg9 harg9 arg10 harg10 arg11 harg11 x0 x1 x2 x3 x4 x5 x6) := by
  intros; rw [k0_part71_eq_skeleton]; unfold k0_part71_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part72 : ∀ x0 x1 x2 x3 x4 x5 x6 x7 x8, Keeps (defs₀ (F := F)) Variants.none c none E R (k0_part72 (F := F) i arg2 harg2 arg3 harg3 arg4 harg4 arg5 harg5 arg6 harg6 arg7 harg7 arg8 harg8 arg9 harg9 arg10 harg10 arg11 harg11 x0 x1 x2 x3 x4 x5 x6 x7 x8) := by
  intros; rw [k0_part72_eq_skeleton]; unfold k0_part72_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part73 : ∀ x0 x1 x2 x3 x4 x5 x6, Keeps (defs₀ (F := F)) Variants.none c none E R (k0_part73 (F := F) i arg2 harg2 arg3 harg3 arg4 harg4 arg5 harg5 arg6 harg6 arg7 harg7 arg8 harg8 arg9 harg9 arg10 harg10 arg11 harg11 x0 x1 x2 x3 x4 x5 x6) := by
  intros; rw [k0_part73_eq_skeleton]; unfold k0_part73_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part74 : ∀ x0 x1 x2 x3 x4 x5 x6 x7 x8, Keeps (defs₀ (F := F)) Variants.none c none E R (k0_part74 (F := F) i arg2 harg2 arg3 harg3 arg4 harg4 arg5 harg5 arg6 harg6 arg7 harg7 arg8 harg8 arg9 harg9 arg10 harg10 arg11 harg11 x0 x1 x2 x3 x4 x5 x6 x7 x8) := by
  intros; rw [k0_part74_eq_skeleton]; unfold k0_part74_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part75 : ∀ x0 x1 x2 x3 x4 x5 x6, Keeps (defs₀ (F := F)) Variants.none c none E R (k0_part75 (F := F) i arg2 harg2 arg3 harg3 arg4 harg4 arg5 harg5 arg6 harg6 arg7 harg7 arg8 harg8 arg9 harg9 arg10 harg10 arg11 harg11 x0 x1 x2 x3 x4 x5 x6) := by
  intros; rw [k0_part75_eq_skeleton]; unfold k0_part75_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part76 : ∀ x0 x1 x2 x3 x4 x5 x6 x7 x8, Keeps (defs₀ (F := F)) Variants.none c none E R (k0_part76 (F := F) i arg2 harg2 arg3 harg3 arg4 harg4 arg5 harg5 arg6 harg6 arg7 harg7 arg8 harg8 arg9 harg9 arg10 harg10 arg11 harg11 x0 x1 x2 x3 x4 x5 x6 x7 x8) := by
  intros; rw [k0_part76_eq_skeleton]; unfold k0_part76_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part77 : ∀ x0 x1 x2 x3 x4 x5 x6, Keeps (defs₀ (F := F)) Variants.none c none E R (k0_part77 (F := F) i arg2 harg2 arg3 harg3 arg4 harg4 arg5 harg5 arg6 harg6 arg7 harg7 arg8 harg8 arg9 harg9 arg10 harg10 arg11 harg11 x0 x1 x2 x3 x4 x5 x6) := by
  intros; rw [k0_part77_eq_skeleton]; unfold k0_part77_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

set_option maxHeartbeats 4000000 in
theorem keep_k0_part82 : ∀ x0 x1 x2 x3 x4 x5 x6 x7 x8 x9, Keeps (defs₀ (F := F)) Variants.none c none E R (k0_part82 (F := F) i arg2 harg2 arg3 harg3 arg4 harg4 arg5 harg5 arg6 harg6 arg7 harg7 arg8 harg8 arg9 harg9 arg10 harg10 arg11 harg11 x0 x1 x2 x3 x4 x5 x6 x7 x8 x9) := by
  intros; rw [k0_part82_eq_skeleton]; unfold k0_part82_skel
  repeat' first | with_reducible exact Keeps.pure _ | (with_reducible refine Keeps.bind ?_ ?_) | (with_reducible apply keep_k0_part18 <;> assumption) | (with_reducible apply keep_k0_part19 <;> assumption) | (with_reducible apply keep_k0_part20 <;> assumption) | (with_reducible apply keep_k0_part21 <;> assumption) | (with_reducible apply keep_k0_part22 <;> assumption) | (with_reducible apply keep_k0_part23 <;> assumption) | (with_reducible apply keep_k0_part24 <;> assumption) | (with_reducible apply keep_k0_part25 <;> assumption) | (with_reducible apply keep_k0_part26 <;> assumption) | (with_reducible apply keep_k0_part27 <;> assumption) | (with_reducible apply keep_k0_part28 <;> assumption) | (with_reducible apply keep_k0_part29 <;> assumption) | (with_reducible apply keep_k0_part30 <;> assumption) | (with_reducible apply keep_k0_part31 <;> assumption) | (with_reducible apply keep_k0_part32 <;> assumption) | (with_reducible apply keep_k0_part33 <;> assumption) | (with_reducible apply keep_k0_part34 <;> assumption) | (with_reducible apply keep_k0_part35 <;> assumption) | (with_reducible apply keep_k0_part36 <;> assumption) | (with_reducible apply keep_k0_part37 <;> assumption) | (with_reducible apply keep_k0_part38 <;> assumption) | (with_reducible apply keep_k0_part39 <;> assumption) | (with_reducible apply keep_k0_part40 <;> assumption) | (with_reducible apply keep_k0_part41 <;> assumption) | (with_reducible apply keep_k0_part42 <;> assumption) | (with_reducible apply keep_k0_part43 <;> assumption) | (with_reducible apply keep_k0_part44 <;> assumption) | (with_reducible apply keep_k0_part45 <;> assumption) | (with_reducible apply keep_k0_part46 <;> assumption) | (with_reducible apply keep_k0_part47 <;> assumption) | (with_reducible apply keep_k0_part48 <;> assumption) | (with_reducible apply keep_k0_part49 <;> assumption) | (with_reducible apply keep_k0_part50 <;> assumption) | (with_reducible apply keep_k0_part51 <;> assumption) | (with_reducible apply keep_k0_part52 <;> assumption) | (with_reducible apply keep_k0_part53 <;> assumption) | (with_reducible apply keep_k0_part54 <;> assumption) | (with_reducible apply keep_k0_part55 <;> assumption) | (with_reducible apply keep_k0_part56 <;> assumption) | (with_reducible apply keep_k0_part57 <;> assumption) | (with_reducible apply keep_k0_part58 <;> assumption) | (with_reducible apply keep_k0_part59 <;> assumption) | (with_reducible apply keep_k0_part60 <;> assumption) | (with_reducible apply keep_k0_part61 <;> assumption) | (with_reducible apply keep_k0_part62 <;> assumption) | (with_reducible apply keep_k0_part63 <;> assumption) | (with_reducible apply keep_k0_part64 <;> assumption) | (with_reducible apply keep_k0_part65 <;> assumption) | (with_reducible apply keep_k0_part66 <;> assumption) | (with_reducible apply keep_k0_part67 <;> assumption) | (with_reducible apply keep_k0_part68 <;> assumption) | (with_reducible apply keep_k0_part69 <;> assumption) | (with_reducible apply keep_k0_part70 <;> assumption) | (with_reducible apply keep_k0_part71 <;> assumption) | (with_reducible apply keep_k0_part72 <;> assumption) | (with_reducible apply keep_k0_part73 <;> assumption) | (with_reducible apply keep_k0_part74 <;> assumption) | (with_reducible apply keep_k0_part75 <;> assumption) | (with_reducible apply keep_k0_part76 <;> assumption) | (with_reducible apply keep_k0_part77 <;> assumption) | intro _ | split | (fail_if_no_progress dsimp only)

theorem keep_k0_part78 : ∀ x0 x1 x2 x3 x4 x5 x6 x7 x8, Keeps (defs₀ (F := F)) Variants.none c none E R (k0_part78 (F := F) i arg2 harg2 arg3 harg3 arg4 harg4 arg5 harg5 arg6 harg6 arg7 harg7 arg8 harg8 arg9 harg9 arg10 harg10 arg11 harg11 x0 x1 x2 x3 x4 x5 x6 x7 x8) := by
  intros; rw [k0_part78_eq_skeleton]; unfold k0_part78_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part79 : ∀ x0 x1 x2 x3 x4 x5 x6, Keeps (defs₀ (F := F)) Variants.none c none E R (k0_part79 (F := F) i arg2 harg2 arg3 harg3 arg4 harg4 arg5 harg5 arg6 harg6 arg7 harg7 arg8 harg8 arg9 harg9 arg10 harg10 arg11 harg11 x0 x1 x2 x3 x4 x5 x6) := by
  intros; rw [k0_part79_eq_skeleton]; unfold k0_part79_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part80 : ∀ x0 x1 x2 x3 x4 x5 x6 x7 x8, Keeps (defs₀ (F := F)) Variants.none c none E R (k0_part80 (F := F) i arg2 harg2 arg3 harg3 arg4 harg4 arg5 harg5 arg6 harg6 arg7 harg7 arg8 harg8 arg9 harg9 arg10 harg10 arg11 harg11 x0 x1 x2 x3 x4 x5 x6 x7 x8) := by
  intros; rw [k0_part80_eq_skeleton]; unfold k0_part80_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_part81 : ∀ x0 x1 x2 x3 x4 x5 x6, Keeps (defs₀ (F := F)) Variants.none c none E R (k0_part81 (F := F) i arg2 harg2 arg3 harg3 arg4 harg4 arg5 harg5 arg6 harg6 arg7 harg7 arg8 harg8 arg9 harg9 arg10 harg10 arg11 harg11 x0 x1 x2 x3 x4 x5 x6) := by
  intros; rw [k0_part81_eq_skeleton]; unfold k0_part81_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | intro _ | split | (fail_if_no_progress dsimp only)

theorem keep_k0_t1_body : ∀ x0 x1 x2 x3 x4, Keeps (defs₀ (F := F)) Variants.none c none E R (k0_t1_body (F := F) i arg2 harg2 arg3 harg3 arg4 harg4 arg5 harg5 arg6 harg6 arg7 harg7 arg8 harg8 arg9 harg9 arg10 harg10 arg11 harg11 x0 x1 x2 x3 x4) := by
  intros; unfold k0_t1_body
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible apply keep_k0_part82 <;> assumption) | (with_reducible apply keep_k0_part78 <;> assumption) | (with_reducible apply keep_k0_part79 <;> assumption) | (with_reducible apply keep_k0_part80 <;> assumption) | (with_reducible apply keep_k0_part81 <;> assumption) | intro _ | split | (fail_if_no_progress dsimp only)

theorem keep_cc0_gla : Keeps (defs₀ (F := F)) Variants.none c none E R (cc0_gla (F := F) i arg2 harg2 arg3 harg3 arg4 harg4 arg5 harg5 arg6 harg6 arg7 harg7 arg8 harg8 arg9 harg9 arg10 harg10 arg11 harg11 ) := by
  intros; rw [cc0_gla_eq_skeleton]; unfold cc0_gla_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible refine Keeps.ite ?_ ?_) | (with_reducible refine Keeps.dite ?_ ?_) | (with_reducible refine Keeps.for ?_) | (with_reducible apply keep_k0_t1_body <;> assumption) | intro _ | split | (fail_if_no_progress dsimp only)

end Cert.Kernel5Ideal.Hand

end
-- ==== Proof.GlaFrameIdeal.lean ====
/- The frame of the linear mixer's call, its steps read at the ideal instance: from any memory with zero counters the call runs, leaves its arguments as
   they were and all counters at zero. Its body leaves in place what it is lent (`keep_cc0_gla`), so nothing is said of
   what it writes: the output window's contents are forgotten. -/
module

public import proofs.«01_k».proof.Proof.GlaKeepIdeal

@[expose] public section

set_option maxRecDepth 16384

noncomputable section

namespace Cert.Kernel5Ideal.Hand

open Idealize.ShloMosaic Idealize.ShloMosaic.TcCoe Idealize.SL Idealize.SL.RA Idealize.SL.BI Cert.Kernel5Ideal.Gen Cert.Keep
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window is forgotten, the six inputs are not. -/
def forgets : Fin 7 → Bool := fun | 6 => true | _ => false

/-- The proof data: an input's buffer keeps its block, the output's is not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Pipeline.Dat.unnamed (cfg := cfg0) 6 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body holds at point `t`, before and after: the input tiles at their blocks, the output tile and the
    scratch buffers at any contents, and the rest untouched. -/
def held (c : Dev nD) (t : Fin cfg0.N) : sProp 𝕄 :=
  iprop((((∃ X, owns (c : Thread nD τ) (Memref.whole cc0_scratch0) fullShare X) ∗ (∃ X, owns (c : Thread nD τ) (Memref.whole cc0_scratch1) fullShare X) ∗ (∃ X, owns (c : Thread nD τ) (Memref.whole cc0_scratch2) fullShare X)) ∗ ∃ r, prngReg c r)
    ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ (∃ X, owns (c : Thread nD τ) (st0_6 t) fullShare X))

theorem held_keeps (c : Dev nD) (t : Fin cfg0.N) :
    held m c t ⊢ wp frame (wpE (defs₀ (F := F)) Variants.none c none) Set.univ (bodyAt0 t) (fun _ => held m c t) := by
  refine keep_cc0_gla (c := c) (E := Set.univ) (R := held m c t) (grid0.coords t) _ _ _ _ _ _ _ _ _ _ _ _ _ _ _ _ _ _ _ _ ?_ ?_ ?_ ?_ ?_ ?_ ?_ ?_ ?_ ?_
  · exact .right (.right (.left (.of_owns _ _) _) _) _
  · exact .right (.right (.right (.left (.of_owns _ _) _) _) _) _
  · exact .right (.right (.right (.right (.left (.of_owns _ _) _) _) _) _) _
  · exact .right (.right (.right (.right (.right (.left (.of_owns _ _) _) _) _) _) _) _
  · exact .right (.right (.right (.right (.right (.right (.left (.of_owns _ _) _) _) _) _) _) _) _
  · exact .right (.right (.right (.right (.right (.right (.right (.left (.of_owns _ _) _) _) _) _) _) _) _) _
  · exact .right (.right (.right (.right (.right (.right (.right (.right (.of_owns _) _) _) _) _) _) _) _) _
  · exact .left (.left (.left (.of_owns _) _) _) _
  · exact .left (.left (.right (.left (.of_owns _) _) _) _) _
  · exact .left (.left (.right (.right (.of_owns _) _) _) _) _

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, owns (c : Thread nD τ) (st0_6 t) fullShare X))

theorem Phi_eq (c : Dev nD) : (Pipeline.ΦA spec0 c : sProp 𝕄)
    = iprop(((∃ X, owns (c : Thread nD τ) (Memref.whole cc0_scratch0) fullShare X) ∗ (∃ X, owns (c : Thread nD τ) (Memref.whole cc0_scratch1) fullShare X) ∗ (∃ X, owns (c : Thread nD τ) (Memref.whole cc0_scratch2) fullShare X)) ∗ ∃ r, prngReg c r) := by
  unfold Pipeline.ΦA
  rw [scopedRest0_eq]
  simp only [owns_whole]

theorem sound_body (c : Dev nD) (t : Fin cfg0.N) :
    bodyPre m c t ⊢ wp frame (wpE (defs₀ (F := F)) Variants.none c none) Set.univ (bodyAt0 t) (fun _ => bodyPost m c t) := by
  have hpre : bodyPre m c t ⊢ held m c t := by
    unfold bodyPre held
    simp only [before0_0, before0_1, before0_2, before0_3, before0_4, before0_5]
    rw [show (dats m 0 c).Φ t.castSucc = Pipeline.ΦA spec0 c from rfl, Phi_eq]
    iintro ⟨HΦ, Ho, ⟨%d0, H0⟩, ⟨%d1, H1⟩, ⟨%d2, H2⟩, ⟨%d3, H3⟩, ⟨%d4, H4⟩, ⟨%d5, H5⟩, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  have hpost : held m c t ⊢ bodyPost m c t := by
    unfold bodyPost held
    rw [show (dats m 0 c).Φ t.succ = Pipeline.ΦA spec0 c from rfl, Phi_eq,
      show (dats m 0 c).owesAt () t.succ = (dats m 0 c).owesAt () t.castSucc from rfl,
      after0_0, after0_1, after0_2, after0_3, after0_4, after0_5]
  exact hpre.trans ((held_keeps m c t).trans (wp_mono _ _ _ fun _ => hpost))

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
set_option maxHeartbeats 800000 in
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run ends, each argument holds what it held, every counter is zero. -/
theorem frame_gla :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.Kernel5Ideal.Hand

end
-- ==== Proof.DsaKeep1.lean ====
/- The sparse mixer's kernel leaves in place a resource that lends its inputs for reading and its output and scratch
   buffers for writing: parts and loop bodies, file 1 of 5. -/
module

public import proofs.«01_k».proof.Proof.Gen.Kernel6.Skeleton
public import proofs.«01_k».proof.Proof.Gen.Kernel6.Frame
public import proofs.«01_k».proof.Proof.Keeps

@[expose] public section

set_option maxRecDepth 16384

noncomputable section

namespace Cert.Kernel6.Hand

open Idealize.ShloMosaic Idealize.SL.Sem Cert.Kernel6.Gen Cert.Keep Idealize.SL Idealize.SL.RA
open Idealize.SL.BI (sProp)

variable {F : FTy → Type} [BitOps F]
variable {c : Dev nD} {E : Set ℕ} {R : sProp (MT nD τ sig Unit (Elt F) ℕ (UR sig nD τ) ℕ)}
variable (i : grid0.Coords) (arg2 : Memref sig .tc .vmem S4x17x128x128 .bf16) (harg2 : arg2.IsWhole) (arg3 : Memref sig .tc .vmem S4x17x128x128 .bf16) (harg3 : arg3.IsWhole) (arg4 : Memref sig .tc .vmem S4x17x128x128 .bf16) (harg4 : arg4.IsWhole) (arg5 : Memref sig .tc .vmem S4x1x128x512 .bf16) (harg5 : arg5.IsWhole) (arg6 : Memref sig .tc .vmem S4x1x128x512 .bf16) (harg6 : arg6.IsWhole) (arg7 : Memref sig .tc .vmem S4x1x8x128 .f32) (harg7 : arg7.IsWhole) (arg8 : Memref sig .tc .vmem S4x1x128x512 .f32) (harg8 : arg8.IsWhole) (arg9 : Memref sig .tc .vmem S4x1x128x512 .bf16) (harg9 : arg9.IsWhole) (arg10 : Memref sig .tc .vmem S4x2304x128 .f32) (harg10 : arg10.IsWhole) (arg11 : Memref sig .tc .vmem S4x1024x128 .bf16) (harg11 : arg11.IsWhole) (arg12 : Memref sig .tc .vmem S4x1024x128 .bf16) (harg12 : arg12.IsWhole) (arg13 : Memref sig .tc .vmem S4x1x1024 .f32) (harg13 : arg13.IsWhole) (arg14 : Memref sig .tc .vmem S4x1x1024 .f32) (harg14 : arg14.IsWhole) (arg15 : Memref sig .tc .vmem S4x2x80x512 .f32) (harg15 : arg15.IsWhole) (arg16 : Memref sig .tc .vmem S4x9x32x8x128 .i32) (harg16 : arg16.IsWhole) (arg17 : Memref sig .tc .vmem S4x1x128 .f32) (harg17 : arg17.IsWhole) (arg18 : Memref sig .tc .vmem S4x1x128 .i32) (harg18 : arg18.IsWhole)
variable (h2 : Reads c arg2 R) (h3 : Reads c arg3 R) (h4 : Reads c arg4 R) (h5 : Reads c arg5 R) (h6 : Reads c arg6 R) (h7 : Reads c arg7 R) (h8 : Reads c arg8 R) (h9 : Writes c arg9 R) (h10 : Writes c arg10 R) (h11 : Writes c arg11 R) (h12 : Writes c arg12 R) (h13 : Writes c arg13 R) (h14 : Writes c arg14 R) (h15 : Writes c arg15 R) (h16 : Writes c arg16 R) (h17 : Writes c arg17 R) (h18 : Writes c arg18 R)
include h2 h3 h4 h5 h6 h7 h8 h9 h10 h11 h12 h13 h14 h15 h16 h17 h18

set_option maxHeartbeats 4000000 in
theorem keep_k0_part91 : ∀ x0 x1 x2, Keeps (defs₀ (F := F)) Variants.none c none E R (k0_part91 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2) := by
  intros; rw [k0_part91_eq_skeleton]; unfold k0_part91_skel
  repeat' first | with_reducible exact Keeps.pure _ | (with_reducible refine Keeps.bind ?_ ?_) | (with_reducible intro _) | split | dsimp only
  rw [k0_part1_eq_skeleton, k0_part1_skel]; rotate_left
  rw [k0_part2_eq_skeleton, k0_part2_skel]; rotate_left
  rw [k0_part3_eq_skeleton, k0_part3_skel]; rotate_left
  rw [k0_part4_eq_skeleton, k0_part4_skel]; rotate_left
  rw [k0_part5_eq_skeleton, k0_part5_skel]; rotate_left
  rw [k0_part6_eq_skeleton, k0_part6_skel]; rotate_left
  rw [k0_part7_eq_skeleton, k0_part7_skel]; rotate_left
  rw [k0_part8_eq_skeleton, k0_part8_skel]; rotate_left
  rw [k0_part9_eq_skeleton, k0_part9_skel]; rotate_left
  rw [k0_part10_eq_skeleton, k0_part10_skel]; rotate_left
  rw [k0_part11_eq_skeleton, k0_part11_skel]; rotate_left
  rw [k0_part12_eq_skeleton, k0_part12_skel]; rotate_left
  rw [k0_part13_eq_skeleton, k0_part13_skel]; rotate_left
  rw [k0_part14_eq_skeleton, k0_part14_skel]; rotate_left
  rw [k0_part15_eq_skeleton, k0_part15_skel]; rotate_left
  rw [k0_part16_eq_skeleton, k0_part16_skel]; rotate_left
  rw [k0_part17_eq_skeleton, k0_part17_skel]; rotate_left
  rw [k0_part18_eq_skeleton, k0_part18_skel]; rotate_left
  rw [k0_part19_eq_skeleton, k0_part19_skel]; rotate_left
  rw [k0_part20_eq_skeleton, k0_part20_skel]; rotate_left
  rw [k0_part21_eq_skeleton, k0_part21_skel]; rotate_left
  rw [k0_part22_eq_skeleton, k0_part22_skel]; rotate_left
  rw [k0_part23_eq_skeleton, k0_part23_skel]; rotate_left
  rw [k0_part24_eq_skeleton, k0_part24_skel]; rotate_left
  rw [k0_part25_eq_skeleton, k0_part25_skel]; rotate_left
  rw [k0_part26_eq_skeleton, k0_part26_skel]; rotate_left
  rw [k0_part27_eq_skeleton, k0_part27_skel]; rotate_left
  rw [k0_part28_eq_skeleton, k0_part28_skel]; rotate_left
  rw [k0_part29_eq_skeleton, k0_part29_skel]; rotate_left
  rw [k0_part30_eq_skeleton, k0_part30_skel]; rotate_left
  rw [k0_part31_eq_skeleton, k0_part31_skel]; rotate_left
  rw [k0_part32_eq_skeleton, k0_part32_skel]; rotate_left
  rw [k0_part33_eq_skeleton, k0_part33_skel]; rotate_left
  rw [k0_part34_eq_skeleton, k0_part34_skel]; rotate_left
  rw [k0_part35_eq_skeleton, k0_part35_skel]; rotate_left
  rw [k0_part36_eq_skeleton, k0_part36_skel]; rotate_left
  rw [k0_part37_eq_skeleton, k0_part37_skel]; rotate_left
  rw [k0_part38_eq_skeleton, k0_part38_skel]; rotate_left
  rw [k0_part39_eq_skeleton, k0_part39_skel]; rotate_left
  rw [k0_part40_eq_skeleton, k0_part40_skel]; rotate_left
  rw [k0_part41_eq_skeleton, k0_part41_skel]; rotate_left
  rw [k0_part42_eq_skeleton, k0_part42_skel]; rotate_left
  rw [k0_part43_eq_skeleton, k0_part43_skel]; rotate_left
  rw [k0_part44_eq_skeleton, k0_part44_skel]; rotate_left
  rw [k0_part45_eq_skeleton, k0_part45_skel]; rotate_left
  rw [k0_part46_eq_skeleton, k0_part46_skel]; rotate_left
  rw [k0_part47_eq_skeleton, k0_part47_skel]; rotate_left
  rw [k0_part48_eq_skeleton, k0_part48_skel]; rotate_left
  rw [k0_part49_eq_skeleton, k0_part49_skel]; rotate_left
  rw [k0_part50_eq_skeleton, k0_part50_skel]; rotate_left
  rw [k0_part51_eq_skeleton, k0_part51_skel]; rotate_left
  rw [k0_part52_eq_skeleton, k0_part52_skel]; rotate_left
  rw [k0_part53_eq_skeleton, k0_part53_skel]; rotate_left
  rw [k0_part54_eq_skeleton, k0_part54_skel]; rotate_left
  rw [k0_part55_eq_skeleton, k0_part55_skel]; rotate_left
  rw [k0_part56_eq_skeleton, k0_part56_skel]; rotate_left
  rw [k0_part57_eq_skeleton, k0_part57_skel]; rotate_left
  rw [k0_part58_eq_skeleton, k0_part58_skel]; rotate_left
  rw [k0_part59_eq_skeleton, k0_part59_skel]; rotate_left
  rw [k0_part60_eq_skeleton, k0_part60_skel]; rotate_left
  all_goals repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | dsimp only

set_option maxHeartbeats 4000000 in
theorem keep_k0_part92 : ∀ x0 x1 x2 x3 x4 x5 x6 x7 x8 x9 x10 x11 x12 x13 x14 x15 x16 x17 x18 x19 x20 x21 x22 x23 x24 x25 x26 x27 x28 x29 x30 x31 x32 x33 x34 x35, Keeps (defs₀ (F := F)) Variants.none c none E R (k0_part92 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 x18 x19 x20 x21 x22 x23 x24 x25 x26 x27 x28 x29 x30 x31 x32 x33 x34 x35) := by
  intros; rw [k0_part92_eq_skeleton]; unfold k0_part92_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only
  rw [k0_part61_eq_skeleton, k0_part61_skel]; rotate_left
  rw [k0_part62_eq_skeleton, k0_part62_skel]; rotate_left
  rw [k0_part63_eq_skeleton, k0_part63_skel]; rotate_left
  rw [k0_part64_eq_skeleton, k0_part64_skel]; rotate_left
  rw [k0_part65_eq_skeleton, k0_part65_skel]; rotate_left
  rw [k0_part66_eq_skeleton, k0_part66_skel]; rotate_left
  rw [k0_part67_eq_skeleton, k0_part67_skel]; rotate_left
  rw [k0_part68_eq_skeleton, k0_part68_skel]; rotate_left
  rw [k0_part69_eq_skeleton, k0_part69_skel]; rotate_left
  rw [k0_part70_eq_skeleton, k0_part70_skel]; rotate_left
  rw [k0_part71_eq_skeleton, k0_part71_skel]; rotate_left
  rw [k0_part72_eq_skeleton, k0_part72_skel]; rotate_left
  rw [k0_part73_eq_skeleton, k0_part73_skel]; rotate_left
  rw [k0_part74_eq_skeleton, k0_part74_skel]; rotate_left
  rw [k0_part75_eq_skeleton, k0_part75_skel]; rotate_left
  rw [k0_part76_eq_skeleton, k0_part76_skel]; rotate_left
  rw [k0_part77_eq_skeleton, k0_part77_skel]; rotate_left
  rw [k0_part78_eq_skeleton, k0_part78_skel]; rotate_left
  rw [k0_part79_eq_skeleton, k0_part79_skel]; rotate_left
  rw [k0_part80_eq_skeleton, k0_part80_skel]; rotate_left
  rw [k0_part81_eq_skeleton, k0_part81_skel]; rotate_left
  rw [k0_part82_eq_skeleton, k0_part82_skel]; rotate_left
  rw [k0_part83_eq_skeleton, k0_part83_skel]; rotate_left
  rw [k0_part84_eq_skeleton, k0_part84_skel]; rotate_left
  rw [k0_part85_eq_skeleton, k0_part85_skel]; rotate_left
  rw [k0_part86_eq_skeleton, k0_part86_skel]; rotate_left
  rw [k0_part87_eq_skeleton, k0_part87_skel]; rotate_left
  rw [k0_part88_eq_skeleton, k0_part88_skel]; rotate_left
  rw [k0_part89_eq_skeleton, k0_part89_skel]; rotate_left
  rw [k0_part90_eq_skeleton, k0_part90_skel]; rotate_left
  all_goals repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | dsimp only

end Cert.Kernel6.Hand

end
-- ==== Proof.DsaKeep2.lean ====
/- The sparse mixer's kernel leaves in place a resource that lends its inputs for reading and its output and scratch
   buffers for writing: parts and loop bodies, file 2 of 5. -/
module

public import proofs.«01_k».proof.Proof.Gen.Kernel6.Skeleton
public import proofs.«01_k».proof.Proof.Gen.Kernel6.Frame
public import proofs.«01_k».proof.Proof.Keeps

@[expose] public section

set_option maxRecDepth 16384

noncomputable section

namespace Cert.Kernel6.Hand

open Idealize.ShloMosaic Idealize.SL.Sem Cert.Kernel6.Gen Cert.Keep Idealize.SL Idealize.SL.RA
open Idealize.SL.BI (sProp)

variable {F : FTy → Type} [BitOps F]
variable {c : Dev nD} {E : Set ℕ} {R : sProp (MT nD τ sig Unit (Elt F) ℕ (UR sig nD τ) ℕ)}
variable (i : grid0.Coords) (arg2 : Memref sig .tc .vmem S4x17x128x128 .bf16) (harg2 : arg2.IsWhole) (arg3 : Memref sig .tc .vmem S4x17x128x128 .bf16) (harg3 : arg3.IsWhole) (arg4 : Memref sig .tc .vmem S4x17x128x128 .bf16) (harg4 : arg4.IsWhole) (arg5 : Memref sig .tc .vmem S4x1x128x512 .bf16) (harg5 : arg5.IsWhole) (arg6 : Memref sig .tc .vmem S4x1x128x512 .bf16) (harg6 : arg6.IsWhole) (arg7 : Memref sig .tc .vmem S4x1x8x128 .f32) (harg7 : arg7.IsWhole) (arg8 : Memref sig .tc .vmem S4x1x128x512 .f32) (harg8 : arg8.IsWhole) (arg9 : Memref sig .tc .vmem S4x1x128x512 .bf16) (harg9 : arg9.IsWhole) (arg10 : Memref sig .tc .vmem S4x2304x128 .f32) (harg10 : arg10.IsWhole) (arg11 : Memref sig .tc .vmem S4x1024x128 .bf16) (harg11 : arg11.IsWhole) (arg12 : Memref sig .tc .vmem S4x1024x128 .bf16) (harg12 : arg12.IsWhole) (arg13 : Memref sig .tc .vmem S4x1x1024 .f32) (harg13 : arg13.IsWhole) (arg14 : Memref sig .tc .vmem S4x1x1024 .f32) (harg14 : arg14.IsWhole) (arg15 : Memref sig .tc .vmem S4x2x80x512 .f32) (harg15 : arg15.IsWhole) (arg16 : Memref sig .tc .vmem S4x9x32x8x128 .i32) (harg16 : arg16.IsWhole) (arg17 : Memref sig .tc .vmem S4x1x128 .f32) (harg17 : arg17.IsWhole) (arg18 : Memref sig .tc .vmem S4x1x128 .i32) (harg18 : arg18.IsWhole)
variable (h2 : Reads c arg2 R) (h3 : Reads c arg3 R) (h4 : Reads c arg4 R) (h5 : Reads c arg5 R) (h6 : Reads c arg6 R) (h7 : Reads c arg7 R) (h8 : Reads c arg8 R) (h9 : Writes c arg9 R) (h10 : Writes c arg10 R) (h11 : Writes c arg11 R) (h12 : Writes c arg12 R) (h13 : Writes c arg13 R) (h14 : Writes c arg14 R) (h15 : Writes c arg15 R) (h16 : Writes c arg16 R) (h17 : Writes c arg17 R) (h18 : Writes c arg18 R)
include h2 h3 h4 h5 h6 h7 h8 h9 h10 h11 h12 h13 h14 h15 h16 h17 h18

set_option maxHeartbeats 4000000 in
theorem keep_k0_part365 : ∀ x0 x1 x2, Keeps (defs₀ (F := F)) Variants.none c none E R (k0_part365 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2) := by
  intros; rw [k0_part365_eq_skeleton]; unfold k0_part365_skel
  repeat' first | with_reducible exact Keeps.pure _ | (with_reducible refine Keeps.bind ?_ ?_) | (with_reducible intro _) | split | dsimp only
  rw [k0_part93_eq_skeleton, k0_part93_skel]; rotate_left
  rw [k0_part94_eq_skeleton, k0_part94_skel]; rotate_left
  rw [k0_part95_eq_skeleton, k0_part95_skel]; rotate_left
  rw [k0_part96_eq_skeleton, k0_part96_skel]; rotate_left
  rw [k0_part97_eq_skeleton, k0_part97_skel]; rotate_left
  rw [k0_part98_eq_skeleton, k0_part98_skel]; rotate_left
  rw [k0_part99_eq_skeleton, k0_part99_skel]; rotate_left
  rw [k0_part100_eq_skeleton, k0_part100_skel]; rotate_left
  rw [k0_part101_eq_skeleton, k0_part101_skel]; rotate_left
  rw [k0_part102_eq_skeleton, k0_part102_skel]; rotate_left
  rw [k0_part103_eq_skeleton, k0_part103_skel]; rotate_left
  rw [k0_part104_eq_skeleton, k0_part104_skel]; rotate_left
  rw [k0_part105_eq_skeleton, k0_part105_skel]; rotate_left
  rw [k0_part106_eq_skeleton, k0_part106_skel]; rotate_left
  rw [k0_part107_eq_skeleton, k0_part107_skel]; rotate_left
  rw [k0_part108_eq_skeleton, k0_part108_skel]; rotate_left
  rw [k0_part109_eq_skeleton, k0_part109_skel]; rotate_left
  rw [k0_part110_eq_skeleton, k0_part110_skel]; rotate_left
  rw [k0_part111_eq_skeleton, k0_part111_skel]; rotate_left
  rw [k0_part112_eq_skeleton, k0_part112_skel]; rotate_left
  rw [k0_part113_eq_skeleton, k0_part113_skel]; rotate_left
  rw [k0_part114_eq_skeleton, k0_part114_skel]; rotate_left
  rw [k0_part115_eq_skeleton, k0_part115_skel]; rotate_left
  rw [k0_part116_eq_skeleton, k0_part116_skel]; rotate_left
  rw [k0_part117_eq_skeleton, k0_part117_skel]; rotate_left
  rw [k0_part118_eq_skeleton, k0_part118_skel]; rotate_left
  rw [k0_part119_eq_skeleton, k0_part119_skel]; rotate_left
  rw [k0_part120_eq_skeleton, k0_part120_skel]; rotate_left
  rw [k0_part121_eq_skeleton, k0_part121_skel]; rotate_left
  rw [k0_part122_eq_skeleton, k0_part122_skel]; rotate_left
  rw [k0_part123_eq_skeleton, k0_part123_skel]; rotate_left
  rw [k0_part124_eq_skeleton, k0_part124_skel]; rotate_left
  rw [k0_part125_eq_skeleton, k0_part125_skel]; rotate_left
  rw [k0_part126_eq_skeleton, k0_part126_skel]; rotate_left
  rw [k0_part127_eq_skeleton, k0_part127_skel]; rotate_left
  rw [k0_part128_eq_skeleton, k0_part128_skel]; rotate_left
  rw [k0_part129_eq_skeleton, k0_part129_skel]; rotate_left
  rw [k0_part130_eq_skeleton, k0_part130_skel]; rotate_left
  rw [k0_part131_eq_skeleton, k0_part131_skel]; rotate_left
  rw [k0_part132_eq_skeleton, k0_part132_skel]; rotate_left
  rw [k0_part133_eq_skeleton, k0_part133_skel]; rotate_left
  rw [k0_part134_eq_skeleton, k0_part134_skel]; rotate_left
  rw [k0_part135_eq_skeleton, k0_part135_skel]; rotate_left
  rw [k0_part136_eq_skeleton, k0_part136_skel]; rotate_left
  rw [k0_part137_eq_skeleton, k0_part137_skel]; rotate_left
  rw [k0_part138_eq_skeleton, k0_part138_skel]; rotate_left
  rw [k0_part139_eq_skeleton, k0_part139_skel]; rotate_left
  rw [k0_part140_eq_skeleton, k0_part140_skel]; rotate_left
  rw [k0_part141_eq_skeleton, k0_part141_skel]; rotate_left
  rw [k0_part142_eq_skeleton, k0_part142_skel]; rotate_left
  rw [k0_part143_eq_skeleton, k0_part143_skel]; rotate_left
  rw [k0_part144_eq_skeleton, k0_part144_skel]; rotate_left
  rw [k0_part145_eq_skeleton, k0_part145_skel]; rotate_left
  rw [k0_part146_eq_skeleton, k0_part146_skel]; rotate_left
  rw [k0_part147_eq_skeleton, k0_part147_skel]; rotate_left
  rw [k0_part148_eq_skeleton, k0_part148_skel]; rotate_left
  rw [k0_part149_eq_skeleton, k0_part149_skel]; rotate_left
  rw [k0_part150_eq_skeleton, k0_part150_skel]; rotate_left
  rw [k0_part151_eq_skeleton, k0_part151_skel]; rotate_left
  rw [k0_part152_eq_skeleton, k0_part152_skel]; rotate_left
  all_goals repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | dsimp only

set_option maxHeartbeats 4000000 in
theorem keep_k0_part366 : ∀ x0 x1 x2 x3 x4 x5 x6 x7 x8 x9 x10 x11 x12 x13 x14 x15 x16 x17 x18 x19 x20 x21 x22 x23 x24 x25 x26 x27 x28 x29 x30 x31 x32 x33 x34 x35 x36 x37 x38, Keeps (defs₀ (F := F)) Variants.none c none E R (k0_part366 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 x18 x19 x20 x21 x22 x23 x24 x25 x26 x27 x28 x29 x30 x31 x32 x33 x34 x35 x36 x37 x38) := by
  intros; rw [k0_part366_eq_skeleton]; unfold k0_part366_skel
  repeat' first | with_reducible exact Keeps.pure _ | (with_reducible refine Keeps.bind ?_ ?_) | (with_reducible intro _) | split | dsimp only
  rw [k0_part153_eq_skeleton, k0_part153_skel]; rotate_left
  rw [k0_part154_eq_skeleton, k0_part154_skel]; rotate_left
  rw [k0_part155_eq_skeleton, k0_part155_skel]; rotate_left
  rw [k0_part156_eq_skeleton, k0_part156_skel]; rotate_left
  rw [k0_part157_eq_skeleton, k0_part157_skel]; rotate_left
  rw [k0_part158_eq_skeleton, k0_part158_skel]; rotate_left
  rw [k0_part159_eq_skeleton, k0_part159_skel]; rotate_left
  rw [k0_part160_eq_skeleton, k0_part160_skel]; rotate_left
  rw [k0_part161_eq_skeleton, k0_part161_skel]; rotate_left
  rw [k0_part162_eq_skeleton, k0_part162_skel]; rotate_left
  rw [k0_part163_eq_skeleton, k0_part163_skel]; rotate_left
  rw [k0_part164_eq_skeleton, k0_part164_skel]; rotate_left
  rw [k0_part165_eq_skeleton, k0_part165_skel]; rotate_left
  rw [k0_part166_eq_skeleton, k0_part166_skel]; rotate_left
  rw [k0_part167_eq_skeleton, k0_part167_skel]; rotate_left
  rw [k0_part168_eq_skeleton, k0_part168_skel]; rotate_left
  rw [k0_part169_eq_skeleton, k0_part169_skel]; rotate_left
  rw [k0_part170_eq_skeleton, k0_part170_skel]; rotate_left
  rw [k0_part171_eq_skeleton, k0_part171_skel]; rotate_left
  rw [k0_part172_eq_skeleton, k0_part172_skel]; rotate_left
  rw [k0_part173_eq_skeleton, k0_part173_skel]; rotate_left
  rw [k0_part174_eq_skeleton, k0_part174_skel]; rotate_left
  rw [k0_part175_eq_skeleton, k0_part175_skel]; rotate_left
  rw [k0_part176_eq_skeleton, k0_part176_skel]; rotate_left
  rw [k0_part177_eq_skeleton, k0_part177_skel]; rotate_left
  rw [k0_part178_eq_skeleton, k0_part178_skel]; rotate_left
  rw [k0_part179_eq_skeleton, k0_part179_skel]; rotate_left
  rw [k0_part180_eq_skeleton, k0_part180_skel]; rotate_left
  rw [k0_part181_eq_skeleton, k0_part181_skel]; rotate_left
  rw [k0_part182_eq_skeleton, k0_part182_skel]; rotate_left
  rw [k0_part183_eq_skeleton, k0_part183_skel]; rotate_left
  rw [k0_part184_eq_skeleton, k0_part184_skel]; rotate_left
  rw [k0_part185_eq_skeleton, k0_part185_skel]; rotate_left
  rw [k0_part186_eq_skeleton, k0_part186_skel]; rotate_left
  rw [k0_part187_eq_skeleton, k0_part187_skel]; rotate_left
  rw [k0_part188_eq_skeleton, k0_part188_skel]; rotate_left
  rw [k0_part189_eq_skeleton, k0_part189_skel]; rotate_left
  rw [k0_part190_eq_skeleton, k0_part190_skel]; rotate_left
  rw [k0_part191_eq_skeleton, k0_part191_skel]; rotate_left
  rw [k0_part192_eq_skeleton, k0_part192_skel]; rotate_left
  rw [k0_part193_eq_skeleton, k0_part193_skel]; rotate_left
  rw [k0_part194_eq_skeleton, k0_part194_skel]; rotate_left
  rw [k0_part195_eq_skeleton, k0_part195_skel]; rotate_left
  rw [k0_part196_eq_skeleton, k0_part196_skel]; rotate_left
  rw [k0_part197_eq_skeleton, k0_part197_skel]; rotate_left
  rw [k0_part198_eq_skeleton, k0_part198_skel]; rotate_left
  rw [k0_part199_eq_skeleton, k0_part199_skel]; rotate_left
  rw [k0_part200_eq_skeleton, k0_part200_skel]; rotate_left
  rw [k0_part201_eq_skeleton, k0_part201_skel]; rotate_left
  rw [k0_part202_eq_skeleton, k0_part202_skel]; rotate_left
  rw [k0_part203_eq_skeleton, k0_part203_skel]; rotate_left
  rw [k0_part204_eq_skeleton, k0_part204_skel]; rotate_left
  rw [k0_part205_eq_skeleton, k0_part205_skel]; rotate_left
  rw [k0_part206_eq_skeleton, k0_part206_skel]; rotate_left
  rw [k0_part207_eq_skeleton, k0_part207_skel]; rotate_left
  rw [k0_part208_eq_skeleton, k0_part208_skel]; rotate_left
  rw [k0_part209_eq_skeleton, k0_part209_skel]; rotate_left
  rw [k0_part210_eq_skeleton, k0_part210_skel]; rotate_left
  rw [k0_part211_eq_skeleton, k0_part211_skel]; rotate_left
  rw [k0_part212_eq_skeleton, k0_part212_skel]; rotate_left
  all_goals repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | dsimp only

set_option maxHeartbeats 4000000 in
theorem keep_k0_part367 : ∀ x0 x1 x2 x3 x4 x5 x6 x7 x8 x9 x10 x11 x12 x13 x14 x15 x16 x17 x18 x19 x20 x21 x22 x23 x24 x25 x26 x27 x28 x29 x30 x31 x32 x33 x34 x35 x36 x37, Keeps (defs₀ (F := F)) Variants.none c none E R (k0_part367 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 x18 x19 x20 x21 x22 x23 x24 x25 x26 x27 x28 x29 x30 x31 x32 x33 x34 x35 x36 x37) := by
  intros; rw [k0_part367_eq_skeleton]; unfold k0_part367_skel
  repeat' first | with_reducible exact Keeps.pure _ | (with_reducible refine Keeps.bind ?_ ?_) | (with_reducible intro _) | split | dsimp only
  rw [k0_part213_eq_skeleton, k0_part213_skel]; rotate_left
  rw [k0_part214_eq_skeleton, k0_part214_skel]; rotate_left
  rw [k0_part215_eq_skeleton, k0_part215_skel]; rotate_left
  rw [k0_part216_eq_skeleton, k0_part216_skel]; rotate_left
  rw [k0_part217_eq_skeleton, k0_part217_skel]; rotate_left
  rw [k0_part218_eq_skeleton, k0_part218_skel]; rotate_left
  rw [k0_part219_eq_skeleton, k0_part219_skel]; rotate_left
  rw [k0_part220_eq_skeleton, k0_part220_skel]; rotate_left
  rw [k0_part221_eq_skeleton, k0_part221_skel]; rotate_left
  rw [k0_part222_eq_skeleton, k0_part222_skel]; rotate_left
  rw [k0_part223_eq_skeleton, k0_part223_skel]; rotate_left
  rw [k0_part224_eq_skeleton, k0_part224_skel]; rotate_left
  rw [k0_part225_eq_skeleton, k0_part225_skel]; rotate_left
  rw [k0_part226_eq_skeleton, k0_part226_skel]; rotate_left
  rw [k0_part227_eq_skeleton, k0_part227_skel]; rotate_left
  rw [k0_part228_eq_skeleton, k0_part228_skel]; rotate_left
  rw [k0_part229_eq_skeleton, k0_part229_skel]; rotate_left
  rw [k0_part230_eq_skeleton, k0_part230_skel]; rotate_left
  rw [k0_part231_eq_skeleton, k0_part231_skel]; rotate_left
  rw [k0_part232_eq_skeleton, k0_part232_skel]; rotate_left
  rw [k0_part233_eq_skeleton, k0_part233_skel]; rotate_left
  rw [k0_part234_eq_skeleton, k0_part234_skel]; rotate_left
  rw [k0_part235_eq_skeleton, k0_part235_skel]; rotate_left
  rw [k0_part236_eq_skeleton, k0_part236_skel]; rotate_left
  rw [k0_part237_eq_skeleton, k0_part237_skel]; rotate_left
  rw [k0_part238_eq_skeleton, k0_part238_skel]; rotate_left
  rw [k0_part239_eq_skeleton, k0_part239_skel]; rotate_left
  rw [k0_part240_eq_skeleton, k0_part240_skel]; rotate_left
  rw [k0_part241_eq_skeleton, k0_part241_skel]; rotate_left
  rw [k0_part242_eq_skeleton, k0_part242_skel]; rotate_left
  rw [k0_part243_eq_skeleton, k0_part243_skel]; rotate_left
  rw [k0_part244_eq_skeleton, k0_part244_skel]; rotate_left
  rw [k0_part245_eq_skeleton, k0_part245_skel]; rotate_left
  rw [k0_part246_eq_skeleton, k0_part246_skel]; rotate_left
  rw [k0_part247_eq_skeleton, k0_part247_skel]; rotate_left
  rw [k0_part248_eq_skeleton, k0_part248_skel]; rotate_left
  rw [k0_part249_eq_skeleton, k0_part249_skel]; rotate_left
  rw [k0_part250_eq_skeleton, k0_part250_skel]; rotate_left
  rw [k0_part251_eq_skeleton, k0_part251_skel]; rotate_left
  rw [k0_part252_eq_skeleton, k0_part252_skel]; rotate_left
  rw [k0_part253_eq_skeleton, k0_part253_skel]; rotate_left
  rw [k0_part254_eq_skeleton, k0_part254_skel]; rotate_left
  rw [k0_part255_eq_skeleton, k0_part255_skel]; rotate_left
  rw [k0_part256_eq_skeleton, k0_part256_skel]; rotate_left
  rw [k0_part257_eq_skeleton, k0_part257_skel]; rotate_left
  rw [k0_part258_eq_skeleton, k0_part258_skel]; rotate_left
  rw [k0_part259_eq_skeleton, k0_part259_skel]; rotate_left
  rw [k0_part260_eq_skeleton, k0_part260_skel]; rotate_left
  rw [k0_part261_eq_skeleton, k0_part261_skel]; rotate_left
  rw [k0_part262_eq_skeleton, k0_part262_skel]; rotate_left
  rw [k0_part263_eq_skeleton, k0_part263_skel]; rotate_left
  rw [k0_part264_eq_skeleton, k0_part264_skel]; rotate_left
  rw [k0_part265_eq_skeleton, k0_part265_skel]; rotate_left
  rw [k0_part266_eq_skeleton, k0_part266_skel]; rotate_left
  rw [k0_part267_eq_skeleton, k0_part267_skel]; rotate_left
  rw [k0_part268_eq_skeleton, k0_part268_skel]; rotate_left
  rw [k0_part269_eq_skeleton, k0_part269_skel]; rotate_left
  rw [k0_part270_eq_skeleton, k0_part270_skel]; rotate_left
  rw [k0_part271_eq_skeleton, k0_part271_skel]; rotate_left
  rw [k0_part272_eq_skeleton, k0_part272_skel]; rotate_left
  all_goals repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | dsimp only

set_option maxHeartbeats 4000000 in
theorem keep_k0_part368 : ∀ x0 x1 x2 x3 x4 x5 x6 x7 x8 x9 x10 x11 x12 x13 x14 x15 x16 x17 x18 x19 x20 x21 x22 x23 x24 x25 x26 x27, Keeps (defs₀ (F := F)) Variants.none c none E R (k0_part368 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 x18 x19 x20 x21 x22 x23 x24 x25 x26 x27) := by
  intros; rw [k0_part368_eq_skeleton]; unfold k0_part368_skel
  repeat' first | with_reducible exact Keeps.pure _ | (with_reducible refine Keeps.bind ?_ ?_) | (with_reducible intro _) | split | dsimp only
  rw [k0_part273_eq_skeleton, k0_part273_skel]; rotate_left
  rw [k0_part274_eq_skeleton, k0_part274_skel]; rotate_left
  rw [k0_part275_eq_skeleton, k0_part275_skel]; rotate_left
  rw [k0_part276_eq_skeleton, k0_part276_skel]; rotate_left
  rw [k0_part277_eq_skeleton, k0_part277_skel]; rotate_left
  rw [k0_part278_eq_skeleton, k0_part278_skel]; rotate_left
  rw [k0_part279_eq_skeleton, k0_part279_skel]; rotate_left
  rw [k0_part280_eq_skeleton, k0_part280_skel]; rotate_left
  rw [k0_part281_eq_skeleton, k0_part281_skel]; rotate_left
  rw [k0_part282_eq_skeleton, k0_part282_skel]; rotate_left
  rw [k0_part283_eq_skeleton, k0_part283_skel]; rotate_left
  rw [k0_part284_eq_skeleton, k0_part284_skel]; rotate_left
  rw [k0_part285_eq_skeleton, k0_part285_skel]; rotate_left
  rw [k0_part286_eq_skeleton, k0_part286_skel]; rotate_left
  rw [k0_part287_eq_skeleton, k0_part287_skel]; rotate_left
  rw [k0_part288_eq_skeleton, k0_part288_skel]; rotate_left
  rw [k0_part289_eq_skeleton, k0_part289_skel]; rotate_left
  rw [k0_part290_eq_skeleton, k0_part290_skel]; rotate_left
  rw [k0_part291_eq_skeleton, k0_part291_skel]; rotate_left
  rw [k0_part292_eq_skeleton, k0_part292_skel]; rotate_left
  rw [k0_part293_eq_skeleton, k0_part293_skel]; rotate_left
  rw [k0_part294_eq_skeleton, k0_part294_skel]; rotate_left
  rw [k0_part295_eq_skeleton, k0_part295_skel]; rotate_left
  rw [k0_part296_eq_skeleton, k0_part296_skel]; rotate_left
  rw [k0_part297_eq_skeleton, k0_part297_skel]; rotate_left
  rw [k0_part298_eq_skeleton, k0_part298_skel]; rotate_left
  rw [k0_part299_eq_skeleton, k0_part299_skel]; rotate_left
  rw [k0_part300_eq_skeleton, k0_part300_skel]; rotate_left
  rw [k0_part301_eq_skeleton, k0_part301_skel]; rotate_left
  rw [k0_part302_eq_skeleton, k0_part302_skel]; rotate_left
  rw [k0_part303_eq_skeleton, k0_part303_skel]; rotate_left
  rw [k0_part304_eq_skeleton, k0_part304_skel]; rotate_left
  rw [k0_part305_eq_skeleton, k0_part305_skel]; rotate_left
  rw [k0_part306_eq_skeleton, k0_part306_skel]; rotate_left
  rw [k0_part307_eq_skeleton, k0_part307_skel]; rotate_left
  rw [k0_part308_eq_skeleton, k0_part308_skel]; rotate_left
  rw [k0_part309_eq_skeleton, k0_part309_skel]; rotate_left
  rw [k0_part310_eq_skeleton, k0_part310_skel]; rotate_left
  rw [k0_part311_eq_skeleton, k0_part311_skel]; rotate_left
  rw [k0_part312_eq_skeleton, k0_part312_skel]; rotate_left
  rw [k0_part313_eq_skeleton, k0_part313_skel]; rotate_left
  rw [k0_part314_eq_skeleton, k0_part314_skel]; rotate_left
  rw [k0_part315_eq_skeleton, k0_part315_skel]; rotate_left
  rw [k0_part316_eq_skeleton, k0_part316_skel]; rotate_left
  rw [k0_part317_eq_skeleton, k0_part317_skel]; rotate_left
  rw [k0_part318_eq_skeleton, k0_part318_skel]; rotate_left
  rw [k0_part319_eq_skeleton, k0_part319_skel]; rotate_left
  rw [k0_part320_eq_skeleton, k0_part320_skel]; rotate_left
  rw [k0_part321_eq_skeleton, k0_part321_skel]; rotate_left
  rw [k0_part322_eq_skeleton, k0_part322_skel]; rotate_left
  rw [k0_part323_eq_skeleton, k0_part323_skel]; rotate_left
  rw [k0_part324_eq_skeleton, k0_part324_skel]; rotate_left
  rw [k0_part325_eq_skeleton, k0_part325_skel]; rotate_left
  rw [k0_part326_eq_skeleton, k0_part326_skel]; rotate_left
  rw [k0_part327_eq_skeleton, k0_part327_skel]; rotate_left
  rw [k0_part328_eq_skeleton, k0_part328_skel]; rotate_left
  rw [k0_part329_eq_skeleton, k0_part329_skel]; rotate_left
  rw [k0_part330_eq_skeleton, k0_part330_skel]; rotate_left
  rw [k0_part331_eq_skeleton, k0_part331_skel]; rotate_left
  rw [k0_part332_eq_skeleton, k0_part332_skel]; rotate_left
  all_goals repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | dsimp only

set_option maxHeartbeats 4000000 in
theorem keep_k0_part369 : ∀ x0 x1 x2 x3 x4 x5 x6 x7 x8 x9 x10 x11 x12 x13 x14 x15 x16 x17 x18 x19 x20 x21 x22 x23 x24 x25 x26 x27 x28 x29 x30 x31 x32 x33 x34 x35 x36, Keeps (defs₀ (F := F)) Variants.none c none E R (k0_part369 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 x18 x19 x20 x21 x22 x23 x24 x25 x26 x27 x28 x29 x30 x31 x32 x33 x34 x35 x36) := by
  intros; rw [k0_part369_eq_skeleton]; unfold k0_part369_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only
  rw [k0_part333_eq_skeleton, k0_part333_skel]; rotate_left
  rw [k0_part334_eq_skeleton, k0_part334_skel]; rotate_left
  rw [k0_part335_eq_skeleton, k0_part335_skel]; rotate_left
  rw [k0_part336_eq_skeleton, k0_part336_skel]; rotate_left
  rw [k0_part337_eq_skeleton, k0_part337_skel]; rotate_left
  rw [k0_part338_eq_skeleton, k0_part338_skel]; rotate_left
  rw [k0_part339_eq_skeleton, k0_part339_skel]; rotate_left
  rw [k0_part340_eq_skeleton, k0_part340_skel]; rotate_left
  rw [k0_part341_eq_skeleton, k0_part341_skel]; rotate_left
  rw [k0_part342_eq_skeleton, k0_part342_skel]; rotate_left
  rw [k0_part343_eq_skeleton, k0_part343_skel]; rotate_left
  rw [k0_part344_eq_skeleton, k0_part344_skel]; rotate_left
  rw [k0_part345_eq_skeleton, k0_part345_skel]; rotate_left
  rw [k0_part346_eq_skeleton, k0_part346_skel]; rotate_left
  rw [k0_part347_eq_skeleton, k0_part347_skel]; rotate_left
  rw [k0_part348_eq_skeleton, k0_part348_skel]; rotate_left
  rw [k0_part349_eq_skeleton, k0_part349_skel]; rotate_left
  rw [k0_part350_eq_skeleton, k0_part350_skel]; rotate_left
  rw [k0_part351_eq_skeleton, k0_part351_skel]; rotate_left
  rw [k0_part352_eq_skeleton, k0_part352_skel]; rotate_left
  rw [k0_part353_eq_skeleton, k0_part353_skel]; rotate_left
  rw [k0_part354_eq_skeleton, k0_part354_skel]; rotate_left
  rw [k0_part355_eq_skeleton, k0_part355_skel]; rotate_left
  rw [k0_part356_eq_skeleton, k0_part356_skel]; rotate_left
  rw [k0_part357_eq_skeleton, k0_part357_skel]; rotate_left
  rw [k0_part358_eq_skeleton, k0_part358_skel]; rotate_left
  rw [k0_part359_eq_skeleton, k0_part359_skel]; rotate_left
  rw [k0_part360_eq_skeleton, k0_part360_skel]; rotate_left
  rw [k0_part361_eq_skeleton, k0_part361_skel]; rotate_left
  rw [k0_part362_eq_skeleton, k0_part362_skel]; rotate_left
  rw [k0_part363_eq_skeleton, k0_part363_skel]; rotate_left
  rw [k0_part364_eq_skeleton, k0_part364_skel]; rotate_left
  all_goals repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | dsimp only

end Cert.Kernel6.Hand

end
-- ==== Proof.DsaKeep3.lean ====
/- The sparse mixer's kernel leaves in place a resource that lends its inputs for reading and its output and scratch
   buffers for writing: parts and loop bodies, file 3 of 5. -/
module

public import proofs.«01_k».proof.Proof.Gen.Kernel6.Skeleton
public import proofs.«01_k».proof.Proof.Gen.Kernel6.Frame
public import proofs.«01_k».proof.Proof.Keeps

@[expose] public section

set_option maxRecDepth 16384

noncomputable section

namespace Cert.Kernel6.Hand

open Idealize.ShloMosaic Idealize.SL.Sem Cert.Kernel6.Gen Cert.Keep Idealize.SL Idealize.SL.RA
open Idealize.SL.BI (sProp)

variable {F : FTy → Type} [BitOps F]
variable {c : Dev nD} {E : Set ℕ} {R : sProp (MT nD τ sig Unit (Elt F) ℕ (UR sig nD τ) ℕ)}
variable (i : grid0.Coords) (arg2 : Memref sig .tc .vmem S4x17x128x128 .bf16) (harg2 : arg2.IsWhole) (arg3 : Memref sig .tc .vmem S4x17x128x128 .bf16) (harg3 : arg3.IsWhole) (arg4 : Memref sig .tc .vmem S4x17x128x128 .bf16) (harg4 : arg4.IsWhole) (arg5 : Memref sig .tc .vmem S4x1x128x512 .bf16) (harg5 : arg5.IsWhole) (arg6 : Memref sig .tc .vmem S4x1x128x512 .bf16) (harg6 : arg6.IsWhole) (arg7 : Memref sig .tc .vmem S4x1x8x128 .f32) (harg7 : arg7.IsWhole) (arg8 : Memref sig .tc .vmem S4x1x128x512 .f32) (harg8 : arg8.IsWhole) (arg9 : Memref sig .tc .vmem S4x1x128x512 .bf16) (harg9 : arg9.IsWhole) (arg10 : Memref sig .tc .vmem S4x2304x128 .f32) (harg10 : arg10.IsWhole) (arg11 : Memref sig .tc .vmem S4x1024x128 .bf16) (harg11 : arg11.IsWhole) (arg12 : Memref sig .tc .vmem S4x1024x128 .bf16) (harg12 : arg12.IsWhole) (arg13 : Memref sig .tc .vmem S4x1x1024 .f32) (harg13 : arg13.IsWhole) (arg14 : Memref sig .tc .vmem S4x1x1024 .f32) (harg14 : arg14.IsWhole) (arg15 : Memref sig .tc .vmem S4x2x80x512 .f32) (harg15 : arg15.IsWhole) (arg16 : Memref sig .tc .vmem S4x9x32x8x128 .i32) (harg16 : arg16.IsWhole) (arg17 : Memref sig .tc .vmem S4x1x128 .f32) (harg17 : arg17.IsWhole) (arg18 : Memref sig .tc .vmem S4x1x128 .i32) (harg18 : arg18.IsWhole)
variable (h2 : Reads c arg2 R) (h3 : Reads c arg3 R) (h4 : Reads c arg4 R) (h5 : Reads c arg5 R) (h6 : Reads c arg6 R) (h7 : Reads c arg7 R) (h8 : Reads c arg8 R) (h9 : Writes c arg9 R) (h10 : Writes c arg10 R) (h11 : Writes c arg11 R) (h12 : Writes c arg12 R) (h13 : Writes c arg13 R) (h14 : Writes c arg14 R) (h15 : Writes c arg15 R) (h16 : Writes c arg16 R) (h17 : Writes c arg17 R) (h18 : Writes c arg18 R)
include h2 h3 h4 h5 h6 h7 h8 h9 h10 h11 h12 h13 h14 h15 h16 h17 h18

set_option maxHeartbeats 4000000 in
theorem keep_k0_part552 : ∀ x0 x1 x2 x3 x4 x5, Keeps (defs₀ (F := F)) Variants.none c none E R (k0_part552 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5) := by
  intros; rw [k0_part552_eq_skeleton]; unfold k0_part552_skel
  repeat' first | with_reducible exact Keeps.pure _ | (with_reducible refine Keeps.bind ?_ ?_) | (with_reducible intro _) | split | dsimp only
  rw [k0_part370_eq_skeleton, k0_part370_skel]; rotate_left
  rw [k0_part371_eq_skeleton, k0_part371_skel]; rotate_left
  rw [k0_part372_eq_skeleton, k0_part372_skel]; rotate_left
  rw [k0_part373_eq_skeleton, k0_part373_skel]; rotate_left
  rw [k0_part374_eq_skeleton, k0_part374_skel]; rotate_left
  rw [k0_part375_eq_skeleton, k0_part375_skel]; rotate_left
  rw [k0_part376_eq_skeleton, k0_part376_skel]; rotate_left
  rw [k0_part377_eq_skeleton, k0_part377_skel]; rotate_left
  rw [k0_part378_eq_skeleton, k0_part378_skel]; rotate_left
  rw [k0_part379_eq_skeleton, k0_part379_skel]; rotate_left
  rw [k0_part380_eq_skeleton, k0_part380_skel]; rotate_left
  rw [k0_part381_eq_skeleton, k0_part381_skel]; rotate_left
  rw [k0_part382_eq_skeleton, k0_part382_skel]; rotate_left
  rw [k0_part383_eq_skeleton, k0_part383_skel]; rotate_left
  rw [k0_part384_eq_skeleton, k0_part384_skel]; rotate_left
  rw [k0_part385_eq_skeleton, k0_part385_skel]; rotate_left
  rw [k0_part386_eq_skeleton, k0_part386_skel]; rotate_left
  rw [k0_part387_eq_skeleton, k0_part387_skel]; rotate_left
  rw [k0_part388_eq_skeleton, k0_part388_skel]; rotate_left
  rw [k0_part389_eq_skeleton, k0_part389_skel]; rotate_left
  rw [k0_part390_eq_skeleton, k0_part390_skel]; rotate_left
  rw [k0_part391_eq_skeleton, k0_part391_skel]; rotate_left
  rw [k0_part392_eq_skeleton, k0_part392_skel]; rotate_left
  rw [k0_part393_eq_skeleton, k0_part393_skel]; rotate_left
  rw [k0_part394_eq_skeleton, k0_part394_skel]; rotate_left
  rw [k0_part395_eq_skeleton, k0_part395_skel]; rotate_left
  rw [k0_part396_eq_skeleton, k0_part396_skel]; rotate_left
  rw [k0_part397_eq_skeleton, k0_part397_skel]; rotate_left
  rw [k0_part398_eq_skeleton, k0_part398_skel]; rotate_left
  rw [k0_part399_eq_skeleton, k0_part399_skel]; rotate_left
  rw [k0_part400_eq_skeleton, k0_part400_skel]; rotate_left
  rw [k0_part401_eq_skeleton, k0_part401_skel]; rotate_left
  rw [k0_part402_eq_skeleton, k0_part402_skel]; rotate_left
  rw [k0_part403_eq_skeleton, k0_part403_skel]; rotate_left
  rw [k0_part404_eq_skeleton, k0_part404_skel]; rotate_left
  rw [k0_part405_eq_skeleton, k0_part405_skel]; rotate_left
  rw [k0_part406_eq_skeleton, k0_part406_skel]; rotate_left
  rw [k0_part407_eq_skeleton, k0_part407_skel]; rotate_left
  rw [k0_part408_eq_skeleton, k0_part408_skel]; rotate_left
  rw [k0_part409_eq_skeleton, k0_part409_skel]; rotate_left
  rw [k0_part410_eq_skeleton, k0_part410_skel]; rotate_left
  rw [k0_part411_eq_skeleton, k0_part411_skel]; rotate_left
  rw [k0_part412_eq_skeleton, k0_part412_skel]; rotate_left
  rw [k0_part413_eq_skeleton, k0_part413_skel]; rotate_left
  rw [k0_part414_eq_skeleton, k0_part414_skel]; rotate_left
  rw [k0_part415_eq_skeleton, k0_part415_skel]; rotate_left
  rw [k0_part416_eq_skeleton, k0_part416_skel]; rotate_left
  rw [k0_part417_eq_skeleton, k0_part417_skel]; rotate_left
  rw [k0_part418_eq_skeleton, k0_part418_skel]; rotate_left
  rw [k0_part419_eq_skeleton, k0_part419_skel]; rotate_left
  rw [k0_part420_eq_skeleton, k0_part420_skel]; rotate_left
  rw [k0_part421_eq_skeleton, k0_part421_skel]; rotate_left
  rw [k0_part422_eq_skeleton, k0_part422_skel]; rotate_left
  rw [k0_part423_eq_skeleton, k0_part423_skel]; rotate_left
  rw [k0_part424_eq_skeleton, k0_part424_skel]; rotate_left
  rw [k0_part425_eq_skeleton, k0_part425_skel]; rotate_left
  rw [k0_part426_eq_skeleton, k0_part426_skel]; rotate_left
  rw [k0_part427_eq_skeleton, k0_part427_skel]; rotate_left
  rw [k0_part428_eq_skeleton, k0_part428_skel]; rotate_left
  rw [k0_part429_eq_skeleton, k0_part429_skel]; rotate_left
  all_goals repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | dsimp only

set_option maxHeartbeats 4000000 in
theorem keep_k0_part553 : ∀ x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41, Keeps (defs₀ (F := F)) Variants.none c none E R (k0_part553 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41) := by
  intros; rw [k0_part553_eq_skeleton]; unfold k0_part553_skel
  repeat' first | with_reducible exact Keeps.pure _ | (with_reducible refine Keeps.bind ?_ ?_) | (with_reducible intro _) | split | dsimp only
  rw [k0_part430_eq_skeleton, k0_part430_skel]; rotate_left
  rw [k0_part431_eq_skeleton, k0_part431_skel]; rotate_left
  rw [k0_part432_eq_skeleton, k0_part432_skel]; rotate_left
  rw [k0_part433_eq_skeleton, k0_part433_skel]; rotate_left
  rw [k0_part434_eq_skeleton, k0_part434_skel]; rotate_left
  rw [k0_part435_eq_skeleton, k0_part435_skel]; rotate_left
  rw [k0_part436_eq_skeleton, k0_part436_skel]; rotate_left
  rw [k0_part437_eq_skeleton, k0_part437_skel]; rotate_left
  rw [k0_part438_eq_skeleton, k0_part438_skel]; rotate_left
  rw [k0_part439_eq_skeleton, k0_part439_skel]; rotate_left
  rw [k0_part440_eq_skeleton, k0_part440_skel]; rotate_left
  rw [k0_part441_eq_skeleton, k0_part441_skel]; rotate_left
  rw [k0_part442_eq_skeleton, k0_part442_skel]; rotate_left
  rw [k0_part443_eq_skeleton, k0_part443_skel]; rotate_left
  rw [k0_part444_eq_skeleton, k0_part444_skel]; rotate_left
  rw [k0_part445_eq_skeleton, k0_part445_skel]; rotate_left
  rw [k0_part446_eq_skeleton, k0_part446_skel]; rotate_left
  rw [k0_part447_eq_skeleton, k0_part447_skel]; rotate_left
  rw [k0_part448_eq_skeleton, k0_part448_skel]; rotate_left
  rw [k0_part449_eq_skeleton, k0_part449_skel]; rotate_left
  rw [k0_part450_eq_skeleton, k0_part450_skel]; rotate_left
  rw [k0_part451_eq_skeleton, k0_part451_skel]; rotate_left
  rw [k0_part452_eq_skeleton, k0_part452_skel]; rotate_left
  rw [k0_part453_eq_skeleton, k0_part453_skel]; rotate_left
  rw [k0_part454_eq_skeleton, k0_part454_skel]; rotate_left
  rw [k0_part455_eq_skeleton, k0_part455_skel]; rotate_left
  rw [k0_part456_eq_skeleton, k0_part456_skel]; rotate_left
  rw [k0_part457_eq_skeleton, k0_part457_skel]; rotate_left
  rw [k0_part458_eq_skeleton, k0_part458_skel]; rotate_left
  rw [k0_part459_eq_skeleton, k0_part459_skel]; rotate_left
  rw [k0_part460_eq_skeleton, k0_part460_skel]; rotate_left
  rw [k0_part461_eq_skeleton, k0_part461_skel]; rotate_left
  rw [k0_part462_eq_skeleton, k0_part462_skel]; rotate_left
  rw [k0_part463_eq_skeleton, k0_part463_skel]; rotate_left
  rw [k0_part464_eq_skeleton, k0_part464_skel]; rotate_left
  rw [k0_part465_eq_skeleton, k0_part465_skel]; rotate_left
  rw [k0_part466_eq_skeleton, k0_part466_skel]; rotate_left
  rw [k0_part467_eq_skeleton, k0_part467_skel]; rotate_left
  rw [k0_part468_eq_skeleton, k0_part468_skel]; rotate_left
  rw [k0_part469_eq_skeleton, k0_part469_skel]; rotate_left
  rw [k0_part470_eq_skeleton, k0_part470_skel]; rotate_left
  rw [k0_part471_eq_skeleton, k0_part471_skel]; rotate_left
  rw [k0_part472_eq_skeleton, k0_part472_skel]; rotate_left
  rw [k0_part473_eq_skeleton, k0_part473_skel]; rotate_left
  rw [k0_part474_eq_skeleton, k0_part474_skel]; rotate_left
  rw [k0_part475_eq_skeleton, k0_part475_skel]; rotate_left
  rw [k0_part476_eq_skeleton, k0_part476_skel]; rotate_left
  rw [k0_part477_eq_skeleton, k0_part477_skel]; rotate_left
  rw [k0_part478_eq_skeleton, k0_part478_skel]; rotate_left
  rw [k0_part479_eq_skeleton, k0_part479_skel]; rotate_left
  rw [k0_part480_eq_skeleton, k0_part480_skel]; rotate_left
  rw [k0_part481_eq_skeleton, k0_part481_skel]; rotate_left
  rw [k0_part482_eq_skeleton, k0_part482_skel]; rotate_left
  rw [k0_part483_eq_skeleton, k0_part483_skel]; rotate_left
  rw [k0_part484_eq_skeleton, k0_part484_skel]; rotate_left
  rw [k0_part485_eq_skeleton, k0_part485_skel]; rotate_left
  rw [k0_part486_eq_skeleton, k0_part486_skel]; rotate_left
  rw [k0_part487_eq_skeleton, k0_part487_skel]; rotate_left
  rw [k0_part488_eq_skeleton, k0_part488_skel]; rotate_left
  rw [k0_part489_eq_skeleton, k0_part489_skel]; rotate_left
  all_goals repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | dsimp only

set_option maxHeartbeats 4000000 in
theorem keep_k0_part554 : ∀ x0 x1 x2 x3 x4 x5 x6 x7 x8 x9 x10 x11 x12 x13 x14 x15 x16 x17 x18 x19 x20 x21 x22 x23 x24 x25 x26 x27 x28 x29 x30 x31 x32 x33 x34 x35 x36 x37 x38, Keeps (defs₀ (F := F)) Variants.none c none E R (k0_part554 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 x18 x19 x20 x21 x22 x23 x24 x25 x26 x27 x28 x29 x30 x31 x32 x33 x34 x35 x36 x37 x38) := by
  intros; rw [k0_part554_eq_skeleton]; unfold k0_part554_skel
  repeat' first | with_reducible exact Keeps.pure _ | (with_reducible refine Keeps.bind ?_ ?_) | (with_reducible intro _) | split | dsimp only
  rw [k0_part490_eq_skeleton, k0_part490_skel]; rotate_left
  rw [k0_part491_eq_skeleton, k0_part491_skel]; rotate_left
  rw [k0_part492_eq_skeleton, k0_part492_skel]; rotate_left
  rw [k0_part493_eq_skeleton, k0_part493_skel]; rotate_left
  rw [k0_part494_eq_skeleton, k0_part494_skel]; rotate_left
  rw [k0_part495_eq_skeleton, k0_part495_skel]; rotate_left
  rw [k0_part496_eq_skeleton, k0_part496_skel]; rotate_left
  rw [k0_part497_eq_skeleton, k0_part497_skel]; rotate_left
  rw [k0_part498_eq_skeleton, k0_part498_skel]; rotate_left
  rw [k0_part499_eq_skeleton, k0_part499_skel]; rotate_left
  rw [k0_part500_eq_skeleton, k0_part500_skel]; rotate_left
  rw [k0_part501_eq_skeleton, k0_part501_skel]; rotate_left
  rw [k0_part502_eq_skeleton, k0_part502_skel]; rotate_left
  rw [k0_part503_eq_skeleton, k0_part503_skel]; rotate_left
  rw [k0_part504_eq_skeleton, k0_part504_skel]; rotate_left
  rw [k0_part505_eq_skeleton, k0_part505_skel]; rotate_left
  rw [k0_part506_eq_skeleton, k0_part506_skel]; rotate_left
  rw [k0_part507_eq_skeleton, k0_part507_skel]; rotate_left
  rw [k0_part508_eq_skeleton, k0_part508_skel]; rotate_left
  rw [k0_part509_eq_skeleton, k0_part509_skel]; rotate_left
  rw [k0_part510_eq_skeleton, k0_part510_skel]; rotate_left
  rw [k0_part511_eq_skeleton, k0_part511_skel]; rotate_left
  rw [k0_part512_eq_skeleton, k0_part512_skel]; rotate_left
  rw [k0_part513_eq_skeleton, k0_part513_skel]; rotate_left
  rw [k0_part514_eq_skeleton, k0_part514_skel]; rotate_left
  rw [k0_part515_eq_skeleton, k0_part515_skel]; rotate_left
  rw [k0_part516_eq_skeleton, k0_part516_skel]; rotate_left
  rw [k0_part517_eq_skeleton, k0_part517_skel]; rotate_left
  rw [k0_part518_eq_skeleton, k0_part518_skel]; rotate_left
  rw [k0_part519_eq_skeleton, k0_part519_skel]; rotate_left
  rw [k0_part520_eq_skeleton, k0_part520_skel]; rotate_left
  rw [k0_part521_eq_skeleton, k0_part521_skel]; rotate_left
  rw [k0_part522_eq_skeleton, k0_part522_skel]; rotate_left
  rw [k0_part523_eq_skeleton, k0_part523_skel]; rotate_left
  rw [k0_part524_eq_skeleton, k0_part524_skel]; rotate_left
  rw [k0_part525_eq_skeleton, k0_part525_skel]; rotate_left
  rw [k0_part526_eq_skeleton, k0_part526_skel]; rotate_left
  rw [k0_part527_eq_skeleton, k0_part527_skel]; rotate_left
  rw [k0_part528_eq_skeleton, k0_part528_skel]; rotate_left
  rw [k0_part529_eq_skeleton, k0_part529_skel]; rotate_left
  rw [k0_part530_eq_skeleton, k0_part530_skel]; rotate_left
  rw [k0_part531_eq_skeleton, k0_part531_skel]; rotate_left
  rw [k0_part532_eq_skeleton, k0_part532_skel]; rotate_left
  rw [k0_part533_eq_skeleton, k0_part533_skel]; rotate_left
  rw [k0_part534_eq_skeleton, k0_part534_skel]; rotate_left
  rw [k0_part535_eq_skeleton, k0_part535_skel]; rotate_left
  rw [k0_part536_eq_skeleton, k0_part536_skel]; rotate_left
  rw [k0_part537_eq_skeleton, k0_part537_skel]; rotate_left
  rw [k0_part538_eq_skeleton, k0_part538_skel]; rotate_left
  rw [k0_part539_eq_skeleton, k0_part539_skel]; rotate_left
  rw [k0_part540_eq_skeleton, k0_part540_skel]; rotate_left
  rw [k0_part541_eq_skeleton, k0_part541_skel]; rotate_left
  rw [k0_part542_eq_skeleton, k0_part542_skel]; rotate_left
  rw [k0_part543_eq_skeleton, k0_part543_skel]; rotate_left
  rw [k0_part544_eq_skeleton, k0_part544_skel]; rotate_left
  rw [k0_part545_eq_skeleton, k0_part545_skel]; rotate_left
  rw [k0_part546_eq_skeleton, k0_part546_skel]; rotate_left
  rw [k0_part547_eq_skeleton, k0_part547_skel]; rotate_left
  rw [k0_part548_eq_skeleton, k0_part548_skel]; rotate_left
  rw [k0_part549_eq_skeleton, k0_part549_skel]; rotate_left
  all_goals repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | dsimp only

set_option maxHeartbeats 4000000 in
theorem keep_k0_part555 : ∀ x0 x1 x2 x3 x4 x5, Keeps (defs₀ (F := F)) Variants.none c none E R (k0_part555 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5) := by
  intros; rw [k0_part555_eq_skeleton]; unfold k0_part555_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible apply keep_k0_part552 <;> assumption) | (with_reducible apply keep_k0_part553 <;> assumption) | (with_reducible apply keep_k0_part554 <;> assumption) | (with_reducible intro _) | split | dsimp only
  rw [k0_part550_eq_skeleton, k0_part550_skel]; rotate_left
  rw [k0_part551_eq_skeleton, k0_part551_skel]; rotate_left
  all_goals repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | dsimp only

end Cert.Kernel6.Hand

end
-- ==== Proof.DsaKeep4.lean ====
/- The sparse mixer's kernel leaves in place a resource that lends its inputs for reading and its output and scratch
   buffers for writing: parts and loop bodies, file 4 of 5. -/
module

public import proofs.«01_k».proof.Proof.Gen.Kernel6.Skeleton
public import proofs.«01_k».proof.Proof.Gen.Kernel6.Frame
public import proofs.«01_k».proof.Proof.Keeps

@[expose] public section

set_option maxRecDepth 16384

noncomputable section

namespace Cert.Kernel6.Hand

open Idealize.ShloMosaic Idealize.SL.Sem Cert.Kernel6.Gen Cert.Keep Idealize.SL Idealize.SL.RA
open Idealize.SL.BI (sProp)

variable {F : FTy → Type} [BitOps F]
variable {c : Dev nD} {E : Set ℕ} {R : sProp (MT nD τ sig Unit (Elt F) ℕ (UR sig nD τ) ℕ)}
variable (i : grid0.Coords) (arg2 : Memref sig .tc .vmem S4x17x128x128 .bf16) (harg2 : arg2.IsWhole) (arg3 : Memref sig .tc .vmem S4x17x128x128 .bf16) (harg3 : arg3.IsWhole) (arg4 : Memref sig .tc .vmem S4x17x128x128 .bf16) (harg4 : arg4.IsWhole) (arg5 : Memref sig .tc .vmem S4x1x128x512 .bf16) (harg5 : arg5.IsWhole) (arg6 : Memref sig .tc .vmem S4x1x128x512 .bf16) (harg6 : arg6.IsWhole) (arg7 : Memref sig .tc .vmem S4x1x8x128 .f32) (harg7 : arg7.IsWhole) (arg8 : Memref sig .tc .vmem S4x1x128x512 .f32) (harg8 : arg8.IsWhole) (arg9 : Memref sig .tc .vmem S4x1x128x512 .bf16) (harg9 : arg9.IsWhole) (arg10 : Memref sig .tc .vmem S4x2304x128 .f32) (harg10 : arg10.IsWhole) (arg11 : Memref sig .tc .vmem S4x1024x128 .bf16) (harg11 : arg11.IsWhole) (arg12 : Memref sig .tc .vmem S4x1024x128 .bf16) (harg12 : arg12.IsWhole) (arg13 : Memref sig .tc .vmem S4x1x1024 .f32) (harg13 : arg13.IsWhole) (arg14 : Memref sig .tc .vmem S4x1x1024 .f32) (harg14 : arg14.IsWhole) (arg15 : Memref sig .tc .vmem S4x2x80x512 .f32) (harg15 : arg15.IsWhole) (arg16 : Memref sig .tc .vmem S4x9x32x8x128 .i32) (harg16 : arg16.IsWhole) (arg17 : Memref sig .tc .vmem S4x1x128 .f32) (harg17 : arg17.IsWhole) (arg18 : Memref sig .tc .vmem S4x1x128 .i32) (harg18 : arg18.IsWhole)
variable (h2 : Reads c arg2 R) (h3 : Reads c arg3 R) (h4 : Reads c arg4 R) (h5 : Reads c arg5 R) (h6 : Reads c arg6 R) (h7 : Reads c arg7 R) (h8 : Reads c arg8 R) (h9 : Writes c arg9 R) (h10 : Writes c arg10 R) (h11 : Writes c arg11 R) (h12 : Writes c arg12 R) (h13 : Writes c arg13 R) (h14 : Writes c arg14 R) (h15 : Writes c arg15 R) (h16 : Writes c arg16 R) (h17 : Writes c arg17 R) (h18 : Writes c arg18 R)
include h2 h3 h4 h5 h6 h7 h8 h9 h10 h11 h12 h13 h14 h15 h16 h17 h18

set_option maxHeartbeats 4000000 in
theorem keep_k0_part738 : ∀ x0 x1 x2 x3 x4 x5, Keeps (defs₀ (F := F)) Variants.none c none E R (k0_part738 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5) := by
  intros; rw [k0_part738_eq_skeleton]; unfold k0_part738_skel
  repeat' first | with_reducible exact Keeps.pure _ | (with_reducible refine Keeps.bind ?_ ?_) | (with_reducible intro _) | split | dsimp only
  rw [k0_part556_eq_skeleton, k0_part556_skel]; rotate_left
  rw [k0_part557_eq_skeleton, k0_part557_skel]; rotate_left
  rw [k0_part558_eq_skeleton, k0_part558_skel]; rotate_left
  rw [k0_part559_eq_skeleton, k0_part559_skel]; rotate_left
  rw [k0_part560_eq_skeleton, k0_part560_skel]; rotate_left
  rw [k0_part561_eq_skeleton, k0_part561_skel]; rotate_left
  rw [k0_part562_eq_skeleton, k0_part562_skel]; rotate_left
  rw [k0_part563_eq_skeleton, k0_part563_skel]; rotate_left
  rw [k0_part564_eq_skeleton, k0_part564_skel]; rotate_left
  rw [k0_part565_eq_skeleton, k0_part565_skel]; rotate_left
  rw [k0_part566_eq_skeleton, k0_part566_skel]; rotate_left
  rw [k0_part567_eq_skeleton, k0_part567_skel]; rotate_left
  rw [k0_part568_eq_skeleton, k0_part568_skel]; rotate_left
  rw [k0_part569_eq_skeleton, k0_part569_skel]; rotate_left
  rw [k0_part570_eq_skeleton, k0_part570_skel]; rotate_left
  rw [k0_part571_eq_skeleton, k0_part571_skel]; rotate_left
  rw [k0_part572_eq_skeleton, k0_part572_skel]; rotate_left
  rw [k0_part573_eq_skeleton, k0_part573_skel]; rotate_left
  rw [k0_part574_eq_skeleton, k0_part574_skel]; rotate_left
  rw [k0_part575_eq_skeleton, k0_part575_skel]; rotate_left
  rw [k0_part576_eq_skeleton, k0_part576_skel]; rotate_left
  rw [k0_part577_eq_skeleton, k0_part577_skel]; rotate_left
  rw [k0_part578_eq_skeleton, k0_part578_skel]; rotate_left
  rw [k0_part579_eq_skeleton, k0_part579_skel]; rotate_left
  rw [k0_part580_eq_skeleton, k0_part580_skel]; rotate_left
  rw [k0_part581_eq_skeleton, k0_part581_skel]; rotate_left
  rw [k0_part582_eq_skeleton, k0_part582_skel]; rotate_left
  rw [k0_part583_eq_skeleton, k0_part583_skel]; rotate_left
  rw [k0_part584_eq_skeleton, k0_part584_skel]; rotate_left
  rw [k0_part585_eq_skeleton, k0_part585_skel]; rotate_left
  rw [k0_part586_eq_skeleton, k0_part586_skel]; rotate_left
  rw [k0_part587_eq_skeleton, k0_part587_skel]; rotate_left
  rw [k0_part588_eq_skeleton, k0_part588_skel]; rotate_left
  rw [k0_part589_eq_skeleton, k0_part589_skel]; rotate_left
  rw [k0_part590_eq_skeleton, k0_part590_skel]; rotate_left
  rw [k0_part591_eq_skeleton, k0_part591_skel]; rotate_left
  rw [k0_part592_eq_skeleton, k0_part592_skel]; rotate_left
  rw [k0_part593_eq_skeleton, k0_part593_skel]; rotate_left
  rw [k0_part594_eq_skeleton, k0_part594_skel]; rotate_left
  rw [k0_part595_eq_skeleton, k0_part595_skel]; rotate_left
  rw [k0_part596_eq_skeleton, k0_part596_skel]; rotate_left
  rw [k0_part597_eq_skeleton, k0_part597_skel]; rotate_left
  rw [k0_part598_eq_skeleton, k0_part598_skel]; rotate_left
  rw [k0_part599_eq_skeleton, k0_part599_skel]; rotate_left
  rw [k0_part600_eq_skeleton, k0_part600_skel]; rotate_left
  rw [k0_part601_eq_skeleton, k0_part601_skel]; rotate_left
  rw [k0_part602_eq_skeleton, k0_part602_skel]; rotate_left
  rw [k0_part603_eq_skeleton, k0_part603_skel]; rotate_left
  rw [k0_part604_eq_skeleton, k0_part604_skel]; rotate_left
  rw [k0_part605_eq_skeleton, k0_part605_skel]; rotate_left
  rw [k0_part606_eq_skeleton, k0_part606_skel]; rotate_left
  rw [k0_part607_eq_skeleton, k0_part607_skel]; rotate_left
  rw [k0_part608_eq_skeleton, k0_part608_skel]; rotate_left
  rw [k0_part609_eq_skeleton, k0_part609_skel]; rotate_left
  rw [k0_part610_eq_skeleton, k0_part610_skel]; rotate_left
  rw [k0_part611_eq_skeleton, k0_part611_skel]; rotate_left
  rw [k0_part612_eq_skeleton, k0_part612_skel]; rotate_left
  rw [k0_part613_eq_skeleton, k0_part613_skel]; rotate_left
  rw [k0_part614_eq_skeleton, k0_part614_skel]; rotate_left
  rw [k0_part615_eq_skeleton, k0_part615_skel]; rotate_left
  all_goals repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | dsimp only

set_option maxHeartbeats 4000000 in
theorem keep_k0_part739 : ∀ x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41, Keeps (defs₀ (F := F)) Variants.none c none E R (k0_part739 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41) := by
  intros; rw [k0_part739_eq_skeleton]; unfold k0_part739_skel
  repeat' first | with_reducible exact Keeps.pure _ | (with_reducible refine Keeps.bind ?_ ?_) | (with_reducible intro _) | split | dsimp only
  rw [k0_part616_eq_skeleton, k0_part616_skel]; rotate_left
  rw [k0_part617_eq_skeleton, k0_part617_skel]; rotate_left
  rw [k0_part618_eq_skeleton, k0_part618_skel]; rotate_left
  rw [k0_part619_eq_skeleton, k0_part619_skel]; rotate_left
  rw [k0_part620_eq_skeleton, k0_part620_skel]; rotate_left
  rw [k0_part621_eq_skeleton, k0_part621_skel]; rotate_left
  rw [k0_part622_eq_skeleton, k0_part622_skel]; rotate_left
  rw [k0_part623_eq_skeleton, k0_part623_skel]; rotate_left
  rw [k0_part624_eq_skeleton, k0_part624_skel]; rotate_left
  rw [k0_part625_eq_skeleton, k0_part625_skel]; rotate_left
  rw [k0_part626_eq_skeleton, k0_part626_skel]; rotate_left
  rw [k0_part627_eq_skeleton, k0_part627_skel]; rotate_left
  rw [k0_part628_eq_skeleton, k0_part628_skel]; rotate_left
  rw [k0_part629_eq_skeleton, k0_part629_skel]; rotate_left
  rw [k0_part630_eq_skeleton, k0_part630_skel]; rotate_left
  rw [k0_part631_eq_skeleton, k0_part631_skel]; rotate_left
  rw [k0_part632_eq_skeleton, k0_part632_skel]; rotate_left
  rw [k0_part633_eq_skeleton, k0_part633_skel]; rotate_left
  rw [k0_part634_eq_skeleton, k0_part634_skel]; rotate_left
  rw [k0_part635_eq_skeleton, k0_part635_skel]; rotate_left
  rw [k0_part636_eq_skeleton, k0_part636_skel]; rotate_left
  rw [k0_part637_eq_skeleton, k0_part637_skel]; rotate_left
  rw [k0_part638_eq_skeleton, k0_part638_skel]; rotate_left
  rw [k0_part639_eq_skeleton, k0_part639_skel]; rotate_left
  rw [k0_part640_eq_skeleton, k0_part640_skel]; rotate_left
  rw [k0_part641_eq_skeleton, k0_part641_skel]; rotate_left
  rw [k0_part642_eq_skeleton, k0_part642_skel]; rotate_left
  rw [k0_part643_eq_skeleton, k0_part643_skel]; rotate_left
  rw [k0_part644_eq_skeleton, k0_part644_skel]; rotate_left
  rw [k0_part645_eq_skeleton, k0_part645_skel]; rotate_left
  rw [k0_part646_eq_skeleton, k0_part646_skel]; rotate_left
  rw [k0_part647_eq_skeleton, k0_part647_skel]; rotate_left
  rw [k0_part648_eq_skeleton, k0_part648_skel]; rotate_left
  rw [k0_part649_eq_skeleton, k0_part649_skel]; rotate_left
  rw [k0_part650_eq_skeleton, k0_part650_skel]; rotate_left
  rw [k0_part651_eq_skeleton, k0_part651_skel]; rotate_left
  rw [k0_part652_eq_skeleton, k0_part652_skel]; rotate_left
  rw [k0_part653_eq_skeleton, k0_part653_skel]; rotate_left
  rw [k0_part654_eq_skeleton, k0_part654_skel]; rotate_left
  rw [k0_part655_eq_skeleton, k0_part655_skel]; rotate_left
  rw [k0_part656_eq_skeleton, k0_part656_skel]; rotate_left
  rw [k0_part657_eq_skeleton, k0_part657_skel]; rotate_left
  rw [k0_part658_eq_skeleton, k0_part658_skel]; rotate_left
  rw [k0_part659_eq_skeleton, k0_part659_skel]; rotate_left
  rw [k0_part660_eq_skeleton, k0_part660_skel]; rotate_left
  rw [k0_part661_eq_skeleton, k0_part661_skel]; rotate_left
  rw [k0_part662_eq_skeleton, k0_part662_skel]; rotate_left
  rw [k0_part663_eq_skeleton, k0_part663_skel]; rotate_left
  rw [k0_part664_eq_skeleton, k0_part664_skel]; rotate_left
  rw [k0_part665_eq_skeleton, k0_part665_skel]; rotate_left
  rw [k0_part666_eq_skeleton, k0_part666_skel]; rotate_left
  rw [k0_part667_eq_skeleton, k0_part667_skel]; rotate_left
  rw [k0_part668_eq_skeleton, k0_part668_skel]; rotate_left
  rw [k0_part669_eq_skeleton, k0_part669_skel]; rotate_left
  rw [k0_part670_eq_skeleton, k0_part670_skel]; rotate_left
  rw [k0_part671_eq_skeleton, k0_part671_skel]; rotate_left
  rw [k0_part672_eq_skeleton, k0_part672_skel]; rotate_left
  rw [k0_part673_eq_skeleton, k0_part673_skel]; rotate_left
  rw [k0_part674_eq_skeleton, k0_part674_skel]; rotate_left
  rw [k0_part675_eq_skeleton, k0_part675_skel]; rotate_left
  all_goals repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | dsimp only

set_option maxHeartbeats 4000000 in
theorem keep_k0_part740 : ∀ x0 x1 x2 x3 x4 x5 x6 x7 x8 x9 x10 x11 x12 x13 x14 x15 x16 x17 x18 x19 x20 x21 x22 x23 x24 x25 x26 x27 x28 x29 x30 x31 x32 x33 x34 x35 x36 x37 x38, Keeps (defs₀ (F := F)) Variants.none c none E R (k0_part740 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 x18 x19 x20 x21 x22 x23 x24 x25 x26 x27 x28 x29 x30 x31 x32 x33 x34 x35 x36 x37 x38) := by
  intros; rw [k0_part740_eq_skeleton]; unfold k0_part740_skel
  repeat' first | with_reducible exact Keeps.pure _ | (with_reducible refine Keeps.bind ?_ ?_) | (with_reducible intro _) | split | dsimp only
  rw [k0_part676_eq_skeleton, k0_part676_skel]; rotate_left
  rw [k0_part677_eq_skeleton, k0_part677_skel]; rotate_left
  rw [k0_part678_eq_skeleton, k0_part678_skel]; rotate_left
  rw [k0_part679_eq_skeleton, k0_part679_skel]; rotate_left
  rw [k0_part680_eq_skeleton, k0_part680_skel]; rotate_left
  rw [k0_part681_eq_skeleton, k0_part681_skel]; rotate_left
  rw [k0_part682_eq_skeleton, k0_part682_skel]; rotate_left
  rw [k0_part683_eq_skeleton, k0_part683_skel]; rotate_left
  rw [k0_part684_eq_skeleton, k0_part684_skel]; rotate_left
  rw [k0_part685_eq_skeleton, k0_part685_skel]; rotate_left
  rw [k0_part686_eq_skeleton, k0_part686_skel]; rotate_left
  rw [k0_part687_eq_skeleton, k0_part687_skel]; rotate_left
  rw [k0_part688_eq_skeleton, k0_part688_skel]; rotate_left
  rw [k0_part689_eq_skeleton, k0_part689_skel]; rotate_left
  rw [k0_part690_eq_skeleton, k0_part690_skel]; rotate_left
  rw [k0_part691_eq_skeleton, k0_part691_skel]; rotate_left
  rw [k0_part692_eq_skeleton, k0_part692_skel]; rotate_left
  rw [k0_part693_eq_skeleton, k0_part693_skel]; rotate_left
  rw [k0_part694_eq_skeleton, k0_part694_skel]; rotate_left
  rw [k0_part695_eq_skeleton, k0_part695_skel]; rotate_left
  rw [k0_part696_eq_skeleton, k0_part696_skel]; rotate_left
  rw [k0_part697_eq_skeleton, k0_part697_skel]; rotate_left
  rw [k0_part698_eq_skeleton, k0_part698_skel]; rotate_left
  rw [k0_part699_eq_skeleton, k0_part699_skel]; rotate_left
  rw [k0_part700_eq_skeleton, k0_part700_skel]; rotate_left
  rw [k0_part701_eq_skeleton, k0_part701_skel]; rotate_left
  rw [k0_part702_eq_skeleton, k0_part702_skel]; rotate_left
  rw [k0_part703_eq_skeleton, k0_part703_skel]; rotate_left
  rw [k0_part704_eq_skeleton, k0_part704_skel]; rotate_left
  rw [k0_part705_eq_skeleton, k0_part705_skel]; rotate_left
  rw [k0_part706_eq_skeleton, k0_part706_skel]; rotate_left
  rw [k0_part707_eq_skeleton, k0_part707_skel]; rotate_left
  rw [k0_part708_eq_skeleton, k0_part708_skel]; rotate_left
  rw [k0_part709_eq_skeleton, k0_part709_skel]; rotate_left
  rw [k0_part710_eq_skeleton, k0_part710_skel]; rotate_left
  rw [k0_part711_eq_skeleton, k0_part711_skel]; rotate_left
  rw [k0_part712_eq_skeleton, k0_part712_skel]; rotate_left
  rw [k0_part713_eq_skeleton, k0_part713_skel]; rotate_left
  rw [k0_part714_eq_skeleton, k0_part714_skel]; rotate_left
  rw [k0_part715_eq_skeleton, k0_part715_skel]; rotate_left
  rw [k0_part716_eq_skeleton, k0_part716_skel]; rotate_left
  rw [k0_part717_eq_skeleton, k0_part717_skel]; rotate_left
  rw [k0_part718_eq_skeleton, k0_part718_skel]; rotate_left
  rw [k0_part719_eq_skeleton, k0_part719_skel]; rotate_left
  rw [k0_part720_eq_skeleton, k0_part720_skel]; rotate_left
  rw [k0_part721_eq_skeleton, k0_part721_skel]; rotate_left
  rw [k0_part722_eq_skeleton, k0_part722_skel]; rotate_left
  rw [k0_part723_eq_skeleton, k0_part723_skel]; rotate_left
  rw [k0_part724_eq_skeleton, k0_part724_skel]; rotate_left
  rw [k0_part725_eq_skeleton, k0_part725_skel]; rotate_left
  rw [k0_part726_eq_skeleton, k0_part726_skel]; rotate_left
  rw [k0_part727_eq_skeleton, k0_part727_skel]; rotate_left
  rw [k0_part728_eq_skeleton, k0_part728_skel]; rotate_left
  rw [k0_part729_eq_skeleton, k0_part729_skel]; rotate_left
  rw [k0_part730_eq_skeleton, k0_part730_skel]; rotate_left
  rw [k0_part731_eq_skeleton, k0_part731_skel]; rotate_left
  rw [k0_part732_eq_skeleton, k0_part732_skel]; rotate_left
  rw [k0_part733_eq_skeleton, k0_part733_skel]; rotate_left
  rw [k0_part734_eq_skeleton, k0_part734_skel]; rotate_left
  rw [k0_part735_eq_skeleton, k0_part735_skel]; rotate_left
  all_goals repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | dsimp only

set_option maxHeartbeats 4000000 in
theorem keep_k0_part741 : ∀ x0 x1 x2 x3 x4 x5, Keeps (defs₀ (F := F)) Variants.none c none E R (k0_part741 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5) := by
  intros; rw [k0_part741_eq_skeleton]; unfold k0_part741_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible apply keep_k0_part738 <;> assumption) | (with_reducible apply keep_k0_part739 <;> assumption) | (with_reducible apply keep_k0_part740 <;> assumption) | (with_reducible intro _) | split | dsimp only
  rw [k0_part736_eq_skeleton, k0_part736_skel]; rotate_left
  rw [k0_part737_eq_skeleton, k0_part737_skel]; rotate_left
  all_goals repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | dsimp only

end Cert.Kernel6.Hand

end
-- ==== Proof.DsaKeep5.lean ====
/- The sparse mixer's kernel leaves in place a resource that lends its inputs for reading and its output and scratch
   buffers for writing: parts and loop bodies, file 5 of 5. -/
module

public import proofs.«01_k».proof.Proof.Gen.Kernel6.Skeleton
public import proofs.«01_k».proof.Proof.Gen.Kernel6.Frame
public import proofs.«01_k».proof.Proof.Keeps

@[expose] public section

set_option maxRecDepth 16384

noncomputable section

namespace Cert.Kernel6.Hand

open Idealize.ShloMosaic Idealize.SL.Sem Cert.Kernel6.Gen Cert.Keep Idealize.SL Idealize.SL.RA
open Idealize.SL.BI (sProp)

variable {F : FTy → Type} [BitOps F]
variable {c : Dev nD} {E : Set ℕ} {R : sProp (MT nD τ sig Unit (Elt F) ℕ (UR sig nD τ) ℕ)}
variable (i : grid0.Coords) (arg2 : Memref sig .tc .vmem S4x17x128x128 .bf16) (harg2 : arg2.IsWhole) (arg3 : Memref sig .tc .vmem S4x17x128x128 .bf16) (harg3 : arg3.IsWhole) (arg4 : Memref sig .tc .vmem S4x17x128x128 .bf16) (harg4 : arg4.IsWhole) (arg5 : Memref sig .tc .vmem S4x1x128x512 .bf16) (harg5 : arg5.IsWhole) (arg6 : Memref sig .tc .vmem S4x1x128x512 .bf16) (harg6 : arg6.IsWhole) (arg7 : Memref sig .tc .vmem S4x1x8x128 .f32) (harg7 : arg7.IsWhole) (arg8 : Memref sig .tc .vmem S4x1x128x512 .f32) (harg8 : arg8.IsWhole) (arg9 : Memref sig .tc .vmem S4x1x128x512 .bf16) (harg9 : arg9.IsWhole) (arg10 : Memref sig .tc .vmem S4x2304x128 .f32) (harg10 : arg10.IsWhole) (arg11 : Memref sig .tc .vmem S4x1024x128 .bf16) (harg11 : arg11.IsWhole) (arg12 : Memref sig .tc .vmem S4x1024x128 .bf16) (harg12 : arg12.IsWhole) (arg13 : Memref sig .tc .vmem S4x1x1024 .f32) (harg13 : arg13.IsWhole) (arg14 : Memref sig .tc .vmem S4x1x1024 .f32) (harg14 : arg14.IsWhole) (arg15 : Memref sig .tc .vmem S4x2x80x512 .f32) (harg15 : arg15.IsWhole) (arg16 : Memref sig .tc .vmem S4x9x32x8x128 .i32) (harg16 : arg16.IsWhole) (arg17 : Memref sig .tc .vmem S4x1x128 .f32) (harg17 : arg17.IsWhole) (arg18 : Memref sig .tc .vmem S4x1x128 .i32) (harg18 : arg18.IsWhole)
variable (h2 : Reads c arg2 R) (h3 : Reads c arg3 R) (h4 : Reads c arg4 R) (h5 : Reads c arg5 R) (h6 : Reads c arg6 R) (h7 : Reads c arg7 R) (h8 : Reads c arg8 R) (h9 : Writes c arg9 R) (h10 : Writes c arg10 R) (h11 : Writes c arg11 R) (h12 : Writes c arg12 R) (h13 : Writes c arg13 R) (h14 : Writes c arg14 R) (h15 : Writes c arg15 R) (h16 : Writes c arg16 R) (h17 : Writes c arg17 R) (h18 : Writes c arg18 R)
include h2 h3 h4 h5 h6 h7 h8 h9 h10 h11 h12 h13 h14 h15 h16 h17 h18

set_option maxHeartbeats 4000000 in
theorem keep_k0_part757 : ∀ x0 x1 x2, Keeps (defs₀ (F := F)) Variants.none c none E R (k0_part757 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2) := by
  intros; rw [k0_part757_eq_skeleton]; unfold k0_part757_skel
  repeat' first | with_reducible exact Keeps.pure _ | (with_reducible refine Keeps.bind ?_ ?_) | (with_reducible intro _) | split | dsimp only

set_option maxHeartbeats 4000000 in
theorem keep_k0_t3_body : ∀ x0 x1 x2 x3 x4 x5 x6 x7 x8 x9 x10 x11 x12 x13 x14 x15 x16 x17 x18 x19 x20 x21 x22 x23 x24, Keeps (defs₀ (F := F)) Variants.none c none E R (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 x18 x19 x20 x21 x22 x23 x24) := by
  intros; unfold k0_t3_body
  repeat' first | with_reducible exact Keeps.pure _ | (with_reducible refine Keeps.bind ?_ ?_) | (with_reducible intro _) | split | dsimp only
  rw [k0_part742_eq_skeleton, k0_part742_skel]; rotate_left
  rw [k0_part743_eq_skeleton, k0_part743_skel]; rotate_left
  rw [k0_part744_eq_skeleton, k0_part744_skel]; rotate_left
  rw [k0_part745_eq_skeleton, k0_part745_skel]; rotate_left
  rw [k0_part746_eq_skeleton, k0_part746_skel]; rotate_left
  rw [k0_part747_eq_skeleton, k0_part747_skel]; rotate_left
  rw [k0_part748_eq_skeleton, k0_part748_skel]; rotate_left
  rw [k0_part749_eq_skeleton, k0_part749_skel]; rotate_left
  rw [k0_part750_eq_skeleton, k0_part750_skel]; rotate_left
  rw [k0_part751_eq_skeleton, k0_part751_skel]; rotate_left
  rw [k0_part752_eq_skeleton, k0_part752_skel]; rotate_left
  rw [k0_part753_eq_skeleton, k0_part753_skel]; rotate_left
  rw [k0_part754_eq_skeleton, k0_part754_skel]; rotate_left
  rw [k0_part755_eq_skeleton, k0_part755_skel]; rotate_left
  rw [k0_part756_eq_skeleton, k0_part756_skel]; rotate_left
  all_goals repeat' first | with_reducible exact Keeps.pure _ | (with_reducible refine Keeps.bind ?_ ?_) | (with_reducible refine Keeps.load ?_ _ _; first | assumption | exact Writes.reads ‹_›) | (with_reducible intro _) | dsimp only

set_option maxHeartbeats 4000000 in
theorem keep_k0_part758 : ∀ x0 x1 x2 x3 x4 x5 x6 x7 x8 x9 x10 x11 x12 x13 x14 x15 x16 x17 x18 x19 x20 x21 x22, Keeps (defs₀ (F := F)) Variants.none c none E R (k0_part758 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 x18 x19 x20 x21 x22) := by
  intros; rw [k0_part758_eq_skeleton]; unfold k0_part758_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible refine Keeps.for ?_) | (with_reducible apply keep_k0_t3_body <;> assumption) | (with_reducible intro _) | split | dsimp only

set_option maxHeartbeats 4000000 in
theorem keep_k0_part784 : ∀ x0 x1 x2, Keeps (defs₀ (F := F)) Variants.none c none E R (k0_part784 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2) := by
  intros; rw [k0_part784_eq_skeleton]; unfold k0_part784_skel
  repeat' first | with_reducible exact Keeps.pure _ | (with_reducible refine Keeps.bind ?_ ?_) | (with_reducible intro _) | split | dsimp only

set_option maxHeartbeats 4000000 in
theorem keep_k0_t4_body : ∀ x0 x1 x2 x3 x4 x5 x6 x7 x8 x9 x10 x11 x12 x13 x14 x15 x16 x17 x18 x19 x20 x21 x22 x23 x24 x25, Keeps (defs₀ (F := F)) Variants.none c none E R (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 x18 x19 x20 x21 x22 x23 x24 x25) := by
  intros; unfold k0_t4_body
  repeat' first | with_reducible exact Keeps.pure _ | (with_reducible refine Keeps.bind ?_ ?_) | (with_reducible intro _) | split | dsimp only
  rw [k0_part759_eq_skeleton, k0_part759_skel]; rotate_left
  rw [k0_part760_eq_skeleton, k0_part760_skel]; rotate_left
  rw [k0_part761_eq_skeleton, k0_part761_skel]; rotate_left
  rw [k0_part762_eq_skeleton, k0_part762_skel]; rotate_left
  rw [k0_part763_eq_skeleton, k0_part763_skel]; rotate_left
  rw [k0_part764_eq_skeleton, k0_part764_skel]; rotate_left
  rw [k0_part765_eq_skeleton, k0_part765_skel]; rotate_left
  rw [k0_part766_eq_skeleton, k0_part766_skel]; rotate_left
  rw [k0_part767_eq_skeleton, k0_part767_skel]; rotate_left
  rw [k0_part768_eq_skeleton, k0_part768_skel]; rotate_left
  rw [k0_part769_eq_skeleton, k0_part769_skel]; rotate_left
  rw [k0_part770_eq_skeleton, k0_part770_skel]; rotate_left
  rw [k0_part771_eq_skeleton, k0_part771_skel]; rotate_left
  rw [k0_part772_eq_skeleton, k0_part772_skel]; rotate_left
  rw [k0_part773_eq_skeleton, k0_part773_skel]; rotate_left
  rw [k0_part774_eq_skeleton, k0_part774_skel]; rotate_left
  rw [k0_part775_eq_skeleton, k0_part775_skel]; rotate_left
  rw [k0_part776_eq_skeleton, k0_part776_skel]; rotate_left
  rw [k0_part777_eq_skeleton, k0_part777_skel]; rotate_left
  rw [k0_part778_eq_skeleton, k0_part778_skel]; rotate_left
  rw [k0_part779_eq_skeleton, k0_part779_skel]; rotate_left
  rw [k0_part780_eq_skeleton, k0_part780_skel]; rotate_left
  rw [k0_part781_eq_skeleton, k0_part781_skel]; rotate_left
  rw [k0_part782_eq_skeleton, k0_part782_skel]; rotate_left
  rw [k0_part783_eq_skeleton, k0_part783_skel]; rotate_left
  all_goals repeat' first | with_reducible exact Keeps.pure _ | (with_reducible refine Keeps.bind ?_ ?_) | (with_reducible refine Keeps.load ?_ _ _; first | assumption | exact Writes.reads ‹_›) | (with_reducible intro _) | dsimp only

set_option maxHeartbeats 4000000 in
theorem keep_k0_part785 : ∀ x0 x1 x2 x3 x4 x5 x6 x7 x8 x9 x10 x11 x12 x13 x14 x15 x16 x17 x18 x19 x20 x21 x22 x23, Keeps (defs₀ (F := F)) Variants.none c none E R (k0_part785 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 x18 x19 x20 x21 x22 x23) := by
  intros; rw [k0_part785_eq_skeleton]; unfold k0_part785_skel
  repeat' first | with_reducible exact Keeps.pure _ | (with_reducible refine Keeps.bind ?_ ?_) | (with_reducible refine Keeps.for ?_) | (with_reducible apply keep_k0_t4_body <;> assumption) | (with_reducible intro _) | split | dsimp only

set_option maxHeartbeats 4000000 in
theorem keep_k0_part786 : ∀ x0 x1 x2 x3 x4, Keeps (defs₀ (F := F)) Variants.none c none E R (k0_part786 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4) := by
  intros; rw [k0_part786_eq_skeleton]; unfold k0_part786_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_t5_body : ∀ x0 x1 x2 x3 x4 x5 x6 x7 x8 x9 x10, Keeps (defs₀ (F := F)) Variants.none c none E R (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10) := by
  intros; unfold k0_t5_body
  repeat' first | with_reducible exact Keeps.pure _ | (with_reducible refine Keeps.bind ?_ ?_) | (with_reducible intro _) | split | dsimp only
  rw [k0_part787_eq_skeleton, k0_part787_skel]; rotate_left
  rw [k0_part788_eq_skeleton, k0_part788_skel]; rotate_left
  rw [k0_part789_eq_skeleton, k0_part789_skel]; rotate_left
  rw [k0_part790_eq_skeleton, k0_part790_skel]; rotate_left
  rw [k0_part791_eq_skeleton, k0_part791_skel]; rotate_left
  rw [k0_part792_eq_skeleton, k0_part792_skel]; rotate_left
  rw [k0_part793_eq_skeleton, k0_part793_skel]; rotate_left
  rw [k0_part794_eq_skeleton, k0_part794_skel]; rotate_left
  rw [k0_part795_eq_skeleton, k0_part795_skel]; rotate_left
  all_goals repeat' first | with_reducible exact Keeps.pure _ | (with_reducible refine Keeps.bind ?_ ?_) | (with_reducible refine Keeps.load ?_ _ _; first | assumption | exact Writes.reads ‹_›) | (with_reducible intro _) | dsimp only

set_option maxHeartbeats 4000000 in
theorem keep_k0_t6_body : ∀ x0 x1 x2 x3 x4 x5 x6 x7 x8 x9 x10 x11, Keeps (defs₀ (F := F)) Variants.none c none E R (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11) := by
  intros; unfold k0_t6_body
  repeat' first | with_reducible exact Keeps.pure _ | (with_reducible refine Keeps.bind ?_ ?_) | (with_reducible intro _) | split | dsimp only
  rw [k0_part796_eq_skeleton, k0_part796_skel]; rotate_left
  rw [k0_part797_eq_skeleton, k0_part797_skel]; rotate_left
  rw [k0_part798_eq_skeleton, k0_part798_skel]; rotate_left
  rw [k0_part799_eq_skeleton, k0_part799_skel]; rotate_left
  rw [k0_part800_eq_skeleton, k0_part800_skel]; rotate_left
  rw [k0_part801_eq_skeleton, k0_part801_skel]; rotate_left
  rw [k0_part802_eq_skeleton, k0_part802_skel]; rotate_left
  rw [k0_part803_eq_skeleton, k0_part803_skel]; rotate_left
  rw [k0_part804_eq_skeleton, k0_part804_skel]; rotate_left
  all_goals repeat' first | with_reducible exact Keeps.pure _ | (with_reducible refine Keeps.bind ?_ ?_) | (with_reducible refine Keeps.load ?_ _ _; first | assumption | exact Writes.reads ‹_›) | (with_reducible intro _) | dsimp only

set_option maxHeartbeats 4000000 in
theorem keep_k0_t7_body : ∀ x0 x1 x2, Keeps (defs₀ (F := F)) Variants.none c none E R (k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2) := by
  intros; unfold k0_t7_body
  repeat' first | with_reducible exact Keeps.pure _ | (with_reducible refine Keeps.bind ?_ ?_) | (with_reducible intro _) | split | dsimp only
  rw [k0_part805_eq_skeleton, k0_part805_skel]; rotate_left
  rw [k0_part806_eq_skeleton, k0_part806_skel]; rotate_left
  rw [k0_part807_eq_skeleton, k0_part807_skel]; rotate_left
  rw [k0_part808_eq_skeleton, k0_part808_skel]; rotate_left
  rw [k0_part809_eq_skeleton, k0_part809_skel]; rotate_left
  all_goals repeat' first | with_reducible exact Keeps.pure _ | (with_reducible refine Keeps.bind ?_ ?_) | (with_reducible refine Keeps.load ?_ _ _; first | assumption | exact Writes.reads ‹_›) | (with_reducible intro _) | dsimp only

set_option maxHeartbeats 4000000 in
theorem keep_k0_t8_body : ∀ x0 x1 x2 x3, Keeps (defs₀ (F := F)) Variants.none c none E R (k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3) := by
  intros; unfold k0_t8_body
  repeat' first | with_reducible exact Keeps.pure _ | (with_reducible refine Keeps.bind ?_ ?_) | (with_reducible intro _) | split | dsimp only
  rw [k0_part810_eq_skeleton, k0_part810_skel]; rotate_left
  rw [k0_part811_eq_skeleton, k0_part811_skel]; rotate_left
  rw [k0_part812_eq_skeleton, k0_part812_skel]; rotate_left
  rw [k0_part813_eq_skeleton, k0_part813_skel]; rotate_left
  rw [k0_part814_eq_skeleton, k0_part814_skel]; rotate_left
  all_goals repeat' first | with_reducible exact Keeps.pure _ | (with_reducible refine Keeps.bind ?_ ?_) | (with_reducible refine Keeps.load ?_ _ _; first | assumption | exact Writes.reads ‹_›) | (with_reducible intro _) | dsimp only

set_option maxHeartbeats 4000000 in
theorem keep_k0_part826 : ∀ x0, Keeps (defs₀ (F := F)) Variants.none c none E R (k0_part826 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0) := by
  intros; rw [k0_part826_eq_skeleton]; unfold k0_part826_skel
  repeat' first | with_reducible exact Keeps.pure _ | (with_reducible refine Keeps.bind ?_ ?_) | (with_reducible refine Keeps.for ?_) | (with_reducible apply keep_k0_t7_body <;> assumption) | (with_reducible apply keep_k0_t8_body <;> assumption) | (with_reducible intro _) | split | dsimp only

set_option maxHeartbeats 4000000 in
theorem keep_k0_t10_body : ∀ x0 x1 x2 x3 x4 x5 x6 x7 x8 x9 x10 x11 x12, Keeps (defs₀ (F := F)) Variants.none c none E R (k0_t10_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12) := by
  intros; unfold k0_t10_body
  repeat' first | with_reducible exact Keeps.pure _ | (with_reducible refine Keeps.bind ?_ ?_) | (with_reducible intro _) | split | dsimp only
  rw [k0_part815_eq_skeleton, k0_part815_skel]; rotate_left
  rw [k0_part816_eq_skeleton, k0_part816_skel]; rotate_left
  rw [k0_part817_eq_skeleton, k0_part817_skel]; rotate_left
  rw [k0_part818_eq_skeleton, k0_part818_skel]; rotate_left
  rw [k0_part819_eq_skeleton, k0_part819_skel]; rotate_left
  all_goals repeat' first | with_reducible exact Keeps.pure _ | (with_reducible refine Keeps.bind ?_ ?_) | (with_reducible refine Keeps.load ?_ _ _; first | assumption | exact Writes.reads ‹_›) | (with_reducible intro _) | dsimp only

set_option maxHeartbeats 4000000 in
theorem keep_k0_t11_body : ∀ x0 x1 x2 x3 x4 x5 x6 x7 x8 x9 x10 x11 x12, Keeps (defs₀ (F := F)) Variants.none c none E R (k0_t11_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12) := by
  intros; unfold k0_t11_body
  repeat' first | with_reducible exact Keeps.pure _ | (with_reducible refine Keeps.bind ?_ ?_) | (with_reducible intro _) | split | dsimp only
  rw [k0_part820_eq_skeleton, k0_part820_skel]; rotate_left
  rw [k0_part821_eq_skeleton, k0_part821_skel]; rotate_left
  rw [k0_part822_eq_skeleton, k0_part822_skel]; rotate_left
  rw [k0_part823_eq_skeleton, k0_part823_skel]; rotate_left
  rw [k0_part824_eq_skeleton, k0_part824_skel]; rotate_left
  all_goals repeat' first | with_reducible exact Keeps.pure _ | (with_reducible refine Keeps.bind ?_ ?_) | (with_reducible refine Keeps.load ?_ _ _; first | assumption | exact Writes.reads ‹_›) | (with_reducible intro _) | dsimp only

set_option maxHeartbeats 4000000 in
theorem keep_k0_t9_body : ∀ x0 x1 x2 x3 x4 x5 x6 x7, Keeps (defs₀ (F := F)) Variants.none c none E R (k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7) := by
  intros; unfold k0_t9_body
  repeat' first | with_reducible exact Keeps.pure _ | (with_reducible refine Keeps.bind ?_ ?_) | (with_reducible refine Keeps.for ?_) | (with_reducible apply keep_k0_t10_body <;> assumption) | (with_reducible apply keep_k0_t11_body <;> assumption) | (with_reducible intro _) | split | dsimp only
  rw [k0_part825_eq_skeleton, k0_part825_skel]; rotate_left
  all_goals repeat' first | with_reducible exact Keeps.pure _ | (with_reducible refine Keeps.bind ?_ ?_) | (with_reducible intro _) | dsimp only

set_option maxHeartbeats 4000000 in
theorem keep_k0_part827 : ∀ x0 x1 x2 x3 x4 x5, Keeps (defs₀ (F := F)) Variants.none c none E R (k0_part827 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5) := by
  intros; rw [k0_part827_eq_skeleton]; unfold k0_part827_skel
  repeat' first | with_reducible exact Keeps.pure _ | (with_reducible refine Keeps.bind ?_ ?_) | (with_reducible refine Keeps.for ?_) | (with_reducible apply keep_k0_t9_body <;> assumption) | (with_reducible intro _) | split | dsimp only

set_option maxHeartbeats 4000000 in
theorem keep_k0_part828 : ∀ x0 x1 x2 x3 x4 x5, Keeps (defs₀ (F := F)) Variants.none c none E R (k0_part828 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5) := by
  intros; rw [k0_part828_eq_skeleton]; unfold k0_part828_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_t12_body : ∀ x0 x1 x2 x3 x4 x5 x6, Keeps (defs₀ (F := F)) Variants.none c none E R (k0_t12_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6) := by
  intros; unfold k0_t12_body
  repeat' first | with_reducible exact Keeps.pure _ | (with_reducible refine Keeps.bind ?_ ?_) | (with_reducible intro _) | split | dsimp only
  rw [k0_part829_eq_skeleton, k0_part829_skel]; rotate_left
  rw [k0_part830_eq_skeleton, k0_part830_skel]; rotate_left
  rw [k0_part831_eq_skeleton, k0_part831_skel]; rotate_left
  rw [k0_part832_eq_skeleton, k0_part832_skel]; rotate_left
  rw [k0_part833_eq_skeleton, k0_part833_skel]; rotate_left
  all_goals repeat' first | with_reducible exact Keeps.pure _ | (with_reducible refine Keeps.bind ?_ ?_) | (with_reducible refine Keeps.load ?_ _ _; first | assumption | exact Writes.reads ‹_›) | (with_reducible intro _) | dsimp only

set_option maxHeartbeats 4000000 in
theorem keep_k0_t13_body : ∀ x0 x1 x2 x3 x4 x5 x6 x7, Keeps (defs₀ (F := F)) Variants.none c none E R (k0_t13_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7) := by
  intros; unfold k0_t13_body
  repeat' first | with_reducible exact Keeps.pure _ | (with_reducible refine Keeps.bind ?_ ?_) | (with_reducible intro _) | split | dsimp only
  rw [k0_part834_eq_skeleton, k0_part834_skel]; rotate_left
  rw [k0_part835_eq_skeleton, k0_part835_skel]; rotate_left
  rw [k0_part836_eq_skeleton, k0_part836_skel]; rotate_left
  rw [k0_part837_eq_skeleton, k0_part837_skel]; rotate_left
  rw [k0_part838_eq_skeleton, k0_part838_skel]; rotate_left
  all_goals repeat' first | with_reducible exact Keeps.pure _ | (with_reducible refine Keeps.bind ?_ ?_) | (with_reducible refine Keeps.load ?_ _ _; first | assumption | exact Writes.reads ‹_›) | (with_reducible intro _) | dsimp only

set_option maxHeartbeats 4000000 in
theorem keep_k0_t14_body : ∀ x0 x1 x2 x3 x4 x5 x6 x7, Keeps (defs₀ (F := F)) Variants.none c none E R (k0_t14_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7) := by
  intros; unfold k0_t14_body
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_t15_body : ∀ x0 x1 x2 x3 x4 x5 x6 x7, Keeps (defs₀ (F := F)) Variants.none c none E R (k0_t15_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7) := by
  intros; unfold k0_t15_body
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_part839 : ∀ x0 x1 x2 x3 x4, Keeps (defs₀ (F := F)) Variants.none c none E R (k0_part839 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4) := by
  intros; rw [k0_part839_eq_skeleton]; unfold k0_part839_skel
  repeat' first | with_reducible exact Keeps.pure _ | (with_reducible refine Keeps.bind ?_ ?_) | (with_reducible refine Keeps.for ?_) | (with_reducible apply keep_k0_t12_body <;> assumption) | (with_reducible apply keep_k0_t13_body <;> assumption) | (with_reducible apply keep_k0_t14_body <;> assumption) | (with_reducible apply keep_k0_t15_body <;> assumption) | (with_reducible intro _) | split | dsimp only

set_option maxHeartbeats 4000000 in
theorem keep_k0_t16_body : ∀ x0 x1 x2 x3 x4 x5 x6 x7 x8 x9 x10 x11, Keeps (defs₀ (F := F)) Variants.none c none E R (k0_t16_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11) := by
  intros; unfold k0_t16_body
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_t17_body : ∀ x0 x1 x2 x3 x4 x5 x6 x7 x8 x9 x10 x11, Keeps (defs₀ (F := F)) Variants.none c none E R (k0_t17_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11) := by
  intros; unfold k0_t17_body
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_t18_body : ∀ x0 x1 x2 x3 x4 x5 x6 x7 x8 x9 x10 x11, Keeps (defs₀ (F := F)) Variants.none c none E R (k0_t18_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11) := by
  intros; unfold k0_t18_body
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_t19_body : ∀ x0 x1 x2 x3 x4 x5 x6 x7 x8 x9 x10 x11, Keeps (defs₀ (F := F)) Variants.none c none E R (k0_t19_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11) := by
  intros; unfold k0_t19_body
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_t20_body : ∀ x0 x1 x2 x3 x4 x5 x6 x7 x8 x9 x10 x11, Keeps (defs₀ (F := F)) Variants.none c none E R (k0_t20_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11) := by
  intros; unfold k0_t20_body
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_t21_body : ∀ x0 x1 x2 x3 x4 x5 x6 x7 x8 x9 x10 x11, Keeps (defs₀ (F := F)) Variants.none c none E R (k0_t21_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11) := by
  intros; unfold k0_t21_body
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_part840 : ∀ x0, Keeps (defs₀ (F := F)) Variants.none c none E R (k0_part840 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0) := by
  intros; rw [k0_part840_eq_skeleton]; unfold k0_part840_skel
  repeat' first | with_reducible exact Keeps.pure _ | (with_reducible refine Keeps.bind ?_ ?_) | (with_reducible refine Keeps.load ?_ _ _; first | assumption | exact Writes.reads ‹_›) | (with_reducible intro _) | split | dsimp only

set_option maxHeartbeats 4000000 in
theorem keep_k0_part841 : ∀ x0 x1 x2 x3, Keeps (defs₀ (F := F)) Variants.none c none E R (k0_part841 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3) := by
  intros; rw [k0_part841_eq_skeleton]; unfold k0_part841_skel
  repeat' first | with_reducible exact Keeps.pure _ | (with_reducible refine Keeps.bind ?_ ?_) | (with_reducible refine Keeps.load ?_ _ _; first | assumption | exact Writes.reads ‹_›) | (with_reducible intro _) | split | dsimp only

set_option maxHeartbeats 4000000 in
theorem keep_k0_part842 : ∀ x0 x1 x2 x3 x4, Keeps (defs₀ (F := F)) Variants.none c none E R (k0_part842 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4) := by
  intros; rw [k0_part842_eq_skeleton]; unfold k0_part842_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_part843 : ∀ x0 x1 x2 x3 x4, Keeps (defs₀ (F := F)) Variants.none c none E R (k0_part843 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4) := by
  intros; rw [k0_part843_eq_skeleton]; unfold k0_part843_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_part844 : ∀ x0 x1 x2 x3 x4 x5, Keeps (defs₀ (F := F)) Variants.none c none E R (k0_part844 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5) := by
  intros; rw [k0_part844_eq_skeleton]; unfold k0_part844_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_part845 : ∀ x0 x1 x2 x3, Keeps (defs₀ (F := F)) Variants.none c none E R (k0_part845 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3) := by
  intros; rw [k0_part845_eq_skeleton]; unfold k0_part845_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_part846 : ∀ x0 x1 x2 x3 x4 x5 x6 x7, Keeps (defs₀ (F := F)) Variants.none c none E R (k0_part846 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7) := by
  intros; rw [k0_part846_eq_skeleton]; unfold k0_part846_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_part847 : ∀ x0 x1 x2, Keeps (defs₀ (F := F)) Variants.none c none E R (k0_part847 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2) := by
  intros; rw [k0_part847_eq_skeleton]; unfold k0_part847_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_part848 : ∀ x0, Keeps (defs₀ (F := F)) Variants.none c none E R (k0_part848 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0) := by
  intros; rw [k0_part848_eq_skeleton]; unfold k0_part848_skel
  repeat' first | with_reducible exact Keeps.pure _ | (with_reducible refine Keeps.bind ?_ ?_) | (with_reducible refine Keeps.load ?_ _ _; first | assumption | exact Writes.reads ‹_›) | (with_reducible intro _) | split | dsimp only

set_option maxHeartbeats 4000000 in
theorem keep_k0_part849 : ∀ x0 x1, Keeps (defs₀ (F := F)) Variants.none c none E R (k0_part849 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1) := by
  intros; rw [k0_part849_eq_skeleton]; unfold k0_part849_skel
  repeat' first | with_reducible exact Keeps.pure _ | (with_reducible refine Keeps.bind ?_ ?_) | (with_reducible refine Keeps.load ?_ _ _; first | assumption | exact Writes.reads ‹_›) | (with_reducible intro _) | split | dsimp only

set_option maxHeartbeats 4000000 in
theorem keep_k0_part850 : ∀ x0, Keeps (defs₀ (F := F)) Variants.none c none E R (k0_part850 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0) := by
  intros; rw [k0_part850_eq_skeleton]; unfold k0_part850_skel
  repeat' first | with_reducible exact Keeps.pure _ | (with_reducible refine Keeps.bind ?_ ?_) | (with_reducible refine Keeps.load ?_ _ _; first | assumption | exact Writes.reads ‹_›) | (with_reducible intro _) | split | dsimp only

set_option maxHeartbeats 4000000 in
theorem keep_k0_part851 : ∀ x0 x1, Keeps (defs₀ (F := F)) Variants.none c none E R (k0_part851 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1) := by
  intros; rw [k0_part851_eq_skeleton]; unfold k0_part851_skel
  repeat' first | with_reducible exact Keeps.pure _ | (with_reducible refine Keeps.bind ?_ ?_) | (with_reducible refine Keeps.load ?_ _ _; first | assumption | exact Writes.reads ‹_›) | (with_reducible intro _) | split | dsimp only

set_option maxHeartbeats 4000000 in
theorem keep_k0_part852 : ∀ x0 x1, Keeps (defs₀ (F := F)) Variants.none c none E R (k0_part852 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1) := by
  intros; rw [k0_part852_eq_skeleton]; unfold k0_part852_skel
  repeat' first | with_reducible exact Keeps.pure _ | (with_reducible refine Keeps.bind ?_ ?_) | (with_reducible refine Keeps.load ?_ _ _; first | assumption | exact Writes.reads ‹_›) | (with_reducible intro _) | split | dsimp only

set_option maxHeartbeats 4000000 in
theorem keep_k0_part853 : ∀ x0 x1 x2 x3 x4 x5, Keeps (defs₀ (F := F)) Variants.none c none E R (k0_part853 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5) := by
  intros; rw [k0_part853_eq_skeleton]; unfold k0_part853_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_part854 : ∀ x0 x1 x2 x3 x4 x5 x6, Keeps (defs₀ (F := F)) Variants.none c none E R (k0_part854 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6) := by
  intros; rw [k0_part854_eq_skeleton]; unfold k0_part854_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_part855 : ∀ x0 x1 x2 x3 x4 x5, Keeps (defs₀ (F := F)) Variants.none c none E R (k0_part855 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5) := by
  intros; rw [k0_part855_eq_skeleton]; unfold k0_part855_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_part856 : ∀ x0 x1 x2 x3 x4, Keeps (defs₀ (F := F)) Variants.none c none E R (k0_part856 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4) := by
  intros; rw [k0_part856_eq_skeleton]; unfold k0_part856_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_part857 : ∀ x0 x1 x2 x3 x4 x5, Keeps (defs₀ (F := F)) Variants.none c none E R (k0_part857 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5) := by
  intros; rw [k0_part857_eq_skeleton]; unfold k0_part857_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_part858 : ∀ x0 x1 x2 x3 x4, Keeps (defs₀ (F := F)) Variants.none c none E R (k0_part858 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4) := by
  intros; rw [k0_part858_eq_skeleton]; unfold k0_part858_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_part859 : ∀ x0 x1 x2 x3 x4 x5 x6 x7 x8, Keeps (defs₀ (F := F)) Variants.none c none E R (k0_part859 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8) := by
  intros; rw [k0_part859_eq_skeleton]; unfold k0_part859_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_part860 : ∀ x0 x1 x2 x3 x4, Keeps (defs₀ (F := F)) Variants.none c none E R (k0_part860 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4) := by
  intros; rw [k0_part860_eq_skeleton]; unfold k0_part860_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_part861 : ∀ x0 x1 x2 x3 x4, Keeps (defs₀ (F := F)) Variants.none c none E R (k0_part861 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4) := by
  intros; rw [k0_part861_eq_skeleton]; unfold k0_part861_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_part862 : ∀ x0 x1 x2 x3 x4 x5, Keeps (defs₀ (F := F)) Variants.none c none E R (k0_part862 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5) := by
  intros; rw [k0_part862_eq_skeleton]; unfold k0_part862_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_part863 : ∀ x0 x1 x2 x3, Keeps (defs₀ (F := F)) Variants.none c none E R (k0_part863 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3) := by
  intros; rw [k0_part863_eq_skeleton]; unfold k0_part863_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_part864 : ∀ x0 x1 x2 x3 x4 x5 x6 x7, Keeps (defs₀ (F := F)) Variants.none c none E R (k0_part864 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7) := by
  intros; rw [k0_part864_eq_skeleton]; unfold k0_part864_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_part865 : ∀ x0 x1 x2, Keeps (defs₀ (F := F)) Variants.none c none E R (k0_part865 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2) := by
  intros; rw [k0_part865_eq_skeleton]; unfold k0_part865_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_part866 : ∀ x0 x1 x2 x3 x4 x5 x6, Keeps (defs₀ (F := F)) Variants.none c none E R (k0_part866 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6) := by
  intros; rw [k0_part866_eq_skeleton]; unfold k0_part866_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_part867 : ∀ x0 x1 x2 x3 x4, Keeps (defs₀ (F := F)) Variants.none c none E R (k0_part867 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4) := by
  intros; rw [k0_part867_eq_skeleton]; unfold k0_part867_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_part868 : ∀ x0 x1 x2 x3, Keeps (defs₀ (F := F)) Variants.none c none E R (k0_part868 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3) := by
  intros; rw [k0_part868_eq_skeleton]; unfold k0_part868_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_part869 : ∀ x0 x1 x2 x3 x4 x5, Keeps (defs₀ (F := F)) Variants.none c none E R (k0_part869 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5) := by
  intros; rw [k0_part869_eq_skeleton]; unfold k0_part869_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_part870 : ∀ x0 x1 x2 x3 x4 x5, Keeps (defs₀ (F := F)) Variants.none c none E R (k0_part870 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5) := by
  intros; rw [k0_part870_eq_skeleton]; unfold k0_part870_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_part871 : ∀ x0 x1 x2 x3 x4 x5 x6, Keeps (defs₀ (F := F)) Variants.none c none E R (k0_part871 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6) := by
  intros; rw [k0_part871_eq_skeleton]; unfold k0_part871_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_part872 : ∀ x0 x1 x2 x3 x4 x5, Keeps (defs₀ (F := F)) Variants.none c none E R (k0_part872 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5) := by
  intros; rw [k0_part872_eq_skeleton]; unfold k0_part872_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only

set_option maxHeartbeats 4000000 in
theorem keep_k0_t22_body : ∀ x0 x1 x2 x3 x4 x5 x6 x7 x8 x9 x10, Keeps (defs₀ (F := F)) Variants.none c none E R (k0_t22_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10) := by
  intros; unfold k0_t22_body
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only
  rw [k0_part873_eq_skeleton, k0_part873_skel]; rotate_left
  rw [k0_part874_eq_skeleton, k0_part874_skel]; rotate_left
  rw [k0_part875_eq_skeleton, k0_part875_skel]; rotate_left
  rw [k0_part876_eq_skeleton, k0_part876_skel]; rotate_left
  rw [k0_part877_eq_skeleton, k0_part877_skel]; rotate_left
  rw [k0_part878_eq_skeleton, k0_part878_skel]; rotate_left
  rw [k0_part879_eq_skeleton, k0_part879_skel]; rotate_left
  rw [k0_part880_eq_skeleton, k0_part880_skel]; rotate_left
  rw [k0_part881_eq_skeleton, k0_part881_skel]; rotate_left
  rw [k0_part882_eq_skeleton, k0_part882_skel]; rotate_left
  rw [k0_part883_eq_skeleton, k0_part883_skel]; rotate_left
  rw [k0_part884_eq_skeleton, k0_part884_skel]; rotate_left
  rw [k0_part885_eq_skeleton, k0_part885_skel]; rotate_left
  rw [k0_part886_eq_skeleton, k0_part886_skel]; rotate_left
  rw [k0_part887_eq_skeleton, k0_part887_skel]; rotate_left
  rw [k0_part888_eq_skeleton, k0_part888_skel]; rotate_left
  rw [k0_part889_eq_skeleton, k0_part889_skel]; rotate_left
  rw [k0_part890_eq_skeleton, k0_part890_skel]; rotate_left
  all_goals repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | dsimp only

set_option maxHeartbeats 4000000 in
theorem keep_k0_t23_body : ∀ x0 x1 x2 x3 x4 x5 x6 x7 x8 x9 x10 x11, Keeps (defs₀ (F := F)) Variants.none c none E R (k0_t23_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11) := by
  intros; unfold k0_t23_body
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | split | dsimp only
  rw [k0_part891_eq_skeleton, k0_part891_skel]; rotate_left
  rw [k0_part892_eq_skeleton, k0_part892_skel]; rotate_left
  rw [k0_part893_eq_skeleton, k0_part893_skel]; rotate_left
  rw [k0_part894_eq_skeleton, k0_part894_skel]; rotate_left
  rw [k0_part895_eq_skeleton, k0_part895_skel]; rotate_left
  rw [k0_part896_eq_skeleton, k0_part896_skel]; rotate_left
  rw [k0_part897_eq_skeleton, k0_part897_skel]; rotate_left
  rw [k0_part898_eq_skeleton, k0_part898_skel]; rotate_left
  rw [k0_part899_eq_skeleton, k0_part899_skel]; rotate_left
  rw [k0_part900_eq_skeleton, k0_part900_skel]; rotate_left
  rw [k0_part901_eq_skeleton, k0_part901_skel]; rotate_left
  rw [k0_part902_eq_skeleton, k0_part902_skel]; rotate_left
  rw [k0_part903_eq_skeleton, k0_part903_skel]; rotate_left
  rw [k0_part904_eq_skeleton, k0_part904_skel]; rotate_left
  rw [k0_part905_eq_skeleton, k0_part905_skel]; rotate_left
  rw [k0_part906_eq_skeleton, k0_part906_skel]; rotate_left
  rw [k0_part907_eq_skeleton, k0_part907_skel]; rotate_left
  rw [k0_part908_eq_skeleton, k0_part908_skel]; rotate_left
  all_goals repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | dsimp only

end Cert.Kernel6.Hand

end
-- ==== Proof.DsaKeep6.lean ====
/- The sparse mixer's kernel leaves in place a resource that lends its inputs for reading and its output and scratch
   buffers for writing: the whole kernel, on top of its parts and loop bodies. -/
module

public import proofs.«01_k».proof.Proof.Gen.Kernel6.Skeleton
public import proofs.«01_k».proof.Proof.Gen.Kernel6.Frame
public import proofs.«01_k».proof.Proof.Keeps
public import proofs.«01_k».proof.Proof.DsaKeep1
public import proofs.«01_k».proof.Proof.DsaKeep2
public import proofs.«01_k».proof.Proof.DsaKeep3
public import proofs.«01_k».proof.Proof.DsaKeep4
public import proofs.«01_k».proof.Proof.DsaKeep5

@[expose] public section

set_option maxRecDepth 16384

noncomputable section

namespace Cert.Kernel6.Hand

open Idealize.ShloMosaic Idealize.SL.Sem Cert.Kernel6.Gen Cert.Keep Idealize.SL Idealize.SL.RA
open Idealize.SL.BI (sProp)

variable {F : FTy → Type} [BitOps F]
variable {c : Dev nD} {E : Set ℕ} {R : sProp (MT nD τ sig Unit (Elt F) ℕ (UR sig nD τ) ℕ)}
variable (i : grid0.Coords) (arg2 : Memref sig .tc .vmem S4x17x128x128 .bf16) (harg2 : arg2.IsWhole) (arg3 : Memref sig .tc .vmem S4x17x128x128 .bf16) (harg3 : arg3.IsWhole) (arg4 : Memref sig .tc .vmem S4x17x128x128 .bf16) (harg4 : arg4.IsWhole) (arg5 : Memref sig .tc .vmem S4x1x128x512 .bf16) (harg5 : arg5.IsWhole) (arg6 : Memref sig .tc .vmem S4x1x128x512 .bf16) (harg6 : arg6.IsWhole) (arg7 : Memref sig .tc .vmem S4x1x8x128 .f32) (harg7 : arg7.IsWhole) (arg8 : Memref sig .tc .vmem S4x1x128x512 .f32) (harg8 : arg8.IsWhole) (arg9 : Memref sig .tc .vmem S4x1x128x512 .bf16) (harg9 : arg9.IsWhole) (arg10 : Memref sig .tc .vmem S4x2304x128 .f32) (harg10 : arg10.IsWhole) (arg11 : Memref sig .tc .vmem S4x1024x128 .bf16) (harg11 : arg11.IsWhole) (arg12 : Memref sig .tc .vmem S4x1024x128 .bf16) (harg12 : arg12.IsWhole) (arg13 : Memref sig .tc .vmem S4x1x1024 .f32) (harg13 : arg13.IsWhole) (arg14 : Memref sig .tc .vmem S4x1x1024 .f32) (harg14 : arg14.IsWhole) (arg15 : Memref sig .tc .vmem S4x2x80x512 .f32) (harg15 : arg15.IsWhole) (arg16 : Memref sig .tc .vmem S4x9x32x8x128 .i32) (harg16 : arg16.IsWhole) (arg17 : Memref sig .tc .vmem S4x1x128 .f32) (harg17 : arg17.IsWhole) (arg18 : Memref sig .tc .vmem S4x1x128 .i32) (harg18 : arg18.IsWhole)
variable (h2 : Reads c arg2 R) (h3 : Reads c arg3 R) (h4 : Reads c arg4 R) (h5 : Reads c arg5 R) (h6 : Reads c arg6 R) (h7 : Reads c arg7 R) (h8 : Reads c arg8 R) (h9 : Writes c arg9 R) (h10 : Writes c arg10 R) (h11 : Writes c arg11 R) (h12 : Writes c arg12 R) (h13 : Writes c arg13 R) (h14 : Writes c arg14 R) (h15 : Writes c arg15 R) (h16 : Writes c arg16 R) (h17 : Writes c arg17 R) (h18 : Writes c arg18 R)
include h2 h3 h4 h5 h6 h7 h8 h9 h10 h11 h12 h13 h14 h15 h16 h17 h18

set_option maxHeartbeats 4000000 in
theorem keep_k0_part930 : ∀ x0 x1 x2 x3, Keeps (defs₀ (F := F)) Variants.none c none E R (k0_part930 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3) := by
  intros; rw [k0_part930_eq_skeleton]; unfold k0_part930_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible refine Keeps.ite ?_ ?_) | (with_reducible refine Keeps.dite ?_ ?_) | (with_reducible intro _) | split | dsimp only

set_option maxHeartbeats 4000000 in
theorem keep_k0_t1_body : ∀ x0 x1 x2 x3 x4 x5 x6, Keeps (defs₀ (F := F)) Variants.none c none E R (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6) := by
  intros; unfold k0_t1_body
  repeat' first | with_reducible exact Keeps.pure _ | (with_reducible refine Keeps.bind ?_ ?_) | (with_reducible refine Keeps.store ?_ _ _ _ _ _; assumption) | (with_reducible apply keep_k0_part555 <;> assumption) | (with_reducible intro _) | split | dsimp only

set_option maxHeartbeats 4000000 in
theorem keep_k0_t2_body : ∀ x0 x1 x2 x3 x4 x5 x6 x7, Keeps (defs₀ (F := F)) Variants.none c none E R (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7) := by
  intros; unfold k0_t2_body
  repeat' first | with_reducible exact Keeps.pure _ | (with_reducible refine Keeps.bind ?_ ?_) | (with_reducible refine Keeps.store ?_ _ _ _ _ _; assumption) | (with_reducible apply keep_k0_part741 <;> assumption) | (with_reducible intro _) | split | dsimp only

set_option maxHeartbeats 4000000 in
theorem keep_k0_part931 : ∀ x0 x1 x2 x3, Keeps (defs₀ (F := F)) Variants.none c none E R (k0_part931 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3) := by
  intros; rw [k0_part931_eq_skeleton]; unfold k0_part931_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible refine Keeps.ite ?_ ?_) | (with_reducible refine Keeps.dite ?_ ?_) | (with_reducible refine Keeps.for ?_) | (with_reducible apply keep_k0_part91 <;> assumption) | (with_reducible apply keep_k0_part92 <;> assumption) | (with_reducible apply keep_k0_part365 <;> assumption) | (with_reducible apply keep_k0_part366 <;> assumption) | (with_reducible apply keep_k0_part367 <;> assumption) | (with_reducible apply keep_k0_part368 <;> assumption) | (with_reducible apply keep_k0_part369 <;> assumption) | (with_reducible apply keep_k0_t1_body <;> assumption) | (with_reducible apply keep_k0_t2_body <;> assumption) | (with_reducible intro _) | split | dsimp only

set_option maxHeartbeats 4000000 in
theorem keep_k0_part932 : ∀ x0 x1 x2 x3 x4, Keeps (defs₀ (F := F)) Variants.none c none E R (k0_part932 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4) := by
  intros; rw [k0_part932_eq_skeleton]; unfold k0_part932_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible refine Keeps.ite ?_ ?_) | (with_reducible refine Keeps.dite ?_ ?_) | (with_reducible refine Keeps.for ?_) | (with_reducible apply keep_k0_part757 <;> assumption) | (with_reducible apply keep_k0_part758 <;> assumption) | (with_reducible apply keep_k0_part784 <;> assumption) | (with_reducible apply keep_k0_part785 <;> assumption) | (with_reducible apply keep_k0_part786 <;> assumption) | (with_reducible apply keep_k0_t5_body <;> assumption) | (with_reducible apply keep_k0_t6_body <;> assumption) | (with_reducible intro _) | split | dsimp only

set_option maxHeartbeats 4000000 in
theorem keep_k0_part935 : ∀ x0 x1 x2 x3, Keeps (defs₀ (F := F)) Variants.none c none E R (k0_part935 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3) := by
  intros; rw [k0_part935_eq_skeleton]; unfold k0_part935_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible refine Keeps.ite ?_ ?_) | (with_reducible refine Keeps.dite ?_ ?_) | (with_reducible apply keep_k0_part826 <;> assumption) | (with_reducible apply keep_k0_part827 <;> assumption) | (with_reducible apply keep_k0_part828 <;> assumption) | (with_reducible intro _) | split | dsimp only

set_option maxHeartbeats 4000000 in
theorem keep_k0_part936 : ∀ x0 x1 x2 x3 x4 x5 x6 x7, Keeps (defs₀ (F := F)) Variants.none c none E R (k0_part936 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7) := by
  intros; rw [k0_part936_eq_skeleton]; unfold k0_part936_skel
  with_reducible refine Keeps.bind ?_ ?_
  · with_reducible refine Keeps.load ?_ _ _; first | assumption | exact Writes.reads ‹_›
  intro v825
  dsimp only
  with_reducible refine Keeps.ite ?_ ?_
  · intro _
    with_reducible refine Keeps.bind ?_ ?_
    · with_reducible apply keep_k0_part839 <;> assumption
    intro x
    (with_reducible refine Keeps.bind ?_ ?_)
    · with_reducible refine Keeps.for ?_
      intro _ _
      with_reducible apply keep_k0_t16_body <;> assumption
    intro _
    (with_reducible refine Keeps.bind ?_ ?_)
    · with_reducible refine Keeps.for ?_
      intro _ _
      with_reducible apply keep_k0_t17_body <;> assumption
    intro _
    (with_reducible refine Keeps.bind ?_ ?_)
    · with_reducible refine Keeps.for ?_
      intro _ _
      with_reducible apply keep_k0_t18_body <;> assumption
    intro _
    (with_reducible refine Keeps.bind ?_ ?_)
    · with_reducible refine Keeps.for ?_
      intro _ _
      with_reducible apply keep_k0_t19_body <;> assumption
    intro _
    (with_reducible refine Keeps.bind ?_ ?_)
    · with_reducible refine Keeps.for ?_
      intro _ _
      with_reducible apply keep_k0_t20_body <;> assumption
    intro _
    (with_reducible refine Keeps.bind ?_ ?_)
    · with_reducible refine Keeps.for ?_
      intro _ _
      with_reducible apply keep_k0_t21_body <;> assumption
    intro _
    repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _)
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _)

set_option maxHeartbeats 4000000 in
theorem keep_k0_part937 : ∀ x0 x1 x2 x3 x4 x5 x6 x7, Keeps (defs₀ (F := F)) Variants.none c none E R (k0_part937 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7) := by
  intros; rw [k0_part937_eq_skeleton]; unfold k0_part937_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible refine Keeps.ite ?_ ?_) | (with_reducible refine Keeps.dite ?_ ?_) | (with_reducible refine Keeps.for ?_) | (with_reducible apply keep_k0_part840 <;> assumption) | (with_reducible apply keep_k0_part841 <;> assumption) | (with_reducible apply keep_k0_part842 <;> assumption) | (with_reducible apply keep_k0_part843 <;> assumption) | (with_reducible apply keep_k0_part844 <;> assumption) | (with_reducible apply keep_k0_part845 <;> assumption) | (with_reducible apply keep_k0_part846 <;> assumption) | (with_reducible apply keep_k0_part847 <;> assumption) | (with_reducible apply keep_k0_part848 <;> assumption) | (with_reducible apply keep_k0_part849 <;> assumption) | (with_reducible apply keep_k0_part850 <;> assumption) | (with_reducible apply keep_k0_part851 <;> assumption) | (with_reducible apply keep_k0_part852 <;> assumption) | (with_reducible apply keep_k0_part853 <;> assumption) | (with_reducible apply keep_k0_part854 <;> assumption) | (with_reducible apply keep_k0_part855 <;> assumption) | (with_reducible apply keep_k0_part856 <;> assumption) | (with_reducible apply keep_k0_part857 <;> assumption) | (with_reducible apply keep_k0_part858 <;> assumption) | (with_reducible apply keep_k0_part859 <;> assumption) | (with_reducible apply keep_k0_part860 <;> assumption) | (with_reducible apply keep_k0_part861 <;> assumption) | (with_reducible apply keep_k0_part862 <;> assumption) | (with_reducible apply keep_k0_part863 <;> assumption) | (with_reducible apply keep_k0_part864 <;> assumption) | (with_reducible apply keep_k0_part865 <;> assumption) | (with_reducible apply keep_k0_part866 <;> assumption) | (with_reducible apply keep_k0_part867 <;> assumption) | (with_reducible apply keep_k0_part868 <;> assumption) | (with_reducible apply keep_k0_part869 <;> assumption) | (with_reducible apply keep_k0_part870 <;> assumption) | (with_reducible apply keep_k0_part871 <;> assumption) | (with_reducible apply keep_k0_part872 <;> assumption) | (with_reducible apply keep_k0_t22_body <;> assumption) | (with_reducible apply keep_k0_t23_body <;> assumption) | (with_reducible intro _) | split | dsimp only

set_option maxHeartbeats 4000000 in
theorem keep_cc0_dsa : Keeps (defs₀ (F := F)) Variants.none c none E R (cc0_dsa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 ) := by
  intros; rw [cc0_dsa_eq_skeleton]; unfold cc0_dsa_skel
  repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible apply keep_k0_part930 <;> assumption) | (with_reducible apply keep_k0_part931 <;> assumption) | (with_reducible apply keep_k0_part932 <;> assumption) | (with_reducible apply keep_k0_part935 <;> assumption) | (with_reducible apply keep_k0_part936 <;> assumption) | (with_reducible apply keep_k0_part937 <;> assumption) | (with_reducible intro _) | split | dsimp only
  rw [k0_part909_eq_skeleton, k0_part909_skel]; rotate_left
  rw [k0_part910_eq_skeleton, k0_part910_skel]; rotate_left
  rw [k0_part911_eq_skeleton, k0_part911_skel]; rotate_left
  rw [k0_part912_eq_skeleton, k0_part912_skel]; rotate_left
  rw [k0_part913_eq_skeleton, k0_part913_skel]; rotate_left
  rw [k0_part914_eq_skeleton, k0_part914_skel]; rotate_left
  rw [k0_part915_eq_skeleton, k0_part915_skel]; rotate_left
  rw [k0_part916_eq_skeleton, k0_part916_skel]; rotate_left
  rw [k0_part917_eq_skeleton, k0_part917_skel]; rotate_left
  rw [k0_part918_eq_skeleton, k0_part918_skel]; rotate_left
  rw [k0_part919_eq_skeleton, k0_part919_skel]; rotate_left
  rw [k0_part920_eq_skeleton, k0_part920_skel]; rotate_left
  rw [k0_part921_eq_skeleton, k0_part921_skel]; rotate_left
  rw [k0_part922_eq_skeleton, k0_part922_skel]; rotate_left
  rw [k0_part923_eq_skeleton, k0_part923_skel]; rotate_left
  rw [k0_part924_eq_skeleton, k0_part924_skel]; rotate_left
  rw [k0_part925_eq_skeleton, k0_part925_skel]; rotate_left
  rw [k0_part926_eq_skeleton, k0_part926_skel]; rotate_left
  rw [k0_part927_eq_skeleton, k0_part927_skel]; rotate_left
  rw [k0_part928_eq_skeleton, k0_part928_skel]; rotate_left
  rw [k0_part929_eq_skeleton, k0_part929_skel]; rotate_left
  rw [k0_part933_eq_skeleton, k0_part933_skel]; rotate_left
  rw [k0_part934_eq_skeleton, k0_part934_skel]; rotate_left
  rw [k0_part938_eq_skeleton, k0_part938_skel]; rotate_left
  rw [k0_part939_eq_skeleton, k0_part939_skel]; rotate_left
  rw [k0_part940_eq_skeleton, k0_part940_skel]; rotate_left
  rw [k0_part941_eq_skeleton, k0_part941_skel]; rotate_left
  rw [k0_part942_eq_skeleton, k0_part942_skel]; rotate_left
  rw [k0_part943_eq_skeleton, k0_part943_skel]; rotate_left
  rw [k0_part944_eq_skeleton, k0_part944_skel]; rotate_left
  all_goals repeat' first | with_reducible exact Keeps.pure _ | (with_reducible refine Keeps.bind ?_ ?_) | (with_reducible refine Keeps.load ?_ _ _; first | assumption | exact Writes.reads ‹_›) | (with_reducible refine Keeps.store ?_ _ _ _ _ _; assumption) | (with_reducible intro _) | dsimp only

end Cert.Kernel6.Hand

end
-- ==== Proof.DsaFrame.lean ====
/- The frame of the sparse mixer's call: from any memory with zero counters the call runs, leaves its arguments as
   they were and all counters at zero. Its body leaves in place what it is lent (`keep_cc0_dsa`), so nothing is said of
   what it writes: the output window's contents are forgotten. -/
module

public import proofs.«01_k».proof.Proof.DsaKeep6

@[expose] public section

set_option maxRecDepth 16384

noncomputable section

namespace Cert.Kernel6.Hand

open Idealize.ShloMosaic Idealize.ShloMosaic.TcCoe Idealize.SL Idealize.SL.RA Idealize.SL.BI Cert.Kernel6.Gen Cert.Keep
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The output window is forgotten, the seven inputs are not. -/
def forgets : Fin 8 → Bool := fun | 7 => true | _ => false

/-- The proof data: an input's buffer keeps its block, the output's is not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Pipeline.Dat.unnamed (cfg := cfg0) 7 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body holds at point `t`, before and after: the input tiles at their blocks, the output tile and the
    scratch buffers at any contents, and the rest untouched. -/
def held (c : Dev nD) (t : Fin cfg0.N) : sProp 𝕄 :=
  iprop((((∃ X, owns (c : Thread nD τ) (Memref.whole cc0_scratch0) fullShare X) ∗ (∃ X, owns (c : Thread nD τ) (Memref.whole cc0_scratch1) fullShare X) ∗ (∃ X, owns (c : Thread nD τ) (Memref.whole cc0_scratch2) fullShare X) ∗ (∃ X, owns (c : Thread nD τ) (Memref.whole cc0_scratch3) fullShare X) ∗ (∃ X, owns (c : Thread nD τ) (Memref.whole cc0_scratch4) fullShare X) ∗ (∃ X, owns (c : Thread nD τ) (Memref.whole cc0_scratch5) fullShare X) ∗ (∃ X, owns (c : Thread nD τ) (Memref.whole cc0_scratch6) fullShare X) ∗ (∃ X, owns (c : Thread nD τ) (Memref.whole cc0_scratch7) fullShare X) ∗ (∃ X, owns (c : Thread nD τ) (Memref.whole cc0_scratch8) fullShare X)) ∗ ∃ r, prngReg c r)
    ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ (∃ X, owns (c : Thread nD τ) (st0_7 t) fullShare X))

theorem held_keeps (c : Dev nD) (t : Fin cfg0.N) :
    held m c t ⊢ wp frame (wpE (defs₀ (F := F)) Variants.none c none) Set.univ (bodyAt0 t) (fun _ => held m c t) := by
  refine keep_cc0_dsa (c := c) (E := Set.univ) (R := held m c t) (grid0.coords t) _ _ _ _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_ ?_
  · exact .right (.right (.left (.of_owns _ _) _) _) _
  · exact .right (.right (.right (.left (.of_owns _ _) _) _) _) _
  · exact .right (.right (.right (.right (.left (.of_owns _ _) _) _) _) _) _
  · exact .right (.right (.right (.right (.right (.left (.of_owns _ _) _) _) _) _) _) _
  · exact .right (.right (.right (.right (.right (.right (.left (.of_owns _ _) _) _) _) _) _) _) _
  · exact .right (.right (.right (.right (.right (.right (.right (.left (.of_owns _ _) _) _) _) _) _) _) _) _
  · exact .right (.right (.right (.right (.right (.right (.right (.right (.left (.of_owns _ _) _) _) _) _) _) _) _) _) _
  · exact .right (.right (.right (.right (.right (.right (.right (.right (.right (.of_owns _) _) _) _) _) _) _) _) _) _
  · exact .left (.left (.left (.of_owns _) _) _) _
  · exact .left (.left (.right (.left (.of_owns _) _) _) _) _
  · exact .left (.left (.right (.right (.left (.of_owns _) _) _) _) _) _
  · exact .left (.left (.right (.right (.right (.left (.of_owns _) _) _) _) _) _) _
  · exact .left (.left (.right (.right (.right (.right (.left (.of_owns _) _) _) _) _) _) _) _
  · exact .left (.left (.right (.right (.right (.right (.right (.left (.of_owns _) _) _) _) _) _) _) _) _
  · exact .left (.left (.right (.right (.right (.right (.right (.right (.left (.of_owns _) _) _) _) _) _) _) _) _) _
  · exact .left (.left (.right (.right (.right (.right (.right (.right (.right (.left (.of_owns _) _) _) _) _) _) _) _) _) _) _
  · exact .left (.left (.right (.right (.right (.right (.right (.right (.right (.right (.of_owns _) _) _) _) _) _) _) _) _) _) _

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, owns (c : Thread nD τ) (st0_7 t) fullShare X))

theorem Phi_eq (c : Dev nD) : (Pipeline.ΦA spec0 c : sProp 𝕄)
    = iprop(((∃ X, owns (c : Thread nD τ) (Memref.whole cc0_scratch0) fullShare X) ∗ (∃ X, owns (c : Thread nD τ) (Memref.whole cc0_scratch1) fullShare X) ∗ (∃ X, owns (c : Thread nD τ) (Memref.whole cc0_scratch2) fullShare X) ∗ (∃ X, owns (c : Thread nD τ) (Memref.whole cc0_scratch3) fullShare X) ∗ (∃ X, owns (c : Thread nD τ) (Memref.whole cc0_scratch4) fullShare X) ∗ (∃ X, owns (c : Thread nD τ) (Memref.whole cc0_scratch5) fullShare X) ∗ (∃ X, owns (c : Thread nD τ) (Memref.whole cc0_scratch6) fullShare X) ∗ (∃ X, owns (c : Thread nD τ) (Memref.whole cc0_scratch7) fullShare X) ∗ (∃ X, owns (c : Thread nD τ) (Memref.whole cc0_scratch8) fullShare X)) ∗ ∃ r, prngReg c r) := by
  unfold Pipeline.ΦA
  rw [scopedRest0_eq]
  simp only [owns_whole]

theorem sound_body (c : Dev nD) (t : Fin cfg0.N) :
    bodyPre m c t ⊢ wp frame (wpE (defs₀ (F := F)) Variants.none c none) Set.univ (bodyAt0 t) (fun _ => bodyPost m c t) := by
  have hpre : bodyPre m c t ⊢ held m c t := by
    unfold bodyPre held
    simp only [before0_0, before0_1, before0_2, before0_3, before0_4, before0_5, before0_6]
    rw [show (dats m 0 c).Φ t.castSucc = Pipeline.ΦA spec0 c from rfl, Phi_eq]
    iintro ⟨HΦ, Ho, ⟨%d0, H0⟩, ⟨%d1, H1⟩, ⟨%d2, H2⟩, ⟨%d3, H3⟩, ⟨%d4, H4⟩, ⟨%d5, H5⟩, ⟨%d6, H6⟩, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  have hpost : held m c t ⊢ bodyPost m c t := by
    unfold bodyPost held
    rw [show (dats m 0 c).Φ t.succ = Pipeline.ΦA spec0 c from rfl, Phi_eq,
      show (dats m 0 c).owesAt () t.succ = (dats m 0 c).owesAt () t.castSucc from rfl,
      after0_0, after0_1, after0_2, after0_3, after0_4, after0_5, after0_6]
  exact hpre.trans ((held_keeps m c t).trans (wp_mono _ _ _ fun _ => hpost))

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

/-- The host line after the call writes the result only. -/
theorem tail_writes : ∀ ops ∈ ([hostOps1] : List (List (HloOp τ sig (Elt F)))), ∀ op ∈ ops, ∀ b : Ref sig .tc,
    Proc.devRef .tc b ∈ op.writes → b ∈ ({main_v8} : Finset (Ref sig .tc)) := by
  intro ops hops op hop b hb
  simp only [List.mem_cons, List.mem_nil_iff, or_false] at hops
  subst hops
  simp only [hostOps1, List.mem_cons, List.mem_nil_iff, or_false] at hop
  subst hop
  by_contra hne
  rw [Finset.mem_singleton] at hne
  simp only [StableHlo.reshape_writes, Finset.mem_singleton] at hb
  exact StableHlo.devRef_ne_of_ne hne hb

set_option backward.isDefEq.respectTransparency.types false in
set_option maxHeartbeats 1600000 in
/-- The frame: the run ends, each argument holds what it held, every counter is zero. -/
theorem frame_dsa :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_frame_around_T_forget cfgs (dats m) (0 : Fin 1) launch0 defs₀ Variants.none forgets {main_v8} m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl) (Q' := _)
    (hQ' := fun _ h => ⟨fun c => ⟨
      ((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c)⟩, h.2⟩)

end Cert.Kernel6.Hand

end
-- ==== Proof.OutMid.lean ====
module

public import proofs.«01_k».proof.Proof.OutRow

@[expose] public section

set_option maxRecDepth 16384
noncomputable section
open Idealize.ShloMosaic

namespace Cert.OutRow

/-- The result of a layer that another one follows: every stored row, the 8 sequences' rows one after another. -/
def mid (X Y : FVec Ideal ⟨3, ![8, 2176, 512]⟩ .bf16) (H : FVec Ideal ⟨3, ![8, 2176, 1024]⟩ .f32) (W : FVec Ideal ⟨2, ![1024, 1024]⟩ .f32)
    (g s : FVec Ideal ⟨1, ![1024]⟩ .f32) : FVec Ideal ⟨3, ![1, 17408, 1024]⟩ .f32 := fun i =>
  norm (pre X Y H W ⟨(i 1).val / 2176, by have : (i 1).val < 17408 := (i 1).isLt; omega⟩ ⟨(i 1).val % 2176, Nat.mod_lt _ (by norm_num)⟩)
    (fun l => g (ix1 l)) (fun l => s (ix1 l)) ⟨(i 2).val, (i 2).isLt⟩

/-- A row of the first layer's input: 112 filler rows of zeros, the 16 learned rows, then the sequence's 2048 rows. -/
def stored (X : FVec Ideal ⟨3, ![8, 2048, 1024]⟩ .f32) (M : FVec Ideal ⟨2, ![16, 1024]⟩ .f32) (b : Fin 8) (r : Fin 2176) (l : Fin 1024) : EReal :=
  if h : r.val < 112 then 0 else if h' : r.val - 112 < 16 then M (ix2 ⟨r.val - 112, h'⟩ l) else X (ix3 b ⟨r.val - 112 - 16, by omega⟩ l)

/-- The first layer's input: those rows normalised, in blocks of 128. -/
def embed (X : FVec Ideal ⟨3, ![8, 2048, 1024]⟩ .f32) (M : FVec Ideal ⟨2, ![16, 1024]⟩ .f32) (g s : FVec Ideal ⟨1, ![1024]⟩ .f32) :
    FVec Ideal ⟨3, ![136, 128, 1024]⟩ .f32 := fun i =>
  norm (stored X M ⟨(i 0).val / 17, by have : (i 0).val < 136 := (i 0).isLt; omega⟩
      ⟨(i 0).val % 17 * 128 + (i 1).val, by have : (i 1).val < 128 := (i 1).isLt; have := Nat.mod_lt (i 0).val (show 17 > 0 by norm_num); omega⟩)
    (fun l => g (ix1 l)) (fun l => s (ix1 l)) ⟨(i 2).val, (i 2).isLt⟩

end Cert.OutRow
-- ==== Proof.Out3Ref.lean ====
module

public import proofs.«01_k».proof.Proof.Gen.Reference3Ideal.Run
public import proofs.«01_k».proof.Proof.OutMid
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
namespace Cert.Reference3Ideal.RefValue
open Cert.Reference3Ideal Cert.Reference3Ideal.Gen Cert.Reference3Ideal.Value
variable (m : (ℓ : Loc nD τ sig) → Buf (Elt Ideal) ℓ)

/-- The reference's result is the specification's, over the reference's own arguments. -/
theorem res_eq (c : Dev nD) : res_main_v30 m c
    = OutRow.mid (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  funext i
  idx_vars i
  pointwise [res_main_v30, OutRow.mid, OutRow.norm, OutRow.pre, OutRow.mean, OutRow.alpha, OutRow.width, OutRow.eps]
end Cert.Reference3Ideal.RefValue
-- ==== Proof.Out3Ker.lean ====
module

public import proofs.«01_k».proof.Proof.Gen.Kernel3Ideal.Frame
public import proofs.«01_k».proof.Proof.OutMid
public import Idealize.ShloMosaic.Lib.Pipeline.ValueKit
public import Idealize.ShloMosaic.Lib.Pointwise

@[expose] public section

set_option maxRecDepth 16384
set_option maxHeartbeats 1000000
noncomputable section
open Idealize.ShloMosaic Idealize.ShloMosaic.TcCoe Idealize.SL.Sem
namespace Cert.Kernel3Ideal.KerValue
open Cert.Kernel3Ideal Cert.Kernel3Ideal.Gen
variable (m : (ℓ : Loc nD τ sig) → Buf (Elt Ideal) ℓ)

theorem idx : ∀ t : Fin cfg0.N, win0_0.index t = ![0, t.val, 0]
   ∧ win0_1.index t = ![0, t.val, 0]
   ∧ win0_2.index t = ![0, t.val, 0]
   ∧ win0_3.index t = ![0, 0]
   ∧ win0_4.index t = ![0, 0]
   ∧ win0_5.index t = ![0, 0]
   ∧ win0_6.index t = ![0, t.val, 0] := (by decide +kernel : ∀ t : Fin grid0.N, _)

/-- The number of grid points. -/
theorem ntL (t : Fin cfg0.N) : t.val < 17 := lt_of_lt_of_eq t.isLt (by decide +kernel)

/-- An entry of the linear mixer's block. -/
theorem blk0 (c : Dev nD) (t : Fin cfg0.N) (a : Fin 1) (p : Fin 1024) (d : Fin 512) : iblk m c 0 t (ix3 a p d)
    = m ((c.tc : Thread nD τ).loc main_arg0) (ix3 ⟨(t.val * 1024 + p.val) / 2176, by have := ntL t; omega⟩ ⟨(t.val * 1024 + p.val) % 2176, Nat.mod_lt _ (by norm_num)⟩ d) := by
  have e : iblk m c 0 t (ix3 a p d) = V m c main_v3 (ix3 a ⟨t.val * 1024 + p.val, by have := ntL t; omega⟩ d) := by
    blk_ext! [iblk, idx t]
  rw [e]
  entry_read
  pointwise []

/-- An entry of the sparse mixer's block. -/
theorem blk1 (c : Dev nD) (t : Fin cfg0.N) (a : Fin 1) (p : Fin 1024) (d : Fin 512) : iblk m c 1 t (ix3 a p d)
    = m ((c.tc : Thread nD τ).loc main_arg1) (ix3 ⟨(t.val * 1024 + p.val) / 2176, by have := ntL t; omega⟩ ⟨(t.val * 1024 + p.val) % 2176, Nat.mod_lt _ (by norm_num)⟩ d) := by
  have e : iblk m c 1 t (ix3 a p d) = V m c main_v4 (ix3 a ⟨t.val * 1024 + p.val, by have := ntL t; omega⟩ d) := by
    blk_ext! [iblk, idx t]
  rw [e]
  entry_read
  pointwise []

/-- An entry of the residual stream's block. -/
theorem blk2 (c : Dev nD) (t : Fin cfg0.N) (a : Fin 1) (p : Fin 1024) (d : Fin 1024) : iblk m c 2 t (ix3 a p d)
    = m ((c.tc : Thread nD τ).loc main_arg2) (ix3 ⟨(t.val * 1024 + p.val) / 2176, by have := ntL t; omega⟩ ⟨(t.val * 1024 + p.val) % 2176, Nat.mod_lt _ (by norm_num)⟩ d) := by
  have e : iblk m c 2 t (ix3 a p d) = V m c main_v5 (ix3 a ⟨t.val * 1024 + p.val, by have := ntL t; omega⟩ d) := by
    blk_ext! [iblk, idx t]
  rw [e]
  entry_read
  pointwise []

/-- The weights are one block. -/
theorem blk3 (c : Dev nD) (t : Fin cfg0.N) (a b : Fin 1024) : iblk m c 3 t (ix2 a b) = m ((c.tc : Thread nD τ).loc main_arg3) (ix2 a b) := by
  have e : iblk m c 3 t (ix2 a b) = V m c main_v0 (ix2 a b) := by
    blk_ext! [iblk, idx t]
  rw [e]
  entry_read
  pointwise []

/-- The normalisation's factors are one block. -/
theorem blk4 (c : Dev nD) (t : Fin cfg0.N) (a : Fin 1) (l : Fin 1024) : iblk m c 4 t (ix2 a l) = m ((c.tc : Thread nD τ).loc main_arg4) (ix1 l) := by
  have e : iblk m c 4 t (ix2 a l) = V m c main_v1 (ix2 a l) := by
    blk_ext! [iblk, idx t]
  rw [e]
  entry_read
  pointwise []

/-- The normalisation's offsets are one block. -/
theorem blk5 (c : Dev nD) (t : Fin cfg0.N) (a : Fin 1) (l : Fin 1024) : iblk m c 5 t (ix2 a l) = m ((c.tc : Thread nD τ).loc main_arg5) (ix1 l) := by
  have e : iblk m c 5 t (ix2 a l) = V m c main_v2 (ix2 a l) := by
    blk_ext! [iblk, idx t]
  rw [e]
  entry_read
  pointwise []

/-- The kernel's result array is the specification's, over the kernel's own arguments. -/
theorem final (c : Dev nD) : (dats m 0 c).arrAt 6 (cfgs 0).N
    = OutRow.mid (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  refine (dats m 0 c).arrAt_eq_of_covers 6 _ (by decide +kernel) fun t hf y => ?_
  have h := Pipeline.Window.rect_emb_val_off win0_6 t y
  rw [(idx t).2.2.2.2.2.2] at h
  have e1 : (((View.whole main_v6).slice (win0_6.rect t)).emb y 1 : ℕ) = t.val * 1024 + (y 1).val := h 1
  have e2 : ((View.whole main_v6).slice (win0_6.rect t)).emb y 2 = y 2 := Fin.ext ((h 2).trans (Nat.zero_add _))
  clear h
  blk_simp
  rw [after0_6]
  unfold_out out0_6
  canon_tiles x h
  all_goals
    pointwise [k0_pay1, k0_pay2, k0_pay3, k0_pay4, k0_pay5, k0_pay6, k0_pay7, k0_pay8, k0_pay9, k0_pay10, k0_pay11, k0_pay12, k0_pay13,
      k0_pay14, k0_pay15, k0_pay16, k0_pay17, OutRow.mid, OutRow.norm, OutRow.pre, OutRow.mean, OutRow.alpha, OutRow.width, OutRow.eps]
    have b4 : iblk m c 4 t (ix2 0 (x 2)) = m ((c.tc : Thread nD τ).loc main_arg4) (ix1 (x 2)) := blk4 m c t 0 (x 2)
    have b5 : iblk m c 5 t (ix2 0 (x 2)) = m ((c.tc : Thread nD τ).loc main_arg5) (ix1 (x 2)) := blk5 m c t 0 (x 2)
    have e3 : y 2 = x 2 := Fin.ext h2
    have b2 : ∀ p : Fin 1024, iblk m c 2 t (ix3 0 p (x 2)) = m ((c.tc : Thread nD τ).loc main_arg2)
        (ix3 ⟨(t.val * 1024 + p.val) / 2176, by have := ntL t; omega⟩ ⟨(t.val * 1024 + p.val) % 2176, Nat.mod_lt _ (by norm_num)⟩ (x 2)) := fun p => blk2 m c t 0 p (x 2)
    have b3 : ∀ k : Fin 1024, iblk m c 3 t (ix2 k (x 2)) = m ((c.tc : Thread nD τ).loc main_arg3) (ix2 k (x 2)) := fun k => blk3 m c t k (x 2)
    rw [b4, b5]
    simp only [b2, b3, blk0, blk1, blk2, blk3, e1, e2, h1, e3]
end Cert.Kernel3Ideal.KerValue
-- ==== Proof.Out4Ref.lean ====
module

public import proofs.«01_k».proof.Proof.Gen.Reference4Ideal.Run
public import proofs.«01_k».proof.Proof.OutMid
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
namespace Cert.Reference4Ideal.RefValue
open Cert.Reference4Ideal Cert.Reference4Ideal.Gen Cert.Reference4Ideal.Value
variable (m : (ℓ : Loc nD τ sig) → Buf (Elt Ideal) ℓ)

/-- The reference's result is the specification's, over the reference's own arguments. -/
theorem res_eq (c : Dev nD) : res_main_v28 m c
    = OutRow.embed (m ((c.tc : Thread nD τ).loc main_arg0)) (m ((c.tc : Thread nD τ).loc main_arg1)) (m ((c.tc : Thread nD τ).loc main_arg2))
        (m ((c.tc : Thread nD τ).loc main_arg3)) := by
  funext i
  idx_vars i
  pointwise [res_main_v28, OutRow.embed, OutRow.norm, OutRow.stored, OutRow.mean, OutRow.width, OutRow.eps]
end Cert.Reference4Ideal.RefValue
-- ==== Proof.Out4Ker.lean ====
module

public import proofs.«01_k».proof.Proof.Gen.Kernel4Ideal.Frame
public import proofs.«01_k».proof.Proof.OutMid
public import Idealize.ShloMosaic.Lib.Pipeline.ValueKit
public import Idealize.ShloMosaic.Lib.Pointwise

@[expose] public section

set_option maxRecDepth 16384
set_option maxHeartbeats 1000000
noncomputable section
open Idealize.ShloMosaic Idealize.ShloMosaic.TcCoe Idealize.SL.Sem
namespace Cert.Kernel4Ideal.KerValue
open Cert.Kernel4Ideal Cert.Kernel4Ideal.Gen
variable (m : (ℓ : Loc nD τ sig) → Buf (Elt Ideal) ℓ)

theorem idx : ∀ t : Fin cfg0.N, win0_0.index t = ![t.val, 0, 0, 0]
   ∧ win0_1.index t = ![0, 0]
   ∧ win0_2.index t = ![0, 0]
   ∧ win0_3.index t = ![0, 0]
   ∧ win0_4.index t = ![t.val, 0, 0] := (by decide +kernel : ∀ t : Fin grid0.N, _)

/-- One block of the body's output: the learned rows first, then the sequence's blocks, each row normalised. -/
theorem o4 (x0 : Vec Ideal S1x16x128x1024 .f32) (x1 : Vec Ideal S128x1024 .f32) (x2 : Vec Ideal S1x1024 .f32) (x3 : Vec Ideal S1x1024 .f32)
    (b : Fin 17) (p : Fin 128) (l : Fin 1024) (u : Fin 17 → Fin 128 → Fin 1024 → EReal) (g s : Fin 1024 → EReal)
    (H0 : ∀ p k, x1 (ix2 p k) = u 0 p k) (H1 : ∀ (a : Fin 16) p k, x0 (ix4 0 a p k) = u ⟨a.val + 1, by omega⟩ p k)
    (H2 : ∀ k, x2 (ix2 0 k) = g k) (H3 : ∀ k, x3 (ix2 0 k) = s k) :
    out0_4 x0 x1 x2 x3 (ix3 b p l) = OutRow.norm (u b p) g s l := by
  unfold_out out0_4
  canon_tiles x h
  all_goals
    obtain ⟨a, q, z, rfl⟩ : ∃ a q z, x = ix3 a q z := ⟨x 0, x 1, x 2, eq_ix3 x⟩
    obtain rfl : p = q := Fin.ext h1
    obtain rfl : l = z := Fin.ext h2
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, OutRow.norm, OutRow.mean, OutRow.width, OutRow.eps]
  · have e : ∀ k, x0 (ix4 0 15 p k) = u b p k := fun k => (H1 15 p k).trans (congrArg (fun z => u z p k) (Fin.ext (by
      have hb : b.val = 16 + a.val := h0
      have ha := a.isLt
      show 15 + 1 = b.val
      omega)))
    simp only [e, H2, H3]
  · have e : ∀ k, x0 (ix4 0 14 p k) = u b p k := fun k => (H1 14 p k).trans (congrArg (fun z => u z p k) (Fin.ext (by
      have hb : b.val = 15 + a.val := h0
      have ha := a.isLt
      show 14 + 1 = b.val
      omega)))
    simp only [e, H2, H3]
  · have e : ∀ k, x0 (ix4 0 13 p k) = u b p k := fun k => (H1 13 p k).trans (congrArg (fun z => u z p k) (Fin.ext (by
      have hb : b.val = 14 + a.val := h0
      have ha := a.isLt
      show 13 + 1 = b.val
      omega)))
    simp only [e, H2, H3]
  · have e : ∀ k, x0 (ix4 0 12 p k) = u b p k := fun k => (H1 12 p k).trans (congrArg (fun z => u z p k) (Fin.ext (by
      have hb : b.val = 13 + a.val := h0
      have ha := a.isLt
      show 12 + 1 = b.val
      omega)))
    simp only [e, H2, H3]
  · have e : ∀ k, x0 (ix4 0 11 p k) = u b p k := fun k => (H1 11 p k).trans (congrArg (fun z => u z p k) (Fin.ext (by
      have hb : b.val = 12 + a.val := h0
      have ha := a.isLt
      show 11 + 1 = b.val
      omega)))
    simp only [e, H2, H3]
  · have e : ∀ k, x0 (ix4 0 10 p k) = u b p k := fun k => (H1 10 p k).trans (congrArg (fun z => u z p k) (Fin.ext (by
      have hb : b.val = 11 + a.val := h0
      have ha := a.isLt
      show 10 + 1 = b.val
      omega)))
    simp only [e, H2, H3]
  · have e : ∀ k, x0 (ix4 0 9 p k) = u b p k := fun k => (H1 9 p k).trans (congrArg (fun z => u z p k) (Fin.ext (by
      have hb : b.val = 10 + a.val := h0
      have ha := a.isLt
      show 9 + 1 = b.val
      omega)))
    simp only [e, H2, H3]
  · have e : ∀ k, x0 (ix4 0 8 p k) = u b p k := fun k => (H1 8 p k).trans (congrArg (fun z => u z p k) (Fin.ext (by
      have hb : b.val = 9 + a.val := h0
      have ha := a.isLt
      show 8 + 1 = b.val
      omega)))
    simp only [e, H2, H3]
  · have e : ∀ k, x0 (ix4 0 7 p k) = u b p k := fun k => (H1 7 p k).trans (congrArg (fun z => u z p k) (Fin.ext (by
      have hb : b.val = 8 + a.val := h0
      have ha := a.isLt
      show 7 + 1 = b.val
      omega)))
    simp only [e, H2, H3]
  · have e : ∀ k, x0 (ix4 0 6 p k) = u b p k := fun k => (H1 6 p k).trans (congrArg (fun z => u z p k) (Fin.ext (by
      have hb : b.val = 7 + a.val := h0
      have ha := a.isLt
      show 6 + 1 = b.val
      omega)))
    simp only [e, H2, H3]
  · have e : ∀ k, x0 (ix4 0 5 p k) = u b p k := fun k => (H1 5 p k).trans (congrArg (fun z => u z p k) (Fin.ext (by
      have hb : b.val = 6 + a.val := h0
      have ha := a.isLt
      show 5 + 1 = b.val
      omega)))
    simp only [e, H2, H3]
  · have e : ∀ k, x0 (ix4 0 4 p k) = u b p k := fun k => (H1 4 p k).trans (congrArg (fun z => u z p k) (Fin.ext (by
      have hb : b.val = 5 + a.val := h0
      have ha := a.isLt
      show 4 + 1 = b.val
      omega)))
    simp only [e, H2, H3]
  · have e : ∀ k, x0 (ix4 0 3 p k) = u b p k := fun k => (H1 3 p k).trans (congrArg (fun z => u z p k) (Fin.ext (by
      have hb : b.val = 4 + a.val := h0
      have ha := a.isLt
      show 3 + 1 = b.val
      omega)))
    simp only [e, H2, H3]
  · have e : ∀ k, x0 (ix4 0 2 p k) = u b p k := fun k => (H1 2 p k).trans (congrArg (fun z => u z p k) (Fin.ext (by
      have hb : b.val = 3 + a.val := h0
      have ha := a.isLt
      show 2 + 1 = b.val
      omega)))
    simp only [e, H2, H3]
  · have e : ∀ k, x0 (ix4 0 1 p k) = u b p k := fun k => (H1 1 p k).trans (congrArg (fun z => u z p k) (Fin.ext (by
      have hb : b.val = 2 + a.val := h0
      have ha := a.isLt
      show 1 + 1 = b.val
      omega)))
    simp only [e, H2, H3]
  · have e : ∀ k, x0 (ix4 0 0 p k) = u b p k := fun k => (H1 0 p k).trans (congrArg (fun z => u z p k) (Fin.ext (by
      have hb : b.val = 1 + a.val := h0
      have ha := a.isLt
      show 0 + 1 = b.val
      omega)))
    simp only [e, H2, H3]
  · have e : ∀ k, x1 (ix2 p k) = u b p k := fun k => (H0 p k).trans (congrArg (fun z => u z p k) (Fin.ext (by
      have hb : b.val = a.val := h0
      have ha := a.isLt
      show 0 = b.val
      omega)))
    simp only [e, H2, H3]

/-- The number of grid points. -/
theorem ntL (t : Fin cfg0.N) : t.val < 8 := lt_of_lt_of_eq t.isLt (by decide +kernel)
/-- The sequence of a grid point, and the stored block it writes. -/
def seqT (t : Fin cfg0.N) : Fin 8 := ⟨t.val, ntL t⟩
def blkT (t : Fin cfg0.N) (b : Fin 17) : Fin 136 := ⟨t.val * 17 + b.val, by have := ntL t; omega⟩

/-- A row of the sequence. -/
theorem blk0 (c : Dev nD) (t : Fin cfg0.N) (k : Fin 16) (p : Fin 128) (d : Fin 1024) : iblk m c 0 t (ix4 0 k p d)
    = m ((c.tc : Thread nD τ).loc main_arg0) (ix3 (seqT t) ⟨k.val * 128 + p.val, by omega⟩ d) := by
  have e : iblk m c 0 t (ix4 0 k p d) = V m c main_v4 (ix4 (seqT t) k p d) := by
    unfold seqT
    blk_ext! [iblk, idx t]
  rw [e]
  entry_read
  pointwise []

/-- The filler and learned rows are one block. -/
theorem blk1 (c : Dev nD) (t : Fin cfg0.N) (p : Fin 128) (d : Fin 1024) : iblk m c 1 t (ix2 p d)
    = if h : p.val < 112 then (0 : EReal) else m ((c.tc : Thread nD τ).loc main_arg1) (ix2 ⟨p.val - 112, by omega⟩ d) := by
  have e : iblk m c 1 t (ix2 p d) = V m c main_v1 (ix2 p d) := by
    blk_ext! [iblk, idx t]
  rw [e]
  entry_read
  pointwise []

/-- The normalisation's factors are one block. -/
theorem blk2 (c : Dev nD) (t : Fin cfg0.N) (l : Fin 1024) : iblk m c 2 t (ix2 0 l) = m ((c.tc : Thread nD τ).loc main_arg2) (ix1 l) := by
  have e : iblk m c 2 t (ix2 0 l) = V m c main_v2 (ix2 0 l) := by
    blk_ext! [iblk, idx t]
  rw [e]
  entry_read
  pointwise []

/-- The normalisation's offsets are one block. -/
theorem blk3 (c : Dev nD) (t : Fin cfg0.N) (l : Fin 1024) : iblk m c 3 t (ix2 0 l) = m ((c.tc : Thread nD τ).loc main_arg3) (ix1 l) := by
  have e : iblk m c 3 t (ix2 0 l) = V m c main_v3 (ix2 0 l) := by
    blk_ext! [iblk, idx t]
  rw [e]
  entry_read
  pointwise []

theorem val4 (c : Dev nD) (t : Fin cfg0.N) (b : Fin 17) (p : Fin 128) (l : Fin 1024) : out0_4 (iblk m c 0 t) (iblk m c 1 t) (iblk m c 2 t) (iblk m c 3 t) (ix3 b p l)
    = OutRow.embed (m ((c.tc : Thread nD τ).loc main_arg0)) (m ((c.tc : Thread nD τ).loc main_arg1)) (m ((c.tc : Thread nD τ).loc main_arg2))
        (m ((c.tc : Thread nD τ).loc main_arg3)) (ix3 (blkT t b) p l) := by
  refine (o4 _ _ _ _ b p l (fun b p k => OutRow.stored (m ((c.tc : Thread nD τ).loc main_arg0)) (m ((c.tc : Thread nD τ).loc main_arg1)) (seqT t) ⟨b.val * 128 + p.val, by omega⟩ k)
    _ _ (fun p k => ?_) (fun a p k => ?_) (fun k => blk2 m c t k) (fun k => blk3 m c t k)).trans ?_
  · refine (blk1 m c t p k).trans ?_
    have e : (⟨(0 : Fin 17).val * 128 + p.val, by show 0 * 128 + p.val < 2176; omega⟩ : Fin 2176) = ⟨p.val, by omega⟩ := Fin.ext (by show 0 * 128 + p.val = p.val; omega)
    beta_reduce
    rw [e]
    unfold OutRow.stored
    by_cases h : p.val < 112
    · rw [dif_pos h, dif_pos h]
    · rw [dif_neg h, dif_neg h, dif_pos (by show p.val - 112 < 16; omega)]
  · refine (blk0 m c t a p k).trans ?_
    unfold OutRow.stored
    rw [dif_neg (by show ¬ ((a.val + 1) * 128 + p.val < 112); omega), dif_neg (by show ¬ ((a.val + 1) * 128 + p.val - 112 < 16); omega)]
    exact congrArg (fun z => m ((c.tc : Thread nD τ).loc main_arg0) (ix3 (seqT t) z k)) (Fin.ext (by show a.val * 128 + p.val = (a.val + 1) * 128 + p.val - 112 - 16; omega))
  · have hs : seqT t = ⟨(blkT t b).val / 17, by have := (blkT t b).isLt; omega⟩ := Fin.ext (by show t.val = (t.val * 17 + b.val) / 17; omega)
    have hr : (⟨b.val * 128 + p.val, by omega⟩ : Fin 2176) = ⟨(blkT t b).val % 17 * 128 + p.val, by omega⟩ := Fin.ext (by show b.val * 128 + p.val = (t.val * 17 + b.val) % 17 * 128 + p.val; omega)
    beta_reduce
    rw [hs, hr]
    rfl

/-- The kernel's result array is the specification's, over the kernel's own arguments. -/
theorem final (c : Dev nD) : (dats m 0 c).arrAt 4 (cfgs 0).N
    = OutRow.embed (m ((c.tc : Thread nD τ).loc main_arg0)) (m ((c.tc : Thread nD τ).loc main_arg1)) (m ((c.tc : Thread nD τ).loc main_arg2))
        (m ((c.tc : Thread nD τ).loc main_arg3)) := by
  refine (dats m 0 c).arrAt_eq_of_covers 4 _ (by decide +kernel) fun t hf y => ?_
  have h := Pipeline.Window.rect_emb_val_off win0_4 t y
  rw [(idx t).2.2.2.2] at h
  obtain ⟨b, p, l, rfl⟩ : ∃ (b : Fin 17) (p : Fin 128) (l : Fin 1024), y = ix3 b p l := ⟨y 0, y 1, y 2, eq_ix3 y⟩
  have e0 : ((View.whole main_v5).slice (win0_4.rect t)).emb (ix3 b p l) = ix3 (blkT t b) p l := by
    refine (eq_ix3 _).trans ?_
    have g0 : ((View.whole main_v5).slice (win0_4.rect t)).emb (ix3 b p l) 0 = blkT t b := Fin.ext (h 0)
    have g1 : ((View.whole main_v5).slice (win0_4.rect t)).emb (ix3 b p l) 1 = p := Fin.ext ((h 1).trans (Nat.zero_add _))
    have g2 : ((View.whole main_v5).slice (win0_4.rect t)).emb (ix3 b p l) 2 = l := Fin.ext ((h 2).trans (Nat.zero_add _))
    rw [g0, g1, g2]
  clear h
  blk_simp
  rw [after0_4, e0]
  exact val4 m c t b p l

end Cert.Kernel4Ideal.KerValue
-- ==== Proof.InRow.lean ====
module

public import Idealize.ShloMosaic.Lib.Pipeline.ValueKit
public import Idealize.ShloMosaic.Lib.Pointwise

@[expose] public section

set_option maxRecDepth 16384
noncomputable section
open Idealize.ShloMosaic

/-! What the input projection of a layer gives, in real arithmetic: one row of the residual stream through one wide matrix, and on its
    column groups a rotation by position, a layer normalisation, or the logarithm of a sigmoid. -/
namespace Cert.InProj

/-- The activations, the wide matrix, the forget gate's second factor and bias, and the index key's scale and shift. -/
abbrev Act := FVec Ideal ⟨3, ![8, 2176, 1024]⟩ .f32
abbrev Wide := FVec Ideal ⟨2, ![1024, 3416]⟩ .f32
abbrev Gate := FVec Ideal ⟨2, ![16, 256]⟩ .f32
abbrev Bias := FVec Ideal ⟨1, ![256]⟩ .f32
abbrev Chan := FVec Ideal ⟨1, ![64]⟩ .f32

/-- The sequence a stored row belongs to, and its place in it. -/
def seqOf (n : Fin 17408) : Fin 8 := ⟨n.val / 2176, by omega⟩
def rowOf (n : Fin 17408) : Fin 2176 := ⟨n.val % 2176, Nat.mod_lt _ (by norm_num)⟩
/-- The same for row `p` of the block `B` of 128 rows. -/
def seqAt (B : Fin 136) : Fin 8 := ⟨B.val / 17, by omega⟩
def rowAt (B : Fin 136) (p : Fin 128) : Fin 2176 := ⟨B.val % 17 * 128 + p.val, by omega⟩

/-- One column of one row of the product. -/
def proj (H : Act) (W : Wide) (b : Fin 8) (r : Fin 2176) (e : Fin 3416) : EReal :=
  ∑ d : Fin 1024, (show EReal from H (ix3 b r d)) * (show EReal from W (ix2 d e))

/-- One eighth, sixteen, sixty-four, the reciprocal of the square root of eight, and the small constant, as the programs write them. -/
def eighth : EReal := Ideal.ofBits FTy.f32 0x3E000000#32
def sixteen : EReal := Ideal.ofBits FTy.f32 0x41800000#32
def width : EReal := Ideal.ofBits FTy.f32 0x42800000#32
def rootEighth : EReal := Ideal.ofBits FTy.f32 0x3EB504F3#32
def eps : EReal := Ideal.ofBits FTy.f32 0x3727C5AC#32

/-- The angle of frequency `k` at stored row `r`: position `r - 112` times the frequency. -/
def ang (r : Fin 2176) (k : Fin 8) : EReal :=
  (FloatOps.sitofp (F := Ideal) FTy.f32 (BitVec.ofNat 32 r.val) - Ideal.ofBits FTy.f32 1121976320#32) *
    Ideal.pow (Ideal.ofBits FTy.f32 1223959552#32)
      (Ideal.div (-(Ideal.ofBits FTy.f32 1073741824#32 * FloatOps.sitofp (F := Ideal) FTy.f32 (BitVec.ofNat 32 k.val)))
        (Ideal.ofBits FTy.f32 1098907648#32))

/-- A head of 64 channels turned: the first 8 channels with the next 8, by the row's angles; the other 48 stay. -/
def rope (x : Fin 64 → EReal) (r : Fin 2176) (d : Fin 64) : EReal :=
  if h : d.val < 8 then x ⟨d.val, by omega⟩ * Ideal.cos (ang r ⟨d.val, h⟩) - x ⟨8 + d.val, by omega⟩ * Ideal.sin (ang r ⟨d.val, h⟩)
  else if h' : d.val - 8 < 8 then
    x ⟨8 + (d.val - 8), by omega⟩ * Ideal.cos (ang r ⟨d.val - 8, h'⟩) + x ⟨d.val - 8, by omega⟩ * Ideal.sin (ang r ⟨d.val - 8, h'⟩)
  else x ⟨16 + (d.val - 8 - 8), by omega⟩

/-- The mean of 64 channels, and 64 channels normalised, scaled and moved. -/
def mean (u : Fin 64 → EReal) : EReal := Ideal.div (∑ l, u l) width
def norm (u g s : Fin 64 → EReal) (l : Fin 64) : EReal :=
  (u l - mean u) * Ideal.rsqrt (Ideal.div (∑ k, (u k - mean u) * (u k - mean u)) width + eps) * g l + s l

/-- The logarithm of the sigmoid. -/
def logsig (x : EReal) : EReal := min x 0 - Ideal.log1p (Ideal.exp (-(max x (-x))))

/-- The forget gate before the sigmoid. -/
def gate (H : Act) (W : Wide) (G : Gate) (B : Bias) (b : Fin 8) (r : Fin 2176) (k : Fin 256) : EReal :=
  ∑ x : Fin 16, proj H W b r ⟨1024 + x.val, by omega⟩ * (show EReal from G (ix2 x k)) + (show EReal from B (ix1 k))

/-! The twelve results. -/
/-- The linear mixer's query, scaled. -/
def gq (H : Act) (W : Wide) : FVec Ideal ⟨2, ![17408, 256]⟩ .f32 := fun i =>
  proj H W (seqOf ⟨(i 0).val, (i 0).isLt⟩) (rowOf ⟨(i 0).val, (i 0).isLt⟩) ⟨(i 1).val, by have : (i 1).val < 256 := (i 1).isLt; omega⟩ * eighth
/-- Its key. -/
def gk (H : Act) (W : Wide) : FVec Ideal ⟨2, ![17408, 256]⟩ .f32 := fun i =>
  proj H W (seqOf ⟨(i 0).val, (i 0).isLt⟩) (rowOf ⟨(i 0).val, (i 0).isLt⟩) ⟨256 + (i 1).val, by have : (i 1).val < 256 := (i 1).isLt; omega⟩
/-- Its value. -/
def gv (H : Act) (W : Wide) : FVec Ideal ⟨2, ![17408, 512]⟩ .bf16 := fun i =>
  proj H W (seqOf ⟨(i 0).val, (i 0).isLt⟩) (rowOf ⟨(i 0).val, (i 0).isLt⟩) ⟨512 + (i 1).val, by have : (i 1).val < 512 := (i 1).isLt; omega⟩
/-- Its forget gate's logarithm. -/
def gl (H : Act) (W : Wide) (G : Gate) (B : Bias) : FVec Ideal ⟨2, ![17408, 256]⟩ .f32 := fun i =>
  Ideal.div (logsig (gate H W G B (seqOf ⟨(i 0).val, (i 0).isLt⟩) (rowOf ⟨(i 0).val, (i 0).isLt⟩) ⟨(i 1).val, (i 1).isLt⟩)) sixteen
/-- Its output gate before the sigmoid. -/
def gz (H : Act) (W : Wide) : FVec Ideal ⟨2, ![17408, 512]⟩ .f32 := fun i =>
  proj H W (seqOf ⟨(i 0).val, (i 0).isLt⟩) (rowOf ⟨(i 0).val, (i 0).isLt⟩) ⟨1040 + (i 1).val, by have : (i 1).val < 512 := (i 1).isLt; omega⟩
/-- The sparse mixer's query: rotated, scaled, the heads ordered by their place in the group first. -/
def aq (H : Act) (W : Wide) : FVec Ideal ⟨2, ![17408, 512]⟩ .bf16 := fun i =>
  rope (fun d => proj H W (seqOf ⟨(i 0).val, (i 0).isLt⟩) (rowOf ⟨(i 0).val, (i 0).isLt⟩)
      ⟨1552 + (((i 1).val / 64 % 2 * 4 + (i 1).val / 128) * 64 + d.val), by have : (i 1).val < 512 := (i 1).isLt; omega⟩)
    (rowOf ⟨(i 0).val, (i 0).isLt⟩) ⟨(i 1).val % 64, Nat.mod_lt _ (by norm_num)⟩ * eighth
/-- Its key, rotated. -/
def ak (H : Act) (W : Wide) : FVec Ideal ⟨2, ![17408, 128]⟩ .bf16 := fun i =>
  rope (fun d => proj H W (seqOf ⟨(i 0).val, (i 0).isLt⟩) (rowOf ⟨(i 0).val, (i 0).isLt⟩)
      ⟨2064 + ((i 1).val / 64 * 64 + d.val), by have : (i 1).val < 128 := (i 1).isLt; omega⟩)
    (rowOf ⟨(i 0).val, (i 0).isLt⟩) ⟨(i 1).val % 64, Nat.mod_lt _ (by norm_num)⟩
/-- Its value, each block of 128 rows transposed. -/
def av (H : Act) (W : Wide) : FVec Ideal ⟨3, ![136, 128, 128]⟩ .bf16 := fun i =>
  proj H W (seqAt ⟨(i 0).val, (i 0).isLt⟩) (rowAt ⟨(i 0).val, (i 0).isLt⟩ ⟨(i 2).val, (i 2).isLt⟩)
    ⟨2192 + (i 1).val, by have : (i 1).val < 128 := (i 1).isLt; omega⟩
/-- The index query, rotated and scaled. -/
def iq (H : Act) (W : Wide) : FVec Ideal ⟨2, ![17408, 512]⟩ .bf16 := fun i =>
  rope (fun d => proj H W (seqOf ⟨(i 0).val, (i 0).isLt⟩) (rowOf ⟨(i 0).val, (i 0).isLt⟩)
      ⟨2320 + ((i 1).val / 64 * 64 + d.val), by have : (i 1).val < 512 := (i 1).isLt; omega⟩)
    (rowOf ⟨(i 0).val, (i 0).isLt⟩) ⟨(i 1).val % 64, Nat.mod_lt _ (by norm_num)⟩ * eighth
/-- The index key, normalised and rotated, stored twice side by side. -/
def ik (H : Act) (W : Wide) (g s : Chan) : FVec Ideal ⟨2, ![17408, 128]⟩ .bf16 := fun i =>
  rope (norm (fun d => proj H W (seqOf ⟨(i 0).val, (i 0).isLt⟩) (rowOf ⟨(i 0).val, (i 0).isLt⟩) ⟨2832 + d.val, by omega⟩)
      (fun d => g (ix1 d)) (fun d => s (ix1 d)))
    (rowOf ⟨(i 0).val, (i 0).isLt⟩) ⟨(i 1).val % 64, Nat.mod_lt _ (by norm_num)⟩
/-- The index heads' weights, scaled, each block of 128 rows transposed. -/
def iw (H : Act) (W : Wide) : FVec Ideal ⟨3, ![136, 8, 128]⟩ .f32 := fun i =>
  proj H W (seqAt ⟨(i 0).val, (i 0).isLt⟩) (rowAt ⟨(i 0).val, (i 0).isLt⟩ ⟨(i 2).val, (i 2).isLt⟩)
    ⟨2896 + (i 1).val, by have : (i 1).val < 8 := (i 1).isLt; omega⟩ * rootEighth
/-- The sparse mixer's output gate before the sigmoid. -/
def az (H : Act) (W : Wide) : FVec Ideal ⟨2, ![17408, 512]⟩ .f32 := fun i =>
  proj H W (seqOf ⟨(i 0).val, (i 0).isLt⟩) (rowOf ⟨(i 0).val, (i 0).isLt⟩) ⟨2904 + (i 1).val, by have : (i 1).val < 512 := (i 1).isLt; omega⟩

end Cert.InProj
-- ==== Proof.InLog.lean ====
module

public import Idealize.ShloMosaic.Lib.Pipeline.ValueKit
public import Idealize.ShloMosaic.Lib.Pointwise
public import proofs.«01_k».proof.Proof.InRow

@[expose] public section

noncomputable section
open Idealize.ShloMosaic Idealize.ShloMosaic.TcCoe Idealize.SL.Sem

/-! The logarithm of the sigmoid, as the reference's softplus writes it. -/
namespace Cert.InProj

/-- The logarithm of one more than an exponential is not negative. -/
theorem log1p_exp_nonneg (y : EReal) : (0 : EReal) ≤ Ideal.log1p (Ideal.exp y) := by
  unfold Ideal.log1p
  induction y using EReal.rec with
  | bot =>
    show (0 : EReal) ≤ Ideal.log (1 + 0)
    rw [add_zero]
    show (0 : EReal) ≤ (if (1 : ℝ) ≤ 0 then ⊥ else (Real.log 1 : EReal))
    rw [if_neg (by norm_num), Real.log_one]
    exact le_refl _
  | top =>
    show (0 : EReal) ≤ Ideal.log (1 + ⊤)
    rw [show (1 : EReal) + ⊤ = ⊤ from EReal.add_top_of_ne_bot (EReal.coe_ne_bot 1)]
    exact le_top
  | coe r =>
    show (0 : EReal) ≤ Ideal.log (1 + (Real.exp r : EReal))
    rw [show (1 : EReal) + (Real.exp r : EReal) = ((1 + Real.exp r : ℝ) : EReal) from (EReal.coe_add 1 _).symm]
    have hp := Real.exp_pos r
    show (0 : EReal) ≤ (if 1 + Real.exp r ≤ 0 then ⊥ else (Real.log (1 + Real.exp r) : EReal))
    rw [if_neg (by linarith)]
    exact_mod_cast Real.log_nonneg (by linarith)

/-- The logarithm of the sigmoid, as the negated softplus of the negation. -/
theorem logsig_eq (x : EReal) : -(if -x ≠ -x then -x else max (-x) 0 + Ideal.log1p (Ideal.exp (-(FloatOps.absf (F := Ideal) (φ := FTy.f32) (-x))))) = logsig x := by
  rw [if_neg (by simp)]
  have ha : FloatOps.absf (F := Ideal) (φ := FTy.f32) (-x) = max x (-x) := by
    show max (-x) (- -x) = _
    rw [neg_neg, max_comm]
  rw [ha]
  unfold logsig
  have hm : min x 0 = -(max (-x) 0) := by
    rcases le_total x 0 with h | h
    · rw [min_eq_left h, max_eq_left (by simpa using EReal.neg_le_neg_iff.2 h), neg_neg]
    · rw [min_eq_right h, max_eq_right (by simpa using EReal.neg_le_neg_iff.2 h), neg_zero]
  have h0 : (0 : EReal) ≤ max (-x) 0 := le_max_right _ _
  have h1 : (0 : EReal) ≤ Ideal.log1p (Ideal.exp (-(max x (-x)))) := log1p_exp_nonneg _
  rw [hm, sub_eq_add_neg, EReal.neg_add (Or.inl (ne_of_gt (lt_of_lt_of_le EReal.bot_lt_zero h0))) (Or.inr (ne_of_gt (lt_of_lt_of_le EReal.bot_lt_zero h1)))]
  rfl

end Cert.InProj
-- ==== Proof.InRef.lean ====
module

public import proofs.«01_k».proof.Proof.Gen.Reference2Ideal.Run
public import proofs.«01_k».proof.Proof.InRow
public import proofs.«01_k».proof.Proof.InLog
public import Idealize.ShloMosaic.Lib.Pipeline.ValueKit
public import Idealize.ShloMosaic.Lib.Pointwise

@[expose] public section

set_option maxRecDepth 16384
set_option maxHeartbeats 4000000
noncomputable section
open Idealize.ShloMosaic Idealize.ShloMosaic.TcCoe Idealize.SL.Sem Idealize.ShloMosaic.StableHlo
namespace Cert.Reference2Ideal.RefValue
open Cert.Reference2Ideal Cert.Reference2Ideal.Gen Cert.Reference2Ideal.Value
variable (m : (ℓ : Loc nD τ sig) → Buf (Elt Ideal) ℓ)

/-- Result `gq` of the reference is the specification's. -/
theorem gq_eq (c : Dev nD) : (show (main_v139 : Ref sig .tc).ty.Contents (Elt Ideal) from
    shapeCast _ (mulf (extractStridedSlice S8x2176x256 ![0, 0, 0] (res_main_v20 (launchContents m c)) slices_S8x2176x3416_S8x2176x256_0_0_0) (broadcastInDim S8x2176x256 ![] bcast_S_S8x2176x256 (constant S_ .f32 0x3E000000#32))) shapeCasts_S8x2176x256_S17408x256)
    = InProj.gq (m ((c.tc : Thread nD τ).loc main_arg0)) (m ((c.tc : Thread nD τ).loc main_arg1)) := by
  funext i
  idx_vars i
  pointwise [res_main_v17, res_main_v18, res_main_v19, res_main_v20, res_main_v30, res_main_call0_v0, res_main_call0_call0_cst, res_main_call0_call0_v3, res_main_v40, res_main_v41, res_main_v42, res_main_v43, res_main_v44, res_main_v59, res_main_v60, res_main_v61, res_main_v62, res_main_v63, res_main_v76, res_main_v77, res_main_v78, res_main_v79, res_main_v80, res_main_v98, res_main_v100, res_main_v118, res_main_v119, res_main_v120, res_main_v121, res_main_v122, res_main_v134, InProj.gq, InProj.seqOf, InProj.rowOf, InProj.seqAt, InProj.rowAt, InProj.proj, InProj.rope, InProj.ang, InProj.norm, InProj.mean, InProj.gate, InProj.eighth, InProj.sixteen, InProj.width, InProj.rootEighth, InProj.eps]

/-- Result `gk` of the reference is the specification's. -/
theorem gk_eq (c : Dev nD) : (show (main_v140 : Ref sig .tc).ty.Contents (Elt Ideal) from
    shapeCast _ (extractStridedSlice S8x2176x256 ![0, 0, 256] (res_main_v20 (launchContents m c)) slices_S8x2176x3416_S8x2176x256_0_0_256) shapeCasts_S8x2176x256_S17408x256)
    = InProj.gk (m ((c.tc : Thread nD τ).loc main_arg0)) (m ((c.tc : Thread nD τ).loc main_arg1)) := by
  funext i
  idx_vars i
  pointwise [res_main_v17, res_main_v18, res_main_v19, res_main_v20, res_main_v30, res_main_call0_v0, res_main_call0_call0_cst, res_main_call0_call0_v3, res_main_v40, res_main_v41, res_main_v42, res_main_v43, res_main_v44, res_main_v59, res_main_v60, res_main_v61, res_main_v62, res_main_v63, res_main_v76, res_main_v77, res_main_v78, res_main_v79, res_main_v80, res_main_v98, res_main_v100, res_main_v118, res_main_v119, res_main_v120, res_main_v121, res_main_v122, res_main_v134, InProj.gk, InProj.seqOf, InProj.rowOf, InProj.seqAt, InProj.rowAt, InProj.proj, InProj.rope, InProj.ang, InProj.norm, InProj.mean, InProj.gate, InProj.eighth, InProj.sixteen, InProj.width, InProj.rootEighth, InProj.eps]

/-- Result `gv` of the reference is the specification's. -/
theorem gv_eq (c : Dev nD) : (show (main_v142 : Ref sig .tc).ty.Contents (Elt Ideal) from
    truncf .bf16 (shapeCast _ (extractStridedSlice S8x2176x512 ![0, 0, 512] (res_main_v20 (launchContents m c)) slices_S8x2176x3416_S8x2176x512_0_0_512) shapeCasts_S8x2176x512_S17408x512) bitsLt_bf16_f32)
    = InProj.gv (m ((c.tc : Thread nD τ).loc main_arg0)) (m ((c.tc : Thread nD τ).loc main_arg1)) := by
  funext i
  idx_vars i
  pointwise [res_main_v17, res_main_v18, res_main_v19, res_main_v20, res_main_v30, res_main_call0_v0, res_main_call0_call0_cst, res_main_call0_call0_v3, res_main_v40, res_main_v41, res_main_v42, res_main_v43, res_main_v44, res_main_v59, res_main_v60, res_main_v61, res_main_v62, res_main_v63, res_main_v76, res_main_v77, res_main_v78, res_main_v79, res_main_v80, res_main_v98, res_main_v100, res_main_v118, res_main_v119, res_main_v120, res_main_v121, res_main_v122, res_main_v134, InProj.gv, InProj.seqOf, InProj.rowOf, InProj.seqAt, InProj.rowAt, InProj.proj, InProj.rope, InProj.ang, InProj.norm, InProj.mean, InProj.gate, InProj.eighth, InProj.sixteen, InProj.width, InProj.rootEighth, InProj.eps]

/-- Result `gz` of the reference is the specification's. -/
theorem gz_eq (c : Dev nD) : (show (main_v144 : Ref sig .tc).ty.Contents (Elt Ideal) from
    shapeCast _ (extractStridedSlice S8x2176x512 ![0, 0, 1040] (res_main_v20 (launchContents m c)) slices_S8x2176x3416_S8x2176x512_0_0_1040) shapeCasts_S8x2176x512_S17408x512)
    = InProj.gz (m ((c.tc : Thread nD τ).loc main_arg0)) (m ((c.tc : Thread nD τ).loc main_arg1)) := by
  funext i
  idx_vars i
  pointwise [res_main_v17, res_main_v18, res_main_v19, res_main_v20, res_main_v30, res_main_call0_v0, res_main_call0_call0_cst, res_main_call0_call0_v3, res_main_v40, res_main_v41, res_main_v42, res_main_v43, res_main_v44, res_main_v59, res_main_v60, res_main_v61, res_main_v62, res_main_v63, res_main_v76, res_main_v77, res_main_v78, res_main_v79, res_main_v80, res_main_v98, res_main_v100, res_main_v118, res_main_v119, res_main_v120, res_main_v121, res_main_v122, res_main_v134, InProj.gz, InProj.seqOf, InProj.rowOf, InProj.seqAt, InProj.rowAt, InProj.proj, InProj.rope, InProj.ang, InProj.norm, InProj.mean, InProj.gate, InProj.eighth, InProj.sixteen, InProj.width, InProj.rootEighth, InProj.eps]

/-- Result `aq` of the reference is the specification's. -/
theorem aq_eq (c : Dev nD) : (show FVec Ideal S17408x512 .bf16 from
    truncf .bf16 (shapeCast _ (transpose S8x2176x4x2x64 [0, 1, 3, 2, 4] (shapeCast _ (mulf ((concatenate S8x2176x8x64 3 [⟨S8x2176x8x8, ((subf (mulf (res_main_v43 (launchContents m c)) (broadcastInDim S8x2176x8x8 ![0, 1, 2, 3] bcast_S1x2176x1x8_S8x2176x8x8_0_1_2_3 (res_main_v41 (launchContents m c)))) (mulf (res_main_v44 (launchContents m c)) (broadcastInDim S8x2176x8x8 ![0, 1, 2, 3] bcast_S1x2176x1x8_S8x2176x8x8_0_1_2_3 (res_main_v42 (launchContents m c))))) : (⟨S8x2176x8x8, .f32⟩ : BufTy).Contents (Elt Ideal))⟩, ⟨S8x2176x8x8, ((addf (mulf (res_main_v44 (launchContents m c)) (broadcastInDim S8x2176x8x8 ![0, 1, 2, 3] bcast_S1x2176x1x8_S8x2176x8x8_0_1_2_3 (res_main_v41 (launchContents m c)))) (mulf (res_main_v43 (launchContents m c)) (broadcastInDim S8x2176x8x8 ![0, 1, 2, 3] bcast_S1x2176x1x8_S8x2176x8x8_0_1_2_3 (res_main_v42 (launchContents m c))))) : (⟨S8x2176x8x8, .f32⟩ : BufTy).Contents (Elt Ideal))⟩, ⟨S8x2176x8x48, ((extractStridedSlice S8x2176x8x48 ![0, 0, 0, 16] (res_main_v40 (launchContents m c)) slices_S8x2176x8x64_S8x2176x8x48_0_0_0_16) : (⟨S8x2176x8x48, .f32⟩ : BufTy).Contents (Elt Ideal))⟩] concatenates_S8x2176x8x8_S8x2176x8x8_S8x2176x8x48_S8x2176x8x64_d3 : (⟨S8x2176x8x64, .f32⟩ : BufTy).Contents (Elt Ideal))) (broadcastInDim S8x2176x8x64 ![] bcast_S_S8x2176x8x64 (constant S_ .f32 0x3E000000#32))) shapeCasts_S8x2176x8x64_S8x2176x2x4x64) transposes_S8x2176x2x4x64_S8x2176x4x2x64_0_1_3_2_4) shapeCasts_S8x2176x4x2x64_S17408x512) bitsLt_bf16_f32)
    = InProj.aq (m ((c.tc : Thread nD τ).loc main_arg0)) (m ((c.tc : Thread nD τ).loc main_arg1)) := by
  funext i
  idx_vars i
  pointwise [res_main_v17, res_main_v18, res_main_v19, res_main_v20, res_main_v30, res_main_call0_v0, res_main_call0_call0_cst, res_main_call0_call0_v3, res_main_v40, res_main_v41, res_main_v42, res_main_v43, res_main_v44, res_main_v59, res_main_v60, res_main_v61, res_main_v62, res_main_v63, res_main_v76, res_main_v77, res_main_v78, res_main_v79, res_main_v80, res_main_v98, res_main_v100, res_main_v118, res_main_v119, res_main_v120, res_main_v121, res_main_v122, res_main_v134, InProj.aq, InProj.seqOf, InProj.rowOf, InProj.seqAt, InProj.rowAt, InProj.proj, InProj.rope, InProj.ang, InProj.norm, InProj.mean, InProj.gate, InProj.eighth, InProj.sixteen, InProj.width, InProj.rootEighth, InProj.eps]

/-- Result `ak` of the reference is the specification's. -/
theorem ak_eq (c : Dev nD) : (show FVec Ideal S17408x128 .bf16 from
    truncf .bf16 (shapeCast _ ((concatenate S8x2176x2x64 3 [⟨S8x2176x2x8, ((subf (mulf (res_main_v62 (launchContents m c)) (broadcastInDim S8x2176x2x8 ![0, 1, 2, 3] bcast_S1x2176x1x8_S8x2176x2x8_0_1_2_3 (res_main_v60 (launchContents m c)))) (mulf (res_main_v63 (launchContents m c)) (broadcastInDim S8x2176x2x8 ![0, 1, 2, 3] bcast_S1x2176x1x8_S8x2176x2x8_0_1_2_3 (res_main_v61 (launchContents m c))))) : (⟨S8x2176x2x8, .f32⟩ : BufTy).Contents (Elt Ideal))⟩, ⟨S8x2176x2x8, ((addf (mulf (res_main_v63 (launchContents m c)) (broadcastInDim S8x2176x2x8 ![0, 1, 2, 3] bcast_S1x2176x1x8_S8x2176x2x8_0_1_2_3 (res_main_v60 (launchContents m c)))) (mulf (res_main_v62 (launchContents m c)) (broadcastInDim S8x2176x2x8 ![0, 1, 2, 3] bcast_S1x2176x1x8_S8x2176x2x8_0_1_2_3 (res_main_v61 (launchContents m c))))) : (⟨S8x2176x2x8, .f32⟩ : BufTy).Contents (Elt Ideal))⟩, ⟨S8x2176x2x48, ((extractStridedSlice S8x2176x2x48 ![0, 0, 0, 16] (res_main_v59 (launchContents m c)) slices_S8x2176x2x64_S8x2176x2x48_0_0_0_16) : (⟨S8x2176x2x48, .f32⟩ : BufTy).Contents (Elt Ideal))⟩] concatenates_S8x2176x2x8_S8x2176x2x8_S8x2176x2x48_S8x2176x2x64_d3 : (⟨S8x2176x2x64, .f32⟩ : BufTy).Contents (Elt Ideal))) shapeCasts_S8x2176x2x64_S17408x128) bitsLt_bf16_f32)
    = InProj.ak (m ((c.tc : Thread nD τ).loc main_arg0)) (m ((c.tc : Thread nD τ).loc main_arg1)) := by
  funext i
  idx_vars i
  pointwise [res_main_v17, res_main_v18, res_main_v19, res_main_v20, res_main_v30, res_main_call0_v0, res_main_call0_call0_cst, res_main_call0_call0_v3, res_main_v40, res_main_v41, res_main_v42, res_main_v43, res_main_v44, res_main_v59, res_main_v60, res_main_v61, res_main_v62, res_main_v63, res_main_v76, res_main_v77, res_main_v78, res_main_v79, res_main_v80, res_main_v98, res_main_v100, res_main_v118, res_main_v119, res_main_v120, res_main_v121, res_main_v122, res_main_v134, InProj.ak, InProj.seqOf, InProj.rowOf, InProj.seqAt, InProj.rowAt, InProj.proj, InProj.rope, InProj.ang, InProj.norm, InProj.mean, InProj.gate, InProj.eighth, InProj.sixteen, InProj.width, InProj.rootEighth, InProj.eps]
  blk_point [launchContents]

/-- Result `av` of the reference is the specification's. -/
theorem av_eq (c : Dev nD) : (show (main_v153 : Ref sig .tc).ty.Contents (Elt Ideal) from
    truncf .bf16 (transpose S136x128x128 [0, 2, 1] (shapeCast _ (extractStridedSlice S8x2176x128 ![0, 0, 2192] (res_main_v20 (launchContents m c)) slices_S8x2176x3416_S8x2176x128_0_0_2192) shapeCasts_S8x2176x128_S136x128x128) transposes_S136x128x128_S136x128x128_0_2_1) bitsLt_bf16_f32)
    = InProj.av (m ((c.tc : Thread nD τ).loc main_arg0)) (m ((c.tc : Thread nD τ).loc main_arg1)) := by
  funext i
  idx_vars i
  pointwise [res_main_v17, res_main_v18, res_main_v19, res_main_v20, res_main_v30, res_main_call0_v0, res_main_call0_call0_cst, res_main_call0_call0_v3, res_main_v40, res_main_v41, res_main_v42, res_main_v43, res_main_v44, res_main_v59, res_main_v60, res_main_v61, res_main_v62, res_main_v63, res_main_v76, res_main_v77, res_main_v78, res_main_v79, res_main_v80, res_main_v98, res_main_v100, res_main_v118, res_main_v119, res_main_v120, res_main_v121, res_main_v122, res_main_v134, InProj.av, InProj.seqOf, InProj.rowOf, InProj.seqAt, InProj.rowAt, InProj.proj, InProj.rope, InProj.ang, InProj.norm, InProj.mean, InProj.gate, InProj.eighth, InProj.sixteen, InProj.width, InProj.rootEighth, InProj.eps]

/-- Result `iq` of the reference is the specification's. -/
theorem iq_eq (c : Dev nD) : (show FVec Ideal S17408x512 .bf16 from
    truncf .bf16 (shapeCast _ (mulf ((concatenate S8x2176x8x64 3 [⟨S8x2176x8x8, ((subf (mulf (res_main_v79 (launchContents m c)) (broadcastInDim S8x2176x8x8 ![0, 1, 2, 3] bcast_S1x2176x1x8_S8x2176x8x8_0_1_2_3 (res_main_v77 (launchContents m c)))) (mulf (res_main_v80 (launchContents m c)) (broadcastInDim S8x2176x8x8 ![0, 1, 2, 3] bcast_S1x2176x1x8_S8x2176x8x8_0_1_2_3 (res_main_v78 (launchContents m c))))) : (⟨S8x2176x8x8, .f32⟩ : BufTy).Contents (Elt Ideal))⟩, ⟨S8x2176x8x8, ((addf (mulf (res_main_v80 (launchContents m c)) (broadcastInDim S8x2176x8x8 ![0, 1, 2, 3] bcast_S1x2176x1x8_S8x2176x8x8_0_1_2_3 (res_main_v77 (launchContents m c)))) (mulf (res_main_v79 (launchContents m c)) (broadcastInDim S8x2176x8x8 ![0, 1, 2, 3] bcast_S1x2176x1x8_S8x2176x8x8_0_1_2_3 (res_main_v78 (launchContents m c))))) : (⟨S8x2176x8x8, .f32⟩ : BufTy).Contents (Elt Ideal))⟩, ⟨S8x2176x8x48, ((extractStridedSlice S8x2176x8x48 ![0, 0, 0, 16] (res_main_v76 (launchContents m c)) slices_S8x2176x8x64_S8x2176x8x48_0_0_0_16) : (⟨S8x2176x8x48, .f32⟩ : BufTy).Contents (Elt Ideal))⟩] concatenates_S8x2176x8x8_S8x2176x8x8_S8x2176x8x48_S8x2176x8x64_d3 : (⟨S8x2176x8x64, .f32⟩ : BufTy).Contents (Elt Ideal))) (broadcastInDim S8x2176x8x64 ![] bcast_S_S8x2176x8x64 (constant S_ .f32 0x3E000000#32))) shapeCasts_S8x2176x8x64_S17408x512) bitsLt_bf16_f32)
    = InProj.iq (m ((c.tc : Thread nD τ).loc main_arg0)) (m ((c.tc : Thread nD τ).loc main_arg1)) := by
  funext i
  idx_vars i
  pointwise [res_main_v17, res_main_v18, res_main_v19, res_main_v20, res_main_v30, res_main_call0_v0, res_main_call0_call0_cst, res_main_call0_call0_v3, res_main_v40, res_main_v41, res_main_v42, res_main_v43, res_main_v44, res_main_v59, res_main_v60, res_main_v61, res_main_v62, res_main_v63, res_main_v76, res_main_v77, res_main_v78, res_main_v79, res_main_v80, res_main_v98, res_main_v100, res_main_v118, res_main_v119, res_main_v120, res_main_v121, res_main_v122, res_main_v134, InProj.iq, InProj.seqOf, InProj.rowOf, InProj.seqAt, InProj.rowAt, InProj.proj, InProj.rope, InProj.ang, InProj.norm, InProj.mean, InProj.gate, InProj.eighth, InProj.sixteen, InProj.width, InProj.rootEighth, InProj.eps]
  blk_point [launchContents]

/-- Result `iw` of the reference is the specification's. -/
theorem iw_eq (c : Dev nD) : (show (main_v160 : Ref sig .tc).ty.Contents (Elt Ideal) from
    transpose S136x8x128 [0, 2, 1] (shapeCast _ (mulf (extractStridedSlice S8x2176x8 ![0, 0, 2896] (res_main_v20 (launchContents m c)) slices_S8x2176x3416_S8x2176x8_0_0_2896) (broadcastInDim S8x2176x8 ![] bcast_S_S8x2176x8 (constant S_ .f32 0x3EB504F3#32))) shapeCasts_S8x2176x8_S136x128x8) transposes_S136x128x8_S136x8x128_0_2_1)
    = InProj.iw (m ((c.tc : Thread nD τ).loc main_arg0)) (m ((c.tc : Thread nD τ).loc main_arg1)) := by
  funext i
  idx_vars i
  pointwise [res_main_v17, res_main_v18, res_main_v19, res_main_v20, res_main_v30, res_main_call0_v0, res_main_call0_call0_cst, res_main_call0_call0_v3, res_main_v40, res_main_v41, res_main_v42, res_main_v43, res_main_v44, res_main_v59, res_main_v60, res_main_v61, res_main_v62, res_main_v63, res_main_v76, res_main_v77, res_main_v78, res_main_v79, res_main_v80, res_main_v98, res_main_v100, res_main_v118, res_main_v119, res_main_v120, res_main_v121, res_main_v122, res_main_v134, InProj.iw, InProj.seqOf, InProj.rowOf, InProj.seqAt, InProj.rowAt, InProj.proj, InProj.rope, InProj.ang, InProj.norm, InProj.mean, InProj.gate, InProj.eighth, InProj.sixteen, InProj.width, InProj.rootEighth, InProj.eps]

/-- Result `az` of the reference is the specification's. -/
theorem az_eq (c : Dev nD) : (show (main_v161 : Ref sig .tc).ty.Contents (Elt Ideal) from
    shapeCast _ (extractStridedSlice S8x2176x512 ![0, 0, 2904] (res_main_v20 (launchContents m c)) slices_S8x2176x3416_S8x2176x512_0_0_2904) shapeCasts_S8x2176x512_S17408x512)
    = InProj.az (m ((c.tc : Thread nD τ).loc main_arg0)) (m ((c.tc : Thread nD τ).loc main_arg1)) := by
  funext i
  idx_vars i
  pointwise [res_main_v17, res_main_v18, res_main_v19, res_main_v20, res_main_v30, res_main_call0_v0, res_main_call0_call0_cst, res_main_call0_call0_v3, res_main_v40, res_main_v41, res_main_v42, res_main_v43, res_main_v44, res_main_v59, res_main_v60, res_main_v61, res_main_v62, res_main_v63, res_main_v76, res_main_v77, res_main_v78, res_main_v79, res_main_v80, res_main_v98, res_main_v100, res_main_v118, res_main_v119, res_main_v120, res_main_v121, res_main_v122, res_main_v134, InProj.az, InProj.seqOf, InProj.rowOf, InProj.seqAt, InProj.rowAt, InProj.proj, InProj.rope, InProj.ang, InProj.norm, InProj.mean, InProj.gate, InProj.eighth, InProj.sixteen, InProj.width, InProj.rootEighth, InProj.eps]

/-- Result `gl` of the reference is the specification's. -/
theorem gl_eq (c : Dev nD) : (show (main_v143 : Ref sig .tc).ty.Contents (Elt Ideal) from
    shapeCast _ (Host.divf (Host.negf (select (cmpf .une (res_main_call0_call0_v3 (launchContents m c)) (res_main_call0_call0_v3 (launchContents m c))) (addf (res_main_call0_v0 (launchContents m c)) (broadcastInDim S8x2176x256 ![] bcast_S_S8x2176x256 (res_main_call0_call0_cst (launchContents m c)))) (addf (maximumf (res_main_call0_v0 (launchContents m c)) (broadcastInDim S8x2176x256 ![] bcast_S_S8x2176x256 (res_main_call0_call0_cst (launchContents m c)))) (Host.log1p (Host.exp (Host.negf (Host.absf (res_main_call0_call0_v3 (launchContents m c))))))))) (broadcastInDim S8x2176x256 ![] bcast_S_S8x2176x256 (constant S_ .f32 0x41800000#32))) shapeCasts_S8x2176x256_S17408x256)
    = InProj.gl (m ((c.tc : Thread nD τ).loc main_arg0)) (m ((c.tc : Thread nD τ).loc main_arg1)) (m ((c.tc : Thread nD τ).loc main_arg2)) (m ((c.tc : Thread nD τ).loc main_arg3)) := by
  funext i
  idx_vars i
  pointwise [res_main_v17, res_main_v18, res_main_v19, res_main_v20, res_main_v30, res_main_call0_v0, res_main_call0_call0_cst, res_main_call0_call0_v3, res_main_v40, res_main_v41, res_main_v42, res_main_v43, res_main_v44, res_main_v59, res_main_v60, res_main_v61, res_main_v62, res_main_v63, res_main_v76, res_main_v77, res_main_v78, res_main_v79, res_main_v80, res_main_v98, res_main_v100, res_main_v118, res_main_v119, res_main_v120, res_main_v121, res_main_v122, res_main_v134, InProj.gl, InProj.seqOf, InProj.rowOf, InProj.seqAt, InProj.rowAt, InProj.proj, InProj.rope, InProj.ang, InProj.norm, InProj.mean, InProj.gate, InProj.eighth, InProj.sixteen, InProj.width, InProj.rootEighth, InProj.eps]
  rw [InProj.logsig_eq]

/-- The index key's head before the rows are stored twice. -/
theorem key_at (c : Dev nD) (b : Fin 8) (r : Fin 2176) (k : Fin 64) : res_main_v134 (launchContents m c) (ix3 b r k)
    = InProj.rope (InProj.norm (fun d => InProj.proj (m ((c.tc : Thread nD τ).loc main_arg0)) (m ((c.tc : Thread nD τ).loc main_arg1)) b r ⟨2832 + d.val, by omega⟩) (fun d => (m ((c.tc : Thread nD τ).loc main_arg4)) (ix1 d)) (fun d => (m ((c.tc : Thread nD τ).loc main_arg5)) (ix1 d))) r k := by
  pointwise [res_main_v17, res_main_v18, res_main_v19, res_main_v20, res_main_v30, res_main_call0_v0, res_main_call0_call0_cst, res_main_call0_call0_v3, res_main_v40, res_main_v41, res_main_v42, res_main_v43, res_main_v44, res_main_v59, res_main_v60, res_main_v61, res_main_v62, res_main_v63, res_main_v76, res_main_v77, res_main_v78, res_main_v79, res_main_v80, res_main_v98, res_main_v100, res_main_v118, res_main_v119, res_main_v120, res_main_v121, res_main_v122, res_main_v134, InProj.proj, InProj.rope, InProj.ang, InProj.norm, InProj.mean, InProj.width, InProj.eps]

/-- Result `ik` of the reference is the specification's. -/
theorem ik_eq (c : Dev nD) : (show FVec Ideal S17408x128 .bf16 from
    truncf .bf16 (shapeCast _ (concatenate S8x2176x128 2 [⟨S8x2176x64, (res_main_v134 (launchContents m c))⟩, ⟨S8x2176x64, (res_main_v134 (launchContents m c))⟩] concatenates_S8x2176x64_S8x2176x64_S8x2176x128_d2) shapeCasts_S8x2176x128_S17408x128) bitsLt_bf16_f32)
    = InProj.ik (m ((c.tc : Thread nD τ).loc main_arg0)) (m ((c.tc : Thread nD τ).loc main_arg1)) (m ((c.tc : Thread nD τ).loc main_arg4)) (m ((c.tc : Thread nD τ).loc main_arg5)) := by
  funext i
  idx_vars i
  pointwise [key_at m c, InProj.ik, InProj.seqOf, InProj.rowOf]
  split
  · rename_i h; congr 1; apply Fin.ext; show i1.val = i1.val % 64; omega
  · rename_i h; congr 1; apply Fin.ext; show i1.val - 64 = i1.val % 64; omega

end Cert.Reference2Ideal.RefValue
-- ==== Proof.InHost.lean ====
module

public import proofs.«01_k».proof.Proof.Gen.Kernel2Ideal.Frame
public import proofs.«01_k».proof.Proof.InRow
public import Idealize.ShloMosaic.Lib.Pipeline.ValueKit
public import Idealize.ShloMosaic.Lib.Pointwise

@[expose] public section

set_option maxRecDepth 16384
set_option maxHeartbeats 1000000
noncomputable section
open Idealize.ShloMosaic Idealize.ShloMosaic.TcCoe Idealize.SL.Sem

/-! What the arrays that are prepared before the kernel hold, one operation after another. -/
namespace Cert.Kernel2Ideal.KerValue
open Cert.Kernel2Ideal Cert.Kernel2Ideal.Gen
variable (m : (ℓ : Loc nD τ sig) → Buf (Elt Ideal) ℓ)

/-- The arrays in the order in which the operations write them. -/
abbrev written : List (Ref sig .tc) := [main_v0, main_cst, main_v1, main_v2, main_cst_0, main_v3, main_v4, main_v5, main_cst_1, main_v6, main_v7, main_cst_2, main_v8, main_v9, main_v10, main_cst_3, main_v11, main_v12, main_v13, main_v14, main_v15, main_v16, main_v17, main_v18, main_v19, main_cst_4, main_v20, main_cst_5, main_v21, main_cst_6, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_cst_7, main_v51, main_cst_8, main_v52, main_v53, main_v54, main_v55, main_v56, main_cst_9, main_v57, main_v58, main_cst_10, main_v59, main_v60, main_v61, main_v62, main_v63, main_v64, main_v65, main_v66, main_v67, main_v68, main_v69, main_v70, main_v71, main_v72, main_v73, main_v74, main_cst_11, main_v75, main_c, main_v76, main_v77, main_v78, main_v79, main_v80, main_v81, main_cst_12, main_v82, main_c_13, main_v83, main_c_14, main_v84, main_v85, main_v86, main_cst_15, main_v87, main_c_16, main_v88, main_c_17, main_v89, main_v90, main_v91, main_v92, main_v93]
theorem writes_eq : (hostOps0 : List (HloOp τ sig (Elt Ideal))).map HloOp.writes = written.map fun r => {Proc.devRef (τ := τ) .tc r} := rfl

/-- The contents before operation `k`. -/
abbrev upTo (c : Dev nD) (k : ℕ) : Valuation τ sig (Elt Ideal) := StableHlo.after (hostOps0.take k) (fun b => m (c, b))

/-- An array that no operation from the `k`-th on writes holds at the end what it held before the `k`-th. -/
theorem keep (c : Dev nD) (k : ℕ) (r : Ref sig .tc) (h : r ∉ written.drop k) : upTo m c k (Proc.devRef .tc r) = V m c r := by
  have e : V m c r = StableHlo.after (hostOps0.drop k) (upTo m c k) (Proc.devRef .tc r) := by
    show StableHlo.after hostOps0 _ _ = _
    rw [← StableHlo.after_append, List.take_append_drop]
  rw [e]
  refine (StableHlo.after_of_writes_sub (W := written.drop k) _ _ (StableHlo.forall_writes_sub_of_map ?_) h).symm
  rw [List.map_drop, List.map_drop, writes_eq]

/-- What the `k`-th operation writes and no later one does. -/
theorem op_val (c : Dev nD) (k : ℕ) (op : HloOp τ sig (Elt Ideal)) (ho : hostOps0.take (k + 1) = hostOps0.take k ++ [op]) (r : Ref sig .tc)
    (h : r ∉ written.drop (k + 1)) : V m c r = op.result (upTo m c k) (Proc.devRef .tc r) := by
  rw [← keep m c (k + 1) r h, upTo, ho, StableHlo.after_append]
  rfl

theorem at_v0 (c : Dev nD) : V m c main_v0 = (sitofp (F := Ideal) .f32 (iotaInDim S8 32 0)) :=
  (op_val m c 0 _ rfl main_v0 (by decide)).trans (StableHlo.nullary_result ..)
theorem at_cst (c : Dev nD) : V m c main_cst = (constant (F := Ideal) S_ .f32 0x40000000#32) :=
  (op_val m c 1 _ rfl main_cst (by decide)).trans (StableHlo.nullary_result ..)
theorem at_v1 (c : Dev nD) : V m c main_v1 = (broadcastInDim S8 ![] bcast_S_S8 : (⟨S_, .f32⟩ : BufTy).Contents (Elt Ideal) → (⟨S8, .f32⟩ : BufTy).Contents (Elt Ideal)) (V m c main_cst) :=
  (op_val m c 2 _ rfl main_v1 (by decide)).trans ((StableHlo.unary_result ..).trans (congrArg (broadcastInDim S8 ![] bcast_S_S8 : (⟨S_, .f32⟩ : BufTy).Contents (Elt Ideal) → (⟨S8, .f32⟩ : BufTy).Contents (Elt Ideal)) (keep m c 2 main_cst (by decide))))
theorem at_v2 (c : Dev nD) : V m c main_v2 = (mulf (F := Ideal) (φ := .f32) : (⟨S8, .f32⟩ : BufTy).Contents (Elt Ideal) → (⟨S8, .f32⟩ : BufTy).Contents (Elt Ideal) → (⟨S8, .f32⟩ : BufTy).Contents (Elt Ideal)) (V m c main_v1) (V m c main_v0) :=
  (op_val m c 3 _ rfl main_v2 (by decide)).trans ((StableHlo.binary_result ..).trans (congrArg₂ (mulf (F := Ideal) (φ := .f32) : (⟨S8, .f32⟩ : BufTy).Contents (Elt Ideal) → (⟨S8, .f32⟩ : BufTy).Contents (Elt Ideal) → (⟨S8, .f32⟩ : BufTy).Contents (Elt Ideal)) (keep m c 3 main_v1 (by decide)) (keep m c 3 main_v0 (by decide))))
theorem at_cst_0 (c : Dev nD) : V m c main_cst_0 = (constant (F := Ideal) S_ .f32 0x00000000#32) :=
  (op_val m c 4 _ rfl main_cst_0 (by decide)).trans (StableHlo.nullary_result ..)
theorem at_v3 (c : Dev nD) : V m c main_v3 = (broadcastInDim S8 ![] bcast_S_S8 : (⟨S_, .f32⟩ : BufTy).Contents (Elt Ideal) → (⟨S8, .f32⟩ : BufTy).Contents (Elt Ideal)) (V m c main_cst_0) :=
  (op_val m c 5 _ rfl main_v3 (by decide)).trans ((StableHlo.unary_result ..).trans (congrArg (broadcastInDim S8 ![] bcast_S_S8 : (⟨S_, .f32⟩ : BufTy).Contents (Elt Ideal) → (⟨S8, .f32⟩ : BufTy).Contents (Elt Ideal)) (keep m c 5 main_cst_0 (by decide))))
theorem at_v4 (c : Dev nD) : V m c main_v4 = (addf (F := Ideal) (φ := .f32) : (⟨S8, .f32⟩ : BufTy).Contents (Elt Ideal) → (⟨S8, .f32⟩ : BufTy).Contents (Elt Ideal) → (⟨S8, .f32⟩ : BufTy).Contents (Elt Ideal)) (V m c main_v3) (V m c main_v2) :=
  (op_val m c 6 _ rfl main_v4 (by decide)).trans ((StableHlo.binary_result ..).trans (congrArg₂ (addf (F := Ideal) (φ := .f32) : (⟨S8, .f32⟩ : BufTy).Contents (Elt Ideal) → (⟨S8, .f32⟩ : BufTy).Contents (Elt Ideal) → (⟨S8, .f32⟩ : BufTy).Contents (Elt Ideal)) (keep m c 6 main_v3 (by decide)) (keep m c 6 main_v2 (by decide))))
theorem at_v5 (c : Dev nD) : V m c main_v5 = (Host.negf (F := Ideal) (φ := .f32) : (⟨S8, .f32⟩ : BufTy).Contents (Elt Ideal) → (⟨S8, .f32⟩ : BufTy).Contents (Elt Ideal)) (V m c main_v4) :=
  (op_val m c 7 _ rfl main_v5 (by decide)).trans ((StableHlo.unary_result ..).trans (congrArg (Host.negf (F := Ideal) (φ := .f32) : (⟨S8, .f32⟩ : BufTy).Contents (Elt Ideal) → (⟨S8, .f32⟩ : BufTy).Contents (Elt Ideal)) (keep m c 7 main_v4 (by decide))))
theorem at_cst_1 (c : Dev nD) : V m c main_cst_1 = (constant (F := Ideal) S_ .f32 0x41800000#32) :=
  (op_val m c 8 _ rfl main_cst_1 (by decide)).trans (StableHlo.nullary_result ..)
theorem at_v6 (c : Dev nD) : V m c main_v6 = (broadcastInDim S8 ![] bcast_S_S8 : (⟨S_, .f32⟩ : BufTy).Contents (Elt Ideal) → (⟨S8, .f32⟩ : BufTy).Contents (Elt Ideal)) (V m c main_cst_1) :=
  (op_val m c 9 _ rfl main_v6 (by decide)).trans ((StableHlo.unary_result ..).trans (congrArg (broadcastInDim S8 ![] bcast_S_S8 : (⟨S_, .f32⟩ : BufTy).Contents (Elt Ideal) → (⟨S8, .f32⟩ : BufTy).Contents (Elt Ideal)) (keep m c 9 main_cst_1 (by decide))))
theorem at_v7 (c : Dev nD) : V m c main_v7 = (Host.divf (F := Ideal) (φ := .f32) : (⟨S8, .f32⟩ : BufTy).Contents (Elt Ideal) → (⟨S8, .f32⟩ : BufTy).Contents (Elt Ideal) → (⟨S8, .f32⟩ : BufTy).Contents (Elt Ideal)) (V m c main_v5) (V m c main_v6) :=
  (op_val m c 10 _ rfl main_v7 (by decide)).trans ((StableHlo.binary_result ..).trans (congrArg₂ (Host.divf (F := Ideal) (φ := .f32) : (⟨S8, .f32⟩ : BufTy).Contents (Elt Ideal) → (⟨S8, .f32⟩ : BufTy).Contents (Elt Ideal) → (⟨S8, .f32⟩ : BufTy).Contents (Elt Ideal)) (keep m c 10 main_v5 (by decide)) (keep m c 10 main_v6 (by decide))))
theorem at_cst_2 (c : Dev nD) : V m c main_cst_2 = (constant (F := Ideal) S_ .f32 0x48F42400#32) :=
  (op_val m c 11 _ rfl main_cst_2 (by decide)).trans (StableHlo.nullary_result ..)
theorem at_v8 (c : Dev nD) : V m c main_v8 = (broadcastInDim S8 ![] bcast_S_S8 : (⟨S_, .f32⟩ : BufTy).Contents (Elt Ideal) → (⟨S8, .f32⟩ : BufTy).Contents (Elt Ideal)) (V m c main_cst_2) :=
  (op_val m c 12 _ rfl main_v8 (by decide)).trans ((StableHlo.unary_result ..).trans (congrArg (broadcastInDim S8 ![] bcast_S_S8 : (⟨S_, .f32⟩ : BufTy).Contents (Elt Ideal) → (⟨S8, .f32⟩ : BufTy).Contents (Elt Ideal)) (keep m c 12 main_cst_2 (by decide))))
theorem at_v9 (c : Dev nD) : V m c main_v9 = (Host.powf (F := Ideal) (φ := .f32) : (⟨S8, .f32⟩ : BufTy).Contents (Elt Ideal) → (⟨S8, .f32⟩ : BufTy).Contents (Elt Ideal) → (⟨S8, .f32⟩ : BufTy).Contents (Elt Ideal)) (V m c main_v8) (V m c main_v7) :=
  (op_val m c 13 _ rfl main_v9 (by decide)).trans ((StableHlo.binary_result ..).trans (congrArg₂ (Host.powf (F := Ideal) (φ := .f32) : (⟨S8, .f32⟩ : BufTy).Contents (Elt Ideal) → (⟨S8, .f32⟩ : BufTy).Contents (Elt Ideal) → (⟨S8, .f32⟩ : BufTy).Contents (Elt Ideal)) (keep m c 13 main_v8 (by decide)) (keep m c 13 main_v7 (by decide))))
theorem at_v10 (c : Dev nD) : V m c main_v10 = (sitofp (F := Ideal) .f32 (iotaInDim S2176 32 0)) :=
  (op_val m c 14 _ rfl main_v10 (by decide)).trans (StableHlo.nullary_result ..)
theorem at_cst_3 (c : Dev nD) : V m c main_cst_3 = (constant (F := Ideal) S_ .f32 0x42E00000#32) :=
  (op_val m c 15 _ rfl main_cst_3 (by decide)).trans (StableHlo.nullary_result ..)
theorem at_v11 (c : Dev nD) : V m c main_v11 = (broadcastInDim S2176 ![] bcast_S_S2176 : (⟨S_, .f32⟩ : BufTy).Contents (Elt Ideal) → (⟨S2176, .f32⟩ : BufTy).Contents (Elt Ideal)) (V m c main_cst_3) :=
  (op_val m c 16 _ rfl main_v11 (by decide)).trans ((StableHlo.unary_result ..).trans (congrArg (broadcastInDim S2176 ![] bcast_S_S2176 : (⟨S_, .f32⟩ : BufTy).Contents (Elt Ideal) → (⟨S2176, .f32⟩ : BufTy).Contents (Elt Ideal)) (keep m c 16 main_cst_3 (by decide))))
theorem at_v12 (c : Dev nD) : V m c main_v12 = (subf (F := Ideal) (φ := .f32) : (⟨S2176, .f32⟩ : BufTy).Contents (Elt Ideal) → (⟨S2176, .f32⟩ : BufTy).Contents (Elt Ideal) → (⟨S2176, .f32⟩ : BufTy).Contents (Elt Ideal)) (V m c main_v10) (V m c main_v11) :=
  (op_val m c 17 _ rfl main_v12 (by decide)).trans ((StableHlo.binary_result ..).trans (congrArg₂ (subf (F := Ideal) (φ := .f32) : (⟨S2176, .f32⟩ : BufTy).Contents (Elt Ideal) → (⟨S2176, .f32⟩ : BufTy).Contents (Elt Ideal) → (⟨S2176, .f32⟩ : BufTy).Contents (Elt Ideal)) (keep m c 17 main_v10 (by decide)) (keep m c 17 main_v11 (by decide))))
theorem at_v13 (c : Dev nD) : V m c main_v13 = (broadcastInDim S2176x1 ![0] bcast_S2176_S2176x1_0 : (⟨S2176, .f32⟩ : BufTy).Contents (Elt Ideal) → (⟨S2176x1, .f32⟩ : BufTy).Contents (Elt Ideal)) (V m c main_v12) :=
  (op_val m c 18 _ rfl main_v13 (by decide)).trans ((StableHlo.unary_result ..).trans (congrArg (broadcastInDim S2176x1 ![0] bcast_S2176_S2176x1_0 : (⟨S2176, .f32⟩ : BufTy).Contents (Elt Ideal) → (⟨S2176x1, .f32⟩ : BufTy).Contents (Elt Ideal)) (keep m c 18 main_v12 (by decide))))
theorem at_v14 (c : Dev nD) : V m c main_v14 = (broadcastInDim S1x8 ![1] bcast_S8_S1x8_1 : (⟨S8, .f32⟩ : BufTy).Contents (Elt Ideal) → (⟨S1x8, .f32⟩ : BufTy).Contents (Elt Ideal)) (V m c main_v9) :=
  (op_val m c 19 _ rfl main_v14 (by decide)).trans ((StableHlo.unary_result ..).trans (congrArg (broadcastInDim S1x8 ![1] bcast_S8_S1x8_1 : (⟨S8, .f32⟩ : BufTy).Contents (Elt Ideal) → (⟨S1x8, .f32⟩ : BufTy).Contents (Elt Ideal)) (keep m c 19 main_v9 (by decide))))
theorem at_v15 (c : Dev nD) : V m c main_v15 = (broadcastInDim S2176x8 ![0, 1] bcast_S2176x1_S2176x8_0_1 : (⟨S2176x1, .f32⟩ : BufTy).Contents (Elt Ideal) → (⟨S2176x8, .f32⟩ : BufTy).Contents (Elt Ideal)) (V m c main_v13) :=
  (op_val m c 20 _ rfl main_v15 (by decide)).trans ((StableHlo.unary_result ..).trans (congrArg (broadcastInDim S2176x8 ![0, 1] bcast_S2176x1_S2176x8_0_1 : (⟨S2176x1, .f32⟩ : BufTy).Contents (Elt Ideal) → (⟨S2176x8, .f32⟩ : BufTy).Contents (Elt Ideal)) (keep m c 20 main_v13 (by decide))))
theorem at_v16 (c : Dev nD) : V m c main_v16 = (broadcastInDim S2176x8 ![0, 1] bcast_S1x8_S2176x8_0_1 : (⟨S1x8, .f32⟩ : BufTy).Contents (Elt Ideal) → (⟨S2176x8, .f32⟩ : BufTy).Contents (Elt Ideal)) (V m c main_v14) :=
  (op_val m c 21 _ rfl main_v16 (by decide)).trans ((StableHlo.unary_result ..).trans (congrArg (broadcastInDim S2176x8 ![0, 1] bcast_S1x8_S2176x8_0_1 : (⟨S1x8, .f32⟩ : BufTy).Contents (Elt Ideal) → (⟨S2176x8, .f32⟩ : BufTy).Contents (Elt Ideal)) (keep m c 21 main_v14 (by decide))))
theorem at_v17 (c : Dev nD) : V m c main_v17 = (mulf (F := Ideal) (φ := .f32) : (⟨S2176x8, .f32⟩ : BufTy).Contents (Elt Ideal) → (⟨S2176x8, .f32⟩ : BufTy).Contents (Elt Ideal) → (⟨S2176x8, .f32⟩ : BufTy).Contents (Elt Ideal)) (V m c main_v15) (V m c main_v16) :=
  (op_val m c 22 _ rfl main_v17 (by decide)).trans ((StableHlo.binary_result ..).trans (congrArg₂ (mulf (F := Ideal) (φ := .f32) : (⟨S2176x8, .f32⟩ : BufTy).Contents (Elt Ideal) → (⟨S2176x8, .f32⟩ : BufTy).Contents (Elt Ideal) → (⟨S2176x8, .f32⟩ : BufTy).Contents (Elt Ideal)) (keep m c 22 main_v15 (by decide)) (keep m c 22 main_v16 (by decide))))
theorem at_v18 (c : Dev nD) : V m c main_v18 = (Host.cos (F := Ideal) (φ := .f32) : (⟨S2176x8, .f32⟩ : BufTy).Contents (Elt Ideal) → (⟨S2176x8, .f32⟩ : BufTy).Contents (Elt Ideal)) (V m c main_v17) :=
  (op_val m c 23 _ rfl main_v18 (by decide)).trans ((StableHlo.unary_result ..).trans (congrArg (Host.cos (F := Ideal) (φ := .f32) : (⟨S2176x8, .f32⟩ : BufTy).Contents (Elt Ideal) → (⟨S2176x8, .f32⟩ : BufTy).Contents (Elt Ideal)) (keep m c 23 main_v17 (by decide))))
theorem at_v19 (c : Dev nD) : V m c main_v19 = (Host.sin (F := Ideal) (φ := .f32) : (⟨S2176x8, .f32⟩ : BufTy).Contents (Elt Ideal) → (⟨S2176x8, .f32⟩ : BufTy).Contents (Elt Ideal)) (V m c main_v17) :=
  (op_val m c 24 _ rfl main_v19 (by decide)).trans ((StableHlo.unary_result ..).trans (congrArg (Host.sin (F := Ideal) (φ := .f32) : (⟨S2176x8, .f32⟩ : BufTy).Contents (Elt Ideal) → (⟨S2176x8, .f32⟩ : BufTy).Contents (Elt Ideal)) (keep m c 24 main_v17 (by decide))))
theorem at_cst_4 (c : Dev nD) : V m c main_cst_4 = (constant (F := Ideal) S_ .f32 0x3F800000#32) :=
  (op_val m c 25 _ rfl main_cst_4 (by decide)).trans (StableHlo.nullary_result ..)
theorem at_v20 (c : Dev nD) : V m c main_v20 = (broadcastInDim S2176x48 ![] bcast_S_S2176x48 : (⟨S_, .f32⟩ : BufTy).Contents (Elt Ideal) → (⟨S2176x48, .f32⟩ : BufTy).Contents (Elt Ideal)) (V m c main_cst_4) :=
  (op_val m c 26 _ rfl main_v20 (by decide)).trans ((StableHlo.unary_result ..).trans (congrArg (broadcastInDim S2176x48 ![] bcast_S_S2176x48 : (⟨S_, .f32⟩ : BufTy).Contents (Elt Ideal) → (⟨S2176x48, .f32⟩ : BufTy).Contents (Elt Ideal)) (keep m c 26 main_cst_4 (by decide))))
theorem at_cst_5 (c : Dev nD) : V m c main_cst_5 = (constant (F := Ideal) S_ .f32 0x00000000#32) :=
  (op_val m c 27 _ rfl main_cst_5 (by decide)).trans (StableHlo.nullary_result ..)
theorem at_v21 (c : Dev nD) : V m c main_v21 = (broadcastInDim S2176x48 ![] bcast_S_S2176x48 : (⟨S_, .f32⟩ : BufTy).Contents (Elt Ideal) → (⟨S2176x48, .f32⟩ : BufTy).Contents (Elt Ideal)) (V m c main_cst_5) :=
  (op_val m c 28 _ rfl main_v21 (by decide)).trans ((StableHlo.unary_result ..).trans (congrArg (broadcastInDim S2176x48 ![] bcast_S_S2176x48 : (⟨S_, .f32⟩ : BufTy).Contents (Elt Ideal) → (⟨S2176x48, .f32⟩ : BufTy).Contents (Elt Ideal)) (keep m c 28 main_cst_5 (by decide))))
theorem at_cst_6 (c : Dev nD) : V m c main_cst_6 = (constant (F := Ideal) S_ .f32 0x00000000#32) :=
  (op_val m c 29 _ rfl main_cst_6 (by decide)).trans (StableHlo.nullary_result ..)
theorem at_v22 (c : Dev nD) : V m c main_v22 = (broadcastInDim S2176x8 ![] bcast_S_S2176x8 : (⟨S_, .f32⟩ : BufTy).Contents (Elt Ideal) → (⟨S2176x8, .f32⟩ : BufTy).Contents (Elt Ideal)) (V m c main_cst_6) :=
  (op_val m c 30 _ rfl main_v22 (by decide)).trans ((StableHlo.unary_result ..).trans (congrArg (broadcastInDim S2176x8 ![] bcast_S_S2176x8 : (⟨S_, .f32⟩ : BufTy).Contents (Elt Ideal) → (⟨S2176x8, .f32⟩ : BufTy).Contents (Elt Ideal)) (keep m c 30 main_cst_6 (by decide))))
theorem at_v23 (c : Dev nD) : V m c main_v23 = (concatenate S2176x64 1 [⟨S2176x8, (V m c main_v18 : (⟨S2176x8, .f32⟩ : BufTy).Contents (Elt Ideal))⟩, ⟨S2176x8, (V m c main_v18 : (⟨S2176x8, .f32⟩ : BufTy).Contents (Elt Ideal))⟩, ⟨S2176x48, (V m c main_v20 : (⟨S2176x48, .f32⟩ : BufTy).Contents (Elt Ideal))⟩] concatenates_S2176x8_S2176x8_S2176x48_S2176x64_d1 : (⟨S2176x64, .f32⟩ : BufTy).Contents (Elt Ideal)) :=
  (op_val m c 31 _ rfl main_v23 (by decide)).trans ((StableHlo.nary_result ..).trans (congrArg (fun u : (k : Fin 3) → ((![main_v18, main_v18, main_v20] : Fin 3 → Ref sig .tc) k).ty.Contents (Elt Ideal) => (concatenate S2176x64 1 [⟨S2176x8, (u 0 : (⟨S2176x8, .f32⟩ : BufTy).Contents (Elt Ideal))⟩, ⟨S2176x8, (u 1 : (⟨S2176x8, .f32⟩ : BufTy).Contents (Elt Ideal))⟩, ⟨S2176x48, (u 2 : (⟨S2176x48, .f32⟩ : BufTy).Contents (Elt Ideal))⟩] concatenates_S2176x8_S2176x8_S2176x48_S2176x64_d1 : (⟨S2176x64, .f32⟩ : BufTy).Contents (Elt Ideal))) (funext fun i => keep m c 31 ((![main_v18, main_v18, main_v20] : Fin 3 → Ref sig .tc) i) ((by decide : ∀ i, (![main_v18, main_v18, main_v20] : Fin 3 → Ref sig .tc) i ∉ written.drop 31) i))))
theorem at_v24 (c : Dev nD) : V m c main_v24 = (concatenate S2176x64 1 [⟨S2176x8, (V m c main_v22 : (⟨S2176x8, .f32⟩ : BufTy).Contents (Elt Ideal))⟩, ⟨S2176x8, (V m c main_v19 : (⟨S2176x8, .f32⟩ : BufTy).Contents (Elt Ideal))⟩, ⟨S2176x48, (V m c main_v21 : (⟨S2176x48, .f32⟩ : BufTy).Contents (Elt Ideal))⟩] concatenates_S2176x8_S2176x8_S2176x48_S2176x64_d1 : (⟨S2176x64, .f32⟩ : BufTy).Contents (Elt Ideal)) :=
  (op_val m c 32 _ rfl main_v24 (by decide)).trans ((StableHlo.nary_result ..).trans (congrArg (fun u : (k : Fin 3) → ((![main_v22, main_v19, main_v21] : Fin 3 → Ref sig .tc) k).ty.Contents (Elt Ideal) => (concatenate S2176x64 1 [⟨S2176x8, (u 0 : (⟨S2176x8, .f32⟩ : BufTy).Contents (Elt Ideal))⟩, ⟨S2176x8, (u 1 : (⟨S2176x8, .f32⟩ : BufTy).Contents (Elt Ideal))⟩, ⟨S2176x48, (u 2 : (⟨S2176x48, .f32⟩ : BufTy).Contents (Elt Ideal))⟩] concatenates_S2176x8_S2176x8_S2176x48_S2176x64_d1 : (⟨S2176x64, .f32⟩ : BufTy).Contents (Elt Ideal))) (funext fun i => keep m c 32 ((![main_v22, main_v19, main_v21] : Fin 3 → Ref sig .tc) i) ((by decide : ∀ i, (![main_v22, main_v19, main_v21] : Fin 3 → Ref sig .tc) i ∉ written.drop 32) i))))
theorem at_v25 (c : Dev nD) : V m c main_v25 = (Host.negf (F := Ideal) (φ := .f32) : (⟨S2176x8, .f32⟩ : BufTy).Contents (Elt Ideal) → (⟨S2176x8, .f32⟩ : BufTy).Contents (Elt Ideal)) (V m c main_v19) :=
  (op_val m c 33 _ rfl main_v25 (by decide)).trans ((StableHlo.unary_result ..).trans (congrArg (Host.negf (F := Ideal) (φ := .f32) : (⟨S2176x8, .f32⟩ : BufTy).Contents (Elt Ideal) → (⟨S2176x8, .f32⟩ : BufTy).Contents (Elt Ideal)) (keep m c 33 main_v19 (by decide))))
theorem at_v26 (c : Dev nD) : V m c main_v26 = (concatenate S2176x64 1 [⟨S2176x8, (V m c main_v25 : (⟨S2176x8, .f32⟩ : BufTy).Contents (Elt Ideal))⟩, ⟨S2176x8, (V m c main_v22 : (⟨S2176x8, .f32⟩ : BufTy).Contents (Elt Ideal))⟩, ⟨S2176x48, (V m c main_v21 : (⟨S2176x48, .f32⟩ : BufTy).Contents (Elt Ideal))⟩] concatenates_S2176x8_S2176x8_S2176x48_S2176x64_d1 : (⟨S2176x64, .f32⟩ : BufTy).Contents (Elt Ideal)) :=
  (op_val m c 34 _ rfl main_v26 (by decide)).trans ((StableHlo.nary_result ..).trans (congrArg (fun u : (k : Fin 3) → ((![main_v25, main_v22, main_v21] : Fin 3 → Ref sig .tc) k).ty.Contents (Elt Ideal) => (concatenate S2176x64 1 [⟨S2176x8, (u 0 : (⟨S2176x8, .f32⟩ : BufTy).Contents (Elt Ideal))⟩, ⟨S2176x8, (u 1 : (⟨S2176x8, .f32⟩ : BufTy).Contents (Elt Ideal))⟩, ⟨S2176x48, (u 2 : (⟨S2176x48, .f32⟩ : BufTy).Contents (Elt Ideal))⟩] concatenates_S2176x8_S2176x8_S2176x48_S2176x64_d1 : (⟨S2176x64, .f32⟩ : BufTy).Contents (Elt Ideal))) (funext fun i => keep m c 34 ((![main_v25, main_v22, main_v21] : Fin 3 → Ref sig .tc) i) ((by decide : ∀ i, (![main_v25, main_v22, main_v21] : Fin 3 → Ref sig .tc) i ∉ written.drop 34) i))))
theorem at_v27 (c : Dev nD) : V m c main_v27 = ((fun a b => concatenate S2176x128 1 [⟨S2176x64, a⟩, ⟨S2176x64, b⟩] concatenates_S2176x64_S2176x64_S2176x128_d1) : (⟨S2176x64, .f32⟩ : BufTy).Contents (Elt Ideal) → (⟨S2176x64, .f32⟩ : BufTy).Contents (Elt Ideal) → (⟨S2176x128, .f32⟩ : BufTy).Contents (Elt Ideal)) (V m c main_v23) (V m c main_v23) :=
  (op_val m c 35 _ rfl main_v27 (by decide)).trans ((StableHlo.binary_result ..).trans (congrArg₂ ((fun a b => concatenate S2176x128 1 [⟨S2176x64, a⟩, ⟨S2176x64, b⟩] concatenates_S2176x64_S2176x64_S2176x128_d1) : (⟨S2176x64, .f32⟩ : BufTy).Contents (Elt Ideal) → (⟨S2176x64, .f32⟩ : BufTy).Contents (Elt Ideal) → (⟨S2176x128, .f32⟩ : BufTy).Contents (Elt Ideal)) (keep m c 35 main_v23 (by decide)) (keep m c 35 main_v23 (by decide))))
theorem at_v28 (c : Dev nD) : V m c main_v28 = shapeCast S1x2176x1x128 (V m c main_v27) shapeCasts_S2176x128_S1x2176x1x128 :=
  (op_val m c 36 _ rfl main_v28 (by decide)).trans ((StableHlo.reshape_result ..).trans (congrArg (fun z => shapeCast S1x2176x1x128 z shapeCasts_S2176x128_S1x2176x1x128) (keep m c 36 main_v27 (by decide))))
theorem at_v29 (c : Dev nD) : V m c main_v29 = (broadcastInDim S4x2176x1x128 ![0, 1, 2, 3] bcast_S1x2176x1x128_S4x2176x1x128_0_1_2_3 : (⟨S1x2176x1x128, .f32⟩ : BufTy).Contents (Elt Ideal) → (⟨S4x2176x1x128, .f32⟩ : BufTy).Contents (Elt Ideal)) (V m c main_v28) :=
  (op_val m c 37 _ rfl main_v29 (by decide)).trans ((StableHlo.unary_result ..).trans (congrArg (broadcastInDim S4x2176x1x128 ![0, 1, 2, 3] bcast_S1x2176x1x128_S4x2176x1x128_0_1_2_3 : (⟨S1x2176x1x128, .f32⟩ : BufTy).Contents (Elt Ideal) → (⟨S4x2176x1x128, .f32⟩ : BufTy).Contents (Elt Ideal)) (keep m c 37 main_v28 (by decide))))
theorem at_v30 (c : Dev nD) : V m c main_v30 = shapeCast S8704x128 (V m c main_v29) shapeCasts_S4x2176x1x128_S8704x128 :=
  (op_val m c 38 _ rfl main_v30 (by decide)).trans ((StableHlo.reshape_result ..).trans (congrArg (fun z => shapeCast S8704x128 z shapeCasts_S4x2176x1x128_S8704x128) (keep m c 38 main_v29 (by decide))))
theorem at_v31 (c : Dev nD) : V m c main_v31 = ((fun a b => concatenate S2176x128 1 [⟨S2176x64, a⟩, ⟨S2176x64, b⟩] concatenates_S2176x64_S2176x64_S2176x128_d1) : (⟨S2176x64, .f32⟩ : BufTy).Contents (Elt Ideal) → (⟨S2176x64, .f32⟩ : BufTy).Contents (Elt Ideal) → (⟨S2176x128, .f32⟩ : BufTy).Contents (Elt Ideal)) (V m c main_v24) (V m c main_v24) :=
  (op_val m c 39 _ rfl main_v31 (by decide)).trans ((StableHlo.binary_result ..).trans (congrArg₂ ((fun a b => concatenate S2176x128 1 [⟨S2176x64, a⟩, ⟨S2176x64, b⟩] concatenates_S2176x64_S2176x64_S2176x128_d1) : (⟨S2176x64, .f32⟩ : BufTy).Contents (Elt Ideal) → (⟨S2176x64, .f32⟩ : BufTy).Contents (Elt Ideal) → (⟨S2176x128, .f32⟩ : BufTy).Contents (Elt Ideal)) (keep m c 39 main_v24 (by decide)) (keep m c 39 main_v24 (by decide))))
theorem at_v32 (c : Dev nD) : V m c main_v32 = shapeCast S1x2176x1x128 (V m c main_v31) shapeCasts_S2176x128_S1x2176x1x128 :=
  (op_val m c 40 _ rfl main_v32 (by decide)).trans ((StableHlo.reshape_result ..).trans (congrArg (fun z => shapeCast S1x2176x1x128 z shapeCasts_S2176x128_S1x2176x1x128) (keep m c 40 main_v31 (by decide))))
theorem at_v33 (c : Dev nD) : V m c main_v33 = (broadcastInDim S4x2176x1x128 ![0, 1, 2, 3] bcast_S1x2176x1x128_S4x2176x1x128_0_1_2_3 : (⟨S1x2176x1x128, .f32⟩ : BufTy).Contents (Elt Ideal) → (⟨S4x2176x1x128, .f32⟩ : BufTy).Contents (Elt Ideal)) (V m c main_v32) :=
  (op_val m c 41 _ rfl main_v33 (by decide)).trans ((StableHlo.unary_result ..).trans (congrArg (broadcastInDim S4x2176x1x128 ![0, 1, 2, 3] bcast_S1x2176x1x128_S4x2176x1x128_0_1_2_3 : (⟨S1x2176x1x128, .f32⟩ : BufTy).Contents (Elt Ideal) → (⟨S4x2176x1x128, .f32⟩ : BufTy).Contents (Elt Ideal)) (keep m c 41 main_v32 (by decide))))
theorem at_v34 (c : Dev nD) : V m c main_v34 = shapeCast S8704x128 (V m c main_v33) shapeCasts_S4x2176x1x128_S8704x128 :=
  (op_val m c 42 _ rfl main_v34 (by decide)).trans ((StableHlo.reshape_result ..).trans (congrArg (fun z => shapeCast S8704x128 z shapeCasts_S4x2176x1x128_S8704x128) (keep m c 42 main_v33 (by decide))))
theorem at_v35 (c : Dev nD) : V m c main_v35 = ((fun a b => concatenate S2176x128 1 [⟨S2176x64, a⟩, ⟨S2176x64, b⟩] concatenates_S2176x64_S2176x64_S2176x128_d1) : (⟨S2176x64, .f32⟩ : BufTy).Contents (Elt Ideal) → (⟨S2176x64, .f32⟩ : BufTy).Contents (Elt Ideal) → (⟨S2176x128, .f32⟩ : BufTy).Contents (Elt Ideal)) (V m c main_v26) (V m c main_v26) :=
  (op_val m c 43 _ rfl main_v35 (by decide)).trans ((StableHlo.binary_result ..).trans (congrArg₂ ((fun a b => concatenate S2176x128 1 [⟨S2176x64, a⟩, ⟨S2176x64, b⟩] concatenates_S2176x64_S2176x64_S2176x128_d1) : (⟨S2176x64, .f32⟩ : BufTy).Contents (Elt Ideal) → (⟨S2176x64, .f32⟩ : BufTy).Contents (Elt Ideal) → (⟨S2176x128, .f32⟩ : BufTy).Contents (Elt Ideal)) (keep m c 43 main_v26 (by decide)) (keep m c 43 main_v26 (by decide))))
theorem at_v36 (c : Dev nD) : V m c main_v36 = shapeCast S1x2176x1x128 (V m c main_v35) shapeCasts_S2176x128_S1x2176x1x128 :=
  (op_val m c 44 _ rfl main_v36 (by decide)).trans ((StableHlo.reshape_result ..).trans (congrArg (fun z => shapeCast S1x2176x1x128 z shapeCasts_S2176x128_S1x2176x1x128) (keep m c 44 main_v35 (by decide))))
theorem at_v37 (c : Dev nD) : V m c main_v37 = (broadcastInDim S4x2176x1x128 ![0, 1, 2, 3] bcast_S1x2176x1x128_S4x2176x1x128_0_1_2_3 : (⟨S1x2176x1x128, .f32⟩ : BufTy).Contents (Elt Ideal) → (⟨S4x2176x1x128, .f32⟩ : BufTy).Contents (Elt Ideal)) (V m c main_v36) :=
  (op_val m c 45 _ rfl main_v37 (by decide)).trans ((StableHlo.unary_result ..).trans (congrArg (broadcastInDim S4x2176x1x128 ![0, 1, 2, 3] bcast_S1x2176x1x128_S4x2176x1x128_0_1_2_3 : (⟨S1x2176x1x128, .f32⟩ : BufTy).Contents (Elt Ideal) → (⟨S4x2176x1x128, .f32⟩ : BufTy).Contents (Elt Ideal)) (keep m c 45 main_v36 (by decide))))
theorem at_v38 (c : Dev nD) : V m c main_v38 = shapeCast S8704x128 (V m c main_v37) shapeCasts_S4x2176x1x128_S8704x128 :=
  (op_val m c 46 _ rfl main_v38 (by decide)).trans ((StableHlo.reshape_result ..).trans (congrArg (fun z => shapeCast S8704x128 z shapeCasts_S4x2176x1x128_S8704x128) (keep m c 46 main_v37 (by decide))))
theorem at_v39 (c : Dev nD) : V m c main_v39 = ((extractStridedSlice S1024x256 ![0, 0] · slices_S1024x3416_S1024x256_0_0) : (⟨S1024x3416, .f32⟩ : BufTy).Contents (Elt Ideal) → (⟨S1024x256, .f32⟩ : BufTy).Contents (Elt Ideal)) (V m c main_arg1) :=
  (op_val m c 47 _ rfl main_v39 (by decide)).trans ((StableHlo.unary_result ..).trans (congrArg ((extractStridedSlice S1024x256 ![0, 0] · slices_S1024x3416_S1024x256_0_0) : (⟨S1024x3416, .f32⟩ : BufTy).Contents (Elt Ideal) → (⟨S1024x256, .f32⟩ : BufTy).Contents (Elt Ideal)) (keep m c 47 main_arg1 (by decide))))
theorem at_v40 (c : Dev nD) : V m c main_v40 = ((extractStridedSlice S1024x256 ![0, 256] · slices_S1024x3416_S1024x256_0_256) : (⟨S1024x3416, .f32⟩ : BufTy).Contents (Elt Ideal) → (⟨S1024x256, .f32⟩ : BufTy).Contents (Elt Ideal)) (V m c main_arg1) :=
  (op_val m c 48 _ rfl main_v40 (by decide)).trans ((StableHlo.unary_result ..).trans (congrArg ((extractStridedSlice S1024x256 ![0, 256] · slices_S1024x3416_S1024x256_0_256) : (⟨S1024x3416, .f32⟩ : BufTy).Contents (Elt Ideal) → (⟨S1024x256, .f32⟩ : BufTy).Contents (Elt Ideal)) (keep m c 48 main_arg1 (by decide))))
theorem at_v41 (c : Dev nD) : V m c main_v41 = ((extractStridedSlice S1024x512 ![0, 512] · slices_S1024x3416_S1024x512_0_512) : (⟨S1024x3416, .f32⟩ : BufTy).Contents (Elt Ideal) → (⟨S1024x512, .f32⟩ : BufTy).Contents (Elt Ideal)) (V m c main_arg1) :=
  (op_val m c 49 _ rfl main_v41 (by decide)).trans ((StableHlo.unary_result ..).trans (congrArg ((extractStridedSlice S1024x512 ![0, 512] · slices_S1024x3416_S1024x512_0_512) : (⟨S1024x3416, .f32⟩ : BufTy).Contents (Elt Ideal) → (⟨S1024x512, .f32⟩ : BufTy).Contents (Elt Ideal)) (keep m c 49 main_arg1 (by decide))))
theorem at_v42 (c : Dev nD) : V m c main_v42 = ((extractStridedSlice S1024x16 ![0, 1024] · slices_S1024x3416_S1024x16_0_1024) : (⟨S1024x3416, .f32⟩ : BufTy).Contents (Elt Ideal) → (⟨S1024x16, .f32⟩ : BufTy).Contents (Elt Ideal)) (V m c main_arg1) :=
  (op_val m c 50 _ rfl main_v42 (by decide)).trans ((StableHlo.unary_result ..).trans (congrArg ((extractStridedSlice S1024x16 ![0, 1024] · slices_S1024x3416_S1024x16_0_1024) : (⟨S1024x3416, .f32⟩ : BufTy).Contents (Elt Ideal) → (⟨S1024x16, .f32⟩ : BufTy).Contents (Elt Ideal)) (keep m c 50 main_arg1 (by decide))))
theorem at_v43 (c : Dev nD) : V m c main_v43 = ((extractStridedSlice S1024x512 ![0, 1040] · slices_S1024x3416_S1024x512_0_1040) : (⟨S1024x3416, .f32⟩ : BufTy).Contents (Elt Ideal) → (⟨S1024x512, .f32⟩ : BufTy).Contents (Elt Ideal)) (V m c main_arg1) :=
  (op_val m c 51 _ rfl main_v43 (by decide)).trans ((StableHlo.unary_result ..).trans (congrArg ((extractStridedSlice S1024x512 ![0, 1040] · slices_S1024x3416_S1024x512_0_1040) : (⟨S1024x3416, .f32⟩ : BufTy).Contents (Elt Ideal) → (⟨S1024x512, .f32⟩ : BufTy).Contents (Elt Ideal)) (keep m c 51 main_arg1 (by decide))))
theorem at_v44 (c : Dev nD) : V m c main_v44 = ((extractStridedSlice S1024x512 ![0, 1552] · slices_S1024x3416_S1024x512_0_1552) : (⟨S1024x3416, .f32⟩ : BufTy).Contents (Elt Ideal) → (⟨S1024x512, .f32⟩ : BufTy).Contents (Elt Ideal)) (V m c main_arg1) :=
  (op_val m c 52 _ rfl main_v44 (by decide)).trans ((StableHlo.unary_result ..).trans (congrArg ((extractStridedSlice S1024x512 ![0, 1552] · slices_S1024x3416_S1024x512_0_1552) : (⟨S1024x3416, .f32⟩ : BufTy).Contents (Elt Ideal) → (⟨S1024x512, .f32⟩ : BufTy).Contents (Elt Ideal)) (keep m c 52 main_arg1 (by decide))))
theorem at_v45 (c : Dev nD) : V m c main_v45 = ((extractStridedSlice S1024x128 ![0, 2064] · slices_S1024x3416_S1024x128_0_2064) : (⟨S1024x3416, .f32⟩ : BufTy).Contents (Elt Ideal) → (⟨S1024x128, .f32⟩ : BufTy).Contents (Elt Ideal)) (V m c main_arg1) :=
  (op_val m c 53 _ rfl main_v45 (by decide)).trans ((StableHlo.unary_result ..).trans (congrArg ((extractStridedSlice S1024x128 ![0, 2064] · slices_S1024x3416_S1024x128_0_2064) : (⟨S1024x3416, .f32⟩ : BufTy).Contents (Elt Ideal) → (⟨S1024x128, .f32⟩ : BufTy).Contents (Elt Ideal)) (keep m c 53 main_arg1 (by decide))))
theorem at_v46 (c : Dev nD) : V m c main_v46 = ((extractStridedSlice S1024x128 ![0, 2192] · slices_S1024x3416_S1024x128_0_2192) : (⟨S1024x3416, .f32⟩ : BufTy).Contents (Elt Ideal) → (⟨S1024x128, .f32⟩ : BufTy).Contents (Elt Ideal)) (V m c main_arg1) :=
  (op_val m c 54 _ rfl main_v46 (by decide)).trans ((StableHlo.unary_result ..).trans (congrArg ((extractStridedSlice S1024x128 ![0, 2192] · slices_S1024x3416_S1024x128_0_2192) : (⟨S1024x3416, .f32⟩ : BufTy).Contents (Elt Ideal) → (⟨S1024x128, .f32⟩ : BufTy).Contents (Elt Ideal)) (keep m c 54 main_arg1 (by decide))))
theorem at_v47 (c : Dev nD) : V m c main_v47 = ((extractStridedSlice S1024x512 ![0, 2320] · slices_S1024x3416_S1024x512_0_2320) : (⟨S1024x3416, .f32⟩ : BufTy).Contents (Elt Ideal) → (⟨S1024x512, .f32⟩ : BufTy).Contents (Elt Ideal)) (V m c main_arg1) :=
  (op_val m c 55 _ rfl main_v47 (by decide)).trans ((StableHlo.unary_result ..).trans (congrArg ((extractStridedSlice S1024x512 ![0, 2320] · slices_S1024x3416_S1024x512_0_2320) : (⟨S1024x3416, .f32⟩ : BufTy).Contents (Elt Ideal) → (⟨S1024x512, .f32⟩ : BufTy).Contents (Elt Ideal)) (keep m c 55 main_arg1 (by decide))))
theorem at_v48 (c : Dev nD) : V m c main_v48 = ((extractStridedSlice S1024x64 ![0, 2832] · slices_S1024x3416_S1024x64_0_2832) : (⟨S1024x3416, .f32⟩ : BufTy).Contents (Elt Ideal) → (⟨S1024x64, .f32⟩ : BufTy).Contents (Elt Ideal)) (V m c main_arg1) :=
  (op_val m c 56 _ rfl main_v48 (by decide)).trans ((StableHlo.unary_result ..).trans (congrArg ((extractStridedSlice S1024x64 ![0, 2832] · slices_S1024x3416_S1024x64_0_2832) : (⟨S1024x3416, .f32⟩ : BufTy).Contents (Elt Ideal) → (⟨S1024x64, .f32⟩ : BufTy).Contents (Elt Ideal)) (keep m c 56 main_arg1 (by decide))))
theorem at_v49 (c : Dev nD) : V m c main_v49 = ((extractStridedSlice S1024x8 ![0, 2896] · slices_S1024x3416_S1024x8_0_2896) : (⟨S1024x3416, .f32⟩ : BufTy).Contents (Elt Ideal) → (⟨S1024x8, .f32⟩ : BufTy).Contents (Elt Ideal)) (V m c main_arg1) :=
  (op_val m c 57 _ rfl main_v49 (by decide)).trans ((StableHlo.unary_result ..).trans (congrArg ((extractStridedSlice S1024x8 ![0, 2896] · slices_S1024x3416_S1024x8_0_2896) : (⟨S1024x3416, .f32⟩ : BufTy).Contents (Elt Ideal) → (⟨S1024x8, .f32⟩ : BufTy).Contents (Elt Ideal)) (keep m c 57 main_arg1 (by decide))))
theorem at_v50 (c : Dev nD) : V m c main_v50 = ((extractStridedSlice S1024x512 ![0, 2904] · slices_S1024x3416_S1024x512_0_2904) : (⟨S1024x3416, .f32⟩ : BufTy).Contents (Elt Ideal) → (⟨S1024x512, .f32⟩ : BufTy).Contents (Elt Ideal)) (V m c main_arg1) :=
  (op_val m c 58 _ rfl main_v50 (by decide)).trans ((StableHlo.unary_result ..).trans (congrArg ((extractStridedSlice S1024x512 ![0, 2904] · slices_S1024x3416_S1024x512_0_2904) : (⟨S1024x3416, .f32⟩ : BufTy).Contents (Elt Ideal) → (⟨S1024x512, .f32⟩ : BufTy).Contents (Elt Ideal)) (keep m c 58 main_arg1 (by decide))))
theorem at_cst_7 (c : Dev nD) : V m c main_cst_7 = (constant (F := Ideal) S_ .f32 0x00000000#32) :=
  (op_val m c 59 _ rfl main_cst_7 (by decide)).trans (StableHlo.nullary_result ..)
theorem at_v51 (c : Dev nD) : V m c main_v51 = (broadcastInDim S1024x40 ![] bcast_S_S1024x40 : (⟨S_, .f32⟩ : BufTy).Contents (Elt Ideal) → (⟨S1024x40, .f32⟩ : BufTy).Contents (Elt Ideal)) (V m c main_cst_7) :=
  (op_val m c 60 _ rfl main_v51 (by decide)).trans ((StableHlo.unary_result ..).trans (congrArg (broadcastInDim S1024x40 ![] bcast_S_S1024x40 : (⟨S_, .f32⟩ : BufTy).Contents (Elt Ideal) → (⟨S1024x40, .f32⟩ : BufTy).Contents (Elt Ideal)) (keep m c 60 main_cst_7 (by decide))))
theorem at_cst_8 (c : Dev nD) : V m c main_cst_8 = (constant (F := Ideal) S_ .f32 0x3E000000#32) :=
  (op_val m c 61 _ rfl main_cst_8 (by decide)).trans (StableHlo.nullary_result ..)
theorem at_v52 (c : Dev nD) : V m c main_v52 = (broadcastInDim S1024x256 ![] bcast_S_S1024x256 : (⟨S_, .f32⟩ : BufTy).Contents (Elt Ideal) → (⟨S1024x256, .f32⟩ : BufTy).Contents (Elt Ideal)) (V m c main_cst_8) :=
  (op_val m c 62 _ rfl main_v52 (by decide)).trans ((StableHlo.unary_result ..).trans (congrArg (broadcastInDim S1024x256 ![] bcast_S_S1024x256 : (⟨S_, .f32⟩ : BufTy).Contents (Elt Ideal) → (⟨S1024x256, .f32⟩ : BufTy).Contents (Elt Ideal)) (keep m c 62 main_cst_8 (by decide))))
theorem at_v53 (c : Dev nD) : V m c main_v53 = (mulf (F := Ideal) (φ := .f32) : (⟨S1024x256, .f32⟩ : BufTy).Contents (Elt Ideal) → (⟨S1024x256, .f32⟩ : BufTy).Contents (Elt Ideal) → (⟨S1024x256, .f32⟩ : BufTy).Contents (Elt Ideal)) (V m c main_v39) (V m c main_v52) :=
  (op_val m c 63 _ rfl main_v53 (by decide)).trans ((StableHlo.binary_result ..).trans (congrArg₂ (mulf (F := Ideal) (φ := .f32) : (⟨S1024x256, .f32⟩ : BufTy).Contents (Elt Ideal) → (⟨S1024x256, .f32⟩ : BufTy).Contents (Elt Ideal) → (⟨S1024x256, .f32⟩ : BufTy).Contents (Elt Ideal)) (keep m c 63 main_v39 (by decide)) (keep m c 63 main_v52 (by decide))))
theorem at_v54 (c : Dev nD) : V m c main_v54 = shapeCast S1024x2x4x64 (V m c main_v44) shapeCasts_S1024x512_S1024x2x4x64 :=
  (op_val m c 64 _ rfl main_v54 (by decide)).trans ((StableHlo.reshape_result ..).trans (congrArg (fun z => shapeCast S1024x2x4x64 z shapeCasts_S1024x512_S1024x2x4x64) (keep m c 64 main_v44 (by decide))))
theorem at_v55 (c : Dev nD) : V m c main_v55 = ((transpose S1024x4x2x64 [0, 2, 1, 3] · transposes_S1024x2x4x64_S1024x4x2x64_0_2_1_3) : (⟨S1024x2x4x64, .f32⟩ : BufTy).Contents (Elt Ideal) → (⟨S1024x4x2x64, .f32⟩ : BufTy).Contents (Elt Ideal)) (V m c main_v54) :=
  (op_val m c 65 _ rfl main_v55 (by decide)).trans ((StableHlo.unary_result ..).trans (congrArg ((transpose S1024x4x2x64 [0, 2, 1, 3] · transposes_S1024x2x4x64_S1024x4x2x64_0_2_1_3) : (⟨S1024x2x4x64, .f32⟩ : BufTy).Contents (Elt Ideal) → (⟨S1024x4x2x64, .f32⟩ : BufTy).Contents (Elt Ideal)) (keep m c 65 main_v54 (by decide))))
theorem at_v56 (c : Dev nD) : V m c main_v56 = shapeCast S1024x512 (V m c main_v55) shapeCasts_S1024x4x2x64_S1024x512 :=
  (op_val m c 66 _ rfl main_v56 (by decide)).trans ((StableHlo.reshape_result ..).trans (congrArg (fun z => shapeCast S1024x512 z shapeCasts_S1024x4x2x64_S1024x512) (keep m c 66 main_v55 (by decide))))
theorem at_cst_9 (c : Dev nD) : V m c main_cst_9 = (constant (F := Ideal) S_ .f32 0x3E000000#32) :=
  (op_val m c 67 _ rfl main_cst_9 (by decide)).trans (StableHlo.nullary_result ..)
theorem at_v57 (c : Dev nD) : V m c main_v57 = (broadcastInDim S1024x512 ![] bcast_S_S1024x512 : (⟨S_, .f32⟩ : BufTy).Contents (Elt Ideal) → (⟨S1024x512, .f32⟩ : BufTy).Contents (Elt Ideal)) (V m c main_cst_9) :=
  (op_val m c 68 _ rfl main_v57 (by decide)).trans ((StableHlo.unary_result ..).trans (congrArg (broadcastInDim S1024x512 ![] bcast_S_S1024x512 : (⟨S_, .f32⟩ : BufTy).Contents (Elt Ideal) → (⟨S1024x512, .f32⟩ : BufTy).Contents (Elt Ideal)) (keep m c 68 main_cst_9 (by decide))))
theorem at_v58 (c : Dev nD) : V m c main_v58 = (mulf (F := Ideal) (φ := .f32) : (⟨S1024x512, .f32⟩ : BufTy).Contents (Elt Ideal) → (⟨S1024x512, .f32⟩ : BufTy).Contents (Elt Ideal) → (⟨S1024x512, .f32⟩ : BufTy).Contents (Elt Ideal)) (V m c main_v56) (V m c main_v57) :=
  (op_val m c 69 _ rfl main_v58 (by decide)).trans ((StableHlo.binary_result ..).trans (congrArg₂ (mulf (F := Ideal) (φ := .f32) : (⟨S1024x512, .f32⟩ : BufTy).Contents (Elt Ideal) → (⟨S1024x512, .f32⟩ : BufTy).Contents (Elt Ideal) → (⟨S1024x512, .f32⟩ : BufTy).Contents (Elt Ideal)) (keep m c 69 main_v56 (by decide)) (keep m c 69 main_v57 (by decide))))
theorem at_cst_10 (c : Dev nD) : V m c main_cst_10 = (constant (F := Ideal) S_ .f32 0x3E000000#32) :=
  (op_val m c 70 _ rfl main_cst_10 (by decide)).trans (StableHlo.nullary_result ..)
theorem at_v59 (c : Dev nD) : V m c main_v59 = (broadcastInDim S1024x512 ![] bcast_S_S1024x512 : (⟨S_, .f32⟩ : BufTy).Contents (Elt Ideal) → (⟨S1024x512, .f32⟩ : BufTy).Contents (Elt Ideal)) (V m c main_cst_10) :=
  (op_val m c 71 _ rfl main_v59 (by decide)).trans ((StableHlo.unary_result ..).trans (congrArg (broadcastInDim S1024x512 ![] bcast_S_S1024x512 : (⟨S_, .f32⟩ : BufTy).Contents (Elt Ideal) → (⟨S1024x512, .f32⟩ : BufTy).Contents (Elt Ideal)) (keep m c 71 main_cst_10 (by decide))))
theorem at_v60 (c : Dev nD) : V m c main_v60 = (mulf (F := Ideal) (φ := .f32) : (⟨S1024x512, .f32⟩ : BufTy).Contents (Elt Ideal) → (⟨S1024x512, .f32⟩ : BufTy).Contents (Elt Ideal) → (⟨S1024x512, .f32⟩ : BufTy).Contents (Elt Ideal)) (V m c main_v47) (V m c main_v59) :=
  (op_val m c 72 _ rfl main_v60 (by decide)).trans ((StableHlo.binary_result ..).trans (congrArg₂ (mulf (F := Ideal) (φ := .f32) : (⟨S1024x512, .f32⟩ : BufTy).Contents (Elt Ideal) → (⟨S1024x512, .f32⟩ : BufTy).Contents (Elt Ideal) → (⟨S1024x512, .f32⟩ : BufTy).Contents (Elt Ideal)) (keep m c 72 main_v47 (by decide)) (keep m c 72 main_v59 (by decide))))
theorem at_v61 (c : Dev nD) : V m c main_v61 = ((truncf (F := Ideal) (φ := .f32) .bf16 · bitsLt_bf16_f32) : (⟨S1024x256, .f32⟩ : BufTy).Contents (Elt Ideal) → (⟨S1024x256, .bf16⟩ : BufTy).Contents (Elt Ideal)) (V m c main_v53) :=
  (op_val m c 73 _ rfl main_v61 (by decide)).trans ((StableHlo.unary_result ..).trans (congrArg ((truncf (F := Ideal) (φ := .f32) .bf16 · bitsLt_bf16_f32) : (⟨S1024x256, .f32⟩ : BufTy).Contents (Elt Ideal) → (⟨S1024x256, .bf16⟩ : BufTy).Contents (Elt Ideal)) (keep m c 73 main_v53 (by decide))))
theorem at_v62 (c : Dev nD) : V m c main_v62 = ((truncf (F := Ideal) (φ := .f32) .bf16 · bitsLt_bf16_f32) : (⟨S1024x256, .f32⟩ : BufTy).Contents (Elt Ideal) → (⟨S1024x256, .bf16⟩ : BufTy).Contents (Elt Ideal)) (V m c main_v40) :=
  (op_val m c 74 _ rfl main_v62 (by decide)).trans ((StableHlo.unary_result ..).trans (congrArg ((truncf (F := Ideal) (φ := .f32) .bf16 · bitsLt_bf16_f32) : (⟨S1024x256, .f32⟩ : BufTy).Contents (Elt Ideal) → (⟨S1024x256, .bf16⟩ : BufTy).Contents (Elt Ideal)) (keep m c 74 main_v40 (by decide))))
theorem at_v63 (c : Dev nD) : V m c main_v63 = ((truncf (F := Ideal) (φ := .f32) .bf16 · bitsLt_bf16_f32) : (⟨S1024x512, .f32⟩ : BufTy).Contents (Elt Ideal) → (⟨S1024x512, .bf16⟩ : BufTy).Contents (Elt Ideal)) (V m c main_v41) :=
  (op_val m c 75 _ rfl main_v63 (by decide)).trans ((StableHlo.unary_result ..).trans (congrArg ((truncf (F := Ideal) (φ := .f32) .bf16 · bitsLt_bf16_f32) : (⟨S1024x512, .f32⟩ : BufTy).Contents (Elt Ideal) → (⟨S1024x512, .bf16⟩ : BufTy).Contents (Elt Ideal)) (keep m c 75 main_v41 (by decide))))
theorem at_v64 (c : Dev nD) : V m c main_v64 = ((truncf (F := Ideal) (φ := .f32) .bf16 · bitsLt_bf16_f32) : (⟨S1024x512, .f32⟩ : BufTy).Contents (Elt Ideal) → (⟨S1024x512, .bf16⟩ : BufTy).Contents (Elt Ideal)) (V m c main_v43) :=
  (op_val m c 76 _ rfl main_v64 (by decide)).trans ((StableHlo.unary_result ..).trans (congrArg ((truncf (F := Ideal) (φ := .f32) .bf16 · bitsLt_bf16_f32) : (⟨S1024x512, .f32⟩ : BufTy).Contents (Elt Ideal) → (⟨S1024x512, .bf16⟩ : BufTy).Contents (Elt Ideal)) (keep m c 76 main_v43 (by decide))))
theorem at_v65 (c : Dev nD) : V m c main_v65 = ((truncf (F := Ideal) (φ := .f32) .bf16 · bitsLt_bf16_f32) : (⟨S1024x512, .f32⟩ : BufTy).Contents (Elt Ideal) → (⟨S1024x512, .bf16⟩ : BufTy).Contents (Elt Ideal)) (V m c main_v58) :=
  (op_val m c 77 _ rfl main_v65 (by decide)).trans ((StableHlo.unary_result ..).trans (congrArg ((truncf (F := Ideal) (φ := .f32) .bf16 · bitsLt_bf16_f32) : (⟨S1024x512, .f32⟩ : BufTy).Contents (Elt Ideal) → (⟨S1024x512, .bf16⟩ : BufTy).Contents (Elt Ideal)) (keep m c 77 main_v58 (by decide))))
theorem at_v66 (c : Dev nD) : V m c main_v66 = ((truncf (F := Ideal) (φ := .f32) .bf16 · bitsLt_bf16_f32) : (⟨S1024x128, .f32⟩ : BufTy).Contents (Elt Ideal) → (⟨S1024x128, .bf16⟩ : BufTy).Contents (Elt Ideal)) (V m c main_v45) :=
  (op_val m c 78 _ rfl main_v66 (by decide)).trans ((StableHlo.unary_result ..).trans (congrArg ((truncf (F := Ideal) (φ := .f32) .bf16 · bitsLt_bf16_f32) : (⟨S1024x128, .f32⟩ : BufTy).Contents (Elt Ideal) → (⟨S1024x128, .bf16⟩ : BufTy).Contents (Elt Ideal)) (keep m c 78 main_v45 (by decide))))
theorem at_v67 (c : Dev nD) : V m c main_v67 = ((truncf (F := Ideal) (φ := .f32) .bf16 · bitsLt_bf16_f32) : (⟨S1024x128, .f32⟩ : BufTy).Contents (Elt Ideal) → (⟨S1024x128, .bf16⟩ : BufTy).Contents (Elt Ideal)) (V m c main_v46) :=
  (op_val m c 79 _ rfl main_v67 (by decide)).trans ((StableHlo.unary_result ..).trans (congrArg ((truncf (F := Ideal) (φ := .f32) .bf16 · bitsLt_bf16_f32) : (⟨S1024x128, .f32⟩ : BufTy).Contents (Elt Ideal) → (⟨S1024x128, .bf16⟩ : BufTy).Contents (Elt Ideal)) (keep m c 79 main_v46 (by decide))))
theorem at_v68 (c : Dev nD) : V m c main_v68 = ((truncf (F := Ideal) (φ := .f32) .bf16 · bitsLt_bf16_f32) : (⟨S1024x512, .f32⟩ : BufTy).Contents (Elt Ideal) → (⟨S1024x512, .bf16⟩ : BufTy).Contents (Elt Ideal)) (V m c main_v60) :=
  (op_val m c 80 _ rfl main_v68 (by decide)).trans ((StableHlo.unary_result ..).trans (congrArg ((truncf (F := Ideal) (φ := .f32) .bf16 · bitsLt_bf16_f32) : (⟨S1024x512, .f32⟩ : BufTy).Contents (Elt Ideal) → (⟨S1024x512, .bf16⟩ : BufTy).Contents (Elt Ideal)) (keep m c 80 main_v60 (by decide))))
theorem at_v69 (c : Dev nD) : V m c main_v69 = ((truncf (F := Ideal) (φ := .f32) .bf16 · bitsLt_bf16_f32) : (⟨S1024x512, .f32⟩ : BufTy).Contents (Elt Ideal) → (⟨S1024x512, .bf16⟩ : BufTy).Contents (Elt Ideal)) (V m c main_v50) :=
  (op_val m c 81 _ rfl main_v69 (by decide)).trans ((StableHlo.unary_result ..).trans (congrArg ((truncf (F := Ideal) (φ := .f32) .bf16 · bitsLt_bf16_f32) : (⟨S1024x512, .f32⟩ : BufTy).Contents (Elt Ideal) → (⟨S1024x512, .bf16⟩ : BufTy).Contents (Elt Ideal)) (keep m c 81 main_v50 (by decide))))
theorem at_v70 (c : Dev nD) : V m c main_v70 = ((truncf (F := Ideal) (φ := .f32) .bf16 · bitsLt_bf16_f32) : (⟨S1024x64, .f32⟩ : BufTy).Contents (Elt Ideal) → (⟨S1024x64, .bf16⟩ : BufTy).Contents (Elt Ideal)) (V m c main_v48) :=
  (op_val m c 82 _ rfl main_v70 (by decide)).trans ((StableHlo.unary_result ..).trans (congrArg ((truncf (F := Ideal) (φ := .f32) .bf16 · bitsLt_bf16_f32) : (⟨S1024x64, .f32⟩ : BufTy).Contents (Elt Ideal) → (⟨S1024x64, .bf16⟩ : BufTy).Contents (Elt Ideal)) (keep m c 82 main_v48 (by decide))))
theorem at_v71 (c : Dev nD) : V m c main_v71 = ((truncf (F := Ideal) (φ := .f32) .bf16 · bitsLt_bf16_f32) : (⟨S1024x16, .f32⟩ : BufTy).Contents (Elt Ideal) → (⟨S1024x16, .bf16⟩ : BufTy).Contents (Elt Ideal)) (V m c main_v42) :=
  (op_val m c 83 _ rfl main_v71 (by decide)).trans ((StableHlo.unary_result ..).trans (congrArg ((truncf (F := Ideal) (φ := .f32) .bf16 · bitsLt_bf16_f32) : (⟨S1024x16, .f32⟩ : BufTy).Contents (Elt Ideal) → (⟨S1024x16, .bf16⟩ : BufTy).Contents (Elt Ideal)) (keep m c 83 main_v42 (by decide))))
theorem at_v72 (c : Dev nD) : V m c main_v72 = ((truncf (F := Ideal) (φ := .f32) .bf16 · bitsLt_bf16_f32) : (⟨S1024x8, .f32⟩ : BufTy).Contents (Elt Ideal) → (⟨S1024x8, .bf16⟩ : BufTy).Contents (Elt Ideal)) (V m c main_v49) :=
  (op_val m c 84 _ rfl main_v72 (by decide)).trans ((StableHlo.unary_result ..).trans (congrArg ((truncf (F := Ideal) (φ := .f32) .bf16 · bitsLt_bf16_f32) : (⟨S1024x8, .f32⟩ : BufTy).Contents (Elt Ideal) → (⟨S1024x8, .bf16⟩ : BufTy).Contents (Elt Ideal)) (keep m c 84 main_v49 (by decide))))
theorem at_v73 (c : Dev nD) : V m c main_v73 = ((truncf (F := Ideal) (φ := .f32) .bf16 · bitsLt_bf16_f32) : (⟨S1024x40, .f32⟩ : BufTy).Contents (Elt Ideal) → (⟨S1024x40, .bf16⟩ : BufTy).Contents (Elt Ideal)) (V m c main_v51) :=
  (op_val m c 85 _ rfl main_v73 (by decide)).trans ((StableHlo.unary_result ..).trans (congrArg ((truncf (F := Ideal) (φ := .f32) .bf16 · bitsLt_bf16_f32) : (⟨S1024x40, .f32⟩ : BufTy).Contents (Elt Ideal) → (⟨S1024x40, .bf16⟩ : BufTy).Contents (Elt Ideal)) (keep m c 85 main_v51 (by decide))))
theorem at_v74 (c : Dev nD) : V m c main_v74 = (concatenate S1024x3456 1 [⟨S1024x256, (V m c main_v61 : (⟨S1024x256, .bf16⟩ : BufTy).Contents (Elt Ideal))⟩, ⟨S1024x256, (V m c main_v62 : (⟨S1024x256, .bf16⟩ : BufTy).Contents (Elt Ideal))⟩, ⟨S1024x512, (V m c main_v63 : (⟨S1024x512, .bf16⟩ : BufTy).Contents (Elt Ideal))⟩, ⟨S1024x512, (V m c main_v64 : (⟨S1024x512, .bf16⟩ : BufTy).Contents (Elt Ideal))⟩, ⟨S1024x512, (V m c main_v65 : (⟨S1024x512, .bf16⟩ : BufTy).Contents (Elt Ideal))⟩, ⟨S1024x128, (V m c main_v66 : (⟨S1024x128, .bf16⟩ : BufTy).Contents (Elt Ideal))⟩, ⟨S1024x128, (V m c main_v67 : (⟨S1024x128, .bf16⟩ : BufTy).Contents (Elt Ideal))⟩, ⟨S1024x512, (V m c main_v68 : (⟨S1024x512, .bf16⟩ : BufTy).Contents (Elt Ideal))⟩, ⟨S1024x512, (V m c main_v69 : (⟨S1024x512, .bf16⟩ : BufTy).Contents (Elt Ideal))⟩, ⟨S1024x64, (V m c main_v70 : (⟨S1024x64, .bf16⟩ : BufTy).Contents (Elt Ideal))⟩, ⟨S1024x16, (V m c main_v71 : (⟨S1024x16, .bf16⟩ : BufTy).Contents (Elt Ideal))⟩, ⟨S1024x8, (V m c main_v72 : (⟨S1024x8, .bf16⟩ : BufTy).Contents (Elt Ideal))⟩, ⟨S1024x40, (V m c main_v73 : (⟨S1024x40, .bf16⟩ : BufTy).Contents (Elt Ideal))⟩] concatenates_S1024x256_S1024x256_S1024x512_S1024x512_S1024x512_S1024x128_S1024x128_S1024x512_S1024x512_S1024x64_S1024x16_S1024x8_S1024x40_S1024x3456_d1 : (⟨S1024x3456, .bf16⟩ : BufTy).Contents (Elt Ideal)) :=
  (op_val m c 86 _ rfl main_v74 (by decide)).trans ((StableHlo.nary_result ..).trans (congrArg (fun u : (k : Fin 13) → ((![main_v61, main_v62, main_v63, main_v64, main_v65, main_v66, main_v67, main_v68, main_v69, main_v70, main_v71, main_v72, main_v73] : Fin 13 → Ref sig .tc) k).ty.Contents (Elt Ideal) => (concatenate S1024x3456 1 [⟨S1024x256, (u 0 : (⟨S1024x256, .bf16⟩ : BufTy).Contents (Elt Ideal))⟩, ⟨S1024x256, (u 1 : (⟨S1024x256, .bf16⟩ : BufTy).Contents (Elt Ideal))⟩, ⟨S1024x512, (u 2 : (⟨S1024x512, .bf16⟩ : BufTy).Contents (Elt Ideal))⟩, ⟨S1024x512, (u 3 : (⟨S1024x512, .bf16⟩ : BufTy).Contents (Elt Ideal))⟩, ⟨S1024x512, (u 4 : (⟨S1024x512, .bf16⟩ : BufTy).Contents (Elt Ideal))⟩, ⟨S1024x128, (u 5 : (⟨S1024x128, .bf16⟩ : BufTy).Contents (Elt Ideal))⟩, ⟨S1024x128, (u 6 : (⟨S1024x128, .bf16⟩ : BufTy).Contents (Elt Ideal))⟩, ⟨S1024x512, (u 7 : (⟨S1024x512, .bf16⟩ : BufTy).Contents (Elt Ideal))⟩, ⟨S1024x512, (u 8 : (⟨S1024x512, .bf16⟩ : BufTy).Contents (Elt Ideal))⟩, ⟨S1024x64, (u 9 : (⟨S1024x64, .bf16⟩ : BufTy).Contents (Elt Ideal))⟩, ⟨S1024x16, (u 10 : (⟨S1024x16, .bf16⟩ : BufTy).Contents (Elt Ideal))⟩, ⟨S1024x8, (u 11 : (⟨S1024x8, .bf16⟩ : BufTy).Contents (Elt Ideal))⟩, ⟨S1024x40, (u 12 : (⟨S1024x40, .bf16⟩ : BufTy).Contents (Elt Ideal))⟩] concatenates_S1024x256_S1024x256_S1024x512_S1024x512_S1024x512_S1024x128_S1024x128_S1024x512_S1024x512_S1024x64_S1024x16_S1024x8_S1024x40_S1024x3456_d1 : (⟨S1024x3456, .bf16⟩ : BufTy).Contents (Elt Ideal))) (funext fun i => keep m c 86 ((![main_v61, main_v62, main_v63, main_v64, main_v65, main_v66, main_v67, main_v68, main_v69, main_v70, main_v71, main_v72, main_v73] : Fin 13 → Ref sig .tc) i) ((by decide : ∀ i, (![main_v61, main_v62, main_v63, main_v64, main_v65, main_v66, main_v67, main_v68, main_v69, main_v70, main_v71, main_v72, main_v73] : Fin 13 → Ref sig .tc) i ∉ written.drop 86) i))))
theorem at_cst_11 (c : Dev nD) : V m c main_cst_11 = (constant (F := Ideal) S_ .f32 0x00000000#32) :=
  (op_val m c 87 _ rfl main_cst_11 (by decide)).trans (StableHlo.nullary_result ..)
theorem at_v75 (c : Dev nD) : V m c main_v75 = (broadcastInDim S128x256 ![] bcast_S_S128x256 : (⟨S_, .f32⟩ : BufTy).Contents (Elt Ideal) → (⟨S128x256, .f32⟩ : BufTy).Contents (Elt Ideal)) (V m c main_cst_11) :=
  (op_val m c 88 _ rfl main_v75 (by decide)).trans ((StableHlo.unary_result ..).trans (congrArg (broadcastInDim S128x256 ![] bcast_S_S128x256 : (⟨S_, .f32⟩ : BufTy).Contents (Elt Ideal) → (⟨S128x256, .f32⟩ : BufTy).Contents (Elt Ideal)) (keep m c 88 main_cst_11 (by decide))))
theorem at_c (c : Dev nD) : V m c main_c = (constantI S_ 32 64#32) :=
  (op_val m c 89 _ rfl main_c (by decide)).trans (StableHlo.nullary_result ..)
theorem at_v76 (c : Dev nD) : V m c main_v76 = (broadcastInDim S1 ![] bcast_S_S1 : (⟨S_, .i32⟩ : BufTy).Contents (Elt Ideal) → (⟨S1, .i32⟩ : BufTy).Contents (Elt Ideal)) (V m c main_c) :=
  (op_val m c 90 _ rfl main_v76 (by decide)).trans ((StableHlo.unary_result ..).trans (congrArg (broadcastInDim S1 ![] bcast_S_S1 : (⟨S_, .i32⟩ : BufTy).Contents (Elt Ideal) → (⟨S1, .i32⟩ : BufTy).Contents (Elt Ideal)) (keep m c 90 main_c (by decide))))
theorem at_v77 (c : Dev nD) : V m c main_v77 = ((fun x i u => Host.scatter scatter_S128x256_S1_S16x256_01_n_0_0 (fun _ b => b) x i u) : (⟨S128x256, .f32⟩ : BufTy).Contents (Elt Ideal) → (⟨S1, .i32⟩ : BufTy).Contents (Elt Ideal) → (⟨S16x256, .f32⟩ : BufTy).Contents (Elt Ideal) → (⟨S128x256, .f32⟩ : BufTy).Contents (Elt Ideal)) (V m c main_v75) (V m c main_v76) (V m c main_arg2) :=
  (op_val m c 91 _ rfl main_v77 (by decide)).trans ((StableHlo.ternary_result ..).trans (congr (congrArg₂ ((fun x i u => Host.scatter scatter_S128x256_S1_S16x256_01_n_0_0 (fun _ b => b) x i u) : (⟨S128x256, .f32⟩ : BufTy).Contents (Elt Ideal) → (⟨S1, .i32⟩ : BufTy).Contents (Elt Ideal) → (⟨S16x256, .f32⟩ : BufTy).Contents (Elt Ideal) → (⟨S128x256, .f32⟩ : BufTy).Contents (Elt Ideal)) (keep m c 91 main_v75 (by decide)) (keep m c 91 main_v76 (by decide))) (keep m c 91 main_arg2 (by decide))))
theorem at_v78 (c : Dev nD) : V m c main_v78 = ((truncf (F := Ideal) (φ := .f32) .bf16 · bitsLt_bf16_f32) : (⟨S128x256, .f32⟩ : BufTy).Contents (Elt Ideal) → (⟨S128x256, .bf16⟩ : BufTy).Contents (Elt Ideal)) (V m c main_v77) :=
  (op_val m c 92 _ rfl main_v78 (by decide)).trans ((StableHlo.unary_result ..).trans (congrArg ((truncf (F := Ideal) (φ := .f32) .bf16 · bitsLt_bf16_f32) : (⟨S128x256, .f32⟩ : BufTy).Contents (Elt Ideal) → (⟨S128x256, .bf16⟩ : BufTy).Contents (Elt Ideal)) (keep m c 92 main_v77 (by decide))))
theorem at_v79 (c : Dev nD) : V m c main_v79 = ((extf (F := Ideal) (φ := .bf16) .f32 · bitsLt_bf16_f32) : (⟨S128x256, .bf16⟩ : BufTy).Contents (Elt Ideal) → (⟨S128x256, .f32⟩ : BufTy).Contents (Elt Ideal)) (V m c main_v78) :=
  (op_val m c 93 _ rfl main_v79 (by decide)).trans ((StableHlo.unary_result ..).trans (congrArg ((extf (F := Ideal) (φ := .bf16) .f32 · bitsLt_bf16_f32) : (⟨S128x256, .bf16⟩ : BufTy).Contents (Elt Ideal) → (⟨S128x256, .f32⟩ : BufTy).Contents (Elt Ideal)) (keep m c 93 main_v78 (by decide))))
theorem at_v80 (c : Dev nD) : V m c main_v80 = (subf (F := Ideal) (φ := .f32) : (⟨S128x256, .f32⟩ : BufTy).Contents (Elt Ideal) → (⟨S128x256, .f32⟩ : BufTy).Contents (Elt Ideal) → (⟨S128x256, .f32⟩ : BufTy).Contents (Elt Ideal)) (V m c main_v77) (V m c main_v79) :=
  (op_val m c 94 _ rfl main_v80 (by decide)).trans ((StableHlo.binary_result ..).trans (congrArg₂ (subf (F := Ideal) (φ := .f32) : (⟨S128x256, .f32⟩ : BufTy).Contents (Elt Ideal) → (⟨S128x256, .f32⟩ : BufTy).Contents (Elt Ideal) → (⟨S128x256, .f32⟩ : BufTy).Contents (Elt Ideal)) (keep m c 94 main_v77 (by decide)) (keep m c 94 main_v79 (by decide))))
theorem at_v81 (c : Dev nD) : V m c main_v81 = ((truncf (F := Ideal) (φ := .f32) .bf16 · bitsLt_bf16_f32) : (⟨S128x256, .f32⟩ : BufTy).Contents (Elt Ideal) → (⟨S128x256, .bf16⟩ : BufTy).Contents (Elt Ideal)) (V m c main_v80) :=
  (op_val m c 95 _ rfl main_v81 (by decide)).trans ((StableHlo.unary_result ..).trans (congrArg ((truncf (F := Ideal) (φ := .f32) .bf16 · bitsLt_bf16_f32) : (⟨S128x256, .f32⟩ : BufTy).Contents (Elt Ideal) → (⟨S128x256, .bf16⟩ : BufTy).Contents (Elt Ideal)) (keep m c 95 main_v80 (by decide))))
theorem at_cst_12 (c : Dev nD) : V m c main_cst_12 = (constant (F := Ideal) S_ .f32 0x00000000#32) :=
  (op_val m c 96 _ rfl main_cst_12 (by decide)).trans (StableHlo.nullary_result ..)
theorem at_v82 (c : Dev nD) : V m c main_v82 = (broadcastInDim S1x128 ![] bcast_S_S1x128 : (⟨S_, .f32⟩ : BufTy).Contents (Elt Ideal) → (⟨S1x128, .f32⟩ : BufTy).Contents (Elt Ideal)) (V m c main_cst_12) :=
  (op_val m c 97 _ rfl main_v82 (by decide)).trans ((StableHlo.unary_result ..).trans (congrArg (broadcastInDim S1x128 ![] bcast_S_S1x128 : (⟨S_, .f32⟩ : BufTy).Contents (Elt Ideal) → (⟨S1x128, .f32⟩ : BufTy).Contents (Elt Ideal)) (keep m c 97 main_cst_12 (by decide))))
theorem at_c_13 (c : Dev nD) : V m c main_c_13 = (constantI S_ 32 0#32) :=
  (op_val m c 98 _ rfl main_c_13 (by decide)).trans (StableHlo.nullary_result ..)
theorem at_v83 (c : Dev nD) : V m c main_v83 = (broadcastInDim S1 ![] bcast_S_S1 : (⟨S_, .i32⟩ : BufTy).Contents (Elt Ideal) → (⟨S1, .i32⟩ : BufTy).Contents (Elt Ideal)) (V m c main_c_13) :=
  (op_val m c 99 _ rfl main_v83 (by decide)).trans ((StableHlo.unary_result ..).trans (congrArg (broadcastInDim S1 ![] bcast_S_S1 : (⟨S_, .i32⟩ : BufTy).Contents (Elt Ideal) → (⟨S1, .i32⟩ : BufTy).Contents (Elt Ideal)) (keep m c 99 main_c_13 (by decide))))
theorem at_c_14 (c : Dev nD) : V m c main_c_14 = (constantI S_ 32 0#32) :=
  (op_val m c 100 _ rfl main_c_14 (by decide)).trans (StableHlo.nullary_result ..)
theorem at_v84 (c : Dev nD) : V m c main_v84 = (broadcastInDim S1 ![] bcast_S_S1 : (⟨S_, .i32⟩ : BufTy).Contents (Elt Ideal) → (⟨S1, .i32⟩ : BufTy).Contents (Elt Ideal)) (V m c main_c_14) :=
  (op_val m c 101 _ rfl main_v84 (by decide)).trans ((StableHlo.unary_result ..).trans (congrArg (broadcastInDim S1 ![] bcast_S_S1 : (⟨S_, .i32⟩ : BufTy).Contents (Elt Ideal) → (⟨S1, .i32⟩ : BufTy).Contents (Elt Ideal)) (keep m c 101 main_c_14 (by decide))))
theorem at_v85 (c : Dev nD) : V m c main_v85 = ((fun a b => concatenate S2 0 [⟨S1, a⟩, ⟨S1, b⟩] concatenates_S1_S1_S2_d0) : (⟨S1, .i32⟩ : BufTy).Contents (Elt Ideal) → (⟨S1, .i32⟩ : BufTy).Contents (Elt Ideal) → (⟨S2, .i32⟩ : BufTy).Contents (Elt Ideal)) (V m c main_v83) (V m c main_v84) :=
  (op_val m c 102 _ rfl main_v85 (by decide)).trans ((StableHlo.binary_result ..).trans (congrArg₂ ((fun a b => concatenate S2 0 [⟨S1, a⟩, ⟨S1, b⟩] concatenates_S1_S1_S2_d0) : (⟨S1, .i32⟩ : BufTy).Contents (Elt Ideal) → (⟨S1, .i32⟩ : BufTy).Contents (Elt Ideal) → (⟨S2, .i32⟩ : BufTy).Contents (Elt Ideal)) (keep m c 102 main_v83 (by decide)) (keep m c 102 main_v84 (by decide))))
theorem at_v86 (c : Dev nD) : V m c main_v86 = ((fun x i u => Host.scatter scatter_S1x128_S2_S64_0_0_01_0 (fun _ b => b) x i u) : (⟨S1x128, .f32⟩ : BufTy).Contents (Elt Ideal) → (⟨S2, .i32⟩ : BufTy).Contents (Elt Ideal) → (⟨S64, .f32⟩ : BufTy).Contents (Elt Ideal) → (⟨S1x128, .f32⟩ : BufTy).Contents (Elt Ideal)) (V m c main_v82) (V m c main_v85) (V m c main_arg4) :=
  (op_val m c 103 _ rfl main_v86 (by decide)).trans ((StableHlo.ternary_result ..).trans (congr (congrArg₂ ((fun x i u => Host.scatter scatter_S1x128_S2_S64_0_0_01_0 (fun _ b => b) x i u) : (⟨S1x128, .f32⟩ : BufTy).Contents (Elt Ideal) → (⟨S2, .i32⟩ : BufTy).Contents (Elt Ideal) → (⟨S64, .f32⟩ : BufTy).Contents (Elt Ideal) → (⟨S1x128, .f32⟩ : BufTy).Contents (Elt Ideal)) (keep m c 103 main_v82 (by decide)) (keep m c 103 main_v85 (by decide))) (keep m c 103 main_arg4 (by decide))))
theorem at_cst_15 (c : Dev nD) : V m c main_cst_15 = (constant (F := Ideal) S_ .f32 0x00000000#32) :=
  (op_val m c 104 _ rfl main_cst_15 (by decide)).trans (StableHlo.nullary_result ..)
theorem at_v87 (c : Dev nD) : V m c main_v87 = (broadcastInDim S1x128 ![] bcast_S_S1x128 : (⟨S_, .f32⟩ : BufTy).Contents (Elt Ideal) → (⟨S1x128, .f32⟩ : BufTy).Contents (Elt Ideal)) (V m c main_cst_15) :=
  (op_val m c 105 _ rfl main_v87 (by decide)).trans ((StableHlo.unary_result ..).trans (congrArg (broadcastInDim S1x128 ![] bcast_S_S1x128 : (⟨S_, .f32⟩ : BufTy).Contents (Elt Ideal) → (⟨S1x128, .f32⟩ : BufTy).Contents (Elt Ideal)) (keep m c 105 main_cst_15 (by decide))))
theorem at_c_16 (c : Dev nD) : V m c main_c_16 = (constantI S_ 32 0#32) :=
  (op_val m c 106 _ rfl main_c_16 (by decide)).trans (StableHlo.nullary_result ..)
theorem at_v88 (c : Dev nD) : V m c main_v88 = (broadcastInDim S1 ![] bcast_S_S1 : (⟨S_, .i32⟩ : BufTy).Contents (Elt Ideal) → (⟨S1, .i32⟩ : BufTy).Contents (Elt Ideal)) (V m c main_c_16) :=
  (op_val m c 107 _ rfl main_v88 (by decide)).trans ((StableHlo.unary_result ..).trans (congrArg (broadcastInDim S1 ![] bcast_S_S1 : (⟨S_, .i32⟩ : BufTy).Contents (Elt Ideal) → (⟨S1, .i32⟩ : BufTy).Contents (Elt Ideal)) (keep m c 107 main_c_16 (by decide))))
theorem at_c_17 (c : Dev nD) : V m c main_c_17 = (constantI S_ 32 0#32) :=
  (op_val m c 108 _ rfl main_c_17 (by decide)).trans (StableHlo.nullary_result ..)
theorem at_v89 (c : Dev nD) : V m c main_v89 = (broadcastInDim S1 ![] bcast_S_S1 : (⟨S_, .i32⟩ : BufTy).Contents (Elt Ideal) → (⟨S1, .i32⟩ : BufTy).Contents (Elt Ideal)) (V m c main_c_17) :=
  (op_val m c 109 _ rfl main_v89 (by decide)).trans ((StableHlo.unary_result ..).trans (congrArg (broadcastInDim S1 ![] bcast_S_S1 : (⟨S_, .i32⟩ : BufTy).Contents (Elt Ideal) → (⟨S1, .i32⟩ : BufTy).Contents (Elt Ideal)) (keep m c 109 main_c_17 (by decide))))
theorem at_v90 (c : Dev nD) : V m c main_v90 = ((fun a b => concatenate S2 0 [⟨S1, a⟩, ⟨S1, b⟩] concatenates_S1_S1_S2_d0) : (⟨S1, .i32⟩ : BufTy).Contents (Elt Ideal) → (⟨S1, .i32⟩ : BufTy).Contents (Elt Ideal) → (⟨S2, .i32⟩ : BufTy).Contents (Elt Ideal)) (V m c main_v88) (V m c main_v89) :=
  (op_val m c 110 _ rfl main_v90 (by decide)).trans ((StableHlo.binary_result ..).trans (congrArg₂ ((fun a b => concatenate S2 0 [⟨S1, a⟩, ⟨S1, b⟩] concatenates_S1_S1_S2_d0) : (⟨S1, .i32⟩ : BufTy).Contents (Elt Ideal) → (⟨S1, .i32⟩ : BufTy).Contents (Elt Ideal) → (⟨S2, .i32⟩ : BufTy).Contents (Elt Ideal)) (keep m c 110 main_v88 (by decide)) (keep m c 110 main_v89 (by decide))))
theorem at_v91 (c : Dev nD) : V m c main_v91 = ((fun x i u => Host.scatter scatter_S1x128_S2_S64_0_0_01_0 (fun _ b => b) x i u) : (⟨S1x128, .f32⟩ : BufTy).Contents (Elt Ideal) → (⟨S2, .i32⟩ : BufTy).Contents (Elt Ideal) → (⟨S64, .f32⟩ : BufTy).Contents (Elt Ideal) → (⟨S1x128, .f32⟩ : BufTy).Contents (Elt Ideal)) (V m c main_v87) (V m c main_v90) (V m c main_arg5) :=
  (op_val m c 111 _ rfl main_v91 (by decide)).trans ((StableHlo.ternary_result ..).trans (congr (congrArg₂ ((fun x i u => Host.scatter scatter_S1x128_S2_S64_0_0_01_0 (fun _ b => b) x i u) : (⟨S1x128, .f32⟩ : BufTy).Contents (Elt Ideal) → (⟨S2, .i32⟩ : BufTy).Contents (Elt Ideal) → (⟨S64, .f32⟩ : BufTy).Contents (Elt Ideal) → (⟨S1x128, .f32⟩ : BufTy).Contents (Elt Ideal)) (keep m c 111 main_v87 (by decide)) (keep m c 111 main_v90 (by decide))) (keep m c 111 main_arg5 (by decide))))
theorem at_v92 (c : Dev nD) : V m c main_v92 = shapeCast S17408x1024 (V m c main_arg0) shapeCasts_S8x2176x1024_S17408x1024 :=
  (op_val m c 112 _ rfl main_v92 (by decide)).trans ((StableHlo.reshape_result ..).trans (congrArg (fun z => shapeCast S17408x1024 z shapeCasts_S8x2176x1024_S17408x1024) (keep m c 112 main_arg0 (by decide))))
theorem at_v93 (c : Dev nD) : V m c main_v93 = shapeCast S1x256 (V m c main_arg3) shapeCasts_S256_S1x256 :=
  (op_val m c 113 _ rfl main_v93 (by decide)).trans ((StableHlo.reshape_result ..).trans (congrArg (fun z => shapeCast S1x256 z shapeCasts_S256_S1x256) (keep m c 113 main_arg3 (by decide))))
theorem at_arg0 (c : Dev nD) : V m c main_arg0 = m ((c.tc : Thread nD τ).loc main_arg0) := (keep m c 0 main_arg0 (by decide)).symm
theorem at_arg1 (c : Dev nD) : V m c main_arg1 = m ((c.tc : Thread nD τ).loc main_arg1) := (keep m c 0 main_arg1 (by decide)).symm
theorem at_arg2 (c : Dev nD) : V m c main_arg2 = m ((c.tc : Thread nD τ).loc main_arg2) := (keep m c 0 main_arg2 (by decide)).symm
theorem at_arg3 (c : Dev nD) : V m c main_arg3 = m ((c.tc : Thread nD τ).loc main_arg3) := (keep m c 0 main_arg3 (by decide)).symm
theorem at_arg4 (c : Dev nD) : V m c main_arg4 = m ((c.tc : Thread nD τ).loc main_arg4) := (keep m c 0 main_arg4 (by decide)).symm
theorem at_arg5 (c : Dev nD) : V m c main_arg5 = m ((c.tc : Thread nD τ).loc main_arg5) := (keep m c 0 main_arg5 (by decide)).symm

end Cert.Kernel2Ideal.KerValue
-- ==== Proof.InWts.lean ====
module

public import Idealize.ShloMosaic.Lib.Routing.OpsSet
public import Idealize.ShloMosaic.Lib.Routing.OpsOne
public import proofs.«01_k».proof.Proof.Gen.Kernel2Ideal.Frame
public import proofs.«01_k».proof.Proof.InRow
public import proofs.«01_k».proof.Proof.InHost
public import Idealize.ShloMosaic.Lib.Pipeline.ValueKit
public import Idealize.ShloMosaic.Lib.Pointwise

@[expose] public section

set_option maxRecDepth 16384
set_option maxHeartbeats 1000000
noncomputable section
open Idealize.ShloMosaic Idealize.ShloMosaic.TcCoe Idealize.SL.Sem

/-! The packed weights the kernel is given, entry by entry. -/
namespace Cert.Kernel2Ideal.KerValue
open Cert.Kernel2Ideal Cert.Kernel2Ideal.Gen
variable (m : (ℓ : Loc nD τ sig) → Buf (Elt Ideal) ℓ)

theorem lands_mid (idx : IVec S1 32) (hidx : (idx (ValueIdx.ix1 0)).toInt = 64) (q : Fin 16) (r : Fin 256) (k : Fin 128) (j : Fin 256) :
    scatter_S128x256_S1_S16x256_01_n_0_0.resultIdx? (ValueIdx.ix2 q r) idx = some (ValueIdx.ix2 k j) ↔ k.val = 64 + q.val ∧ j = r := by
  have w0 : scatter_S128x256_S1_S16x256_01_n_0_0.window (ValueIdx.ix2 q r) 0 = q.val := rfl
  have w1 : scatter_S128x256_S1_S16x256_01_n_0_0.window (ValueIdx.ix2 q r) 1 = r.val := rfl
  have s1 : scatter_S128x256_S1_S16x256_01_n_0_0.start (ValueIdx.ix2 q r) idx 1 = 0 := rfl
  have s0 : scatter_S128x256_S1_S16x256_01_n_0_0.start (ValueIdx.ix2 q r) idx 0 = 64 := by
    refine Eq.trans ?_ hidx
    unfold ScatterDims.start
    rw [dif_pos (by exact List.mem_singleton.2 rfl)]
    congr 2
    funext b
    match b with
    | ⟨0, _⟩ => exact Subsingleton.elim (α := Fin 1) _ _
  rw [Fin.ext_iff, Routing.resultIdx?_ix2, s0, w0, s1, w1]
  omega

theorem scatter_mid (x : FVec Ideal S128x256 .f32) (idx : IVec S1 32) (hidx : (idx (ValueIdx.ix1 0)).toInt = 64) (w : FVec Ideal S16x256 .f32) (k : Fin 128) (j : Fin 256) :
    Host.scatter scatter_S128x256_S1_S16x256_01_n_0_0 (fun _ b => b) x idx w (ValueIdx.ix2 k j) = if h : 64 ≤ k.val ∧ k.val < 80 then w (ValueIdx.ix2 ⟨k.val - 64, by omega⟩ j) else x (ValueIdx.ix2 k j) := by
  by_cases h : 64 ≤ k.val ∧ k.val < 80
  · rw [dif_pos h]
    refine Routing.scatter_set_hit _ x idx w _ _ (fun q hq => ?_) (ValueIdx.ix2 ⟨k.val - 64, by omega⟩ j) ((lands_mid idx hidx _ _ k j).2 ⟨by dsimp only; omega, rfl⟩)
    rw [ValueIdx.eq_ix2 q] at hq ⊢
    obtain ⟨h1, h2⟩ := (lands_mid idx hidx (q 0) (q 1) k j).1 hq
    exact congrArg₂ (fun a b => w (ValueIdx.ix2 a b)) (Fin.ext (by dsimp only; omega)) h2.symm
  · rw [dif_neg h]
    refine Routing.scatter_set_miss _ x idx w _ fun q hq => h ?_
    rw [ValueIdx.eq_ix2 q] at hq
    have h1 := ((lands_mid idx hidx (q 0) (q 1) k j).1 hq).1
    have h3 : (q 0).val < 16 := (q 0).isLt
    omega

theorem lands_lane (idx : IVec S2 32) (h0 : (idx (ValueIdx.ix1 0)).toInt = 0) (h1 : (idx (ValueIdx.ix1 1)).toInt = 0) (q : Fin 64) (k : Fin 1) (j : Fin 128) :
    scatter_S1x128_S2_S64_0_0_01_0.resultIdx? (ValueIdx.ix1 q) idx = some (ValueIdx.ix2 k j) ↔ j.val = q.val := by
  have w0 : scatter_S1x128_S2_S64_0_0_01_0.window (ValueIdx.ix1 q) 0 = 0 := rfl
  have w1 : scatter_S1x128_S2_S64_0_0_01_0.window (ValueIdx.ix1 q) 1 = q.val := rfl
  rw [Routing.resultIdx?_ix2, Routing.start_pair _ rfl rfl, Routing.start_pair _ rfl rfl, w0, w1, h0, h1]
  omega

theorem scatter_lane (x : FVec Ideal S1x128 .f32) (idx : IVec S2 32) (h0 : (idx (ValueIdx.ix1 0)).toInt = 0) (h1 : (idx (ValueIdx.ix1 1)).toInt = 0) (w : FVec Ideal S64 .f32) (k : Fin 1) (j : Fin 128) :
    Host.scatter scatter_S1x128_S2_S64_0_0_01_0 (fun _ b => b) x idx w (ValueIdx.ix2 k j) = if h : j.val < 64 then w (ValueIdx.ix1 ⟨j.val, h⟩) else x (ValueIdx.ix2 k j) := by
  by_cases h : j.val < 64
  · rw [dif_pos h]
    refine Routing.scatter_set_hit _ x idx w _ _ (fun q hq => ?_) (ValueIdx.ix1 ⟨j.val, h⟩) ((lands_lane idx h0 h1 _ k j).2 rfl)
    rw [ValueIdx.eq_ix1 q] at hq ⊢
    exact congrArg (fun a => w (ValueIdx.ix1 a)) (Fin.ext ((lands_lane idx h0 h1 (q 0) k j).1 hq).symm)
  · rw [dif_neg h]
    refine Routing.scatter_set_miss _ x idx w _ fun q hq => h ?_
    rw [ValueIdx.eq_ix1 q] at hq
    have e := (lands_lane idx h0 h1 (q 0) k j).1 hq
    have h3 : (q 0).val < 64 := (q 0).isLt
    omega

theorem cat13_0 (a0 : FVec Ideal S1024x256 .bf16) (a1 : FVec Ideal S1024x256 .bf16) (a2 : FVec Ideal S1024x512 .bf16) (a3 : FVec Ideal S1024x512 .bf16) (a4 : FVec Ideal S1024x512 .bf16) (a5 : FVec Ideal S1024x128 .bf16) (a6 : FVec Ideal S1024x128 .bf16) (a7 : FVec Ideal S1024x512 .bf16) (a8 : FVec Ideal S1024x512 .bf16) (a9 : FVec Ideal S1024x64 .bf16) (a10 : FVec Ideal S1024x16 .bf16) (a11 : FVec Ideal S1024x8 .bf16) (a12 : FVec Ideal S1024x40 .bf16) (k : Fin 1024) (j : Fin 256) :
    concatenate S1024x3456 1 [⟨S1024x256, a0⟩, ⟨S1024x256, a1⟩, ⟨S1024x512, a2⟩, ⟨S1024x512, a3⟩, ⟨S1024x512, a4⟩, ⟨S1024x128, a5⟩, ⟨S1024x128, a6⟩, ⟨S1024x512, a7⟩, ⟨S1024x512, a8⟩, ⟨S1024x64, a9⟩, ⟨S1024x16, a10⟩, ⟨S1024x8, a11⟩, ⟨S1024x40, a12⟩] concatenates_S1024x256_S1024x256_S1024x512_S1024x512_S1024x512_S1024x128_S1024x128_S1024x512_S1024x512_S1024x64_S1024x16_S1024x8_S1024x40_S1024x3456_d1 (ix2 k ⟨j.val, by omega⟩) = a0 (ix2 k j) := by
  pointwise []
theorem v61_at (c : Dev nD) (k : Fin 1024) (j : Fin 256) : V m c main_v61 (ix2 k j) = @HMul.hMul EReal EReal EReal _ (m ((c.tc : Thread nD τ).loc main_arg1) (ix2 k ⟨j.val, by omega⟩)) InProj.eighth := by
  rw [at_v61, at_v53, at_v39, at_v52, at_cst_8, at_arg1]
  generalize m ((c.tc : Thread nD τ).loc main_arg1) = w
  pointwise [InProj.eighth]

theorem W0 (c : Dev nD) (k : Fin 1024) (j : Fin 256) : V m c main_v74 (ix2 k ⟨j.val, by omega⟩) = @HMul.hMul EReal EReal EReal _ (m ((c.tc : Thread nD τ).loc main_arg1) (ix2 k ⟨j.val, by omega⟩)) InProj.eighth :=
  (congrFun (at_v74 m c) _).trans ((cat13_0 _ _ _ _ _ _ _ _ _ _ _ _ _ k j).trans (v61_at m c k j))
theorem cat13_1 (a0 : FVec Ideal S1024x256 .bf16) (a1 : FVec Ideal S1024x256 .bf16) (a2 : FVec Ideal S1024x512 .bf16) (a3 : FVec Ideal S1024x512 .bf16) (a4 : FVec Ideal S1024x512 .bf16) (a5 : FVec Ideal S1024x128 .bf16) (a6 : FVec Ideal S1024x128 .bf16) (a7 : FVec Ideal S1024x512 .bf16) (a8 : FVec Ideal S1024x512 .bf16) (a9 : FVec Ideal S1024x64 .bf16) (a10 : FVec Ideal S1024x16 .bf16) (a11 : FVec Ideal S1024x8 .bf16) (a12 : FVec Ideal S1024x40 .bf16) (k : Fin 1024) (j : Fin 256) :
    concatenate S1024x3456 1 [⟨S1024x256, a0⟩, ⟨S1024x256, a1⟩, ⟨S1024x512, a2⟩, ⟨S1024x512, a3⟩, ⟨S1024x512, a4⟩, ⟨S1024x128, a5⟩, ⟨S1024x128, a6⟩, ⟨S1024x512, a7⟩, ⟨S1024x512, a8⟩, ⟨S1024x64, a9⟩, ⟨S1024x16, a10⟩, ⟨S1024x8, a11⟩, ⟨S1024x40, a12⟩] concatenates_S1024x256_S1024x256_S1024x512_S1024x512_S1024x512_S1024x128_S1024x128_S1024x512_S1024x512_S1024x64_S1024x16_S1024x8_S1024x40_S1024x3456_d1 (ix2 k ⟨256 + j.val, by omega⟩) = a1 (ix2 k j) := by
  pointwise []
  all_goals rw [dif_neg (by omega), dif_pos (by omega)]
  all_goals exact congrArg a1 (congrArg (ix2 k) (Fin.ext (by dsimp only; omega)))
theorem v62_at (c : Dev nD) (k : Fin 1024) (j : Fin 256) : V m c main_v62 (ix2 k j) = m ((c.tc : Thread nD τ).loc main_arg1) (ix2 k ⟨256 + j.val, by omega⟩) := by
  rw [at_v62, at_v40, at_arg1]
  generalize m ((c.tc : Thread nD τ).loc main_arg1) = w
  pointwise []

theorem W1 (c : Dev nD) (k : Fin 1024) (j : Fin 256) : V m c main_v74 (ix2 k ⟨256 + j.val, by omega⟩) = m ((c.tc : Thread nD τ).loc main_arg1) (ix2 k ⟨256 + j.val, by omega⟩) :=
  (congrFun (at_v74 m c) _).trans ((cat13_1 _ _ _ _ _ _ _ _ _ _ _ _ _ k j).trans (v62_at m c k j))
theorem cat13_2 (a0 : FVec Ideal S1024x256 .bf16) (a1 : FVec Ideal S1024x256 .bf16) (a2 : FVec Ideal S1024x512 .bf16) (a3 : FVec Ideal S1024x512 .bf16) (a4 : FVec Ideal S1024x512 .bf16) (a5 : FVec Ideal S1024x128 .bf16) (a6 : FVec Ideal S1024x128 .bf16) (a7 : FVec Ideal S1024x512 .bf16) (a8 : FVec Ideal S1024x512 .bf16) (a9 : FVec Ideal S1024x64 .bf16) (a10 : FVec Ideal S1024x16 .bf16) (a11 : FVec Ideal S1024x8 .bf16) (a12 : FVec Ideal S1024x40 .bf16) (k : Fin 1024) (j : Fin 512) :
    concatenate S1024x3456 1 [⟨S1024x256, a0⟩, ⟨S1024x256, a1⟩, ⟨S1024x512, a2⟩, ⟨S1024x512, a3⟩, ⟨S1024x512, a4⟩, ⟨S1024x128, a5⟩, ⟨S1024x128, a6⟩, ⟨S1024x512, a7⟩, ⟨S1024x512, a8⟩, ⟨S1024x64, a9⟩, ⟨S1024x16, a10⟩, ⟨S1024x8, a11⟩, ⟨S1024x40, a12⟩] concatenates_S1024x256_S1024x256_S1024x512_S1024x512_S1024x512_S1024x128_S1024x128_S1024x512_S1024x512_S1024x64_S1024x16_S1024x8_S1024x40_S1024x3456_d1 (ix2 k ⟨512 + j.val, by omega⟩) = a2 (ix2 k j) := by
  pointwise []
  all_goals rw [dif_neg (by omega), dif_neg (by omega), dif_pos (by omega)]
  all_goals exact congrArg a2 (congrArg (ix2 k) (Fin.ext (by dsimp only; omega)))
theorem v63_at (c : Dev nD) (k : Fin 1024) (j : Fin 512) : V m c main_v63 (ix2 k j) = m ((c.tc : Thread nD τ).loc main_arg1) (ix2 k ⟨512 + j.val, by omega⟩) := by
  rw [at_v63, at_v41, at_arg1]
  generalize m ((c.tc : Thread nD τ).loc main_arg1) = w
  pointwise []

theorem W2 (c : Dev nD) (k : Fin 1024) (j : Fin 512) : V m c main_v74 (ix2 k ⟨512 + j.val, by omega⟩) = m ((c.tc : Thread nD τ).loc main_arg1) (ix2 k ⟨512 + j.val, by omega⟩) :=
  (congrFun (at_v74 m c) _).trans ((cat13_2 _ _ _ _ _ _ _ _ _ _ _ _ _ k j).trans (v63_at m c k j))
theorem cat13_3 (a0 : FVec Ideal S1024x256 .bf16) (a1 : FVec Ideal S1024x256 .bf16) (a2 : FVec Ideal S1024x512 .bf16) (a3 : FVec Ideal S1024x512 .bf16) (a4 : FVec Ideal S1024x512 .bf16) (a5 : FVec Ideal S1024x128 .bf16) (a6 : FVec Ideal S1024x128 .bf16) (a7 : FVec Ideal S1024x512 .bf16) (a8 : FVec Ideal S1024x512 .bf16) (a9 : FVec Ideal S1024x64 .bf16) (a10 : FVec Ideal S1024x16 .bf16) (a11 : FVec Ideal S1024x8 .bf16) (a12 : FVec Ideal S1024x40 .bf16) (k : Fin 1024) (j : Fin 512) :
    concatenate S1024x3456 1 [⟨S1024x256, a0⟩, ⟨S1024x256, a1⟩, ⟨S1024x512, a2⟩, ⟨S1024x512, a3⟩, ⟨S1024x512, a4⟩, ⟨S1024x128, a5⟩, ⟨S1024x128, a6⟩, ⟨S1024x512, a7⟩, ⟨S1024x512, a8⟩, ⟨S1024x64, a9⟩, ⟨S1024x16, a10⟩, ⟨S1024x8, a11⟩, ⟨S1024x40, a12⟩] concatenates_S1024x256_S1024x256_S1024x512_S1024x512_S1024x512_S1024x128_S1024x128_S1024x512_S1024x512_S1024x64_S1024x16_S1024x8_S1024x40_S1024x3456_d1 (ix2 k ⟨1024 + j.val, by omega⟩) = a3 (ix2 k j) := by
  pointwise []
  all_goals rw [dif_neg (by omega), dif_neg (by omega), dif_neg (by omega), dif_pos (by omega)]
  all_goals exact congrArg a3 (congrArg (ix2 k) (Fin.ext (by dsimp only; omega)))
theorem v64_at (c : Dev nD) (k : Fin 1024) (j : Fin 512) : V m c main_v64 (ix2 k j) = m ((c.tc : Thread nD τ).loc main_arg1) (ix2 k ⟨1040 + j.val, by omega⟩) := by
  rw [at_v64, at_v43, at_arg1]
  generalize m ((c.tc : Thread nD τ).loc main_arg1) = w
  pointwise []

theorem W3 (c : Dev nD) (k : Fin 1024) (j : Fin 512) : V m c main_v74 (ix2 k ⟨1024 + j.val, by omega⟩) = m ((c.tc : Thread nD τ).loc main_arg1) (ix2 k ⟨1040 + j.val, by omega⟩) :=
  (congrFun (at_v74 m c) _).trans ((cat13_3 _ _ _ _ _ _ _ _ _ _ _ _ _ k j).trans (v64_at m c k j))
theorem cat13_4 (a0 : FVec Ideal S1024x256 .bf16) (a1 : FVec Ideal S1024x256 .bf16) (a2 : FVec Ideal S1024x512 .bf16) (a3 : FVec Ideal S1024x512 .bf16) (a4 : FVec Ideal S1024x512 .bf16) (a5 : FVec Ideal S1024x128 .bf16) (a6 : FVec Ideal S1024x128 .bf16) (a7 : FVec Ideal S1024x512 .bf16) (a8 : FVec Ideal S1024x512 .bf16) (a9 : FVec Ideal S1024x64 .bf16) (a10 : FVec Ideal S1024x16 .bf16) (a11 : FVec Ideal S1024x8 .bf16) (a12 : FVec Ideal S1024x40 .bf16) (k : Fin 1024) (j : Fin 512) :
    concatenate S1024x3456 1 [⟨S1024x256, a0⟩, ⟨S1024x256, a1⟩, ⟨S1024x512, a2⟩, ⟨S1024x512, a3⟩, ⟨S1024x512, a4⟩, ⟨S1024x128, a5⟩, ⟨S1024x128, a6⟩, ⟨S1024x512, a7⟩, ⟨S1024x512, a8⟩, ⟨S1024x64, a9⟩, ⟨S1024x16, a10⟩, ⟨S1024x8, a11⟩, ⟨S1024x40, a12⟩] concatenates_S1024x256_S1024x256_S1024x512_S1024x512_S1024x512_S1024x128_S1024x128_S1024x512_S1024x512_S1024x64_S1024x16_S1024x8_S1024x40_S1024x3456_d1 (ix2 k ⟨1536 + j.val, by omega⟩) = a4 (ix2 k j) := by
  pointwise []
  all_goals rw [dif_neg (by omega), dif_neg (by omega), dif_neg (by omega), dif_neg (by omega), dif_pos (by omega)]
  all_goals exact congrArg a4 (congrArg (ix2 k) (Fin.ext (by dsimp only; omega)))
theorem v65_at (c : Dev nD) (k : Fin 1024) (j : Fin 512) : V m c main_v65 (ix2 k j) = @HMul.hMul EReal EReal EReal _ (m ((c.tc : Thread nD τ).loc main_arg1) (ix2 k ⟨1552 + ((j.val / 64 % 2 * 4 + j.val / 128) * 64 + j.val % 64), by omega⟩)) InProj.eighth := by
  rw [at_v65, at_v58, at_v56, at_v55, at_v54, at_v44, at_v57, at_cst_9, at_arg1]
  generalize m ((c.tc : Thread nD τ).loc main_arg1) = w
  pointwise [InProj.eighth]
  exact congrArg (fun z => @HMul.hMul EReal EReal EReal _ (w (ix2 k z)) (Ideal.ofBits FTy.f32 1040187392#32)) (Fin.ext (by dsimp only; omega))
theorem W4 (c : Dev nD) (k : Fin 1024) (j : Fin 512) : V m c main_v74 (ix2 k ⟨1536 + j.val, by omega⟩) = @HMul.hMul EReal EReal EReal _ (m ((c.tc : Thread nD τ).loc main_arg1) (ix2 k ⟨1552 + ((j.val / 64 % 2 * 4 + j.val / 128) * 64 + j.val % 64), by omega⟩)) InProj.eighth :=
  (congrFun (at_v74 m c) _).trans ((cat13_4 _ _ _ _ _ _ _ _ _ _ _ _ _ k j).trans (v65_at m c k j))
theorem cat13_5 (a0 : FVec Ideal S1024x256 .bf16) (a1 : FVec Ideal S1024x256 .bf16) (a2 : FVec Ideal S1024x512 .bf16) (a3 : FVec Ideal S1024x512 .bf16) (a4 : FVec Ideal S1024x512 .bf16) (a5 : FVec Ideal S1024x128 .bf16) (a6 : FVec Ideal S1024x128 .bf16) (a7 : FVec Ideal S1024x512 .bf16) (a8 : FVec Ideal S1024x512 .bf16) (a9 : FVec Ideal S1024x64 .bf16) (a10 : FVec Ideal S1024x16 .bf16) (a11 : FVec Ideal S1024x8 .bf16) (a12 : FVec Ideal S1024x40 .bf16) (k : Fin 1024) (j : Fin 128) :
    concatenate S1024x3456 1 [⟨S1024x256, a0⟩, ⟨S1024x256, a1⟩, ⟨S1024x512, a2⟩, ⟨S1024x512, a3⟩, ⟨S1024x512, a4⟩, ⟨S1024x128, a5⟩, ⟨S1024x128, a6⟩, ⟨S1024x512, a7⟩, ⟨S1024x512, a8⟩, ⟨S1024x64, a9⟩, ⟨S1024x16, a10⟩, ⟨S1024x8, a11⟩, ⟨S1024x40, a12⟩] concatenates_S1024x256_S1024x256_S1024x512_S1024x512_S1024x512_S1024x128_S1024x128_S1024x512_S1024x512_S1024x64_S1024x16_S1024x8_S1024x40_S1024x3456_d1 (ix2 k ⟨2048 + j.val, by omega⟩) = a5 (ix2 k j) := by
  pointwise []
  all_goals rw [dif_neg (by omega), dif_neg (by omega), dif_neg (by omega), dif_neg (by omega), dif_neg (by omega), dif_pos (by omega)]
  all_goals exact congrArg a5 (congrArg (ix2 k) (Fin.ext (by dsimp only; omega)))
theorem v66_at (c : Dev nD) (k : Fin 1024) (j : Fin 128) : V m c main_v66 (ix2 k j) = m ((c.tc : Thread nD τ).loc main_arg1) (ix2 k ⟨2064 + j.val, by omega⟩) := by
  rw [at_v66, at_v45, at_arg1]
  generalize m ((c.tc : Thread nD τ).loc main_arg1) = w
  pointwise []

theorem W5 (c : Dev nD) (k : Fin 1024) (j : Fin 128) : V m c main_v74 (ix2 k ⟨2048 + j.val, by omega⟩) = m ((c.tc : Thread nD τ).loc main_arg1) (ix2 k ⟨2064 + j.val, by omega⟩) :=
  (congrFun (at_v74 m c) _).trans ((cat13_5 _ _ _ _ _ _ _ _ _ _ _ _ _ k j).trans (v66_at m c k j))
theorem cat13_6 (a0 : FVec Ideal S1024x256 .bf16) (a1 : FVec Ideal S1024x256 .bf16) (a2 : FVec Ideal S1024x512 .bf16) (a3 : FVec Ideal S1024x512 .bf16) (a4 : FVec Ideal S1024x512 .bf16) (a5 : FVec Ideal S1024x128 .bf16) (a6 : FVec Ideal S1024x128 .bf16) (a7 : FVec Ideal S1024x512 .bf16) (a8 : FVec Ideal S1024x512 .bf16) (a9 : FVec Ideal S1024x64 .bf16) (a10 : FVec Ideal S1024x16 .bf16) (a11 : FVec Ideal S1024x8 .bf16) (a12 : FVec Ideal S1024x40 .bf16) (k : Fin 1024) (j : Fin 128) :
    concatenate S1024x3456 1 [⟨S1024x256, a0⟩, ⟨S1024x256, a1⟩, ⟨S1024x512, a2⟩, ⟨S1024x512, a3⟩, ⟨S1024x512, a4⟩, ⟨S1024x128, a5⟩, ⟨S1024x128, a6⟩, ⟨S1024x512, a7⟩, ⟨S1024x512, a8⟩, ⟨S1024x64, a9⟩, ⟨S1024x16, a10⟩, ⟨S1024x8, a11⟩, ⟨S1024x40, a12⟩] concatenates_S1024x256_S1024x256_S1024x512_S1024x512_S1024x512_S1024x128_S1024x128_S1024x512_S1024x512_S1024x64_S1024x16_S1024x8_S1024x40_S1024x3456_d1 (ix2 k ⟨2176 + j.val, by omega⟩) = a6 (ix2 k j) := by
  pointwise []
  all_goals rw [dif_neg (by omega), dif_neg (by omega), dif_neg (by omega), dif_neg (by omega), dif_neg (by omega), dif_neg (by omega), dif_pos (by omega)]
  all_goals exact congrArg a6 (congrArg (ix2 k) (Fin.ext (by dsimp only; omega)))
theorem v67_at (c : Dev nD) (k : Fin 1024) (j : Fin 128) : V m c main_v67 (ix2 k j) = m ((c.tc : Thread nD τ).loc main_arg1) (ix2 k ⟨2192 + j.val, by omega⟩) := by
  rw [at_v67, at_v46, at_arg1]
  generalize m ((c.tc : Thread nD τ).loc main_arg1) = w
  pointwise []

theorem W6 (c : Dev nD) (k : Fin 1024) (j : Fin 128) : V m c main_v74 (ix2 k ⟨2176 + j.val, by omega⟩) = m ((c.tc : Thread nD τ).loc main_arg1) (ix2 k ⟨2192 + j.val, by omega⟩) :=
  (congrFun (at_v74 m c) _).trans ((cat13_6 _ _ _ _ _ _ _ _ _ _ _ _ _ k j).trans (v67_at m c k j))
theorem cat13_7 (a0 : FVec Ideal S1024x256 .bf16) (a1 : FVec Ideal S1024x256 .bf16) (a2 : FVec Ideal S1024x512 .bf16) (a3 : FVec Ideal S1024x512 .bf16) (a4 : FVec Ideal S1024x512 .bf16) (a5 : FVec Ideal S1024x128 .bf16) (a6 : FVec Ideal S1024x128 .bf16) (a7 : FVec Ideal S1024x512 .bf16) (a8 : FVec Ideal S1024x512 .bf16) (a9 : FVec Ideal S1024x64 .bf16) (a10 : FVec Ideal S1024x16 .bf16) (a11 : FVec Ideal S1024x8 .bf16) (a12 : FVec Ideal S1024x40 .bf16) (k : Fin 1024) (j : Fin 512) :
    concatenate S1024x3456 1 [⟨S1024x256, a0⟩, ⟨S1024x256, a1⟩, ⟨S1024x512, a2⟩, ⟨S1024x512, a3⟩, ⟨S1024x512, a4⟩, ⟨S1024x128, a5⟩, ⟨S1024x128, a6⟩, ⟨S1024x512, a7⟩, ⟨S1024x512, a8⟩, ⟨S1024x64, a9⟩, ⟨S1024x16, a10⟩, ⟨S1024x8, a11⟩, ⟨S1024x40, a12⟩] concatenates_S1024x256_S1024x256_S1024x512_S1024x512_S1024x512_S1024x128_S1024x128_S1024x512_S1024x512_S1024x64_S1024x16_S1024x8_S1024x40_S1024x3456_d1 (ix2 k ⟨2304 + j.val, by omega⟩) = a7 (ix2 k j) := by
  pointwise []
  all_goals rw [dif_neg (by omega), dif_neg (by omega), dif_neg (by omega), dif_neg (by omega), dif_neg (by omega), dif_neg (by omega), dif_neg (by omega), dif_pos (by omega)]
  all_goals exact congrArg a7 (congrArg (ix2 k) (Fin.ext (by dsimp only; omega)))
theorem v68_at (c : Dev nD) (k : Fin 1024) (j : Fin 512) : V m c main_v68 (ix2 k j) = @HMul.hMul EReal EReal EReal _ (m ((c.tc : Thread nD τ).loc main_arg1) (ix2 k ⟨2320 + j.val, by omega⟩)) InProj.eighth := by
  rw [at_v68, at_v60, at_v47, at_v59, at_cst_10, at_arg1]
  generalize m ((c.tc : Thread nD τ).loc main_arg1) = w
  pointwise [InProj.eighth]

theorem W7 (c : Dev nD) (k : Fin 1024) (j : Fin 512) : V m c main_v74 (ix2 k ⟨2304 + j.val, by omega⟩) = @HMul.hMul EReal EReal EReal _ (m ((c.tc : Thread nD τ).loc main_arg1) (ix2 k ⟨2320 + j.val, by omega⟩)) InProj.eighth :=
  (congrFun (at_v74 m c) _).trans ((cat13_7 _ _ _ _ _ _ _ _ _ _ _ _ _ k j).trans (v68_at m c k j))
theorem cat13_8 (a0 : FVec Ideal S1024x256 .bf16) (a1 : FVec Ideal S1024x256 .bf16) (a2 : FVec Ideal S1024x512 .bf16) (a3 : FVec Ideal S1024x512 .bf16) (a4 : FVec Ideal S1024x512 .bf16) (a5 : FVec Ideal S1024x128 .bf16) (a6 : FVec Ideal S1024x128 .bf16) (a7 : FVec Ideal S1024x512 .bf16) (a8 : FVec Ideal S1024x512 .bf16) (a9 : FVec Ideal S1024x64 .bf16) (a10 : FVec Ideal S1024x16 .bf16) (a11 : FVec Ideal S1024x8 .bf16) (a12 : FVec Ideal S1024x40 .bf16) (k : Fin 1024) (j : Fin 512) :
    concatenate S1024x3456 1 [⟨S1024x256, a0⟩, ⟨S1024x256, a1⟩, ⟨S1024x512, a2⟩, ⟨S1024x512, a3⟩, ⟨S1024x512, a4⟩, ⟨S1024x128, a5⟩, ⟨S1024x128, a6⟩, ⟨S1024x512, a7⟩, ⟨S1024x512, a8⟩, ⟨S1024x64, a9⟩, ⟨S1024x16, a10⟩, ⟨S1024x8, a11⟩, ⟨S1024x40, a12⟩] concatenates_S1024x256_S1024x256_S1024x512_S1024x512_S1024x512_S1024x128_S1024x128_S1024x512_S1024x512_S1024x64_S1024x16_S1024x8_S1024x40_S1024x3456_d1 (ix2 k ⟨2816 + j.val, by omega⟩) = a8 (ix2 k j) := by
  pointwise []
  all_goals rw [dif_neg (by omega), dif_neg (by omega), dif_neg (by omega), dif_neg (by omega), dif_neg (by omega), dif_neg (by omega), dif_neg (by omega), dif_neg (by omega), dif_pos (by omega)]
  all_goals exact congrArg a8 (congrArg (ix2 k) (Fin.ext (by dsimp only; omega)))
theorem v69_at (c : Dev nD) (k : Fin 1024) (j : Fin 512) : V m c main_v69 (ix2 k j) = m ((c.tc : Thread nD τ).loc main_arg1) (ix2 k ⟨2904 + j.val, by omega⟩) := by
  rw [at_v69, at_v50, at_arg1]
  generalize m ((c.tc : Thread nD τ).loc main_arg1) = w
  pointwise []

theorem W8 (c : Dev nD) (k : Fin 1024) (j : Fin 512) : V m c main_v74 (ix2 k ⟨2816 + j.val, by omega⟩) = m ((c.tc : Thread nD τ).loc main_arg1) (ix2 k ⟨2904 + j.val, by omega⟩) :=
  (congrFun (at_v74 m c) _).trans ((cat13_8 _ _ _ _ _ _ _ _ _ _ _ _ _ k j).trans (v69_at m c k j))
theorem cat13_9 (a0 : FVec Ideal S1024x256 .bf16) (a1 : FVec Ideal S1024x256 .bf16) (a2 : FVec Ideal S1024x512 .bf16) (a3 : FVec Ideal S1024x512 .bf16) (a4 : FVec Ideal S1024x512 .bf16) (a5 : FVec Ideal S1024x128 .bf16) (a6 : FVec Ideal S1024x128 .bf16) (a7 : FVec Ideal S1024x512 .bf16) (a8 : FVec Ideal S1024x512 .bf16) (a9 : FVec Ideal S1024x64 .bf16) (a10 : FVec Ideal S1024x16 .bf16) (a11 : FVec Ideal S1024x8 .bf16) (a12 : FVec Ideal S1024x40 .bf16) (k : Fin 1024) (j : Fin 64) :
    concatenate S1024x3456 1 [⟨S1024x256, a0⟩, ⟨S1024x256, a1⟩, ⟨S1024x512, a2⟩, ⟨S1024x512, a3⟩, ⟨S1024x512, a4⟩, ⟨S1024x128, a5⟩, ⟨S1024x128, a6⟩, ⟨S1024x512, a7⟩, ⟨S1024x512, a8⟩, ⟨S1024x64, a9⟩, ⟨S1024x16, a10⟩, ⟨S1024x8, a11⟩, ⟨S1024x40, a12⟩] concatenates_S1024x256_S1024x256_S1024x512_S1024x512_S1024x512_S1024x128_S1024x128_S1024x512_S1024x512_S1024x64_S1024x16_S1024x8_S1024x40_S1024x3456_d1 (ix2 k ⟨3328 + j.val, by omega⟩) = a9 (ix2 k j) := by
  pointwise []
  all_goals rw [dif_neg (by omega), dif_neg (by omega), dif_neg (by omega), dif_neg (by omega), dif_neg (by omega), dif_neg (by omega), dif_neg (by omega), dif_neg (by omega), dif_neg (by omega), dif_pos (by omega)]
  all_goals exact congrArg a9 (congrArg (ix2 k) (Fin.ext (by dsimp only; omega)))
theorem v70_at (c : Dev nD) (k : Fin 1024) (j : Fin 64) : V m c main_v70 (ix2 k j) = m ((c.tc : Thread nD τ).loc main_arg1) (ix2 k ⟨2832 + j.val, by omega⟩) := by
  rw [at_v70, at_v48, at_arg1]
  generalize m ((c.tc : Thread nD τ).loc main_arg1) = w
  pointwise []

theorem W9 (c : Dev nD) (k : Fin 1024) (j : Fin 64) : V m c main_v74 (ix2 k ⟨3328 + j.val, by omega⟩) = m ((c.tc : Thread nD τ).loc main_arg1) (ix2 k ⟨2832 + j.val, by omega⟩) :=
  (congrFun (at_v74 m c) _).trans ((cat13_9 _ _ _ _ _ _ _ _ _ _ _ _ _ k j).trans (v70_at m c k j))
theorem cat13_10 (a0 : FVec Ideal S1024x256 .bf16) (a1 : FVec Ideal S1024x256 .bf16) (a2 : FVec Ideal S1024x512 .bf16) (a3 : FVec Ideal S1024x512 .bf16) (a4 : FVec Ideal S1024x512 .bf16) (a5 : FVec Ideal S1024x128 .bf16) (a6 : FVec Ideal S1024x128 .bf16) (a7 : FVec Ideal S1024x512 .bf16) (a8 : FVec Ideal S1024x512 .bf16) (a9 : FVec Ideal S1024x64 .bf16) (a10 : FVec Ideal S1024x16 .bf16) (a11 : FVec Ideal S1024x8 .bf16) (a12 : FVec Ideal S1024x40 .bf16) (k : Fin 1024) (j : Fin 16) :
    concatenate S1024x3456 1 [⟨S1024x256, a0⟩, ⟨S1024x256, a1⟩, ⟨S1024x512, a2⟩, ⟨S1024x512, a3⟩, ⟨S1024x512, a4⟩, ⟨S1024x128, a5⟩, ⟨S1024x128, a6⟩, ⟨S1024x512, a7⟩, ⟨S1024x512, a8⟩, ⟨S1024x64, a9⟩, ⟨S1024x16, a10⟩, ⟨S1024x8, a11⟩, ⟨S1024x40, a12⟩] concatenates_S1024x256_S1024x256_S1024x512_S1024x512_S1024x512_S1024x128_S1024x128_S1024x512_S1024x512_S1024x64_S1024x16_S1024x8_S1024x40_S1024x3456_d1 (ix2 k ⟨3392 + j.val, by omega⟩) = a10 (ix2 k j) := by
  pointwise []
  all_goals rw [dif_neg (by omega), dif_neg (by omega), dif_neg (by omega), dif_neg (by omega), dif_neg (by omega), dif_neg (by omega), dif_neg (by omega), dif_neg (by omega), dif_neg (by omega), dif_neg (by omega), dif_pos (by omega)]
  all_goals exact congrArg a10 (congrArg (ix2 k) (Fin.ext (by dsimp only; omega)))
theorem v71_at (c : Dev nD) (k : Fin 1024) (j : Fin 16) : V m c main_v71 (ix2 k j) = m ((c.tc : Thread nD τ).loc main_arg1) (ix2 k ⟨1024 + j.val, by omega⟩) := by
  rw [at_v71, at_v42, at_arg1]
  generalize m ((c.tc : Thread nD τ).loc main_arg1) = w
  pointwise []

theorem W10 (c : Dev nD) (k : Fin 1024) (j : Fin 16) : V m c main_v74 (ix2 k ⟨3392 + j.val, by omega⟩) = m ((c.tc : Thread nD τ).loc main_arg1) (ix2 k ⟨1024 + j.val, by omega⟩) :=
  (congrFun (at_v74 m c) _).trans ((cat13_10 _ _ _ _ _ _ _ _ _ _ _ _ _ k j).trans (v71_at m c k j))
theorem cat13_11 (a0 : FVec Ideal S1024x256 .bf16) (a1 : FVec Ideal S1024x256 .bf16) (a2 : FVec Ideal S1024x512 .bf16) (a3 : FVec Ideal S1024x512 .bf16) (a4 : FVec Ideal S1024x512 .bf16) (a5 : FVec Ideal S1024x128 .bf16) (a6 : FVec Ideal S1024x128 .bf16) (a7 : FVec Ideal S1024x512 .bf16) (a8 : FVec Ideal S1024x512 .bf16) (a9 : FVec Ideal S1024x64 .bf16) (a10 : FVec Ideal S1024x16 .bf16) (a11 : FVec Ideal S1024x8 .bf16) (a12 : FVec Ideal S1024x40 .bf16) (k : Fin 1024) (j : Fin 8) :
    concatenate S1024x3456 1 [⟨S1024x256, a0⟩, ⟨S1024x256, a1⟩, ⟨S1024x512, a2⟩, ⟨S1024x512, a3⟩, ⟨S1024x512, a4⟩, ⟨S1024x128, a5⟩, ⟨S1024x128, a6⟩, ⟨S1024x512, a7⟩, ⟨S1024x512, a8⟩, ⟨S1024x64, a9⟩, ⟨S1024x16, a10⟩, ⟨S1024x8, a11⟩, ⟨S1024x40, a12⟩] concatenates_S1024x256_S1024x256_S1024x512_S1024x512_S1024x512_S1024x128_S1024x128_S1024x512_S1024x512_S1024x64_S1024x16_S1024x8_S1024x40_S1024x3456_d1 (ix2 k ⟨3408 + j.val, by omega⟩) = a11 (ix2 k j) := by
  pointwise []
  all_goals rw [dif_neg (by omega), dif_neg (by omega), dif_neg (by omega), dif_neg (by omega), dif_neg (by omega), dif_neg (by omega), dif_neg (by omega), dif_neg (by omega), dif_neg (by omega), dif_neg (by omega), dif_neg (by omega), dif_pos (by omega)]
  all_goals exact congrArg a11 (congrArg (ix2 k) (Fin.ext (by dsimp only; omega)))
theorem v72_at (c : Dev nD) (k : Fin 1024) (j : Fin 8) : V m c main_v72 (ix2 k j) = m ((c.tc : Thread nD τ).loc main_arg1) (ix2 k ⟨2896 + j.val, by omega⟩) := by
  rw [at_v72, at_v49, at_arg1]
  generalize m ((c.tc : Thread nD τ).loc main_arg1) = w
  pointwise []

theorem W11 (c : Dev nD) (k : Fin 1024) (j : Fin 8) : V m c main_v74 (ix2 k ⟨3408 + j.val, by omega⟩) = m ((c.tc : Thread nD τ).loc main_arg1) (ix2 k ⟨2896 + j.val, by omega⟩) :=
  (congrFun (at_v74 m c) _).trans ((cat13_11 _ _ _ _ _ _ _ _ _ _ _ _ _ k j).trans (v72_at m c k j))
theorem cat13_12 (a0 : FVec Ideal S1024x256 .bf16) (a1 : FVec Ideal S1024x256 .bf16) (a2 : FVec Ideal S1024x512 .bf16) (a3 : FVec Ideal S1024x512 .bf16) (a4 : FVec Ideal S1024x512 .bf16) (a5 : FVec Ideal S1024x128 .bf16) (a6 : FVec Ideal S1024x128 .bf16) (a7 : FVec Ideal S1024x512 .bf16) (a8 : FVec Ideal S1024x512 .bf16) (a9 : FVec Ideal S1024x64 .bf16) (a10 : FVec Ideal S1024x16 .bf16) (a11 : FVec Ideal S1024x8 .bf16) (a12 : FVec Ideal S1024x40 .bf16) (k : Fin 1024) (j : Fin 40) :
    concatenate S1024x3456 1 [⟨S1024x256, a0⟩, ⟨S1024x256, a1⟩, ⟨S1024x512, a2⟩, ⟨S1024x512, a3⟩, ⟨S1024x512, a4⟩, ⟨S1024x128, a5⟩, ⟨S1024x128, a6⟩, ⟨S1024x512, a7⟩, ⟨S1024x512, a8⟩, ⟨S1024x64, a9⟩, ⟨S1024x16, a10⟩, ⟨S1024x8, a11⟩, ⟨S1024x40, a12⟩] concatenates_S1024x256_S1024x256_S1024x512_S1024x512_S1024x512_S1024x128_S1024x128_S1024x512_S1024x512_S1024x64_S1024x16_S1024x8_S1024x40_S1024x3456_d1 (ix2 k ⟨3416 + j.val, by omega⟩) = a12 (ix2 k j) := by
  pointwise []
  all_goals rw [dif_neg (by omega), dif_neg (by omega), dif_neg (by omega), dif_neg (by omega), dif_neg (by omega), dif_neg (by omega), dif_neg (by omega), dif_neg (by omega), dif_neg (by omega), dif_neg (by omega), dif_neg (by omega), dif_neg (by omega)]
  all_goals exact congrArg a12 (congrArg (ix2 k) (Fin.ext (by dsimp only; omega)))
theorem v73_at (c : Dev nD) (k : Fin 1024) (j : Fin 40) : V m c main_v73 (ix2 k j) = (0 : EReal) := by
  rw [at_v73, at_v51, at_cst_7]
  pointwise []

theorem W12 (c : Dev nD) (k : Fin 1024) (j : Fin 40) : V m c main_v74 (ix2 k ⟨3416 + j.val, by omega⟩) = (0 : EReal) :=
  (congrFun (at_v74 m c) _).trans ((cat13_12 _ _ _ _ _ _ _ _ _ _ _ _ _ k j).trans (v73_at m c k j))
/-- The padded gate weights: rows 64 to 79 hold the sixteen rows of the gate's second weights, the others are zero. -/
theorem v77_at (c : Dev nD) (k : Fin 128) (j : Fin 256) : V m c main_v77 (ix2 k j)
    = if h : 64 ≤ k.val ∧ k.val < 80 then m ((c.tc : Thread nD τ).loc main_arg2) (ix2 ⟨k.val - 64, by omega⟩ j) else (0 : EReal) := by
  rw [at_v77, at_v76, at_c, at_v75, at_cst_11, at_arg2]
  exact (scatter_mid _ _ rfl _ k j).trans (by split <;> first | rfl | exact Ideal.ofBits_zero_f32)

theorem v86_at (c : Dev nD) (k : Fin 1) (j : Fin 128) : V m c main_v86 (ix2 k j)
    = if h : j.val < 64 then m ((c.tc : Thread nD τ).loc main_arg4) (ix1 ⟨j.val, h⟩) else (0 : EReal) := by
  rw [at_v86, at_v85, at_v84, at_c_14, at_v83, at_c_13, at_v82, at_cst_12, at_arg4]
  exact (scatter_lane _ _ rfl rfl _ k j).trans (by split <;> first | rfl | exact Ideal.ofBits_zero_f32)

theorem v91_at (c : Dev nD) (k : Fin 1) (j : Fin 128) : V m c main_v91 (ix2 k j)
    = if h : j.val < 64 then m ((c.tc : Thread nD τ).loc main_arg5) (ix1 ⟨j.val, h⟩) else (0 : EReal) := by
  rw [at_v91, at_v90, at_v89, at_c_17, at_v88, at_c_16, at_v87, at_cst_15, at_arg5]
  exact (scatter_lane _ _ rfl rfl _ k j).trans (by split <;> first | rfl | exact Ideal.ofBits_zero_f32)

theorem v93_at (c : Dev nD) (k : Fin 1) (j : Fin 256) : V m c main_v93 (ix2 k j) = m ((c.tc : Thread nD τ).loc main_arg3) (ix1 j) := by
  rw [at_v93, at_arg3]
  generalize m ((c.tc : Thread nD τ).loc main_arg3) = w
  revert w
  show ∀ w : FVec Ideal S256 .f32, shapeCast S1x256 w shapeCasts_S256_S1x256 (ix2 k j) = w (ix1 j)
  intro w
  pointwise []

theorem rows_cast (w : FVec Ideal S8x2176x1024 .f32) (n : Fin 17408) (d : Fin 1024) : shapeCast S17408x1024 w shapeCasts_S8x2176x1024_S17408x1024 (ix2 n d)
    = w (ix3 ⟨n.val / 2176, by omega⟩ ⟨n.val % 2176, by omega⟩ d) := by
  refine Idealize.ShloMosaic.shapeCast_apply w _ _ _ ?_
  rw [Shape.rowMajor_val_two, Shape.rowMajor_val_three]
  show (n.val / 2176 * 2176 + n.val % 2176) * 1024 + d.val = n.val * 1024 + d.val
  omega

/-- The activations, one row per line. -/
theorem v92_at (c : Dev nD) (n : Fin 17408) (d : Fin 1024) : V m c main_v92 (ix2 n d)
    = m ((c.tc : Thread nD τ).loc main_arg0) (ix3 ⟨n.val / 2176, by omega⟩ ⟨n.val % 2176, by omega⟩ d) := by
  rw [at_v92, at_arg0]
  exact rows_cast _ n d

end Cert.Kernel2Ideal.KerValue
-- ==== Proof.InTab.lean ====
module

public import proofs.«01_k».proof.Proof.Gen.Kernel2Ideal.Frame
public import proofs.«01_k».proof.Proof.InRow
public import proofs.«01_k».proof.Proof.InHost
public import Idealize.ShloMosaic.Lib.Pipeline.ValueKit
public import Idealize.ShloMosaic.Lib.Pointwise

@[expose] public section

set_option maxRecDepth 16384
set_option maxHeartbeats 1000000
noncomputable section
open Idealize.ShloMosaic Idealize.ShloMosaic.TcCoe Idealize.SL.Sem

/-! The tables and the packed weights the kernel is given, entry by entry. -/
namespace Cert.Kernel2Ideal.KerValue
open Cert.Kernel2Ideal Cert.Kernel2Ideal.Gen
variable (m : (ℓ : Loc nD τ sig) → Buf (Elt Ideal) ℓ)

theorem v17_at (c : Dev nD) (r : Fin 2176) (k : Fin 8) : V m c main_v17 (ix2 r k) = InProj.ang r k := by
  rw [at_v17, at_v16, at_v15, at_v14, at_v13, at_v12, at_v11, at_cst_3, at_v10, at_v9, at_v8, at_cst_2, at_v7, at_v6, at_cst_1, at_v5, at_v4, at_v3, at_cst_0, at_v2, at_v1, at_cst, at_v0]
  pointwise [InProj.ang]
theorem v18_at (c : Dev nD) (r : Fin 2176) (k : Fin 8) : V m c main_v18 (ix2 r k) = Ideal.cos (InProj.ang r k) := by
  rw [at_v18]
  pointwise []
  rw [v17_at]
theorem v19_at (c : Dev nD) (r : Fin 2176) (k : Fin 8) : V m c main_v19 (ix2 r k) = Ideal.sin (InProj.ang r k) := by
  rw [at_v19]
  pointwise []
  rw [v17_at]
theorem v20_at (c : Dev nD) (r : Fin 2176) (k : Fin 48) : V m c main_v20 (ix2 r k) = (1 : EReal) := by
  rw [at_v20, at_cst_4]
  pointwise []
theorem v21_at (c : Dev nD) (r : Fin 2176) (k : Fin 48) : V m c main_v21 (ix2 r k) = (0 : EReal) := by
  rw [at_v21, at_cst_5]
  pointwise []
theorem v22_at (c : Dev nD) (r : Fin 2176) (k : Fin 8) : V m c main_v22 (ix2 r k) = (0 : EReal) := by
  rw [at_v22, at_cst_6]
  pointwise []
theorem v25_at (c : Dev nD) (r : Fin 2176) (k : Fin 8) : V m c main_v25 (ix2 r k) = -Ideal.sin (InProj.ang r k) := by
  rw [at_v25]
  pointwise []
  rw [v19_at]
/-- The first factors of a turn, and what is added from eight channels before and from eight after. -/
def facC (r : Fin 2176) (d : Fin 64) : EReal :=
  if h : d.val < 8 then Ideal.cos (InProj.ang r ⟨d.val, h⟩) else if h' : d.val - 8 < 8 then Ideal.cos (InProj.ang r ⟨d.val - 8, h'⟩) else 1
def facA (r : Fin 2176) (d : Fin 64) : EReal :=
  if h : d.val < 8 then 0 else if h' : d.val - 8 < 8 then Ideal.sin (InProj.ang r ⟨d.val - 8, h'⟩) else 0
def facB (r : Fin 2176) (d : Fin 64) : EReal :=
  if h : d.val < 8 then -Ideal.sin (InProj.ang r ⟨d.val, h⟩) else 0
/-- Three pieces side by side. -/
theorem cat3 (a b : FVec Ideal S2176x8 .f32) (z : FVec Ideal S2176x48 .f32) (fa fb : Fin 2176 → Fin 8 → EReal) (fz : EReal)
    (ha : ∀ r k, a (ix2 r k) = fa r k) (hb : ∀ r k, b (ix2 r k) = fb r k) (hz : ∀ r k, z (ix2 r k) = fz) (r : Fin 2176) (d : Fin 64) :
    concatenate S2176x64 1 [⟨S2176x8, a⟩, ⟨S2176x8, b⟩, ⟨S2176x48, z⟩] concatenates_S2176x8_S2176x8_S2176x48_S2176x64_d1 (ix2 r d)
      = if h : d.val < 8 then fa r ⟨d.val, h⟩ else if h' : d.val - 8 < 8 then fb r ⟨d.val - 8, h'⟩ else fz := by
  pointwise []
  simp only [ha, hb, hz]
/-- A table of 64 lanes twice side by side, and that four times over the rows. -/
theorem spread (x : FVec Ideal S2176x64 .f32) (n : Fin 8704) (l : Fin 128) :
    shapeCast S8704x128 (broadcastInDim S4x2176x1x128 ![0, 1, 2, 3] bcast_S1x2176x1x128_S4x2176x1x128_0_1_2_3
      (shapeCast S1x2176x1x128 (concatenate S2176x128 1 [⟨S2176x64, x⟩, ⟨S2176x64, x⟩] concatenates_S2176x64_S2176x64_S2176x128_d1) shapeCasts_S2176x128_S1x2176x1x128))
      shapeCasts_S4x2176x1x128_S8704x128 (ix2 n l)
      = x (ix2 ⟨n.val % 2176, Nat.mod_lt _ (by norm_num)⟩ ⟨l.val % 64, Nat.mod_lt _ (by norm_num)⟩) := by
  pointwise []
  by_cases h : l.val < 64
  · simp only [h, dite_true]
    congr 2
    exact Fin.ext (Nat.mod_eq_of_lt h).symm
  · simp only [h, dite_false]
    congr 2
    exact Fin.ext (show l.val - 64 = l.val % 64 by omega)
theorem v23_at (c : Dev nD) (r : Fin 2176) (d : Fin 64) : V m c main_v23 (ix2 r d) = facC r d :=
  (congrFun (at_v23 m c) _).trans (cat3 _ _ _ _ _ _ (v18_at m c) (v18_at m c) (v20_at m c) r d)
theorem v24_at (c : Dev nD) (r : Fin 2176) (d : Fin 64) : V m c main_v24 (ix2 r d) = facA r d :=
  (congrFun (at_v24 m c) _).trans (cat3 _ _ _ _ _ _ (v22_at m c) (v19_at m c) (v21_at m c) r d)
theorem v26_at (c : Dev nD) (r : Fin 2176) (d : Fin 64) : V m c main_v26 (ix2 r d) = facB r d :=
  (congrFun (at_v26 m c) _).trans ((cat3 _ _ _ _ _ _ (v25_at m c) (v22_at m c) (v21_at m c) r d).trans (by rw [facB]; split_ifs <;> rfl))
theorem v30_at (c : Dev nD) (n : Fin 8704) (l : Fin 128) : V m c main_v30 (ix2 n l)
    = facC ⟨n.val % 2176, Nat.mod_lt _ (by norm_num)⟩ ⟨l.val % 64, Nat.mod_lt _ (by norm_num)⟩ := by
  rw [at_v30, at_v29, at_v28, at_v27]
  exact (spread _ n l).trans (v23_at m c _ _)
theorem v34_at (c : Dev nD) (n : Fin 8704) (l : Fin 128) : V m c main_v34 (ix2 n l)
    = facA ⟨n.val % 2176, Nat.mod_lt _ (by norm_num)⟩ ⟨l.val % 64, Nat.mod_lt _ (by norm_num)⟩ := by
  rw [at_v34, at_v33, at_v32, at_v31]
  exact (spread _ n l).trans (v24_at m c _ _)
theorem v38_at (c : Dev nD) (n : Fin 8704) (l : Fin 128) : V m c main_v38 (ix2 n l)
    = facB ⟨n.val % 2176, Nat.mod_lt _ (by norm_num)⟩ ⟨l.val % 64, Nat.mod_lt _ (by norm_num)⟩ := by
  rw [at_v38, at_v37, at_v36, at_v35]
  exact (spread _ n l).trans (v26_at m c _ _)

end Cert.Kernel2Ideal.KerValue
-- ==== Proof.InPay.lean ====
module

public import proofs.«01_k».proof.Proof.Gen.Kernel2Ideal.Frame
public import proofs.«01_k».proof.Proof.InRow
public import Idealize.ShloMosaic.Lib.Pipeline.ValueKit
public import Idealize.ShloMosaic.Lib.Pointwise

@[expose] public section

set_option maxRecDepth 16384
set_option maxHeartbeats 1000000
noncomputable section
open Idealize.ShloMosaic Idealize.ShloMosaic.TcCoe Idealize.SL.Sem

/-! What one grid point of the input projection writes, from its blocks. -/
namespace Cert.Kernel2Ideal.KerValue
open Cert.Kernel2Ideal Cert.Kernel2Ideal.Gen

/-- One entry of the block's product with the packed weights. -/
def colsum (x0 : Vec Ideal S512x1024 .f32) (x1 : Vec Ideal S1024x3456 .bf16) (p : Fin 512) (e : Fin 3456) : EReal :=
  ∑ d : Fin 1024, (show EReal from x0 (ix2 p d)) * (show EReal from x1 (ix2 d e))

/-- The query columns. -/
theorem o10 (x0 : Vec Ideal S512x1024 .f32) (x1 : Vec Ideal S1024x3456 .bf16) (x2 : Vec Ideal S128x256 .bf16) (x3 : Vec Ideal S128x256 .bf16) (x4 : Vec Ideal S1x256 .f32) (x5 : Vec Ideal S1x128 .f32) (x6 : Vec Ideal S1x128 .f32) (x7 : Vec Ideal S512x128 .f32) (x8 : Vec Ideal S512x128 .f32) (x9 : Vec Ideal S512x128 .f32) (p : Fin 512) (j : Fin 256) :
    out0_10 x0 x1 x2 x3 x4 x5 x6 x7 x8 x9 (ix2 p j) = colsum x0 x1 p ⟨0 + j.val, by omega⟩ := by
  unfold_out out0_10
  canon_tiles x h
  obtain ⟨a, q, rfl⟩ : ∃ a q, x = ix2 a q := ⟨x 0, x 1, eq_ix2 x⟩
  obtain rfl : p = a := Fin.ext h0
  obtain rfl : j = q := Fin.ext h1
  pointwise [k0_pay23, k0_pay2, colsum]

/-- The key columns. -/
theorem o11 (x0 : Vec Ideal S512x1024 .f32) (x1 : Vec Ideal S1024x3456 .bf16) (x2 : Vec Ideal S128x256 .bf16) (x3 : Vec Ideal S128x256 .bf16) (x4 : Vec Ideal S1x256 .f32) (x5 : Vec Ideal S1x128 .f32) (x6 : Vec Ideal S1x128 .f32) (x7 : Vec Ideal S512x128 .f32) (x8 : Vec Ideal S512x128 .f32) (x9 : Vec Ideal S512x128 .f32) (p : Fin 512) (j : Fin 256) :
    out0_11 x0 x1 x2 x3 x4 x5 x6 x7 x8 x9 (ix2 p j) = colsum x0 x1 p ⟨256 + j.val, by omega⟩ := by
  unfold_out out0_11
  canon_tiles x h
  obtain ⟨a, q, rfl⟩ : ∃ a q, x = ix2 a q := ⟨x 0, x 1, eq_ix2 x⟩
  obtain rfl : p = a := Fin.ext h0
  obtain rfl : j = q := Fin.ext h1
  pointwise [k0_pay28, k0_pay2, colsum]

/-- The value columns. -/
theorem o12 (x0 : Vec Ideal S512x1024 .f32) (x1 : Vec Ideal S1024x3456 .bf16) (x2 : Vec Ideal S128x256 .bf16) (x3 : Vec Ideal S128x256 .bf16) (x4 : Vec Ideal S1x256 .f32) (x5 : Vec Ideal S1x128 .f32) (x6 : Vec Ideal S1x128 .f32) (x7 : Vec Ideal S512x128 .f32) (x8 : Vec Ideal S512x128 .f32) (x9 : Vec Ideal S512x128 .f32) (p : Fin 512) (j : Fin 512) :
    out0_12 x0 x1 x2 x3 x4 x5 x6 x7 x8 x9 (ix2 p j) = colsum x0 x1 p ⟨512 + j.val, by omega⟩ := by
  unfold_out out0_12
  canon_tiles x h
  obtain ⟨a, q, rfl⟩ : ∃ a q, x = ix2 a q := ⟨x 0, x 1, eq_ix2 x⟩
  obtain rfl : p = a := Fin.ext h0
  obtain rfl : j = q := Fin.ext h1
  pointwise [k0_pay35, k0_pay30, k0_pay2, colsum]

/-- The output gate's columns. -/
theorem o14 (x0 : Vec Ideal S512x1024 .f32) (x1 : Vec Ideal S1024x3456 .bf16) (x2 : Vec Ideal S128x256 .bf16) (x3 : Vec Ideal S128x256 .bf16) (x4 : Vec Ideal S1x256 .f32) (x5 : Vec Ideal S1x128 .f32) (x6 : Vec Ideal S1x128 .f32) (x7 : Vec Ideal S512x128 .f32) (x8 : Vec Ideal S512x128 .f32) (x9 : Vec Ideal S512x128 .f32) (p : Fin 512) (j : Fin 512) :
    out0_14 x0 x1 x2 x3 x4 x5 x6 x7 x8 x9 (ix2 p j) = colsum x0 x1 p ⟨1024 + j.val, by omega⟩ := by
  unfold_out out0_14
  canon_tiles x h
  obtain ⟨a, q, rfl⟩ : ∃ a q, x = ix2 a q := ⟨x 0, x 1, eq_ix2 x⟩
  obtain rfl : p = a := Fin.ext h0
  obtain rfl : j = q := Fin.ext h1
  pointwise [k0_pay36, k0_pay2, colsum]

/-- The sparse output gate's columns. -/
theorem o21 (x0 : Vec Ideal S512x1024 .f32) (x1 : Vec Ideal S1024x3456 .bf16) (x2 : Vec Ideal S128x256 .bf16) (x3 : Vec Ideal S128x256 .bf16) (x4 : Vec Ideal S1x256 .f32) (x5 : Vec Ideal S1x128 .f32) (x6 : Vec Ideal S1x128 .f32) (x7 : Vec Ideal S512x128 .f32) (x8 : Vec Ideal S512x128 .f32) (x9 : Vec Ideal S512x128 .f32) (p : Fin 512) (j : Fin 512) :
    out0_21 x0 x1 x2 x3 x4 x5 x6 x7 x8 x9 (ix2 p j) = colsum x0 x1 p ⟨2816 + j.val, by omega⟩ := by
  unfold_out out0_21
  canon_tiles x h
  obtain ⟨a, q, rfl⟩ : ∃ a q, x = ix2 a q := ⟨x 0, x 1, eq_ix2 x⟩
  obtain rfl : p = a := Fin.ext h0
  obtain rfl : j = q := Fin.ext h1
  pointwise [k0_pay1, k0_pay2, colsum]

/-- The value columns of the sparse mixer, transposed. -/
theorem o17 (x0 : Vec Ideal S512x1024 .f32) (x1 : Vec Ideal S1024x3456 .bf16) (x2 : Vec Ideal S128x256 .bf16) (x3 : Vec Ideal S128x256 .bf16) (x4 : Vec Ideal S1x256 .f32) (x5 : Vec Ideal S1x128 .f32) (x6 : Vec Ideal S1x128 .f32) (x7 : Vec Ideal S512x128 .f32) (x8 : Vec Ideal S512x128 .f32) (x9 : Vec Ideal S512x128 .f32) (b : Fin 4) (e : Fin 128) (p : Fin 128) :
    out0_17 x0 x1 x2 x3 x4 x5 x6 x7 x8 x9 (ix3 b e p) = colsum x0 x1 ⟨b.val * 128 + p.val, by omega⟩ ⟨2176 + e.val, by omega⟩ := by
  unfold_out out0_17
  canon_tiles x h
  all_goals
    obtain ⟨a, q, z, rfl⟩ : ∃ a q z, x = ix3 a q z := ⟨x 0, x 1, x 2, eq_ix3 x⟩
    obtain rfl : e = q := Fin.ext h1
    obtain rfl : p = z := Fin.ext h2
    change b.val = _ at h0
    have ha : a.val < 1 := a.isLt
    pointwise [k0_pay17, k0_pay15, k0_pay13, k0_pay11, k0_pay9, k0_pay7, k0_pay2, colsum]

    refine Finset.sum_congr rfl fun d _ => ?_
    refine congrArg₂ (fun u v => @HMul.hMul EReal EReal EReal _ u v) (congrArg (fun z => x0 (ix2 z d)) (Fin.ext ?_)) (congrArg (fun z => x1 (ix2 d z)) (Fin.ext ?_))
    all_goals dsimp only; omega

/-- The index weights, transposed and scaled. -/
theorem o20 (x0 : Vec Ideal S512x1024 .f32) (x1 : Vec Ideal S1024x3456 .bf16) (x2 : Vec Ideal S128x256 .bf16) (x3 : Vec Ideal S128x256 .bf16) (x4 : Vec Ideal S1x256 .f32) (x5 : Vec Ideal S1x128 .f32) (x6 : Vec Ideal S1x128 .f32) (x7 : Vec Ideal S512x128 .f32) (x8 : Vec Ideal S512x128 .f32) (x9 : Vec Ideal S512x128 .f32) (b : Fin 4) (e : Fin 8) (p : Fin 128) :
    out0_20 x0 x1 x2 x3 x4 x5 x6 x7 x8 x9 (ix3 b e p) = colsum x0 x1 ⟨b.val * 128 + p.val, by omega⟩ ⟨3408 + e.val, by omega⟩ * InProj.rootEighth := by
  unfold_out out0_20
  canon_tiles x h
  all_goals
    obtain ⟨a, q, z, rfl⟩ : ∃ a q z, x = ix3 a q z := ⟨x 0, x 1, x 2, eq_ix3 x⟩
    obtain rfl : e = q := Fin.ext h1
    obtain rfl : p = z := Fin.ext h2
    change b.val = _ at h0
    have ha : a.val < 1 := a.isLt
    pointwise [k0_pay12, k0_pay14, k0_pay16, k0_pay18, k0_pay19, k0_pay6, k0_pay2, colsum, InProj.rootEighth]
    refine congrArg (fun z => z * Ideal.ofBits FTy.f32 1052050675#32) ?_
    refine Finset.sum_congr rfl fun d _ => ?_
    refine congrArg₂ (fun u v => @HMul.hMul EReal EReal EReal _ u v) (congrArg (fun z => x0 (ix2 z d)) (Fin.ext ?_)) (congrArg (fun z => x1 (ix2 d z)) (Fin.ext ?_))
    all_goals dsimp only; omega

/-- A row of 128 lanes times one table, plus the row moved 8 lanes up times another, plus the row moved 8 lanes down times a third. -/
def turn (u a s z : Fin 128 → EReal) (l : Fin 128) : EReal :=
  u l * a l + u ⟨(l.val + 128 - 8) % 128, Nat.mod_lt _ (by norm_num)⟩ * s l + u ⟨(l.val + 128 - 120) % 128, Nat.mod_lt _ (by norm_num)⟩ * z l

/-- The sparse mixer's key. -/
theorem o16 (x0 : Vec Ideal S512x1024 .f32) (x1 : Vec Ideal S1024x3456 .bf16) (x2 : Vec Ideal S128x256 .bf16) (x3 : Vec Ideal S128x256 .bf16) (x4 : Vec Ideal S1x256 .f32) (x5 : Vec Ideal S1x128 .f32) (x6 : Vec Ideal S1x128 .f32) (x7 : Vec Ideal S512x128 .f32) (x8 : Vec Ideal S512x128 .f32) (x9 : Vec Ideal S512x128 .f32) (p : Fin 512) (l : Fin 128) :
    out0_16 x0 x1 x2 x3 x4 x5 x6 x7 x8 x9 (ix2 p l) = turn (fun l => colsum x0 x1 p ⟨2048 + l.val, by omega⟩) (fun l => x7 (ix2 p l)) (fun l => x8 (ix2 p l)) (fun l => x9 (ix2 p l)) l := by
  unfold_out out0_16
  canon_tiles x h
  obtain ⟨a, q, rfl⟩ : ∃ a q, x = ix2 a q := ⟨x 0, x 1, eq_ix2 x⟩
  obtain rfl : p = a := Fin.ext h0
  obtain rfl : l = q := Fin.ext h1
  pointwise [k0_pay20, k0_pay3, k0_pay4, k0_pay5, k0_pay8, k0_pay7, k0_pay2, colsum, turn]

/-- The sparse mixer's query. -/
theorem o15 (x0 : Vec Ideal S512x1024 .f32) (x1 : Vec Ideal S1024x3456 .bf16) (x2 : Vec Ideal S128x256 .bf16) (x3 : Vec Ideal S128x256 .bf16) (x4 : Vec Ideal S1x256 .f32) (x5 : Vec Ideal S1x128 .f32) (x6 : Vec Ideal S1x128 .f32) (x7 : Vec Ideal S512x128 .f32) (x8 : Vec Ideal S512x128 .f32) (x9 : Vec Ideal S512x128 .f32) (p : Fin 512) (j : Fin 512) :
    out0_15 x0 x1 x2 x3 x4 x5 x6 x7 x8 x9 (ix2 p j) = turn (fun l => colsum x0 x1 p ⟨1536 + (j.val / 128 * 128 + l.val), by omega⟩) (fun l => x7 (ix2 p l)) (fun l => x8 (ix2 p l)) (fun l => x9 (ix2 p l)) ⟨j.val % 128, Nat.mod_lt _ (by norm_num)⟩ := by
  unfold_out out0_15
  canon_tiles x h
  · obtain ⟨a, q, rfl⟩ : ∃ a q, x = ix2 a q := ⟨x 0, x 1, eq_ix2 x⟩
    obtain rfl : p = a := Fin.ext h0
    change j.val = _ at h1
    have hq : q.val < 128 := q.isLt
    have e : (⟨j.val % 128, Nat.mod_lt _ (by norm_num)⟩ : Fin 128) = q := Fin.ext (by dsimp only; change j.val = 384 + q.val at h1; omega)
    have e2 : (fun l : Fin 128 => colsum x0 x1 p ⟨1536 + (j.val / 128 * 128 + l.val), by omega⟩) = fun l : Fin 128 => colsum x0 x1 p ⟨1536 + (384 + l.val), by omega⟩ := by
      funext l
      exact congrArg (colsum x0 x1 p) (Fin.ext (by dsimp only; change j.val = 384 + q.val at h1; omega))
    rw [e, e2]
    pointwise [k0_pay31, k0_pay32, k0_pay33, k0_pay34, k0_pay10, k0_pay3, k0_pay4, k0_pay5, k0_pay2, colsum, turn]
  · obtain ⟨a, q, rfl⟩ : ∃ a q, x = ix2 a q := ⟨x 0, x 1, eq_ix2 x⟩
    obtain rfl : p = a := Fin.ext h0
    change j.val = _ at h1
    have hq : q.val < 128 := q.isLt
    have e : (⟨j.val % 128, Nat.mod_lt _ (by norm_num)⟩ : Fin 128) = q := Fin.ext (by dsimp only; change j.val = 256 + q.val at h1; omega)
    have e2 : (fun l : Fin 128 => colsum x0 x1 p ⟨1536 + (j.val / 128 * 128 + l.val), by omega⟩) = fun l : Fin 128 => colsum x0 x1 p ⟨1536 + (256 + l.val), by omega⟩ := by
      funext l
      exact congrArg (colsum x0 x1 p) (Fin.ext (by dsimp only; change j.val = 256 + q.val at h1; omega))
    rw [e, e2]
    pointwise [k0_pay31, k0_pay32, k0_pay33, k0_pay34, k0_pay10, k0_pay3, k0_pay4, k0_pay5, k0_pay2, colsum, turn]
  · obtain ⟨a, q, rfl⟩ : ∃ a q, x = ix2 a q := ⟨x 0, x 1, eq_ix2 x⟩
    obtain rfl : p = a := Fin.ext h0
    change j.val = _ at h1
    have hq : q.val < 128 := q.isLt
    have e : (⟨j.val % 128, Nat.mod_lt _ (by norm_num)⟩ : Fin 128) = q := Fin.ext (by dsimp only; change j.val = 128 + q.val at h1; omega)
    have e2 : (fun l : Fin 128 => colsum x0 x1 p ⟨1536 + (j.val / 128 * 128 + l.val), by omega⟩) = fun l : Fin 128 => colsum x0 x1 p ⟨1536 + (128 + l.val), by omega⟩ := by
      funext l
      exact congrArg (colsum x0 x1 p) (Fin.ext (by dsimp only; change j.val = 128 + q.val at h1; omega))
    rw [e, e2]
    pointwise [k0_pay31, k0_pay32, k0_pay33, k0_pay34, k0_pay10, k0_pay3, k0_pay4, k0_pay5, k0_pay2, colsum, turn]
  · obtain ⟨a, q, rfl⟩ : ∃ a q, x = ix2 a q := ⟨x 0, x 1, eq_ix2 x⟩
    obtain rfl : p = a := Fin.ext h0
    change j.val = _ at h1
    have hq : q.val < 128 := q.isLt
    have e : (⟨j.val % 128, Nat.mod_lt _ (by norm_num)⟩ : Fin 128) = q := Fin.ext (by dsimp only; change j.val = q.val at h1; omega)
    have e2 : (fun l : Fin 128 => colsum x0 x1 p ⟨1536 + (j.val / 128 * 128 + l.val), by omega⟩) = fun l : Fin 128 => colsum x0 x1 p ⟨1536 + (l.val), by omega⟩ := by
      funext l
      exact congrArg (colsum x0 x1 p) (Fin.ext (by dsimp only; change j.val = q.val at h1; omega))
    rw [e, e2]
    pointwise [k0_pay31, k0_pay32, k0_pay33, k0_pay34, k0_pay10, k0_pay3, k0_pay4, k0_pay5, k0_pay2, colsum, turn]

/-- The index query. -/
theorem o18 (x0 : Vec Ideal S512x1024 .f32) (x1 : Vec Ideal S1024x3456 .bf16) (x2 : Vec Ideal S128x256 .bf16) (x3 : Vec Ideal S128x256 .bf16) (x4 : Vec Ideal S1x256 .f32) (x5 : Vec Ideal S1x128 .f32) (x6 : Vec Ideal S1x128 .f32) (x7 : Vec Ideal S512x128 .f32) (x8 : Vec Ideal S512x128 .f32) (x9 : Vec Ideal S512x128 .f32) (p : Fin 512) (j : Fin 512) :
    out0_18 x0 x1 x2 x3 x4 x5 x6 x7 x8 x9 (ix2 p j) = turn (fun l => colsum x0 x1 p ⟨2304 + (j.val / 128 * 128 + l.val), by omega⟩) (fun l => x7 (ix2 p l)) (fun l => x8 (ix2 p l)) (fun l => x9 (ix2 p l)) ⟨j.val % 128, Nat.mod_lt _ (by norm_num)⟩ := by
  unfold_out out0_18
  canon_tiles x h
  · obtain ⟨a, q, rfl⟩ : ∃ a q, x = ix2 a q := ⟨x 0, x 1, eq_ix2 x⟩
    obtain rfl : p = a := Fin.ext h0
    change j.val = _ at h1
    have hq : q.val < 128 := q.isLt
    have e : (⟨j.val % 128, Nat.mod_lt _ (by norm_num)⟩ : Fin 128) = q := Fin.ext (by dsimp only; change j.val = 384 + q.val at h1; omega)
    have e2 : (fun l : Fin 128 => colsum x0 x1 p ⟨2304 + (j.val / 128 * 128 + l.val), by omega⟩) = fun l : Fin 128 => colsum x0 x1 p ⟨2304 + (384 + l.val), by omega⟩ := by
      funext l
      exact congrArg (colsum x0 x1 p) (Fin.ext (by dsimp only; change j.val = 384 + q.val at h1; omega))
    rw [e, e2]
    pointwise [k0_pay37, k0_pay38, k0_pay39, k0_pay40, k0_pay21, k0_pay3, k0_pay4, k0_pay5, k0_pay2, colsum, turn]
  · obtain ⟨a, q, rfl⟩ : ∃ a q, x = ix2 a q := ⟨x 0, x 1, eq_ix2 x⟩
    obtain rfl : p = a := Fin.ext h0
    change j.val = _ at h1
    have hq : q.val < 128 := q.isLt
    have e : (⟨j.val % 128, Nat.mod_lt _ (by norm_num)⟩ : Fin 128) = q := Fin.ext (by dsimp only; change j.val = 256 + q.val at h1; omega)
    have e2 : (fun l : Fin 128 => colsum x0 x1 p ⟨2304 + (j.val / 128 * 128 + l.val), by omega⟩) = fun l : Fin 128 => colsum x0 x1 p ⟨2304 + (256 + l.val), by omega⟩ := by
      funext l
      exact congrArg (colsum x0 x1 p) (Fin.ext (by dsimp only; change j.val = 256 + q.val at h1; omega))
    rw [e, e2]
    pointwise [k0_pay37, k0_pay38, k0_pay39, k0_pay40, k0_pay21, k0_pay3, k0_pay4, k0_pay5, k0_pay2, colsum, turn]
  · obtain ⟨a, q, rfl⟩ : ∃ a q, x = ix2 a q := ⟨x 0, x 1, eq_ix2 x⟩
    obtain rfl : p = a := Fin.ext h0
    change j.val = _ at h1
    have hq : q.val < 128 := q.isLt
    have e : (⟨j.val % 128, Nat.mod_lt _ (by norm_num)⟩ : Fin 128) = q := Fin.ext (by dsimp only; change j.val = 128 + q.val at h1; omega)
    have e2 : (fun l : Fin 128 => colsum x0 x1 p ⟨2304 + (j.val / 128 * 128 + l.val), by omega⟩) = fun l : Fin 128 => colsum x0 x1 p ⟨2304 + (128 + l.val), by omega⟩ := by
      funext l
      exact congrArg (colsum x0 x1 p) (Fin.ext (by dsimp only; change j.val = 128 + q.val at h1; omega))
    rw [e, e2]
    pointwise [k0_pay37, k0_pay38, k0_pay39, k0_pay40, k0_pay21, k0_pay3, k0_pay4, k0_pay5, k0_pay2, colsum, turn]
  · obtain ⟨a, q, rfl⟩ : ∃ a q, x = ix2 a q := ⟨x 0, x 1, eq_ix2 x⟩
    obtain rfl : p = a := Fin.ext h0
    change j.val = _ at h1
    have hq : q.val < 128 := q.isLt
    have e : (⟨j.val % 128, Nat.mod_lt _ (by norm_num)⟩ : Fin 128) = q := Fin.ext (by dsimp only; change j.val = q.val at h1; omega)
    have e2 : (fun l : Fin 128 => colsum x0 x1 p ⟨2304 + (j.val / 128 * 128 + l.val), by omega⟩) = fun l : Fin 128 => colsum x0 x1 p ⟨2304 + (l.val), by omega⟩ := by
      funext l
      exact congrArg (colsum x0 x1 p) (Fin.ext (by dsimp only; change j.val = q.val at h1; omega))
    rw [e, e2]
    pointwise [k0_pay37, k0_pay38, k0_pay39, k0_pay40, k0_pay21, k0_pay3, k0_pay4, k0_pay5, k0_pay2, colsum, turn]

/-- The gate: the product with the second factor, the two rounding corrections, the bias; then the logarithm of the sigmoid, scaled. -/
theorem o13 (x0 : Vec Ideal S512x1024 .f32) (x1 : Vec Ideal S1024x3456 .bf16) (x2 : Vec Ideal S128x256 .bf16) (x3 : Vec Ideal S128x256 .bf16) (x4 : Vec Ideal S1x256 .f32) (x5 : Vec Ideal S1x128 .f32) (x6 : Vec Ideal S1x128 .f32) (x7 : Vec Ideal S512x128 .f32) (x8 : Vec Ideal S512x128 .f32) (x9 : Vec Ideal S512x128 .f32) (p : Fin 512) (j : Fin 256) (u : Fin 128 → EReal) (hu : ∀ l : Fin 128, colsum x0 x1 p ⟨3328 + l.val, by omega⟩ = u l)
    (g : EReal) (hg : ∑ x : Fin 128, u x * (show EReal from x2 (ix2 x j)) + ∑ x : Fin 128, (u x - u x) * (show EReal from x2 (ix2 x j))
      + ∑ x : Fin 128, u x * (show EReal from x3 (ix2 x j)) + (show EReal from x4 (ix2 0 j)) = g) :
    out0_13 x0 x1 x2 x3 x4 x5 x6 x7 x8 x9 (ix2 p j) = (min g 0 - Ideal.log1p (Ideal.exp (0 - FloatOps.absf (F := Ideal) (φ := FTy.f32) g))) * Ideal.ofBits FTy.f32 0x3D800000#32 := by
  subst hg
  obtain rfl : (fun l : Fin 128 => colsum x0 x1 p ⟨3328 + l.val, by omega⟩) = u := funext hu
  unfold_out out0_13
  canon_tiles x h
  obtain ⟨a, q, rfl⟩ : ∃ a q, x = ix2 a q := ⟨x 0, x 1, eq_ix2 x⟩
  obtain rfl : p = a := Fin.ext h0
  obtain rfl : j = q := Fin.ext h1
  pointwise [k0_pay24, k0_pay22, k0_pay6, k0_pay2, colsum]

theorem sel_lt (l : Fin 128) (a b : EReal) : Scalar.select (IntOp.cmpi CmpIPredicate.slt (BitVec.ofNat 32 l.val) 64#32) a b = if l.val < 64 then a else b := by
  have e : IntOp.cmpi CmpIPredicate.slt (BitVec.ofNat 32 l.val) 64#32 = if l.val < 64 then 1#1 else 0#1 := by
    revert l; decide
  rw [e]
  split <;> rfl

/-- The index key's columns less their mean over the 64 channels, zero in the other lanes. -/
def cen (u : Fin 128 → EReal) (l : Fin 128) : EReal :=
  if l.val < 64 then u l - (∑ x : Fin 128, if x.val < 64 then u x else 0) * Ideal.ofBits FTy.f32 0x3C800000#32 else 0
/-- The reciprocal root of the mean square. -/
def scl (v : Fin 128 → EReal) : EReal :=
  Ideal.rsqrt ((∑ x : Fin 128, v x * v x) * Ideal.ofBits FTy.f32 0x3C800000#32 + Ideal.ofBits FTy.f32 0x3727C5AC#32)

theorem p26 (v : FVec Ideal S512x128 .f32) (p : Fin 512) (l : Fin 128) : k0_pay26 v (ix2 p l) = cen (fun l => v (ix2 p l)) l := by
  pointwise [k0_pay26, k0_pay25]
  simp only [sel_lt]
  rfl

theorem p27 (v : FVec Ideal S512x128 .f32) (p : Fin 512) (l : Fin 1) : k0_pay27 v (ix2 p l) = scl (cen (fun l => v (ix2 p l))) := by
  pointwise [k0_pay27]
  simp only [p26]
  rfl

theorem p29 (v4 v6 v8 v : FVec Ideal S512x128 .f32) (w : FVec Ideal S512x1 .f32) (g s : FVec Ideal S1x128 .f32) (p : Fin 512) (l : Fin 128)
    (n : Fin 128 → EReal) (hn : ∀ l : Fin 128, (show EReal from v (ix2 p l)) * (show EReal from w (ix2 p 0)) * (show EReal from g (ix2 0 l)) + (show EReal from s (ix2 0 l)) = n l) :
    k0_pay29 v4 v6 v8 k0_pay25 v w g s (ix2 p l) = if l.val < 64 then turn n (fun l => v4 (ix2 p l)) (fun l => v6 (ix2 p l)) (fun l => v8 (ix2 p l)) l
      else turn n (fun l => v4 (ix2 p l)) (fun l => v6 (ix2 p l)) (fun l => v8 (ix2 p l)) ⟨(l.val + 128 - 64) % 128, Nat.mod_lt _ (by norm_num)⟩ := by
  obtain rfl : (fun l : Fin 128 => (show EReal from v (ix2 p l)) * (show EReal from w (ix2 p 0)) * (show EReal from g (ix2 0 l)) + (show EReal from s (ix2 0 l))) = n := funext hn
  pointwise [k0_pay29, k0_pay25]
  rw [sel_lt]
  rfl

/-- The index key: normalised over its 64 channels, turned, the 64 lanes stored twice. -/
theorem o19 (x0 : Vec Ideal S512x1024 .f32) (x1 : Vec Ideal S1024x3456 .bf16) (x2 : Vec Ideal S128x256 .bf16) (x3 : Vec Ideal S128x256 .bf16) (x4 : Vec Ideal S1x256 .f32) (x5 : Vec Ideal S1x128 .f32) (x6 : Vec Ideal S1x128 .f32) (x7 : Vec Ideal S512x128 .f32) (x8 : Vec Ideal S512x128 .f32) (x9 : Vec Ideal S512x128 .f32) (p : Fin 512) (l : Fin 128) (u : Fin 128 → EReal) (hu : ∀ l : Fin 128, colsum x0 x1 p ⟨3328 + l.val, by omega⟩ = u l)
    (n : Fin 128 → EReal) (hn : ∀ l : Fin 128, cen u l * scl (cen u) * (show EReal from x5 (ix2 0 l)) + (show EReal from x6 (ix2 0 l)) = n l) :
    out0_19 x0 x1 x2 x3 x4 x5 x6 x7 x8 x9 (ix2 p l) = if l.val < 64 then turn n (fun l => x7 (ix2 p l)) (fun l => x8 (ix2 p l)) (fun l => x9 (ix2 p l)) l
      else turn n (fun l => x7 (ix2 p l)) (fun l => x8 (ix2 p l)) (fun l => x9 (ix2 p l)) ⟨(l.val + 128 - 64) % 128, Nat.mod_lt _ (by norm_num)⟩ := by
  have hv : (fun l => k0_pay45 x0 x1 x2 x3 x4 x5 x6 x7 x8 x9 (ix2 p l)) = u := by
    funext l
    rw [← hu l]
    pointwise [k0_pay45, k0_pay6, k0_pay2, colsum]
  have h7 : (fun l => k0_pay42 x0 x1 x2 x3 x4 x5 x6 x7 x8 x9 (ix2 p l)) = fun l => x7 (ix2 p l) := by
    funext l
    pointwise [k0_pay42, k0_pay3]
  have h8 : (fun l => k0_pay43 x0 x1 x2 x3 x4 x5 x6 x7 x8 x9 (ix2 p l)) = fun l => x8 (ix2 p l) := by
    funext l
    pointwise [k0_pay43, k0_pay4]
  have h9 : (fun l => k0_pay44 x0 x1 x2 x3 x4 x5 x6 x7 x8 x9 (ix2 p l)) = fun l => x9 (ix2 p l) := by
    funext l
    pointwise [k0_pay44, k0_pay5]
  unfold out0_19
  canon_tiles x h
  obtain ⟨a, q, rfl⟩ : ∃ a q, x = ix2 a q := ⟨x 0, x 1, eq_ix2 x⟩
  obtain rfl : p = a := Fin.ext h0
  obtain rfl : l = q := Fin.ext h1
  refine (p29 _ _ _ _ _ _ _ p l n (fun l => ?_)).trans ?_
  · rw [p26, p27, hv, ← hn l]
    pointwise []
  · rw [h7, h8, h9]

end Cert.Kernel2Ideal.KerValue
-- ==== Proof.InAlg.lean ====
module

public import proofs.«01_k».proof.Proof.InPay
public import proofs.«01_k».proof.Proof.InTab
public import Idealize.ShloMosaic.Lib.Pipeline.ValueKit
public import Idealize.ShloMosaic.Lib.Pointwise

@[expose] public section

set_option maxRecDepth 16384
set_option maxHeartbeats 1000000
noncomputable section
open Idealize.ShloMosaic Idealize.ShloMosaic.TcCoe Idealize.SL.Sem

/-! The laws of the extended reals by which the kernel's forms are the specification's. -/
namespace Cert.InProj

/-- One eighth, one sixteenth, one sixty-fourth, sixteen and sixty-four are those numbers. -/
theorem eighth_coe : eighth = ((1 / 8 : ℝ) : EReal) := by
  unfold eighth; simp [Ideal.ofBits, Ideal.ieee]; rw [← EReal.coe_mul]; norm_num
theorem sixteenth_coe : Ideal.ofBits FTy.f32 0x3D800000#32 = ((1 / 16 : ℝ) : EReal) := by
  simp [Ideal.ofBits, Ideal.ieee]; rw [← EReal.coe_mul]; norm_num
theorem sixtyfourth_coe : Ideal.ofBits FTy.f32 0x3C800000#32 = ((1 / 64 : ℝ) : EReal) := by
  simp [Ideal.ofBits, Ideal.ieee]; rw [← EReal.coe_mul]; norm_num
theorem sixteen_coe : sixteen = ((16 : ℝ) : EReal) := by
  unfold sixteen; simp [Ideal.ofBits, Ideal.ieee]; rw [← EReal.coe_mul]; norm_num
theorem width_coe : width = ((64 : ℝ) : EReal) := by
  unfold width; simp [Ideal.ofBits, Ideal.ieee]; rw [← EReal.coe_mul]; norm_num

/-- Dividing by sixty-four, or sixteen, is multiplying by the reciprocal. -/
theorem div_width (x : EReal) : Ideal.div x width = x * Ideal.ofBits FTy.f32 0x3C800000#32 := by
  rw [width_coe, sixtyfourth_coe, Ideal.div_coe (by norm_num)]
theorem div_sixteen (x : EReal) : Ideal.div x sixteen = x * Ideal.ofBits FTy.f32 0x3D800000#32 := by
  rw [sixteen_coe, sixteenth_coe, Ideal.div_coe (by norm_num)]

/-- A finite positive factor goes through a sum. -/
theorem add_eighth (x y : EReal) : (x + y) * eighth = x * eighth + y * eighth := by
  rw [eighth_coe]
  exact EReal.right_distrib_of_nonneg_of_ne_top (by exact_mod_cast (by norm_num : (0 : ℝ) ≤ 1 / 8)) (EReal.coe_ne_top _) x y

theorem sum_eighth {ι : Type} (s : Finset ι) (f : ι → EReal) : ∑ i ∈ s, f i * eighth = (∑ i ∈ s, f i) * eighth := by
  classical
  induction s using Finset.induction_on with
  | empty => rw [Finset.sum_empty, Finset.sum_empty, zero_mul]
  | insert a s ha ih => rw [Finset.sum_insert ha, Finset.sum_insert ha, add_eighth, ih]

/-- A turned head of scaled channels is the turned head, scaled. -/
theorem rope_eighth (x : Fin 64 → EReal) (r : Fin 2176) (d : Fin 64) : rope (fun d => x d * eighth) r d = rope x r d * eighth := by
  unfold rope
  split
  · rw [sub_eq_add_neg, sub_eq_add_neg, add_eighth, neg_mul, mul_right_comm, mul_right_comm (x _) eighth]
  · split
    · rw [add_eighth, mul_right_comm, mul_right_comm (x _) eighth]
    · rfl

/-- The lanes' form of the rotation: the lanes moved eight up and eight down meet zero factors where they would come from another head. -/
theorem turn_rope (u : Fin 128 → EReal) (v : Fin 64 → EReal) (r : Fin 2176) (l : Fin 128)
    (hv : ∀ d : Fin 64, u ⟨l.val / 64 * 64 + d.val, by omega⟩ = v d) :
    Kernel2Ideal.KerValue.turn u (fun l => Kernel2Ideal.KerValue.facC r ⟨l.val % 64, Nat.mod_lt _ (by norm_num)⟩)
      (fun l => Kernel2Ideal.KerValue.facA r ⟨l.val % 64, Nat.mod_lt _ (by norm_num)⟩)
      (fun l => Kernel2Ideal.KerValue.facB r ⟨l.val % 64, Nat.mod_lt _ (by norm_num)⟩) l
    = rope v r ⟨l.val % 64, Nat.mod_lt _ (by norm_num)⟩ := by
  have get : ∀ (k : Fin 128) (d : Fin 64), k.val = l.val / 64 * 64 + d.val → u k = v d := fun k d h => by
    rw [← hv d]; exact congrArg u (Fin.ext h)
  unfold Kernel2Ideal.KerValue.turn Kernel2Ideal.KerValue.facC Kernel2Ideal.KerValue.facA Kernel2Ideal.KerValue.facB rope
  dsimp only
  by_cases h : l.val % 64 < 8
  · simp only [dif_pos h]
    rw [get l ⟨l.val % 64, by omega⟩ (by dsimp only; omega),
      get ⟨(l.val + 128 - 120) % 128, Nat.mod_lt _ (by norm_num)⟩ ⟨8 + l.val % 64, by omega⟩ (by dsimp only; omega),
      mul_zero, add_zero, mul_neg, sub_eq_add_neg]
  · by_cases h' : l.val % 64 - 8 < 8
    · simp only [dif_neg h, dif_pos h']
      rw [get l ⟨8 + (l.val % 64 - 8), by omega⟩ (by dsimp only; omega),
        get ⟨(l.val + 128 - 8) % 128, Nat.mod_lt _ (by norm_num)⟩ ⟨l.val % 64 - 8, by omega⟩ (by dsimp only; omega), mul_zero, add_zero]
    · simp only [dif_neg h, dif_neg h']
      rw [get l ⟨16 + (l.val % 64 - 8 - 8), by omega⟩ (by dsimp only; omega), mul_zero, mul_zero, add_zero, add_zero, mul_one]

/-- The kernel's form of the logarithm of the sigmoid, divided by sixteen. -/
theorem gate_logsig (g : EReal) : (min g 0 - Ideal.log1p (Ideal.exp (0 - FloatOps.absf (F := Ideal) (φ := FTy.f32) g))) * Ideal.ofBits FTy.f32 0x3D800000#32
    = Ideal.div (logsig g) sixteen := by
  rw [div_sixteen, zero_sub]
  rfl

theorem sub_self_coe {x : EReal} (h : ∃ r : ℝ, x = r) : x - x = 0 := by
  obtain ⟨r, rfl⟩ := h
  rw [← EReal.coe_sub, sub_self]
  rfl

/-- A sum over 128 lanes of which only lanes 64 to 79 count. -/
theorem sum_mid (f : Fin 128 → EReal) (h : ∀ x : Fin 128, ¬ (64 ≤ x.val ∧ x.val < 80) → f x = 0) : ∑ x, f x = ∑ i : Fin 16, f ⟨64 + i.val, by omega⟩ := by
  have e := Fin.sum_univ_add (a := 64) (b := 64) (f : Fin (64 + 64) → EReal)
  have e' := Fin.sum_univ_add (a := 16) (b := 48) (fun i : Fin (16 + 48) => f (Fin.natAdd 64 i))
  refine (e.trans (congrArg₂ (· + ·) (Finset.sum_eq_zero fun i _ => h _ ?_) (e'.trans (congrArg₂ (· + ·) rfl (Finset.sum_eq_zero fun i _ => h _ ?_))))).trans ?_
  · have := i.isLt
    show ¬ (64 ≤ i.val ∧ i.val < 80)
    omega
  · show ¬ (64 ≤ 64 + (16 + i.val) ∧ 64 + (16 + i.val) < 80)
    omega
  · rw [zero_add, add_zero]
    rfl

/-- A sum over 128 lanes of which only the first 64 count. -/
theorem sum_low (f : Fin 128 → EReal) (h : ∀ x : Fin 128, ¬ (x.val < 64) → f x = 0) : ∑ x, f x = ∑ i : Fin 64, f ⟨i.val, by omega⟩ := by
  have e := Fin.sum_univ_add (a := 64) (b := 64) (f : Fin (64 + 64) → EReal)
  refine (e.trans (congrArg₂ (· + ·) rfl (Finset.sum_eq_zero fun i _ => h _ ?_))).trans ?_
  · show ¬ (64 + i.val < 64)
    omega
  · rw [add_zero]
    rfl

/-- The gate's product: the lanes outside the gate's sixteen meet zero weights, and the two corrections are zero where the values are finite. -/
theorem gate_form (u w2 w3 : Fin 128 → EReal) (g : Fin 16 → EReal) (b : EReal)
    (h2 : ∀ x : Fin 128, w2 x = if h : 64 ≤ x.val ∧ x.val < 80 then g ⟨x.val - 64, by omega⟩ else 0) (h3 : ∀ x, w3 x = w2 x - w2 x)
    (hu : ∀ i : Fin 16, ∃ r : ℝ, u ⟨64 + i.val, by omega⟩ = r) (hg : ∀ i, ∃ r : ℝ, g i = r) :
    ∑ x, u x * w2 x + ∑ x, (u x - u x) * w2 x + ∑ x, u x * w3 x + b = ∑ i : Fin 16, u ⟨64 + i.val, by omega⟩ * g i + b := by
  have z2 : ∀ x : Fin 128, ¬ (64 ≤ x.val ∧ x.val < 80) → w2 x = 0 := fun x h => by rw [h2, dif_neg h]
  have s1 : ∑ x, u x * w2 x = ∑ i : Fin 16, u ⟨64 + i.val, by omega⟩ * g i := by
    rw [sum_mid _ fun x h => by rw [z2 x h, mul_zero]]
    refine Finset.sum_congr rfl fun i _ => ?_
    rw [h2, dif_pos ⟨by dsimp only; omega, by dsimp only; omega⟩]
    exact congrArg (fun z => u _ * g z) (Fin.ext (by dsimp only; omega))
  have s2 : ∑ x, (u x - u x) * w2 x = 0 := by
    rw [sum_mid _ fun x h => by rw [z2 x h, mul_zero]]
    refine Finset.sum_eq_zero fun i _ => ?_
    rw [sub_self_coe (hu i), zero_mul]
  have s3 : ∑ x, u x * w3 x = 0 := by
    refine Finset.sum_eq_zero fun x _ => ?_
    rw [h3]
    by_cases h : 64 ≤ x.val ∧ x.val < 80
    · rw [h2, dif_pos h, sub_self_coe (hg _), mul_zero]
    · rw [z2 x h, show (0 : EReal) - 0 = 0 from sub_self_coe ⟨0, EReal.coe_zero.symm⟩, mul_zero]
  rw [s1, s2, s3, add_zero, add_zero]

open Kernel2Ideal.KerValue in
/-- The masked normalisation over 128 lanes is the normalisation over 64. -/
theorem ln_form (u : Fin 128 → EReal) (g s : Fin 64 → EReal) (l : Fin 64) :
    cen u ⟨l.val, by omega⟩ * scl (cen u) * g l + s l = norm (fun d => u ⟨d.val, by omega⟩) g s l := by
  have hm : (∑ x : Fin 128, if x.val < 64 then u x else 0) * Ideal.ofBits FTy.f32 0x3C800000#32 = mean (fun d => u ⟨d.val, by omega⟩) := by
    unfold mean
    rw [div_width, sum_low _ fun x h => if_neg h]
    refine congrArg (fun z => z * Ideal.ofBits FTy.f32 0x3C800000#32) (Finset.sum_congr rfl fun i _ => if_pos i.isLt)
  have hc : ∀ d : Fin 64, cen u ⟨d.val, by omega⟩ = u ⟨d.val, by omega⟩ - mean (fun d => u ⟨d.val, by omega⟩) := fun d => by
    unfold cen
    rw [hm]
    exact if_pos d.isLt
  have hs : scl (cen u) = Ideal.rsqrt (Ideal.div (∑ k : Fin 64, (u ⟨k.val, by omega⟩ - mean (fun d => u ⟨d.val, by omega⟩)) * (u ⟨k.val, by omega⟩ - mean (fun d => u ⟨d.val, by omega⟩))) width + eps) := by
    unfold scl
    rw [div_width, sum_low _ fun x h => by rw [show cen u x = 0 from if_neg h, mul_zero]]
    simp only [hc]
    rfl
  rw [hc, hs]
  rfl

/-- A projection of finite rows and columns is finite. -/
theorem proj_coe (H : Act) (W : Wide) (b : Fin 8) (r : Fin 2176) (e : Fin 3416) (hH : ∀ d, ∃ x : ℝ, H (ix3 b r d) = (x : EReal)) (hW : ∀ d, ∃ x : ℝ, W (ix2 d e) = (x : EReal)) :
    ∃ x : ℝ, proj H W b r e = x := by
  choose h hh using hH
  choose w hw using hW
  refine ⟨∑ d, h d * w d, ?_⟩
  unfold proj
  rw [Finset.sum_congr rfl fun d _ => show (show EReal from H (ix3 b r d)) * (show EReal from W (ix2 d e)) = ((h d * w d : ℝ) : EReal) by
    rw [EReal.coe_mul]; exact congrArg₂ (fun a b : EReal => a * b) (hh d) (hw d)]
  exact (map_sum (⟨⟨Real.toEReal, EReal.coe_zero⟩, EReal.coe_add⟩ : ℝ →+ EReal) _ _).symm

end Cert.InProj
-- ==== Proof.InBlk.lean ====
module

public import proofs.«01_k».proof.Proof.Gen.Kernel2Ideal.Frame
public import proofs.«01_k».proof.Proof.InWts
public import proofs.«01_k».proof.Proof.InTab
public import proofs.«01_k».proof.Proof.InPay
public import proofs.«01_k».proof.Proof.InAlg
public import Idealize.ShloMosaic.Lib.Pipeline.ValueKit
public import Idealize.ShloMosaic.Lib.Pointwise

@[expose] public section

set_option maxRecDepth 16384
set_option maxHeartbeats 1000000
noncomputable section
open Idealize.ShloMosaic Idealize.ShloMosaic.TcCoe Idealize.SL.Sem

/-! The blocks one grid point reads, entry by entry, and the columns of the product it forms. -/
namespace Cert.Kernel2Ideal.KerValue
open Cert.Kernel2Ideal Cert.Kernel2Ideal.Gen
variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![t.val % 17, 0] ∧ win0_8.index t = ![t.val % 17, 0] ∧ win0_9.index t = ![t.val % 17, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0, 0] ∧ win0_18.index t = ![t.val, 0] ∧ win0_19.index t = ![t.val, 0] ∧ win0_20.index t = ![t.val, 0, 0] ∧ win0_21.index t = ![t.val, 0] :=
  (by decide +kernel : ∀ t : Fin grid0.N, _)

/-- The number of grid points. -/
theorem ntL (t : Fin cfg0.N) : t.val < 34 := lt_of_lt_of_eq t.isLt (by decide +kernel)

/-- Block `b` of the four blocks of 128 rows of grid point `t`. -/
def blkOf (t : Fin cfg0.N) (b : Fin 4) : Fin 136 := ⟨t.val * 4 + b.val, by have := ntL t; omega⟩

/-- Row `p` of grid point `t`. -/
def row (t : Fin cfg0.N) (p : Fin 512) : Fin 17408 := ⟨t.val * 512 + p.val, by have := ntL t; omega⟩

/-- A row of activations. -/
theorem blk0 (c : Dev nD) (t : Fin cfg0.N) (p : Fin 512) (d : Fin 1024) : iblk m c 0 t (ix2 p d) = m ((c.tc : Thread nD τ).loc main_arg0) (ix3 (InProj.seqOf (row t p)) (InProj.rowOf (row t p)) d) := by
  have e : iblk m c 0 t (ix2 p d) = V m c main_v92 (ix2 (row t p) d) := by
    unfold row
    blk_ext! [iblk, idx t]
  rw [e]
  exact v92_at m c (row t p) d

/-- The packed weights are one block. -/
theorem blk1 (c : Dev nD) (t : Fin cfg0.N) (d : Fin 1024) (e : Fin 3456) : iblk m c 1 t (ix2 d e) = V m c main_v74 (ix2 d e) := by
  have e : iblk m c 1 t (ix2 d e) = V m c main_v74 (ix2 d e) := by
    blk_ext! [iblk, idx t]
  exact e

/-- The padded gate weights are one block. -/
theorem blk2 (c : Dev nD) (t : Fin cfg0.N) (k : Fin 128) (j : Fin 256) : iblk m c 2 t (ix2 k j) = if h : 64 ≤ k.val ∧ k.val < 80 then m ((c.tc : Thread nD τ).loc main_arg2) (ix2 ⟨k.val - 64, by omega⟩ j) else (0 : EReal) := by
  have e : iblk m c 2 t (ix2 k j) = V m c main_v78 (ix2 k j) := by
    blk_ext! [iblk, idx t]
  rw [e]
  rw [at_v78]
  exact v77_at m c k j

/-- What rounding left of them is, exactly, themselves less themselves. -/
theorem blk3 (c : Dev nD) (t : Fin cfg0.N) (k : Fin 128) (j : Fin 256) : iblk m c 3 t (ix2 k j) = @HSub.hSub EReal EReal EReal _ (iblk m c 2 t (ix2 k j)) (iblk m c 2 t (ix2 k j)) := by
  have e : iblk m c 3 t (ix2 k j) = V m c main_v81 (ix2 k j) := by
    blk_ext! [iblk, idx t]
  rw [e]
  rw [blk2, at_v81, at_v80, at_v79, at_v78, ← v77_at m c k j]
  rfl

/-- The gate bias. -/
theorem blk4 (c : Dev nD) (t : Fin cfg0.N) (k : Fin 1) (j : Fin 256) : iblk m c 4 t (ix2 k j) = m ((c.tc : Thread nD τ).loc main_arg3) (ix1 j) := by
  have e : iblk m c 4 t (ix2 k j) = V m c main_v93 (ix2 k j) := by
    blk_ext! [iblk, idx t]
  rw [e]
  exact v93_at m c k j

/-- The index key's scale, padded. -/
theorem blk5 (c : Dev nD) (t : Fin cfg0.N) (k : Fin 1) (j : Fin 128) : iblk m c 5 t (ix2 k j) = if h : j.val < 64 then m ((c.tc : Thread nD τ).loc main_arg4) (ix1 ⟨j.val, h⟩) else (0 : EReal) := by
  have e : iblk m c 5 t (ix2 k j) = V m c main_v86 (ix2 k j) := by
    blk_ext! [iblk, idx t]
  rw [e]
  exact v86_at m c k j

/-- The index key's shift, padded. -/
theorem blk6 (c : Dev nD) (t : Fin cfg0.N) (k : Fin 1) (j : Fin 128) : iblk m c 6 t (ix2 k j) = if h : j.val < 64 then m ((c.tc : Thread nD τ).loc main_arg5) (ix1 ⟨j.val, h⟩) else (0 : EReal) := by
  have e : iblk m c 6 t (ix2 k j) = V m c main_v91 (ix2 k j) := by
    blk_ext! [iblk, idx t]
  rw [e]
  exact v91_at m c k j

/-- The rotation table. -/
theorem blk7 (c : Dev nD) (t : Fin cfg0.N) (p : Fin 512) (l : Fin 128) : iblk m c 7 t (ix2 p l) = facC (InProj.rowOf (row t p)) ⟨l.val % 64, Nat.mod_lt _ (by norm_num)⟩ := by
  have e : iblk m c 7 t (ix2 p l) = V m c main_v30 (ix2 ⟨t.val % 17 * 512 + p.val, by omega⟩ l) := by
    blk_ext! [iblk, idx t]
  rw [e]
  rw [v30_at]
  congr 1
  apply Fin.ext
  show (t.val % 17 * 512 + p.val) % 2176 = (t.val * 512 + p.val) % 2176
  omega

/-- The rotation table. -/
theorem blk8 (c : Dev nD) (t : Fin cfg0.N) (p : Fin 512) (l : Fin 128) : iblk m c 8 t (ix2 p l) = facA (InProj.rowOf (row t p)) ⟨l.val % 64, Nat.mod_lt _ (by norm_num)⟩ := by
  have e : iblk m c 8 t (ix2 p l) = V m c main_v34 (ix2 ⟨t.val % 17 * 512 + p.val, by omega⟩ l) := by
    blk_ext! [iblk, idx t]
  rw [e]
  rw [v34_at]
  congr 1
  apply Fin.ext
  show (t.val % 17 * 512 + p.val) % 2176 = (t.val * 512 + p.val) % 2176
  omega

/-- The rotation table. -/
theorem blk9 (c : Dev nD) (t : Fin cfg0.N) (p : Fin 512) (l : Fin 128) : iblk m c 9 t (ix2 p l) = facB (InProj.rowOf (row t p)) ⟨l.val % 64, Nat.mod_lt _ (by norm_num)⟩ := by
  have e : iblk m c 9 t (ix2 p l) = V m c main_v38 (ix2 ⟨t.val % 17 * 512 + p.val, by omega⟩ l) := by
    blk_ext! [iblk, idx t]
  rw [e]
  rw [v38_at]
  congr 1
  apply Fin.ext
  show (t.val % 17 * 512 + p.val) % 2176 = (t.val * 512 + p.val) % 2176
  omega

theorem col_0 (c : Dev nD) (t : Fin cfg0.N) (p : Fin 512) (j : Fin 256) : colsum (iblk m c 0 t) (iblk m c 1 t) p ⟨0 + j.val, by omega⟩
    = InProj.proj (m ((c.tc : Thread nD τ).loc main_arg0)) (m ((c.tc : Thread nD τ).loc main_arg1)) (InProj.seqOf (row t p)) (InProj.rowOf (row t p)) ⟨j.val, by omega⟩ * InProj.eighth := by
  rw [show (⟨0 + j.val, by omega⟩ : Fin 3456) = ⟨j.val, by omega⟩ from Fin.ext (Nat.zero_add _)]
  exact (Finset.sum_congr rfl fun d _ => (congrArg₂ (fun a b : EReal => a * b) (blk0 m c t p d) ((blk1 m c t d _).trans (W0 m c d j))).trans (mul_assoc _ _ _).symm).trans (InProj.sum_eighth _ _)

theorem col_1 (c : Dev nD) (t : Fin cfg0.N) (p : Fin 512) (j : Fin 256) : colsum (iblk m c 0 t) (iblk m c 1 t) p ⟨256 + j.val, by omega⟩
    = InProj.proj (m ((c.tc : Thread nD τ).loc main_arg0)) (m ((c.tc : Thread nD τ).loc main_arg1)) (InProj.seqOf (row t p)) (InProj.rowOf (row t p)) ⟨256 + j.val, by omega⟩ := by
  exact Finset.sum_congr rfl fun d _ => congrArg₂ (fun a b : EReal => a * b) (blk0 m c t p d) ((blk1 m c t d _).trans (W1 m c d j))

theorem col_2 (c : Dev nD) (t : Fin cfg0.N) (p : Fin 512) (j : Fin 512) : colsum (iblk m c 0 t) (iblk m c 1 t) p ⟨512 + j.val, by omega⟩
    = InProj.proj (m ((c.tc : Thread nD τ).loc main_arg0)) (m ((c.tc : Thread nD τ).loc main_arg1)) (InProj.seqOf (row t p)) (InProj.rowOf (row t p)) ⟨512 + j.val, by omega⟩ := by
  exact Finset.sum_congr rfl fun d _ => congrArg₂ (fun a b : EReal => a * b) (blk0 m c t p d) ((blk1 m c t d _).trans (W2 m c d j))

theorem col_3 (c : Dev nD) (t : Fin cfg0.N) (p : Fin 512) (j : Fin 512) : colsum (iblk m c 0 t) (iblk m c 1 t) p ⟨1024 + j.val, by omega⟩
    = InProj.proj (m ((c.tc : Thread nD τ).loc main_arg0)) (m ((c.tc : Thread nD τ).loc main_arg1)) (InProj.seqOf (row t p)) (InProj.rowOf (row t p)) ⟨1040 + j.val, by omega⟩ := by
  exact Finset.sum_congr rfl fun d _ => congrArg₂ (fun a b : EReal => a * b) (blk0 m c t p d) ((blk1 m c t d _).trans (W3 m c d j))

theorem col_4 (c : Dev nD) (t : Fin cfg0.N) (p : Fin 512) (j : Fin 512) : colsum (iblk m c 0 t) (iblk m c 1 t) p ⟨1536 + j.val, by omega⟩
    = InProj.proj (m ((c.tc : Thread nD τ).loc main_arg0)) (m ((c.tc : Thread nD τ).loc main_arg1)) (InProj.seqOf (row t p)) (InProj.rowOf (row t p)) ⟨1552 + ((j.val / 64 % 2 * 4 + j.val / 128) * 64 + j.val % 64), by omega⟩ * InProj.eighth := by
  exact (Finset.sum_congr rfl fun d _ => (congrArg₂ (fun a b : EReal => a * b) (blk0 m c t p d) ((blk1 m c t d _).trans (W4 m c d j))).trans (mul_assoc _ _ _).symm).trans (InProj.sum_eighth _ _)

theorem col_5 (c : Dev nD) (t : Fin cfg0.N) (p : Fin 512) (j : Fin 128) : colsum (iblk m c 0 t) (iblk m c 1 t) p ⟨2048 + j.val, by omega⟩
    = InProj.proj (m ((c.tc : Thread nD τ).loc main_arg0)) (m ((c.tc : Thread nD τ).loc main_arg1)) (InProj.seqOf (row t p)) (InProj.rowOf (row t p)) ⟨2064 + j.val, by omega⟩ := by
  exact Finset.sum_congr rfl fun d _ => congrArg₂ (fun a b : EReal => a * b) (blk0 m c t p d) ((blk1 m c t d _).trans (W5 m c d j))

theorem col_6 (c : Dev nD) (t : Fin cfg0.N) (p : Fin 512) (j : Fin 128) : colsum (iblk m c 0 t) (iblk m c 1 t) p ⟨2176 + j.val, by omega⟩
    = InProj.proj (m ((c.tc : Thread nD τ).loc main_arg0)) (m ((c.tc : Thread nD τ).loc main_arg1)) (InProj.seqOf (row t p)) (InProj.rowOf (row t p)) ⟨2192 + j.val, by omega⟩ := by
  exact Finset.sum_congr rfl fun d _ => congrArg₂ (fun a b : EReal => a * b) (blk0 m c t p d) ((blk1 m c t d _).trans (W6 m c d j))

theorem col_7 (c : Dev nD) (t : Fin cfg0.N) (p : Fin 512) (j : Fin 512) : colsum (iblk m c 0 t) (iblk m c 1 t) p ⟨2304 + j.val, by omega⟩
    = InProj.proj (m ((c.tc : Thread nD τ).loc main_arg0)) (m ((c.tc : Thread nD τ).loc main_arg1)) (InProj.seqOf (row t p)) (InProj.rowOf (row t p)) ⟨2320 + j.val, by omega⟩ * InProj.eighth := by
  exact (Finset.sum_congr rfl fun d _ => (congrArg₂ (fun a b : EReal => a * b) (blk0 m c t p d) ((blk1 m c t d _).trans (W7 m c d j))).trans (mul_assoc _ _ _).symm).trans (InProj.sum_eighth _ _)

theorem col_8 (c : Dev nD) (t : Fin cfg0.N) (p : Fin 512) (j : Fin 512) : colsum (iblk m c 0 t) (iblk m c 1 t) p ⟨2816 + j.val, by omega⟩
    = InProj.proj (m ((c.tc : Thread nD τ).loc main_arg0)) (m ((c.tc : Thread nD τ).loc main_arg1)) (InProj.seqOf (row t p)) (InProj.rowOf (row t p)) ⟨2904 + j.val, by omega⟩ := by
  exact Finset.sum_congr rfl fun d _ => congrArg₂ (fun a b : EReal => a * b) (blk0 m c t p d) ((blk1 m c t d _).trans (W8 m c d j))

theorem col_9 (c : Dev nD) (t : Fin cfg0.N) (p : Fin 512) (j : Fin 64) : colsum (iblk m c 0 t) (iblk m c 1 t) p ⟨3328 + j.val, by omega⟩
    = InProj.proj (m ((c.tc : Thread nD τ).loc main_arg0)) (m ((c.tc : Thread nD τ).loc main_arg1)) (InProj.seqOf (row t p)) (InProj.rowOf (row t p)) ⟨2832 + j.val, by omega⟩ := by
  exact Finset.sum_congr rfl fun d _ => congrArg₂ (fun a b : EReal => a * b) (blk0 m c t p d) ((blk1 m c t d _).trans (W9 m c d j))

theorem col_10 (c : Dev nD) (t : Fin cfg0.N) (p : Fin 512) (j : Fin 16) : colsum (iblk m c 0 t) (iblk m c 1 t) p ⟨3392 + j.val, by omega⟩
    = InProj.proj (m ((c.tc : Thread nD τ).loc main_arg0)) (m ((c.tc : Thread nD τ).loc main_arg1)) (InProj.seqOf (row t p)) (InProj.rowOf (row t p)) ⟨1024 + j.val, by omega⟩ := by
  exact Finset.sum_congr rfl fun d _ => congrArg₂ (fun a b : EReal => a * b) (blk0 m c t p d) ((blk1 m c t d _).trans (W10 m c d j))

theorem col_11 (c : Dev nD) (t : Fin cfg0.N) (p : Fin 512) (j : Fin 8) : colsum (iblk m c 0 t) (iblk m c 1 t) p ⟨3408 + j.val, by omega⟩
    = InProj.proj (m ((c.tc : Thread nD τ).loc main_arg0)) (m ((c.tc : Thread nD τ).loc main_arg1)) (InProj.seqOf (row t p)) (InProj.rowOf (row t p)) ⟨2896 + j.val, by omega⟩ := by
  exact Finset.sum_congr rfl fun d _ => congrArg₂ (fun a b : EReal => a * b) (blk0 m c t p d) ((blk1 m c t d _).trans (W11 m c d j))

end Cert.Kernel2Ideal.KerValue
-- ==== Proof.InKer.lean ====
module

public import proofs.«01_k».proof.Proof.Gen.Kernel2Ideal.Frame
public import proofs.«01_k».proof.Proof.InBlk
public import Idealize.ShloMosaic.Lib.Pipeline.ValueKit
public import Idealize.ShloMosaic.Lib.Pointwise

@[expose] public section

set_option maxRecDepth 16384
set_option maxHeartbeats 1000000
noncomputable section
open Idealize.ShloMosaic Idealize.ShloMosaic.TcCoe Idealize.SL.Sem

/-! The twelve results of the projection, over the kernel's own arguments. -/
namespace Cert.Kernel2Ideal.KerValue
open Cert.Kernel2Ideal Cert.Kernel2Ideal.Gen
variable (m : (ℓ : Loc nD τ sig) → Buf (Elt Ideal) ℓ)

/-- The index key: the normalisation over the first 64 lanes, turned, and stored twice. -/
theorem key_form (x0 : Vec Ideal S512x1024 .f32) (x1 : Vec Ideal S1024x3456 .bf16) (x2 : Vec Ideal S128x256 .bf16) (x3 : Vec Ideal S128x256 .bf16) (x4 : Vec Ideal S1x256 .f32) (x5 : Vec Ideal S1x128 .f32) (x6 : Vec Ideal S1x128 .f32) (x7 : Vec Ideal S512x128 .f32) (x8 : Vec Ideal S512x128 .f32) (x9 : Vec Ideal S512x128 .f32) (p : Fin 512) (j : Fin 128) (r : Fin 2176) (v g s : Fin 64 → EReal)
    (hc : ∀ d : Fin 64, colsum x0 x1 p ⟨3328 + d.val, by omega⟩ = v d)
    (h5 : ∀ d : Fin 64, x5 (ix2 0 ⟨d.val, by omega⟩) = g d) (h6 : ∀ d : Fin 64, x6 (ix2 0 ⟨d.val, by omega⟩) = s d)
    (h7 : ∀ l : Fin 128, x7 (ix2 p l) = facC r ⟨l.val % 64, Nat.mod_lt _ (by norm_num)⟩)
    (h8 : ∀ l : Fin 128, x8 (ix2 p l) = facA r ⟨l.val % 64, Nat.mod_lt _ (by norm_num)⟩)
    (h9 : ∀ l : Fin 128, x9 (ix2 p l) = facB r ⟨l.val % 64, Nat.mod_lt _ (by norm_num)⟩) :
    out0_19 x0 x1 x2 x3 x4 x5 x6 x7 x8 x9 (ix2 p j) = InProj.rope (InProj.norm v g s) r ⟨j.val % 64, Nat.mod_lt _ (by norm_num)⟩ := by
  have h7' := funext h7
  have h8' := funext h8
  have h9' := funext h9
  refine (o19 x0 x1 x2 x3 x4 x5 x6 x7 x8 x9 p j (fun l => colsum x0 x1 p ⟨3328 + l.val, by omega⟩) (fun _ => rfl) _ (fun _ => rfl)).trans ?_
  generalize hn : (fun l : Fin 128 => cen (fun l => colsum x0 x1 p ⟨3328 + l.val, by omega⟩) l * scl (cen (fun l => colsum x0 x1 p ⟨3328 + l.val, by omega⟩)) * (show EReal from x5 (ix2 0 l)) + (show EReal from x6 (ix2 0 l))) = n
  have hN : ∀ d : Fin 64, n ⟨d.val, by omega⟩ = InProj.norm v g s d := fun d => by
    rw [← hn]
    have e5 : (show EReal from x5 (ix2 0 ⟨d.val, by omega⟩)) = g d := h5 d
    have e6 : (show EReal from x6 (ix2 0 ⟨d.val, by omega⟩)) = s d := h6 d
    refine (congrArg₂ (fun a b : EReal => _ * a + b) e5 e6).trans ?_
    refine (InProj.ln_form _ g s d).trans ?_
    exact congrArg (fun u => InProj.norm u g s d) (funext hc)
  rw [h7', h8', h9']
  split
  · refine (InProj.turn_rope n (InProj.norm v g s) r j fun d => ?_)
    rw [← hN d]
    exact congrArg n (Fin.ext (by show j.val / 64 * 64 + d.val = d.val; omega))
  · refine (InProj.turn_rope n (InProj.norm v g s) r ⟨(j.val + 128 - 64) % 128, Nat.mod_lt _ (by norm_num)⟩ fun d => ?_).trans ?_
    · rw [← hN d]
      exact congrArg n (Fin.ext (by show (j.val + 128 - 64) % 128 / 64 * 64 + d.val = d.val; omega))
    · exact congrArg (fun z => InProj.rope _ _ z) (Fin.ext (by show (j.val + 128 - 64) % 128 % 64 = j.val % 64; omega))

theorem val10 (c : Dev nD) (t : Fin cfg0.N) (p : Fin 512) (j : Fin 256) : out0_10 (iblk m c 0 t) (iblk m c 1 t) (iblk m c 2 t) (iblk m c 3 t) (iblk m c 4 t) (iblk m c 5 t) (iblk m c 6 t) (iblk m c 7 t) (iblk m c 8 t) (iblk m c 9 t) (ix2 p j)
    = InProj.gq (m ((c.tc : Thread nD τ).loc main_arg0)) (m ((c.tc : Thread nD τ).loc main_arg1)) (ix2 (row t p) j) := by
  exact (o10 _ _ _ _ _ _ _ _ _ _ p j).trans (col_0 m c t p j)

theorem val11 (c : Dev nD) (t : Fin cfg0.N) (p : Fin 512) (j : Fin 256) : out0_11 (iblk m c 0 t) (iblk m c 1 t) (iblk m c 2 t) (iblk m c 3 t) (iblk m c 4 t) (iblk m c 5 t) (iblk m c 6 t) (iblk m c 7 t) (iblk m c 8 t) (iblk m c 9 t) (ix2 p j)
    = InProj.gk (m ((c.tc : Thread nD τ).loc main_arg0)) (m ((c.tc : Thread nD τ).loc main_arg1)) (ix2 (row t p) j) := by
  exact (o11 _ _ _ _ _ _ _ _ _ _ p j).trans (col_1 m c t p j)

theorem val12 (c : Dev nD) (t : Fin cfg0.N) (p : Fin 512) (j : Fin 512) : out0_12 (iblk m c 0 t) (iblk m c 1 t) (iblk m c 2 t) (iblk m c 3 t) (iblk m c 4 t) (iblk m c 5 t) (iblk m c 6 t) (iblk m c 7 t) (iblk m c 8 t) (iblk m c 9 t) (ix2 p j)
    = InProj.gv (m ((c.tc : Thread nD τ).loc main_arg0)) (m ((c.tc : Thread nD τ).loc main_arg1)) (ix2 (row t p) j) := by
  exact (o12 _ _ _ _ _ _ _ _ _ _ p j).trans (col_2 m c t p j)

theorem val13 (c : Dev nD) (t : Fin cfg0.N) (p : Fin 512) (j : Fin 256)
    (hH : ∀ i, ∃ x : ℝ, m ((c.tc : Thread nD τ).loc main_arg0) i = (x : EReal))
    (hW : ∀ (d : Fin 1024) (k : Fin 16), ∃ x : ℝ, m ((c.tc : Thread nD τ).loc main_arg1) (ix2 d ⟨1024 + k.val, by omega⟩) = (x : EReal))
    (hG : ∀ i, ∃ x : ℝ, m ((c.tc : Thread nD τ).loc main_arg2) i = (x : EReal)) : out0_13 (iblk m c 0 t) (iblk m c 1 t) (iblk m c 2 t) (iblk m c 3 t) (iblk m c 4 t) (iblk m c 5 t) (iblk m c 6 t) (iblk m c 7 t) (iblk m c 8 t) (iblk m c 9 t) (ix2 p j)
    = InProj.gl (m ((c.tc : Thread nD τ).loc main_arg0)) (m ((c.tc : Thread nD τ).loc main_arg1)) (m ((c.tc : Thread nD τ).loc main_arg2)) (m ((c.tc : Thread nD τ).loc main_arg3)) (ix2 (row t p) j) := by
  refine (o13 _ _ _ _ _ _ _ _ _ _ p j (fun l => colsum (iblk m c 0 t) (iblk m c 1 t) p ⟨3328 + l.val, by omega⟩) (fun _ => rfl)
    (InProj.gate (m ((c.tc : Thread nD τ).loc main_arg0)) (m ((c.tc : Thread nD τ).loc main_arg1)) (m ((c.tc : Thread nD τ).loc main_arg2)) (m ((c.tc : Thread nD τ).loc main_arg3)) (InProj.seqOf (row t p)) (InProj.rowOf (row t p)) j) ?_).trans (InProj.gate_logsig _)
  have hc : ∀ i : Fin 16, colsum (iblk m c 0 t) (iblk m c 1 t) p ⟨3328 + (64 + i.val), by omega⟩ = InProj.proj (m ((c.tc : Thread nD τ).loc main_arg0)) (m ((c.tc : Thread nD τ).loc main_arg1)) (InProj.seqOf (row t p)) (InProj.rowOf (row t p)) ⟨1024 + i.val, by omega⟩ := fun i => by
    rw [show (⟨3328 + (64 + i.val), by omega⟩ : Fin 3456) = ⟨3392 + i.val, by omega⟩ from Fin.ext (by dsimp only; omega)]
    exact col_10 m c t p i
  refine (InProj.gate_form _ (fun x => iblk m c 2 t (ix2 x j)) (fun x => iblk m c 3 t (ix2 x j)) (fun i => (m ((c.tc : Thread nD τ).loc main_arg2)) (ix2 i j)) _
    (fun x => blk2 m c t x j) (fun x => blk3 m c t x j) (fun i => ?_) (fun i => hG _)).trans ?_
  · obtain ⟨r, hr⟩ := InProj.proj_coe (m ((c.tc : Thread nD τ).loc main_arg0)) (m ((c.tc : Thread nD τ).loc main_arg1)) (InProj.seqOf (row t p)) (InProj.rowOf (row t p)) ⟨1024 + i.val, by omega⟩ (fun d => hH _) (fun d => hW d i)
    exact ⟨r, (hc i).trans hr⟩
  · exact congrArg₂ (fun a b : EReal => a + b) (Finset.sum_congr rfl fun i _ => congrArg (fun a : EReal => a * _) (hc i)) (blk4 m c t 0 j)

theorem val14 (c : Dev nD) (t : Fin cfg0.N) (p : Fin 512) (j : Fin 512) : out0_14 (iblk m c 0 t) (iblk m c 1 t) (iblk m c 2 t) (iblk m c 3 t) (iblk m c 4 t) (iblk m c 5 t) (iblk m c 6 t) (iblk m c 7 t) (iblk m c 8 t) (iblk m c 9 t) (ix2 p j)
    = InProj.gz (m ((c.tc : Thread nD τ).loc main_arg0)) (m ((c.tc : Thread nD τ).loc main_arg1)) (ix2 (row t p) j) := by
  exact (o14 _ _ _ _ _ _ _ _ _ _ p j).trans (col_3 m c t p j)

theorem val15 (c : Dev nD) (t : Fin cfg0.N) (p : Fin 512) (j : Fin 512) : out0_15 (iblk m c 0 t) (iblk m c 1 t) (iblk m c 2 t) (iblk m c 3 t) (iblk m c 4 t) (iblk m c 5 t) (iblk m c 6 t) (iblk m c 7 t) (iblk m c 8 t) (iblk m c 9 t) (ix2 p j)
    = InProj.aq (m ((c.tc : Thread nD τ).loc main_arg0)) (m ((c.tc : Thread nD τ).loc main_arg1)) (ix2 (row t p) j) := by
  have h7 : (fun l => iblk m c 7 t (ix2 p l)) = fun l : Fin 128 => facC (InProj.rowOf (row t p)) ⟨l.val % 64, Nat.mod_lt _ (by norm_num)⟩ := funext fun l => blk7 m c t p l
  have h8 : (fun l => iblk m c 8 t (ix2 p l)) = fun l : Fin 128 => facA (InProj.rowOf (row t p)) ⟨l.val % 64, Nat.mod_lt _ (by norm_num)⟩ := funext fun l => blk8 m c t p l
  have h9 : (fun l => iblk m c 9 t (ix2 p l)) = fun l : Fin 128 => facB (InProj.rowOf (row t p)) ⟨l.val % 64, Nat.mod_lt _ (by norm_num)⟩ := funext fun l => blk9 m c t p l
  refine (o15 _ _ _ _ _ _ _ _ _ _ p j).trans ?_
  rw [h7, h8, h9]
  refine (InProj.turn_rope _ (fun d => InProj.proj (m ((c.tc : Thread nD τ).loc main_arg0)) (m ((c.tc : Thread nD τ).loc main_arg1)) (InProj.seqOf (row t p)) (InProj.rowOf (row t p)) ⟨1552 + ((j.val / 64 % 2 * 4 + j.val / 128) * 64 + d.val), by omega⟩ * InProj.eighth) _ ⟨j.val % 128, Nat.mod_lt _ (by norm_num)⟩ fun d => ?_).trans ?_
  · refine (col_4 m c t p ⟨j.val / 128 * 128 + (j.val % 128 / 64 * 64 + d.val), by omega⟩).trans (congrArg (fun z => InProj.proj (m ((c.tc : Thread nD τ).loc main_arg0)) (m ((c.tc : Thread nD τ).loc main_arg1)) (InProj.seqOf (row t p)) (InProj.rowOf (row t p)) z * InProj.eighth) (Fin.ext ?_))
    dsimp only
    omega
  · rw [InProj.rope_eighth]
    exact congrArg (fun z => InProj.rope _ _ z * InProj.eighth) (Fin.ext (by show j.val % 128 % 64 = j.val % 64; omega))

theorem val16 (c : Dev nD) (t : Fin cfg0.N) (p : Fin 512) (j : Fin 128) : out0_16 (iblk m c 0 t) (iblk m c 1 t) (iblk m c 2 t) (iblk m c 3 t) (iblk m c 4 t) (iblk m c 5 t) (iblk m c 6 t) (iblk m c 7 t) (iblk m c 8 t) (iblk m c 9 t) (ix2 p j)
    = InProj.ak (m ((c.tc : Thread nD τ).loc main_arg0)) (m ((c.tc : Thread nD τ).loc main_arg1)) (ix2 (row t p) j) := by
  have h7 : (fun l => iblk m c 7 t (ix2 p l)) = fun l : Fin 128 => facC (InProj.rowOf (row t p)) ⟨l.val % 64, Nat.mod_lt _ (by norm_num)⟩ := funext fun l => blk7 m c t p l
  have h8 : (fun l => iblk m c 8 t (ix2 p l)) = fun l : Fin 128 => facA (InProj.rowOf (row t p)) ⟨l.val % 64, Nat.mod_lt _ (by norm_num)⟩ := funext fun l => blk8 m c t p l
  have h9 : (fun l => iblk m c 9 t (ix2 p l)) = fun l : Fin 128 => facB (InProj.rowOf (row t p)) ⟨l.val % 64, Nat.mod_lt _ (by norm_num)⟩ := funext fun l => blk9 m c t p l
  refine (o16 _ _ _ _ _ _ _ _ _ _ p j).trans ?_
  rw [h7, h8, h9]
  refine (InProj.turn_rope _ (fun d => InProj.proj (m ((c.tc : Thread nD τ).loc main_arg0)) (m ((c.tc : Thread nD τ).loc main_arg1)) (InProj.seqOf (row t p)) (InProj.rowOf (row t p)) ⟨2064 + (j.val / 64 * 64 + d.val), by omega⟩) _ j fun d => ?_).trans rfl
  exact col_5 m c t p ⟨j.val / 64 * 64 + d.val, by omega⟩

theorem val17 (c : Dev nD) (t : Fin cfg0.N) (b : Fin 4) (e : Fin 128) (p : Fin 128) : out0_17 (iblk m c 0 t) (iblk m c 1 t) (iblk m c 2 t) (iblk m c 3 t) (iblk m c 4 t) (iblk m c 5 t) (iblk m c 6 t) (iblk m c 7 t) (iblk m c 8 t) (iblk m c 9 t) (ix3 b e p)
    = InProj.av (m ((c.tc : Thread nD τ).loc main_arg0)) (m ((c.tc : Thread nD τ).loc main_arg1)) (ix3 (blkOf t b) e p) := by
  have hs : InProj.seqOf (row t ⟨b.val * 128 + p.val, by omega⟩) = InProj.seqAt (blkOf t b) := Fin.ext (by
    show (t.val * 512 + (b.val * 128 + p.val)) / 2176 = (t.val * 4 + b.val) / 17
    omega)
  have hr : InProj.rowOf (row t ⟨b.val * 128 + p.val, by omega⟩) = InProj.rowAt (blkOf t b) p := Fin.ext (by
    show (t.val * 512 + (b.val * 128 + p.val)) % 2176 = (t.val * 4 + b.val) % 17 * 128 + p.val
    omega)
  refine (o17 _ _ _ _ _ _ _ _ _ _ b e p).trans ?_
  rw [col_6, hs, hr]
  rfl

theorem val18 (c : Dev nD) (t : Fin cfg0.N) (p : Fin 512) (j : Fin 512) : out0_18 (iblk m c 0 t) (iblk m c 1 t) (iblk m c 2 t) (iblk m c 3 t) (iblk m c 4 t) (iblk m c 5 t) (iblk m c 6 t) (iblk m c 7 t) (iblk m c 8 t) (iblk m c 9 t) (ix2 p j)
    = InProj.iq (m ((c.tc : Thread nD τ).loc main_arg0)) (m ((c.tc : Thread nD τ).loc main_arg1)) (ix2 (row t p) j) := by
  have h7 : (fun l => iblk m c 7 t (ix2 p l)) = fun l : Fin 128 => facC (InProj.rowOf (row t p)) ⟨l.val % 64, Nat.mod_lt _ (by norm_num)⟩ := funext fun l => blk7 m c t p l
  have h8 : (fun l => iblk m c 8 t (ix2 p l)) = fun l : Fin 128 => facA (InProj.rowOf (row t p)) ⟨l.val % 64, Nat.mod_lt _ (by norm_num)⟩ := funext fun l => blk8 m c t p l
  have h9 : (fun l => iblk m c 9 t (ix2 p l)) = fun l : Fin 128 => facB (InProj.rowOf (row t p)) ⟨l.val % 64, Nat.mod_lt _ (by norm_num)⟩ := funext fun l => blk9 m c t p l
  refine (o18 _ _ _ _ _ _ _ _ _ _ p j).trans ?_
  rw [h7, h8, h9]
  refine (InProj.turn_rope _ (fun d => InProj.proj (m ((c.tc : Thread nD τ).loc main_arg0)) (m ((c.tc : Thread nD τ).loc main_arg1)) (InProj.seqOf (row t p)) (InProj.rowOf (row t p)) ⟨2320 + (j.val / 64 * 64 + d.val), by omega⟩ * InProj.eighth) _ ⟨j.val % 128, Nat.mod_lt _ (by norm_num)⟩ fun d => ?_).trans ?_
  · refine (col_7 m c t p ⟨j.val / 128 * 128 + (j.val % 128 / 64 * 64 + d.val), by omega⟩).trans (congrArg (fun z => InProj.proj (m ((c.tc : Thread nD τ).loc main_arg0)) (m ((c.tc : Thread nD τ).loc main_arg1)) (InProj.seqOf (row t p)) (InProj.rowOf (row t p)) z * InProj.eighth) (Fin.ext ?_))
    dsimp only
    omega
  · rw [InProj.rope_eighth]
    exact congrArg (fun z => InProj.rope _ _ z * InProj.eighth) (Fin.ext (by show j.val % 128 % 64 = j.val % 64; omega))

theorem val19 (c : Dev nD) (t : Fin cfg0.N) (p : Fin 512) (j : Fin 128) : out0_19 (iblk m c 0 t) (iblk m c 1 t) (iblk m c 2 t) (iblk m c 3 t) (iblk m c 4 t) (iblk m c 5 t) (iblk m c 6 t) (iblk m c 7 t) (iblk m c 8 t) (iblk m c 9 t) (ix2 p j)
    = InProj.ik (m ((c.tc : Thread nD τ).loc main_arg0)) (m ((c.tc : Thread nD τ).loc main_arg1)) (m ((c.tc : Thread nD τ).loc main_arg4)) (m ((c.tc : Thread nD τ).loc main_arg5)) (ix2 (row t p) j) := by
  refine (key_form _ _ _ _ _ _ _ _ _ _ p j (InProj.rowOf (row t p)) _ _ _ (fun d => col_9 m c t p d)
    (fun d => (blk5 m c t 0 ⟨d.val, by omega⟩).trans (dif_pos d.isLt)) (fun d => (blk6 m c t 0 ⟨d.val, by omega⟩).trans (dif_pos d.isLt))
    (fun l => blk7 m c t p l) (fun l => blk8 m c t p l) (fun l => blk9 m c t p l)).trans rfl

theorem val20 (c : Dev nD) (t : Fin cfg0.N) (b : Fin 4) (e : Fin 8) (p : Fin 128) : out0_20 (iblk m c 0 t) (iblk m c 1 t) (iblk m c 2 t) (iblk m c 3 t) (iblk m c 4 t) (iblk m c 5 t) (iblk m c 6 t) (iblk m c 7 t) (iblk m c 8 t) (iblk m c 9 t) (ix3 b e p)
    = InProj.iw (m ((c.tc : Thread nD τ).loc main_arg0)) (m ((c.tc : Thread nD τ).loc main_arg1)) (ix3 (blkOf t b) e p) := by
  have hs : InProj.seqOf (row t ⟨b.val * 128 + p.val, by omega⟩) = InProj.seqAt (blkOf t b) := Fin.ext (by
    show (t.val * 512 + (b.val * 128 + p.val)) / 2176 = (t.val * 4 + b.val) / 17
    omega)
  have hr : InProj.rowOf (row t ⟨b.val * 128 + p.val, by omega⟩) = InProj.rowAt (blkOf t b) p := Fin.ext (by
    show (t.val * 512 + (b.val * 128 + p.val)) % 2176 = (t.val * 4 + b.val) % 17 * 128 + p.val
    omega)
  refine (o20 _ _ _ _ _ _ _ _ _ _ b e p).trans ?_
  rw [col_11, hs, hr]
  rfl

theorem val21 (c : Dev nD) (t : Fin cfg0.N) (p : Fin 512) (j : Fin 512) : out0_21 (iblk m c 0 t) (iblk m c 1 t) (iblk m c 2 t) (iblk m c 3 t) (iblk m c 4 t) (iblk m c 5 t) (iblk m c 6 t) (iblk m c 7 t) (iblk m c 8 t) (iblk m c 9 t) (ix2 p j)
    = InProj.az (m ((c.tc : Thread nD τ).loc main_arg0)) (m ((c.tc : Thread nD τ).loc main_arg1)) (ix2 (row t p) j) := by
  exact (o21 _ _ _ _ _ _ _ _ _ _ p j).trans (col_8 m c t p j)

/-- Result `gq` is the specification's. -/
theorem final10 (c : Dev nD) : (dats m 0 c).arrAt 10 (cfgs 0).N = InProj.gq (m ((c.tc : Thread nD τ).loc main_arg0)) (m ((c.tc : Thread nD τ).loc main_arg1)) := by
  refine (dats m 0 c).arrAt_eq_of_covers 10 _ (by decide +kernel) fun t hf y => ?_
  have h := Pipeline.Window.rect_emb_val_off win0_10 t y
  rw [(idx t).2.2.2.2.2.2.2.2.2.2.1] at h
  obtain ⟨p, j, rfl⟩ : ∃ (p : Fin 512) (j : Fin 256), y = ix2 p j := ⟨y 0, y 1, eq_ix2 y⟩
  have e0 : ((View.whole main_v94_0).slice (win0_10.rect t)).emb (ix2 p j) = ix2 (row t p) j := by
    refine (eq_ix2 _).trans ?_
    have g0 : ((View.whole main_v94_0).slice (win0_10.rect t)).emb (ix2 p j) 0 = row t p := Fin.ext (h 0)
    have g1 : ((View.whole main_v94_0).slice (win0_10.rect t)).emb (ix2 p j) 1 = j := Fin.ext ((h 1).trans (Nat.zero_add _))
    rw [g0, g1]
  clear h
  blk_simp
  rw [after0_10, e0]
  exact val10 m c t p j

/-- Result `gk` is the specification's. -/
theorem final11 (c : Dev nD) : (dats m 0 c).arrAt 11 (cfgs 0).N = InProj.gk (m ((c.tc : Thread nD τ).loc main_arg0)) (m ((c.tc : Thread nD τ).loc main_arg1)) := by
  refine (dats m 0 c).arrAt_eq_of_covers 11 _ (by decide +kernel) fun t hf y => ?_
  have h := Pipeline.Window.rect_emb_val_off win0_11 t y
  rw [(idx t).2.2.2.2.2.2.2.2.2.2.2.1] at h
  obtain ⟨p, j, rfl⟩ : ∃ (p : Fin 512) (j : Fin 256), y = ix2 p j := ⟨y 0, y 1, eq_ix2 y⟩
  have e0 : ((View.whole main_v94_1).slice (win0_11.rect t)).emb (ix2 p j) = ix2 (row t p) j := by
    refine (eq_ix2 _).trans ?_
    have g0 : ((View.whole main_v94_1).slice (win0_11.rect t)).emb (ix2 p j) 0 = row t p := Fin.ext (h 0)
    have g1 : ((View.whole main_v94_1).slice (win0_11.rect t)).emb (ix2 p j) 1 = j := Fin.ext ((h 1).trans (Nat.zero_add _))
    rw [g0, g1]
  clear h
  blk_simp
  rw [after0_11, e0]
  exact val11 m c t p j

/-- Result `gv` is the specification's. -/
theorem final12 (c : Dev nD) : (dats m 0 c).arrAt 12 (cfgs 0).N = InProj.gv (m ((c.tc : Thread nD τ).loc main_arg0)) (m ((c.tc : Thread nD τ).loc main_arg1)) := by
  refine (dats m 0 c).arrAt_eq_of_covers 12 _ (by decide +kernel) fun t hf y => ?_
  have h := Pipeline.Window.rect_emb_val_off win0_12 t y
  rw [(idx t).2.2.2.2.2.2.2.2.2.2.2.2.1] at h
  obtain ⟨p, j, rfl⟩ : ∃ (p : Fin 512) (j : Fin 512), y = ix2 p j := ⟨y 0, y 1, eq_ix2 y⟩
  have e0 : ((View.whole main_v94_2).slice (win0_12.rect t)).emb (ix2 p j) = ix2 (row t p) j := by
    refine (eq_ix2 _).trans ?_
    have g0 : ((View.whole main_v94_2).slice (win0_12.rect t)).emb (ix2 p j) 0 = row t p := Fin.ext (h 0)
    have g1 : ((View.whole main_v94_2).slice (win0_12.rect t)).emb (ix2 p j) 1 = j := Fin.ext ((h 1).trans (Nat.zero_add _))
    rw [g0, g1]
  clear h
  blk_simp
  rw [after0_12, e0]
  exact val12 m c t p j

/-- Result `gl` is the specification's. -/
theorem final13 (c : Dev nD)
    (hH : ∀ i, ∃ x : ℝ, m ((c.tc : Thread nD τ).loc main_arg0) i = (x : EReal))
    (hW : ∀ (d : Fin 1024) (k : Fin 16), ∃ x : ℝ, m ((c.tc : Thread nD τ).loc main_arg1) (ix2 d ⟨1024 + k.val, by omega⟩) = (x : EReal))
    (hG : ∀ i, ∃ x : ℝ, m ((c.tc : Thread nD τ).loc main_arg2) i = (x : EReal)) : (dats m 0 c).arrAt 13 (cfgs 0).N = InProj.gl (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 13 _ (by decide +kernel) fun t hf y => ?_
  have h := Pipeline.Window.rect_emb_val_off win0_13 t y
  rw [(idx t).2.2.2.2.2.2.2.2.2.2.2.2.2.1] at h
  obtain ⟨p, j, rfl⟩ : ∃ (p : Fin 512) (j : Fin 256), y = ix2 p j := ⟨y 0, y 1, eq_ix2 y⟩
  have e0 : ((View.whole main_v94_3).slice (win0_13.rect t)).emb (ix2 p j) = ix2 (row t p) j := by
    refine (eq_ix2 _).trans ?_
    have g0 : ((View.whole main_v94_3).slice (win0_13.rect t)).emb (ix2 p j) 0 = row t p := Fin.ext (h 0)
    have g1 : ((View.whole main_v94_3).slice (win0_13.rect t)).emb (ix2 p j) 1 = j := Fin.ext ((h 1).trans (Nat.zero_add _))
    rw [g0, g1]
  clear h
  blk_simp
  rw [after0_13, e0]
  exact val13 m c t p j hH hW hG

/-- Result `gz` is the specification's. -/
theorem final14 (c : Dev nD) : (dats m 0 c).arrAt 14 (cfgs 0).N = InProj.gz (m ((c.tc : Thread nD τ).loc main_arg0)) (m ((c.tc : Thread nD τ).loc main_arg1)) := by
  refine (dats m 0 c).arrAt_eq_of_covers 14 _ (by decide +kernel) fun t hf y => ?_
  have h := Pipeline.Window.rect_emb_val_off win0_14 t y
  rw [(idx t).2.2.2.2.2.2.2.2.2.2.2.2.2.2.1] at h
  obtain ⟨p, j, rfl⟩ : ∃ (p : Fin 512) (j : Fin 512), y = ix2 p j := ⟨y 0, y 1, eq_ix2 y⟩
  have e0 : ((View.whole main_v94_4).slice (win0_14.rect t)).emb (ix2 p j) = ix2 (row t p) j := by
    refine (eq_ix2 _).trans ?_
    have g0 : ((View.whole main_v94_4).slice (win0_14.rect t)).emb (ix2 p j) 0 = row t p := Fin.ext (h 0)
    have g1 : ((View.whole main_v94_4).slice (win0_14.rect t)).emb (ix2 p j) 1 = j := Fin.ext ((h 1).trans (Nat.zero_add _))
    rw [g0, g1]
  clear h
  blk_simp
  rw [after0_14, e0]
  exact val14 m c t p j

/-- Result `aq` is the specification's. -/
theorem final15 (c : Dev nD) : (dats m 0 c).arrAt 15 (cfgs 0).N = InProj.aq (m ((c.tc : Thread nD τ).loc main_arg0)) (m ((c.tc : Thread nD τ).loc main_arg1)) := by
  refine (dats m 0 c).arrAt_eq_of_covers 15 _ (by decide +kernel) fun t hf y => ?_
  have h := Pipeline.Window.rect_emb_val_off win0_15 t y
  rw [(idx t).2.2.2.2.2.2.2.2.2.2.2.2.2.2.2.1] at h
  obtain ⟨p, j, rfl⟩ : ∃ (p : Fin 512) (j : Fin 512), y = ix2 p j := ⟨y 0, y 1, eq_ix2 y⟩
  have e0 : ((View.whole main_v94_5).slice (win0_15.rect t)).emb (ix2 p j) = ix2 (row t p) j := by
    refine (eq_ix2 _).trans ?_
    have g0 : ((View.whole main_v94_5).slice (win0_15.rect t)).emb (ix2 p j) 0 = row t p := Fin.ext (h 0)
    have g1 : ((View.whole main_v94_5).slice (win0_15.rect t)).emb (ix2 p j) 1 = j := Fin.ext ((h 1).trans (Nat.zero_add _))
    rw [g0, g1]
  clear h
  blk_simp
  rw [after0_15, e0]
  exact val15 m c t p j

/-- Result `ak` is the specification's. -/
theorem final16 (c : Dev nD) : (dats m 0 c).arrAt 16 (cfgs 0).N = InProj.ak (m ((c.tc : Thread nD τ).loc main_arg0)) (m ((c.tc : Thread nD τ).loc main_arg1)) := by
  refine (dats m 0 c).arrAt_eq_of_covers 16 _ (by decide +kernel) fun t hf y => ?_
  have h := Pipeline.Window.rect_emb_val_off win0_16 t y
  rw [(idx t).2.2.2.2.2.2.2.2.2.2.2.2.2.2.2.2.1] at h
  obtain ⟨p, j, rfl⟩ : ∃ (p : Fin 512) (j : Fin 128), y = ix2 p j := ⟨y 0, y 1, eq_ix2 y⟩
  have e0 : ((View.whole main_v94_6).slice (win0_16.rect t)).emb (ix2 p j) = ix2 (row t p) j := by
    refine (eq_ix2 _).trans ?_
    have g0 : ((View.whole main_v94_6).slice (win0_16.rect t)).emb (ix2 p j) 0 = row t p := Fin.ext (h 0)
    have g1 : ((View.whole main_v94_6).slice (win0_16.rect t)).emb (ix2 p j) 1 = j := Fin.ext ((h 1).trans (Nat.zero_add _))
    rw [g0, g1]
  clear h
  blk_simp
  rw [after0_16, e0]
  exact val16 m c t p j

/-- Result `av` is the specification's. -/
theorem final17 (c : Dev nD) : (dats m 0 c).arrAt 17 (cfgs 0).N = InProj.av (m ((c.tc : Thread nD τ).loc main_arg0)) (m ((c.tc : Thread nD τ).loc main_arg1)) := by
  refine (dats m 0 c).arrAt_eq_of_covers 17 _ (by decide +kernel) fun t hf y => ?_
  have h := Pipeline.Window.rect_emb_val_off win0_17 t y
  rw [(idx t).2.2.2.2.2.2.2.2.2.2.2.2.2.2.2.2.2.1] at h
  obtain ⟨b, e, p, rfl⟩ : ∃ (b : Fin 4) (e : Fin 128) (p : Fin 128), y = ix3 b e p := ⟨y 0, y 1, y 2, eq_ix3 y⟩
  have e0 : ((View.whole main_v94_7).slice (win0_17.rect t)).emb (ix3 b e p) = ix3 (blkOf t b) e p := by
    refine (eq_ix3 _).trans ?_
    have g0 : ((View.whole main_v94_7).slice (win0_17.rect t)).emb (ix3 b e p) 0 = (blkOf t b) := Fin.ext (h 0)
    have g1 : ((View.whole main_v94_7).slice (win0_17.rect t)).emb (ix3 b e p) 1 = e := Fin.ext ((h 1).trans (Nat.zero_add _))
    have g2 : ((View.whole main_v94_7).slice (win0_17.rect t)).emb (ix3 b e p) 2 = p := Fin.ext ((h 2).trans (Nat.zero_add _))
    rw [g0, g1, g2]
  clear h
  blk_simp
  rw [after0_17, e0]
  exact val17 m c t b e p

/-- Result `iq` is the specification's. -/
theorem final18 (c : Dev nD) : (dats m 0 c).arrAt 18 (cfgs 0).N = InProj.iq (m ((c.tc : Thread nD τ).loc main_arg0)) (m ((c.tc : Thread nD τ).loc main_arg1)) := by
  refine (dats m 0 c).arrAt_eq_of_covers 18 _ (by decide +kernel) fun t hf y => ?_
  have h := Pipeline.Window.rect_emb_val_off win0_18 t y
  rw [(idx t).2.2.2.2.2.2.2.2.2.2.2.2.2.2.2.2.2.2.1] at h
  obtain ⟨p, j, rfl⟩ : ∃ (p : Fin 512) (j : Fin 512), y = ix2 p j := ⟨y 0, y 1, eq_ix2 y⟩
  have e0 : ((View.whole main_v94_8).slice (win0_18.rect t)).emb (ix2 p j) = ix2 (row t p) j := by
    refine (eq_ix2 _).trans ?_
    have g0 : ((View.whole main_v94_8).slice (win0_18.rect t)).emb (ix2 p j) 0 = row t p := Fin.ext (h 0)
    have g1 : ((View.whole main_v94_8).slice (win0_18.rect t)).emb (ix2 p j) 1 = j := Fin.ext ((h 1).trans (Nat.zero_add _))
    rw [g0, g1]
  clear h
  blk_simp
  rw [after0_18, e0]
  exact val18 m c t p j

/-- Result `ik` is the specification's. -/
theorem final19 (c : Dev nD) : (dats m 0 c).arrAt 19 (cfgs 0).N = InProj.ik (m ((c.tc : Thread nD τ).loc main_arg0)) (m ((c.tc : Thread nD τ).loc main_arg1)) (m ((c.tc : Thread nD τ).loc main_arg4)) (m ((c.tc : Thread nD τ).loc main_arg5)) := by
  refine (dats m 0 c).arrAt_eq_of_covers 19 _ (by decide +kernel) fun t hf y => ?_
  have h := Pipeline.Window.rect_emb_val_off win0_19 t y
  rw [(idx t).2.2.2.2.2.2.2.2.2.2.2.2.2.2.2.2.2.2.2.1] at h
  obtain ⟨p, j, rfl⟩ : ∃ (p : Fin 512) (j : Fin 128), y = ix2 p j := ⟨y 0, y 1, eq_ix2 y⟩
  have e0 : ((View.whole main_v94_9).slice (win0_19.rect t)).emb (ix2 p j) = ix2 (row t p) j := by
    refine (eq_ix2 _).trans ?_
    have g0 : ((View.whole main_v94_9).slice (win0_19.rect t)).emb (ix2 p j) 0 = row t p := Fin.ext (h 0)
    have g1 : ((View.whole main_v94_9).slice (win0_19.rect t)).emb (ix2 p j) 1 = j := Fin.ext ((h 1).trans (Nat.zero_add _))
    rw [g0, g1]
  clear h
  blk_simp
  rw [after0_19, e0]
  exact val19 m c t p j

/-- Result `iw` is the specification's. -/
theorem final20 (c : Dev nD) : (dats m 0 c).arrAt 20 (cfgs 0).N = InProj.iw (m ((c.tc : Thread nD τ).loc main_arg0)) (m ((c.tc : Thread nD τ).loc main_arg1)) := by
  refine (dats m 0 c).arrAt_eq_of_covers 20 _ (by decide +kernel) fun t hf y => ?_
  have h := Pipeline.Window.rect_emb_val_off win0_20 t y
  rw [(idx t).2.2.2.2.2.2.2.2.2.2.2.2.2.2.2.2.2.2.2.2.1] at h
  obtain ⟨b, e, p, rfl⟩ : ∃ (b : Fin 4) (e : Fin 8) (p : Fin 128), y = ix3 b e p := ⟨y 0, y 1, y 2, eq_ix3 y⟩
  have e0 : ((View.whole main_v94_10).slice (win0_20.rect t)).emb (ix3 b e p) = ix3 (blkOf t b) e p := by
    refine (eq_ix3 _).trans ?_
    have g0 : ((View.whole main_v94_10).slice (win0_20.rect t)).emb (ix3 b e p) 0 = (blkOf t b) := Fin.ext (h 0)
    have g1 : ((View.whole main_v94_10).slice (win0_20.rect t)).emb (ix3 b e p) 1 = e := Fin.ext ((h 1).trans (Nat.zero_add _))
    have g2 : ((View.whole main_v94_10).slice (win0_20.rect t)).emb (ix3 b e p) 2 = p := Fin.ext ((h 2).trans (Nat.zero_add _))
    rw [g0, g1, g2]
  clear h
  blk_simp
  rw [after0_20, e0]
  exact val20 m c t b e p

/-- Result `az` is the specification's. -/
theorem final21 (c : Dev nD) : (dats m 0 c).arrAt 21 (cfgs 0).N = InProj.az (m ((c.tc : Thread nD τ).loc main_arg0)) (m ((c.tc : Thread nD τ).loc main_arg1)) := by
  refine (dats m 0 c).arrAt_eq_of_covers 21 _ (by decide +kernel) fun t hf y => ?_
  have h := Pipeline.Window.rect_emb_val_off win0_21 t y
  rw [(idx t).2.2.2.2.2.2.2.2.2.2.2.2.2.2.2.2.2.2.2.2.2] at h
  obtain ⟨p, j, rfl⟩ : ∃ (p : Fin 512) (j : Fin 512), y = ix2 p j := ⟨y 0, y 1, eq_ix2 y⟩
  have e0 : ((View.whole main_v94_11).slice (win0_21.rect t)).emb (ix2 p j) = ix2 (row t p) j := by
    refine (eq_ix2 _).trans ?_
    have g0 : ((View.whole main_v94_11).slice (win0_21.rect t)).emb (ix2 p j) 0 = row t p := Fin.ext (h 0)
    have g1 : ((View.whole main_v94_11).slice (win0_21.rect t)).emb (ix2 p j) 1 = j := Fin.ext ((h 1).trans (Nat.zero_add _))
    rw [g0, g1]
  clear h
  blk_simp
  rw [after0_21, e0]
  exact val21 m c t p j

end Cert.Kernel2Ideal.KerValue
-- ==== Proof.InPre.lean ====
module

public import proofs.«01_k».proof.Defs
public import proofs.«01_k».proof.Proof.Gen.Kernel2Ideal
public import proofs.«01_k».proof.Proof.Gen.Pre_gate_finite
public import Idealize.ShloMosaic.Lib.Pipeline.ValueKit
public import Idealize.ShloMosaic.Lib.Pointwise

@[expose] public section

noncomputable section
open Idealize.ShloMosaic Idealize.ShloMosaic.TcCoe Idealize.SL.Sem

/-! What the precondition says: the activations, the gate's sixteen columns and the gate's second weights are real numbers. -/
namespace Cert.InProj
open Cert.Pre_gate_finite

/-- A value whose magnitude is below infinity is a real number. -/
theorem real_of_lt {x : EReal} (h : FloatOps.cmpf (F := Ideal) (φ := FTy.f32) .olt (FloatOps.absf (F := Ideal) (φ := FTy.f32) x) (Ideal.ofBits FTy.f32 0x7F800000#32) = 1#1) : ∃ r : ℝ, x = r := by
  have ht : Ideal.ofBits FTy.f32 0x7F800000#32 = ⊤ := by simp [Ideal.ofBits, Ideal.ieee]
  rw [ht] at h
  have h' : BitVec.ofBool (decide (max x (-x) < ⊤)) = 1#1 := h
  induction x using EReal.rec with
  | bot => simp at h'
  | top => simp at h'
  | coe r => exact ⟨r, rfl⟩

theorem pre_act (a0 : FVec Ideal S8x2176x1024 .f32) (a1 : FVec Ideal S1024x3416 .f32) (a2 : FVec Ideal S16x256 .f32) (a3 : FVec Ideal S256 .f32) (a4 a5 : FVec Ideal S64 .f32)
    (h : (fn (F := Ideal) a0 a1 a2 a3 a4 a5).1 = fun _ => 1#1) (b : Fin 8) (r : Fin 2176) (d : Fin 1024) : ∃ x : ℝ, a0 (ix3 b r d) = (x : EReal) := by
  refine real_of_lt (Eq.trans ?_ (congrFun h (ix3 b r d)))
  pointwise [fn]

theorem pre_cols (a0 : FVec Ideal S8x2176x1024 .f32) (a1 : FVec Ideal S1024x3416 .f32) (a2 : FVec Ideal S16x256 .f32) (a3 : FVec Ideal S256 .f32) (a4 a5 : FVec Ideal S64 .f32)
    (h : (fn (F := Ideal) a0 a1 a2 a3 a4 a5).2.1 = fun _ => 1#1) (d : Fin 1024) (k : Fin 16) : ∃ x : ℝ, a1 (ix2 d ⟨1024 + k.val, by omega⟩) = (x : EReal) := by
  refine real_of_lt (Eq.trans ?_ (congrFun h (ix2 d k)))
  pointwise [fn]

theorem pre_wts (a0 : FVec Ideal S8x2176x1024 .f32) (a1 : FVec Ideal S1024x3416 .f32) (a2 : FVec Ideal S16x256 .f32) (a3 : FVec Ideal S256 .f32) (a4 a5 : FVec Ideal S64 .f32)
    (h : (fn (F := Ideal) a0 a1 a2 a3 a4 a5).2.2 = fun _ => 1#1) (i : Fin 16) (j : Fin 256) : ∃ x : ℝ, a2 (ix2 i j) = (x : EReal) := by
  refine real_of_lt (Eq.trans ?_ (congrFun h (ix2 i j)))
  pointwise [fn]

end Cert.InProj
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Loops
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Loops
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Pre_gate_finite
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.OutRef
public import proofs.«01_k».proof.Proof.OutKer
public import proofs.«01_k».proof.Proof.GlaFrame
public import proofs.«01_k».proof.Proof.GlaFrameIdeal
public import proofs.«01_k».proof.Proof.DsaFrame
public import proofs.«01_k».proof.Proof.Out3Ref
public import proofs.«01_k».proof.Proof.Out3Ker
public import proofs.«01_k».proof.Proof.Out4Ref
public import proofs.«01_k».proof.Proof.Out4Ker
public import proofs.«01_k».proof.Proof.InRef
public import proofs.«01_k».proof.Proof.InKer
public import proofs.«01_k».proof.Proof.InPre
public import Idealize.ShloMosaic.Adequacy
public import Idealize.ShloMosaic.Init

@[expose] public section

noncomputable section

namespace Cert.Proof

open Idealize.ShloMosaic Idealize.SL.Sem Cert.Kernel

/-- The kernel's run at the bit-exact instance: the generated frame. -/
theorem frame_out : Cert.quiescent_Kernel := fun m ρ _ => Cert.Kernel.Gen.frame m ρ

/-- The same at the ideal instance. -/
theorem frame_outIdeal : Cert.quiescent_KernelIdeal := fun m ρ _ => Cert.KernelIdeal.Gen.frame m ρ

/-- The reference's run, read at its arguments; it has no semaphore. -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The last layer's output: kernel and reference end at the same array, the specification's. -/
theorem algebraic_out : Cert.algebraic_KernelIdeal_ReferenceIdeal := by
  intro m ρ m' ρ' _ hag
  refine ⟨fun c => Cert.OutRow.out (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5)), ?_, ?_⟩
  · exact (θ_run Cert.KernelIdeal.defs _ _).mono (fun _ h c => ⟨(h c).1.trans (Cert.KernelIdeal.KerValue.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5⟩ := hag c
    rw [Cert.ReferenceIdeal.RefValue.res_eq m' c, h0, h1, h2, h3, h4, h5]

/-- The first layer's output call runs, at the bit-exact and at the ideal instance. -/
theorem frame_mid : Cert.quiescent_Kernel3 := fun m ρ _ => Cert.Kernel3.Gen.frame m ρ
theorem frame_midIdeal : Cert.quiescent_Kernel3Ideal := fun m ρ _ => Cert.Kernel3Ideal.Gen.frame m ρ

/-- So does its reference. -/
theorem frame_midRef : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- For the first layer's output, kernel and reference end at the same array, the specification's. -/
theorem algebraic_mid : Cert.algebraic_Kernel3Ideal_Reference3Ideal := by
  intro m ρ m' ρ' _ hag
  refine ⟨fun c => Cert.OutRow.mid (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg3))
    (m ((c.tc : Thread Cert.Kernel3Ideal.nD Cert.Kernel3Ideal.τ).loc Cert.Kernel3Ideal.main_arg4))
    (m ((c.tc : Thread Cert.Kernel3Ideal.nD Cert.Kernel3Ideal.τ).loc Cert.Kernel3Ideal.main_arg5)), ?_, ?_⟩
  · exact (θ_run Cert.Kernel3Ideal.defs _ _).mono (fun _ h c => ⟨(h c).1.trans (Cert.Kernel3Ideal.KerValue.final m c), (h c).2⟩)
      (Cert.Kernel3Ideal.Value.run_blocks (F := Ideal) m ρ)
  · refine (θ_run Cert.Reference3Ideal.defs _ _).mono (fun _ h c => ⟨(h c).1.trans ?_, (h c).2⟩)
      (Cert.Reference3Ideal.Value.run (F := Ideal) m' ρ')
    obtain ⟨h0, h1, h2, h3, h4, h5⟩ := hag c
    rw [Cert.Reference3Ideal.RefValue.res_eq m' c, h0, h1, h2, h3, h4, h5]

/-- The input normalisation's call runs, at the bit-exact and at the ideal instance. -/
theorem frame_embed : Cert.quiescent_Kernel4 := fun m ρ _ => Cert.Kernel4.Gen.frame m ρ
theorem frame_embedIdeal : Cert.quiescent_Kernel4Ideal := fun m ρ _ => Cert.Kernel4Ideal.Gen.frame m ρ

/-- So does its reference. -/
theorem frame_embedRef : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- For the input normalisation, kernel and reference end at the same array, the specification's. -/
theorem algebraic_embed : Cert.algebraic_Kernel4Ideal_Reference4Ideal := by
  intro m ρ m' ρ' _ hag
  refine ⟨fun c => Cert.OutRow.embed (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1))
    (m ((c.tc : Thread Cert.Kernel4Ideal.nD Cert.Kernel4Ideal.τ).loc Cert.Kernel4Ideal.main_arg2))
    (m ((c.tc : Thread Cert.Kernel4Ideal.nD Cert.Kernel4Ideal.τ).loc Cert.Kernel4Ideal.main_arg3)), ?_, ?_⟩
  · exact (θ_run Cert.Kernel4Ideal.defs _ _).mono (fun _ h c => ⟨(h c).1.trans (Cert.Kernel4Ideal.KerValue.final m c), (h c).2⟩)
      (Cert.Kernel4Ideal.Value.run_blocks (F := Ideal) m ρ)
  · refine (θ_run Cert.Reference4Ideal.defs _ _).mono (fun _ h c => ⟨(h c).1.trans ?_, (h c).2⟩)
      (Cert.Reference4Ideal.Value.run (F := Ideal) m' ρ')
    obtain ⟨h0, h1, h2, h3⟩ := hag c
    rw [Cert.Reference4Ideal.RefValue.res_eq m' c, h0, h1, h2, h3]

/-- The input projection runs, at the bit-exact and at the ideal instance, with and without the precondition; so does its reference. -/
theorem frame_in : Cert.quiescent_Kernel2 := fun m ρ _ => Cert.Kernel2.Gen.frame m ρ
theorem frame_inIdeal : Cert.quiescent_Kernel2Ideal := fun m ρ _ => Cert.Kernel2Ideal.Gen.frame m ρ
theorem frame_inPre : Cert.quiescent_Kernel2Ideal_pre_gate_finite := fun m ρ _ => Cert.Kernel2Ideal.Gen.frame m ρ
theorem frame_inRef : Cert.quiescent_Reference2Ideal := fun m ρ _ =>
  (θ_run Cert.Reference2Ideal.defs _ _).mono (fun r h => ⟨fun c => (h c).2.2.2.2.2.2.2.2.2.2.2.2, Idealize.ShloMosaic.sem_eq_zero_of_no_sems (by decide) r.2⟩)
    (Cert.Reference2Ideal.Value.run (F := Ideal) m ρ)
theorem frame_inRefPre : Cert.quiescent_Reference2Ideal_pre_gate_finite := fun m ρ _ => frame_inRef m ρ trivial

/-- What the precondition gives the forget gate's proof. -/
theorem gate_real (m : (ℓ : Loc Cert.Kernel2Ideal.nD Cert.Kernel2Ideal.τ Cert.Kernel2Ideal.sig) → Buf (Elt Ideal) ℓ) (hp : Cert.Pre_Kernel2Ideal_gate_finite m)
    (c : Dev Cert.Kernel2Ideal.nD) : (Cert.Kernel2Ideal.Gen.dats m 0 c).arrAt 13 (Cert.Kernel2Ideal.cfgs 0).N
      = Cert.InProj.gl (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) :=
  Cert.Kernel2Ideal.KerValue.final13 m c
    (fun i => by
      obtain ⟨b, r, d, rfl⟩ : ∃ (b : Fin 8) (r : Fin 2176) (d : Fin 1024), i = ix3 b r d := ⟨i 0, i 1, i 2, eq_ix3 i⟩
      exact Cert.InProj.pre_act _ _ _ _ _ _ (hp c).1 b r d)
    (fun d k => Cert.InProj.pre_cols _ _ _ _ _ _ (hp c).2.1 d k)
    (fun i => by
      obtain ⟨a, j, rfl⟩ : ∃ (a : Fin 16) (j : Fin 256), i = ix2 a j := ⟨i 0, i 1, eq_ix2 i⟩
      exact Cert.InProj.pre_wts _ _ _ _ _ _ (hp c).2.2 a j)

/-- For the input projection, kernel and reference end at the same twelve arrays, the specification's. -/
theorem algebraic_in : Cert.algebraic_Kernel2Ideal_Reference2Ideal_pre_gate_finite := by
  intro m ρ m' ρ' hp hag
  refine ⟨fun c => Cert.InProj.gq (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    fun c => Cert.InProj.gk (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    fun c => Cert.InProj.gv (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    fun c => Cert.InProj.gl (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)),
    fun c => Cert.InProj.gz (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    fun c => Cert.InProj.aq (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    fun c => Cert.InProj.ak (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    fun c => Cert.InProj.av (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    fun c => Cert.InProj.iq (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    fun c => Cert.InProj.ik (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)),
    fun c => Cert.InProj.iw (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    fun c => Cert.InProj.az (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)), ?_, ?_⟩
  · exact (θ_run Cert.Kernel2Ideal.defs _ _).mono (fun _ h c => by
      obtain ⟨r0, r1, r2, r3, r4, r5, r6, r7, r8, r9, r10, r11, ra⟩ := h c
      exact ⟨r0.trans (Cert.Kernel2Ideal.KerValue.final10 m c),
        r1.trans (Cert.Kernel2Ideal.KerValue.final11 m c),
        r2.trans (Cert.Kernel2Ideal.KerValue.final12 m c),
        r3.trans (gate_real m hp c),
        r4.trans (Cert.Kernel2Ideal.KerValue.final14 m c),
        r5.trans (Cert.Kernel2Ideal.KerValue.final15 m c),
        r6.trans (Cert.Kernel2Ideal.KerValue.final16 m c),
        r7.trans (Cert.Kernel2Ideal.KerValue.final17 m c),
        r8.trans (Cert.Kernel2Ideal.KerValue.final18 m c),
        r9.trans (Cert.Kernel2Ideal.KerValue.final19 m c),
        r10.trans (Cert.Kernel2Ideal.KerValue.final20 m c),
        r11.trans (Cert.Kernel2Ideal.KerValue.final21 m c), ra⟩)
      (Cert.Kernel2Ideal.Value.run_blocks (F := Ideal) m ρ)
  · refine (θ_run Cert.Reference2Ideal.defs _ _).mono (fun _ h c => ?_) (Cert.Reference2Ideal.Value.run (F := Ideal) m' ρ')
    obtain ⟨h0, h1, h2, h3, h4, h5⟩ := hag c
    obtain ⟨r0, r1, r2, r3, r4, r5, r6, r7, r8, r9, r10, r11, ra⟩ := h c
    refine ⟨?_, ?_, ?_, ?_, ?_, ?_, ?_, ?_, ?_, ?_, ?_, ?_, ra⟩
    · exact (r0.trans (Cert.Reference2Ideal.RefValue.gq_eq m' c)).trans (by rw [h0, h1])
    · exact (r1.trans (Cert.Reference2Ideal.RefValue.gk_eq m' c)).trans (by rw [h0, h1])
    · exact (r2.trans (Cert.Reference2Ideal.RefValue.gv_eq m' c)).trans (by rw [h0, h1])
    · exact (r3.trans (Cert.Reference2Ideal.RefValue.gl_eq m' c)).trans (by rw [h0, h1, h2, h3])
    · exact (r4.trans (Cert.Reference2Ideal.RefValue.gz_eq m' c)).trans (by rw [h0, h1])
    · exact (r5.trans (Cert.Reference2Ideal.RefValue.aq_eq m' c)).trans (by rw [h0, h1])
    · exact (r6.trans (Cert.Reference2Ideal.RefValue.ak_eq m' c)).trans (by rw [h0, h1])
    · exact (r7.trans (Cert.Reference2Ideal.RefValue.av_eq m' c)).trans (by rw [h0, h1])
    · exact (r8.trans (Cert.Reference2Ideal.RefValue.iq_eq m' c)).trans (by rw [h0, h1])
    · exact (r9.trans (Cert.Reference2Ideal.RefValue.ik_eq m' c)).trans (by rw [h0, h1, h4, h5])
    · exact (r10.trans (Cert.Reference2Ideal.RefValue.iw_eq m' c)).trans (by rw [h0, h1])
    · exact (r11.trans (Cert.Reference2Ideal.RefValue.az_eq m' c)).trans (by rw [h0, h1])

/-- The linear mixer's call runs, at the bit-exact and at the ideal instance. -/
theorem frame_gla : Cert.quiescent_Kernel5 := fun m ρ _ => Cert.Kernel5.Hand.frame_gla m ρ
theorem frame_glaIdeal : Cert.quiescent_Kernel5Ideal := fun m ρ _ => Cert.Kernel5Ideal.Hand.frame_gla m ρ

/-- The sparse mixer's call runs. -/
theorem frame_dsa : Cert.quiescent_Kernel6 := fun m ρ _ => Cert.Kernel6.Hand.frame_dsa m ρ

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Kernel6.Gen.facts, Cert.Pre_gate_finite.Gen.facts,
  frame_out, frame_outIdeal, frame_ref, frame_in, frame_inIdeal, frame_inPre, frame_inRef, frame_inRefPre,
  frame_mid, frame_midIdeal, frame_midRef, frame_embed, frame_embedIdeal, frame_embedRef, frame_gla, frame_glaIdeal, frame_dsa,
  trivial, algebraic_out, trivial, algebraic_in, trivial, algebraic_mid, trivial, algebraic_embed, trivial⟩

end Cert.Proof

end
